-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProjB (m : (ℓ : Loc Cert.InProjB.nD Cert.InProjB.τ Cert.InProjB.sig) → Buf (Elt Bits) ℓ) : Prop :=
  True

def Pre_InProjBIdeal (m : (ℓ : Loc Cert.InProjBIdeal.nD Cert.InProjBIdeal.τ Cert.InProjBIdeal.sig) → Buf (Elt Ideal) ℓ) : Prop :=
  True

def Pre_InProjBRefIdeal (m : (ℓ : Loc Cert.InProjBRefIdeal.nD Cert.InProjBRefIdeal.τ Cert.InProjBRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_OutProjB (m : (ℓ : Loc Cert.OutProjB.nD Cert.OutProjB.τ Cert.OutProjB.sig) → Buf (Elt Bits) ℓ) : Prop :=
  True

def Pre_OutProjBIdeal (m : (ℓ : Loc Cert.OutProjBIdeal.nD Cert.OutProjBIdeal.τ Cert.OutProjBIdeal.sig) → Buf (Elt Ideal) ℓ) : Prop :=
  True

def Pre_OutProjBRefIdeal (m : (ℓ : Loc Cert.OutProjBRefIdeal.nD Cert.OutProjBRefIdeal.τ Cert.OutProjBRefIdeal.sig) → Buf (Elt Ideal) ℓ) : Prop :=
  True

def Pre_InProjC (m : (ℓ : Loc Cert.InProjC.nD Cert.InProjC.τ Cert.InProjC.sig) → Buf (Elt Bits) ℓ) : Prop :=
  True

def Pre_InProjCIdeal (m : (ℓ : Loc Cert.InProjCIdeal.nD Cert.InProjCIdeal.τ Cert.InProjCIdeal.sig) → Buf (Elt Ideal) ℓ) : Prop :=
  True

def Pre_InProjCRefIdeal (m : (ℓ : Loc Cert.InProjCRefIdeal.nD Cert.InProjCRefIdeal.τ Cert.InProjCRefIdeal.sig) → Buf (Elt Ideal) ℓ) : Prop :=
  True

def Pre_MergeC (m : (ℓ : Loc Cert.MergeC.nD Cert.MergeC.τ Cert.MergeC.sig) → Buf (Elt Bits) ℓ) : Prop :=
  True

def Pre_MergeCIdeal (m : (ℓ : Loc Cert.MergeCIdeal.nD Cert.MergeCIdeal.τ Cert.MergeCIdeal.sig) → Buf (Elt Ideal) ℓ) : Prop :=
  True

def Pre_MergeCRefIdeal (m : (ℓ : Loc Cert.MergeCRefIdeal.nD Cert.MergeCRefIdeal.τ Cert.MergeCRefIdeal.sig) → Buf (Elt Ideal) ℓ) : Prop :=
  True

def Pre_OutProjC (m : (ℓ : Loc Cert.OutProjC.nD Cert.OutProjC.τ Cert.OutProjC.sig) → Buf (Elt Bits) ℓ) : Prop :=
  True

def Pre_OutProjCIdeal (m : (ℓ : Loc Cert.OutProjCIdeal.nD Cert.OutProjCIdeal.τ Cert.OutProjCIdeal.sig) → Buf (Elt Ideal) ℓ) : Prop :=
  True

def Pre_OutProjCRefIdeal (m : (ℓ : Loc Cert.OutProjCRefIdeal.nD Cert.OutProjCRefIdeal.τ Cert.OutProjCRefIdeal.sig) → Buf (Elt Ideal) ℓ) : Prop :=
  True

def Pre_InProjD (m : (ℓ : Loc Cert.InProjD.nD Cert.InProjD.τ Cert.InProjD.sig) → Buf (Elt Bits) ℓ) : Prop :=
  True

def Pre_InProjDIdeal (m : (ℓ : Loc Cert.InProjDIdeal.nD Cert.InProjDIdeal.τ Cert.InProjDIdeal.sig) → Buf (Elt Ideal) ℓ) : Prop :=
  True

def Pre_InProjDRefIdeal (m : (ℓ : Loc Cert.InProjDRefIdeal.nD Cert.InProjDRefIdeal.τ Cert.InProjDRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluB (m : (ℓ : Loc Cert.GluB.nD Cert.GluB.τ Cert.GluB.sig) → Buf (Elt Bits) ℓ) : Prop :=
  True

def Pre_GluBIdeal (m : (ℓ : Loc Cert.GluBIdeal.nD Cert.GluBIdeal.τ Cert.GluBIdeal.sig) → Buf (Elt Ideal) ℓ) : Prop :=
  True

def Pre_GluBRefIdeal (m : (ℓ : Loc Cert.GluBRefIdeal.nD Cert.GluBRefIdeal.τ Cert.GluBRefIdeal.sig) → Buf (Elt Ideal) ℓ) : Prop :=
  True

def Pre_GluC (m : (ℓ : Loc Cert.GluC.nD Cert.GluC.τ Cert.GluC.sig) → Buf (Elt Bits) ℓ) : Prop :=
  True

def Pre_GluCIdeal (m : (ℓ : Loc Cert.GluCIdeal.nD Cert.GluCIdeal.τ Cert.GluCIdeal.sig) → Buf (Elt Ideal) ℓ) : Prop :=
  True

def Pre_GluCRefIdeal (m : (ℓ : Loc Cert.GluCRefIdeal.nD Cert.GluCRefIdeal.τ Cert.GluCRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_InProjB [hInProjB : Cert.InProjB.Facts] : Prop :=
  ∀ (m : (ℓ : Loc Cert.InProjB.nD Cert.InProjB.τ Cert.InProjB.sig) → Buf (Elt Bits) ℓ) (g : Dev Cert.InProjB.nD → PrngReg), Pre_InProjB m →
    θ_run (Cert.InProjB.defs (F := Bits)) (onTc (τ := Cert.InProjB.τ) (Cert.InProjB.main (F := Bits))) ⟨m, fun _ => 0, g⟩ (fun r => (∀ c : Dev Cert.InProjB.nD,
      r.2.mem ((c.tc : Thread Cert.InProjB.nD Cert.InProjB.τ).loc Cert.InProjB.main_arg0) = m ((c.tc : Thread Cert.InProjB.nD Cert.InProjB.τ).loc Cert.InProjB.main_arg0)
      ∧ r.2.mem ((c.tc : Thread Cert.InProjB.nD Cert.InProjB.τ).loc Cert.InProjB.main_arg1) = m ((c.tc : Thread Cert.InProjB.nD Cert.InProjB.τ).loc Cert.InProjB.main_arg1))
      ∧ r.2.sem = fun _ => 0)

def quiescent_InProjBIdeal [hInProjBIdeal : Cert.InProjBIdeal.Facts] : Prop :=
  ∀ (m : (ℓ : Loc Cert.InProjBIdeal.nD Cert.InProjBIdeal.τ Cert.InProjBIdeal.sig) → Buf (Elt Ideal) ℓ) (g : Dev Cert.InProjBIdeal.nD → PrngReg), Pre_InProjBIdeal m →
    θ_run (Cert.InProjBIdeal.defs (F := Ideal)) (onTc (τ := Cert.InProjBIdeal.τ) (Cert.InProjBIdeal.main (F := Ideal))) ⟨m, fun _ => 0, g⟩ (fun r => (∀ c : Dev Cert.InProjBIdeal.nD,
      r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
      ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ r.2.sem = fun _ => 0)

def quiescent_InProjBRefIdeal [hInProjBRefIdeal : Cert.InProjBRefIdeal.Facts] : Prop :=
  ∀ (m : (ℓ : Loc Cert.InProjBRefIdeal.nD Cert.InProjBRefIdeal.τ Cert.InProjBRefIdeal.sig) → Buf (Elt Ideal) ℓ) (g : Dev Cert.InProjBRefIdeal.nD → PrngReg), Pre_InProjBRefIdeal m →
    θ_run (Cert.InProjBRefIdeal.defs (F := Ideal)) (onTc (τ := Cert.InProjBRefIdeal.τ) (Cert.InProjBRefIdeal.main (F := Ideal))) ⟨m, fun _ => 0, g⟩ (fun r => (∀ c : Dev Cert.InProjBRefIdeal.nD,
      r.2.mem ((c.tc : Thread Cert.InProjBRefIdeal.nD Cert.InProjBRefIdeal.τ).loc Cert.InProjBRefIdeal.main_arg0) = m ((c.tc : Thread Cert.InProjBRefIdeal.nD Cert.InProjBRefIdeal.τ).loc Cert.InProjBRefIdeal.main_arg0)
      ∧ r.2.mem ((c.tc : Thread Cert.InProjBRefIdeal.nD Cert.InProjBRefIdeal.τ).loc Cert.InProjBRefIdeal.main_arg1) = m ((c.tc : Thread Cert.InProjBRefIdeal.nD Cert.InProjBRefIdeal.τ).loc Cert.InProjBRefIdeal.main_arg1))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5)
      ∧ r.2.mem ((c.tc : Thread Cert.MergeB.nD Cert.MergeB.τ).loc Cert.MergeB.main_arg6) = m ((c.tc : Thread Cert.MergeB.nD Cert.MergeB.τ).loc Cert.MergeB.main_arg6)
      ∧ r.2.mem ((c.tc : Thread Cert.MergeB.nD Cert.MergeB.τ).loc Cert.MergeB.main_arg7) = m ((c.tc : Thread Cert.MergeB.nD Cert.MergeB.τ).loc Cert.MergeB.main_arg7)
      ∧ r.2.mem ((c.tc : Thread Cert.MergeB.nD Cert.MergeB.τ).loc Cert.MergeB.main_arg8) = m ((c.tc : Thread Cert.MergeB.nD Cert.MergeB.τ).loc Cert.MergeB.main_arg8))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
      ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
      ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7)
      ∧ r.2.mem ((c.tc : Thread Cert.MergeBIdeal.nD Cert.MergeBIdeal.τ).loc Cert.MergeBIdeal.main_arg8) = m ((c.tc : Thread Cert.MergeBIdeal.nD Cert.MergeBIdeal.τ).loc Cert.MergeBIdeal.main_arg8))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m ((c.tc : Thread Cert.MergeBRefIdeal.nD Cert.MergeBRefIdeal.τ).loc Cert.MergeBRefIdeal.main_arg4)
      ∧ r.2.mem ((c.tc : Thread Cert.MergeBRefIdeal.nD Cert.MergeBRefIdeal.τ).loc Cert.MergeBRefIdeal.main_arg5) = m ((c.tc : Thread Cert.MergeBRefIdeal.nD Cert.MergeBRefIdeal.τ).loc Cert.MergeBRefIdeal.main_arg5)
      ∧ r.2.mem ((c.tc : Thread Cert.MergeBRefIdeal.nD Cert.MergeBRefIdeal.τ).loc Cert.MergeBRefIdeal.main_arg6) = m ((c.tc : Thread Cert.MergeBRefIdeal.nD Cert.MergeBRefIdeal.τ).loc Cert.MergeBRefIdeal.main_arg6)
      ∧ r.2.mem ((c.tc : Thread Cert.MergeBRefIdeal.nD Cert.MergeBRefIdeal.τ).loc Cert.MergeBRefIdeal.main_arg7) = m ((c.tc : Thread Cert.MergeBRefIdeal.nD Cert.MergeBRefIdeal.τ).loc Cert.MergeBRefIdeal.main_arg7)
      ∧ r.2.mem ((c.tc : Thread Cert.MergeBRefIdeal.nD Cert.MergeBRefIdeal.τ).loc Cert.MergeBRefIdeal.main_arg8) = m ((c.tc : Thread Cert.MergeBRefIdeal.nD Cert.MergeBRefIdeal.τ).loc Cert.MergeBRefIdeal.main_arg8))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_OutProjB [hOutProjB : Cert.OutProjB.Facts] : Prop :=
  ∀ (m : (ℓ : Loc Cert.OutProjB.nD Cert.OutProjB.τ Cert.OutProjB.sig) → Buf (Elt Bits) ℓ) (g : Dev Cert.OutProjB.nD → PrngReg), Pre_OutProjB m →
    θ_run (Cert.OutProjB.defs (F := Bits)) (onTc (τ := Cert.OutProjB.τ) (Cert.OutProjB.main (F := Bits))) ⟨m, fun _ => 0, g⟩ (fun r => (∀ c : Dev Cert.OutProjB.nD,
      r.2.mem ((c.tc : Thread Cert.OutProjB.nD Cert.OutProjB.τ).loc Cert.OutProjB.main_arg0) = m ((c.tc : Thread Cert.OutProjB.nD Cert.OutProjB.τ).loc Cert.OutProjB.main_arg0)
      ∧ r.2.mem ((c.tc : Thread Cert.OutProjB.nD Cert.OutProjB.τ).loc Cert.OutProjB.main_arg1) = m ((c.tc : Thread Cert.OutProjB.nD Cert.OutProjB.τ).loc Cert.OutProjB.main_arg1)
      ∧ r.2.mem ((c.tc : Thread Cert.OutProjB.nD Cert.OutProjB.τ).loc Cert.OutProjB.main_arg2) = m ((c.tc : Thread Cert.OutProjB.nD Cert.OutProjB.τ).loc Cert.OutProjB.main_arg2)
      ∧ r.2.mem ((c.tc : Thread Cert.OutProjB.nD Cert.OutProjB.τ).loc Cert.OutProjB.main_arg3) = m ((c.tc : Thread Cert.OutProjB.nD Cert.OutProjB.τ).loc Cert.OutProjB.main_arg3)
      ∧ r.2.mem ((c.tc : Thread Cert.OutProjB.nD Cert.OutProjB.τ).loc Cert.OutProjB.main_arg4) = m ((c.tc : Thread Cert.OutProjB.nD Cert.OutProjB.τ).loc Cert.OutProjB.main_arg4)
      ∧ r.2.mem ((c.tc : Thread Cert.OutProjB.nD Cert.OutProjB.τ).loc Cert.OutProjB.main_arg5) = m ((c.tc : Thread Cert.OutProjB.nD Cert.OutProjB.τ).loc Cert.OutProjB.main_arg5)
      ∧ r.2.mem ((c.tc : Thread Cert.OutProjB.nD Cert.OutProjB.τ).loc Cert.OutProjB.main_arg6) = m ((c.tc : Thread Cert.OutProjB.nD Cert.OutProjB.τ).loc Cert.OutProjB.main_arg6)
      ∧ r.2.mem ((c.tc : Thread Cert.OutProjB.nD Cert.OutProjB.τ).loc Cert.OutProjB.main_arg7) = m ((c.tc : Thread Cert.OutProjB.nD Cert.OutProjB.τ).loc Cert.OutProjB.main_arg7)
      ∧ r.2.mem ((c.tc : Thread Cert.OutProjB.nD Cert.OutProjB.τ).loc Cert.OutProjB.main_arg8) = m ((c.tc : Thread Cert.OutProjB.nD Cert.OutProjB.τ).loc Cert.OutProjB.main_arg8))
      ∧ r.2.sem = fun _ => 0)

def quiescent_OutProjBIdeal [hOutProjBIdeal : Cert.OutProjBIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg), Pre_OutProjBIdeal m →
    θ_run (Cert.OutProjBIdeal.defs (F := Ideal)) (onTc (τ := Cert.OutProjBIdeal.τ) (Cert.OutProjBIdeal.main (F := Ideal))) ⟨m, fun _ => 0, g⟩ (fun r => (∀ c : Dev Cert.OutProjBIdeal.nD,
      r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
      ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
      ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
      ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3)
      ∧ r.2.mem ((c.tc : Thread Cert.OutProjBIdeal.nD Cert.OutProjBIdeal.τ).loc Cert.OutProjBIdeal.main_arg4) = m ((c.tc : Thread Cert.OutProjBIdeal.nD Cert.OutProjBIdeal.τ).loc Cert.OutProjBIdeal.main_arg4)
      ∧ r.2.mem ((c.tc : Thread Cert.OutProjBIdeal.nD Cert.OutProjBIdeal.τ).loc Cert.OutProjBIdeal.main_arg5) = m ((c.tc : Thread Cert.OutProjBIdeal.nD Cert.OutProjBIdeal.τ).loc Cert.OutProjBIdeal.main_arg5)
      ∧ r.2.mem ((c.tc : Thread Cert.OutProjBIdeal.nD Cert.OutProjBIdeal.τ).loc Cert.OutProjBIdeal.main_arg6) = m ((c.tc : Thread Cert.OutProjBIdeal.nD Cert.OutProjBIdeal.τ).loc Cert.OutProjBIdeal.main_arg6)
      ∧ r.2.mem ((c.tc : Thread Cert.OutProjBIdeal.nD Cert.OutProjBIdeal.τ).loc Cert.OutProjBIdeal.main_arg7) = m ((c.tc : Thread Cert.OutProjBIdeal.nD Cert.OutProjBIdeal.τ).loc Cert.OutProjBIdeal.main_arg7)
      ∧ r.2.mem ((c.tc : Thread Cert.OutProjBIdeal.nD Cert.OutProjBIdeal.τ).loc Cert.OutProjBIdeal.main_arg8) = m ((c.tc : Thread Cert.OutProjBIdeal.nD Cert.OutProjBIdeal.τ).loc Cert.OutProjBIdeal.main_arg8))
      ∧ r.2.sem = fun _ => 0)

def quiescent_OutProjBRefIdeal [hOutProjBRefIdeal : Cert.OutProjBRefIdeal.Facts] : Prop :=
  ∀ (m : (ℓ : Loc Cert.OutProjBRefIdeal.nD Cert.OutProjBRefIdeal.τ Cert.OutProjBRefIdeal.sig) → Buf (Elt Ideal) ℓ) (g : Dev Cert.OutProjBRefIdeal.nD → PrngReg), Pre_OutProjBRefIdeal m →
    θ_run (Cert.OutProjBRefIdeal.defs (F := Ideal)) (onTc (τ := Cert.OutProjBRefIdeal.τ) (Cert.OutProjBRefIdeal.main (F := Ideal))) ⟨m, fun _ => 0, g⟩ (fun r => (∀ c : Dev Cert.OutProjBRefIdeal.nD,
      r.2.mem ((c.tc : Thread Cert.OutProjBRefIdeal.nD Cert.OutProjBRefIdeal.τ).loc Cert.OutProjBRefIdeal.main_arg0) = m ((c.tc : Thread Cert.OutProjBRefIdeal.nD Cert.OutProjBRefIdeal.τ).loc Cert.OutProjBRefIdeal.main_arg0)
      ∧ r.2.mem ((c.tc : Thread Cert.OutProjBRefIdeal.nD Cert.OutProjBRefIdeal.τ).loc Cert.OutProjBRefIdeal.main_arg1) = m ((c.tc : Thread Cert.OutProjBRefIdeal.nD Cert.OutProjBRefIdeal.τ).loc Cert.OutProjBRefIdeal.main_arg1)
      ∧ r.2.mem ((c.tc : Thread Cert.OutProjBRefIdeal.nD Cert.OutProjBRefIdeal.τ).loc Cert.OutProjBRefIdeal.main_arg2) = m ((c.tc : Thread Cert.OutProjBRefIdeal.nD Cert.OutProjBRefIdeal.τ).loc Cert.OutProjBRefIdeal.main_arg2)
      ∧ r.2.mem ((c.tc : Thread Cert.OutProjBRefIdeal.nD Cert.OutProjBRefIdeal.τ).loc Cert.OutProjBRefIdeal.main_arg3) = m ((c.tc : Thread Cert.OutProjBRefIdeal.nD Cert.OutProjBRefIdeal.τ).loc Cert.OutProjBRefIdeal.main_arg3)
      ∧ r.2.mem ((c.tc : Thread Cert.OutProjBRefIdeal.nD Cert.OutProjBRefIdeal.τ).loc Cert.OutProjBRefIdeal.main_arg4) = m ((c.tc : Thread Cert.OutProjBRefIdeal.nD Cert.OutProjBRefIdeal.τ).loc Cert.OutProjBRefIdeal.main_arg4)
      ∧ r.2.mem ((c.tc : Thread Cert.OutProjBRefIdeal.nD Cert.OutProjBRefIdeal.τ).loc Cert.OutProjBRefIdeal.main_arg5) = m ((c.tc : Thread Cert.OutProjBRefIdeal.nD Cert.OutProjBRefIdeal.τ).loc Cert.OutProjBRefIdeal.main_arg5)
      ∧ r.2.mem ((c.tc : Thread Cert.OutProjBRefIdeal.nD Cert.OutProjBRefIdeal.τ).loc Cert.OutProjBRefIdeal.main_arg6) = m ((c.tc : Thread Cert.OutProjBRefIdeal.nD Cert.OutProjBRefIdeal.τ).loc Cert.OutProjBRefIdeal.main_arg6)
      ∧ r.2.mem ((c.tc : Thread Cert.OutProjBRefIdeal.nD Cert.OutProjBRefIdeal.τ).loc Cert.OutProjBRefIdeal.main_arg7) = m ((c.tc : Thread Cert.OutProjBRefIdeal.nD Cert.OutProjBRefIdeal.τ).loc Cert.OutProjBRefIdeal.main_arg7)
      ∧ r.2.mem ((c.tc : Thread Cert.OutProjBRefIdeal.nD Cert.OutProjBRefIdeal.τ).loc Cert.OutProjBRefIdeal.main_arg8) = m ((c.tc : Thread Cert.OutProjBRefIdeal.nD Cert.OutProjBRefIdeal.τ).loc Cert.OutProjBRefIdeal.main_arg8))
      ∧ r.2.sem = fun _ => 0)

def quiescent_InProjC [hInProjC : Cert.InProjC.Facts] : Prop :=
  ∀ (m : (ℓ : Loc Cert.InProjC.nD Cert.InProjC.τ Cert.InProjC.sig) → Buf (Elt Bits) ℓ) (g : Dev Cert.InProjC.nD → PrngReg), Pre_InProjC m →
    θ_run (Cert.InProjC.defs (F := Bits)) (onTc (τ := Cert.InProjC.τ) (Cert.InProjC.main (F := Bits))) ⟨m, fun _ => 0, g⟩ (fun r => (∀ c : Dev Cert.InProjC.nD,
      r.2.mem ((c.tc : Thread Cert.InProjC.nD Cert.InProjC.τ).loc Cert.InProjC.main_arg0) = m ((c.tc : Thread Cert.InProjC.nD Cert.InProjC.τ).loc Cert.InProjC.main_arg0)
      ∧ r.2.mem ((c.tc : Thread Cert.InProjC.nD Cert.InProjC.τ).loc Cert.InProjC.main_arg1) = m ((c.tc : Thread Cert.InProjC.nD Cert.InProjC.τ).loc Cert.InProjC.main_arg1))
      ∧ r.2.sem = fun _ => 0)

def quiescent_InProjCIdeal [hInProjCIdeal : Cert.InProjCIdeal.Facts] : Prop :=
  ∀ (m : (ℓ : Loc Cert.InProjCIdeal.nD Cert.InProjCIdeal.τ Cert.InProjCIdeal.sig) → Buf (Elt Ideal) ℓ) (g : Dev Cert.InProjCIdeal.nD → PrngReg), Pre_InProjCIdeal m →
    θ_run (Cert.InProjCIdeal.defs (F := Ideal)) (onTc (τ := Cert.InProjCIdeal.τ) (Cert.InProjCIdeal.main (F := Ideal))) ⟨m, fun _ => 0, g⟩ (fun r => (∀ c : Dev Cert.InProjCIdeal.nD,
      r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
      ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1))
      ∧ r.2.sem = fun _ => 0)

def quiescent_InProjCRefIdeal [hInProjCRefIdeal : Cert.InProjCRefIdeal.Facts] : Prop :=
  ∀ (m : (ℓ : Loc Cert.InProjCRefIdeal.nD Cert.InProjCRefIdeal.τ Cert.InProjCRefIdeal.sig) → Buf (Elt Ideal) ℓ) (g : Dev Cert.InProjCRefIdeal.nD → PrngReg), Pre_InProjCRefIdeal m →
    θ_run (Cert.InProjCRefIdeal.defs (F := Ideal)) (onTc (τ := Cert.InProjCRefIdeal.τ) (Cert.InProjCRefIdeal.main (F := Ideal))) ⟨m, fun _ => 0, g⟩ (fun r => (∀ c : Dev Cert.InProjCRefIdeal.nD,
      r.2.mem ((c.tc : Thread Cert.InProjCRefIdeal.nD Cert.InProjCRefIdeal.τ).loc Cert.InProjCRefIdeal.main_arg0) = m ((c.tc : Thread Cert.InProjCRefIdeal.nD Cert.InProjCRefIdeal.τ).loc Cert.InProjCRefIdeal.main_arg0)
      ∧ r.2.mem ((c.tc : Thread Cert.InProjCRefIdeal.nD Cert.InProjCRefIdeal.τ).loc Cert.InProjCRefIdeal.main_arg1) = m ((c.tc : Thread Cert.InProjCRefIdeal.nD Cert.InProjCRefIdeal.τ).loc Cert.InProjCRefIdeal.main_arg1))
      ∧ r.2.sem = fun _ => 0)

def quiescent_MergeC [hMergeC : Cert.MergeC.Facts] : Prop :=
  ∀ (m : (ℓ : Loc Cert.MergeC.nD Cert.MergeC.τ Cert.MergeC.sig) → Buf (Elt Bits) ℓ) (g : Dev Cert.MergeC.nD → PrngReg), Pre_MergeC m →
    θ_run (Cert.MergeC.defs (F := Bits)) (onTc (τ := Cert.MergeC.τ) (Cert.MergeC.main (F := Bits))) ⟨m, fun _ => 0, g⟩ (fun r => (∀ c : Dev Cert.MergeC.nD,
      r.2.mem ((c.tc : Thread Cert.MergeC.nD Cert.MergeC.τ).loc Cert.MergeC.main_arg0) = m ((c.tc : Thread Cert.MergeC.nD Cert.MergeC.τ).loc Cert.MergeC.main_arg0)
      ∧ r.2.mem ((c.tc : Thread Cert.MergeC.nD Cert.MergeC.τ).loc Cert.MergeC.main_arg1) = m ((c.tc : Thread Cert.MergeC.nD Cert.MergeC.τ).loc Cert.MergeC.main_arg1)
      ∧ r.2.mem ((c.tc : Thread Cert.MergeC.nD Cert.MergeC.τ).loc Cert.MergeC.main_arg2) = m ((c.tc : Thread Cert.MergeC.nD Cert.MergeC.τ).loc Cert.MergeC.main_arg2)
      ∧ r.2.mem ((c.tc : Thread Cert.MergeC.nD Cert.MergeC.τ).loc Cert.MergeC.main_arg3) = m ((c.tc : Thread Cert.MergeC.nD Cert.MergeC.τ).loc Cert.MergeC.main_arg3)
      ∧ r.2.mem ((c.tc : Thread Cert.MergeC.nD Cert.MergeC.τ).loc Cert.MergeC.main_arg4) = m ((c.tc : Thread Cert.MergeC.nD Cert.MergeC.τ).loc Cert.MergeC.main_arg4)
      ∧ r.2.mem ((c.tc : Thread Cert.MergeC.nD Cert.MergeC.τ).loc Cert.MergeC.main_arg5) = m ((c.tc : Thread Cert.MergeC.nD Cert.MergeC.τ).loc Cert.MergeC.main_arg5))
      ∧ r.2.sem = fun _ => 0)

def quiescent_MergeCIdeal [hMergeCIdeal : Cert.MergeCIdeal.Facts] : Prop :=
  ∀ (m : (ℓ : Loc Cert.MergeCIdeal.nD Cert.MergeCIdeal.τ Cert.MergeCIdeal.sig) → Buf (Elt Ideal) ℓ) (g : Dev Cert.MergeCIdeal.nD → PrngReg), Pre_MergeCIdeal m →
    θ_run (Cert.MergeCIdeal.defs (F := Ideal)) (onTc (τ := Cert.MergeCIdeal.τ) (Cert.MergeCIdeal.main (F := Ideal))) ⟨m, fun _ => 0, g⟩ (fun r => (∀ c : Dev Cert.MergeCIdeal.nD,
      r.2.mem ((c.tc : Thread Cert.MergeCIdeal.nD Cert.MergeCIdeal.τ).loc Cert.MergeCIdeal.main_arg0) = m ((c.tc : Thread Cert.MergeCIdeal.nD Cert.MergeCIdeal.τ).loc Cert.MergeCIdeal.main_arg0)
      ∧ r.2.mem ((c.tc : Thread Cert.MergeCIdeal.nD Cert.MergeCIdeal.τ).loc Cert.MergeCIdeal.main_arg1) = m ((c.tc : Thread Cert.MergeCIdeal.nD Cert.MergeCIdeal.τ).loc Cert.MergeCIdeal.main_arg1)
      ∧ r.2.mem ((c.tc : Thread Cert.MergeCIdeal.nD Cert.MergeCIdeal.τ).loc Cert.MergeCIdeal.main_arg2) = m ((c.tc : Thread Cert.MergeCIdeal.nD Cert.MergeCIdeal.τ).loc Cert.MergeCIdeal.main_arg2)
      ∧ r.2.mem ((c.tc : Thread Cert.MergeCIdeal.nD Cert.MergeCIdeal.τ).loc Cert.MergeCIdeal.main_arg3) = m ((c.tc : Thread Cert.MergeCIdeal.nD Cert.MergeCIdeal.τ).loc Cert.MergeCIdeal.main_arg3)
      ∧ r.2.mem ((c.tc : Thread Cert.MergeCIdeal.nD Cert.MergeCIdeal.τ).loc Cert.MergeCIdeal.main_arg4) = m ((c.tc : Thread Cert.MergeCIdeal.nD Cert.MergeCIdeal.τ).loc Cert.MergeCIdeal.main_arg4)
      ∧ r.2.mem ((c.tc : Thread Cert.MergeCIdeal.nD Cert.MergeCIdeal.τ).loc Cert.MergeCIdeal.main_arg5) = m ((c.tc : Thread Cert.MergeCIdeal.nD Cert.MergeCIdeal.τ).loc Cert.MergeCIdeal.main_arg5))
      ∧ r.2.sem = fun _ => 0)

def quiescent_MergeCRefIdeal [hMergeCRefIdeal : Cert.MergeCRefIdeal.Facts] : Prop :=
  ∀ (m : (ℓ : Loc Cert.MergeCRefIdeal.nD Cert.MergeCRefIdeal.τ Cert.MergeCRefIdeal.sig) → Buf (Elt Ideal) ℓ) (g : Dev Cert.MergeCRefIdeal.nD → PrngReg), Pre_MergeCRefIdeal m →
    θ_run (Cert.MergeCRefIdeal.defs (F := Ideal)) (onTc (τ := Cert.MergeCRefIdeal.τ) (Cert.MergeCRefIdeal.main (F := Ideal))) ⟨m, fun _ => 0, g⟩ (fun r => (∀ c : Dev Cert.MergeCRefIdeal.nD,
      r.2.mem ((c.tc : Thread Cert.MergeCRefIdeal.nD Cert.MergeCRefIdeal.τ).loc Cert.MergeCRefIdeal.main_arg0) = m ((c.tc : Thread Cert.MergeCRefIdeal.nD Cert.MergeCRefIdeal.τ).loc Cert.MergeCRefIdeal.main_arg0)
      ∧ r.2.mem ((c.tc : Thread Cert.MergeCRefIdeal.nD Cert.MergeCRefIdeal.τ).loc Cert.MergeCRefIdeal.main_arg1) = m ((c.tc : Thread Cert.MergeCRefIdeal.nD Cert.MergeCRefIdeal.τ).loc Cert.MergeCRefIdeal.main_arg1)
      ∧ r.2.mem ((c.tc : Thread Cert.MergeCRefIdeal.nD Cert.MergeCRefIdeal.τ).loc Cert.MergeCRefIdeal.main_arg2) = m ((c.tc : Thread Cert.MergeCRefIdeal.nD Cert.MergeCRefIdeal.τ).loc Cert.MergeCRefIdeal.main_arg2)
      ∧ r.2.mem ((c.tc : Thread Cert.MergeCRefIdeal.nD Cert.MergeCRefIdeal.τ).loc Cert.MergeCRefIdeal.main_arg3) = m ((c.tc : Thread Cert.MergeCRefIdeal.nD Cert.MergeCRefIdeal.τ).loc Cert.MergeCRefIdeal.main_arg3)
      ∧ r.2.mem ((c.tc : Thread Cert.MergeCRefIdeal.nD Cert.MergeCRefIdeal.τ).loc Cert.MergeCRefIdeal.main_arg4) = m ((c.tc : Thread Cert.MergeCRefIdeal.nD Cert.MergeCRefIdeal.τ).loc Cert.MergeCRefIdeal.main_arg4)
      ∧ r.2.mem ((c.tc : Thread Cert.MergeCRefIdeal.nD Cert.MergeCRefIdeal.τ).loc Cert.MergeCRefIdeal.main_arg5) = m ((c.tc : Thread Cert.MergeCRefIdeal.nD Cert.MergeCRefIdeal.τ).loc Cert.MergeCRefIdeal.main_arg5))
      ∧ r.2.sem = fun _ => 0)

def quiescent_OutProjC [hOutProjC : Cert.OutProjC.Facts] : Prop :=
  ∀ (m : (ℓ : Loc Cert.OutProjC.nD Cert.OutProjC.τ Cert.OutProjC.sig) → Buf (Elt Bits) ℓ) (g : Dev Cert.OutProjC.nD → PrngReg), Pre_OutProjC m →
    θ_run (Cert.OutProjC.defs (F := Bits)) (onTc (τ := Cert.OutProjC.τ) (Cert.OutProjC.main (F := Bits))) ⟨m, fun _ => 0, g⟩ (fun r => (∀ c : Dev Cert.OutProjC.nD,
      r.2.mem ((c.tc : Thread Cert.OutProjC.nD Cert.OutProjC.τ).loc Cert.OutProjC.main_arg0) = m ((c.tc : Thread Cert.OutProjC.nD Cert.OutProjC.τ).loc Cert.OutProjC.main_arg0)
      ∧ r.2.mem ((c.tc : Thread Cert.OutProjC.nD Cert.OutProjC.τ).loc Cert.OutProjC.main_arg1) = m ((c.tc : Thread Cert.OutProjC.nD Cert.OutProjC.τ).loc Cert.OutProjC.main_arg1)
      ∧ r.2.mem ((c.tc : Thread Cert.OutProjC.nD Cert.OutProjC.τ).loc Cert.OutProjC.main_arg2) = m ((c.tc : Thread Cert.OutProjC.nD Cert.OutProjC.τ).loc Cert.OutProjC.main_arg2)
      ∧ r.2.mem ((c.tc : Thread Cert.OutProjC.nD Cert.OutProjC.τ).loc Cert.OutProjC.main_arg3) = m ((c.tc : Thread Cert.OutProjC.nD Cert.OutProjC.τ).loc Cert.OutProjC.main_arg3)
      ∧ r.2.mem ((c.tc : Thread Cert.OutProjC.nD Cert.OutProjC.τ).loc Cert.OutProjC.main_arg4) = m ((c.tc : Thread Cert.OutProjC.nD Cert.OutProjC.τ).loc Cert.OutProjC.main_arg4)
      ∧ r.2.mem ((c.tc : Thread Cert.OutProjC.nD Cert.OutProjC.τ).loc Cert.OutProjC.main_arg5) = m ((c.tc : Thread Cert.OutProjC.nD Cert.OutProjC.τ).loc Cert.OutProjC.main_arg5)
      ∧ r.2.mem ((c.tc : Thread Cert.OutProjC.nD Cert.OutProjC.τ).loc Cert.OutProjC.main_arg6) = m ((c.tc : Thread Cert.OutProjC.nD Cert.OutProjC.τ).loc Cert.OutProjC.main_arg6)
      ∧ r.2.mem ((c.tc : Thread Cert.OutProjC.nD Cert.OutProjC.τ).loc Cert.OutProjC.main_arg7) = m ((c.tc : Thread Cert.OutProjC.nD Cert.OutProjC.τ).loc Cert.OutProjC.main_arg7)
      ∧ r.2.mem ((c.tc : Thread Cert.OutProjC.nD Cert.OutProjC.τ).loc Cert.OutProjC.main_arg8) = m ((c.tc : Thread Cert.OutProjC.nD Cert.OutProjC.τ).loc Cert.OutProjC.main_arg8))
      ∧ r.2.sem = fun _ => 0)

def quiescent_OutProjCIdeal [hOutProjCIdeal : Cert.OutProjCIdeal.Facts] : Prop :=
  ∀ (m : (ℓ : Loc Cert.OutProjCIdeal.nD Cert.OutProjCIdeal.τ Cert.OutProjCIdeal.sig) → Buf (Elt Ideal) ℓ) (g : Dev Cert.OutProjCIdeal.nD → PrngReg), Pre_OutProjCIdeal m →
    θ_run (Cert.OutProjCIdeal.defs (F := Ideal)) (onTc (τ := Cert.OutProjCIdeal.τ) (Cert.OutProjCIdeal.main (F := Ideal))) ⟨m, fun _ => 0, g⟩ (fun r => (∀ c : Dev Cert.OutProjCIdeal.nD,
      r.2.mem ((c.tc : Thread Cert.OutProjCIdeal.nD Cert.OutProjCIdeal.τ).loc Cert.OutProjCIdeal.main_arg0) = m ((c.tc : Thread Cert.OutProjCIdeal.nD Cert.OutProjCIdeal.τ).loc Cert.OutProjCIdeal.main_arg0)
      ∧ r.2.mem ((c.tc : Thread Cert.OutProjCIdeal.nD Cert.OutProjCIdeal.τ).loc Cert.OutProjCIdeal.main_arg1) = m ((c.tc : Thread Cert.OutProjCIdeal.nD Cert.OutProjCIdeal.τ).loc Cert.OutProjCIdeal.main_arg1)
      ∧ r.2.mem ((c.tc : Thread Cert.OutProjCIdeal.nD Cert.OutProjCIdeal.τ).loc Cert.OutProjCIdeal.main_arg2) = m ((c.tc : Thread Cert.OutProjCIdeal.nD Cert.OutProjCIdeal.τ).loc Cert.OutProjCIdeal.main_arg2)
      ∧ r.2.mem ((c.tc : Thread Cert.OutProjCIdeal.nD Cert.OutProjCIdeal.τ).loc Cert.OutProjCIdeal.main_arg3) = m ((c.tc : Thread Cert.OutProjCIdeal.nD Cert.OutProjCIdeal.τ).loc Cert.OutProjCIdeal.main_arg3)
      ∧ r.2.mem ((c.tc : Thread Cert.OutProjCIdeal.nD Cert.OutProjCIdeal.τ).loc Cert.OutProjCIdeal.main_arg4) = m ((c.tc : Thread Cert.OutProjCIdeal.nD Cert.OutProjCIdeal.τ).loc Cert.OutProjCIdeal.main_arg4)
      ∧ r.2.mem ((c.tc : Thread Cert.OutProjCIdeal.nD Cert.OutProjCIdeal.τ).loc Cert.OutProjCIdeal.main_arg5) = m ((c.tc : Thread Cert.OutProjCIdeal.nD Cert.OutProjCIdeal.τ).loc Cert.OutProjCIdeal.main_arg5)
      ∧ r.2.mem ((c.tc : Thread Cert.OutProjCIdeal.nD Cert.OutProjCIdeal.τ).loc Cert.OutProjCIdeal.main_arg6) = m ((c.tc : Thread Cert.OutProjCIdeal.nD Cert.OutProjCIdeal.τ).loc Cert.OutProjCIdeal.main_arg6)
      ∧ r.2.mem ((c.tc : Thread Cert.OutProjCIdeal.nD Cert.OutProjCIdeal.τ).loc Cert.OutProjCIdeal.main_arg7) = m ((c.tc : Thread Cert.OutProjCIdeal.nD Cert.OutProjCIdeal.τ).loc Cert.OutProjCIdeal.main_arg7)
      ∧ r.2.mem ((c.tc : Thread Cert.OutProjCIdeal.nD Cert.OutProjCIdeal.τ).loc Cert.OutProjCIdeal.main_arg8) = m ((c.tc : Thread Cert.OutProjCIdeal.nD Cert.OutProjCIdeal.τ).loc Cert.OutProjCIdeal.main_arg8))
      ∧ r.2.sem = fun _ => 0)

def quiescent_OutProjCRefIdeal [hOutProjCRefIdeal : Cert.OutProjCRefIdeal.Facts] : Prop :=
  ∀ (m : (ℓ : Loc Cert.OutProjCRefIdeal.nD Cert.OutProjCRefIdeal.τ Cert.OutProjCRefIdeal.sig) → Buf (Elt Ideal) ℓ) (g : Dev Cert.OutProjCRefIdeal.nD → PrngReg), Pre_OutProjCRefIdeal m →
    θ_run (Cert.OutProjCRefIdeal.defs (F := Ideal)) (onTc (τ := Cert.OutProjCRefIdeal.τ) (Cert.OutProjCRefIdeal.main (F := Ideal))) ⟨m, fun _ => 0, g⟩ (fun r => (∀ c : Dev Cert.OutProjCRefIdeal.nD,
      r.2.mem ((c.tc : Thread Cert.OutProjCRefIdeal.nD Cert.OutProjCRefIdeal.τ).loc Cert.OutProjCRefIdeal.main_arg0) = m ((c.tc : Thread Cert.OutProjCRefIdeal.nD Cert.OutProjCRefIdeal.τ).loc Cert.OutProjCRefIdeal.main_arg0)
      ∧ r.2.mem ((c.tc : Thread Cert.OutProjCRefIdeal.nD Cert.OutProjCRefIdeal.τ).loc Cert.OutProjCRefIdeal.main_arg1) = m ((c.tc : Thread Cert.OutProjCRefIdeal.nD Cert.OutProjCRefIdeal.τ).loc Cert.OutProjCRefIdeal.main_arg1)
      ∧ r.2.mem ((c.tc : Thread Cert.OutProjCRefIdeal.nD Cert.OutProjCRefIdeal.τ).loc Cert.OutProjCRefIdeal.main_arg2) = m ((c.tc : Thread Cert.OutProjCRefIdeal.nD Cert.OutProjCRefIdeal.τ).loc Cert.OutProjCRefIdeal.main_arg2)
      ∧ r.2.mem ((c.tc : Thread Cert.OutProjCRefIdeal.nD Cert.OutProjCRefIdeal.τ).loc Cert.OutProjCRefIdeal.main_arg3) = m ((c.tc : Thread Cert.OutProjCRefIdeal.nD Cert.OutProjCRefIdeal.τ).loc Cert.OutProjCRefIdeal.main_arg3)
      ∧ r.2.mem ((c.tc : Thread Cert.OutProjCRefIdeal.nD Cert.OutProjCRefIdeal.τ).loc Cert.OutProjCRefIdeal.main_arg4) = m ((c.tc : Thread Cert.OutProjCRefIdeal.nD Cert.OutProjCRefIdeal.τ).loc Cert.OutProjCRefIdeal.main_arg4)
      ∧ r.2.mem ((c.tc : Thread Cert.OutProjCRefIdeal.nD Cert.OutProjCRefIdeal.τ).loc Cert.OutProjCRefIdeal.main_arg5) = m ((c.tc : Thread Cert.OutProjCRefIdeal.nD Cert.OutProjCRefIdeal.τ).loc Cert.OutProjCRefIdeal.main_arg5)
      ∧ r.2.mem ((c.tc : Thread Cert.OutProjCRefIdeal.nD Cert.OutProjCRefIdeal.τ).loc Cert.OutProjCRefIdeal.main_arg6) = m ((c.tc : Thread Cert.OutProjCRefIdeal.nD Cert.OutProjCRefIdeal.τ).loc Cert.OutProjCRefIdeal.main_arg6)
      ∧ r.2.mem ((c.tc : Thread Cert.OutProjCRefIdeal.nD Cert.OutProjCRefIdeal.τ).loc Cert.OutProjCRefIdeal.main_arg7) = m ((c.tc : Thread Cert.OutProjCRefIdeal.nD Cert.OutProjCRefIdeal.τ).loc Cert.OutProjCRefIdeal.main_arg7)
      ∧ r.2.mem ((c.tc : Thread Cert.OutProjCRefIdeal.nD Cert.OutProjCRefIdeal.τ).loc Cert.OutProjCRefIdeal.main_arg8) = m ((c.tc : Thread Cert.OutProjCRefIdeal.nD Cert.OutProjCRefIdeal.τ).loc Cert.OutProjCRefIdeal.main_arg8))
      ∧ r.2.sem = fun _ => 0)

def quiescent_InProjD [hInProjD : Cert.InProjD.Facts] : Prop :=
  ∀ (m : (ℓ : Loc Cert.InProjD.nD Cert.InProjD.τ Cert.InProjD.sig) → Buf (Elt Bits) ℓ) (g : Dev Cert.InProjD.nD → PrngReg), Pre_InProjD m →
    θ_run (Cert.InProjD.defs (F := Bits)) (onTc (τ := Cert.InProjD.τ) (Cert.InProjD.main (F := Bits))) ⟨m, fun _ => 0, g⟩ (fun r => (∀ c : Dev Cert.InProjD.nD,
      r.2.mem ((c.tc : Thread Cert.InProjD.nD Cert.InProjD.τ).loc Cert.InProjD.main_arg0) = m ((c.tc : Thread Cert.InProjD.nD Cert.InProjD.τ).loc Cert.InProjD.main_arg0)
      ∧ r.2.mem ((c.tc : Thread Cert.InProjD.nD Cert.InProjD.τ).loc Cert.InProjD.main_arg1) = m ((c.tc : Thread Cert.InProjD.nD Cert.InProjD.τ).loc Cert.InProjD.main_arg1))
      ∧ r.2.sem = fun _ => 0)

def quiescent_InProjDIdeal [hInProjDIdeal : Cert.InProjDIdeal.Facts] : Prop :=
  ∀ (m : (ℓ : Loc Cert.InProjDIdeal.nD Cert.InProjDIdeal.τ Cert.InProjDIdeal.sig) → Buf (Elt Ideal) ℓ) (g : Dev Cert.InProjDIdeal.nD → PrngReg), Pre_InProjDIdeal m →
    θ_run (Cert.InProjDIdeal.defs (F := Ideal)) (onTc (τ := Cert.InProjDIdeal.τ) (Cert.InProjDIdeal.main (F := Ideal))) ⟨m, fun _ => 0, g⟩ (fun r => (∀ c : Dev Cert.InProjDIdeal.nD,
      r.2.mem ((c.tc : Thread Cert.InProjDIdeal.nD Cert.InProjDIdeal.τ).loc Cert.InProjDIdeal.main_arg0) = m ((c.tc : Thread Cert.InProjDIdeal.nD Cert.InProjDIdeal.τ).loc Cert.InProjDIdeal.main_arg0)
      ∧ r.2.mem ((c.tc : Thread Cert.InProjDIdeal.nD Cert.InProjDIdeal.τ).loc Cert.InProjDIdeal.main_arg1) = m ((c.tc : Thread Cert.InProjDIdeal.nD Cert.InProjDIdeal.τ).loc Cert.InProjDIdeal.main_arg1))
      ∧ r.2.sem = fun _ => 0)

def quiescent_InProjDRefIdeal [hInProjDRefIdeal : Cert.InProjDRefIdeal.Facts] : Prop :=
  ∀ (m : (ℓ : Loc Cert.InProjDRefIdeal.nD Cert.InProjDRefIdeal.τ Cert.InProjDRefIdeal.sig) → Buf (Elt Ideal) ℓ) (g : Dev Cert.InProjDRefIdeal.nD → PrngReg), Pre_InProjDRefIdeal m →
    θ_run (Cert.InProjDRefIdeal.defs (F := Ideal)) (onTc (τ := Cert.InProjDRefIdeal.τ) (Cert.InProjDRefIdeal.main (F := Ideal))) ⟨m, fun _ => 0, g⟩ (fun r => (∀ c : Dev Cert.InProjDRefIdeal.nD,
      r.2.mem ((c.tc : Thread Cert.InProjDRefIdeal.nD Cert.InProjDRefIdeal.τ).loc Cert.InProjDRefIdeal.main_arg0) = m ((c.tc : Thread Cert.InProjDRefIdeal.nD Cert.InProjDRefIdeal.τ).loc Cert.InProjDRefIdeal.main_arg0)
      ∧ r.2.mem ((c.tc : Thread Cert.InProjDRefIdeal.nD Cert.InProjDRefIdeal.τ).loc Cert.InProjDRefIdeal.main_arg1) = m ((c.tc : Thread Cert.InProjDRefIdeal.nD Cert.InProjDRefIdeal.τ).loc Cert.InProjDRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2)
      ∧ r.2.mem ((c.tc : Thread Cert.Glu.nD Cert.Glu.τ).loc Cert.Glu.main_arg3) = m ((c.tc : Thread Cert.Glu.nD Cert.Glu.τ).loc Cert.Glu.main_arg3)
      ∧ r.2.mem ((c.tc : Thread Cert.Glu.nD Cert.Glu.τ).loc Cert.Glu.main_arg4) = m ((c.tc : Thread Cert.Glu.nD Cert.Glu.τ).loc Cert.Glu.main_arg4))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
      ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
      ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2)
      ∧ r.2.mem ((c.tc : Thread Cert.GluRefIdeal.nD Cert.GluRefIdeal.τ).loc Cert.GluRefIdeal.main_arg3) = m ((c.tc : Thread Cert.GluRefIdeal.nD Cert.GluRefIdeal.τ).loc Cert.GluRefIdeal.main_arg3)
      ∧ r.2.mem ((c.tc : Thread Cert.GluRefIdeal.nD Cert.GluRefIdeal.τ).loc Cert.GluRefIdeal.main_arg4) = m ((c.tc : Thread Cert.GluRefIdeal.nD Cert.GluRefIdeal.τ).loc Cert.GluRefIdeal.main_arg4))
      ∧ r.2.sem = fun _ => 0)

def quiescent_GluB [hGluB : Cert.GluB.Facts] : Prop :=
  ∀ (m : (ℓ : Loc Cert.GluB.nD Cert.GluB.τ Cert.GluB.sig) → Buf (Elt Bits) ℓ) (g : Dev Cert.GluB.nD → PrngReg), Pre_GluB m →
    θ_run (Cert.GluB.defs (F := Bits)) (onTc (τ := Cert.GluB.τ) (Cert.GluB.main (F := Bits))) ⟨m, fun _ => 0, g⟩ (fun r => (∀ c : Dev Cert.GluB.nD,
      r.2.mem ((c.tc : Thread Cert.GluB.nD Cert.GluB.τ).loc Cert.GluB.main_arg0) = m ((c.tc : Thread Cert.GluB.nD Cert.GluB.τ).loc Cert.GluB.main_arg0)
      ∧ r.2.mem ((c.tc : Thread Cert.GluB.nD Cert.GluB.τ).loc Cert.GluB.main_arg1) = m ((c.tc : Thread Cert.GluB.nD Cert.GluB.τ).loc Cert.GluB.main_arg1)
      ∧ r.2.mem ((c.tc : Thread Cert.GluB.nD Cert.GluB.τ).loc Cert.GluB.main_arg2) = m ((c.tc : Thread Cert.GluB.nD Cert.GluB.τ).loc Cert.GluB.main_arg2)
      ∧ r.2.mem ((c.tc : Thread Cert.GluB.nD Cert.GluB.τ).loc Cert.GluB.main_arg3) = m ((c.tc : Thread Cert.GluB.nD Cert.GluB.τ).loc Cert.GluB.main_arg3)
      ∧ r.2.mem ((c.tc : Thread Cert.GluB.nD Cert.GluB.τ).loc Cert.GluB.main_arg4) = m ((c.tc : Thread Cert.GluB.nD Cert.GluB.τ).loc Cert.GluB.main_arg4))
      ∧ r.2.sem = fun _ => 0)

def quiescent_GluBIdeal [hGluBIdeal : Cert.GluBIdeal.Facts] : Prop :=
  ∀ (m : (ℓ : Loc Cert.GluBIdeal.nD Cert.GluBIdeal.τ Cert.GluBIdeal.sig) → Buf (Elt Ideal) ℓ) (g : Dev Cert.GluBIdeal.nD → PrngReg), Pre_GluBIdeal m →
    θ_run (Cert.GluBIdeal.defs (F := Ideal)) (onTc (τ := Cert.GluBIdeal.τ) (Cert.GluBIdeal.main (F := Ideal))) ⟨m, fun _ => 0, g⟩ (fun r => (∀ c : Dev Cert.GluBIdeal.nD,
      r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
      ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
      ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2)
      ∧ r.2.mem ((c.tc : Thread Cert.GluBIdeal.nD Cert.GluBIdeal.τ).loc Cert.GluBIdeal.main_arg3) = m ((c.tc : Thread Cert.GluBIdeal.nD Cert.GluBIdeal.τ).loc Cert.GluBIdeal.main_arg3)
      ∧ r.2.mem ((c.tc : Thread Cert.GluBIdeal.nD Cert.GluBIdeal.τ).loc Cert.GluBIdeal.main_arg4) = m ((c.tc : Thread Cert.GluBIdeal.nD Cert.GluBIdeal.τ).loc Cert.GluBIdeal.main_arg4))
      ∧ r.2.sem = fun _ => 0)

def quiescent_GluBRefIdeal [hGluBRefIdeal : Cert.GluBRefIdeal.Facts] : Prop :=
  ∀ (m : (ℓ : Loc Cert.GluBRefIdeal.nD Cert.GluBRefIdeal.τ Cert.GluBRefIdeal.sig) → Buf (Elt Ideal) ℓ) (g : Dev Cert.GluBRefIdeal.nD → PrngReg), Pre_GluBRefIdeal m →
    θ_run (Cert.GluBRefIdeal.defs (F := Ideal)) (onTc (τ := Cert.GluBRefIdeal.τ) (Cert.GluBRefIdeal.main (F := Ideal))) ⟨m, fun _ => 0, g⟩ (fun r => (∀ c : Dev Cert.GluBRefIdeal.nD,
      r.2.mem ((c.tc : Thread Cert.GluBRefIdeal.nD Cert.GluBRefIdeal.τ).loc Cert.GluBRefIdeal.main_arg0) = m ((c.tc : Thread Cert.GluBRefIdeal.nD Cert.GluBRefIdeal.τ).loc Cert.GluBRefIdeal.main_arg0)
      ∧ r.2.mem ((c.tc : Thread Cert.GluBRefIdeal.nD Cert.GluBRefIdeal.τ).loc Cert.GluBRefIdeal.main_arg1) = m ((c.tc : Thread Cert.GluBRefIdeal.nD Cert.GluBRefIdeal.τ).loc Cert.GluBRefIdeal.main_arg1)
      ∧ r.2.mem ((c.tc : Thread Cert.GluBRefIdeal.nD Cert.GluBRefIdeal.τ).loc Cert.GluBRefIdeal.main_arg2) = m ((c.tc : Thread Cert.GluBRefIdeal.nD Cert.GluBRefIdeal.τ).loc Cert.GluBRefIdeal.main_arg2)
      ∧ r.2.mem ((c.tc : Thread Cert.GluBRefIdeal.nD Cert.GluBRefIdeal.τ).loc Cert.GluBRefIdeal.main_arg3) = m ((c.tc : Thread Cert.GluBRefIdeal.nD Cert.GluBRefIdeal.τ).loc Cert.GluBRefIdeal.main_arg3)
      ∧ r.2.mem ((c.tc : Thread Cert.GluBRefIdeal.nD Cert.GluBRefIdeal.τ).loc Cert.GluBRefIdeal.main_arg4) = m ((c.tc : Thread Cert.GluBRefIdeal.nD Cert.GluBRefIdeal.τ).loc Cert.GluBRefIdeal.main_arg4))
      ∧ r.2.sem = fun _ => 0)

def quiescent_GluC [hGluC : Cert.GluC.Facts] : Prop :=
  ∀ (m : (ℓ : Loc Cert.GluC.nD Cert.GluC.τ Cert.GluC.sig) → Buf (Elt Bits) ℓ) (g : Dev Cert.GluC.nD → PrngReg), Pre_GluC m →
    θ_run (Cert.GluC.defs (F := Bits)) (onTc (τ := Cert.GluC.τ) (Cert.GluC.main (F := Bits))) ⟨m, fun _ => 0, g⟩ (fun r => (∀ c : Dev Cert.GluC.nD,
      r.2.mem ((c.tc : Thread Cert.GluC.nD Cert.GluC.τ).loc Cert.GluC.main_arg0) = m ((c.tc : Thread Cert.GluC.nD Cert.GluC.τ).loc Cert.GluC.main_arg0)
      ∧ r.2.mem ((c.tc : Thread Cert.GluC.nD Cert.GluC.τ).loc Cert.GluC.main_arg1) = m ((c.tc : Thread Cert.GluC.nD Cert.GluC.τ).loc Cert.GluC.main_arg1)
      ∧ r.2.mem ((c.tc : Thread Cert.GluC.nD Cert.GluC.τ).loc Cert.GluC.main_arg2) = m ((c.tc : Thread Cert.GluC.nD Cert.GluC.τ).loc Cert.GluC.main_arg2)
      ∧ r.2.mem ((c.tc : Thread Cert.GluC.nD Cert.GluC.τ).loc Cert.GluC.main_arg3) = m ((c.tc : Thread Cert.GluC.nD Cert.GluC.τ).loc Cert.GluC.main_arg3)
      ∧ r.2.mem ((c.tc : Thread Cert.GluC.nD Cert.GluC.τ).loc Cert.GluC.main_arg4) = m ((c.tc : Thread Cert.GluC.nD Cert.GluC.τ).loc Cert.GluC.main_arg4))
      ∧ r.2.sem = fun _ => 0)

def quiescent_GluCIdeal [hGluCIdeal : Cert.GluCIdeal.Facts] : Prop :=
  ∀ (m : (ℓ : Loc Cert.GluCIdeal.nD Cert.GluCIdeal.τ Cert.GluCIdeal.sig) → Buf (Elt Ideal) ℓ) (g : Dev Cert.GluCIdeal.nD → PrngReg), Pre_GluCIdeal m →
    θ_run (Cert.GluCIdeal.defs (F := Ideal)) (onTc (τ := Cert.GluCIdeal.τ) (Cert.GluCIdeal.main (F := Ideal))) ⟨m, fun _ => 0, g⟩ (fun r => (∀ c : Dev Cert.GluCIdeal.nD,
      r.2.mem ((c.tc : Thread Cert.GluCIdeal.nD Cert.GluCIdeal.τ).loc Cert.GluCIdeal.main_arg0) = m ((c.tc : Thread Cert.GluCIdeal.nD Cert.GluCIdeal.τ).loc Cert.GluCIdeal.main_arg0)
      ∧ r.2.mem ((c.tc : Thread Cert.GluCIdeal.nD Cert.GluCIdeal.τ).loc Cert.GluCIdeal.main_arg1) = m ((c.tc : Thread Cert.GluCIdeal.nD Cert.GluCIdeal.τ).loc Cert.GluCIdeal.main_arg1)
      ∧ r.2.mem ((c.tc : Thread Cert.GluCIdeal.nD Cert.GluCIdeal.τ).loc Cert.GluCIdeal.main_arg2) = m ((c.tc : Thread Cert.GluCIdeal.nD Cert.GluCIdeal.τ).loc Cert.GluCIdeal.main_arg2)
      ∧ r.2.mem ((c.tc : Thread Cert.GluCIdeal.nD Cert.GluCIdeal.τ).loc Cert.GluCIdeal.main_arg3) = m ((c.tc : Thread Cert.GluCIdeal.nD Cert.GluCIdeal.τ).loc Cert.GluCIdeal.main_arg3)
      ∧ r.2.mem ((c.tc : Thread Cert.GluCIdeal.nD Cert.GluCIdeal.τ).loc Cert.GluCIdeal.main_arg4) = m ((c.tc : Thread Cert.GluCIdeal.nD Cert.GluCIdeal.τ).loc Cert.GluCIdeal.main_arg4))
      ∧ r.2.sem = fun _ => 0)

def quiescent_GluCRefIdeal [hGluCRefIdeal : Cert.GluCRefIdeal.Facts] : Prop :=
  ∀ (m : (ℓ : Loc Cert.GluCRefIdeal.nD Cert.GluCRefIdeal.τ Cert.GluCRefIdeal.sig) → Buf (Elt Ideal) ℓ) (g : Dev Cert.GluCRefIdeal.nD → PrngReg), Pre_GluCRefIdeal m →
    θ_run (Cert.GluCRefIdeal.defs (F := Ideal)) (onTc (τ := Cert.GluCRefIdeal.τ) (Cert.GluCRefIdeal.main (F := Ideal))) ⟨m, fun _ => 0, g⟩ (fun r => (∀ c : Dev Cert.GluCRefIdeal.nD,
      r.2.mem ((c.tc : Thread Cert.GluCRefIdeal.nD Cert.GluCRefIdeal.τ).loc Cert.GluCRefIdeal.main_arg0) = m ((c.tc : Thread Cert.GluCRefIdeal.nD Cert.GluCRefIdeal.τ).loc Cert.GluCRefIdeal.main_arg0)
      ∧ r.2.mem ((c.tc : Thread Cert.GluCRefIdeal.nD Cert.GluCRefIdeal.τ).loc Cert.GluCRefIdeal.main_arg1) = m ((c.tc : Thread Cert.GluCRefIdeal.nD Cert.GluCRefIdeal.τ).loc Cert.GluCRefIdeal.main_arg1)
      ∧ r.2.mem ((c.tc : Thread Cert.GluCRefIdeal.nD Cert.GluCRefIdeal.τ).loc Cert.GluCRefIdeal.main_arg2) = m ((c.tc : Thread Cert.GluCRefIdeal.nD Cert.GluCRefIdeal.τ).loc Cert.GluCRefIdeal.main_arg2)
      ∧ r.2.mem ((c.tc : Thread Cert.GluCRefIdeal.nD Cert.GluCRefIdeal.τ).loc Cert.GluCRefIdeal.main_arg3) = m ((c.tc : Thread Cert.GluCRefIdeal.nD Cert.GluCRefIdeal.τ).loc Cert.GluCRefIdeal.main_arg3)
      ∧ r.2.mem ((c.tc : Thread Cert.GluCRefIdeal.nD Cert.GluCRefIdeal.τ).loc Cert.GluCRefIdeal.main_arg4) = m ((c.tc : Thread Cert.GluCRefIdeal.nD Cert.GluCRefIdeal.τ).loc Cert.GluCRefIdeal.main_arg4))
      ∧ r.2.sem = fun _ => 0)

def preserves_Attn_AttnIdeal : Prop :=
  IdealRules.named_const.Statement Cert.AttnIdeal.κ "mask" .f32 0xF149F2CA#32 ⊥
  ∧ IdealRules.named_const.Statement Cert.AttnIdeal.κ "s" .f32 0x3DB504F3#32 (((Real.sqrt 128)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v37)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v37) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v206) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v9) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4_0)) (v1 : (c : Dev Cert.MergeIdeal.nD) → Buf (Elt Ideal) ((c.tc : Thread Cert.MergeIdeal.nD Cert.MergeIdeal.τ).loc Cert.MergeIdeal.main_v4_1)) (v2 : (c : Dev Cert.MergeIdeal.nD) → Buf (Elt Ideal) ((c.tc : Thread Cert.MergeIdeal.nD Cert.MergeIdeal.τ).loc Cert.MergeIdeal.main_v4_2)) (v3 : (c : Dev Cert.MergeIdeal.nD) → Buf (Elt Ideal) ((c.tc : Thread Cert.MergeIdeal.nD Cert.MergeIdeal.τ).loc Cert.MergeIdeal.main_v4_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4_0) = v0 c
          ∧ r.2.mem ((c.tc : Thread Cert.MergeIdeal.nD Cert.MergeIdeal.τ).loc Cert.MergeIdeal.main_v4_1) = v1 c
          ∧ r.2.mem ((c.tc : Thread Cert.MergeIdeal.nD Cert.MergeIdeal.τ).loc Cert.MergeIdeal.main_v4_2) = v2 c
          ∧ r.2.mem ((c.tc : Thread Cert.MergeIdeal.nD Cert.MergeIdeal.τ).loc Cert.MergeIdeal.main_v4_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_v39) = v1 c
          ∧ r.2.mem ((c.tc : Thread Cert.MergeRefIdeal.nD Cert.MergeRefIdeal.τ).loc Cert.MergeRefIdeal.main_v43) = v2 c
          ∧ r.2.mem ((c.tc : Thread Cert.MergeRefIdeal.nD Cert.MergeRefIdeal.τ).loc Cert.MergeRefIdeal.main_v47) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_InProjB_InProjBIdeal : Prop :=
  True

def algebraic_InProjBIdeal_InProjBRefIdeal [hInProjBIdeal : Cert.InProjBIdeal.Facts] [hInProjBRefIdeal : Cert.InProjBRefIdeal.Facts] : Prop :=
  ∀ (m : (ℓ : Loc Cert.InProjBIdeal.nD Cert.InProjBIdeal.τ Cert.InProjBIdeal.sig) → Buf (Elt Ideal) ℓ) (g : Dev Cert.InProjBIdeal.nD → PrngReg)
    (m' : (ℓ : Loc Cert.InProjBRefIdeal.nD Cert.InProjBRefIdeal.τ Cert.InProjBRefIdeal.sig) → Buf (Elt Ideal) ℓ) (g' : Dev Cert.InProjBRefIdeal.nD → PrngReg), Pre_InProjBIdeal m →
    (∀ c : Dev Cert.InProjBIdeal.nD,
      m' ((c.tc : Thread Cert.InProjBRefIdeal.nD Cert.InProjBRefIdeal.τ).loc Cert.InProjBRefIdeal.main_arg0) = m ((c.tc : Thread Cert.InProjBIdeal.nD Cert.InProjBIdeal.τ).loc Cert.InProjBIdeal.main_arg0)
      ∧ m' ((c.tc : Thread Cert.InProjBRefIdeal.nD Cert.InProjBRefIdeal.τ).loc Cert.InProjBRefIdeal.main_arg1) = m ((c.tc : Thread Cert.InProjBIdeal.nD Cert.InProjBIdeal.τ).loc Cert.InProjBIdeal.main_arg1)) →
    ∃ (v0 : (c : Dev Cert.InProjBIdeal.nD) → Buf (Elt Ideal) ((c.tc : Thread Cert.InProjBIdeal.nD Cert.InProjBIdeal.τ).loc Cert.InProjBIdeal.main_v2)),
      θ_run (Cert.InProjBIdeal.defs (F := Ideal)) (onTc (τ := Cert.InProjBIdeal.τ) (Cert.InProjBIdeal.main (F := Ideal))) ⟨m, fun _ => 0, g⟩ (fun r => ∀ c : Dev Cert.InProjBIdeal.nD,
          r.2.mem ((c.tc : Thread Cert.InProjBIdeal.nD Cert.InProjBIdeal.τ).loc Cert.InProjBIdeal.main_v2) = v0 c
          ∧ r.2.mem ((c.tc : Thread Cert.InProjBIdeal.nD Cert.InProjBIdeal.τ).loc Cert.InProjBIdeal.main_arg0) = m ((c.tc : Thread Cert.InProjBIdeal.nD Cert.InProjBIdeal.τ).loc Cert.InProjBIdeal.main_arg0)
          ∧ r.2.mem ((c.tc : Thread Cert.InProjBIdeal.nD Cert.InProjBIdeal.τ).loc Cert.InProjBIdeal.main_arg1) = m ((c.tc : Thread Cert.InProjBIdeal.nD Cert.InProjBIdeal.τ).loc Cert.InProjBIdeal.main_arg1))
      ∧ θ_run (Cert.InProjBRefIdeal.defs (F := Ideal)) (onTc (τ := Cert.InProjBRefIdeal.τ) (Cert.InProjBRefIdeal.main (F := Ideal))) ⟨m', fun _ => 0, g'⟩ (fun r => ∀ c : Dev Cert.InProjBRefIdeal.nD,
          r.2.mem ((c.tc : Thread Cert.InProjBRefIdeal.nD Cert.InProjBRefIdeal.τ).loc Cert.InProjBRefIdeal.main_v9) = v0 c
          ∧ r.2.mem ((c.tc : Thread Cert.InProjBRefIdeal.nD Cert.InProjBRefIdeal.τ).loc Cert.InProjBRefIdeal.main_arg0) = m' ((c.tc : Thread Cert.InProjBRefIdeal.nD Cert.InProjBRefIdeal.τ).loc Cert.InProjBRefIdeal.main_arg0)
          ∧ r.2.mem ((c.tc : Thread Cert.InProjBRefIdeal.nD Cert.InProjBRefIdeal.τ).loc Cert.InProjBRefIdeal.main_arg1) = m' ((c.tc : Thread Cert.InProjBRefIdeal.nD Cert.InProjBRefIdeal.τ).loc Cert.InProjBRefIdeal.main_arg1))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)
      ∧ m' ((c.tc : Thread Cert.MergeBRefIdeal.nD Cert.MergeBRefIdeal.τ).loc Cert.MergeBRefIdeal.main_arg4) = m ((c.tc : Thread Cert.MergeBIdeal.nD Cert.MergeBIdeal.τ).loc Cert.MergeBIdeal.main_arg4)
      ∧ m' ((c.tc : Thread Cert.MergeBRefIdeal.nD Cert.MergeBRefIdeal.τ).loc Cert.MergeBRefIdeal.main_arg5) = m ((c.tc : Thread Cert.MergeBIdeal.nD Cert.MergeBIdeal.τ).loc Cert.MergeBIdeal.main_arg5)
      ∧ m' ((c.tc : Thread Cert.MergeBRefIdeal.nD Cert.MergeBRefIdeal.τ).loc Cert.MergeBRefIdeal.main_arg6) = m ((c.tc : Thread Cert.MergeBIdeal.nD Cert.MergeBIdeal.τ).loc Cert.MergeBIdeal.main_arg6)
      ∧ m' ((c.tc : Thread Cert.MergeBRefIdeal.nD Cert.MergeBRefIdeal.τ).loc Cert.MergeBRefIdeal.main_arg7) = m ((c.tc : Thread Cert.MergeBIdeal.nD Cert.MergeBIdeal.τ).loc Cert.MergeBIdeal.main_arg7)
      ∧ m' ((c.tc : Thread Cert.MergeBRefIdeal.nD Cert.MergeBRefIdeal.τ).loc Cert.MergeBRefIdeal.main_arg8) = m ((c.tc : Thread Cert.MergeBIdeal.nD Cert.MergeBIdeal.τ).loc Cert.MergeBIdeal.main_arg8)) →
    ∃ (v0 : (c : Dev Cert.MergeBIdeal.nD) → Buf (Elt Ideal) ((c.tc : Thread Cert.MergeBIdeal.nD Cert.MergeBIdeal.τ).loc Cert.MergeBIdeal.main_v4_0)) (v1 : (c : Dev Cert.MergeBIdeal.nD) → Buf (Elt Ideal) ((c.tc : Thread Cert.MergeBIdeal.nD Cert.MergeBIdeal.τ).loc Cert.MergeBIdeal.main_v4_1)) (v2 : (c : Dev Cert.MergeBIdeal.nD) → Buf (Elt Ideal) ((c.tc : Thread Cert.MergeBIdeal.nD Cert.MergeBIdeal.τ).loc Cert.MergeBIdeal.main_v4_2)) (v3 : (c : Dev Cert.MergeBIdeal.nD) → Buf (Elt Ideal) ((c.tc : Thread Cert.MergeBIdeal.nD Cert.MergeBIdeal.τ).loc Cert.MergeBIdeal.main_v4_3)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v4_0) = v0 c
          ∧ r.2.mem ((c.tc : Thread Cert.MergeBIdeal.nD Cert.MergeBIdeal.τ).loc Cert.MergeBIdeal.main_v4_1) = v1 c
          ∧ r.2.mem ((c.tc : Thread Cert.MergeBIdeal.nD Cert.MergeBIdeal.τ).loc Cert.MergeBIdeal.main_v4_2) = v2 c
          ∧ r.2.mem ((c.tc : Thread Cert.MergeBIdeal.nD Cert.MergeBIdeal.τ).loc Cert.MergeBIdeal.main_v4_3) = v3 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5)
          ∧ r.2.mem ((c.tc : Thread Cert.MergeBIdeal.nD Cert.MergeBIdeal.τ).loc Cert.MergeBIdeal.main_arg6) = m ((c.tc : Thread Cert.MergeBIdeal.nD Cert.MergeBIdeal.τ).loc Cert.MergeBIdeal.main_arg6)
          ∧ r.2.mem ((c.tc : Thread Cert.MergeBIdeal.nD Cert.MergeBIdeal.τ).loc Cert.MergeBIdeal.main_arg7) = m ((c.tc : Thread Cert.MergeBIdeal.nD Cert.MergeBIdeal.τ).loc Cert.MergeBIdeal.main_arg7)
          ∧ r.2.mem ((c.tc : Thread Cert.MergeBIdeal.nD Cert.MergeBIdeal.τ).loc Cert.MergeBIdeal.main_arg8) = m ((c.tc : Thread Cert.MergeBIdeal.nD Cert.MergeBIdeal.τ).loc Cert.MergeBIdeal.main_arg8))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v35) = v0 c
          ∧ r.2.mem ((c.tc : Thread Cert.MergeBRefIdeal.nD Cert.MergeBRefIdeal.τ).loc Cert.MergeBRefIdeal.main_v39) = v1 c
          ∧ r.2.mem ((c.tc : Thread Cert.MergeBRefIdeal.nD Cert.MergeBRefIdeal.τ).loc Cert.MergeBRefIdeal.main_v43) = v2 c
          ∧ r.2.mem ((c.tc : Thread Cert.MergeBRefIdeal.nD Cert.MergeBRefIdeal.τ).loc Cert.MergeBRefIdeal.main_v47) = v3 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
          ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4)
          ∧ r.2.mem ((c.tc : Thread Cert.MergeBRefIdeal.nD Cert.MergeBRefIdeal.τ).loc Cert.MergeBRefIdeal.main_arg5) = m' ((c.tc : Thread Cert.MergeBRefIdeal.nD Cert.MergeBRefIdeal.τ).loc Cert.MergeBRefIdeal.main_arg5)
          ∧ r.2.mem ((c.tc : Thread Cert.MergeBRefIdeal.nD Cert.MergeBRefIdeal.τ).loc Cert.MergeBRefIdeal.main_arg6) = m' ((c.tc : Thread Cert.MergeBRefIdeal.nD Cert.MergeBRefIdeal.τ).loc Cert.MergeBRefIdeal.main_arg6)
          ∧ r.2.mem ((c.tc : Thread Cert.MergeBRefIdeal.nD Cert.MergeBRefIdeal.τ).loc Cert.MergeBRefIdeal.main_arg7) = m' ((c.tc : Thread Cert.MergeBRefIdeal.nD Cert.MergeBRefIdeal.τ).loc Cert.MergeBRefIdeal.main_arg7)
          ∧ r.2.mem ((c.tc : Thread Cert.MergeBRefIdeal.nD Cert.MergeBRefIdeal.τ).loc Cert.MergeBRefIdeal.main_arg8) = m' ((c.tc : Thread Cert.MergeBRefIdeal.nD Cert.MergeBRefIdeal.τ).loc Cert.MergeBRefIdeal.main_arg8))

def preserves_OutProj_OutProjIdeal : Prop :=
  IdealRules.named_const.Statement Cert.OutProjIdeal.κ "alpha" .f32 0x3FB504F3#32 ((Real.sqrt 2 : ℝ) : EReal)
  ∧ IdealRules.named_const.Statement Cert.OutProjIdeal.κ "mask" .f32 0xF149F2CA#32 ⊥

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)) (v2 : (c : Dev Cert.OutProjIdeal.nD) → Buf (Elt Ideal) ((c.tc : Thread Cert.OutProjIdeal.nD Cert.OutProjIdeal.τ).loc Cert.OutProjIdeal.main_v5_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_v5_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v34) = v0 c
          ∧ r.2.mem ((c.tc : Thread Cert.OutProjRefIdeal.nD Cert.OutProjRefIdeal.τ).loc Cert.OutProjRefIdeal.main_v55) = v1 c
          ∧ r.2.mem ((c.tc : Thread Cert.OutProjRefIdeal.nD Cert.OutProjRefIdeal.τ).loc Cert.OutProjRefIdeal.main_v56) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_OutProjB_OutProjBIdeal : Prop :=
  IdealRules.named_const.Statement Cert.OutProjBIdeal.κ "alpha" .f32 0x3FB504F3#32 ((Real.sqrt 2 : ℝ) : EReal)
  ∧ IdealRules.named_const.Statement Cert.OutProjBIdeal.κ "mask" .f32 0xF149F2CA#32 ⊥

def algebraic_OutProjBIdeal_OutProjBRefIdeal [hOutProjBIdeal : Cert.OutProjBIdeal.Facts] [hOutProjBRefIdeal : Cert.OutProjBRefIdeal.Facts] : Prop :=
  ∀ (m : (ℓ : Loc Cert.OutProjBIdeal.nD Cert.OutProjBIdeal.τ Cert.OutProjBIdeal.sig) → Buf (Elt Ideal) ℓ) (g : Dev Cert.OutProjBIdeal.nD → PrngReg)
    (m' : (ℓ : Loc Cert.OutProjBRefIdeal.nD Cert.OutProjBRefIdeal.τ Cert.OutProjBRefIdeal.sig) → Buf (Elt Ideal) ℓ) (g' : Dev Cert.OutProjBRefIdeal.nD → PrngReg), Pre_OutProjBIdeal m →
    (∀ c : Dev Cert.OutProjBIdeal.nD,
      m' ((c.tc : Thread Cert.OutProjBRefIdeal.nD Cert.OutProjBRefIdeal.τ).loc Cert.OutProjBRefIdeal.main_arg0) = m ((c.tc : Thread Cert.OutProjBIdeal.nD Cert.OutProjBIdeal.τ).loc Cert.OutProjBIdeal.main_arg0)
      ∧ m' ((c.tc : Thread Cert.OutProjBRefIdeal.nD Cert.OutProjBRefIdeal.τ).loc Cert.OutProjBRefIdeal.main_arg1) = m ((c.tc : Thread Cert.OutProjBIdeal.nD Cert.OutProjBIdeal.τ).loc Cert.OutProjBIdeal.main_arg1)
      ∧ m' ((c.tc : Thread Cert.OutProjBRefIdeal.nD Cert.OutProjBRefIdeal.τ).loc Cert.OutProjBRefIdeal.main_arg2) = m ((c.tc : Thread Cert.OutProjBIdeal.nD Cert.OutProjBIdeal.τ).loc Cert.OutProjBIdeal.main_arg2)
      ∧ m' ((c.tc : Thread Cert.OutProjBRefIdeal.nD Cert.OutProjBRefIdeal.τ).loc Cert.OutProjBRefIdeal.main_arg3) = m ((c.tc : Thread Cert.OutProjBIdeal.nD Cert.OutProjBIdeal.τ).loc Cert.OutProjBIdeal.main_arg3)
      ∧ m' ((c.tc : Thread Cert.OutProjBRefIdeal.nD Cert.OutProjBRefIdeal.τ).loc Cert.OutProjBRefIdeal.main_arg4) = m ((c.tc : Thread Cert.OutProjBIdeal.nD Cert.OutProjBIdeal.τ).loc Cert.OutProjBIdeal.main_arg4)
      ∧ m' ((c.tc : Thread Cert.OutProjBRefIdeal.nD Cert.OutProjBRefIdeal.τ).loc Cert.OutProjBRefIdeal.main_arg5) = m ((c.tc : Thread Cert.OutProjBIdeal.nD Cert.OutProjBIdeal.τ).loc Cert.OutProjBIdeal.main_arg5)
      ∧ m' ((c.tc : Thread Cert.OutProjBRefIdeal.nD Cert.OutProjBRefIdeal.τ).loc Cert.OutProjBRefIdeal.main_arg6) = m ((c.tc : Thread Cert.OutProjBIdeal.nD Cert.OutProjBIdeal.τ).loc Cert.OutProjBIdeal.main_arg6)
      ∧ m' ((c.tc : Thread Cert.OutProjBRefIdeal.nD Cert.OutProjBRefIdeal.τ).loc Cert.OutProjBRefIdeal.main_arg7) = m ((c.tc : Thread Cert.OutProjBIdeal.nD Cert.OutProjBIdeal.τ).loc Cert.OutProjBIdeal.main_arg7)
      ∧ m' ((c.tc : Thread Cert.OutProjBRefIdeal.nD Cert.OutProjBRefIdeal.τ).loc Cert.OutProjBRefIdeal.main_arg8) = m ((c.tc : Thread Cert.OutProjBIdeal.nD Cert.OutProjBIdeal.τ).loc Cert.OutProjBIdeal.main_arg8)) →
    ∃ (v0 : (c : Dev Cert.OutProjBIdeal.nD) → Buf (Elt Ideal) ((c.tc : Thread Cert.OutProjBIdeal.nD Cert.OutProjBIdeal.τ).loc Cert.OutProjBIdeal.main_v5_0)) (v1 : (c : Dev Cert.OutProjBIdeal.nD) → Buf (Elt Ideal) ((c.tc : Thread Cert.OutProjBIdeal.nD Cert.OutProjBIdeal.τ).loc Cert.OutProjBIdeal.main_v5_1)) (v2 : (c : Dev Cert.OutProjBIdeal.nD) → Buf (Elt Ideal) ((c.tc : Thread Cert.OutProjBIdeal.nD Cert.OutProjBIdeal.τ).loc Cert.OutProjBIdeal.main_v5_2)),
      θ_run (Cert.OutProjBIdeal.defs (F := Ideal)) (onTc (τ := Cert.OutProjBIdeal.τ) (Cert.OutProjBIdeal.main (F := Ideal))) ⟨m, fun _ => 0, g⟩ (fun r => ∀ c : Dev Cert.OutProjBIdeal.nD,
          r.2.mem ((c.tc : Thread Cert.OutProjBIdeal.nD Cert.OutProjBIdeal.τ).loc Cert.OutProjBIdeal.main_v5_0) = v0 c
          ∧ r.2.mem ((c.tc : Thread Cert.OutProjBIdeal.nD Cert.OutProjBIdeal.τ).loc Cert.OutProjBIdeal.main_v5_1) = v1 c
          ∧ r.2.mem ((c.tc : Thread Cert.OutProjBIdeal.nD Cert.OutProjBIdeal.τ).loc Cert.OutProjBIdeal.main_v5_2) = v2 c
          ∧ r.2.mem ((c.tc : Thread Cert.OutProjBIdeal.nD Cert.OutProjBIdeal.τ).loc Cert.OutProjBIdeal.main_arg0) = m ((c.tc : Thread Cert.OutProjBIdeal.nD Cert.OutProjBIdeal.τ).loc Cert.OutProjBIdeal.main_arg0)
          ∧ r.2.mem ((c.tc : Thread Cert.OutProjBIdeal.nD Cert.OutProjBIdeal.τ).loc Cert.OutProjBIdeal.main_arg1) = m ((c.tc : Thread Cert.OutProjBIdeal.nD Cert.OutProjBIdeal.τ).loc Cert.OutProjBIdeal.main_arg1)
          ∧ r.2.mem ((c.tc : Thread Cert.OutProjBIdeal.nD Cert.OutProjBIdeal.τ).loc Cert.OutProjBIdeal.main_arg2) = m ((c.tc : Thread Cert.OutProjBIdeal.nD Cert.OutProjBIdeal.τ).loc Cert.OutProjBIdeal.main_arg2)
          ∧ r.2.mem ((c.tc : Thread Cert.OutProjBIdeal.nD Cert.OutProjBIdeal.τ).loc Cert.OutProjBIdeal.main_arg3) = m ((c.tc : Thread Cert.OutProjBIdeal.nD Cert.OutProjBIdeal.τ).loc Cert.OutProjBIdeal.main_arg3)
          ∧ r.2.mem ((c.tc : Thread Cert.OutProjBIdeal.nD Cert.OutProjBIdeal.τ).loc Cert.OutProjBIdeal.main_arg4) = m ((c.tc : Thread Cert.OutProjBIdeal.nD Cert.OutProjBIdeal.τ).loc Cert.OutProjBIdeal.main_arg4)
          ∧ r.2.mem ((c.tc : Thread Cert.OutProjBIdeal.nD Cert.OutProjBIdeal.τ).loc Cert.OutProjBIdeal.main_arg5) = m ((c.tc : Thread Cert.OutProjBIdeal.nD Cert.OutProjBIdeal.τ).loc Cert.OutProjBIdeal.main_arg5)
          ∧ r.2.mem ((c.tc : Thread Cert.OutProjBIdeal.nD Cert.OutProjBIdeal.τ).loc Cert.OutProjBIdeal.main_arg6) = m ((c.tc : Thread Cert.OutProjBIdeal.nD Cert.OutProjBIdeal.τ).loc Cert.OutProjBIdeal.main_arg6)
          ∧ r.2.mem ((c.tc : Thread Cert.OutProjBIdeal.nD Cert.OutProjBIdeal.τ).loc Cert.OutProjBIdeal.main_arg7) = m ((c.tc : Thread Cert.OutProjBIdeal.nD Cert.OutProjBIdeal.τ).loc Cert.OutProjBIdeal.main_arg7)
          ∧ r.2.mem ((c.tc : Thread Cert.OutProjBIdeal.nD Cert.OutProjBIdeal.τ).loc Cert.OutProjBIdeal.main_arg8) = m ((c.tc : Thread Cert.OutProjBIdeal.nD Cert.OutProjBIdeal.τ).loc Cert.OutProjBIdeal.main_arg8))
      ∧ θ_run (Cert.OutProjBRefIdeal.defs (F := Ideal)) (onTc (τ := Cert.OutProjBRefIdeal.τ) (Cert.OutProjBRefIdeal.main (F := Ideal))) ⟨m', fun _ => 0, g'⟩ (fun r => ∀ c : Dev Cert.OutProjBRefIdeal.nD,
          r.2.mem ((c.tc : Thread Cert.OutProjBRefIdeal.nD Cert.OutProjBRefIdeal.τ).loc Cert.OutProjBRefIdeal.main_v34) = v0 c
          ∧ r.2.mem ((c.tc : Thread Cert.OutProjBRefIdeal.nD Cert.OutProjBRefIdeal.τ).loc Cert.OutProjBRefIdeal.main_v55) = v1 c
          ∧ r.2.mem ((c.tc : Thread Cert.OutProjBRefIdeal.nD Cert.OutProjBRefIdeal.τ).loc Cert.OutProjBRefIdeal.main_v56) = v2 c
          ∧ r.2.mem ((c.tc : Thread Cert.OutProjBRefIdeal.nD Cert.OutProjBRefIdeal.τ).loc Cert.OutProjBRefIdeal.main_arg0) = m' ((c.tc : Thread Cert.OutProjBRefIdeal.nD Cert.OutProjBRefIdeal.τ).loc Cert.OutProjBRefIdeal.main_arg0)
          ∧ r.2.mem ((c.tc : Thread Cert.OutProjBRefIdeal.nD Cert.OutProjBRefIdeal.τ).loc Cert.OutProjBRefIdeal.main_arg1) = m' ((c.tc : Thread Cert.OutProjBRefIdeal.nD Cert.OutProjBRefIdeal.τ).loc Cert.OutProjBRefIdeal.main_arg1)
          ∧ r.2.mem ((c.tc : Thread Cert.OutProjBRefIdeal.nD Cert.OutProjBRefIdeal.τ).loc Cert.OutProjBRefIdeal.main_arg2) = m' ((c.tc : Thread Cert.OutProjBRefIdeal.nD Cert.OutProjBRefIdeal.τ).loc Cert.OutProjBRefIdeal.main_arg2)
          ∧ r.2.mem ((c.tc : Thread Cert.OutProjBRefIdeal.nD Cert.OutProjBRefIdeal.τ).loc Cert.OutProjBRefIdeal.main_arg3) = m' ((c.tc : Thread Cert.OutProjBRefIdeal.nD Cert.OutProjBRefIdeal.τ).loc Cert.OutProjBRefIdeal.main_arg3)
          ∧ r.2.mem ((c.tc : Thread Cert.OutProjBRefIdeal.nD Cert.OutProjBRefIdeal.τ).loc Cert.OutProjBRefIdeal.main_arg4) = m' ((c.tc : Thread Cert.OutProjBRefIdeal.nD Cert.OutProjBRefIdeal.τ).loc Cert.OutProjBRefIdeal.main_arg4)
          ∧ r.2.mem ((c.tc : Thread Cert.OutProjBRefIdeal.nD Cert.OutProjBRefIdeal.τ).loc Cert.OutProjBRefIdeal.main_arg5) = m' ((c.tc : Thread Cert.OutProjBRefIdeal.nD Cert.OutProjBRefIdeal.τ).loc Cert.OutProjBRefIdeal.main_arg5)
          ∧ r.2.mem ((c.tc : Thread Cert.OutProjBRefIdeal.nD Cert.OutProjBRefIdeal.τ).loc Cert.OutProjBRefIdeal.main_arg6) = m' ((c.tc : Thread Cert.OutProjBRefIdeal.nD Cert.OutProjBRefIdeal.τ).loc Cert.OutProjBRefIdeal.main_arg6)
          ∧ r.2.mem ((c.tc : Thread Cert.OutProjBRefIdeal.nD Cert.OutProjBRefIdeal.τ).loc Cert.OutProjBRefIdeal.main_arg7) = m' ((c.tc : Thread Cert.OutProjBRefIdeal.nD Cert.OutProjBRefIdeal.τ).loc Cert.OutProjBRefIdeal.main_arg7)
          ∧ r.2.mem ((c.tc : Thread Cert.OutProjBRefIdeal.nD Cert.OutProjBRefIdeal.τ).loc Cert.OutProjBRefIdeal.main_arg8) = m' ((c.tc : Thread Cert.OutProjBRefIdeal.nD Cert.OutProjBRefIdeal.τ).loc Cert.OutProjBRefIdeal.main_arg8))

def preserves_InProjC_InProjCIdeal : Prop :=
  True

def algebraic_InProjCIdeal_InProjCRefIdeal [hInProjCIdeal : Cert.InProjCIdeal.Facts] [hInProjCRefIdeal : Cert.InProjCRefIdeal.Facts] : Prop :=
  ∀ (m : (ℓ : Loc Cert.InProjCIdeal.nD Cert.InProjCIdeal.τ Cert.InProjCIdeal.sig) → Buf (Elt Ideal) ℓ) (g : Dev Cert.InProjCIdeal.nD → PrngReg)
    (m' : (ℓ : Loc Cert.InProjCRefIdeal.nD Cert.InProjCRefIdeal.τ Cert.InProjCRefIdeal.sig) → Buf (Elt Ideal) ℓ) (g' : Dev Cert.InProjCRefIdeal.nD → PrngReg), Pre_InProjCIdeal m →
    (∀ c : Dev Cert.InProjCIdeal.nD,
      m' ((c.tc : Thread Cert.InProjCRefIdeal.nD Cert.InProjCRefIdeal.τ).loc Cert.InProjCRefIdeal.main_arg0) = m ((c.tc : Thread Cert.InProjCIdeal.nD Cert.InProjCIdeal.τ).loc Cert.InProjCIdeal.main_arg0)
      ∧ m' ((c.tc : Thread Cert.InProjCRefIdeal.nD Cert.InProjCRefIdeal.τ).loc Cert.InProjCRefIdeal.main_arg1) = m ((c.tc : Thread Cert.InProjCIdeal.nD Cert.InProjCIdeal.τ).loc Cert.InProjCIdeal.main_arg1)) →
    ∃ (v0 : (c : Dev Cert.InProjCIdeal.nD) → Buf (Elt Ideal) ((c.tc : Thread Cert.InProjCIdeal.nD Cert.InProjCIdeal.τ).loc Cert.InProjCIdeal.main_v2)),
      θ_run (Cert.InProjCIdeal.defs (F := Ideal)) (onTc (τ := Cert.InProjCIdeal.τ) (Cert.InProjCIdeal.main (F := Ideal))) ⟨m, fun _ => 0, g⟩ (fun r => ∀ c : Dev Cert.InProjCIdeal.nD,
          r.2.mem ((c.tc : Thread Cert.InProjCIdeal.nD Cert.InProjCIdeal.τ).loc Cert.InProjCIdeal.main_v2) = v0 c
          ∧ r.2.mem ((c.tc : Thread Cert.InProjCIdeal.nD Cert.InProjCIdeal.τ).loc Cert.InProjCIdeal.main_arg0) = m ((c.tc : Thread Cert.InProjCIdeal.nD Cert.InProjCIdeal.τ).loc Cert.InProjCIdeal.main_arg0)
          ∧ r.2.mem ((c.tc : Thread Cert.InProjCIdeal.nD Cert.InProjCIdeal.τ).loc Cert.InProjCIdeal.main_arg1) = m ((c.tc : Thread Cert.InProjCIdeal.nD Cert.InProjCIdeal.τ).loc Cert.InProjCIdeal.main_arg1))
      ∧ θ_run (Cert.InProjCRefIdeal.defs (F := Ideal)) (onTc (τ := Cert.InProjCRefIdeal.τ) (Cert.InProjCRefIdeal.main (F := Ideal))) ⟨m', fun _ => 0, g'⟩ (fun r => ∀ c : Dev Cert.InProjCRefIdeal.nD,
          r.2.mem ((c.tc : Thread Cert.InProjCRefIdeal.nD Cert.InProjCRefIdeal.τ).loc Cert.InProjCRefIdeal.main_v9) = v0 c
          ∧ r.2.mem ((c.tc : Thread Cert.InProjCRefIdeal.nD Cert.InProjCRefIdeal.τ).loc Cert.InProjCRefIdeal.main_arg0) = m' ((c.tc : Thread Cert.InProjCRefIdeal.nD Cert.InProjCRefIdeal.τ).loc Cert.InProjCRefIdeal.main_arg0)
          ∧ r.2.mem ((c.tc : Thread Cert.InProjCRefIdeal.nD Cert.InProjCRefIdeal.τ).loc Cert.InProjCRefIdeal.main_arg1) = m' ((c.tc : Thread Cert.InProjCRefIdeal.nD Cert.InProjCRefIdeal.τ).loc Cert.InProjCRefIdeal.main_arg1))

def preserves_MergeC_MergeCIdeal : Prop :=
  True

def algebraic_MergeCIdeal_MergeCRefIdeal [hMergeCIdeal : Cert.MergeCIdeal.Facts] [hMergeCRefIdeal : Cert.MergeCRefIdeal.Facts] : Prop :=
  ∀ (m : (ℓ : Loc Cert.MergeCIdeal.nD Cert.MergeCIdeal.τ Cert.MergeCIdeal.sig) → Buf (Elt Ideal) ℓ) (g : Dev Cert.MergeCIdeal.nD → PrngReg)
    (m' : (ℓ : Loc Cert.MergeCRefIdeal.nD Cert.MergeCRefIdeal.τ Cert.MergeCRefIdeal.sig) → Buf (Elt Ideal) ℓ) (g' : Dev Cert.MergeCRefIdeal.nD → PrngReg), Pre_MergeCIdeal m →
    (∀ c : Dev Cert.MergeCIdeal.nD,
      m' ((c.tc : Thread Cert.MergeCRefIdeal.nD Cert.MergeCRefIdeal.τ).loc Cert.MergeCRefIdeal.main_arg0) = m ((c.tc : Thread Cert.MergeCIdeal.nD Cert.MergeCIdeal.τ).loc Cert.MergeCIdeal.main_arg0)
      ∧ m' ((c.tc : Thread Cert.MergeCRefIdeal.nD Cert.MergeCRefIdeal.τ).loc Cert.MergeCRefIdeal.main_arg1) = m ((c.tc : Thread Cert.MergeCIdeal.nD Cert.MergeCIdeal.τ).loc Cert.MergeCIdeal.main_arg1)
      ∧ m' ((c.tc : Thread Cert.MergeCRefIdeal.nD Cert.MergeCRefIdeal.τ).loc Cert.MergeCRefIdeal.main_arg2) = m ((c.tc : Thread Cert.MergeCIdeal.nD Cert.MergeCIdeal.τ).loc Cert.MergeCIdeal.main_arg2)
      ∧ m' ((c.tc : Thread Cert.MergeCRefIdeal.nD Cert.MergeCRefIdeal.τ).loc Cert.MergeCRefIdeal.main_arg3) = m ((c.tc : Thread Cert.MergeCIdeal.nD Cert.MergeCIdeal.τ).loc Cert.MergeCIdeal.main_arg3)
      ∧ m' ((c.tc : Thread Cert.MergeCRefIdeal.nD Cert.MergeCRefIdeal.τ).loc Cert.MergeCRefIdeal.main_arg4) = m ((c.tc : Thread Cert.MergeCIdeal.nD Cert.MergeCIdeal.τ).loc Cert.MergeCIdeal.main_arg4)
      ∧ m' ((c.tc : Thread Cert.MergeCRefIdeal.nD Cert.MergeCRefIdeal.τ).loc Cert.MergeCRefIdeal.main_arg5) = m ((c.tc : Thread Cert.MergeCIdeal.nD Cert.MergeCIdeal.τ).loc Cert.MergeCIdeal.main_arg5)) →
    ∃ (v0 : (c : Dev Cert.MergeCIdeal.nD) → Buf (Elt Ideal) ((c.tc : Thread Cert.MergeCIdeal.nD Cert.MergeCIdeal.τ).loc Cert.MergeCIdeal.main_v1)),
      θ_run (Cert.MergeCIdeal.defs (F := Ideal)) (onTc (τ := Cert.MergeCIdeal.τ) (Cert.MergeCIdeal.main (F := Ideal))) ⟨m, fun _ => 0, g⟩ (fun r => ∀ c : Dev Cert.MergeCIdeal.nD,
          r.2.mem ((c.tc : Thread Cert.MergeCIdeal.nD Cert.MergeCIdeal.τ).loc Cert.MergeCIdeal.main_v1) = v0 c
          ∧ r.2.mem ((c.tc : Thread Cert.MergeCIdeal.nD Cert.MergeCIdeal.τ).loc Cert.MergeCIdeal.main_arg0) = m ((c.tc : Thread Cert.MergeCIdeal.nD Cert.MergeCIdeal.τ).loc Cert.MergeCIdeal.main_arg0)
          ∧ r.2.mem ((c.tc : Thread Cert.MergeCIdeal.nD Cert.MergeCIdeal.τ).loc Cert.MergeCIdeal.main_arg1) = m ((c.tc : Thread Cert.MergeCIdeal.nD Cert.MergeCIdeal.τ).loc Cert.MergeCIdeal.main_arg1)
          ∧ r.2.mem ((c.tc : Thread Cert.MergeCIdeal.nD Cert.MergeCIdeal.τ).loc Cert.MergeCIdeal.main_arg2) = m ((c.tc : Thread Cert.MergeCIdeal.nD Cert.MergeCIdeal.τ).loc Cert.MergeCIdeal.main_arg2)
          ∧ r.2.mem ((c.tc : Thread Cert.MergeCIdeal.nD Cert.MergeCIdeal.τ).loc Cert.MergeCIdeal.main_arg3) = m ((c.tc : Thread Cert.MergeCIdeal.nD Cert.MergeCIdeal.τ).loc Cert.MergeCIdeal.main_arg3)
          ∧ r.2.mem ((c.tc : Thread Cert.MergeCIdeal.nD Cert.MergeCIdeal.τ).loc Cert.MergeCIdeal.main_arg4) = m ((c.tc : Thread Cert.MergeCIdeal.nD Cert.MergeCIdeal.τ).loc Cert.MergeCIdeal.main_arg4)
          ∧ r.2.mem ((c.tc : Thread Cert.MergeCIdeal.nD Cert.MergeCIdeal.τ).loc Cert.MergeCIdeal.main_arg5) = m ((c.tc : Thread Cert.MergeCIdeal.nD Cert.MergeCIdeal.τ).loc Cert.MergeCIdeal.main_arg5))
      ∧ θ_run (Cert.MergeCRefIdeal.defs (F := Ideal)) (onTc (τ := Cert.MergeCRefIdeal.τ) (Cert.MergeCRefIdeal.main (F := Ideal))) ⟨m', fun _ => 0, g'⟩ (fun r => ∀ c : Dev Cert.MergeCRefIdeal.nD,
          r.2.mem ((c.tc : Thread Cert.MergeCRefIdeal.nD Cert.MergeCRefIdeal.τ).loc Cert.MergeCRefIdeal.main_v35) = v0 c
          ∧ r.2.mem ((c.tc : Thread Cert.MergeCRefIdeal.nD Cert.MergeCRefIdeal.τ).loc Cert.MergeCRefIdeal.main_arg0) = m' ((c.tc : Thread Cert.MergeCRefIdeal.nD Cert.MergeCRefIdeal.τ).loc Cert.MergeCRefIdeal.main_arg0)
          ∧ r.2.mem ((c.tc : Thread Cert.MergeCRefIdeal.nD Cert.MergeCRefIdeal.τ).loc Cert.MergeCRefIdeal.main_arg1) = m' ((c.tc : Thread Cert.MergeCRefIdeal.nD Cert.MergeCRefIdeal.τ).loc Cert.MergeCRefIdeal.main_arg1)
          ∧ r.2.mem ((c.tc : Thread Cert.MergeCRefIdeal.nD Cert.MergeCRefIdeal.τ).loc Cert.MergeCRefIdeal.main_arg2) = m' ((c.tc : Thread Cert.MergeCRefIdeal.nD Cert.MergeCRefIdeal.τ).loc Cert.MergeCRefIdeal.main_arg2)
          ∧ r.2.mem ((c.tc : Thread Cert.MergeCRefIdeal.nD Cert.MergeCRefIdeal.τ).loc Cert.MergeCRefIdeal.main_arg3) = m' ((c.tc : Thread Cert.MergeCRefIdeal.nD Cert.MergeCRefIdeal.τ).loc Cert.MergeCRefIdeal.main_arg3)
          ∧ r.2.mem ((c.tc : Thread Cert.MergeCRefIdeal.nD Cert.MergeCRefIdeal.τ).loc Cert.MergeCRefIdeal.main_arg4) = m' ((c.tc : Thread Cert.MergeCRefIdeal.nD Cert.MergeCRefIdeal.τ).loc Cert.MergeCRefIdeal.main_arg4)
          ∧ r.2.mem ((c.tc : Thread Cert.MergeCRefIdeal.nD Cert.MergeCRefIdeal.τ).loc Cert.MergeCRefIdeal.main_arg5) = m' ((c.tc : Thread Cert.MergeCRefIdeal.nD Cert.MergeCRefIdeal.τ).loc Cert.MergeCRefIdeal.main_arg5))

def preserves_OutProjC_OutProjCIdeal : Prop :=
  IdealRules.named_const.Statement Cert.OutProjCIdeal.κ "alpha" .f32 0x3FB504F3#32 ((Real.sqrt 2 : ℝ) : EReal)
  ∧ IdealRules.named_const.Statement Cert.OutProjCIdeal.κ "mask" .f32 0xF149F2CA#32 ⊥

def algebraic_OutProjCIdeal_OutProjCRefIdeal [hOutProjCIdeal : Cert.OutProjCIdeal.Facts] [hOutProjCRefIdeal : Cert.OutProjCRefIdeal.Facts] : Prop :=
  ∀ (m : (ℓ : Loc Cert.OutProjCIdeal.nD Cert.OutProjCIdeal.τ Cert.OutProjCIdeal.sig) → Buf (Elt Ideal) ℓ) (g : Dev Cert.OutProjCIdeal.nD → PrngReg)
    (m' : (ℓ : Loc Cert.OutProjCRefIdeal.nD Cert.OutProjCRefIdeal.τ Cert.OutProjCRefIdeal.sig) → Buf (Elt Ideal) ℓ) (g' : Dev Cert.OutProjCRefIdeal.nD → PrngReg), Pre_OutProjCIdeal m →
    (∀ c : Dev Cert.OutProjCIdeal.nD,
      m' ((c.tc : Thread Cert.OutProjCRefIdeal.nD Cert.OutProjCRefIdeal.τ).loc Cert.OutProjCRefIdeal.main_arg0) = m ((c.tc : Thread Cert.OutProjCIdeal.nD Cert.OutProjCIdeal.τ).loc Cert.OutProjCIdeal.main_arg0)
      ∧ m' ((c.tc : Thread Cert.OutProjCRefIdeal.nD Cert.OutProjCRefIdeal.τ).loc Cert.OutProjCRefIdeal.main_arg1) = m ((c.tc : Thread Cert.OutProjCIdeal.nD Cert.OutProjCIdeal.τ).loc Cert.OutProjCIdeal.main_arg1)
      ∧ m' ((c.tc : Thread Cert.OutProjCRefIdeal.nD Cert.OutProjCRefIdeal.τ).loc Cert.OutProjCRefIdeal.main_arg2) = m ((c.tc : Thread Cert.OutProjCIdeal.nD Cert.OutProjCIdeal.τ).loc Cert.OutProjCIdeal.main_arg2)
      ∧ m' ((c.tc : Thread Cert.OutProjCRefIdeal.nD Cert.OutProjCRefIdeal.τ).loc Cert.OutProjCRefIdeal.main_arg3) = m ((c.tc : Thread Cert.OutProjCIdeal.nD Cert.OutProjCIdeal.τ).loc Cert.OutProjCIdeal.main_arg3)
      ∧ m' ((c.tc : Thread Cert.OutProjCRefIdeal.nD Cert.OutProjCRefIdeal.τ).loc Cert.OutProjCRefIdeal.main_arg4) = m ((c.tc : Thread Cert.OutProjCIdeal.nD Cert.OutProjCIdeal.τ).loc Cert.OutProjCIdeal.main_arg4)
      ∧ m' ((c.tc : Thread Cert.OutProjCRefIdeal.nD Cert.OutProjCRefIdeal.τ).loc Cert.OutProjCRefIdeal.main_arg5) = m ((c.tc : Thread Cert.OutProjCIdeal.nD Cert.OutProjCIdeal.τ).loc Cert.OutProjCIdeal.main_arg5)
      ∧ m' ((c.tc : Thread Cert.OutProjCRefIdeal.nD Cert.OutProjCRefIdeal.τ).loc Cert.OutProjCRefIdeal.main_arg6) = m ((c.tc : Thread Cert.OutProjCIdeal.nD Cert.OutProjCIdeal.τ).loc Cert.OutProjCIdeal.main_arg6)
      ∧ m' ((c.tc : Thread Cert.OutProjCRefIdeal.nD Cert.OutProjCRefIdeal.τ).loc Cert.OutProjCRefIdeal.main_arg7) = m ((c.tc : Thread Cert.OutProjCIdeal.nD Cert.OutProjCIdeal.τ).loc Cert.OutProjCIdeal.main_arg7)
      ∧ m' ((c.tc : Thread Cert.OutProjCRefIdeal.nD Cert.OutProjCRefIdeal.τ).loc Cert.OutProjCRefIdeal.main_arg8) = m ((c.tc : Thread Cert.OutProjCIdeal.nD Cert.OutProjCIdeal.τ).loc Cert.OutProjCIdeal.main_arg8)) →
    ∃ (v0 : (c : Dev Cert.OutProjCIdeal.nD) → Buf (Elt Ideal) ((c.tc : Thread Cert.OutProjCIdeal.nD Cert.OutProjCIdeal.τ).loc Cert.OutProjCIdeal.main_v5_0)) (v1 : (c : Dev Cert.OutProjCIdeal.nD) → Buf (Elt Ideal) ((c.tc : Thread Cert.OutProjCIdeal.nD Cert.OutProjCIdeal.τ).loc Cert.OutProjCIdeal.main_v5_1)) (v2 : (c : Dev Cert.OutProjCIdeal.nD) → Buf (Elt Ideal) ((c.tc : Thread Cert.OutProjCIdeal.nD Cert.OutProjCIdeal.τ).loc Cert.OutProjCIdeal.main_v5_2)),
      θ_run (Cert.OutProjCIdeal.defs (F := Ideal)) (onTc (τ := Cert.OutProjCIdeal.τ) (Cert.OutProjCIdeal.main (F := Ideal))) ⟨m, fun _ => 0, g⟩ (fun r => ∀ c : Dev Cert.OutProjCIdeal.nD,
          r.2.mem ((c.tc : Thread Cert.OutProjCIdeal.nD Cert.OutProjCIdeal.τ).loc Cert.OutProjCIdeal.main_v5_0) = v0 c
          ∧ r.2.mem ((c.tc : Thread Cert.OutProjCIdeal.nD Cert.OutProjCIdeal.τ).loc Cert.OutProjCIdeal.main_v5_1) = v1 c
          ∧ r.2.mem ((c.tc : Thread Cert.OutProjCIdeal.nD Cert.OutProjCIdeal.τ).loc Cert.OutProjCIdeal.main_v5_2) = v2 c
          ∧ r.2.mem ((c.tc : Thread Cert.OutProjCIdeal.nD Cert.OutProjCIdeal.τ).loc Cert.OutProjCIdeal.main_arg0) = m ((c.tc : Thread Cert.OutProjCIdeal.nD Cert.OutProjCIdeal.τ).loc Cert.OutProjCIdeal.main_arg0)
          ∧ r.2.mem ((c.tc : Thread Cert.OutProjCIdeal.nD Cert.OutProjCIdeal.τ).loc Cert.OutProjCIdeal.main_arg1) = m ((c.tc : Thread Cert.OutProjCIdeal.nD Cert.OutProjCIdeal.τ).loc Cert.OutProjCIdeal.main_arg1)
          ∧ r.2.mem ((c.tc : Thread Cert.OutProjCIdeal.nD Cert.OutProjCIdeal.τ).loc Cert.OutProjCIdeal.main_arg2) = m ((c.tc : Thread Cert.OutProjCIdeal.nD Cert.OutProjCIdeal.τ).loc Cert.OutProjCIdeal.main_arg2)
          ∧ r.2.mem ((c.tc : Thread Cert.OutProjCIdeal.nD Cert.OutProjCIdeal.τ).loc Cert.OutProjCIdeal.main_arg3) = m ((c.tc : Thread Cert.OutProjCIdeal.nD Cert.OutProjCIdeal.τ).loc Cert.OutProjCIdeal.main_arg3)
          ∧ r.2.mem ((c.tc : Thread Cert.OutProjCIdeal.nD Cert.OutProjCIdeal.τ).loc Cert.OutProjCIdeal.main_arg4) = m ((c.tc : Thread Cert.OutProjCIdeal.nD Cert.OutProjCIdeal.τ).loc Cert.OutProjCIdeal.main_arg4)
          ∧ r.2.mem ((c.tc : Thread Cert.OutProjCIdeal.nD Cert.OutProjCIdeal.τ).loc Cert.OutProjCIdeal.main_arg5) = m ((c.tc : Thread Cert.OutProjCIdeal.nD Cert.OutProjCIdeal.τ).loc Cert.OutProjCIdeal.main_arg5)
          ∧ r.2.mem ((c.tc : Thread Cert.OutProjCIdeal.nD Cert.OutProjCIdeal.τ).loc Cert.OutProjCIdeal.main_arg6) = m ((c.tc : Thread Cert.OutProjCIdeal.nD Cert.OutProjCIdeal.τ).loc Cert.OutProjCIdeal.main_arg6)
          ∧ r.2.mem ((c.tc : Thread Cert.OutProjCIdeal.nD Cert.OutProjCIdeal.τ).loc Cert.OutProjCIdeal.main_arg7) = m ((c.tc : Thread Cert.OutProjCIdeal.nD Cert.OutProjCIdeal.τ).loc Cert.OutProjCIdeal.main_arg7)
          ∧ r.2.mem ((c.tc : Thread Cert.OutProjCIdeal.nD Cert.OutProjCIdeal.τ).loc Cert.OutProjCIdeal.main_arg8) = m ((c.tc : Thread Cert.OutProjCIdeal.nD Cert.OutProjCIdeal.τ).loc Cert.OutProjCIdeal.main_arg8))
      ∧ θ_run (Cert.OutProjCRefIdeal.defs (F := Ideal)) (onTc (τ := Cert.OutProjCRefIdeal.τ) (Cert.OutProjCRefIdeal.main (F := Ideal))) ⟨m', fun _ => 0, g'⟩ (fun r => ∀ c : Dev Cert.OutProjCRefIdeal.nD,
          r.2.mem ((c.tc : Thread Cert.OutProjCRefIdeal.nD Cert.OutProjCRefIdeal.τ).loc Cert.OutProjCRefIdeal.main_v34) = v0 c
          ∧ r.2.mem ((c.tc : Thread Cert.OutProjCRefIdeal.nD Cert.OutProjCRefIdeal.τ).loc Cert.OutProjCRefIdeal.main_v55) = v1 c
          ∧ r.2.mem ((c.tc : Thread Cert.OutProjCRefIdeal.nD Cert.OutProjCRefIdeal.τ).loc Cert.OutProjCRefIdeal.main_v56) = v2 c
          ∧ r.2.mem ((c.tc : Thread Cert.OutProjCRefIdeal.nD Cert.OutProjCRefIdeal.τ).loc Cert.OutProjCRefIdeal.main_arg0) = m' ((c.tc : Thread Cert.OutProjCRefIdeal.nD Cert.OutProjCRefIdeal.τ).loc Cert.OutProjCRefIdeal.main_arg0)
          ∧ r.2.mem ((c.tc : Thread Cert.OutProjCRefIdeal.nD Cert.OutProjCRefIdeal.τ).loc Cert.OutProjCRefIdeal.main_arg1) = m' ((c.tc : Thread Cert.OutProjCRefIdeal.nD Cert.OutProjCRefIdeal.τ).loc Cert.OutProjCRefIdeal.main_arg1)
          ∧ r.2.mem ((c.tc : Thread Cert.OutProjCRefIdeal.nD Cert.OutProjCRefIdeal.τ).loc Cert.OutProjCRefIdeal.main_arg2) = m' ((c.tc : Thread Cert.OutProjCRefIdeal.nD Cert.OutProjCRefIdeal.τ).loc Cert.OutProjCRefIdeal.main_arg2)
          ∧ r.2.mem ((c.tc : Thread Cert.OutProjCRefIdeal.nD Cert.OutProjCRefIdeal.τ).loc Cert.OutProjCRefIdeal.main_arg3) = m' ((c.tc : Thread Cert.OutProjCRefIdeal.nD Cert.OutProjCRefIdeal.τ).loc Cert.OutProjCRefIdeal.main_arg3)
          ∧ r.2.mem ((c.tc : Thread Cert.OutProjCRefIdeal.nD Cert.OutProjCRefIdeal.τ).loc Cert.OutProjCRefIdeal.main_arg4) = m' ((c.tc : Thread Cert.OutProjCRefIdeal.nD Cert.OutProjCRefIdeal.τ).loc Cert.OutProjCRefIdeal.main_arg4)
          ∧ r.2.mem ((c.tc : Thread Cert.OutProjCRefIdeal.nD Cert.OutProjCRefIdeal.τ).loc Cert.OutProjCRefIdeal.main_arg5) = m' ((c.tc : Thread Cert.OutProjCRefIdeal.nD Cert.OutProjCRefIdeal.τ).loc Cert.OutProjCRefIdeal.main_arg5)
          ∧ r.2.mem ((c.tc : Thread Cert.OutProjCRefIdeal.nD Cert.OutProjCRefIdeal.τ).loc Cert.OutProjCRefIdeal.main_arg6) = m' ((c.tc : Thread Cert.OutProjCRefIdeal.nD Cert.OutProjCRefIdeal.τ).loc Cert.OutProjCRefIdeal.main_arg6)
          ∧ r.2.mem ((c.tc : Thread Cert.OutProjCRefIdeal.nD Cert.OutProjCRefIdeal.τ).loc Cert.OutProjCRefIdeal.main_arg7) = m' ((c.tc : Thread Cert.OutProjCRefIdeal.nD Cert.OutProjCRefIdeal.τ).loc Cert.OutProjCRefIdeal.main_arg7)
          ∧ r.2.mem ((c.tc : Thread Cert.OutProjCRefIdeal.nD Cert.OutProjCRefIdeal.τ).loc Cert.OutProjCRefIdeal.main_arg8) = m' ((c.tc : Thread Cert.OutProjCRefIdeal.nD Cert.OutProjCRefIdeal.τ).loc Cert.OutProjCRefIdeal.main_arg8))

def preserves_InProjD_InProjDIdeal : Prop :=
  True

def algebraic_InProjDIdeal_InProjDRefIdeal [hInProjDIdeal : Cert.InProjDIdeal.Facts] [hInProjDRefIdeal : Cert.InProjDRefIdeal.Facts] : Prop :=
  ∀ (m : (ℓ : Loc Cert.InProjDIdeal.nD Cert.InProjDIdeal.τ Cert.InProjDIdeal.sig) → Buf (Elt Ideal) ℓ) (g : Dev Cert.InProjDIdeal.nD → PrngReg)
    (m' : (ℓ : Loc Cert.InProjDRefIdeal.nD Cert.InProjDRefIdeal.τ Cert.InProjDRefIdeal.sig) → Buf (Elt Ideal) ℓ) (g' : Dev Cert.InProjDRefIdeal.nD → PrngReg), Pre_InProjDIdeal m →
    (∀ c : Dev Cert.InProjDIdeal.nD,
      m' ((c.tc : Thread Cert.InProjDRefIdeal.nD Cert.InProjDRefIdeal.τ).loc Cert.InProjDRefIdeal.main_arg0) = m ((c.tc : Thread Cert.InProjDIdeal.nD Cert.InProjDIdeal.τ).loc Cert.InProjDIdeal.main_arg0)
      ∧ m' ((c.tc : Thread Cert.InProjDRefIdeal.nD Cert.InProjDRefIdeal.τ).loc Cert.InProjDRefIdeal.main_arg1) = m ((c.tc : Thread Cert.InProjDIdeal.nD Cert.InProjDIdeal.τ).loc Cert.InProjDIdeal.main_arg1)) →
    ∃ (v0 : (c : Dev Cert.InProjDIdeal.nD) → Buf (Elt Ideal) ((c.tc : Thread Cert.InProjDIdeal.nD Cert.InProjDIdeal.τ).loc Cert.InProjDIdeal.main_v2)),
      θ_run (Cert.InProjDIdeal.defs (F := Ideal)) (onTc (τ := Cert.InProjDIdeal.τ) (Cert.InProjDIdeal.main (F := Ideal))) ⟨m, fun _ => 0, g⟩ (fun r => ∀ c : Dev Cert.InProjDIdeal.nD,
          r.2.mem ((c.tc : Thread Cert.InProjDIdeal.nD Cert.InProjDIdeal.τ).loc Cert.InProjDIdeal.main_v2) = v0 c
          ∧ r.2.mem ((c.tc : Thread Cert.InProjDIdeal.nD Cert.InProjDIdeal.τ).loc Cert.InProjDIdeal.main_arg0) = m ((c.tc : Thread Cert.InProjDIdeal.nD Cert.InProjDIdeal.τ).loc Cert.InProjDIdeal.main_arg0)
          ∧ r.2.mem ((c.tc : Thread Cert.InProjDIdeal.nD Cert.InProjDIdeal.τ).loc Cert.InProjDIdeal.main_arg1) = m ((c.tc : Thread Cert.InProjDIdeal.nD Cert.InProjDIdeal.τ).loc Cert.InProjDIdeal.main_arg1))
      ∧ θ_run (Cert.InProjDRefIdeal.defs (F := Ideal)) (onTc (τ := Cert.InProjDRefIdeal.τ) (Cert.InProjDRefIdeal.main (F := Ideal))) ⟨m', fun _ => 0, g'⟩ (fun r => ∀ c : Dev Cert.InProjDRefIdeal.nD,
          r.2.mem ((c.tc : Thread Cert.InProjDRefIdeal.nD Cert.InProjDRefIdeal.τ).loc Cert.InProjDRefIdeal.main_v4) = v0 c
          ∧ r.2.mem ((c.tc : Thread Cert.InProjDRefIdeal.nD Cert.InProjDRefIdeal.τ).loc Cert.InProjDRefIdeal.main_arg0) = m' ((c.tc : Thread Cert.InProjDRefIdeal.nD Cert.InProjDRefIdeal.τ).loc Cert.InProjDRefIdeal.main_arg0)
          ∧ r.2.mem ((c.tc : Thread Cert.InProjDRefIdeal.nD Cert.InProjDRefIdeal.τ).loc Cert.InProjDRefIdeal.main_arg1) = m' ((c.tc : Thread Cert.InProjDRefIdeal.nD Cert.InProjDRefIdeal.τ).loc Cert.InProjDRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)
      ∧ m' ((c.tc : Thread Cert.GluRefIdeal.nD Cert.GluRefIdeal.τ).loc Cert.GluRefIdeal.main_arg3) = m ((c.tc : Thread Cert.GluIdeal.nD Cert.GluIdeal.τ).loc Cert.GluIdeal.main_arg3)
      ∧ m' ((c.tc : Thread Cert.GluRefIdeal.nD Cert.GluRefIdeal.τ).loc Cert.GluRefIdeal.main_arg4) = m ((c.tc : Thread Cert.GluIdeal.nD Cert.GluIdeal.τ).loc Cert.GluIdeal.main_arg4)) →
    ∃ (v0 : (c : Dev Cert.GluIdeal.nD) → Buf (Elt Ideal) ((c.tc : Thread Cert.GluIdeal.nD Cert.GluIdeal.τ).loc Cert.GluIdeal.main_v3)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v3) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2)
          ∧ r.2.mem ((c.tc : Thread Cert.GluIdeal.nD Cert.GluIdeal.τ).loc Cert.GluIdeal.main_arg3) = m ((c.tc : Thread Cert.GluIdeal.nD Cert.GluIdeal.τ).loc Cert.GluIdeal.main_arg3)
          ∧ r.2.mem ((c.tc : Thread Cert.GluIdeal.nD Cert.GluIdeal.τ).loc Cert.GluIdeal.main_arg4) = m ((c.tc : Thread Cert.GluIdeal.nD Cert.GluIdeal.τ).loc Cert.GluIdeal.main_arg4))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v31) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2)
          ∧ r.2.mem ((c.tc : Thread Cert.GluRefIdeal.nD Cert.GluRefIdeal.τ).loc Cert.GluRefIdeal.main_arg3) = m' ((c.tc : Thread Cert.GluRefIdeal.nD Cert.GluRefIdeal.τ).loc Cert.GluRefIdeal.main_arg3)
          ∧ r.2.mem ((c.tc : Thread Cert.GluRefIdeal.nD Cert.GluRefIdeal.τ).loc Cert.GluRefIdeal.main_arg4) = m' ((c.tc : Thread Cert.GluRefIdeal.nD Cert.GluRefIdeal.τ).loc Cert.GluRefIdeal.main_arg4))

def preserves_GluB_GluBIdeal : Prop :=
  True

def algebraic_GluBIdeal_GluBRefIdeal [hGluBIdeal : Cert.GluBIdeal.Facts] [hGluBRefIdeal : Cert.GluBRefIdeal.Facts] : Prop :=
  ∀ (m : (ℓ : Loc Cert.GluBIdeal.nD Cert.GluBIdeal.τ Cert.GluBIdeal.sig) → Buf (Elt Ideal) ℓ) (g : Dev Cert.GluBIdeal.nD → PrngReg)
    (m' : (ℓ : Loc Cert.GluBRefIdeal.nD Cert.GluBRefIdeal.τ Cert.GluBRefIdeal.sig) → Buf (Elt Ideal) ℓ) (g' : Dev Cert.GluBRefIdeal.nD → PrngReg), Pre_GluBIdeal m →
    (∀ c : Dev Cert.GluBIdeal.nD,
      m' ((c.tc : Thread Cert.GluBRefIdeal.nD Cert.GluBRefIdeal.τ).loc Cert.GluBRefIdeal.main_arg0) = m ((c.tc : Thread Cert.GluBIdeal.nD Cert.GluBIdeal.τ).loc Cert.GluBIdeal.main_arg0)
      ∧ m' ((c.tc : Thread Cert.GluBRefIdeal.nD Cert.GluBRefIdeal.τ).loc Cert.GluBRefIdeal.main_arg1) = m ((c.tc : Thread Cert.GluBIdeal.nD Cert.GluBIdeal.τ).loc Cert.GluBIdeal.main_arg1)
      ∧ m' ((c.tc : Thread Cert.GluBRefIdeal.nD Cert.GluBRefIdeal.τ).loc Cert.GluBRefIdeal.main_arg2) = m ((c.tc : Thread Cert.GluBIdeal.nD Cert.GluBIdeal.τ).loc Cert.GluBIdeal.main_arg2)
      ∧ m' ((c.tc : Thread Cert.GluBRefIdeal.nD Cert.GluBRefIdeal.τ).loc Cert.GluBRefIdeal.main_arg3) = m ((c.tc : Thread Cert.GluBIdeal.nD Cert.GluBIdeal.τ).loc Cert.GluBIdeal.main_arg3)
      ∧ m' ((c.tc : Thread Cert.GluBRefIdeal.nD Cert.GluBRefIdeal.τ).loc Cert.GluBRefIdeal.main_arg4) = m ((c.tc : Thread Cert.GluBIdeal.nD Cert.GluBIdeal.τ).loc Cert.GluBIdeal.main_arg4)) →
    ∃ (v0 : (c : Dev Cert.GluBIdeal.nD) → Buf (Elt Ideal) ((c.tc : Thread Cert.GluBIdeal.nD Cert.GluBIdeal.τ).loc Cert.GluBIdeal.main_v3)),
      θ_run (Cert.GluBIdeal.defs (F := Ideal)) (onTc (τ := Cert.GluBIdeal.τ) (Cert.GluBIdeal.main (F := Ideal))) ⟨m, fun _ => 0, g⟩ (fun r => ∀ c : Dev Cert.GluBIdeal.nD,
          r.2.mem ((c.tc : Thread Cert.GluBIdeal.nD Cert.GluBIdeal.τ).loc Cert.GluBIdeal.main_v3) = v0 c
          ∧ r.2.mem ((c.tc : Thread Cert.GluBIdeal.nD Cert.GluBIdeal.τ).loc Cert.GluBIdeal.main_arg0) = m ((c.tc : Thread Cert.GluBIdeal.nD Cert.GluBIdeal.τ).loc Cert.GluBIdeal.main_arg0)
          ∧ r.2.mem ((c.tc : Thread Cert.GluBIdeal.nD Cert.GluBIdeal.τ).loc Cert.GluBIdeal.main_arg1) = m ((c.tc : Thread Cert.GluBIdeal.nD Cert.GluBIdeal.τ).loc Cert.GluBIdeal.main_arg1)
          ∧ r.2.mem ((c.tc : Thread Cert.GluBIdeal.nD Cert.GluBIdeal.τ).loc Cert.GluBIdeal.main_arg2) = m ((c.tc : Thread Cert.GluBIdeal.nD Cert.GluBIdeal.τ).loc Cert.GluBIdeal.main_arg2)
          ∧ r.2.mem ((c.tc : Thread Cert.GluBIdeal.nD Cert.GluBIdeal.τ).loc Cert.GluBIdeal.main_arg3) = m ((c.tc : Thread Cert.GluBIdeal.nD Cert.GluBIdeal.τ).loc Cert.GluBIdeal.main_arg3)
          ∧ r.2.mem ((c.tc : Thread Cert.GluBIdeal.nD Cert.GluBIdeal.τ).loc Cert.GluBIdeal.main_arg4) = m ((c.tc : Thread Cert.GluBIdeal.nD Cert.GluBIdeal.τ).loc Cert.GluBIdeal.main_arg4))
      ∧ θ_run (Cert.GluBRefIdeal.defs (F := Ideal)) (onTc (τ := Cert.GluBRefIdeal.τ) (Cert.GluBRefIdeal.main (F := Ideal))) ⟨m', fun _ => 0, g'⟩ (fun r => ∀ c : Dev Cert.GluBRefIdeal.nD,
          r.2.mem ((c.tc : Thread Cert.GluBRefIdeal.nD Cert.GluBRefIdeal.τ).loc Cert.GluBRefIdeal.main_v31) = v0 c
          ∧ r.2.mem ((c.tc : Thread Cert.GluBRefIdeal.nD Cert.GluBRefIdeal.τ).loc Cert.GluBRefIdeal.main_arg0) = m' ((c.tc : Thread Cert.GluBRefIdeal.nD Cert.GluBRefIdeal.τ).loc Cert.GluBRefIdeal.main_arg0)
          ∧ r.2.mem ((c.tc : Thread Cert.GluBRefIdeal.nD Cert.GluBRefIdeal.τ).loc Cert.GluBRefIdeal.main_arg1) = m' ((c.tc : Thread Cert.GluBRefIdeal.nD Cert.GluBRefIdeal.τ).loc Cert.GluBRefIdeal.main_arg1)
          ∧ r.2.mem ((c.tc : Thread Cert.GluBRefIdeal.nD Cert.GluBRefIdeal.τ).loc Cert.GluBRefIdeal.main_arg2) = m' ((c.tc : Thread Cert.GluBRefIdeal.nD Cert.GluBRefIdeal.τ).loc Cert.GluBRefIdeal.main_arg2)
          ∧ r.2.mem ((c.tc : Thread Cert.GluBRefIdeal.nD Cert.GluBRefIdeal.τ).loc Cert.GluBRefIdeal.main_arg3) = m' ((c.tc : Thread Cert.GluBRefIdeal.nD Cert.GluBRefIdeal.τ).loc Cert.GluBRefIdeal.main_arg3)
          ∧ r.2.mem ((c.tc : Thread Cert.GluBRefIdeal.nD Cert.GluBRefIdeal.τ).loc Cert.GluBRefIdeal.main_arg4) = m' ((c.tc : Thread Cert.GluBRefIdeal.nD Cert.GluBRefIdeal.τ).loc Cert.GluBRefIdeal.main_arg4))

def preserves_GluC_GluCIdeal : Prop :=
  True

def algebraic_GluCIdeal_GluCRefIdeal [hGluCIdeal : Cert.GluCIdeal.Facts] [hGluCRefIdeal : Cert.GluCRefIdeal.Facts] : Prop :=
  ∀ (m : (ℓ : Loc Cert.GluCIdeal.nD Cert.GluCIdeal.τ Cert.GluCIdeal.sig) → Buf (Elt Ideal) ℓ) (g : Dev Cert.GluCIdeal.nD → PrngReg)
    (m' : (ℓ : Loc Cert.GluCRefIdeal.nD Cert.GluCRefIdeal.τ Cert.GluCRefIdeal.sig) → Buf (Elt Ideal) ℓ) (g' : Dev Cert.GluCRefIdeal.nD → PrngReg), Pre_GluCIdeal m →
    (∀ c : Dev Cert.GluCIdeal.nD,
      m' ((c.tc : Thread Cert.GluCRefIdeal.nD Cert.GluCRefIdeal.τ).loc Cert.GluCRefIdeal.main_arg0) = m ((c.tc : Thread Cert.GluCIdeal.nD Cert.GluCIdeal.τ).loc Cert.GluCIdeal.main_arg0)
      ∧ m' ((c.tc : Thread Cert.GluCRefIdeal.nD Cert.GluCRefIdeal.τ).loc Cert.GluCRefIdeal.main_arg1) = m ((c.tc : Thread Cert.GluCIdeal.nD Cert.GluCIdeal.τ).loc Cert.GluCIdeal.main_arg1)
      ∧ m' ((c.tc : Thread Cert.GluCRefIdeal.nD Cert.GluCRefIdeal.τ).loc Cert.GluCRefIdeal.main_arg2) = m ((c.tc : Thread Cert.GluCIdeal.nD Cert.GluCIdeal.τ).loc Cert.GluCIdeal.main_arg2)
      ∧ m' ((c.tc : Thread Cert.GluCRefIdeal.nD Cert.GluCRefIdeal.τ).loc Cert.GluCRefIdeal.main_arg3) = m ((c.tc : Thread Cert.GluCIdeal.nD Cert.GluCIdeal.τ).loc Cert.GluCIdeal.main_arg3)
      ∧ m' ((c.tc : Thread Cert.GluCRefIdeal.nD Cert.GluCRefIdeal.τ).loc Cert.GluCRefIdeal.main_arg4) = m ((c.tc : Thread Cert.GluCIdeal.nD Cert.GluCIdeal.τ).loc Cert.GluCIdeal.main_arg4)) →
    ∃ (v0 : (c : Dev Cert.GluCIdeal.nD) → Buf (Elt Ideal) ((c.tc : Thread Cert.GluCIdeal.nD Cert.GluCIdeal.τ).loc Cert.GluCIdeal.main_v3)),
      θ_run (Cert.GluCIdeal.defs (F := Ideal)) (onTc (τ := Cert.GluCIdeal.τ) (Cert.GluCIdeal.main (F := Ideal))) ⟨m, fun _ => 0, g⟩ (fun r => ∀ c : Dev Cert.GluCIdeal.nD,
          r.2.mem ((c.tc : Thread Cert.GluCIdeal.nD Cert.GluCIdeal.τ).loc Cert.GluCIdeal.main_v3) = v0 c
          ∧ r.2.mem ((c.tc : Thread Cert.GluCIdeal.nD Cert.GluCIdeal.τ).loc Cert.GluCIdeal.main_arg0) = m ((c.tc : Thread Cert.GluCIdeal.nD Cert.GluCIdeal.τ).loc Cert.GluCIdeal.main_arg0)
          ∧ r.2.mem ((c.tc : Thread Cert.GluCIdeal.nD Cert.GluCIdeal.τ).loc Cert.GluCIdeal.main_arg1) = m ((c.tc : Thread Cert.GluCIdeal.nD Cert.GluCIdeal.τ).loc Cert.GluCIdeal.main_arg1)
          ∧ r.2.mem ((c.tc : Thread Cert.GluCIdeal.nD Cert.GluCIdeal.τ).loc Cert.GluCIdeal.main_arg2) = m ((c.tc : Thread Cert.GluCIdeal.nD Cert.GluCIdeal.τ).loc Cert.GluCIdeal.main_arg2)
          ∧ r.2.mem ((c.tc : Thread Cert.GluCIdeal.nD Cert.GluCIdeal.τ).loc Cert.GluCIdeal.main_arg3) = m ((c.tc : Thread Cert.GluCIdeal.nD Cert.GluCIdeal.τ).loc Cert.GluCIdeal.main_arg3)
          ∧ r.2.mem ((c.tc : Thread Cert.GluCIdeal.nD Cert.GluCIdeal.τ).loc Cert.GluCIdeal.main_arg4) = m ((c.tc : Thread Cert.GluCIdeal.nD Cert.GluCIdeal.τ).loc Cert.GluCIdeal.main_arg4))
      ∧ θ_run (Cert.GluCRefIdeal.defs (F := Ideal)) (onTc (τ := Cert.GluCRefIdeal.τ) (Cert.GluCRefIdeal.main (F := Ideal))) ⟨m', fun _ => 0, g'⟩ (fun r => ∀ c : Dev Cert.GluCRefIdeal.nD,
          r.2.mem ((c.tc : Thread Cert.GluCRefIdeal.nD Cert.GluCRefIdeal.τ).loc Cert.GluCRefIdeal.main_v31) = v0 c
          ∧ r.2.mem ((c.tc : Thread Cert.GluCRefIdeal.nD Cert.GluCRefIdeal.τ).loc Cert.GluCRefIdeal.main_arg0) = m' ((c.tc : Thread Cert.GluCRefIdeal.nD Cert.GluCRefIdeal.τ).loc Cert.GluCRefIdeal.main_arg0)
          ∧ r.2.mem ((c.tc : Thread Cert.GluCRefIdeal.nD Cert.GluCRefIdeal.τ).loc Cert.GluCRefIdeal.main_arg1) = m' ((c.tc : Thread Cert.GluCRefIdeal.nD Cert.GluCRefIdeal.τ).loc Cert.GluCRefIdeal.main_arg1)
          ∧ r.2.mem ((c.tc : Thread Cert.GluCRefIdeal.nD Cert.GluCRefIdeal.τ).loc Cert.GluCRefIdeal.main_arg2) = m' ((c.tc : Thread Cert.GluCRefIdeal.nD Cert.GluCRefIdeal.τ).loc Cert.GluCRefIdeal.main_arg2)
          ∧ r.2.mem ((c.tc : Thread Cert.GluCRefIdeal.nD Cert.GluCRefIdeal.τ).loc Cert.GluCRefIdeal.main_arg3) = m' ((c.tc : Thread Cert.GluCRefIdeal.nD Cert.GluCRefIdeal.τ).loc Cert.GluCRefIdeal.main_arg3)
          ∧ r.2.mem ((c.tc : Thread Cert.GluCRefIdeal.nD Cert.GluCRefIdeal.τ).loc Cert.GluCRefIdeal.main_arg4) = m' ((c.tc : Thread Cert.GluCRefIdeal.nD Cert.GluCRefIdeal.τ).loc Cert.GluCRefIdeal.main_arg4))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hInProjB : Cert.InProjB.Facts) (hInProjBIdeal : Cert.InProjBIdeal.Facts) (hInProjBRefIdeal : Cert.InProjBRefIdeal.Facts) (hMergeB : Cert.MergeB.Facts) (hMergeBIdeal : Cert.MergeBIdeal.Facts) (hMergeBRefIdeal : Cert.MergeBRefIdeal.Facts) (hOutProj : Cert.OutProj.Facts) (hOutProjIdeal : Cert.OutProjIdeal.Facts) (hOutProjRefIdeal : Cert.OutProjRefIdeal.Facts) (hOutProjB : Cert.OutProjB.Facts) (hOutProjBIdeal : Cert.OutProjBIdeal.Facts) (hOutProjBRefIdeal : Cert.OutProjBRefIdeal.Facts) (hInProjC : Cert.InProjC.Facts) (hInProjCIdeal : Cert.InProjCIdeal.Facts) (hInProjCRefIdeal : Cert.InProjCRefIdeal.Facts) (hMergeC : Cert.MergeC.Facts) (hMergeCIdeal : Cert.MergeCIdeal.Facts) (hMergeCRefIdeal : Cert.MergeCRefIdeal.Facts) (hOutProjC : Cert.OutProjC.Facts) (hOutProjCIdeal : Cert.OutProjCIdeal.Facts) (hOutProjCRefIdeal : Cert.OutProjCRefIdeal.Facts) (hInProjD : Cert.InProjD.Facts) (hInProjDIdeal : Cert.InProjDIdeal.Facts) (hInProjDRefIdeal : Cert.InProjDRefIdeal.Facts) (hGlu : Cert.Glu.Facts) (hGluIdeal : Cert.GluIdeal.Facts) (hGluRefIdeal : Cert.GluRefIdeal.Facts) (hGluB : Cert.GluB.Facts) (hGluBIdeal : Cert.GluBIdeal.Facts) (hGluBRefIdeal : Cert.GluBRefIdeal.Facts) (hGluC : Cert.GluC.Facts) (hGluCIdeal : Cert.GluCIdeal.Facts) (hGluCRefIdeal : Cert.GluCRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_InProjB (hInProjB := hInProjB)
    ∧ quiescent_InProjBIdeal (hInProjBIdeal := hInProjBIdeal)
    ∧ quiescent_InProjBRefIdeal (hInProjBRefIdeal := hInProjBRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_OutProjB (hOutProjB := hOutProjB)
    ∧ quiescent_OutProjBIdeal (hOutProjBIdeal := hOutProjBIdeal)
    ∧ quiescent_OutProjBRefIdeal (hOutProjBRefIdeal := hOutProjBRefIdeal)
    ∧ quiescent_InProjC (hInProjC := hInProjC)
    ∧ quiescent_InProjCIdeal (hInProjCIdeal := hInProjCIdeal)
    ∧ quiescent_InProjCRefIdeal (hInProjCRefIdeal := hInProjCRefIdeal)
    ∧ quiescent_MergeC (hMergeC := hMergeC)
    ∧ quiescent_MergeCIdeal (hMergeCIdeal := hMergeCIdeal)
    ∧ quiescent_MergeCRefIdeal (hMergeCRefIdeal := hMergeCRefIdeal)
    ∧ quiescent_OutProjC (hOutProjC := hOutProjC)
    ∧ quiescent_OutProjCIdeal (hOutProjCIdeal := hOutProjCIdeal)
    ∧ quiescent_OutProjCRefIdeal (hOutProjCRefIdeal := hOutProjCRefIdeal)
    ∧ quiescent_InProjD (hInProjD := hInProjD)
    ∧ quiescent_InProjDIdeal (hInProjDIdeal := hInProjDIdeal)
    ∧ quiescent_InProjDRefIdeal (hInProjDRefIdeal := hInProjDRefIdeal)
    ∧ quiescent_Glu (hGlu := hGlu)
    ∧ quiescent_GluIdeal (hGluIdeal := hGluIdeal)
    ∧ quiescent_GluRefIdeal (hGluRefIdeal := hGluRefIdeal)
    ∧ quiescent_GluB (hGluB := hGluB)
    ∧ quiescent_GluBIdeal (hGluBIdeal := hGluBIdeal)
    ∧ quiescent_GluBRefIdeal (hGluBRefIdeal := hGluBRefIdeal)
    ∧ quiescent_GluC (hGluC := hGluC)
    ∧ quiescent_GluCIdeal (hGluCIdeal := hGluCIdeal)
    ∧ quiescent_GluCRefIdeal (hGluCRefIdeal := hGluCRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_InProjB_InProjBIdeal
    ∧ algebraic_InProjBIdeal_InProjBRefIdeal (hInProjBIdeal := hInProjBIdeal) (hInProjBRefIdeal := hInProjBRefIdeal)
    ∧ preserves_MergeB_MergeBIdeal
    ∧ algebraic_MergeBIdeal_MergeBRefIdeal (hMergeBIdeal := hMergeBIdeal) (hMergeBRefIdeal := hMergeBRefIdeal)
    ∧ preserves_OutProj_OutProjIdeal
    ∧ algebraic_OutProjIdeal_OutProjRefIdeal (hOutProjIdeal := hOutProjIdeal) (hOutProjRefIdeal := hOutProjRefIdeal)
    ∧ preserves_OutProjB_OutProjBIdeal
    ∧ algebraic_OutProjBIdeal_OutProjBRefIdeal (hOutProjBIdeal := hOutProjBIdeal) (hOutProjBRefIdeal := hOutProjBRefIdeal)
    ∧ preserves_InProjC_InProjCIdeal
    ∧ algebraic_InProjCIdeal_InProjCRefIdeal (hInProjCIdeal := hInProjCIdeal) (hInProjCRefIdeal := hInProjCRefIdeal)
    ∧ preserves_MergeC_MergeCIdeal
    ∧ algebraic_MergeCIdeal_MergeCRefIdeal (hMergeCIdeal := hMergeCIdeal) (hMergeCRefIdeal := hMergeCRefIdeal)
    ∧ preserves_OutProjC_OutProjCIdeal
    ∧ algebraic_OutProjCIdeal_OutProjCRefIdeal (hOutProjCIdeal := hOutProjCIdeal) (hOutProjCRefIdeal := hOutProjCRefIdeal)
    ∧ preserves_InProjD_InProjDIdeal
    ∧ algebraic_InProjDIdeal_InProjDRefIdeal (hInProjDIdeal := hInProjDIdeal) (hInProjDRefIdeal := hInProjDRefIdeal)
    ∧ preserves_Glu_GluIdeal
    ∧ algebraic_GluIdeal_GluRefIdeal (hGluIdeal := hGluIdeal) (hGluRefIdeal := hGluRefIdeal)
    ∧ preserves_GluB_GluBIdeal
    ∧ algebraic_GluBIdeal_GluBRefIdeal (hGluBIdeal := hGluBIdeal) (hGluBRefIdeal := hGluBRefIdeal)
    ∧ preserves_GluC_GluCIdeal
    ∧ algebraic_GluCIdeal_GluCRefIdeal (hGluCIdeal := hGluCIdeal) (hGluCRefIdeal := hGluCRefIdeal)
-- ==== Pre_finite.lean ====
abbrev S8x2048x4608 : Shape := ⟨3, ![8, 2048, 4608]⟩
abbrev S8x256x4608 : Shape := ⟨3, ![8, 256, 4608]⟩
abbrev S8 : Shape := ⟨1, ![8]⟩
abbrev S8x2048x1024 : Shape := ⟨3, ![8, 2048, 1024]⟩
abbrev S_ : Shape := ⟨0, ![]⟩
abbrev S8x2048x256 : Shape := ⟨3, ![8, 2048, 256]⟩
abbrev S8x256x256 : Shape := ⟨3, ![8, 256, 256]⟩

class Facts : Prop where
  slices_S8x2048x4608_S8x2048x1024_0_0_0 : S8x2048x4608.Slices ![0, 0, 0] S8x2048x1024
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  slices_S8x2048x4608_S8x2048x256_0_0_4096 : S8x2048x4608.Slices ![0, 0, 4096] S8x2048x256
  bcast_S_S8x2048x256 : S_.BroadcastsInDim S8x2048x256 (![] : Fin 0 → Fin S8x2048x256.rank)
  reducesTo_S8x2048x256_S_d0_1_2 : S8x2048x256.ReducesTo [0, 1, 2] S_
  slices_S8x256x4608_S8x256x256_0_0_4096 : S8x256x4608.Slices ![0, 0, 4096] S8x256x256
  bcast_S_S8x256x256 : S_.BroadcastsInDim S8x256x256 (![] : Fin 0 → Fin S8x256x256.rank)
  reducesTo_S8x256x256_S_d0_1_2 : S8x256x256.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v16 : IVec S_ 1) (main_v17 : FVec F S8 .f32) : IVec S_ 1 :=
  let main_cst_4 : FVec F S_ .f32 := constant S_ .f32 0x7F800000#32
  let main_v18 : FVec F S8 .f32 := broadcastInDim S8 ![] bcast_S_S8 main_cst_4
  let main_v19 : IVec S8 1 := cmpf .olt main_v17 main_v18
  let main_c_5 : IVec S_ 1 := constantI S_ 1 1#1
  let main_v20 : IVec S_ 1 := (fun x v => Host.reduce IntOp.andi x v reducesTo_S8_S_d0 h_S_) main_v19 main_c_5
  let main_v21 : IVec S_ 1 := andi main_v16 main_v20
  main_v21

def fn {F : FTy → Type} [FloatOps F] (main_arg0 : FVec F S8x2048x4608 .f32) (main_arg1 : FVec F S8x256x4608 .f32) (main_arg2 : FVec F S8 .f32) : IVec S_ 1 :=
  let main_v0 : FVec F S8x2048x1024 .f32 := (extractStridedSlice S8x2048x1024 ![0, 0, 0] · slices_S8x2048x4608_S8x2048x1024_0_0_0) main_arg0
  let main_v1 : FVec F S8x2048x1024 .f32 := Host.absf main_v0
  let main_cst : FVec F S_ .f32 := constant S_ .f32 0x7F800000#32
  let main_v2 : FVec F S8x2048x1024 .f32 := broadcastInDim S8x2048x1024 ![] bcast_S_S8x2048x1024 main_cst
  let main_v3 : IVec S8x2048x1024 1 := cmpf .olt main_v1 main_v2
  let main_c : IVec S_ 1 := constantI S_ 1 1#1
  let main_v4 : IVec S_ 1 := (fun x v => Host.reduce IntOp.andi x v reducesTo_S8x2048x1024_S_d0_1_2 h_S_) main_v3 main_c
  let main_v5 : FVec F S8x2048x256 .f32 := (extractStridedSlice S8x2048x256 ![0, 0, 4096] · slices_S8x2048x4608_S8x2048x256_0_0_4096) main_arg0
  let main_v6 : FVec F S8x2048x256 .f32 := Host.absf main_v5
  let main_cst_0 : FVec F S_ .f32 := constant S_ .f32 0x7F800000#32
  let main_v7 : FVec F S8x2048x256 .f32 := broadcastInDim S8x2048x256 ![] bcast_S_S8x2048x256 main_cst_0
  let main_v8 : IVec S8x2048x256 1 := cmpf .olt main_v6 main_v7
  let main_c_1 : IVec S_ 1 := constantI S_ 1 1#1
  let main_v9 : IVec S_ 1 := (fun x v => Host.reduce IntOp.andi x v reducesTo_S8x2048x256_S_d0_1_2 h_S_) main_v8 main_c_1
  let main_v10 : IVec S_ 1 := andi main_v4 main_v9
  let main_v11 : FVec F S8x256x256 .f32 := (extractStridedSlice S8x256x256 ![0, 0, 4096] · slices_S8x256x4608_S8x256x256_0_0_4096) main_arg1
  let main_v12 : FVec F S8x256x256 .f32 := Host.absf main_v11
  let main_cst_2 : FVec F S_ .f32 := constant S_ .f32 0x7F800000#32
  let main_v13 : FVec F S8x256x256 .f32 := broadcastInDim S8x256x256 ![] bcast_S_S8x256x256 main_cst_2
  let main_v14 : IVec S8x256x256 1 := cmpf .olt main_v12 main_v13
  let main_c_3 : IVec S_ 1 := constantI S_ 1 1#1
  let main_v15 : IVec S_ 1 := (fun x v => Host.reduce IntOp.andi x v reducesTo_S8x256x256_S_d0_1_2 h_S_) main_v14 main_c_3
  let main_v16 : IVec S_ 1 := andi main_v10 main_v15
  let main_v17 : FVec F S8 .f32 := Host.absf main_arg2
  fn_part1 (F := F) main_v16 main_v17
-- ==== Attn.lean ====
abbrev S8x2048x4608 : Shape := ⟨3, ![8, 2048, 4608]⟩
abbrev S8x256x4608 : Shape := ⟨3, ![8, 256, 4608]⟩
abbrev S8 : Shape := ⟨1, ![8]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S8x1 : Shape := ⟨2, ![8, 1]⟩
abbrev S8x128 : Shape := ⟨2, ![8, 128]⟩
abbrev S8x2048x1024 : Shape := ⟨3, ![8, 2048, 1024]⟩
abbrev S1x128x1024 : Shape := ⟨3, ![1, 128, 1024]⟩
abbrev S1x128x256 : Shape := ⟨3, ![1, 128, 256]⟩
abbrev S1x256x256 : Shape := ⟨3, ![1, 256, 256]⟩
abbrev S128x128 : Shape := ⟨2, ![128, 128]⟩
abbrev S128x256 : Shape := ⟨2, ![128, 256]⟩
abbrev S128x640 : Shape := ⟨2, ![128, 640]⟩
abbrev S1x128x128 : Shape := ⟨3, ![1, 128, 128]⟩
abbrev S1x256x128 : Shape := ⟨3, ![1, 256, 128]⟩
abbrev S256x128 : Shape := ⟨2, ![256, 128]⟩
abbrev S640x128 : Shape := ⟨2, ![640, 128]⟩
abbrev S512x128 : Shape := ⟨2, ![512, 128]⟩
abbrev S1x1 : Shape := ⟨2, ![1, 1]⟩
abbrev S128x1 : Shape := ⟨2, ![128, 1]⟩
abbrev S512x1 : Shape := ⟨2, ![512, 1]⟩
abbrev S512x640 : Shape := ⟨2, ![512, 640]⟩
abbrev S4x128x640 : Shape := ⟨3, ![4, 128, 640]⟩
abbrev S1x128x640 : Shape := ⟨3, ![1, 128, 640]⟩
abbrev S512 : Shape := ⟨1, ![512]⟩

abbrev nBuf : Space → Nat
  | .hbm => 43
  | .vmem => 23
  | .smem => 0
  | _ => 0

abbrev bufTy : (tb : Table) → Fin (tcTables nBuf tb) → BufTy
  | .hbm, ⟨0, _⟩ => ⟨S8x2048x4608, .f32⟩
  | .hbm, ⟨1, _⟩ => ⟨S8x256x4608, .f32⟩
  | .hbm, ⟨2, _⟩ => ⟨S8, .f32⟩
  | .hbm, ⟨3, _⟩ => ⟨S32, .f32⟩
  | .hbm, ⟨4, _⟩ => ⟨S32x64, .f32⟩
  | .hbm, ⟨5, _⟩ => ⟨S2048, .f32⟩
  | .hbm, ⟨6, _⟩ => ⟨S64, .f32⟩
  | .hbm, ⟨7, _⟩ => ⟨S1x64, .f32⟩
  | .hbm, ⟨8, _⟩ => ⟨S32x64, .f32⟩
  | .hbm, ⟨9, _⟩ => ⟨S2048, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S2048x1, .f32⟩
  | .hbm, ⟨19, _⟩ => ⟨S1x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x1, .f32⟩
  | .hbm, ⟨24, _⟩ => ⟨S1x32, .f32⟩
  | .hbm, ⟨25, _⟩ => ⟨S2048x32, .f32⟩
  | .hbm, ⟨26, _⟩ => ⟨S2048x32, .f32⟩
  | .hbm, ⟨27, _⟩ => ⟨S2048x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x32, .f32⟩
  | .hbm, ⟨32, _⟩ => ⟨S2048x128, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x32, .f32⟩
  | .hbm, ⟨39, _⟩ => ⟨S2048x128, .f32⟩
  | .hbm, ⟨40, _⟩ => ⟨S8x1, .f32⟩
  | .hbm, ⟨41, _⟩ => ⟨S8x128, .f32⟩
  | .hbm, ⟨42, _⟩ => ⟨S8x2048x1024, .bf16⟩
  | .local _ .vmem, ⟨0, _⟩ => ⟨S1x128x1024, .f32⟩
  | .local _ .vmem, ⟨1, _⟩ => ⟨S1x128x1024, .f32⟩
  | .local _ .vmem, ⟨2, _⟩ => ⟨S1x128x256, .f32⟩
  | .local _ .vmem, ⟨3, _⟩ => ⟨S1x128x256, .f32⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x256x256, .f32⟩
  | .local _ .vmem, ⟨15, _⟩ => ⟨S1x256x256, .f32⟩
  | .local _ .vmem, ⟨16, _⟩ => ⟨S1x256x256, .f32⟩
  | .local _ .vmem, ⟨17, _⟩ => ⟨S1x256x256, .f32⟩
  | .local _ .vmem, ⟨18, _⟩ => ⟨S2048x128, .f32⟩
  | .local _ .vmem, ⟨19, _⟩ => ⟨S2048x128, .f32⟩
  | .local _ .vmem, ⟨20, _⟩ => ⟨S8x128, .f32⟩
  | .local _ .vmem, ⟨21, _⟩ => ⟨S1x128x1024, .bf16⟩
  | .local _ .vmem, ⟨22, _⟩ => ⟨S1x128x1024, .bf16⟩
  | _, _ => ⟨S8x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c128_i32 : BitVec 32 := 128#32
  let v9 : BitVec 32 := Scalar.muli arg1 c128_i32
  v9
def k0_off1 (i : grid0.Coords) : Fin 2 → Nat :=
  let arg1 : BitVec 32 := BitVec.ofNat 32 (i 1).val
  let c128_i32 : BitVec 32 := 128#32
  let v9 : BitVec 32 := Scalar.muli arg1 c128_i32
  let v10 : BitVec 32 := v9
  let v11 : Index := Scalar.indexCast v10
  let c0 : Index := 0#32
  ![v11.toNat, 0]
def k0_mult2 (i : grid0.Coords) : BitVec 32 :=
  let arg1 : BitVec 32 := BitVec.ofNat 32 (i 1).val
  let c128_i32_1 : BitVec 32 := 128#32
  let v14 : BitVec 32 := Scalar.muli arg1 c128_i32_1
  v14
def k0_mult3 (i : grid0.Coords) : BitVec 32 :=
  let arg1 : BitVec 32 := BitVec.ofNat 32 (i 1).val
  let c1_i32 : BitVec 32 := 1#32
  let v5 : BitVec 32 := Scalar.subi arg1 c1_i32
  let c0_i32 : BitVec 32 := 0#32
  let v6 : BitVec 32 := Scalar.maxsi v5 c0_i32
  let c128_i32_3 : BitVec 32 := 128#32
  let v19 : BitVec 32 := Scalar.muli v6 c128_i32_3
  v19
def k0_off2 (i : grid0.Coords) : Fin 2 → Nat :=
  let arg1 : BitVec 32 := BitVec.ofNat 32 (i 1).val
  let c1_i32 : BitVec 32 := 1#32
  let v5 : BitVec 32 := Scalar.subi arg1 c1_i32
  let c0_i32 : BitVec 32 := 0#32
  let v6 : BitVec 32 := Scalar.maxsi v5 c0_i32
  let c128_i32_3 : BitVec 32 := 128#32
  let v19 : BitVec 32 := Scalar.muli v6 c128_i32_3
  let v20 : BitVec 32 := v19
  let v21 : Index := Scalar.indexCast v20
  let c0_4 : Index := 0#32
  ![v21.toNat, 0]
def k0_mult4 (i : grid0.Coords) : BitVec 32 :=
  let arg1 : BitVec 32 := BitVec.ofNat 32 (i 1).val
  let c1_i32 : BitVec 32 := 1#32
  let v5 : BitVec 32 := Scalar.subi arg1 c1_i32
  let c0_i32 : BitVec 32 := 0#32
  let v6 : BitVec 32 := Scalar.maxsi v5 c0_i32
  let c128_i32_5 : BitVec 32 := 128#32
  let v24 : BitVec 32 := Scalar.muli v6 c128_i32_5
  v24
def k0_mult5 (i : grid0.Coords) : BitVec 32 :=
  let arg1 : BitVec 32 := BitVec.ofNat 32 (i 1).val
  let c1_i32_0 : BitVec 32 := 1#32
  let v7 : BitVec 32 := Scalar.addi arg1 c1_i32_0
  let c15_i32 : BitVec 32 := 15#32
  let v8 : BitVec 32 := Scalar.minsi v7 c15_i32
  let c128_i32_7 : BitVec 32 := 128#32
  let v29 : BitVec 32 := Scalar.muli v8 c128_i32_7
  v29
def k0_off3 (i : grid0.Coords) : Fin 2 → Nat :=
  let arg1 : BitVec 32 := BitVec.ofNat 32 (i 1).val
  let c1_i32_0 : BitVec 32 := 1#32
  let v7 : BitVec 32 := Scalar.addi arg1 c1_i32_0
  let c15_i32 : BitVec 32 := 15#32
  let v8 : BitVec 32 := Scalar.minsi v7 c15_i32
  let c128_i32_7 : BitVec 32 := 128#32
  let v29 : BitVec 32 := Scalar.muli v8 c128_i32_7
  let v30 : BitVec 32 := v29
  let v31 : Index := Scalar.indexCast v30
  let c0_8 : Index := 0#32
  ![v31.toNat, 0]
def k0_mult6 (i : grid0.Coords) : BitVec 32 :=
  let arg1 : BitVec 32 := BitVec.ofNat 32 (i 1).val
  let c1_i32_0 : BitVec 32 := 1#32
  let v7 : BitVec 32 := Scalar.addi arg1 c1_i32_0
  let c15_i32 : BitVec 32 := 15#32
  let v8 : BitVec 32 := Scalar.minsi v7 c15_i32
  let c128_i32_9 : BitVec 32 := 128#32
  let v34 : BitVec 32 := Scalar.muli v8 c128_i32_9
  v34
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c16_i32 : BitVec 32 := 16#32
  let c0_i32_0 : BitVec 32 := 0#32
  ![arg0.toNat, v2.toNat, c16_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c16_i32 : BitVec 32 := 16#32
  let c0_i32_1 : BitVec 32 := 0#32
  ![arg0.toNat, v2.toNat, c16_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c16_i32 : BitVec 32 := 16#32
  let c0_i32_0 : BitVec 32 := 0#32
  ![arg0.toNat, v2.toNat, c16_i32.toNat]

def cc0_transform_4 (i : grid0.Coords) : Fin 3 → Nat :=
  let arg0 : BitVec 32 := BitVec.ofNat 32 (i 0).val
  let arg1 : BitVec 32 := BitVec.ofNat 32 (i 1).val
  let c_m1_i32 : BitVec 32 := 4294967295#32
  let v0 : BitVec 32 := Scalar.addi arg1 c_m1_i32
  let c0_i32 : BitVec 32 := 0#32
  let c15_i32 : BitVec 32 := 15#32
  let v1 : BitVec 32 := Scalar.maxsi c0_i32 v0
  let v2 : BitVec 32 := Scalar.minsi c15_i32 v1
  let c17_i32 : BitVec 32 := 17#32
  let c0_i32_0 : BitVec 32 := 0#32
  ![arg0.toNat, v2.toNat, c17_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c15_i32 : BitVec 32 := 15#32
  let v1 : BitVec 32 := Scalar.maxsi c0_i32_0 v0
  let v2 : BitVec 32 := Scalar.minsi c15_i32 v1
  let c17_i32 : BitVec 32 := 17#32
  let c0_i32_1 : BitVec 32 := 0#32
  ![arg0.toNat, v2.toNat, c17_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c15_i32 : BitVec 32 := 15#32
  let v1 : BitVec 32 := Scalar.maxsi c0_i32 v0
  let v2 : BitVec 32 := Scalar.minsi c15_i32 v1
  let c17_i32 : BitVec 32 := 17#32
  let c0_i32_0 : BitVec 32 := 0#32
  ![arg0.toNat, v2.toNat, c17_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c16_i32 : BitVec 32 := 16#32
  let c0_i32_0 : BitVec 32 := 0#32
  ![arg0.toNat, c0_i32.toNat, c16_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c17_i32 : BitVec 32 := 17#32
  let c0_i32_0 : BitVec 32 := 0#32
  ![arg0.toNat, c0_i32.toNat, c17_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S2048x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2048x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "mask" => some ⊥
  | "s" => some (((Real.sqrt 128)⁻¹ : ℝ) : EReal)
  | _ => none
-- ==== AttnRefIdeal.lean ====
abbrev S8x2048x4608 : Shape := ⟨3, ![8, 2048, 4608]⟩
abbrev S8x256x4608 : Shape := ⟨3, ![8, 256, 4608]⟩
abbrev S8 : Shape := ⟨1, ![8]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S8x2048x1024 : Shape := ⟨3, ![8, 2048, 1024]⟩
abbrev S8x2048x8x128 : Shape := ⟨4, ![8, 2048, 8, 128]⟩
abbrev S8x2048x8x64 : Shape := ⟨4, ![8, 2048, 8, 64]⟩
abbrev S2048x1x32 : Shape := ⟨3, ![2048, 1, 32]⟩
abbrev S8x2048x8x32 : Shape := ⟨4, ![8, 2048, 8, 32]⟩
abbrev S1x2048x1x32 : Shape := ⟨4, ![1, 2048, 1, 32]⟩
abbrev S8x2048x256 : Shape := ⟨3, ![8, 2048, 256]⟩
abbrev S8x2048x2x128 : Shape := ⟨4, ![8, 2048, 2, 128]⟩
abbrev S8x2048x2x64 : Shape := ⟨4, ![8, 2048, 2, 64]⟩
abbrev S8x2048x2x32 : Shape := ⟨4, ![8, 2048, 2, 32]⟩
abbrev S8x256x256 : Shape := ⟨3, ![8, 256, 256]⟩
abbrev S8x256x2x128 : Shape := ⟨4, ![8, 256, 2, 128]⟩
abbrev S8x16x128x2x4x128 : Shape := ⟨6, ![8, 16, 128, 2, 4, 128]⟩
abbrev S8x128x2x128 : Shape := ⟨4, ![8, 128, 2, 128]⟩
abbrev S8x2304x2x128 : Shape := ⟨4, ![8, 2304, 2, 128]⟩
abbrev S8x18x128x2x128 : Shape := ⟨5, ![8, 18, 128, 2, 128]⟩
abbrev S8x16x128x2x128 : Shape := ⟨5, ![8, 16, 128, 2, 128]⟩
abbrev S8x16x384x2x128 : Shape := ⟨5, ![8, 16, 384, 2, 128]⟩
abbrev S8x16x2x384x128x4 : Shape := ⟨6, ![8, 16, 2, 384, 128, 4]⟩
abbrev S8x16x2x4x128x384 : Shape := ⟨6, ![8, 16, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S128x384 : Shape := ⟨2, ![128, 384]⟩
abbrev S16 : Shape := ⟨1, ![16]⟩
abbrev S16x1x1 : Shape := ⟨3, ![16, 1, 1]⟩
abbrev S1x1x384 : Shape := ⟨3, ![1, 1, 384]⟩
abbrev S16x1x384 : Shape := ⟨3, ![16, 1, 384]⟩
abbrev S1x128x384 : Shape := ⟨3, ![1, 128, 384]⟩
abbrev S16x128x384 : Shape := ⟨3, ![16, 128, 384]⟩
abbrev S1x16x1x1x128x384 : Shape := ⟨6, ![1, 16, 1, 1, 128, 384]⟩
abbrev S8x2x256x16x128x4 : Shape := ⟨6, ![8, 2, 256, 16, 128, 4]⟩
abbrev S8x16x2x4x128x256 : Shape := ⟨6, ![8, 16, 2, 4, 128, 256]⟩
abbrev S1x2x4x1x1 : Shape := ⟨5, ![1, 2, 4, 1, 1]⟩
abbrev S8x16x2x4x128x1 : Shape := ⟨6, ![8, 16, 2, 4, 128, 1]⟩
abbrev S8x16x2x4x128x641 : Shape := ⟨6, ![8, 16, 2, 4, 128, 641]⟩
abbrev S8x16x2x4x128 : Shape := ⟨5, ![8, 16, 2, 4, 128]⟩
abbrev S8x16x2x128x4x128 : Shape := ⟨6, ![8, 16, 2, 128, 4, 128]⟩
abbrev S8x2x128x16x4x128 : Shape := ⟨6, ![8, 2, 128, 16, 4, 128]⟩

abbrev nBuf : Space → Nat
  | .hbm => 226
  | .vmem => 0
  | .smem => 0
  | _ => 0

abbrev hbmTy0_0 (i : Nat) : BufTy := match i % 128 with
  | 0 => ⟨S8x2048x4608, .f32⟩
  | 1 => ⟨S8x256x4608, .f32⟩
  | 2 => ⟨S8, .f32⟩
  | 3 => ⟨S32, .f32⟩
  | 4 => ⟨S32x64, .f32⟩
  | 5 => ⟨S2048, .f32⟩
  | 6 => ⟨S64, .f32⟩
  | 7 => ⟨S1x64, .f32⟩
  | 8 => ⟨S32x64, .f32⟩
  | 9 => ⟨S2048, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S8x2048x1024, .f32⟩
  | 29 => ⟨S8x2048x8x128, .f32⟩
  | 30 => ⟨S8x2048x8x64, .f32⟩
  | 31 => ⟨S2048x32, .f32⟩
  | 32 => ⟨S2048x1x32, .f32⟩
  | 33 => ⟨S2048x32, .f32⟩
  | 34 => ⟨S2048x1x32, .f32⟩
  | 35 => ⟨S8x2048x8x32, .f32⟩
  | 36 => ⟨S8x2048x8x32, .f32⟩
  | 37 => ⟨S1x2048x1x32, .f32⟩
  | 38 => ⟨S8x2048x8x32, .f32⟩
  | 39 => ⟨S8x2048x8x32, .f32⟩
  | 40 => ⟨S1x2048x1x32, .f32⟩
  | 41 => ⟨S8x2048x8x32, .f32⟩
  | 42 => ⟨S8x2048x8x32, .f32⟩
  | 43 => ⟨S8x2048x8x32, .f32⟩
  | 44 => ⟨S1x2048x1x32, .f32⟩
  | 45 => ⟨S8x2048x8x32, .f32⟩
  | 46 => ⟨S8x2048x8x32, .f32⟩
  | 47 => ⟨S1x2048x1x32, .f32⟩
  | 48 => ⟨S8x2048x8x32, .f32⟩
  | 49 => ⟨S8x2048x8x32, .f32⟩
  | 50 => ⟨S8x2048x8x32, .f32⟩
  | 51 => ⟨S8x2048x8x64, .f32⟩
  | 52 => ⟨S8x2048x8x64, .f32⟩
  | 53 => ⟨S2048x32, .f32⟩
  | 54 => ⟨S2048x1x32, .f32⟩
  | 55 => ⟨S2048x32, .f32⟩
  | 56 => ⟨S2048x1x32, .f32⟩
  | 57 => ⟨S8x2048x8x32, .f32⟩
  | 58 => ⟨S8x2048x8x32, .f32⟩
  | 59 => ⟨S1x2048x1x32, .f32⟩
  | 60 => ⟨S8x2048x8x32, .f32⟩
  | 61 => ⟨S8x2048x8x32, .f32⟩
  | 62 => ⟨S1x2048x1x32, .f32⟩
  | 63 => ⟨S8x2048x8x32, .f32⟩
  | 64 => ⟨S8x2048x8x32, .f32⟩
  | 65 => ⟨S8x2048x8x32, .f32⟩
  | 66 => ⟨S1x2048x1x32, .f32⟩
  | 67 => ⟨S8x2048x8x32, .f32⟩
  | 68 => ⟨S8x2048x8x32, .f32⟩
  | 69 => ⟨S1x2048x1x32, .f32⟩
  | 70 => ⟨S8x2048x8x32, .f32⟩
  | 71 => ⟨S8x2048x8x32, .f32⟩
  | 72 => ⟨S8x2048x8x32, .f32⟩
  | 73 => ⟨S8x2048x8x64, .f32⟩
  | 74 => ⟨S8x2048x8x128, .f32⟩
  | 75 => ⟨S8x2048x256, .f32⟩
  | 76 => ⟨S8x2048x2x128, .f32⟩
  | 77 => ⟨S8x2048x2x64, .f32⟩
  | 78 => ⟨S2048x32, .f32⟩
  | 79 => ⟨S2048x1x32, .f32⟩
  | 80 => ⟨S2048x32, .f32⟩
  | 81 => ⟨S2048x1x32, .f32⟩
  | 82 => ⟨S8x2048x2x32, .f32⟩
  | 83 => ⟨S8x2048x2x32, .f32⟩
  | 84 => ⟨S1x2048x1x32, .f32⟩
  | 85 => ⟨S8x2048x2x32, .f32⟩
  | 86 => ⟨S8x2048x2x32, .f32⟩
  | 87 => ⟨S1x2048x1x32, .f32⟩
  | 88 => ⟨S8x2048x2x32, .f32⟩
  | 89 => ⟨S8x2048x2x32, .f32⟩
  | 90 => ⟨S8x2048x2x32, .f32⟩
  | 91 => ⟨S1x2048x1x32, .f32⟩
  | 92 => ⟨S8x2048x2x32, .f32⟩
  | 93 => ⟨S8x2048x2x32, .f32⟩
  | 94 => ⟨S1x2048x1x32, .f32⟩
  | 95 => ⟨S8x2048x2x32, .f32⟩
  | 96 => ⟨S8x2048x2x32, .f32⟩
  | 97 => ⟨S8x2048x2x32, .f32⟩
  | 98 => ⟨S8x2048x2x64, .f32⟩
  | 99 => ⟨S8x2048x2x64, .f32⟩
  | 100 => ⟨S2048x32, .f32⟩
  | 101 => ⟨S2048x1x32, .f32⟩
  | 102 => ⟨S2048x32, .f32⟩
  | 103 => ⟨S2048x1x32, .f32⟩
  | 104 => ⟨S8x2048x2x32, .f32⟩
  | 105 => ⟨S8x2048x2x32, .f32⟩
  | 106 => ⟨S1x2048x1x32, .f32⟩
  | 107 => ⟨S8x2048x2x32, .f32⟩
  | 108 => ⟨S8x2048x2x32, .f32⟩
  | 109 => ⟨S1x2048x1x32, .f32⟩
  | 110 => ⟨S8x2048x2x32, .f32⟩
  | 111 => ⟨S8x2048x2x32, .f32⟩
  | 112 => ⟨S8x2048x2x32, .f32⟩
  | 113 => ⟨S1x2048x1x32, .f32⟩
  | 114 => ⟨S8x2048x2x32, .f32⟩
  | 115 => ⟨S8x2048x2x32, .f32⟩
  | 116 => ⟨S1x2048x1x32, .f32⟩
  | 117 => ⟨S8x2048x2x32, .f32⟩
  | 118 => ⟨S8x2048x2x32, .f32⟩
  | 119 => ⟨S8x2048x2x32, .f32⟩
  | 120 => ⟨S8x2048x2x64, .f32⟩
  | 121 => ⟨S8x2048x2x128, .f32⟩
  | 122 => ⟨S8x2048x256, .f32⟩
  | 123 => ⟨S8x2048x2x128, .f32⟩
  | 124 => ⟨S8x256x256, .f32⟩
  | 125 => ⟨S8x256x2x128, .f32⟩
  | 126 => ⟨S8x256x256, .f32⟩
  | 127 => ⟨S8x256x2x128, .f32⟩
  | _ => ⟨S8x2048x4608, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S8x16x128x2x4x128, .f32⟩
  | 5 => ⟨S_, .f32⟩
  | 6 => ⟨S8x128x2x128, .f32⟩
  | 7 => ⟨S8x2304x2x128, .f32⟩
  | 8 => ⟨S8x18x128x2x128, .f32⟩
  | 9 => ⟨S8x16x128x2x128, .f32⟩
  | 10 => ⟨S8x16x128x2x128, .f32⟩
  | 11 => ⟨S8x16x128x2x128, .f32⟩
  | 12 => ⟨S8x16x384x2x128, .f32⟩
  | 13 => ⟨S_, .f32⟩
  | 14 => ⟨S8x128x2x128, .f32⟩
  | 15 => ⟨S8x2304x2x128, .f32⟩
  | 16 => ⟨S8x18x128x2x128, .f32⟩
  | 17 => ⟨S8x16x128x2x128, .f32⟩
  | 18 => ⟨S8x16x128x2x128, .f32⟩
  | 19 => ⟨S8x16x128x2x128, .f32⟩
  | 20 => ⟨S8x16x384x2x128, .f32⟩
  | 21 => ⟨S8x16x2x384x128x4, .f32⟩
  | 22 => ⟨S8x16x2x4x128x384, .f32⟩
  | 23 => ⟨S8x16x2x4x128x384, .f32⟩
  | 24 => ⟨S8x16x2x4x128x384, .f32⟩
  | 25 => ⟨S128, .i32⟩
  | 26 => ⟨S128x1, .i32⟩
  | 27 => ⟨S384, .i32⟩
  | 28 => ⟨S1x384, .i32⟩
  | 29 => ⟨S_, .i32⟩
  | 30 => ⟨S1x384, .i32⟩
  | 31 => ⟨S1x384, .i32⟩
  | 32 => ⟨S128x384, .i32⟩
  | 33 => ⟨S128x384, .i32⟩
  | 34 => ⟨S128x384, .i32⟩
  | 35 => ⟨S16, .i32⟩
  | 36 => ⟨S16x1x1, .i32⟩
  | 37 => ⟨S_, .i32⟩
  | 38 => ⟨S16x1x1, .i32⟩
  | 39 => ⟨S16x1x1, .i32⟩
  | 40 => ⟨S_, .i32⟩
  | 41 => ⟨S16x1x1, .i32⟩
  | 42 => ⟨S16x1x1, .i32⟩
  | 43 => ⟨S1x1x384, .i32⟩
  | 44 => ⟨S16x1x384, .i32⟩
  | 45 => ⟨S16x1x384, .i32⟩
  | 46 => ⟨S16x1x384, .i32⟩
  | 47 => ⟨S128x384, .i32⟩
  | 48 => ⟨S_, .i32⟩
  | 49 => ⟨S128x384, .i32⟩
  | 50 => ⟨S128x384, .i1⟩
  | 51 => ⟨S1x128x384, .i1⟩
  | 52 => ⟨S_, .i32⟩
  | 53 => ⟨S16x1x384, .i32⟩
  | 54 => ⟨S16x1x384, .i1⟩
  | 55 => ⟨S16x128x384, .i1⟩
  | 56 => ⟨S16x128x384, .i1⟩
  | 57 => ⟨S16x128x384, .i1⟩
  | 58 => ⟨S_, .i32⟩
  | 59 => ⟨S16x1x384, .i32⟩
  | 60 => ⟨S16x1x384, .i1⟩
  | 61 => ⟨S16x128x384, .i1⟩
  | 62 => ⟨S16x128x384, .i1⟩
  | 63 => ⟨S1x16x1x1x128x384, .i1⟩
  | 64 => ⟨S8x16x2x4x128x384, .i1⟩
  | 65 => ⟨S_, .f32⟩
  | 66 => ⟨S8x16x2x4x128x384, .f32⟩
  | 67 => ⟨S8x16x2x4x128x384, .f32⟩
  | 68 => ⟨S8x2x256x16x128x4, .f32⟩
  | 69 => ⟨S8x16x2x4x128x256, .f32⟩
  | 70 => ⟨S8x16x2x4x128x256, .f32⟩
  | 71 => ⟨S8x16x2x4x128x256, .f32⟩
  | 72 => ⟨S1x2x4x1x1, .f32⟩
  | 73 => ⟨S8x16x2x4x128x1, .f32⟩
  | 74 => ⟨S8x16x2x4x128x641, .f32⟩
  | 75 => ⟨S_, .f32⟩
  | 76 => ⟨S8x16x2x4x128, .f32⟩
  | 77 => ⟨S_, .f32⟩
  | 78 => ⟨S8x16x2x4x128, .f32⟩
  | 79 => ⟨S8x16x2x4x128, .f32⟩
  | 80 => ⟨S8x16x2x4x128x1, .f32⟩
  | 81 => ⟨S8x16x2x4x128x641, .f32⟩
  | 82 => ⟨S8x16x2x4x128x641, .f32⟩
  | 83 => ⟨S8x16x2x4x128x641, .f32⟩
  | 84 => ⟨S_, .f32⟩
  | 85 => ⟨S8x16x2x4x128, .f32⟩
  | 86 => ⟨S8x16x2x4x128x1, .f32⟩
  | 87 => ⟨S8x16x2x4x128x641, .f32⟩
  | 88 => ⟨S8x16x2x4x128x641, .f32⟩
  | 89 => ⟨S8x16x2x4x128x384, .f32⟩
  | 90 => ⟨S8x16x2x128x4x128, .f32⟩
  | 91 => ⟨S8x16x128x2x4x128, .f32⟩
  | 92 => ⟨S8x16x2x4x128x256, .f32⟩
  | 93 => ⟨S8x2x128x16x4x128, .f32⟩
  | 94 => ⟨S8x16x128x2x4x128, .f32⟩
  | 95 => ⟨S8x16x128x2x4x128, .f32⟩
  | 96 => ⟨S8x2048x1024, .f32⟩
  | 97 => ⟨S8x2048x1024, .bf16⟩
  | _ => ⟨S8x2048x4608, .f32⟩

abbrev hbmTy (i : Nat) : BufTy := match i / 128 with
  | 0 => hbmTy0_0 i
  | 1 => hbmTy0_1 i
  | _ => ⟨S8x2048x4608, .f32⟩

abbrev bufTy : (tb : Table) → Fin (tcTables nBuf tb) → BufTy
  | .hbm, ⟨i, _⟩ => hbmTy i
  | _, _ => ⟨S8x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩
abbrev main_v110 : Ref sig .tc := ⟨.hbm, 115, rfl⟩
abbrev main_v111 : Ref sig .tc := ⟨.hbm, 116, rfl⟩
abbrev main_v112 : Ref sig .tc := ⟨.hbm, 117, rfl⟩
abbrev main_v113 : Ref sig .tc := ⟨.hbm, 118, rfl⟩
abbrev main_v114 : Ref sig .tc := ⟨.hbm, 119, rfl⟩
abbrev main_v115 : Ref sig .tc := ⟨.hbm, 120, rfl⟩
abbrev main_v116 : Ref sig .tc := ⟨.hbm, 121, rfl⟩
abbrev main_v117 : Ref sig .tc := ⟨.hbm, 122, rfl⟩
abbrev main_v118 : Ref sig .tc := ⟨.hbm, 123, rfl⟩
abbrev main_v119 : Ref sig .tc := ⟨.hbm, 124, rfl⟩
abbrev main_v120 : Ref sig .tc := ⟨.hbm, 125, rfl⟩
abbrev main_v121 : Ref sig .tc := ⟨.hbm, 126, rfl⟩
abbrev main_v122 : Ref sig .tc := ⟨.hbm, 127, rfl⟩
abbrev main_cst_1 : Ref sig .tc := ⟨.hbm, 128, rfl⟩
abbrev main_v123 : Ref sig .tc := ⟨.hbm, 129, rfl⟩
abbrev main_cst_2 : Ref sig .tc := ⟨.hbm, 130, rfl⟩
abbrev main_v124 : Ref sig .tc := ⟨.hbm, 131, rfl⟩
abbrev main_v125 : Ref sig .tc := ⟨.hbm, 132, rfl⟩
abbrev main_cst_3 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_cst_4 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_c : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_c_5 : Ref sig .tc := ⟨.hbm, 165, rfl⟩
abbrev main_v155 : Ref sig .tc := ⟨.hbm, 166, rfl⟩
abbrev main_v156 : Ref sig .tc := ⟨.hbm, 167, rfl⟩
abbrev main_c_6 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_c_7 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩
abbrev main_c_8 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_c_9 : Ref sig .tc := ⟨.hbm, 186, rfl⟩
abbrev main_v172 : Ref sig .tc := ⟨.hbm, 187, rfl⟩
abbrev main_v173 : Ref sig .tc := ⟨.hbm, 188, rfl⟩
abbrev main_v174 : Ref sig .tc := ⟨.hbm, 189, rfl⟩
abbrev main_v175 : Ref sig .tc := ⟨.hbm, 190, rfl⟩
abbrev main_v176 : Ref sig .tc := ⟨.hbm, 191, rfl⟩
abbrev main_v177 : Ref sig .tc := ⟨.hbm, 192, rfl⟩
abbrev main_cst_10 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_cst_11 : Ref sig .tc := ⟨.hbm, 203, rfl⟩
abbrev main_v187 : Ref sig .tc := ⟨.hbm, 204, rfl⟩
abbrev main_cst_12 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_cst_13 : Ref sig .tc := ⟨.hbm, 212, rfl⟩
abbrev main_v194 : Ref sig .tc := ⟨.hbm, 213, rfl⟩
abbrev main_v195 : Ref sig .tc := ⟨.hbm, 214, rfl⟩
abbrev main_v196 : Ref sig .tc := ⟨.hbm, 215, rfl⟩
abbrev main_v197 : Ref sig .tc := ⟨.hbm, 216, rfl⟩
abbrev main_v198 : Ref sig .tc := ⟨.hbm, 217, rfl⟩
abbrev main_v199 : Ref sig .tc := ⟨.hbm, 218, rfl⟩
abbrev main_v200 : Ref sig .tc := ⟨.hbm, 219, rfl⟩
abbrev main_v201 : Ref sig .tc := ⟨.hbm, 220, rfl⟩
abbrev main_v202 : Ref sig .tc := ⟨.hbm, 221, rfl⟩
abbrev main_v203 : Ref sig .tc := ⟨.hbm, 222, rfl⟩
abbrev main_v204 : Ref sig .tc := ⟨.hbm, 223, rfl⟩
abbrev main_v205 : Ref sig .tc := ⟨.hbm, 224, rfl⟩
abbrev main_v206 : Ref sig .tc := ⟨.hbm, 225, rfl⟩

abbrev nD : Nat := 1
abbrev τ : Topo := Topo.v7x

variable {F : FTy → Type} [FloatOps F]
-- ==== InProj.lean ====
abbrev S8x2048x2048 : Shape := ⟨3, ![8, 2048, 2048]⟩
abbrev S2x2048x10752 : Shape := ⟨3, ![2, 2048, 10752]⟩
abbrev S2x2048x4608 : Shape := ⟨3, ![2, 2048, 4608]⟩
abbrev S8x2048x4608 : Shape := ⟨3, ![8, 2048, 4608]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x10752, .f32⟩
  | .hbm, ⟨2, _⟩ => ⟨S2x2048x4608, .f32⟩
  | .hbm, ⟨3, _⟩ => ⟨S2x2048x4608, .bf16⟩
  | .hbm, ⟨4, _⟩ => ⟨S8x2048x4608, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c2_i32_0 : BitVec 32 := 2#32
  let v1 : BitVec 1 := Scalar.cmpi .eq arg2 c2_i32_0
  let c1_i32 : BitVec 32 := 1#32
  let v2 : BitVec 32 := Scalar.subi arg2 c1_i32
  let c8_i32 : BitVec 32 := 8#32
  let v3 : BitVec 32 := Scalar.select v1 c8_i32 v2
  let v4 : BitVec 32 := Scalar.select v0 arg2 v3
  let c0_i32 : BitVec 32 := 0#32
  ![arg0.toNat, arg1.toNat, v4.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjRefIdeal.lean ====
abbrev S8x2048x2048 : Shape := ⟨3, ![8, 2048, 2048]⟩
abbrev S2x2048x10752 : Shape := ⟨3, ![2, 2048, 10752]⟩
abbrev S1x2048x10752 : Shape := ⟨3, ![1, 2048, 10752]⟩
abbrev S2048x10752 : Shape := ⟨2, ![2048, 10752]⟩
abbrev S8x2048x10752 : Shape := ⟨3, ![8, 2048, 10752]⟩
abbrev S8x2048x1024 : Shape := ⟨3, ![8, 2048, 1024]⟩
abbrev S8x2048x256 : Shape := ⟨3, ![8, 2048, 256]⟩
abbrev S8x2048x4608 : Shape := ⟨3, ![8, 2048, 4608]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x10752, .f32⟩
  | .hbm, ⟨2, _⟩ => ⟨S8x2048x2048, .f32⟩
  | .hbm, ⟨3, _⟩ => ⟨S1x2048x10752, .f32⟩
  | .hbm, ⟨4, _⟩ => ⟨S2048x10752, .f32⟩
  | .hbm, ⟨5, _⟩ => ⟨S8x2048x10752, .f32⟩
  | .hbm, ⟨6, _⟩ => ⟨S8x2048x1024, .f32⟩
  | .hbm, ⟨7, _⟩ => ⟨S8x2048x256, .f32⟩
  | .hbm, ⟨8, _⟩ => ⟨S8x2048x256, .f32⟩
  | .hbm, ⟨9, _⟩ => ⟨S8x2048x1024, .f32⟩
  | .hbm, ⟨10, _⟩ => ⟨S8x2048x2048, .f32⟩
  | .hbm, ⟨11, _⟩ => ⟨S8x2048x4608, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Merge.lean ====
abbrev S8x2048x2048 : Shape := ⟨3, ![8, 2048, 2048]⟩
abbrev S8x2048x1024 : Shape := ⟨3, ![8, 2048, 1024]⟩
abbrev S2x2048x10752 : Shape := ⟨3, ![2, 2048, 10752]⟩
abbrev S2x3x1024x2048 : Shape := ⟨4, ![2, 3, 1024, 2048]⟩
abbrev S2x16x2048x1024 : Shape := ⟨4, ![2, 16, 2048, 1024]⟩
abbrev S2x16x1024x2048 : Shape := ⟨4, ![2, 16, 1024, 2048]⟩
abbrev S2x128x256x1024 : Shape := ⟨4, ![2, 128, 256, 1024]⟩
abbrev S2x128x128x2048 : Shape := ⟨4, ![2, 128, 128, 2048]⟩
abbrev S128x256x1024 : Shape := ⟨3, ![128, 256, 1024]⟩
abbrev S128x128x2048 : Shape := ⟨3, ![128, 128, 2048]⟩
abbrev S1x1024x2048 : Shape := ⟨3, ![1, 1024, 2048]⟩
abbrev S1x1024x1024 : Shape := ⟨3, ![1, 1024, 1024]⟩
abbrev S1x2048x256 : Shape := ⟨3, ![1, 2048, 256]⟩
abbrev S1x1x1024x256 : Shape := ⟨4, ![1, 1, 1024, 256]⟩
abbrev S1x1x256x1024 : Shape := ⟨4, ![1, 1, 256, 1024]⟩
abbrev S1x1x128x2048 : Shape := ⟨4, ![1, 1, 128, 2048]⟩
abbrev S1x1024x256 : Shape := ⟨3, ![1, 1024, 256]⟩
abbrev S1x256x1024 : Shape := ⟨3, ![1, 256, 1024]⟩
abbrev S1x128x2048 : Shape := ⟨3, ![1, 128, 2048]⟩
abbrev S1024x2048 : Shape := ⟨2, ![1024, 2048]⟩
abbrev S2048x256 : Shape := ⟨2, ![2048, 256]⟩
abbrev S1024x256 : Shape := ⟨2, ![1024, 256]⟩
abbrev S1024x1024 : Shape := ⟨2, ![1024, 1024]⟩
abbrev S256x1024 : Shape := ⟨2, ![256, 1024]⟩
abbrev S128x2048 : Shape := ⟨2, ![128, 2048]⟩

abbrev nBuf : Space → Nat
  | .hbm => 17
  | .vmem => 34
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2x2048x10752, .f32⟩
  | .hbm, ⟨5, _⟩ => ⟨S2x3x1024x2048, .f32⟩
  | .hbm, ⟨6, _⟩ => ⟨S2x16x2048x1024, .f32⟩
  | .hbm, ⟨7, _⟩ => ⟨S2x16x2048x1024, .f32⟩
  | .hbm, ⟨8, _⟩ => ⟨S2x16x1024x2048, .f32⟩
  | .hbm, ⟨9, _⟩ => ⟨S2x3x1024x2048, .bf16⟩
  | .hbm, ⟨10, _⟩ => ⟨S2x128x256x1024, .f32⟩
  | .hbm, ⟨11, _⟩ => ⟨S2x128x256x1024, .f32⟩
  | .hbm, ⟨12, _⟩ => ⟨S2x128x128x2048, .f32⟩
  | .hbm, ⟨13, _⟩ => ⟨S8x2048x2048, .bf16⟩
  | .hbm, ⟨14, _⟩ => ⟨S128x256x1024, .bf16⟩
  | .hbm, ⟨15, _⟩ => ⟨S128x256x1024, .bf16⟩
  | .hbm, ⟨16, _⟩ => ⟨S128x128x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x256, .bf16⟩
  | .local _ .vmem, ⟨17, _⟩ => ⟨S1x1x1024x256, .bf16⟩
  | .local _ .vmem, ⟨18, _⟩ => ⟨S1x1x1024x256, .bf16⟩
  | .local _ .vmem, ⟨19, _⟩ => ⟨S1x1x1024x256, .bf16⟩
  | .local _ .vmem, ⟨20, _⟩ => ⟨S1x1x256x1024, .f32⟩
  | .local _ .vmem, ⟨21, _⟩ => ⟨S1x1x256x1024, .f32⟩
  | .local _ .vmem, ⟨22, _⟩ => ⟨S1x1x256x1024, .f32⟩
  | .local _ .vmem, ⟨23, _⟩ => ⟨S1x1x256x1024, .f32⟩
  | .local _ .vmem, ⟨24, _⟩ => ⟨S1x1x128x2048, .f32⟩
  | .local _ .vmem, ⟨25, _⟩ => ⟨S1x1x128x2048, .f32⟩
  | .local _ .vmem, ⟨26, _⟩ => ⟨S1x1024x256, .bf16⟩
  | .local _ .vmem, ⟨27, _⟩ => ⟨S1x1024x256, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x128x2048, .bf16⟩
  | .local _ .vmem, ⟨33, _⟩ => ⟨S1x128x2048, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg2
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg2
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg2
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  let c0_i32_2 : BitVec 32 := 0#32
  ![c0_i32.toNat, v3.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== MergeRefIdeal.lean ====
abbrev S8x2048x2048 : Shape := ⟨3, ![8, 2048, 2048]⟩
abbrev S8x2048x1024 : Shape := ⟨3, ![8, 2048, 1024]⟩
abbrev S2x2048x10752 : Shape := ⟨3, ![2, 2048, 10752]⟩
abbrev S2x3x1024x2048 : Shape := ⟨4, ![2, 3, 1024, 2048]⟩
abbrev S2x16x2048x1024 : Shape := ⟨4, ![2, 16, 2048, 1024]⟩
abbrev S2x16x1024x2048 : Shape := ⟨4, ![2, 16, 1024, 2048]⟩
abbrev S1x2048x10752 : Shape := ⟨3, ![1, 2048, 10752]⟩
abbrev S2048x10752 : Shape := ⟨2, ![2048, 10752]⟩
abbrev S8x2048x10752 : Shape := ⟨3, ![8, 2048, 10752]⟩
abbrev S8x2048x6144 : Shape := ⟨3, ![8, 2048, 6144]⟩
abbrev S8x2048x3x2048 : Shape := ⟨4, ![8, 2048, 3, 2048]⟩
abbrev S_ : Shape := ⟨0, ![]⟩
abbrev S8x2048x1x2048 : Shape := ⟨4, ![8, 2048, 1, 2048]⟩
abbrev S1x1x1024x2048 : Shape := ⟨4, ![1, 1, 1024, 2048]⟩
abbrev S1024x2048 : Shape := ⟨2, ![1024, 2048]⟩
abbrev S1x16x2048x1024 : Shape := ⟨4, ![1, 16, 2048, 1024]⟩
abbrev S16x2048x1024 : Shape := ⟨3, ![16, 2048, 1024]⟩
abbrev S128x256x1024 : Shape := ⟨3, ![128, 256, 1024]⟩
abbrev S1x16x1024x2048 : Shape := ⟨4, ![1, 16, 1024, 2048]⟩
abbrev S16x1024x2048 : Shape := ⟨3, ![16, 1024, 2048]⟩
abbrev S128x128x2048 : Shape := ⟨3, ![128, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2x2048x10752, .f32⟩
  | .hbm, ⟨5, _⟩ => ⟨S2x3x1024x2048, .f32⟩
  | .hbm, ⟨6, _⟩ => ⟨S2x16x2048x1024, .f32⟩
  | .hbm, ⟨7, _⟩ => ⟨S2x16x2048x1024, .f32⟩
  | .hbm, ⟨8, _⟩ => ⟨S2x16x1024x2048, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x2048, .f32⟩
  | .hbm, ⟨13, _⟩ => ⟨S1x2048x10752, .f32⟩
  | .hbm, ⟨14, _⟩ => ⟨S2048x10752, .f32⟩
  | .hbm, ⟨15, _⟩ => ⟨S8x2048x10752, .f32⟩
  | .hbm, ⟨16, _⟩ => ⟨S8x2048x6144, .f32⟩
  | .hbm, ⟨17, _⟩ => ⟨S8x2048x3x2048, .f32⟩
  | .hbm, ⟨18, _⟩ => ⟨S8x2048x3x2048, .f32⟩
  | .hbm, ⟨19, _⟩ => ⟨S8x2048x3x2048, .f32⟩
  | .hbm, ⟨20, _⟩ => ⟨S_, .f32⟩
  | .hbm, ⟨21, _⟩ => ⟨S8x2048x3x2048, .f32⟩
  | .hbm, ⟨22, _⟩ => ⟨S8x2048x3x2048, .f32⟩
  | .hbm, ⟨23, _⟩ => ⟨S_, .f32⟩
  | .hbm, ⟨24, _⟩ => ⟨S8x2048x3x2048, .f32⟩
  | .hbm, ⟨25, _⟩ => ⟨S8x2048x3x2048, .f32⟩
  | .hbm, ⟨26, _⟩ => ⟨S8x2048x1x2048, .f32⟩
  | .hbm, ⟨27, _⟩ => ⟨S8x2048x2048, .f32⟩
  | .hbm, ⟨28, _⟩ => ⟨S1x1x1024x2048, .f32⟩
  | .hbm, ⟨29, _⟩ => ⟨S1024x2048, .f32⟩
  | .hbm, ⟨30, _⟩ => ⟨S8x2048x2048, .f32⟩
  | .hbm, ⟨31, _⟩ => ⟨S8x2048x2048, .f32⟩
  | .hbm, ⟨32, _⟩ => ⟨S8x2048x1x2048, .f32⟩
  | .hbm, ⟨33, _⟩ => ⟨S8x2048x2048, .f32⟩
  | .hbm, ⟨34, _⟩ => ⟨S1x1x1024x2048, .f32⟩
  | .hbm, ⟨35, _⟩ => ⟨S1024x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x1x2048, .f32⟩
  | .hbm, ⟨40, _⟩ => ⟨S8x2048x2048, .f32⟩
  | .hbm, ⟨41, _⟩ => ⟨S1x1x1024x2048, .f32⟩
  | .hbm, ⟨42, _⟩ => ⟨S1024x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .bf16⟩
  | .hbm, ⟨47, _⟩ => ⟨S1x16x2048x1024, .f32⟩
  | .hbm, ⟨48, _⟩ => ⟨S16x2048x1024, .f32⟩
  | .hbm, ⟨49, _⟩ => ⟨S16x2048x1024, .bf16⟩
  | .hbm, ⟨50, _⟩ => ⟨S128x256x1024, .bf16⟩
  | .hbm, ⟨51, _⟩ => ⟨S1x16x2048x1024, .f32⟩
  | .hbm, ⟨52, _⟩ => ⟨S16x2048x1024, .f32⟩
  | .hbm, ⟨53, _⟩ => ⟨S16x2048x1024, .bf16⟩
  | .hbm, ⟨54, _⟩ => ⟨S128x256x1024, .bf16⟩
  | .hbm, ⟨55, _⟩ => ⟨S1x16x1024x2048, .f32⟩
  | .hbm, ⟨56, _⟩ => ⟨S16x1024x2048, .f32⟩
  | .hbm, ⟨57, _⟩ => ⟨S16x1024x2048, .bf16⟩
  | .hbm, ⟨58, _⟩ => ⟨S128x128x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== InProjB.lean ====
abbrev S8x2048x2048 : Shape := ⟨3, ![8, 2048, 2048]⟩
abbrev S2x2048x10752 : Shape := ⟨3, ![2, 2048, 10752]⟩
abbrev S2x2048x4608 : Shape := ⟨3, ![2, 2048, 4608]⟩
abbrev S8x2048x4608 : Shape := ⟨3, ![8, 2048, 4608]⟩
abbrev S1x1024x2048 : Shape := ⟨3, ![1, 1024, 2048]⟩
abbrev S1x2048x512 : Shape := ⟨3, ![1, 2048, 512]⟩
abbrev S1x1024x512 : Shape := ⟨3, ![1, 1024, 512]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x10752, .f32⟩
  | .hbm, ⟨2, _⟩ => ⟨S2x2048x4608, .f32⟩
  | .hbm, ⟨3, _⟩ => ⟨S2x2048x4608, .bf16⟩
  | .hbm, ⟨4, _⟩ => ⟨S8x2048x4608, .f32⟩
  | .local _ .vmem, ⟨0, _⟩ => ⟨S1x1024x2048, .bf16⟩
  | .local _ .vmem, ⟨1, _⟩ => ⟨S1x1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x1024x512, .f32⟩
  | .local _ .vmem, ⟨5, _⟩ => ⟨S1x1024x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 9], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c1_i32 : BitVec 32 := 1#32
  let c0_i32_0 : BitVec 32 := 0#32
  let c0_i32_1 : BitVec 32 := 0#32
  ![c1_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg2 c2_i32
  let c2_i32_0 : BitVec 32 := 2#32
  let v1 : BitVec 1 := Scalar.cmpi .eq arg2 c2_i32_0
  let c1_i32 : BitVec 32 := 1#32
  let v2 : BitVec 32 := Scalar.subi arg2 c1_i32
  let c8_i32 : BitVec 32 := 8#32
  let v3 : BitVec 32 := Scalar.select v1 c8_i32 v2
  let v4 : BitVec 32 := Scalar.select v0 arg2 v3
  let c0_i32 : BitVec 32 := 0#32
  ![arg0.toNat, arg1.toNat, v4.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjBRefIdeal.lean ====
abbrev S8x2048x2048 : Shape := ⟨3, ![8, 2048, 2048]⟩
abbrev S2x2048x10752 : Shape := ⟨3, ![2, 2048, 10752]⟩
abbrev S1x2048x10752 : Shape := ⟨3, ![1, 2048, 10752]⟩
abbrev S2048x10752 : Shape := ⟨2, ![2048, 10752]⟩
abbrev S8x2048x10752 : Shape := ⟨3, ![8, 2048, 10752]⟩
abbrev S8x2048x1024 : Shape := ⟨3, ![8, 2048, 1024]⟩
abbrev S8x2048x256 : Shape := ⟨3, ![8, 2048, 256]⟩
abbrev S8x2048x4608 : Shape := ⟨3, ![8, 2048, 4608]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x10752, .f32⟩
  | .hbm, ⟨2, _⟩ => ⟨S8x2048x2048, .f32⟩
  | .hbm, ⟨3, _⟩ => ⟨S1x2048x10752, .f32⟩
  | .hbm, ⟨4, _⟩ => ⟨S2048x10752, .f32⟩
  | .hbm, ⟨5, _⟩ => ⟨S8x2048x10752, .f32⟩
  | .hbm, ⟨6, _⟩ => ⟨S8x2048x1024, .f32⟩
  | .hbm, ⟨7, _⟩ => ⟨S8x2048x256, .f32⟩
  | .hbm, ⟨8, _⟩ => ⟨S8x2048x256, .f32⟩
  | .hbm, ⟨9, _⟩ => ⟨S8x2048x1024, .f32⟩
  | .hbm, ⟨10, _⟩ => ⟨S8x2048x2048, .f32⟩
  | .hbm, ⟨11, _⟩ => ⟨S8x2048x4608, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== MergeB.lean ====
abbrev S8x2048x2048 : Shape := ⟨3, ![8, 2048, 2048]⟩
abbrev S8x2048x1024 : Shape := ⟨3, ![8, 2048, 1024]⟩
abbrev S2x2048x10752 : Shape := ⟨3, ![2, 2048, 10752]⟩
abbrev S2x3x1024x2048 : Shape := ⟨4, ![2, 3, 1024, 2048]⟩
abbrev S2x16x2048x1024 : Shape := ⟨4, ![2, 16, 2048, 1024]⟩
abbrev S2x16x1024x2048 : Shape := ⟨4, ![2, 16, 1024, 2048]⟩
abbrev S2x128x256x1024 : Shape := ⟨4, ![2, 128, 256, 1024]⟩
abbrev S2x128x128x2048 : Shape := ⟨4, ![2, 128, 128, 2048]⟩
abbrev S128x256x1024 : Shape := ⟨3, ![128, 256, 1024]⟩
abbrev S128x128x2048 : Shape := ⟨3, ![128, 128, 2048]⟩
abbrev S1x1024x2048 : Shape := ⟨3, ![1, 1024, 2048]⟩
abbrev S1x1024x1024 : Shape := ⟨3, ![1, 1024, 1024]⟩
abbrev S1x2048x256 : Shape := ⟨3, ![1, 2048, 256]⟩
abbrev S1x1x1024x256 : Shape := ⟨4, ![1, 1, 1024, 256]⟩
abbrev S1x1x256x1024 : Shape := ⟨4, ![1, 1, 256, 1024]⟩
abbrev S1x1x128x2048 : Shape := ⟨4, ![1, 1, 128, 2048]⟩
abbrev S1x1024x256 : Shape := ⟨3, ![1, 1024, 256]⟩
abbrev S1x256x1024 : Shape := ⟨3, ![1, 256, 1024]⟩
abbrev S1x128x2048 : Shape := ⟨3, ![1, 128, 2048]⟩
abbrev S1024x2048 : Shape := ⟨2, ![1024, 2048]⟩
abbrev S2048x256 : Shape := ⟨2, ![2048, 256]⟩
abbrev S1024x256 : Shape := ⟨2, ![1024, 256]⟩
abbrev S1024x1024 : Shape := ⟨2, ![1024, 1024]⟩
abbrev S256x1024 : Shape := ⟨2, ![256, 1024]⟩
abbrev S128x2048 : Shape := ⟨2, ![128, 2048]⟩

abbrev nBuf : Space → Nat
  | .hbm => 17
  | .vmem => 34
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2x2048x10752, .f32⟩
  | .hbm, ⟨5, _⟩ => ⟨S2x3x1024x2048, .f32⟩
  | .hbm, ⟨6, _⟩ => ⟨S2x16x2048x1024, .f32⟩
  | .hbm, ⟨7, _⟩ => ⟨S2x16x2048x1024, .f32⟩
  | .hbm, ⟨8, _⟩ => ⟨S2x16x1024x2048, .f32⟩
  | .hbm, ⟨9, _⟩ => ⟨S2x3x1024x2048, .bf16⟩
  | .hbm, ⟨10, _⟩ => ⟨S2x128x256x1024, .f32⟩
  | .hbm, ⟨11, _⟩ => ⟨S2x128x256x1024, .f32⟩
  | .hbm, ⟨12, _⟩ => ⟨S2x128x128x2048, .f32⟩
  | .hbm, ⟨13, _⟩ => ⟨S8x2048x2048, .bf16⟩
  | .hbm, ⟨14, _⟩ => ⟨S128x256x1024, .bf16⟩
  | .hbm, ⟨15, _⟩ => ⟨S128x256x1024, .bf16⟩
  | .hbm, ⟨16, _⟩ => ⟨S128x128x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x256, .bf16⟩
  | .local _ .vmem, ⟨17, _⟩ => ⟨S1x1x1024x256, .bf16⟩
  | .local _ .vmem, ⟨18, _⟩ => ⟨S1x1x1024x256, .bf16⟩
  | .local _ .vmem, ⟨19, _⟩ => ⟨S1x1x1024x256, .bf16⟩
  | .local _ .vmem, ⟨20, _⟩ => ⟨S1x1x256x1024, .f32⟩
  | .local _ .vmem, ⟨21, _⟩ => ⟨S1x1x256x1024, .f32⟩
  | .local _ .vmem, ⟨22, _⟩ => ⟨S1x1x256x1024, .f32⟩
  | .local _ .vmem, ⟨23, _⟩ => ⟨S1x1x256x1024, .f32⟩
  | .local _ .vmem, ⟨24, _⟩ => ⟨S1x1x128x2048, .f32⟩
  | .local _ .vmem, ⟨25, _⟩ => ⟨S1x1x128x2048, .f32⟩
  | .local _ .vmem, ⟨26, _⟩ => ⟨S1x1024x256, .bf16⟩
  | .local _ .vmem, ⟨27, _⟩ => ⟨S1x1024x256, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x1024, .bf16⟩
  | .local _ .vmem, ⟨32, _⟩ => ⟨S1x128x2048, .bf16⟩
  | .local _ .vmem, ⟨33, _⟩ => ⟨S1x128x2048, .bf16⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg2
  let c1_i32 : BitVec 32 := 1#32
  let c0_i32 : BitVec 32 := 0#32
  let c0_i32_0 : BitVec 32 := 0#32
  ![c1_i32.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg2
  let c1_i32 : BitVec 32 := 1#32
  let c0_i32 : BitVec 32 := 0#32
  let c0_i32_0 : BitVec 32 := 0#32
  ![c1_i32.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg2
  let c1_i32 : BitVec 32 := 1#32
  let c0_i32 : BitVec 32 := 0#32
  let c0_i32_0 : BitVec 32 := 0#32
  ![c1_i32.toNat, c0_i32.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg2.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg2.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c2_i32 : BitVec 32 := 2#32
  let c0_i32 : BitVec 32 := 0#32
  let c0_i32_0 : BitVec 32 := 0#32
  ![c1_i32.toNat, c2_i32.toNat, c0_i32.toNat, arg2.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c1_i32 : BitVec 32 := 1#32
  let c0_i32 : BitVec 32 := 0#32
  let c0_i32_0 : BitVec 32 := 0#32
  let c0_i32_1 : BitVec 32 := 0#32
  ![c1_i32.toNat, v3.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c8_i32 : BitVec 32 := 8#32
  let v2 : BitVec 32 := Scalar.muli v1 c8_i32
  let v3 : BitVec 32 := Scalar.addi v2 arg2
  let c0_i32 : BitVec 32 := 0#32
  let c0_i32_0 : BitVec 32 := 0#32
  let c0_i32_1 : BitVec 32 := 0#32
  ![v3.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x128x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1024x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x128x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== MergeBRefIdeal.lean ====
abbrev S8x2048x2048 : Shape := ⟨3, ![8, 2048, 2048]⟩
abbrev S8x2048x1024 : Shape := ⟨3, ![8, 2048, 1024]⟩
abbrev S2x2048x10752 : Shape := ⟨3, ![2, 2048, 10752]⟩
abbrev S2x3x1024x2048 : Shape := ⟨4, ![2, 3, 1024, 2048]⟩
abbrev S2x16x2048x1024 : Shape := ⟨4, ![2, 16, 2048, 1024]⟩
abbrev S2x16x1024x2048 : Shape := ⟨4, ![2, 16, 1024, 2048]⟩
abbrev S1x2048x10752 : Shape := ⟨3, ![1, 2048, 10752]⟩
abbrev S2048x10752 : Shape := ⟨2, ![2048, 10752]⟩
abbrev S8x2048x10752 : Shape := ⟨3, ![8, 2048, 10752]⟩
abbrev S8x2048x6144 : Shape := ⟨3, ![8, 2048, 6144]⟩
abbrev S8x2048x3x2048 : Shape := ⟨4, ![8, 2048, 3, 2048]⟩
abbrev S_ : Shape := ⟨0, ![]⟩
abbrev S8x2048x1x2048 : Shape := ⟨4, ![8, 2048, 1, 2048]⟩
abbrev S1x1x1024x2048 : Shape := ⟨4, ![1, 1, 1024, 2048]⟩
abbrev S1024x2048 : Shape := ⟨2, ![1024, 2048]⟩
abbrev S1x16x2048x1024 : Shape := ⟨4, ![1, 16, 2048, 1024]⟩
abbrev S16x2048x1024 : Shape := ⟨3, ![16, 2048, 1024]⟩
abbrev S128x256x1024 : Shape := ⟨3, ![128, 256, 1024]⟩
abbrev S1x16x1024x2048 : Shape := ⟨4, ![1, 16, 1024, 2048]⟩
abbrev S16x1024x2048 : Shape := ⟨3, ![16, 1024, 2048]⟩
abbrev S128x128x2048 : Shape := ⟨3, ![128, 128, 2048]⟩

abbrev nBuf : Space → Nat
  | .hbm => 59
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x1024, .bf16⟩
  | .hbm, ⟨2, _⟩ => ⟨S8x2048x1024, .bf16⟩
  | .hbm, ⟨3, _⟩ => ⟨S8x2048x1024, .bf16⟩
  | .hbm, ⟨4, _⟩ => ⟨S2x2048x10752, .f32⟩
  | .hbm, ⟨5, _⟩ => ⟨S2x3x1024x2048, .f32⟩
  | .hbm, ⟨6, _⟩ => ⟨S2x16x2048x1024, .f32⟩
  | .hbm, ⟨7, _⟩ => ⟨S2x16x2048x1024, .f32⟩
  | .hbm, ⟨8, _⟩ => ⟨S2x16x1024x2048, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S8x2048x2048, .f32⟩
  | .hbm, ⟨13, _⟩ => ⟨S1x2048x10752, .f32⟩
  | .hbm, ⟨14, _⟩ => ⟨S2048x10752, .f32⟩
  | .hbm, ⟨15, _⟩ => ⟨S8x2048x10752, .f32⟩
  | .hbm, ⟨16, _⟩ => ⟨S8x2048x6144, .f32⟩
  | .hbm, ⟨17, _⟩ => ⟨S8x2048x3x2048, .f32⟩
  | .hbm, ⟨18, _⟩ => ⟨S8x2048x3x2048, .f32⟩
  | .hbm, ⟨19, _⟩ => ⟨S8x2048x3x2048, .f32⟩
  | .hbm, ⟨20, _⟩ => ⟨S_, .f32⟩
  | .hbm, ⟨21, _⟩ => ⟨S8x2048x3x2048, .f32⟩
  | .hbm, ⟨22, _⟩ => ⟨S8x2048x3x2048, .f32⟩
  | .hbm, ⟨23, _⟩ => ⟨S_, .f32⟩
  | .hbm, ⟨24, _⟩ => ⟨S8x2048x3x2048, .f32⟩
  | .hbm, ⟨25, _⟩ => ⟨S8x2048x3x2048, .f32⟩
  | .hbm, ⟨26, _⟩ => ⟨S8x2048x1x2048, .f32⟩
  | .hbm, ⟨27, _⟩ => ⟨S8x2048x2048, .f32⟩
  | .hbm, ⟨28, _⟩ => ⟨S1x1x1024x2048, .f32⟩
  | .hbm, ⟨29, _⟩ => ⟨S1024x2048, .f32⟩
  | .hbm, ⟨30, _⟩ => ⟨S8x2048x2048, .f32⟩
  | .hbm, ⟨31, _⟩ => ⟨S8x2048x2048, .f32⟩
  | .hbm, ⟨32, _⟩ => ⟨S8x2048x1x2048, .f32⟩
  | .hbm, ⟨33, _⟩ => ⟨S8x2048x2048, .f32⟩
  | .hbm, ⟨34, _⟩ => ⟨S1x1x1024x2048, .f32⟩
  | .hbm, ⟨35, _⟩ => ⟨S1024x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x1x2048, .f32⟩
  | .hbm, ⟨40, _⟩ => ⟨S8x2048x2048, .f32⟩
  | .hbm, ⟨41, _⟩ => ⟨S1x1x1024x2048, .f32⟩
  | .hbm, ⟨42, _⟩ => ⟨S1024x2048, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S8x2048x2048, .bf16⟩
  | .hbm, ⟨47, _⟩ => ⟨S1x16x2048x1024, .f32⟩
  | .hbm, ⟨48, _⟩ => ⟨S16x2048x1024, .f32⟩
  | .hbm, ⟨49, _⟩ => ⟨S16x2048x1024, .bf16⟩
  | .hbm, ⟨50, _⟩ => ⟨S128x256x1024, .bf16⟩
  | .hbm, ⟨51, _⟩ => ⟨S1x16x2048x1024, .f32⟩
  | .hbm, ⟨52, _⟩ => ⟨S16x2048x1024, .f32⟩
  | .hbm, ⟨53, _⟩ => ⟨S16x2048x1024, .bf16⟩
  | .hbm, ⟨54, _⟩ => ⟨S128x256x1024, .bf16⟩
  | .hbm, ⟨55, _⟩ => ⟨S1x16x1024x2048, .f32⟩
  | .hbm, ⟨56, _⟩ => ⟨S16x1024x2048, .f32⟩
  | .hbm, ⟨57, _⟩ => ⟨S16x1024x2048, .bf16⟩
  | .hbm, ⟨58, _⟩ => ⟨S128x128x2048, .bf16⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== OutProj.lean ====
abbrev S8x2048x2048 : Shape := ⟨3, ![8, 2048, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8x16x2048 : Shape := ⟨3, ![8, 16, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1x16x512 : Shape := ⟨3, ![1, 16, 512]⟩
abbrev S1x128x2048 : Shape := ⟨3, ![1, 128, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 19
  | .vmem => 20
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x2048, .f32⟩
  | .hbm, ⟨2, _⟩ => ⟨S8x2048x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2x2048x2048, .bf16⟩
  | .hbm, ⟨14, _⟩ => ⟨S1x2048, .f32⟩
  | .hbm, ⟨15, _⟩ => ⟨S1x2048, .f32⟩
  | .hbm, ⟨16, _⟩ => ⟨S8x2048x2048, .f32⟩
  | .hbm, ⟨17, _⟩ => ⟨S8x2048x2048, .bf16⟩
  | .hbm, ⟨18, _⟩ => ⟨S8x16x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x2048, .bf16⟩
  | .local _ .vmem, ⟨17, _⟩ => ⟨S1x512x2048, .bf16⟩
  | .local _ .vmem, ⟨18, _⟩ => ⟨S1x16x512, .f32⟩
  | .local _ .vmem, ⟨19, _⟩ => ⟨S1x16x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjIdeal.lean ====
variable {F : FTy → Type} [FloatOps F] [Named F]
def κ : String → Option EReal := fun
  | "alpha" => some ((Real.sqrt 2 : ℝ) : EReal)
  | "mask" => some ⊥
  | _ => none
-- ==== OutProjRefIdeal.lean ====
abbrev S8x2048x2048 : Shape := ⟨3, ![8, 2048, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S1x2048x2048 : Shape := ⟨3, ![1, 2048, 2048]⟩
abbrev S2048x2048 : Shape := ⟨2, ![2048, 2048]⟩
abbrev S_ : Shape := ⟨0, ![]⟩
abbrev S8x1x2048 : Shape := ⟨3, ![8, 1, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x2048x16 : Shape := ⟨3, ![8, 2048, 16]⟩
abbrev S8x16x2048 : Shape := ⟨3, ![8, 16, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x2048, .f32⟩
  | .hbm, ⟨2, _⟩ => ⟨S8x2048x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S8x2048x2048, .f32⟩
  | .hbm, ⟨10, _⟩ => ⟨S1x2048x2048, .f32⟩
  | .hbm, ⟨11, _⟩ => ⟨S2048x2048, .f32⟩
  | .hbm, ⟨12, _⟩ => ⟨S8x2048x2048, .f32⟩
  | .hbm, ⟨13, _⟩ => ⟨S_, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S1x1x2048, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x1x2048, .f32⟩
  | .hbm, ⟨51, _⟩ => ⟨S_, .f32⟩
  | .hbm, ⟨52, _⟩ => ⟨S8x1x2048, .f32⟩
  | .hbm, ⟨53, _⟩ => ⟨S8x1x2048, .f32⟩
  | .hbm, ⟨54, _⟩ => ⟨S8x2048x2048, .f32⟩
  | .hbm, ⟨55, _⟩ => ⟨S8x2048x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S8x2048x16, .f32⟩
  | .hbm, ⟨60, _⟩ => ⟨S_, .f32⟩
  | .hbm, ⟨61, _⟩ => ⟨S8x2048, .f32⟩
  | .hbm, ⟨62, _⟩ => ⟨S_, .f32⟩
  | .hbm, ⟨63, _⟩ => ⟨S8x2048, .f32⟩
  | .hbm, ⟨64, _⟩ => ⟨S8x2048, .f32⟩
  | .hbm, ⟨65, _⟩ => ⟨S8x2048x1, .f32⟩
  | .hbm, ⟨66, _⟩ => ⟨S8x2048x16, .f32⟩
  | .hbm, ⟨67, _⟩ => ⟨S8x2048x16, .f32⟩
  | .hbm, ⟨68, _⟩ => ⟨S8x2048x16, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x16, .f32⟩
  | .hbm, ⟨73, _⟩ => ⟨S8x2048x16, .f32⟩
  | .hbm, ⟨74, _⟩ => ⟨S8x2048x2048, .bf16⟩
  | .hbm, ⟨75, _⟩ => ⟨S8x16x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== OutProjB.lean ====
abbrev S8x2048x2048 : Shape := ⟨3, ![8, 2048, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8x16x2048 : Shape := ⟨3, ![8, 16, 2048]⟩
abbrev S1x512x2048 : Shape := ⟨3, ![1, 512, 2048]⟩
abbrev S1x2048x2048 : Shape := ⟨3, ![1, 2048, 2048]⟩
abbrev S1x1x2048 : Shape := ⟨3, ![1, 1, 2048]⟩
abbrev S1x16x512 : Shape := ⟨3, ![1, 16, 512]⟩
abbrev S1x128x2048 : Shape := ⟨3, ![1, 128, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 19
  | .vmem => 20
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x2048, .f32⟩
  | .hbm, ⟨2, _⟩ => ⟨S8x2048x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2x2048x2048, .bf16⟩
  | .hbm, ⟨14, _⟩ => ⟨S1x2048, .f32⟩
  | .hbm, ⟨15, _⟩ => ⟨S1x2048, .f32⟩
  | .hbm, ⟨16, _⟩ => ⟨S8x2048x2048, .f32⟩
  | .hbm, ⟨17, _⟩ => ⟨S8x2048x2048, .bf16⟩
  | .hbm, ⟨18, _⟩ => ⟨S8x16x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S1x2048x2048, .bf16⟩
  | .local _ .vmem, ⟨3, _⟩ => ⟨S1x512x2048, .f32⟩
  | .local _ .vmem, ⟨4, _⟩ => ⟨S1x512x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x2048, .f32⟩
  | .local _ .vmem, ⟨12, _⟩ => ⟨S1x2048, .f32⟩
  | .local _ .vmem, ⟨13, _⟩ => ⟨S2048x128, .bf16⟩
  | .local _ .vmem, ⟨14, _⟩ => ⟨S1x512x2048, .f32⟩
  | .local _ .vmem, ⟨15, _⟩ => ⟨S1x512x2048, .f32⟩
  | .local _ .vmem, ⟨16, _⟩ => ⟨S1x512x2048, .bf16⟩
  | .local _ .vmem, ⟨17, _⟩ => ⟨S1x512x2048, .bf16⟩
  | .local _ .vmem, ⟨18, _⟩ => ⟨S1x16x512, .f32⟩
  | .local _ .vmem, ⟨19, _⟩ => ⟨S1x16x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjBIdeal.lean ====
variable {F : FTy → Type} [FloatOps F] [Named F]
def κ : String → Option EReal := fun
  | "alpha" => some ((Real.sqrt 2 : ℝ) : EReal)
  | "mask" => some ⊥
  | _ => none
-- ==== OutProjBRefIdeal.lean ====
abbrev S8x2048x2048 : Shape := ⟨3, ![8, 2048, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S1x2048x2048 : Shape := ⟨3, ![1, 2048, 2048]⟩
abbrev S2048x2048 : Shape := ⟨2, ![2048, 2048]⟩
abbrev S_ : Shape := ⟨0, ![]⟩
abbrev S8x1x2048 : Shape := ⟨3, ![8, 1, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x2048x16 : Shape := ⟨3, ![8, 2048, 16]⟩
abbrev S8x16x2048 : Shape := ⟨3, ![8, 16, 2048]⟩

abbrev nBuf : Space → Nat
  | .hbm => 76
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2x2048x2048, .f32⟩
  | .hbm, ⟨2, _⟩ => ⟨S8x2048x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S8x2048x2048, .f32⟩
  | .hbm, ⟨10, _⟩ => ⟨S1x2048x2048, .f32⟩
  | .hbm, ⟨11, _⟩ => ⟨S2048x2048, .f32⟩
  | .hbm, ⟨12, _⟩ => ⟨S8x2048x2048, .f32⟩
  | .hbm, ⟨13, _⟩ => ⟨S_, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x1x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S8x2048x1, .f32⟩
  | .hbm, ⟨42, _⟩ => ⟨S8x2048x2048, .f32⟩
  | .hbm, ⟨43, _⟩ => ⟨S8x2048x2048, .f32⟩
  | .hbm, ⟨44, _⟩ => ⟨S1x1x2048, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x1x2048, .f32⟩
  | .hbm, ⟨51, _⟩ => ⟨S_, .f32⟩
  | .hbm, ⟨52, _⟩ => ⟨S8x1x2048, .f32⟩
  | .hbm, ⟨53, _⟩ => ⟨S8x1x2048, .f32⟩
  | .hbm, ⟨54, _⟩ => ⟨S8x2048x2048, .f32⟩
  | .hbm, ⟨55, _⟩ => ⟨S8x2048x2048, .f32⟩
  | .hbm, ⟨56, _⟩ => ⟨S8x1x2048, .f32⟩
  | .hbm, ⟨57, _⟩ => ⟨S8x2048x2048, .f32⟩
  | .hbm, ⟨58, _⟩ => ⟨S8x2048x2048, .f32⟩
  | .hbm, ⟨59, _⟩ => ⟨S8x2048x16, .f32⟩
  | .hbm, ⟨60, _⟩ => ⟨S_, .f32⟩
  | .hbm, ⟨61, _⟩ => ⟨S8x2048, .f32⟩
  | .hbm, ⟨62, _⟩ => ⟨S_, .f32⟩
  | .hbm, ⟨63, _⟩ => ⟨S8x2048, .f32⟩
  | .hbm, ⟨64, _⟩ => ⟨S8x2048, .f32⟩
  | .hbm, ⟨65, _⟩ => ⟨S8x2048x1, .f32⟩
  | .hbm, ⟨66, _⟩ => ⟨S8x2048x16, .f32⟩
  | .hbm, ⟨67, _⟩ => ⟨S8x2048x16, .f32⟩
  | .hbm, ⟨68, _⟩ => ⟨S8x2048x16, .f32⟩
  | .hbm, ⟨69, _⟩ => ⟨S_, .f32⟩
  | .hbm, ⟨70, _⟩ => ⟨S8x2048, .f32⟩
  | .hbm, ⟨71, _⟩ => ⟨S8x2048x1, .f32⟩
  | .hbm, ⟨72, _⟩ => ⟨S8x2048x16, .f32⟩
  | .hbm, ⟨73, _⟩ => ⟨S8x2048x16, .f32⟩
  | .hbm, ⟨74, _⟩ => ⟨S8x2048x2048, .bf16⟩
  | .hbm, ⟨75, _⟩ => ⟨S8x16x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== InProjC.lean ====
abbrev S8x256x2048 : Shape := ⟨3, ![8, 256, 2048]⟩
abbrev S2x2048x10752 : Shape := ⟨3, ![2, 2048, 10752]⟩
abbrev S2x2048x4608 : Shape := ⟨3, ![2, 2048, 4608]⟩
abbrev S8x256x4608 : Shape := ⟨3, ![8, 256, 4608]⟩
abbrev S1x256x2048 : Shape := ⟨3, ![1, 256, 2048]⟩
abbrev S1x2048x512 : Shape := ⟨3, ![1, 2048, 512]⟩
abbrev S1x256x512 : Shape := ⟨3, ![1, 256, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x256x2048, .bf16⟩
  | .hbm, ⟨1, _⟩ => ⟨S2x2048x10752, .f32⟩
  | .hbm, ⟨2, _⟩ => ⟨S2x2048x4608, .f32⟩
  | .hbm, ⟨3, _⟩ => ⟨S2x2048x4608, .bf16⟩
  | .hbm, ⟨4, _⟩ => ⟨S8x256x4608, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x512, .f32⟩
  | .local _ .vmem, ⟨5, _⟩ => ⟨S1x256x512, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .slt arg0 c2_i32
  let c2_i32_0 : BitVec 32 := 2#32
  let v1 : BitVec 1 := Scalar.cmpi .eq arg0 c2_i32_0
  let c1_i32 : BitVec 32 := 1#32
  let v2 : BitVec 32 := Scalar.subi arg0 c1_i32
  let c8_i32 : BitVec 32 := 8#32
  let v3 : BitVec 32 := Scalar.select v1 c8_i32 v2
  let v4 : BitVec 32 := Scalar.select v0 arg0 v3
  let c0_i32 : BitVec 32 := 0#32
  ![arg1.toNat, arg2.toNat, v4.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjCRefIdeal.lean ====
abbrev S8x256x2048 : Shape := ⟨3, ![8, 256, 2048]⟩
abbrev S2x2048x10752 : Shape := ⟨3, ![2, 2048, 10752]⟩
abbrev S1x2048x10752 : Shape := ⟨3, ![1, 2048, 10752]⟩
abbrev S2048x10752 : Shape := ⟨2, ![2048, 10752]⟩
abbrev S8x256x10752 : Shape := ⟨3, ![8, 256, 10752]⟩
abbrev S8x256x1024 : Shape := ⟨3, ![8, 256, 1024]⟩
abbrev S8x256x256 : Shape := ⟨3, ![8, 256, 256]⟩
abbrev S8x256x4608 : Shape := ⟨3, ![8, 256, 4608]⟩

abbrev nBuf : Space → Nat
  | .hbm => 12
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2x2048x10752, .f32⟩
  | .hbm, ⟨2, _⟩ => ⟨S8x256x2048, .f32⟩
  | .hbm, ⟨3, _⟩ => ⟨S1x2048x10752, .f32⟩
  | .hbm, ⟨4, _⟩ => ⟨S2048x10752, .f32⟩
  | .hbm, ⟨5, _⟩ => ⟨S8x256x10752, .f32⟩
  | .hbm, ⟨6, _⟩ => ⟨S8x256x1024, .f32⟩
  | .hbm, ⟨7, _⟩ => ⟨S8x256x256, .f32⟩
  | .hbm, ⟨8, _⟩ => ⟨S8x256x256, .f32⟩
  | .hbm, ⟨9, _⟩ => ⟨S8x256x1024, .f32⟩
  | .hbm, ⟨10, _⟩ => ⟨S8x256x2048, .f32⟩
  | .hbm, ⟨11, _⟩ => ⟨S8x256x4608, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== MergeC.lean ====
abbrev S8x256x2048 : Shape := ⟨3, ![8, 256, 2048]⟩
abbrev S8x256x1024 : Shape := ⟨3, ![8, 256, 1024]⟩
abbrev S2x2048x10752 : Shape := ⟨3, ![2, 2048, 10752]⟩
abbrev S2x3x1024x2048 : Shape := ⟨4, ![2, 3, 1024, 2048]⟩
abbrev S1x256x2048 : Shape := ⟨3, ![1, 256, 2048]⟩
abbrev S1x256x1024 : Shape := ⟨3, ![1, 256, 1024]⟩
abbrev S1x2048x256 : Shape := ⟨3, ![1, 2048, 256]⟩
abbrev S1x1x1024x256 : Shape := ⟨4, ![1, 1, 1024, 256]⟩
abbrev S1x256x256 : Shape := ⟨3, ![1, 256, 256]⟩
abbrev S256x2048 : Shape := ⟨2, ![256, 2048]⟩
abbrev S2048x256 : Shape := ⟨2, ![2048, 256]⟩
abbrev S256x256 : Shape := ⟨2, ![256, 256]⟩
abbrev S256x1024 : Shape := ⟨2, ![256, 1024]⟩
abbrev S1024x256 : Shape := ⟨2, ![1024, 256]⟩

abbrev nBuf : Space → Nat
  | .hbm => 8
  | .vmem => 22
  | .smem => 0
  | _ => 0

abbrev bufTy : (tb : Table) → Fin (tcTables nBuf tb) → BufTy
  | .hbm, ⟨0, _⟩ => ⟨S8x256x2048, .bf16⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S2x2048x10752, .f32⟩
  | .hbm, ⟨5, _⟩ => ⟨S2x3x1024x2048, .f32⟩
  | .hbm, ⟨6, _⟩ => ⟨S2x3x1024x2048, .bf16⟩
  | .hbm, ⟨7, _⟩ => ⟨S8x256x2048, .bf16⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x1x1024x256, .bf16⟩
  | .local _ .vmem, ⟨15, _⟩ => ⟨S1x1x1024x256, .bf16⟩
  | .local _ .vmem, ⟨16, _⟩ => ⟨S1x1x1024x256, .bf16⟩
  | .local _ .vmem, ⟨17, _⟩ => ⟨S1x1x1024x256, .bf16⟩
  | .local _ .vmem, ⟨18, _⟩ => ⟨S1x1x1024x256, .bf16⟩
  | .local _ .vmem, ⟨19, _⟩ => ⟨S1x1x1024x256, .bf16⟩
  | .local _ .vmem, ⟨20, _⟩ => ⟨S1x256x256, .bf16⟩
  | .local _ .vmem, ⟨21, _⟩ => ⟨S1x256x256, .bf16⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi c18_i32 arg0
  let c0_i32 : BitVec 32 := 0#32
  let c0_i32_0 : BitVec 32 := 0#32
  let c0_i32_1 : BitVec 32 := 0#32
  ![c0_i32.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c26_i32 : BitVec 32 := 26#32
  let v0 : BitVec 32 := Scalar.addi c26_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c2_i32 : BitVec 32 := 2#32
  let c0_i32_0 : BitVec 32 := 0#32
  let c0_i32_1 : BitVec 32 := 0#32
  ![c0_i32.toNat, c2_i32.toNat, c0_i32_0.toNat, arg0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S1x1x1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 2 → Memref sig .tc .vmem S1x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== MergeCRefIdeal.lean ====
abbrev S8x256x2048 : Shape := ⟨3, ![8, 256, 2048]⟩
abbrev S8x256x1024 : Shape := ⟨3, ![8, 256, 1024]⟩
abbrev S2x2048x10752 : Shape := ⟨3, ![2, 2048, 10752]⟩
abbrev S2x3x1024x2048 : Shape := ⟨4, ![2, 3, 1024, 2048]⟩
abbrev S1x2048x10752 : Shape := ⟨3, ![1, 2048, 10752]⟩
abbrev S2048x10752 : Shape := ⟨2, ![2048, 10752]⟩
abbrev S8x256x10752 : Shape := ⟨3, ![8, 256, 10752]⟩
abbrev S8x256x6144 : Shape := ⟨3, ![8, 256, 6144]⟩
abbrev S8x256x3x2048 : Shape := ⟨4, ![8, 256, 3, 2048]⟩
abbrev S_ : Shape := ⟨0, ![]⟩
abbrev S8x256x1x2048 : Shape := ⟨4, ![8, 256, 1, 2048]⟩
abbrev S1x1x1024x2048 : Shape := ⟨4, ![1, 1, 1024, 2048]⟩
abbrev S1024x2048 : Shape := ⟨2, ![1024, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S8x256x1024, .bf16⟩
  | .hbm, ⟨2, _⟩ => ⟨S8x256x1024, .bf16⟩
  | .hbm, ⟨3, _⟩ => ⟨S8x256x1024, .bf16⟩
  | .hbm, ⟨4, _⟩ => ⟨S2x2048x10752, .f32⟩
  | .hbm, ⟨5, _⟩ => ⟨S2x3x1024x2048, .f32⟩
  | .hbm, ⟨6, _⟩ => ⟨S8x256x1024, .f32⟩
  | .hbm, ⟨7, _⟩ => ⟨S8x256x1024, .f32⟩
  | .hbm, ⟨8, _⟩ => ⟨S8x256x1024, .f32⟩
  | .hbm, ⟨9, _⟩ => ⟨S8x256x2048, .f32⟩
  | .hbm, ⟨10, _⟩ => ⟨S1x2048x10752, .f32⟩
  | .hbm, ⟨11, _⟩ => ⟨S2048x10752, .f32⟩
  | .hbm, ⟨12, _⟩ => ⟨S8x256x10752, .f32⟩
  | .hbm, ⟨13, _⟩ => ⟨S8x256x6144, .f32⟩
  | .hbm, ⟨14, _⟩ => ⟨S8x256x3x2048, .f32⟩
  | .hbm, ⟨15, _⟩ => ⟨S8x256x3x2048, .f32⟩
  | .hbm, ⟨16, _⟩ => ⟨S8x256x3x2048, .f32⟩
  | .hbm, ⟨17, _⟩ => ⟨S_, .f32⟩
  | .hbm, ⟨18, _⟩ => ⟨S8x256x3x2048, .f32⟩
  | .hbm, ⟨19, _⟩ => ⟨S8x256x3x2048, .f32⟩
  | .hbm, ⟨20, _⟩ => ⟨S_, .f32⟩
  | .hbm, ⟨21, _⟩ => ⟨S8x256x3x2048, .f32⟩
  | .hbm, ⟨22, _⟩ => ⟨S8x256x3x2048, .f32⟩
  | .hbm, ⟨23, _⟩ => ⟨S8x256x1x2048, .f32⟩
  | .hbm, ⟨24, _⟩ => ⟨S8x256x2048, .f32⟩
  | .hbm, ⟨25, _⟩ => ⟨S1x1x1024x2048, .f32⟩
  | .hbm, ⟨26, _⟩ => ⟨S1024x2048, .f32⟩
  | .hbm, ⟨27, _⟩ => ⟨S8x256x2048, .f32⟩
  | .hbm, ⟨28, _⟩ => ⟨S8x256x2048, .f32⟩
  | .hbm, ⟨29, _⟩ => ⟨S8x256x1x2048, .f32⟩
  | .hbm, ⟨30, _⟩ => ⟨S8x256x2048, .f32⟩
  | .hbm, ⟨31, _⟩ => ⟨S1x1x1024x2048, .f32⟩
  | .hbm, ⟨32, _⟩ => ⟨S1024x2048, .f32⟩
  | .hbm, ⟨33, _⟩ => ⟨S8x256x2048, .f32⟩
  | .hbm, ⟨34, _⟩ => ⟨S8x256x2048, .f32⟩
  | .hbm, ⟨35, _⟩ => ⟨S8x256x2048, .f32⟩
  | .hbm, ⟨36, _⟩ => ⟨S8x256x1x2048, .f32⟩
  | .hbm, ⟨37, _⟩ => ⟨S8x256x2048, .f32⟩
  | .hbm, ⟨38, _⟩ => ⟨S1x1x1024x2048, .f32⟩
  | .hbm, ⟨39, _⟩ => ⟨S1024x2048, .f32⟩
  | .hbm, ⟨40, _⟩ => ⟨S8x256x2048, .f32⟩
  | .hbm, ⟨41, _⟩ => ⟨S8x256x2048, .f32⟩
  | .hbm, ⟨42, _⟩ => ⟨S8x256x2048, .f32⟩
  | .hbm, ⟨43, _⟩ => ⟨S8x256x2048, .bf16⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== OutProjC.lean ====
abbrev S8x256x2048 : Shape := ⟨3, ![8, 256, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S_ : Shape := ⟨0, ![]⟩
abbrev S2048x128 : Shape := ⟨2, ![2048, 128]⟩
abbrev S1x2048 : Shape := ⟨2, ![1, 2048]⟩
abbrev S8x16x256 : Shape := ⟨3, ![8, 16, 256]⟩
abbrev S1x256x2048 : Shape := ⟨3, ![1, 256, 2048]⟩
abbrev S1x2048x2048 : Shape := ⟨3, ![1, 2048, 2048]⟩
abbrev S1x1x2048 : Shape := ⟨3, ![1, 1, 2048]⟩
abbrev S1x16x256 : Shape := ⟨3, ![1, 16, 256]⟩
abbrev S1x128x2048 : Shape := ⟨3, ![1, 128, 2048]⟩
abbrev S128x2048 : Shape := ⟨2, ![128, 2048]⟩
abbrev S2048x2048 : Shape := ⟨2, ![2048, 2048]⟩
abbrev S128 : Shape := ⟨1, ![128]⟩
abbrev S128x1 : Shape := ⟨2, ![128, 1]⟩
abbrev S128x128 : Shape := ⟨2, ![128, 128]⟩
abbrev S16x128 : Shape := ⟨2, ![16, 128]⟩
abbrev S1x16x128 : Shape := ⟨3, ![1, 16, 128]⟩

abbrev nBuf : Space → Nat
  | .hbm => 19
  | .vmem => 17
  | .smem => 0
  | _ => 0

abbrev bufTy : (tb : Table) → Fin (tcTables nBuf tb) → BufTy
  | .hbm, ⟨0, _⟩ => ⟨S8x256x2048, .bf16⟩
  | .hbm, ⟨1, _⟩ => ⟨S2x2048x2048, .f32⟩
  | .hbm, ⟨2, _⟩ => ⟨S8x256x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2x2048x2048, .bf16⟩
  | .hbm, ⟨14, _⟩ => ⟨S1x2048, .f32⟩
  | .hbm, ⟨15, _⟩ => ⟨S1x2048, .f32⟩
  | .hbm, ⟨16, _⟩ => ⟨S8x256x2048, .f32⟩
  | .hbm, ⟨17, _⟩ => ⟨S8x256x2048, .bf16⟩
  | .hbm, ⟨18, _⟩ => ⟨S8x16x256, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x2048, .bf16⟩
  | .local _ .vmem, ⟨3, _⟩ => ⟨S1x256x2048, .f32⟩
  | .local _ .vmem, ⟨4, _⟩ => ⟨S1x256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | .local _ .vmem, ⟨11, _⟩ => ⟨S1x256x2048, .f32⟩
  | .local _ .vmem, ⟨12, _⟩ => ⟨S1x256x2048, .f32⟩
  | .local _ .vmem, ⟨13, _⟩ => ⟨S1x256x2048, .bf16⟩
  | .local _ .vmem, ⟨14, _⟩ => ⟨S1x256x2048, .bf16⟩
  | .local _ .vmem, ⟨15, _⟩ => ⟨S1x16x256, .f32⟩
  | .local _ .vmem, ⟨16, _⟩ => ⟨S1x16x256, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== OutProjCIdeal.lean ====
variable {F : FTy → Type} [FloatOps F] [Named F]
def κ : String → Option EReal := fun
  | "alpha" => some ((Real.sqrt 2 : ℝ) : EReal)
  | "mask" => some ⊥
  | _ => none
-- ==== OutProjCRefIdeal.lean ====
abbrev S8x256x2048 : Shape := ⟨3, ![8, 256, 2048]⟩
abbrev S2x2048x2048 : Shape := ⟨3, ![2, 2048, 2048]⟩
abbrev S16x1x2048 : Shape := ⟨3, ![16, 1, 2048]⟩
abbrev S2048 : Shape := ⟨1, ![2048]⟩
abbrev S2048x16 : Shape := ⟨2, ![2048, 16]⟩
abbrev S1x2048x2048 : Shape := ⟨3, ![1, 2048, 2048]⟩
abbrev S2048x2048 : Shape := ⟨2, ![2048, 2048]⟩
abbrev S_ : Shape := ⟨0, ![]⟩
abbrev S1x1x2048 : Shape := ⟨3, ![1, 1, 2048]⟩
abbrev S8x256 : Shape := ⟨2, ![8, 256]⟩
abbrev S8x256x1 : Shape := ⟨3, ![8, 256, 1]⟩
abbrev S8x256x16 : Shape := ⟨3, ![8, 256, 16]⟩
abbrev S8x16x256 : Shape := ⟨3, ![8, 16, 256]⟩

abbrev nBuf : Space → Nat
  | .hbm => 76
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2x2048x2048, .f32⟩
  | .hbm, ⟨2, _⟩ => ⟨S8x256x2048, .f32⟩
  | .hbm, ⟨3, _⟩ => ⟨S16x1x2048, .f32⟩
  | .hbm, ⟨4, _⟩ => ⟨S16x1x2048, .f32⟩
  | .hbm, ⟨5, _⟩ => ⟨S16x1x2048, .f32⟩
  | .hbm, ⟨6, _⟩ => ⟨S2048, .f32⟩
  | .hbm, ⟨7, _⟩ => ⟨S2048, .f32⟩
  | .hbm, ⟨8, _⟩ => ⟨S2048x16, .f32⟩
  | .hbm, ⟨9, _⟩ => ⟨S8x256x2048, .f32⟩
  | .hbm, ⟨10, _⟩ => ⟨S1x2048x2048, .f32⟩
  | .hbm, ⟨11, _⟩ => ⟨S2048x2048, .f32⟩
  | .hbm, ⟨12, _⟩ => ⟨S8x256x2048, .f32⟩
  | .hbm, ⟨13, _⟩ => ⟨S_, .f32⟩
  | .hbm, ⟨14, _⟩ => ⟨S_, .f32⟩
  | .hbm, ⟨15, _⟩ => ⟨S8x256x2048, .f32⟩
  | .hbm, ⟨16, _⟩ => ⟨S8x256x2048, .f32⟩
  | .hbm, ⟨17, _⟩ => ⟨S1x1x2048, .f32⟩
  | .hbm, ⟨18, _⟩ => ⟨S8x256x2048, .f32⟩
  | .hbm, ⟨19, _⟩ => ⟨S8x256x2048, .f32⟩
  | .hbm, ⟨20, _⟩ => ⟨S8x256x2048, .f32⟩
  | .hbm, ⟨21, _⟩ => ⟨S_, .f32⟩
  | .hbm, ⟨22, _⟩ => ⟨S8x256, .f32⟩
  | .hbm, ⟨23, _⟩ => ⟨S8x256x1, .f32⟩
  | .hbm, ⟨24, _⟩ => ⟨S_, .f32⟩
  | .hbm, ⟨25, _⟩ => ⟨S8x256x1, .f32⟩
  | .hbm, ⟨26, _⟩ => ⟨S8x256x1, .f32⟩
  | .hbm, ⟨27, _⟩ => ⟨S8x256x2048, .f32⟩
  | .hbm, ⟨28, _⟩ => ⟨S8x256x2048, .f32⟩
  | .hbm, ⟨29, _⟩ => ⟨S8x256x2048, .f32⟩
  | .hbm, ⟨30, _⟩ => ⟨S_, .f32⟩
  | .hbm, ⟨31, _⟩ => ⟨S8x256, .f32⟩
  | .hbm, ⟨32, _⟩ => ⟨S8x256x1, .f32⟩
  | .hbm, ⟨33, _⟩ => ⟨S_, .f32⟩
  | .hbm, ⟨34, _⟩ => ⟨S8x256x1, .f32⟩
  | .hbm, ⟨35, _⟩ => ⟨S8x256x1, .f32⟩
  | .hbm, ⟨36, _⟩ => ⟨S8x256x2048, .f32⟩
  | .hbm, ⟨37, _⟩ => ⟨S8x256x2048, .f32⟩
  | .hbm, ⟨38, _⟩ => ⟨S_, .f32⟩
  | .hbm, ⟨39, _⟩ => ⟨S8x256x1, .f32⟩
  | .hbm, ⟨40, _⟩ => ⟨S8x256x1, .f32⟩
  | .hbm, ⟨41, _⟩ => ⟨S8x256x1, .f32⟩
  | .hbm, ⟨42, _⟩ => ⟨S8x256x2048, .f32⟩
  | .hbm, ⟨43, _⟩ => ⟨S8x256x2048, .f32⟩
  | .hbm, ⟨44, _⟩ => ⟨S1x1x2048, .f32⟩
  | .hbm, ⟨45, _⟩ => ⟨S8x256x2048, .f32⟩
  | .hbm, ⟨46, _⟩ => ⟨S8x256x2048, .f32⟩
  | .hbm, ⟨47, _⟩ => ⟨S1x1x2048, .f32⟩
  | .hbm, ⟨48, _⟩ => ⟨S8x256x2048, .f32⟩
  | .hbm, ⟨49, _⟩ => ⟨S8x256x2048, .f32⟩
  | .hbm, ⟨50, _⟩ => ⟨S1x1x2048, .f32⟩
  | .hbm, ⟨51, _⟩ => ⟨S_, .f32⟩
  | .hbm, ⟨52, _⟩ => ⟨S1x1x2048, .f32⟩
  | .hbm, ⟨53, _⟩ => ⟨S1x1x2048, .f32⟩
  | .hbm, ⟨54, _⟩ => ⟨S8x256x2048, .f32⟩
  | .hbm, ⟨55, _⟩ => ⟨S8x256x2048, .f32⟩
  | .hbm, ⟨56, _⟩ => ⟨S1x1x2048, .f32⟩
  | .hbm, ⟨57, _⟩ => ⟨S8x256x2048, .f32⟩
  | .hbm, ⟨58, _⟩ => ⟨S8x256x2048, .f32⟩
  | .hbm, ⟨59, _⟩ => ⟨S8x256x16, .f32⟩
  | .hbm, ⟨60, _⟩ => ⟨S_, .f32⟩
  | .hbm, ⟨61, _⟩ => ⟨S8x256, .f32⟩
  | .hbm, ⟨62, _⟩ => ⟨S_, .f32⟩
  | .hbm, ⟨63, _⟩ => ⟨S8x256, .f32⟩
  | .hbm, ⟨64, _⟩ => ⟨S8x256, .f32⟩
  | .hbm, ⟨65, _⟩ => ⟨S8x256x1, .f32⟩
  | .hbm, ⟨66, _⟩ => ⟨S8x256x16, .f32⟩
  | .hbm, ⟨67, _⟩ => ⟨S8x256x16, .f32⟩
  | .hbm, ⟨68, _⟩ => ⟨S8x256x16, .f32⟩
  | .hbm, ⟨69, _⟩ => ⟨S_, .f32⟩
  | .hbm, ⟨70, _⟩ => ⟨S8x256, .f32⟩
  | .hbm, ⟨71, _⟩ => ⟨S8x256x1, .f32⟩
  | .hbm, ⟨72, _⟩ => ⟨S8x256x16, .f32⟩
  | .hbm, ⟨73, _⟩ => ⟨S8x256x16, .f32⟩
  | .hbm, ⟨74, _⟩ => ⟨S8x256x2048, .bf16⟩
  | .hbm, ⟨75, _⟩ => ⟨S8x16x256, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_6 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩

abbrev nD : Nat := 1
abbrev τ : Topo := Topo.v7x

variable {F : FTy → Type} [FloatOps F]
-- ==== InProjD.lean ====
abbrev S8x256x2048 : Shape := ⟨3, ![8, 256, 2048]⟩
abbrev S2x2048x10752 : Shape := ⟨3, ![2, 2048, 10752]⟩
abbrev S2x2048x4608 : Shape := ⟨3, ![2, 2048, 4608]⟩
abbrev S8x256x1536 : Shape := ⟨3, ![8, 256, 1536]⟩
abbrev S1x256x2048 : Shape := ⟨3, ![1, 256, 2048]⟩
abbrev S1x2048x512 : Shape := ⟨3, ![1, 2048, 512]⟩
abbrev S1x256x512 : Shape := ⟨3, ![1, 256, 512]⟩
abbrev S256x2048 : Shape := ⟨2, ![256, 2048]⟩
abbrev S2048x512 : Shape := ⟨2, ![2048, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x256x2048, .bf16⟩
  | .hbm, ⟨1, _⟩ => ⟨S2x2048x10752, .f32⟩
  | .hbm, ⟨2, _⟩ => ⟨S2x2048x4608, .f32⟩
  | .hbm, ⟨3, _⟩ => ⟨S2x2048x4608, .bf16⟩
  | .hbm, ⟨4, _⟩ => ⟨S8x256x1536, .f32⟩
  | .local _ .vmem, ⟨0, _⟩ => ⟨S1x256x2048, .bf16⟩
  | .local _ .vmem, ⟨1, _⟩ => ⟨S1x256x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1x256x512, .f32⟩
  | .local _ .vmem, ⟨5, _⟩ => ⟨S1x256x512, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c1_i32 : BitVec 32 := 1#32
  let c0_i32 : BitVec 32 := 0#32
  let c0_i32_0 : BitVec 32 := 0#32
  ![c1_i32.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== InProjDRefIdeal.lean ====
abbrev S8x256x2048 : Shape := ⟨3, ![8, 256, 2048]⟩
abbrev S2x2048x10752 : Shape := ⟨3, ![2, 2048, 10752]⟩
abbrev S1x2048x10752 : Shape := ⟨3, ![1, 2048, 10752]⟩
abbrev S2048x10752 : Shape := ⟨2, ![2048, 10752]⟩
abbrev S8x256x10752 : Shape := ⟨3, ![8, 256, 10752]⟩
abbrev S8x256x1536 : Shape := ⟨3, ![8, 256, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S2x2048x10752, .f32⟩
  | .hbm, ⟨2, _⟩ => ⟨S8x256x2048, .f32⟩
  | .hbm, ⟨3, _⟩ => ⟨S1x2048x10752, .f32⟩
  | .hbm, ⟨4, _⟩ => ⟨S2048x10752, .f32⟩
  | .hbm, ⟨5, _⟩ => ⟨S8x256x10752, .f32⟩
  | .hbm, ⟨6, _⟩ => ⟨S8x256x1536, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glu.lean ====
abbrev S8x2048x1024 : Shape := ⟨3, ![8, 2048, 1024]⟩
abbrev S8x2048x4608 : Shape := ⟨3, ![8, 2048, 4608]⟩
abbrev S1024 : Shape := ⟨1, ![1024]⟩
abbrev S2x1024x1024 : Shape := ⟨3, ![2, 1024, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S1x1024, .f32⟩
  | .hbm, ⟨6, _⟩ => ⟨S2x1024x1024, .bf16⟩
  | .hbm, ⟨7, _⟩ => ⟨S1x1024, .f32⟩
  | .hbm, ⟨8, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluRefIdeal.lean ====
abbrev S8x2048x1024 : Shape := ⟨3, ![8, 2048, 1024]⟩
abbrev S8x2048x4608 : Shape := ⟨3, ![8, 2048, 4608]⟩
abbrev S1024 : Shape := ⟨1, ![1024]⟩
abbrev S2x1024x1024 : Shape := ⟨3, ![2, 1024, 1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S8x2048x1024, .f32⟩
  | .hbm, ⟨6, _⟩ => ⟨S1x1x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024x1024, .f32⟩
  | .hbm, ⟨28, _⟩ => ⟨S1024x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== GluB.lean ====
abbrev S8x2048x1024 : Shape := ⟨3, ![8, 2048, 1024]⟩
abbrev S8x2048x4608 : Shape := ⟨3, ![8, 2048, 4608]⟩
abbrev S1024 : Shape := ⟨1, ![1024]⟩
abbrev S2x1024x1024 : Shape := ⟨3, ![2, 1024, 1024]⟩
abbrev S1x1024 : Shape := ⟨2, ![1, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S1x1024, .f32⟩
  | .hbm, ⟨6, _⟩ => ⟨S2x1024x1024, .bf16⟩
  | .hbm, ⟨7, _⟩ => ⟨S1x1024, .f32⟩
  | .hbm, ⟨8, _⟩ => ⟨S8x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S1x512x1024, .bf16⟩
  | .local _ .vmem, ⟨8, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluBRefIdeal.lean ====
abbrev S8x2048x1024 : Shape := ⟨3, ![8, 2048, 1024]⟩
abbrev S8x2048x4608 : Shape := ⟨3, ![8, 2048, 4608]⟩
abbrev S1024 : Shape := ⟨1, ![1024]⟩
abbrev S2x1024x1024 : Shape := ⟨3, ![2, 1024, 1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S8x2048x1024, .f32⟩
  | .hbm, ⟨6, _⟩ => ⟨S1x1x1024, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .f32⟩
  | .hbm, ⟨17, _⟩ => ⟨S8x2048x1024, .f32⟩
  | .hbm, ⟨18, _⟩ => ⟨S8x2048x1024, .f32⟩
  | .hbm, ⟨19, _⟩ => ⟨S8x2048x1024, .f32⟩
  | .hbm, ⟨20, _⟩ => ⟨S_, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S1x1024x1024, .f32⟩
  | .hbm, ⟨28, _⟩ => ⟨S1024x1024, .f32⟩
  | .hbm, ⟨29, _⟩ => ⟨S8x2048x1024, .f32⟩
  | .hbm, ⟨30, _⟩ => ⟨S1x1x1024, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x1024, .f32⟩
  | .hbm, ⟨35, _⟩ => ⟨S_, .f32⟩
  | .hbm, ⟨36, _⟩ => ⟨S8x2048x1024, .f32⟩
  | .hbm, ⟨37, _⟩ => ⟨S8x2048x1024, .f32⟩
  | .hbm, ⟨38, _⟩ => ⟨S_, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== GluC.lean ====
abbrev S8x256x1024 : Shape := ⟨3, ![8, 256, 1024]⟩
abbrev S8x256x4608 : Shape := ⟨3, ![8, 256, 4608]⟩
abbrev S1024 : Shape := ⟨1, ![1024]⟩
abbrev S2x1024x1024 : Shape := ⟨3, ![2, 1024, 1024]⟩
abbrev S1x1024 : Shape := ⟨2, ![1, 1024]⟩
abbrev S1x256x1024 : Shape := ⟨3, ![1, 256, 1024]⟩
abbrev S1x1024x1024 : Shape := ⟨3, ![1, 1024, 1024]⟩
abbrev S256x1024 : Shape := ⟨2, ![256, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8x256x1024, .f32⟩
  | .hbm, ⟨1, _⟩ => ⟨S8x256x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S1x1024, .f32⟩
  | .hbm, ⟨6, _⟩ => ⟨S2x1024x1024, .bf16⟩
  | .hbm, ⟨7, _⟩ => ⟨S1x1024, .f32⟩
  | .hbm, ⟨8, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1x1024x1024, .bf16⟩
  | .local _ .vmem, ⟨6, _⟩ => ⟨S1x1024, .f32⟩
  | .local _ .vmem, ⟨7, _⟩ => ⟨S1x256x1024, .bf16⟩
  | .local _ .vmem, ⟨8, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GluCRefIdeal.lean ====
abbrev S8x256x1024 : Shape := ⟨3, ![8, 256, 1024]⟩
abbrev S8x256x4608 : Shape := ⟨3, ![8, 256, 4608]⟩
abbrev S1024 : Shape := ⟨1, ![1024]⟩
abbrev S2x1024x1024 : Shape := ⟨3, ![2, 1024, 1024]⟩
abbrev S1x1x1024 : Shape := ⟨3, ![1, 1, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S8x256x4608, .f32⟩
  | .hbm, ⟨2, _⟩ => ⟨S1024, .f32⟩
  | .hbm, ⟨3, _⟩ => ⟨S2x1024x1024, .f32⟩
  | .hbm, ⟨4, _⟩ => ⟨S1024, .f32⟩
  | .hbm, ⟨5, _⟩ => ⟨S8x256x1024, .f32⟩
  | .hbm, ⟨6, _⟩ => ⟨S1x1x1024, .f32⟩
  | .hbm, ⟨7, _⟩ => ⟨S8x256x1024, .f32⟩
  | .hbm, ⟨8, _⟩ => ⟨S8x256x1024, .f32⟩
  | .hbm, ⟨9, _⟩ => ⟨S8x256x1024, .f32⟩
  | .hbm, ⟨10, _⟩ => ⟨S8x256x1024, .f32⟩
  | .hbm, ⟨11, _⟩ => ⟨S8x256x1024, .f32⟩
  | .hbm, ⟨12, _⟩ => ⟨S_, .f32⟩
  | .hbm, ⟨13, _⟩ => ⟨S8x256x1024, .f32⟩
  | .hbm, ⟨14, _⟩ => ⟨S8x256x1024, .f32⟩
  | .hbm, ⟨15, _⟩ => ⟨S8x256x1024, .f32⟩
  | .hbm, ⟨16, _⟩ => ⟨S_, .f32⟩
  | .hbm, ⟨17, _⟩ => ⟨S8x256x1024, .f32⟩
  | .hbm, ⟨18, _⟩ => ⟨S8x256x1024, .f32⟩
  | .hbm, ⟨19, _⟩ => ⟨S8x256x1024, .f32⟩
  | .hbm, ⟨20, _⟩ => ⟨S_, .f32⟩
  | .hbm, ⟨21, _⟩ => ⟨S8x256x1024, .f32⟩
  | .hbm, ⟨22, _⟩ => ⟨S8x256x1024, .f32⟩
  | .hbm, ⟨23, _⟩ => ⟨S_, .f32⟩
  | .hbm, ⟨24, _⟩ => ⟨S8x256x1024, .f32⟩
  | .hbm, ⟨25, _⟩ => ⟨S8x256x1024, .f32⟩
  | .hbm, ⟨26, _⟩ => ⟨S8x256x1024, .f32⟩
  | .hbm, ⟨27, _⟩ => ⟨S1x1024x1024, .f32⟩
  | .hbm, ⟨28, _⟩ => ⟨S1024x1024, .f32⟩
  | .hbm, ⟨29, _⟩ => ⟨S8x256x1024, .f32⟩
  | .hbm, ⟨30, _⟩ => ⟨S1x1x1024, .f32⟩
  | .hbm, ⟨31, _⟩ => ⟨S8x256x1024, .f32⟩
  | .hbm, ⟨32, _⟩ => ⟨S8x256x1024, .f32⟩
  | .hbm, ⟨33, _⟩ => ⟨S8x256x1024, .f32⟩
  | .hbm, ⟨34, _⟩ => ⟨S8x256x1024, .f32⟩
  | .hbm, ⟨35, _⟩ => ⟨S_, .f32⟩
  | .hbm, ⟨36, _⟩ => ⟨S8x256x1024, .f32⟩
  | .hbm, ⟨37, _⟩ => ⟨S8x256x1024, .f32⟩
  | .hbm, ⟨38, _⟩ => ⟨S_, .f32⟩
  | .hbm, ⟨39, _⟩ => ⟨S8x256x1024, .f32⟩
  | .hbm, ⟨40, _⟩ => ⟨S8x256x1024, .f32⟩
  | .hbm, ⟨41, _⟩ => ⟨S8x256x1024, .f32⟩
  | .hbm, ⟨42, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Proof.AttnMath.lean ====
/-
  THE MATHEMATICS OF THE ATTENTION (hand-written): arrays of extended reals read at natural coordinates, the rotary
  position embedding, and the softmax with a sink, whose two spellings (divide once, or divide every weight) agree.
-/
module

public import Idealize.ShloMosaic.PureOps.Ideal
public import Idealize.ShloMosaic.Lib.Pointwise

@[expose] public section

set_option maxRecDepth 16384

noncomputable section

open Idealize.ShloMosaic

namespace Cert.AttnMath

/-! ## Arrays at natural coordinates -/

/-- A vector at a natural coordinate, 0 outside. -/
def at1 {n0 : ℕ} (x : (⟨1, ![n0]⟩ : Shape).Idx → EReal) (a : ℕ) : EReal := if h : a < n0 then x (ix1 ⟨a, h⟩) else 0
/-- A matrix at natural coordinates, 0 outside. -/
def at2 {n0 n1 : ℕ} (x : (⟨2, ![n0, n1]⟩ : Shape).Idx → EReal) (a b : ℕ) : EReal :=
  if h : a < n0 ∧ b < n1 then x (ix2 ⟨a, h.1⟩ ⟨b, h.2⟩) else 0
/-- A rank-three array at natural coordinates, 0 outside. -/
def at3 {n0 n1 n2 : ℕ} (x : (⟨3, ![n0, n1, n2]⟩ : Shape).Idx → EReal) (a b c : ℕ) : EReal :=
  if h : a < n0 ∧ b < n1 ∧ c < n2 then x (ix3 ⟨a, h.1⟩ ⟨b, h.2.1⟩ ⟨c, h.2.2⟩) else 0

theorem at1_ix {n0 : ℕ} (x : (⟨1, ![n0]⟩ : Shape).Idx → EReal) (a : Fin n0) : x (ix1 a) = at1 x a.val := by
  unfold at1; rw [dif_pos a.isLt]
theorem at2_ix {n0 n1 : ℕ} (x : (⟨2, ![n0, n1]⟩ : Shape).Idx → EReal) (a : Fin n0) (b : Fin n1) : x (ix2 a b) = at2 x a.val b.val := by
  unfold at2; rw [dif_pos ⟨a.isLt, b.isLt⟩]
theorem at3_ix {n0 n1 n2 : ℕ} (x : (⟨3, ![n0, n1, n2]⟩ : Shape).Idx → EReal) (a : Fin n0) (b : Fin n1) (c : Fin n2) :
    x (ix3 a b c) = at3 x a.val b.val c.val := by
  unfold at3; rw [dif_pos ⟨a.isLt, b.isLt, c.isLt⟩]

/-! ## Real numbers among the extended reals -/

/-- The extended real is a real number. -/
def IsReal (x : EReal) : Prop := ∃ r : ℝ, x = (r : EReal)

theorem IsReal.coe (r : ℝ) : IsReal (r : EReal) := ⟨r, rfl⟩
theorem IsReal.mul {x y : EReal} : IsReal x → IsReal y → IsReal (x * y) := by
  rintro ⟨a, rfl⟩ ⟨b, rfl⟩; exact ⟨a * b, (EReal.coe_mul a b).symm⟩
theorem IsReal.add {x y : EReal} : IsReal x → IsReal y → IsReal (x + y) := by
  rintro ⟨a, rfl⟩ ⟨b, rfl⟩; exact ⟨a + b, (EReal.coe_add a b).symm⟩
theorem IsReal.neg {x : EReal} : IsReal x → IsReal (-x) := by
  rintro ⟨a, rfl⟩; exact ⟨-a, (EReal.coe_neg a).symm⟩
theorem IsReal.zero : IsReal 0 := ⟨0, rfl⟩
theorem IsReal.sum {ι : Type} (s : Finset ι) (f : ι → EReal) (h : ∀ i ∈ s, IsReal (f i)) : IsReal (∑ i ∈ s, f i) := by
  classical
  induction s using Finset.induction_on with
  | empty => exact IsReal.zero
  | insert a s ha ih =>
    rw [Finset.sum_insert ha]
    exact (h a (Finset.mem_insert_self a s)).add (ih fun i hi => h i (Finset.mem_insert_of_mem hi))
theorem IsReal.ne_top {x : EReal} : IsReal x → x ≠ ⊤ := by rintro ⟨a, rfl⟩; exact EReal.coe_ne_top a
theorem IsReal.ne_bot {x : EReal} : IsReal x → x ≠ ⊥ := by rintro ⟨a, rfl⟩; exact EReal.coe_ne_bot a
theorem IsReal.cos {x : EReal} : IsReal x → IsReal (Ideal.cos x) := by rintro ⟨a, rfl⟩; exact ⟨Real.cos a, rfl⟩
theorem IsReal.sin {x : EReal} : IsReal x → IsReal (Ideal.sin x) := by rintro ⟨a, rfl⟩; exact ⟨Real.sin a, rfl⟩
theorem IsReal.of_abs {x : EReal} (h : max x (-x) < ⊤) : IsReal x := by
  induction x using EReal.rec with
  | bot => exact absurd h (by simp)
  | coe a => exact ⟨a, rfl⟩
  | top => exact absurd h (by simp)

/-! ## The softmax with a sink -/

/-- The largest of the sink and the 640 scores. -/
def smax (σ : EReal) (s : ℕ → EReal) : EReal := max σ ((Finset.range 640).sup s)

/-- The weights' sum: the sink's and the scores' exponentials, taken relative to the largest. -/
def den (σ : EReal) (s : ℕ → EReal) : EReal :=
  Ideal.exp (σ - smax σ s) + ∑ k ∈ Finset.range 640, Ideal.exp (s k - smax σ s)

/-- The softmax-weighted sum of the values: 640 scores and a sink, which has a weight and no value. -/
def attend (σ : EReal) (s v : ℕ → EReal) : EReal :=
  Ideal.div (∑ k ∈ Finset.range 640, Ideal.exp (s k - smax σ s) * v k) (den σ s)

theorem exp_nonneg (x : EReal) (h : x ≠ ⊤) : 0 ≤ Ideal.exp x := by
  induction x using EReal.rec with
  | bot => exact le_refl _
  | coe a => exact EReal.coe_nonneg.mpr (Real.exp_pos a).le
  | top => exact absurd rfl h

theorem exp_nonneg' (x : EReal) : 0 ≤ Ideal.exp x := by
  induction x using EReal.rec with
  | bot => exact le_refl _
  | coe a => exact EReal.coe_nonneg.mpr (Real.exp_pos a).le
  | top => exact le_top

/-- A score of −∞ has weight 0, whatever the largest score is. -/
theorem exp_bot_sub (m : EReal) : Ideal.exp (⊥ - m) = 0 := by
  rw [sub_eq_add_neg, EReal.bot_add]; rfl

theorem inv_ne_top (x : EReal) : x⁻¹ ≠ ⊤ := by
  induction x using EReal.rec with
  | bot => simp
  | coe a => rw [← EReal.coe_inv]; exact EReal.coe_ne_top _
  | top => simp

theorem sum_mul_const {ι : Type} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem den_ne_zero (σ : EReal) (s : ℕ → EReal) (hσ : IsReal σ) (hs : ∀ k, k < 640 → s k ≠ ⊤) : den σ s ≠ 0 := by
  have hm : smax σ s ≠ ⊤ := by
    unfold smax
    intro h
    rcases max_choice σ ((Finset.range 640).sup s) with e | e
    · exact hσ.ne_top (e.symm.trans h)
    · have h2 : (Finset.range 640).sup s < ⊤ := by
        rw [Finset.sup_lt_iff (by decide)]
        intro k hk
        exact lt_top_iff_ne_top.mpr (hs k (Finset.mem_range.mp hk))
      exact h2.ne (e.symm.trans h)
  have hb : smax σ s ≠ ⊥ := by
    intro h
    exact hσ.ne_bot (le_bot_iff.mp ((le_max_left _ _).trans h.le))
  have hp : 0 < Ideal.exp (σ - smax σ s) := by
    obtain ⟨a, rfl⟩ := hσ
    obtain ⟨b, hb'⟩ : IsReal (smax a s) := by
      induction hx : smax a s using EReal.rec with
      | bot => exact absurd hx hb
      | coe b => exact ⟨b, rfl⟩
      | top => exact absurd hx hm
    rw [hb', ← EReal.coe_sub]
    exact EReal.coe_pos.mpr (Real.exp_pos _)
  have : 0 < den σ s := lt_of_lt_of_le hp (le_add_of_nonneg_right (Finset.sum_nonneg fun k _ => exp_nonneg' _))
  exact this.ne'

theorem den_nonneg (σ : EReal) (s : ℕ → EReal) : 0 ≤ den σ s :=
  add_nonneg (exp_nonneg' _) (Finset.sum_nonneg fun k _ => exp_nonneg' _)

/-- Dividing every weight, then summing the weighted values, is dividing the weighted sum. -/
theorem attend_eq_sum (σ : EReal) (s v : ℕ → EReal) (hσ : IsReal σ) (hs : ∀ k, k < 640 → s k ≠ ⊤) :
    ∑ k ∈ Finset.range 640, v k * Ideal.div (Ideal.exp (s k - smax σ s)) (den σ s) = attend σ s v := by
  have h := den_ne_zero σ s hσ hs
  unfold attend
  have hd : ∀ x : EReal, Ideal.div x (den σ s) = x * (den σ s)⁻¹ := fun x => by unfold Ideal.div; rw [if_neg h]
  rw [hd, sum_mul_const _ _ _ (EReal.inv_nonneg_of_nonneg (den_nonneg σ s)) (inv_ne_top _)]
  refine Finset.sum_congr rfl fun k _ => ?_
  rw [hd, mul_comm (v k), mul_assoc, mul_assoc, mul_comm (v k)]

/-- The largest entry of a list of `n`, as a fold from −∞, is the largest over the naturals below `n`. -/
theorem fold_max (n : ℕ) (f : Fin n → EReal) (s : ℕ → EReal) (h : ∀ k : Fin n, f k = s k.val) :
    Finset.univ.fold max ⊥ f = (Finset.range n).sup s := by
  show Finset.univ.sup f = _
  refine le_antisymm (Finset.sup_le fun k _ => ?_) (Finset.sup_le fun k hk => ?_)
  · rw [h k]; exact Finset.le_sup (Finset.mem_range.mpr k.isLt)
  · rw [← h ⟨k, Finset.mem_range.mp hk⟩]; exact Finset.le_sup (f := f) (Finset.mem_univ _)

/-- A sum over the first `n` naturals, by its terms. -/
theorem sum_fin (n : ℕ) (f : Fin n → EReal) (s : ℕ → EReal) (h : ∀ k : Fin n, f k = s k.val) :
    ∑ k, f k = ∑ k ∈ Finset.range n, s k := by
  rw [← Fin.sum_univ_eq_sum_range]; exact Finset.sum_congr rfl fun k _ => h k

/-- The largest of 640 scores and then the sink, from −∞. -/
theorem smax_eq (σ : EReal) (s L : ℕ → EReal) (hL : ∀ k, k < 640 → L k = s k) (hσ : L 640 = σ) :
    max ⊥ ((Finset.range 641).sup L) = smax σ s := by
  rw [max_eq_right bot_le, Finset.range_add_one, Finset.sup_insert, hσ]
  unfold smax
  exact congrArg (max σ) (Finset.sup_congr rfl fun k hk => hL k (Finset.mem_range.mp hk))

/-- The sum of the 641 weights. -/
theorem den_eq (σ : EReal) (s L : ℕ → EReal) (m : EReal) (hL : ∀ k, k < 640 → L k = s k) (hσ : L 640 = σ) (hm : m = smax σ s) :
    0 + ∑ k ∈ Finset.range 641, Ideal.exp (L k - m) = den σ s := by
  rw [zero_add, Finset.sum_range_succ, hσ, hm, add_comm]
  unfold den
  exact congrArg _ (Finset.sum_congr rfl fun k hk => by rw [hL k (Finset.mem_range.mp hk)])

/-- Values that agree wherever the score is not −∞ have one weighted sum. -/
theorem attend_congr (σ : EReal) (s s' v v' : ℕ → EReal) (hs : ∀ k, k < 640 → s k = s' k)
    (hv : ∀ k, k < 640 → s k ≠ ⊥ → v k = v' k) : attend σ s v = attend σ s' v' := by
  have hm : smax σ s = smax σ s' := by
    unfold smax
    exact congrArg (max σ) (Finset.sup_congr rfl fun k hk => hs k (Finset.mem_range.mp hk))
  unfold attend den
  rw [hm]
  refine congrArg₂ Ideal.div (Finset.sum_congr rfl fun k hk => ?_) (congrArg _ (Finset.sum_congr rfl fun k hk => ?_))
  · have hk' := Finset.mem_range.mp hk
    by_cases hb : s k = ⊥
    · rw [← hs k hk', hb, exp_bot_sub, zero_mul, zero_mul]
    · rw [hs k hk', hv k hk' hb]
  · rw [hs k (Finset.mem_range.mp hk)]

/-! ## The rotary position embedding and the windowed scores -/

/-- The rotation's frequency number `j`. -/
def freq (j : ℕ) : EReal := Ideal.pow ((10000 : ℝ) : EReal) (Ideal.div (-((j : ℝ) : EReal)) ((32 : ℝ) : EReal))

/-- The angle of token `s` at lane `l`: its row's for the first 64 lanes, its column's for the others. -/
def angle (s l : ℕ) : EReal := (((if l < 64 then s / 64 else s % 64 : ℕ) : ℝ) : EReal) * freq (l % 32)

/-- Lane `l` of a head rotated to token `s`. -/
def rope (x : ℕ → EReal) (s l : ℕ) : EReal :=
  x l * Ideal.cos (angle s l)
    + (if l % 64 < 32 then x (l + 32) * -Ideal.sin (angle s l) else x (l - 32) * Ideal.sin (angle s l))

theorem angle_real (s l : ℕ) : IsReal (angle s l) := by
  unfold angle freq
  refine (IsReal.coe _).mul ?_
  rw [← EReal.coe_neg, Ideal.div_coe (by norm_num), ← EReal.coe_mul]
  exact ⟨_, rfl⟩

theorem rope_real (x : ℕ → EReal) (s l : ℕ) (hl : l < 128) (h : ∀ l, l < 128 → IsReal (x l)) : IsReal (rope x s l) := by
  unfold rope
  refine ((h l hl).mul (angle_real s l).cos).add ?_
  split_ifs with hc
  · exact (h _ (by omega)).mul (angle_real s l).sin.neg
  · exact (h _ (by omega)).mul (angle_real s l).sin

/-- Key number `j` of the window of token `s` is a token, at most 128 away. -/
def Valid (s j : ℕ) : Prop := s % 128 ≤ j ∧ j ≤ s % 128 + 256 ∧ 128 ≤ s / 128 * 128 + j ∧ s / 128 * 128 + j < 2176

instance (s j : ℕ) : Decidable (Valid s j) := by unfold Valid; infer_instance

/-- The score scale. -/
def scale : EReal := (((Real.sqrt 128)⁻¹ : ℝ) : EReal)

/-- A small natural number converted from its word. -/
theorem sitofp_nat (n : ℕ) (h : n < 2 ^ 31) : (FloatOps.sitofp .f32 (BitVec.ofNat 32 n) : Ideal .f32) = (((n : ℕ) : ℝ) : EReal) := by
  show (((BitVec.ofNat 32 n).toInt : ℝ) : EReal) = _
  have e : (BitVec.ofNat 32 n).toInt = (n : ℤ) := by
    rw [BitVec.toInt_eq_toNat_of_lt (by rw [BitVec.toNat_ofNat]; omega), BitVec.toNat_ofNat, Nat.mod_eq_of_lt (by omega)]
  rw [e]
  norm_cast

theorem ofBits_10000 : (Ideal.ofBits .f32 1176256512#32 : EReal) = ((10000 : ℝ) : EReal) := by
  simp [Ideal.ofBits, Ideal.ieee]
  rw [← EReal.coe_mul]; norm_num
theorem ofBits_32 : (Ideal.ofBits .f32 1107296256#32 : EReal) = ((32 : ℝ) : EReal) := by
  simp [Ideal.ofBits, Ideal.ieee]
  rw [← EReal.coe_mul]; norm_num

variable (P PC : ℕ → ℕ → ℕ → EReal) (S : ℕ → EReal)

/-- The scores of token `s`'s query head `h`: 384 neighbours (−∞ where there is none) and 256 context tokens. -/
def score (b s h j : ℕ) : EReal :=
  if j < 384 then
    if Valid s j then
      (∑ l ∈ Finset.range 128, rope (fun l => P b s (h * 128 + l)) s l
        * rope (fun l => P b (s / 128 * 128 + j - 128) (4096 + h / 4 * 128 + l)) (s / 128 * 128 + j - 128) l) * scale
    else ⊥
  else (∑ l ∈ Finset.range 128, rope (fun l => P b s (h * 128 + l)) s l * PC b (j - 384) (4096 + h / 4 * 128 + l)) * scale

/-- The values those scores weigh. -/
def value (b s h l j : ℕ) : EReal :=
  if j < 384 then if Valid s j then P b (s / 128 * 128 + j - 128) (4352 + h / 4 * 128 + l) else 0
  else PC b (j - 384) (4352 + h / 4 * 128 + l)

/-- The attention: token `s` of sequence `b`, lane `n` of the heads' outputs side by side. -/
def attn (b s n : ℕ) : EReal := attend (S (n / 128)) (score P PC b s (n / 128)) (value P PC b s (n / 128) (n % 128))

/-- No score is +∞ where queries and keys are real numbers. -/
theorem score_ne_top (b s h j : ℕ) (hb : b < 8) (hs : s < 2048) (hh : h < 8) (hj : j < 640)
    (hq : ∀ b s n, b < 8 → s < 2048 → n < 1024 → IsReal (P b s n))
    (hk : ∀ b s n, b < 8 → s < 2048 → n < 256 → IsReal (P b s (4096 + n)))
    (hc : ∀ b s n, b < 8 → s < 256 → n < 256 → IsReal (PC b s (4096 + n))) : score P PC b s h j ≠ ⊤ := by
  have hQ : ∀ l, l < 128 → IsReal (rope (fun l => P b s (h * 128 + l)) s l) := fun l hl =>
    rope_real _ _ _ hl fun l hl => hq b s _ hb hs (by omega)
  unfold score
  split_ifs with h1 h2
  · refine ((IsReal.sum _ _ fun l hl => (hQ l (Finset.mem_range.mp hl)).mul (rope_real _ _ _ (Finset.mem_range.mp hl) fun l hl => ?_)).mul
      (IsReal.coe _)).ne_top
    rw [Nat.add_assoc]
    exact hk b _ _ hb (by unfold Valid at h2; omega) (by omega)
  · exact bot_ne_top
  · refine ((IsReal.sum _ _ fun l hl => (hQ l (Finset.mem_range.mp hl)).mul ?_).mul (IsReal.coe _)).ne_top
    have := Finset.mem_range.mp hl
    rw [Nat.add_assoc]
    exact hc b _ _ hb (by omega) (by omega)

end Cert.AttnMath

end
-- ==== Proof.AttnPre.lean ====
module
public import proofs.«01_k».proof.Defs
public import proofs.«01_k».proof.Proof.Gen.Pre_finite
public import proofs.«01_k».proof.Proof.AttnMath
public import Idealize.ShloMosaic.Lib.ReduceAll
public import Idealize.ShloMosaic.Lib.Pointwise
public import Idealize.ShloMosaic.Lib.Pipeline.Value

/-! # What the precondition says: the queries, the keys, the context's keys and the sinks are real numbers -/

@[expose] public section
set_option maxRecDepth 16384
noncomputable section
open Idealize.ShloMosaic
namespace Cert.Pre_finite.Val
open Cert.Pre_finite Cert.AttnMath Cert.Pre_finite.Facts

/-- An entry whose absolute value is compared less than +∞ with success is a real number. -/
theorem real_of_cmp {s : Shape} (x : FVec Ideal s .f32) (hb : S_.BroadcastsInDim s (![] : Fin 0 → Fin s.rank)) (i : s.Idx)
    (h : cmpf .olt (Host.absf x) (broadcastInDim s ![] hb (constant S_ .f32 0x7F800000#32)) i = 1#1) : IsReal (x i) := by
  have e : Ideal.cmp .olt (max (x i) (-(x i))) (Ideal.ofBits .f32 0x7F800000#32) = 1 := h
  have k := (Ideal.cmp_olt_eq_one _ _).1 e
  rw [show (Ideal.ofBits .f32 0x7F800000#32 : EReal) = ⊤ by simp [Ideal.ofBits, Ideal.ieee]] at k
  exact IsReal.of_abs k

/-- A conjunction of two bits that is 1 has both bits 1. -/
theorem both : ∀ a b : BitVec 1, IntOp.andi a b = 1#1 → a = 1#1 ∧ b = 1#1 := by decide

/-- The result has a single index. -/
instance : Subsingleton S_.Idx := ⟨fun a b => funext fun i => i.elim0⟩

/-- An array all of whose entries pass the comparison consists of real numbers. -/
theorem all_real {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : IsReal (x i) :=
  real_of_cmp x hb i (Host.reduce_andi_all _ _ hr hu j h i)

variable [Facts]

/-- The precondition is the conjunction of its four parts. -/
theorem parts (p : FVec Ideal S8x2048x4608 .f32) (pc : FVec Ideal S8x256x4608 .f32) (sink : FVec Ideal S8 .f32)
    (h : fn (F := Ideal) p pc sink = fun _ => 1#1) :
    (∀ i, IsReal (extractStridedSlice S8x2048x1024 ![0, 0, 0] p slices_S8x2048x4608_S8x2048x1024_0_0_0 i))
    ∧ (∀ i, IsReal (extractStridedSlice S8x2048x256 ![0, 0, 4096] p slices_S8x2048x4608_S8x2048x256_0_0_4096 i))
    ∧ (∀ i, IsReal (extractStridedSlice S8x256x256 ![0, 0, 4096] pc slices_S8x256x4608_S8x256x256_0_0_4096 i))
    ∧ ∀ i, IsReal (sink i) := by
  have j : S_.Idx := fun i => i.elim0
  obtain ⟨h3, h4⟩ := both _ _ (congrFun h j)
  obtain ⟨h2, hk⟩ := both _ _ h3
  obtain ⟨h1, h0⟩ := both _ _ h2
  exact ⟨all_real _ _ _ _ j h1, all_real _ _ _ _ j h0, all_real _ _ _ _ j hk, all_real _ _ _ _ j h4⟩

/-- The queries are real numbers. -/
theorem queries (p : FVec Ideal S8x2048x4608 .f32) (pc : FVec Ideal S8x256x4608 .f32) (sink : FVec Ideal S8 .f32)
    (h : fn (F := Ideal) p pc sink = fun _ => 1#1) (b s n : ℕ) (hb : b < 8) (hs : s < 2048) (hn : n < 1024) :
    IsReal (at3 (n0 := 8) (n1 := 2048) (n2 := 4608) p b s n) := by
  have k := (parts p pc sink h).1 (ix3 ⟨b, hb⟩ ⟨s, hs⟩ ⟨n, hn⟩)
  rw [extractStridedSlice_apply _ _ _ _ (ix3 (⟨b, hb⟩ : Fin 8) (⟨s, hs⟩ : Fin 2048) (⟨n, by omega⟩ : Fin 4608)) (fun a => by
    match a with
    | ⟨0, _⟩ => show b = 0 + b; omega
    | ⟨1, _⟩ => show s = 0 + s; omega
    | ⟨2, _⟩ => show n = 0 + n; omega), at3_ix (n0 := 8) (n1 := 2048) (n2 := 4608) p] at k
  exact k

/-- The tokens' keys are real numbers. -/
theorem keys (p : FVec Ideal S8x2048x4608 .f32) (pc : FVec Ideal S8x256x4608 .f32) (sink : FVec Ideal S8 .f32)
    (h : fn (F := Ideal) p pc sink = fun _ => 1#1) (b s n : ℕ) (hb : b < 8) (hs : s < 2048) (hn : n < 256) :
    IsReal (at3 (n0 := 8) (n1 := 2048) (n2 := 4608) p b s (4096 + n)) := by
  have k := (parts p pc sink h).2.1 (ix3 ⟨b, hb⟩ ⟨s, hs⟩ ⟨n, hn⟩)
  rw [extractStridedSlice_apply _ _ _ _ (ix3 (⟨b, hb⟩ : Fin 8) (⟨s, hs⟩ : Fin 2048) (⟨4096 + n, by omega⟩ : Fin 4608)) (fun a => by
    match a with
    | ⟨0, _⟩ => show b = 0 + b; omega
    | ⟨1, _⟩ => show s = 0 + s; omega
    | ⟨2, _⟩ => show 4096 + n = 4096 + n; omega), at3_ix (n0 := 8) (n1 := 2048) (n2 := 4608) p] at k
  exact k

/-- The context's keys are real numbers. -/
theorem contextKeys (p : FVec Ideal S8x2048x4608 .f32) (pc : FVec Ideal S8x256x4608 .f32) (sink : FVec Ideal S8 .f32)
    (h : fn (F := Ideal) p pc sink = fun _ => 1#1) (b s n : ℕ) (hb : b < 8) (hs : s < 256) (hn : n < 256) :
    IsReal (at3 (n0 := 8) (n1 := 256) (n2 := 4608) pc b s (4096 + n)) := by
  have k := (parts p pc sink h).2.2.1 (ix3 ⟨b, hb⟩ ⟨s, hs⟩ ⟨n, hn⟩)
  rw [extractStridedSlice_apply _ _ _ _ (ix3 (⟨b, hb⟩ : Fin 8) (⟨s, hs⟩ : Fin 256) (⟨4096 + n, by omega⟩ : Fin 4608)) (fun a => by
    match a with
    | ⟨0, _⟩ => show b = 0 + b; omega
    | ⟨1, _⟩ => show s = 0 + s; omega
    | ⟨2, _⟩ => show 4096 + n = 4096 + n; omega), at3_ix (n0 := 8) (n1 := 256) (n2 := 4608) pc] at k
  exact k

/-- The sinks are real numbers. -/
theorem sinks (p : FVec Ideal S8x2048x4608 .f32) (pc : FVec Ideal S8x256x4608 .f32) (sink : FVec Ideal S8 .f32)
    (h : fn (F := Ideal) p pc sink = fun _ => 1#1) (a : ℕ) (ha : a < 8) : IsReal (at1 (n0 := 8) sink a) := by
  rw [← at1_ix (n0 := 8) sink ⟨a, ha⟩]
  exact (parts p pc sink h).2.2.2 _

end Cert.Pre_finite.Val

end
-- ==== Proof.AttnTile.lean ====
module
public import proofs.«01_k».proof.Proof.Gen.AttnIdeal.Skeleton
public import proofs.«01_k».proof.Proof.AttnMath
public import Idealize.ShloMosaic.Lib.Pointwise
public import Idealize.ShloMosaic.Lib.WordCmp

/-! One key head at one grid point: what the kernel computes of its four query heads, read entry by entry. -/

@[expose] public section
set_option maxRecDepth 16384
noncomputable section
open Idealize.ShloMosaic Idealize.ShloMosaic.TcCoe Idealize.SL.Sem
namespace Cert.AttnIdeal.Tile
open Cert.AttnIdeal.Gen Cert.AttnMath

/-- The keys of one head: the three neighbouring blocks rotated, then the context's. -/
def keysV (k1 k2 k3 : Vec Ideal S1x128x128 .f32) (kx : Vec Ideal S1x256x128 .f32) (c1 s1 c2 s2 c3 s3 : FVec Ideal S128x128 .f32) : FVec Ideal S640x128 .bf16 :=
  truncf .bf16 (concatenate S640x128 0 [⟨S128x128, k0_pay14 k0_pay6 c1 s1 k1⟩, ⟨S128x128, k0_pay14 k0_pay6 c2 s2 k2⟩, ⟨S128x128, k0_pay14 k0_pay6 c3 s3 k3⟩,
    ⟨S256x128, shapeCast S256x128 kx shapeCasts_S1x256x128_S256x128⟩] concatenates_S128x128_S128x128_S128x128_S256x128_S640x128_d0) bitsLt_bf16_f32

/-- The four query heads of one key head, rotated. -/
def queriesV (q0 q1 q2 q3 : Vec Ideal S1x128x128 .f32) (c s : FVec Ideal S128x128 .f32) : FVec Ideal S512x128 .bf16 :=
  truncf .bf16 (concatenate S512x128 0 [⟨S128x128, k0_pay14 k0_pay6 c s q0⟩, ⟨S128x128, k0_pay14 k0_pay6 c s q1⟩, ⟨S128x128, k0_pay14 k0_pay6 c s q2⟩,
    ⟨S128x128, k0_pay14 k0_pay6 c s q3⟩] concatenates_S128x128_S128x128_S128x128_S128x128_S512x128_d0) bitsLt_bf16_f32

/-- The scaled products of queries with keys. -/
def scoresV (q : FVec Ideal S512x128 .bf16) (k : FVec Ideal S640x128 .bf16) : FVec Ideal S4x128x640 .f32 :=
  shapeCast S4x128x640 (mulf (matmul dot_S512x128_S640x128_S512x640_1_1_0_0_n_n none q k (constant S512x640 .f32 0x00000000#32))
    (broadcast S512x640 (Named.named κ "s" 0x3DB504F3#32 : Ideal .f32))) shapeCasts_S512x640_S4x128x640

/-- The mask of block `i`: 0 where a key counts, −∞ where it does not. -/
def biasV (i : ℕ) : FVec Ideal S128x640 .f32 :=
  k0_pay13 (BitVec.ofNat 32 i) (iota .tc S128x128 32 [0] iota_S128x128_d0_w32)

/-- The attention of the four query heads of one key head. -/
def outV (i : ℕ) (v1 v2 v3 : Vec Ideal S1x128x128 .f32) (vx : Vec Ideal S1x256x128 .f32) (t0 t1 t2 t3 : Vec Ideal S1x1 .f32)
    (q0 q1 q2 q3 k1 k2 k3 : Vec Ideal S1x128x128 .f32) (kx : Vec Ideal S1x256x128 .f32) (c1 s1 c2 s2 c3 s3 : FVec Ideal S128x128 .f32) :
    FVec Ideal S512x128 .f32 :=
  k0_pay24 (biasV i) (k0_pay19 v1 v2 v3 vx) (k0_pay22 t0 t1 t2 t3)
    (scoresV (queriesV q0 q1 q2 q3 c2 s2) (keysV k1 k2 k3 kx c1 s1 c2 s2 c3 s3)) (FloatOps.ofBits .f32 0x00000000#32)

/-- The mask's constant is −∞. -/
theorem mask_val : (Named.named κ "mask" 0xF149F2CA#32 : Ideal .f32) = (⊥ : EReal) :=
  IdealRules.named_const.ideal_named_scalar _ _ _ _ rfl
/-- The scale's constant is 1/√128. -/
theorem s_val : (Named.named κ "s" 0x3DB504F3#32 : Ideal .f32) = scale :=
  IdealRules.named_const.ideal_named_scalar _ _ _ _ rfl

/-- The lanes whose partner is 32 lanes up. -/
theorem half_lane (r l : Fin 128) : k0_pay6 (ix2 r l) = if l.val % 64 < 32 then 1#1 else 0#1 := by
  refine Eq.trans (b := IntOp.cmpi .slt (IntOp.andi (BitVec.ofNat 32 l.val) 63#32) 32#32) ?_ ?_
  · pointwise [k0_pay6]
  · revert l; decide +kernel

/-- A rotated row of a head. -/
theorem rope_apply (c s : FVec Ideal S128x128 .f32) (x : Vec Ideal S1x128x128 .f32) (X : ℕ → EReal) (pos : ℕ) (r l : Fin 128)
    (hx : ∀ l : Fin 128, x (ix3 0 r l) = X l.val) (hc : ∀ l : Fin 128, c (ix2 r l) = Ideal.cos (angle pos l.val))
    (hs : ∀ l : Fin 128, s (ix2 r l) = if l.val % 64 < 32 then -Ideal.sin (angle pos l.val) else Ideal.sin (angle pos l.val)) :
    k0_pay14 k0_pay6 c s x (ix2 r l) = rope X pos l.val := by
  have key : ∀ v4 : IVec S128x128 1, k0_pay14 v4 c s x (ix2 r l) = x (ix3 0 r l) * c (ix2 r l)
      + Scalar.select (v4 (ix2 r l)) (x (ix3 0 r ⟨(l.val + 128 - 96) % 128, Nat.mod_lt _ (by omega)⟩))
        (x (ix3 0 r ⟨(l.val + 128 - 32) % 128, Nat.mod_lt _ (by omega)⟩)) * s (ix2 r l) := by
    intro v4
    pointwise [k0_pay14]
  have hl := l.isLt
  rw [key, half_lane, hc, hs, hx, hx, hx]
  unfold rope
  by_cases h : l.val % 64 < 32
  · rw [if_pos h, if_pos h, if_pos h]
    show _ + X ((l.val + 128 - 96) % 128) * _ = _
    rw [show (l.val + 128 - 96) % 128 = l.val + 32 by omega]
  · rw [if_neg h, if_neg h, if_neg h]
    show _ + X ((l.val + 128 - 32) % 128) * _ = _
    rw [show (l.val + 128 - 32) % 128 = l.val - 32 by omega]

/-- Where the mask of block `i` lets row `r` see key `j`. -/
def Seen (i r j : ℕ) : Prop := (128 ≤ j ∨ (r ≤ j ∧ 0 < i)) ∧ (j < 256 ∨ 384 ≤ j ∨ (j ≤ r + 256 ∧ i < 15))

instance (i r j : ℕ) : Decidable (Seen i r j) := by unfold Seen; infer_instance

/-- The mask, entry by entry. -/
theorem bias_apply (i : ℕ) (hi : i < 16) (r : Fin 128) (j : Fin 640) :
    biasV i (ix2 r j) = if Seen i r.val j.val then 0 else (⊥ : EReal) := by
  have hr := r.isLt
  have hj := j.isLt
  have e1 : Scalar.select (IntOp.andi (IntOp.cmpi CmpIPredicate.sge (BitVec.ofNat 32 j.val) (BitVec.ofNat 32 r.val))
      (Scalar.cmpi CmpIPredicate.sgt (BitVec.ofNat 32 i) 0#32)) (0 : EReal) ⊥ = if r.val ≤ j.val ∧ 0 < i then 0 else ⊥ := by
    have h1 : IntOp.cmpi CmpIPredicate.sge (BitVec.ofNat 32 j.val) (BitVec.ofNat 32 r.val) = BitVec.ofBool (decide (r.val ≤ j.val)) :=
      WordCmp.cmpi_sge_ofNat (by omega) (by omega)
    have h2 : Scalar.cmpi CmpIPredicate.sgt (BitVec.ofNat 32 i) 0#32 = BitVec.ofBool (decide (0 < i)) :=
      WordCmp.cmpi_sgt_ofNat (by omega) (by omega)
    rw [h1, h2]
    by_cases a : r.val ≤ j.val <;> by_cases b : 0 < i <;> simp [a, b, Scalar.select, IntOp.andi]
  have e2 : Scalar.select (IntOp.andi (IntOp.cmpi CmpIPredicate.sle (BitVec.ofNat 32 (j.val - 128 - 128)) (BitVec.ofNat 32 r.val))
      (Scalar.cmpi CmpIPredicate.slt (BitVec.ofNat 32 i) 15#32)) (0 : EReal) ⊥ = if j.val - 128 - 128 ≤ r.val ∧ i < 15 then 0 else ⊥ := by
    have h1 : IntOp.cmpi CmpIPredicate.sle (BitVec.ofNat 32 (j.val - 128 - 128)) (BitVec.ofNat 32 r.val) = BitVec.ofBool (decide (j.val - 128 - 128 ≤ r.val)) :=
      WordCmp.cmpi_sle_ofNat (by omega) (by omega)
    have h2 : Scalar.cmpi CmpIPredicate.slt (BitVec.ofNat 32 i) 15#32 = BitVec.ofBool (decide (i < 15)) :=
      WordCmp.cmpi_slt_ofNat (by omega) (by omega)
    rw [h1, h2]
    by_cases a : j.val - 128 - 128 ≤ r.val <;> by_cases b : i < 15 <;> simp [a, b, Scalar.select, IntOp.andi]
  pointwise [biasV, k0_pay13]
  rw [mask_val, e1, e2]
  by_cases hs : Seen i r.val j.val
  · rw [if_pos hs]
    unfold Seen at hs
    split_ifs <;> first | rfl | (exfalso; omega)
  · rw [if_neg hs]
    unfold Seen at hs
    split_ifs <;> first | rfl | (exfalso; omega)

/-- The keys, entry by entry. -/
theorem keys_apply (k1 k2 k3 : Vec Ideal S1x128x128 .f32) (kx : Vec Ideal S1x256x128 .f32) (c1 s1 c2 s2 c3 s3 : FVec Ideal S128x128 .f32) (j : Fin 640) (l : Fin 128) :
   keysV k1 k2 k3 kx c1 s1 c2 s2 c3 s3 (ix2 j l) =
     if h : j.val < 128 then k0_pay14 k0_pay6 c1 s1 k1 (ix2 ⟨j.val, h⟩ l)
     else if h : j.val - 128 < 128 then k0_pay14 k0_pay6 c2 s2 k2 (ix2 ⟨j.val - 128, h⟩ l)
     else if h : j.val - 128 - 128 < 128 then k0_pay14 k0_pay6 c3 s3 k3 (ix2 ⟨j.val - 128 - 128, h⟩ l)
     else kx (ix3 0 ⟨j.val - 128 - 128 - 128, by have := j.isLt; omega⟩ l) := by
  pointwise [keysV]

/-- The values, entry by entry. -/
theorem values_apply (k1 k2 k3 : Vec Ideal S1x128x128 .f32) (kx : Vec Ideal S1x256x128 .f32) (j : Fin 640) (l : Fin 128) :
   k0_pay19 k1 k2 k3 kx (ix2 j l) =
     if h : j.val < 128 then k1 (ix3 0 ⟨j.val, h⟩ l)
     else if h : j.val - 128 < 128 then k2 (ix3 0 ⟨j.val - 128, h⟩ l)
     else if h : j.val - 128 - 128 < 128 then k3 (ix3 0 ⟨j.val - 128 - 128, h⟩ l)
     else kx (ix3 0 ⟨j.val - 128 - 128 - 128, by have := j.isLt; omega⟩ l) := by
  pointwise [k0_pay19]

/-- The queries, entry by entry. -/
theorem queries_apply (q0 q1 q2 q3 : Vec Ideal S1x128x128 .f32) (c s : FVec Ideal S128x128 .f32) (R : Fin 512) (l : Fin 128) :
   queriesV q0 q1 q2 q3 c s (ix2 R l) =
     if h : R.val < 128 then k0_pay14 k0_pay6 c s q0 (ix2 ⟨R.val, h⟩ l)
     else if h : R.val - 128 < 128 then k0_pay14 k0_pay6 c s q1 (ix2 ⟨R.val - 128, h⟩ l)
     else if h : R.val - 128 - 128 < 128 then k0_pay14 k0_pay6 c s q2 (ix2 ⟨R.val - 128 - 128, h⟩ l)
     else k0_pay14 k0_pay6 c s q3 (ix2 ⟨R.val - 128 - 128 - 128, by have := R.isLt; omega⟩ l) := by
  pointwise [queriesV]

/-- The scores, entry by entry. -/
theorem scores_apply (q : FVec Ideal S512x128 .bf16) (k : FVec Ideal S640x128 .bf16) (g : Fin 4) (r : Fin 128) (j : Fin 640) :
   scoresV q k (ix3 g r j) = (∑ x : Fin 128, q (ix2 ⟨g.val * 128 + r.val, by omega⟩ x) * k (ix2 j x)) * scale := by
  rw [← s_val]
  pointwise [scoresV]

/-- The sinks, row by row. -/
theorem sinks_apply (a b c d : Vec Ideal S1x1 .f32) (R : Fin 512) :
    k0_pay22 a b c d (ix2 R 0) = if R.val < 128 then a (ix2 0 0) else if R.val - 128 < 128 then b (ix2 0 0)
      else if R.val - 128 - 128 < 128 then c (ix2 0 0) else d (ix2 0 0) := by
  pointwise [k0_pay22]
  all_goals split_ifs <;> rfl

/-- −∞ as the kernel writes it. -/
theorem inf_val : (Ideal.ofBits .f32 4286578688#32 : EReal) = ⊥ := by
  simp [Ideal.ofBits, Ideal.ieee]

/-- The masked softmax over the keys with a sink, read entry by entry. -/
theorem softmax_apply (bi : FVec Ideal S128x640 .f32) (v : FVec Ideal S640x128 .bf16) (sk : FVec Ideal S512x1 .f32) (sc : FVec Ideal S4x128x640 .f32)
    (R : Fin 512) (l : Fin 128) (s v' : ℕ → EReal) (σ : EReal)
    (hs : ∀ x : Fin 640, (if bi (ix2 ⟨R.val % 128, Nat.mod_lt _ (by omega)⟩ x) = 0
      then sc (ix3 ⟨R.val / 128, by have := R.isLt; omega⟩ ⟨R.val % 128, Nat.mod_lt _ (by omega)⟩ x) else (⊥ : EReal)) = s x.val)
    (hv : ∀ x : Fin 640, v (ix2 x l) = v' x.val) (hσ : sk (ix2 R 0) = σ) :
    k0_pay24 bi v sk sc (FloatOps.ofBits .f32 0x00000000#32) (ix2 R l) = attend σ s v' := by
  pointwise [k0_pay24]
  rw [mask_val, inf_val]
  simp only [hs, hv, hσ]
  rw [fold_max 640 _ s (fun _ => rfl)]
  unfold attend den smax
  have e1 := sum_fin 640 (fun x => Ideal.exp (s x.val - max σ ((Finset.range 640).sup s)) * v' x.val) (fun x => Ideal.exp (s x - max σ ((Finset.range 640).sup s)) * v' x) fun _ => rfl
  have e2 := sum_fin 640 (fun x => Ideal.exp (s x.val - max σ ((Finset.range 640).sup s))) (fun x => Ideal.exp (s x - max σ ((Finset.range 640).sup s))) fun _ => rfl
  rw [← e1, ← e2]

variable (P PC : ℕ → ℕ → ℕ → EReal) (S : ℕ → EReal)

/-- The attention of one key head, read entry by entry, over what its loads hold. -/
theorem out_apply (b i kh : ℕ) (hi : i < 16) (v1 v2 v3 : Vec Ideal S1x128x128 .f32) (vx : Vec Ideal S1x256x128 .f32) (t0 t1 t2 t3 : Vec Ideal S1x1 .f32)
    (q0 q1 q2 q3 k1 k2 k3 : Vec Ideal S1x128x128 .f32) (kx : Vec Ideal S1x256x128 .f32) (c1 s1 c2 s2 c3 s3 : FVec Ideal S128x128 .f32)
    (hq0 : ∀ r l : Fin 128, q0 (ix3 0 r l) = P b (i * 128 + r.val) ((4 * kh + 0) * 128 + l.val))
    (hq1 : ∀ r l : Fin 128, q1 (ix3 0 r l) = P b (i * 128 + r.val) ((4 * kh + 1) * 128 + l.val))
    (hq2 : ∀ r l : Fin 128, q2 (ix3 0 r l) = P b (i * 128 + r.val) ((4 * kh + 2) * 128 + l.val))
    (hq3 : ∀ r l : Fin 128, q3 (ix3 0 r l) = P b (i * 128 + r.val) ((4 * kh + 3) * 128 + l.val))
    (hk1 : 0 < i → ∀ r l : Fin 128, k1 (ix3 0 r l) = P b ((i - 1) * 128 + r.val) (4096 + kh * 128 + l.val))
    (hk2 : ∀ r l : Fin 128, k2 (ix3 0 r l) = P b (i * 128 + r.val) (4096 + kh * 128 + l.val))
    (hk3 : i < 15 → ∀ r l : Fin 128, k3 (ix3 0 r l) = P b ((i + 1) * 128 + r.val) (4096 + kh * 128 + l.val))
    (hkx : ∀ (r : Fin 256) (l : Fin 128), kx (ix3 0 r l) = PC b r.val (4096 + kh * 128 + l.val))
    (hv1 : 0 < i → ∀ r l : Fin 128, v1 (ix3 0 r l) = P b ((i - 1) * 128 + r.val) (4352 + kh * 128 + l.val))
    (hv2 : ∀ r l : Fin 128, v2 (ix3 0 r l) = P b (i * 128 + r.val) (4352 + kh * 128 + l.val))
    (hv3 : i < 15 → ∀ r l : Fin 128, v3 (ix3 0 r l) = P b ((i + 1) * 128 + r.val) (4352 + kh * 128 + l.val))
    (hvx : ∀ (r : Fin 256) (l : Fin 128), vx (ix3 0 r l) = PC b r.val (4352 + kh * 128 + l.val))
    (hc1 : 0 < i → ∀ r l : Fin 128, c1 (ix2 r l) = Ideal.cos (angle ((i - 1) * 128 + r.val) l.val))
    (hs1 : 0 < i → ∀ r l : Fin 128, s1 (ix2 r l) = if l.val % 64 < 32 then -Ideal.sin (angle ((i - 1) * 128 + r.val) l.val) else Ideal.sin (angle ((i - 1) * 128 + r.val) l.val))
    (hc2 : ∀ r l : Fin 128, c2 (ix2 r l) = Ideal.cos (angle (i * 128 + r.val) l.val))
    (hs2 : ∀ r l : Fin 128, s2 (ix2 r l) = if l.val % 64 < 32 then -Ideal.sin (angle (i * 128 + r.val) l.val) else Ideal.sin (angle (i * 128 + r.val) l.val))
    (hc3 : i < 15 → ∀ r l : Fin 128, c3 (ix2 r l) = Ideal.cos (angle ((i + 1) * 128 + r.val) l.val))
    (hs3 : i < 15 → ∀ r l : Fin 128, s3 (ix2 r l) = if l.val % 64 < 32 then -Ideal.sin (angle ((i + 1) * 128 + r.val) l.val) else Ideal.sin (angle ((i + 1) * 128 + r.val) l.val))
    (ht0 : t0 (ix2 0 0) = S (4 * kh + 0)) (ht1 : t1 (ix2 0 0) = S (4 * kh + 1))
    (ht2 : t2 (ix2 0 0) = S (4 * kh + 2)) (ht3 : t3 (ix2 0 0) = S (4 * kh + 3))
    (R : Fin 512) (l : Fin 128) :
    outV i v1 v2 v3 vx t0 t1 t2 t3 q0 q1 q2 q3 k1 k2 k3 kx c1 s1 c2 s2 c3 s3 (ix2 R l)
      = attend (S (4 * kh + R.val / 128)) (score P PC b (i * 128 + R.val % 128) (4 * kh + R.val / 128))
          (value P PC b (i * 128 + R.val % 128) (4 * kh + R.val / 128) l.val) := by
  have hR := R.isLt
  have hl := l.isLt
  have hg : R.val / 128 < 4 := by omega
  have hr : R.val % 128 < 128 := Nat.mod_lt _ (by omega)
  -- the queries
  have hQ : ∀ x : Fin 128, queriesV q0 q1 q2 q3 c2 s2 (ix2 R x)
      = rope (fun l => P b (i * 128 + R.val % 128) ((4 * kh + R.val / 128) * 128 + l)) (i * 128 + R.val % 128) x.val := by
    intro x
    rw [queries_apply]
    split_ifs with h0 h1 h2
    · rw [show R.val % 128 = R.val by omega, show R.val / 128 = 0 by omega]
      exact rope_apply _ _ _ _ _ _ _ (hq0 _) (hc2 _) (hs2 _)
    · rw [show R.val % 128 = R.val - 128 by omega, show R.val / 128 = 1 by omega]
      exact rope_apply _ _ _ _ _ _ _ (hq1 _) (hc2 _) (hs2 _)
    · rw [show R.val % 128 = R.val - 128 - 128 by omega, show R.val / 128 = 2 by omega]
      exact rope_apply _ _ _ _ _ _ _ (hq2 _) (hc2 _) (hs2 _)
    · rw [show R.val % 128 = R.val - 128 - 128 - 128 by omega, show R.val / 128 = 3 by omega]
      exact rope_apply _ _ _ _ _ _ _ (hq3 _) (hc2 _) (hs2 _)
  have hS : ∀ x : Fin 640, (if biasV i (ix2 ⟨R.val % 128, hr⟩ x) = 0
        then scoresV (queriesV q0 q1 q2 q3 c2 s2) (keysV k1 k2 k3 kx c1 s1 c2 s2 c3 s3) (ix3 ⟨R.val / 128, hg⟩ ⟨R.val % 128, hr⟩ x)
        else (⊥ : EReal)) = score P PC b (i * 128 + R.val % 128) (4 * kh + R.val / 128) x.val := by
    intro x
    have hx := x.isLt
    rw [bias_apply i hi, scores_apply]
    have hR' : (⟨(⟨R.val / 128, hg⟩ : Fin 4).val * 128 + (⟨R.val % 128, hr⟩ : Fin 128).val, by show R.val / 128 * 128 + R.val % 128 < 512; omega⟩ : Fin 512) = R :=
      Fin.ext (by show R.val / 128 * 128 + R.val % 128 = R.val; omega)
    rw [hR']
    unfold score
    have hd : (i * 128 + R.val % 128) / 128 = i := by omega
    have hm : (i * 128 + R.val % 128) % 128 = R.val % 128 := by omega
    have hk : (4 * kh + R.val / 128) / 4 = kh := by omega
    rw [hk]
    by_cases hj : x.val < 384
    · rw [if_pos hj]
      by_cases hv : Valid (i * 128 + R.val % 128) x.val
      · rw [if_pos hv]
        unfold Valid at hv
        rw [hd, hm] at hv
        rw [if_pos (show Seen i (R.val % 128) x.val by unfold Seen; omega), if_pos rfl, hd]
        refine congrArg (· * scale) (sum_fin 128 _ _ fun y => ?_)
        rw [hQ]
        refine congrArg _ ?_
        rw [keys_apply]
        split_ifs with h0 h1 h2
        · have h0i : 0 < i := by omega
          rw [show i * 128 + x.val - 128 = (i - 1) * 128 + x.val by omega]
          exact rope_apply _ _ _ _ _ _ _ (hk1 h0i _) (hc1 h0i _) (hs1 h0i _)
        · rw [show i * 128 + x.val - 128 = i * 128 + (x.val - 128) by omega]
          exact rope_apply _ _ _ _ _ _ _ (hk2 _) (hc2 _) (hs2 _)
        · have h15 : i < 15 := by omega
          rw [show i * 128 + x.val - 128 = (i + 1) * 128 + (x.val - 128 - 128) by omega]
          exact rope_apply _ _ _ _ _ _ _ (hk3 h15 _) (hc3 h15 _) (hs3 h15 _)
        · omega
      · rw [if_neg hv]
        unfold Valid at hv
        rw [hd, hm] at hv
        rw [if_neg (show ¬ Seen i (R.val % 128) x.val by unfold Seen; omega)]
        exact if_neg (by simp)
    · rw [if_neg hj, if_pos (show Seen i (R.val % 128) x.val by unfold Seen; omega), if_pos rfl]
      refine congrArg (· * scale) (sum_fin 128 _ _ fun y => ?_)
      rw [hQ]
      refine congrArg _ ?_
      rw [keys_apply, dif_neg (by omega), dif_neg (by omega), dif_neg (by omega), hkx]
      congr 1
  have hT : k0_pay22 t0 t1 t2 t3 (ix2 R 0) = S (4 * kh + R.val / 128) := by
    rw [sinks_apply, ht0, ht1, ht2, ht3]
    split_ifs
    · rw [show R.val / 128 = 0 by omega]
    · rw [show R.val / 128 = 1 by omega]
    · rw [show R.val / 128 = 2 by omega]
    · rw [show R.val / 128 = 3 by omega]
  refine (softmax_apply _ _ _ _ R l _ (fun j => if h : j < 640 then k0_pay19 v1 v2 v3 vx (ix2 ⟨j, h⟩ l) else 0) _ hS (fun x => by rw [dif_pos x.isLt]) hT).trans ?_
  refine attend_congr _ _ _ _ _ (fun _ _ => rfl) fun j hj hne => ?_
  rw [dif_pos hj, values_apply]
  dsimp only
  unfold score at hne
  unfold value
  have hd : (i * 128 + R.val % 128) / 128 = i := by omega
  have hm : (i * 128 + R.val % 128) % 128 = R.val % 128 := by omega
  have hk : (4 * kh + R.val / 128) / 4 = kh := by omega
  rw [hk, hd]
  by_cases hj : j < 384
  · rw [if_pos hj] at hne
    rw [if_pos hj]
    by_cases hv : Valid (i * 128 + R.val % 128) j
    · rw [if_pos hv]
      unfold Valid at hv
      rw [hd, hm] at hv
      split_ifs with h0 h1 h2
      · rw [show i * 128 + j - 128 = (i - 1) * 128 + j by omega]
        exact hv1 (by omega) _ _
      · rw [show i * 128 + j - 128 = i * 128 + (j - 128) by omega]
        exact hv2 _ _
      · rw [show i * 128 + j - 128 = (i + 1) * 128 + (j - 128 - 128) by omega]
        exact hv3 (by omega) _ _
      · exact absurd hj (by omega)
    · rw [if_neg hv] at hne
      exact absurd rfl hne
  · rw [if_neg hj, dif_neg (by show ¬ j < 128; omega), dif_neg (by show ¬ j - 128 < 128; omega), dif_neg (by show ¬ j - 128 - 128 < 128; omega), hvx]
    congr 1
end Cert.AttnIdeal.Tile
end
-- ==== Proof.AttnRun.lean ====
module
public import proofs.«01_k».proof.Proof.Gen.AttnIdeal.Frame
public import proofs.«01_k».proof.Proof.AttnTile
public import Idealize.ShloMosaic.Lib.WholeRead
public import Idealize.ShloMosaic.Lib.Writes
public import Idealize.ShloMosaic.Lib.Pipeline.ValueKit.Tiles

/-! One grid point of the attention kernel: the block it writes is the attention of that block's tokens, given what its
input blocks hold. -/

@[expose] public section
set_option maxRecDepth 16384
noncomputable section
open Idealize.ShloMosaic Idealize.ShloMosaic.TcCoe Idealize.SL.Sem
namespace Cert.AttnIdeal.Tile
open Cert.AttnIdeal Cert.AttnIdeal.Gen Cert.AttnMath

/-- A load of a 128-lane group of a block of 128 rows. -/
theorem ld_rows {N : ℕ} (m : Memref sig .tc .vmem ⟨3, ![1, 128, N]⟩ .f32) (hm : m.IsWhole) (x : Vec Ideal ⟨3, ![1, 128, N]⟩ .f32) (o : ℕ)
    (inb : ∀ a, (![0, 0, o] : Fin 3 → ℕ) a + S1x128x128.size a ≤ (⟨3, ![1, 128, N]⟩ : Shape).size a) (r l : Fin 128) (h : o + 128 ≤ N) :
    View.readAt (Elt Ideal) m.view (Rect.unit (s := ⟨3, ![1, 128, N]⟩) ![0, 0, o] S1x128x128.size inb).toLoadRect (hm.unread x) (ix3 0 r l)
      = x (ix3 0 r ⟨o + l.val, by omega⟩) := by
  refine (Memref.IsWhole.readAt_unread hm x _ _).trans (congrArg x (funext fun a => Fin.ext ?_))
  refine (Rect.idx_unit_val _ _ inb _ a).trans ?_
  match a with
  | ⟨0, _⟩ => rfl
  | ⟨1, _⟩ => exact Nat.zero_add _
  | ⟨2, _⟩ => rfl

/-- A load of a 128-lane group of a block of 256 rows. -/
theorem ld_ctx (m : Memref sig .tc .vmem S1x256x256 .f32) (hm : m.IsWhole) (x : Vec Ideal S1x256x256 .f32) (o : ℕ)
    (inb : ∀ a, (![0, 0, o] : Fin 3 → ℕ) a + S1x256x128.size a ≤ S1x256x256.size a) (r : Fin 256) (l : Fin 128) (h : o + 128 ≤ 256) :
    View.readAt (Elt Ideal) m.view (Rect.unit (s := S1x256x256) ![0, 0, o] S1x256x128.size inb).toLoadRect (hm.unread x) (ix3 0 r l)
      = x (ix3 0 r ⟨o + l.val, by omega⟩) := by
  refine (Memref.IsWhole.readAt_unread hm x _ _).trans (congrArg x (funext fun a => Fin.ext ?_))
  refine (Rect.idx_unit_val _ _ inb _ a).trans ?_
  match a with
  | ⟨0, _⟩ => rfl
  | ⟨1, _⟩ => exact Nat.zero_add _
  | ⟨2, _⟩ => rfl

/-- A load of one sink. -/
theorem ld_sink (m : Memref sig .tc .vmem S8x128 .f32) (hm : m.IsWhole) (x : Vec Ideal S8x128 .f32) (o : ℕ)
    (inb : ∀ a, (![o, 0] : Fin 2 → ℕ) a + S1x1.size a ≤ S8x128.size a) (h : o < 8) :
    View.readAt (Elt Ideal) m.view (Rect.unit (s := S8x128) ![o, 0] S1x1.size inb).toLoadRect (hm.unread x) (ix2 0 0) = x (ix2 ⟨o, h⟩ 0) := by
  refine (Memref.IsWhole.readAt_unread hm x _ _).trans (congrArg x (funext fun a => Fin.ext ?_))
  refine (Rect.idx_unit_val _ _ inb _ a).trans ?_
  match a with
  | ⟨0, _⟩ => rfl
  | ⟨1, _⟩ => rfl

/-- A load of 128 rows of a table. -/
theorem ld_table (m : Memref sig .tc .vmem S2048x128 .f32) (hm : m.IsWhole) (x : Vec Ideal S2048x128 .f32) (off : Fin 2 → ℕ)
    (inb : ∀ a, off a + S128x128.size a ≤ S2048x128.size a) (o : ℕ) (h0 : off 0 = o) (h1 : off 1 = 0) (r l : Fin 128) (h : o + 128 ≤ 2048) :
    View.readAt (Elt Ideal) m.view (Rect.unit (s := S2048x128) off S128x128.size inb).toLoadRect (hm.unread x) (ix2 r l)
      = x (ix2 ⟨o + r.val, by omega⟩ l) := by
  refine (Memref.IsWhole.readAt_unread hm x _ _).trans (congrArg x (funext fun a => Fin.ext ?_))
  refine (Rect.idx_unit_val _ _ inb _ a).trans ?_
  match a with
  | ⟨0, _⟩ => exact congrArg (· + r.val) h0
  | ⟨1, _⟩ => exact (congrArg (· + l.val) h1).trans (Nat.zero_add _)

theorem word1 (n : Fin 16) : (Scalar.indexCast (Scalar.muli (BitVec.ofNat 32 n.val) 128#32)).toNat = n.val * 128 := by
  revert n; decide +kernel
theorem word2 (n : Fin 16) : 0 < n.val → (Scalar.indexCast (Scalar.muli (Scalar.maxsi (Scalar.subi (BitVec.ofNat 32 n.val) 1#32) 0#32) 128#32)).toNat = (n.val - 1) * 128 := by
  revert n; decide +kernel
theorem word3 (n : Fin 16) : n.val < 15 → (Scalar.indexCast (Scalar.muli (Scalar.minsi (Scalar.addi (BitVec.ofNat 32 n.val) 1#32) 15#32) 128#32)).toNat = (n.val + 1) * 128 := by
  revert n; decide +kernel

theorem pay18_eq (k1 k2 k3 : Vec Ideal S1x128x128 .f32) (kx : Vec Ideal S1x256x128 .f32) (c1 s1 c2 s2 c3 s3 : FVec Ideal S128x128 .f32) :
    k0_pay18 k0_pay6 c3 s3 (k0_pay14 k0_pay6 c1 s1 k1) (k0_pay15 k0_pay6 c2 s2 k2) (k0_pay16 k3) (k0_pay17 k3) 32#32 kx = keysV k1 k2 k3 kx c1 s1 c2 s2 c3 s3 := rfl
theorem pay23_eq (q0 q1 q2 q3 : Vec Ideal S1x128x128 .f32) (c s : FVec Ideal S128x128 .f32) (k : FVec Ideal S640x128 .bf16) :
    k0_pay23 k0_pay6 c s k (k0_pay20 k0_pay6 c s q0) (k0_pay21 k0_pay6 c s q1) q2 q3 = scoresV (queriesV q0 q1 q2 q3 c s) k := rfl
theorem pay30_eq (k1 k2 k3 : Vec Ideal S1x128x128 .f32) (kx : Vec Ideal S1x256x128 .f32) (c1 s1 c2 s2 c3 s3 : FVec Ideal S128x128 .f32) :
    k0_pay30 k0_pay6 c2 s2 c1 s1 c3 s3 k1 k2 k3 kx = keysV k1 k2 k3 kx c1 s1 c2 s2 c3 s3 := rfl
theorem pay33_eq (v1 v2 v3 : Vec Ideal S1x128x128 .f32) (vx : Vec Ideal S1x256x128 .f32) :
    k0_pay33 (k0_pay31 v1) (k0_pay32 v2) v3 vx = k0_pay19 v1 v2 v3 vx := rfl
theorem pay39_eq (t0 t1 t2 t3 : Vec Ideal S1x1 .f32) : k0_pay39 t0 t1 t2 t3 = k0_pay22 t0 t1 t2 t3 := rfl
/-- The masked scores of the second head before the softmax. -/
theorem pay1_eq (bi : FVec Ideal S128x640 .f32) (v k : FVec Ideal S640x128 .bf16) (t0 t1 t2 t3 : Vec Ideal S1x1 .f32) (q0 q1 q2 q3 : Vec Ideal S1x128x128 .f32) (c s : FVec Ideal S128x128 .f32) :
    k0_pay1 v (k0_pay43 c s bi k (k0_pay34 k0_pay6 c s q0) (k0_pay35 k0_pay6 c s q1) (k0_pay36 k0_pay6 c s q2) (k0_pay37 q3) (k0_pay38 k0_pay6 q3) t0 t1 t2 t3)
        (k0_pay44 c s bi k (k0_pay34 k0_pay6 c s q0) (k0_pay35 k0_pay6 c s q1) (k0_pay36 k0_pay6 c s q2) (k0_pay37 q3) (k0_pay38 k0_pay6 q3) t0 t1 t2 t3)
      = k0_pay24 bi v (k0_pay22 t0 t1 t2 t3) (scoresV (queriesV q0 q1 q2 q3 c s) k) (FloatOps.ofBits .f32 0x00000000#32) := rfl
theorem same (x : Vec Ideal S128x128 .f32) : shapeCast S128x128 x shapeCasts_S128x128_S128x128 = x := by
  funext y
  obtain ⟨r, l, rfl⟩ : ∃ (r l : Fin 128), y = ix2 r l := ⟨_, _, eq_ix2 y⟩
  pointwise
theorem pay7_eq (x : Vec Ideal S128x128 .f32) : k0_pay7 x = x := same x
theorem pay8_eq (x : Vec Ideal S128x128 .f32) : k0_pay8 x = x := same x
theorem pay9_eq (x : Vec Ideal S128x128 .f32) : k0_pay9 x = x := same x
theorem pay10_eq (x : Vec Ideal S128x128 .f32) : k0_pay10 x = x := same x
theorem pay11_eq (x : Vec Ideal S128x128 .f32) : k0_pay11 x = x := same x
theorem pay12_eq (x : Vec Ideal S128x128 .f32) : k0_pay12 x = x := same x

theorem g0_abs (i : ℕ) (v1 v2 v3 : Vec Ideal S1x128x128 .f32) (vx : Vec Ideal S1x256x128 .f32) (t0 t1 t2 t3 : Vec Ideal S1x1 .f32)
    (q0 q1 q2 q3 k1 k2 k3 : Vec Ideal S1x128x128 .f32) (kx : Vec Ideal S1x256x128 .f32) (c1 s1 c2 s2 c3 s3 : Vec Ideal S128x128 .f32) :
    k0_pay24 (k0_pay13 (BitVec.ofNat 32 i) (iota .tc S128x128 32 [0] iota_S128x128_d0_w32)) (k0_pay19 v1 v2 v3 vx) (k0_pay22 t0 t1 t2 t3)
      (k0_pay23 k0_pay6 (k0_pay7 c2) (k0_pay8 s2) (k0_pay18 k0_pay6 (k0_pay11 c3) (k0_pay12 s3) (k0_pay14 k0_pay6 (k0_pay9 c1) (k0_pay10 s1) k1)
        (k0_pay15 k0_pay6 (k0_pay7 c2) (k0_pay8 s2) k2) (k0_pay16 k3) (k0_pay17 k3) 32#32 kx)
        (k0_pay20 k0_pay6 (k0_pay7 c2) (k0_pay8 s2) q0) (k0_pay21 k0_pay6 (k0_pay7 c2) (k0_pay8 s2) q1) q2 q3) (FloatOps.ofBits .f32 0x00000000#32)
      = outV i v1 v2 v3 vx t0 t1 t2 t3 q0 q1 q2 q3 k1 k2 k3 kx c1 s1 c2 s2 c3 s3 := by
  rw [pay18_eq, pay23_eq, pay7_eq, pay8_eq, pay9_eq, pay10_eq, pay11_eq, pay12_eq]
  rfl

theorem g1_abs (i : ℕ) (v1 v2 v3 : Vec Ideal S1x128x128 .f32) (vx : Vec Ideal S1x256x128 .f32) (t0 t1 t2 t3 : Vec Ideal S1x1 .f32)
    (q0 q1 q2 q3 k1 k2 k3 : Vec Ideal S1x128x128 .f32) (kx : Vec Ideal S1x256x128 .f32) (c1 s1 c2 s2 c3 s3 : Vec Ideal S128x128 .f32) :
    k0_pay1 (k0_pay33 (k0_pay31 v1) (k0_pay32 v2) v3 vx)
      (k0_pay43 (k0_pay7 c2) (k0_pay8 s2) (k0_pay13 (BitVec.ofNat 32 i) (iota .tc S128x128 32 [0] iota_S128x128_d0_w32))
        (k0_pay30 k0_pay6 (k0_pay7 c2) (k0_pay8 s2) (k0_pay9 c1) (k0_pay10 s1) (k0_pay11 c3) (k0_pay12 s3) k1 k2 k3 kx)
        (k0_pay34 k0_pay6 (k0_pay7 c2) (k0_pay8 s2) q0) (k0_pay35 k0_pay6 (k0_pay7 c2) (k0_pay8 s2) q1) (k0_pay36 k0_pay6 (k0_pay7 c2) (k0_pay8 s2) q2) (k0_pay37 q3) (k0_pay38 k0_pay6 q3) t0 t1 t2 t3)
      (k0_pay44 (k0_pay7 c2) (k0_pay8 s2) (k0_pay13 (BitVec.ofNat 32 i) (iota .tc S128x128 32 [0] iota_S128x128_d0_w32))
        (k0_pay30 k0_pay6 (k0_pay7 c2) (k0_pay8 s2) (k0_pay9 c1) (k0_pay10 s1) (k0_pay11 c3) (k0_pay12 s3) k1 k2 k3 kx)
        (k0_pay34 k0_pay6 (k0_pay7 c2) (k0_pay8 s2) q0) (k0_pay35 k0_pay6 (k0_pay7 c2) (k0_pay8 s2) q1) (k0_pay36 k0_pay6 (k0_pay7 c2) (k0_pay8 s2) q2) (k0_pay37 q3) (k0_pay38 k0_pay6 q3) t0 t1 t2 t3)
      = outV i v1 v2 v3 vx t0 t1 t2 t3 q0 q1 q2 q3 k1 k2 k3 kx c1 s1 c2 s2 c3 s3 := by
  rw [pay1_eq, pay30_eq, pay33_eq, pay7_eq, pay8_eq, pay9_eq, pay10_eq, pay11_eq, pay12_eq]
  rfl

/-- Key head 0's result is the generic one at its loads. -/
theorem group0_eq (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x256x256 .f32) (harg9 : arg9.IsWhole) (arg10 : Memref sig .tc .vmem S1x256x256 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S8x128 .f32) (harg13 : arg13.IsWhole) (arg14 : Memref sig .tc .vmem S1x128x1024 .bf16) (harg14 : arg14.IsWhole)
    (x0 : Vec Ideal S1x128x1024 .f32) (x1 : Vec Ideal S1x128x256 .f32) (x2 : Vec Ideal S1x128x256 .f32) (x3 : Vec Ideal S1x128x256 .f32) (x4 : Vec Ideal S1x128x256 .f32) (x5 : Vec Ideal S1x128x256 .f32) (x6 : Vec Ideal S1x128x256 .f32) (x7 : Vec Ideal S1x256x256 .f32) (x8 : Vec Ideal S1x256x256 .f32) (x9 : Vec Ideal S2048x128 .f32) (x10 : Vec Ideal S2048x128 .f32) (x11 : Vec Ideal S8x128 .f32) :
    k0_pay24 (kernelRun0_A.sl.r_6 i) (kernelRun0_A.sl.r_12 c arg6 harg6 arg7 harg7 arg8 harg8 arg10 harg10 x4 x5 x6 x8) (kernelRun0_A.sl.r_15 c arg13 harg13 x11) (kernelRun0_A.sl.r_16 c i arg2 harg2 arg3 harg3 arg4 harg4 arg5 harg5 arg9 harg9 arg11 harg11 arg12 harg12 x0 x1 x2 x3 x7 x9 x10) kernelRun0_A.sl.cst_71
    = outV (i 1).val
    (View.readAt (Elt Ideal) arg6.view (Rect.unit (s := S1x128x256) ![0, 0, 0] S1x128x128.size inb_S1x128x256_S1x128x128_0_0_0).toLoadRect (harg6.unread x4))
    (View.readAt (Elt Ideal) arg7.view (Rect.unit (s := S1x128x256) ![0, 0, 0] S1x128x128.size inb_S1x128x256_S1x128x128_0_0_0).toLoadRect (harg7.unread x5))
    (View.readAt (Elt Ideal) arg8.view (Rect.unit (s := S1x128x256) ![0, 0, 0] S1x128x128.size inb_S1x128x256_S1x128x128_0_0_0).toLoadRect (harg8.unread x6))
    (View.readAt (Elt Ideal) arg10.view (Rect.unit (s := S1x256x256) ![0, 0, 0] S1x256x128.size inb_S1x256x256_S1x256x128_0_0_0).toLoadRect (harg10.unread x8))
    (View.readAt (Elt Ideal) arg13.view (Rect.unit (s := S8x128) ![0, 0] S1x1.size inb_S8x128_S1x1_0_0).toLoadRect (harg13.unread x11))
    (View.readAt (Elt Ideal) arg13.view (Rect.unit (s := S8x128) ![1, 0] S1x1.size inb_S8x128_S1x1_1_0).toLoadRect (harg13.unread x11))
    (View.readAt (Elt Ideal) arg13.view (Rect.unit (s := S8x128) ![2, 0] S1x1.size inb_S8x128_S1x1_2_0).toLoadRect (harg13.unread x11))
    (View.readAt (Elt Ideal) arg13.view (Rect.unit (s := S8x128) ![3, 0] S1x1.size inb_S8x128_S1x1_3_0).toLoadRect (harg13.unread x11))
    (View.readAt (Elt Ideal) arg2.view (Rect.unit (s := S1x128x1024) ![0, 0, 0] S1x128x128.size inb_S1x128x1024_S1x128x128_0_0_0).toLoadRect (harg2.unread x0))
    (View.readAt (Elt Ideal) arg2.view (Rect.unit (s := S1x128x1024) ![0, 0, 128] S1x128x128.size inb_S1x128x1024_S1x128x128_0_0_128).toLoadRect (harg2.unread x0))
    (View.readAt (Elt Ideal) arg2.view (Rect.unit (s := S1x128x1024) ![0, 0, 256] S1x128x128.size inb_S1x128x1024_S1x128x128_0_0_256).toLoadRect (harg2.unread x0))
    (View.readAt (Elt Ideal) arg2.view (Rect.unit (s := S1x128x1024) ![0, 0, 384] S1x128x128.size inb_S1x128x1024_S1x128x128_0_0_384).toLoadRect (harg2.unread x0))
    (View.readAt (Elt Ideal) arg3.view (Rect.unit (s := S1x128x256) ![0, 0, 0] S1x128x128.size inb_S1x128x256_S1x128x128_0_0_0).toLoadRect (harg3.unread x1))
    (View.readAt (Elt Ideal) arg4.view (Rect.unit (s := S1x128x256) ![0, 0, 0] S1x128x128.size inb_S1x128x256_S1x128x128_0_0_0).toLoadRect (harg4.unread x2))
    (View.readAt (Elt Ideal) arg5.view (Rect.unit (s := S1x128x256) ![0, 0, 0] S1x128x128.size inb_S1x128x256_S1x128x128_0_0_0).toLoadRect (harg5.unread x3))
    (View.readAt (Elt Ideal) arg9.view (Rect.unit (s := S1x256x256) ![0, 0, 0] S1x256x128.size inb_S1x256x256_S1x256x128_0_0_0).toLoadRect (harg9.unread x7))
    (View.readAt (Elt Ideal) arg11.view (Rect.unit (s := S2048x128) (k0_off2 i) S128x128.size (k0_off2_inb i)).toLoadRect (harg11.unread x9))
    (View.readAt (Elt Ideal) arg12.view (Rect.unit (s := S2048x128) (k0_off2 i) S128x128.size (k0_off2_inb i)).toLoadRect (harg12.unread x10))
    (View.readAt (Elt Ideal) arg11.view (Rect.unit (s := S2048x128) (k0_off1 i) S128x128.size (k0_off1_inb i)).toLoadRect (harg11.unread x9))
    (View.readAt (Elt Ideal) arg12.view (Rect.unit (s := S2048x128) (k0_off1 i) S128x128.size (k0_off1_inb i)).toLoadRect (harg12.unread x10))
    (View.readAt (Elt Ideal) arg11.view (Rect.unit (s := S2048x128) (k0_off3 i) S128x128.size (k0_off3_inb i)).toLoadRect (harg11.unread x9))
    (View.readAt (Elt Ideal) arg12.view (Rect.unit (s := S2048x128) (k0_off3 i) S128x128.size (k0_off3_inb i)).toLoadRect (harg12.unread x10)) :=
  g0_abs (i 1).val _ _ _ _ _ _ _ _ _ _ _ _ _ _ _ _ _ _ _ _ _ _

/-- Key head 0's result, entry by entry. -/
theorem group0_apply (P PC : ℕ → ℕ → ℕ → EReal) (S : ℕ → EReal) (b : ℕ) (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x256x256 .f32) (harg9 : arg9.IsWhole) (arg10 : Memref sig .tc .vmem S1x256x256 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S8x128 .f32) (harg13 : arg13.IsWhole) (arg14 : Memref sig .tc .vmem S1x128x1024 .bf16) (harg14 : arg14.IsWhole)
    (x0 : Vec Ideal S1x128x1024 .f32) (x1 : Vec Ideal S1x128x256 .f32) (x2 : Vec Ideal S1x128x256 .f32) (x3 : Vec Ideal S1x128x256 .f32) (x4 : Vec Ideal S1x128x256 .f32) (x5 : Vec Ideal S1x128x256 .f32) (x6 : Vec Ideal S1x128x256 .f32) (x7 : Vec Ideal S1x256x256 .f32) (x8 : Vec Ideal S1x256x256 .f32) (x9 : Vec Ideal S2048x128 .f32) (x10 : Vec Ideal S2048x128 .f32) (x11 : Vec Ideal S8x128 .f32)
    (hx0 : ∀ (r : Fin 128) (n : Fin 1024), x0 (ix3 0 r n) = P b ((i 1).val * 128 + r.val) n.val)
    (hx1 : 0 < (i 1).val → ∀ (r : Fin 128) (n : Fin 256), x1 (ix3 0 r n) = P b (((i 1).val - 1) * 128 + r.val) (4096 + n.val))
    (hx2 : ∀ (r : Fin 128) (n : Fin 256), x2 (ix3 0 r n) = P b ((i 1).val * 128 + r.val) (4096 + n.val))
    (hx3 : (i 1).val < 15 → ∀ (r : Fin 128) (n : Fin 256), x3 (ix3 0 r n) = P b (((i 1).val + 1) * 128 + r.val) (4096 + n.val))
    (hx4 : 0 < (i 1).val → ∀ (r : Fin 128) (n : Fin 256), x4 (ix3 0 r n) = P b (((i 1).val - 1) * 128 + r.val) (4352 + n.val))
    (hx5 : ∀ (r : Fin 128) (n : Fin 256), x5 (ix3 0 r n) = P b ((i 1).val * 128 + r.val) (4352 + n.val))
    (hx6 : (i 1).val < 15 → ∀ (r : Fin 128) (n : Fin 256), x6 (ix3 0 r n) = P b (((i 1).val + 1) * 128 + r.val) (4352 + n.val))
    (hx7 : ∀ (r n : Fin 256), x7 (ix3 0 r n) = PC b r.val (4096 + n.val))
    (hx8 : ∀ (r n : Fin 256), x8 (ix3 0 r n) = PC b r.val (4352 + n.val))
    (hx9 : ∀ (s : Fin 2048) (l : Fin 128), x9 (ix2 s l) = Ideal.cos (angle s.val l.val))
    (hx10 : ∀ (s : Fin 2048) (l : Fin 128), x10 (ix2 s l) = if l.val % 64 < 32 then -Ideal.sin (angle s.val l.val) else Ideal.sin (angle s.val l.val))
    (hx11 : ∀ h : Fin 8, x11 (ix2 h 0) = S h.val)
    (R : Fin 512) (l : Fin 128) :
    k0_pay24 (kernelRun0_A.sl.r_6 i) (kernelRun0_A.sl.r_12 c arg6 harg6 arg7 harg7 arg8 harg8 arg10 harg10 x4 x5 x6 x8) (kernelRun0_A.sl.r_15 c arg13 harg13 x11) (kernelRun0_A.sl.r_16 c i arg2 harg2 arg3 harg3 arg4 harg4 arg5 harg5 arg9 harg9 arg11 harg11 arg12 harg12 x0 x1 x2 x3 x7 x9 x10) kernelRun0_A.sl.cst_71 (ix2 R l)
      = attend (S (0 + R.val / 128)) (score P PC b ((i 1).val * 128 + R.val % 128) (0 + R.val / 128))
          (value P PC b ((i 1).val * 128 + R.val % 128) (0 + R.val / 128) l.val) := by
  have hi : (i 1).val < 16 := (i 1).isLt
  rw [group0_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11]
  refine out_apply P PC S b (i 1).val 0 hi _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ R l
  · intro r l; exact (ld_rows arg2 harg2 x0 0 _ r l (by omega)).trans (hx0 _ _)
  · intro r l; exact (ld_rows arg2 harg2 x0 128 _ r l (by omega)).trans (hx0 _ _)
  · intro r l; exact (ld_rows arg2 harg2 x0 256 _ r l (by omega)).trans (hx0 _ _)
  · intro r l; exact (ld_rows arg2 harg2 x0 384 _ r l (by omega)).trans (hx0 _ _)
  · intro h0 r l; exact (((ld_rows arg3 harg3 x1 0 _ r l (by omega)).trans (hx1 h0 _ _)).trans (congrArg (P b _) (by show 4096 + (0 + l.val) = 4096 + 0 * 128 + l.val; omega)))
  · intro r l; exact (((ld_rows arg4 harg4 x2 0 _ r l (by omega)).trans (hx2 _ _)).trans (congrArg (P b _) (by show 4096 + (0 + l.val) = 4096 + 0 * 128 + l.val; omega)))
  · intro h0 r l; exact (((ld_rows arg5 harg5 x3 0 _ r l (by omega)).trans (hx3 h0 _ _)).trans (congrArg (P b _) (by show 4096 + (0 + l.val) = 4096 + 0 * 128 + l.val; omega)))
  · intro r l; exact (((ld_ctx arg9 harg9 x7 0 _ r l (by omega)).trans (hx7 _ _)).trans (congrArg (PC b _) (by show 4096 + (0 + l.val) = 4096 + 0 * 128 + l.val; omega)))
  · intro h0 r l; exact (((ld_rows arg6 harg6 x4 0 _ r l (by omega)).trans (hx4 h0 _ _)).trans (congrArg (P b _) (by show 4352 + (0 + l.val) = 4352 + 0 * 128 + l.val; omega)))
  · intro r l; exact (((ld_rows arg7 harg7 x5 0 _ r l (by omega)).trans (hx5 _ _)).trans (congrArg (P b _) (by show 4352 + (0 + l.val) = 4352 + 0 * 128 + l.val; omega)))
  · intro h0 r l; exact (((ld_rows arg8 harg8 x6 0 _ r l (by omega)).trans (hx6 h0 _ _)).trans (congrArg (P b _) (by show 4352 + (0 + l.val) = 4352 + 0 * 128 + l.val; omega)))
  · intro r l; exact (((ld_ctx arg10 harg10 x8 0 _ r l (by omega)).trans (hx8 _ _)).trans (congrArg (PC b _) (by show 4352 + (0 + l.val) = 4352 + 0 * 128 + l.val; omega)))
  · intro h0 r l; exact (ld_table arg11 harg11 x9 (k0_off2 i) _ (((i 1).val - 1) * 128) (word2 ⟨(i 1).val, hi⟩ h0) rfl r l (by omega)).trans (hx9 _ _)
  · intro h0 r l; exact (ld_table arg12 harg12 x10 (k0_off2 i) _ (((i 1).val - 1) * 128) (word2 ⟨(i 1).val, hi⟩ h0) rfl r l (by omega)).trans (hx10 _ _)
  · intro r l; exact (ld_table arg11 harg11 x9 (k0_off1 i) _ ((i 1).val * 128) (word1 ⟨(i 1).val, hi⟩) rfl r l (by omega)).trans (hx9 _ _)
  · intro r l; exact (ld_table arg12 harg12 x10 (k0_off1 i) _ ((i 1).val * 128) (word1 ⟨(i 1).val, hi⟩) rfl r l (by omega)).trans (hx10 _ _)
  · intro h0 r l; exact (ld_table arg11 harg11 x9 (k0_off3 i) _ (((i 1).val + 1) * 128) (word3 ⟨(i 1).val, hi⟩ h0) rfl r l (by omega)).trans (hx9 _ _)
  · intro h0 r l; exact (ld_table arg12 harg12 x10 (k0_off3 i) _ (((i 1).val + 1) * 128) (word3 ⟨(i 1).val, hi⟩ h0) rfl r l (by omega)).trans (hx10 _ _)
  · exact (ld_sink arg13 harg13 x11 0 _ (by omega)).trans (hx11 _)
  · exact (ld_sink arg13 harg13 x11 1 _ (by omega)).trans (hx11 _)
  · exact (ld_sink arg13 harg13 x11 2 _ (by omega)).trans (hx11 _)
  · exact (ld_sink arg13 harg13 x11 3 _ (by omega)).trans (hx11 _)

/-- Key head 1's result is the generic one at its loads. -/
theorem group1_eq (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x256x256 .f32) (harg9 : arg9.IsWhole) (arg10 : Memref sig .tc .vmem S1x256x256 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S8x128 .f32) (harg13 : arg13.IsWhole) (arg14 : Memref sig .tc .vmem S1x128x1024 .bf16) (harg14 : arg14.IsWhole)
    (x0 : Vec Ideal S1x128x1024 .f32) (x1 : Vec Ideal S1x128x256 .f32) (x2 : Vec Ideal S1x128x256 .f32) (x3 : Vec Ideal S1x128x256 .f32) (x4 : Vec Ideal S1x128x256 .f32) (x5 : Vec Ideal S1x128x256 .f32) (x6 : Vec Ideal S1x128x256 .f32) (x7 : Vec Ideal S1x256x256 .f32) (x8 : Vec Ideal S1x256x256 .f32) (x9 : Vec Ideal S2048x128 .f32) (x10 : Vec Ideal S2048x128 .f32) (x11 : Vec Ideal S8x128 .f32) :
    k0_pay1 (kernelRun0_A.sl.r_21 c arg6 harg6 arg7 harg7 arg8 harg8 arg10 harg10 x4 x5 x6 x8) (kernelRun0_A.sl.r_27 c i arg2 harg2 arg3 harg3 arg4 harg4 arg5 harg5 arg9 harg9 arg11 harg11 arg12 harg12 arg13 harg13 x0 x1 x2 x3 x7 x9 x10 x11) (kernelRun0_A.sl.r_28 c i arg2 harg2 arg3 harg3 arg4 harg4 arg5 harg5 arg9 harg9 arg11 harg11 arg12 harg12 arg13 harg13 x0 x1 x2 x3 x7 x9 x10 x11)
    = outV (i 1).val
    (View.readAt (Elt Ideal) arg6.view (Rect.unit (s := S1x128x256) ![0, 0, 128] S1x128x128.size inb_S1x128x256_S1x128x128_0_0_128).toLoadRect (harg6.unread x4))
    (View.readAt (Elt Ideal) arg7.view (Rect.unit (s := S1x128x256) ![0, 0, 128] S1x128x128.size inb_S1x128x256_S1x128x128_0_0_128).toLoadRect (harg7.unread x5))
    (View.readAt (Elt Ideal) arg8.view (Rect.unit (s := S1x128x256) ![0, 0, 128] S1x128x128.size inb_S1x128x256_S1x128x128_0_0_128).toLoadRect (harg8.unread x6))
    (View.readAt (Elt Ideal) arg10.view (Rect.unit (s := S1x256x256) ![0, 0, 128] S1x256x128.size inb_S1x256x256_S1x256x128_0_0_128).toLoadRect (harg10.unread x8))
    (View.readAt (Elt Ideal) arg13.view (Rect.unit (s := S8x128) ![4, 0] S1x1.size inb_S8x128_S1x1_4_0).toLoadRect (harg13.unread x11))
    (View.readAt (Elt Ideal) arg13.view (Rect.unit (s := S8x128) ![5, 0] S1x1.size inb_S8x128_S1x1_5_0).toLoadRect (harg13.unread x11))
    (View.readAt (Elt Ideal) arg13.view (Rect.unit (s := S8x128) ![6, 0] S1x1.size inb_S8x128_S1x1_6_0).toLoadRect (harg13.unread x11))
    (View.readAt (Elt Ideal) arg13.view (Rect.unit (s := S8x128) ![7, 0] S1x1.size inb_S8x128_S1x1_7_0).toLoadRect (harg13.unread x11))
    (View.readAt (Elt Ideal) arg2.view (Rect.unit (s := S1x128x1024) ![0, 0, 512] S1x128x128.size inb_S1x128x1024_S1x128x128_0_0_512).toLoadRect (harg2.unread x0))
    (View.readAt (Elt Ideal) arg2.view (Rect.unit (s := S1x128x1024) ![0, 0, 640] S1x128x128.size inb_S1x128x1024_S1x128x128_0_0_640).toLoadRect (harg2.unread x0))
    (View.readAt (Elt Ideal) arg2.view (Rect.unit (s := S1x128x1024) ![0, 0, 768] S1x128x128.size inb_S1x128x1024_S1x128x128_0_0_768).toLoadRect (harg2.unread x0))
    (View.readAt (Elt Ideal) arg2.view (Rect.unit (s := S1x128x1024) ![0, 0, 896] S1x128x128.size inb_S1x128x1024_S1x128x128_0_0_896).toLoadRect (harg2.unread x0))
    (View.readAt (Elt Ideal) arg3.view (Rect.unit (s := S1x128x256) ![0, 0, 128] S1x128x128.size inb_S1x128x256_S1x128x128_0_0_128).toLoadRect (harg3.unread x1))
    (View.readAt (Elt Ideal) arg4.view (Rect.unit (s := S1x128x256) ![0, 0, 128] S1x128x128.size inb_S1x128x256_S1x128x128_0_0_128).toLoadRect (harg4.unread x2))
    (View.readAt (Elt Ideal) arg5.view (Rect.unit (s := S1x128x256) ![0, 0, 128] S1x128x128.size inb_S1x128x256_S1x128x128_0_0_128).toLoadRect (harg5.unread x3))
    (View.readAt (Elt Ideal) arg9.view (Rect.unit (s := S1x256x256) ![0, 0, 128] S1x256x128.size inb_S1x256x256_S1x256x128_0_0_128).toLoadRect (harg9.unread x7))
    (View.readAt (Elt Ideal) arg11.view (Rect.unit (s := S2048x128) (k0_off2 i) S128x128.size (k0_off2_inb i)).toLoadRect (harg11.unread x9))
    (View.readAt (Elt Ideal) arg12.view (Rect.unit (s := S2048x128) (k0_off2 i) S128x128.size (k0_off2_inb i)).toLoadRect (harg12.unread x10))
    (View.readAt (Elt Ideal) arg11.view (Rect.unit (s := S2048x128) (k0_off1 i) S128x128.size (k0_off1_inb i)).toLoadRect (harg11.unread x9))
    (View.readAt (Elt Ideal) arg12.view (Rect.unit (s := S2048x128) (k0_off1 i) S128x128.size (k0_off1_inb i)).toLoadRect (harg12.unread x10))
    (View.readAt (Elt Ideal) arg11.view (Rect.unit (s := S2048x128) (k0_off3 i) S128x128.size (k0_off3_inb i)).toLoadRect (harg11.unread x9))
    (View.readAt (Elt Ideal) arg12.view (Rect.unit (s := S2048x128) (k0_off3 i) S128x128.size (k0_off3_inb i)).toLoadRect (harg12.unread x10)) :=
  g1_abs (i 1).val _ _ _ _ _ _ _ _ _ _ _ _ _ _ _ _ _ _ _ _ _ _

/-- Key head 1's result, entry by entry. -/
theorem group1_apply (P PC : ℕ → ℕ → ℕ → EReal) (S : ℕ → EReal) (b : ℕ) (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x256x256 .f32) (harg9 : arg9.IsWhole) (arg10 : Memref sig .tc .vmem S1x256x256 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S8x128 .f32) (harg13 : arg13.IsWhole) (arg14 : Memref sig .tc .vmem S1x128x1024 .bf16) (harg14 : arg14.IsWhole)
    (x0 : Vec Ideal S1x128x1024 .f32) (x1 : Vec Ideal S1x128x256 .f32) (x2 : Vec Ideal S1x128x256 .f32) (x3 : Vec Ideal S1x128x256 .f32) (x4 : Vec Ideal S1x128x256 .f32) (x5 : Vec Ideal S1x128x256 .f32) (x6 : Vec Ideal S1x128x256 .f32) (x7 : Vec Ideal S1x256x256 .f32) (x8 : Vec Ideal S1x256x256 .f32) (x9 : Vec Ideal S2048x128 .f32) (x10 : Vec Ideal S2048x128 .f32) (x11 : Vec Ideal S8x128 .f32)
    (hx0 : ∀ (r : Fin 128) (n : Fin 1024), x0 (ix3 0 r n) = P b ((i 1).val * 128 + r.val) n.val)
    (hx1 : 0 < (i 1).val → ∀ (r : Fin 128) (n : Fin 256), x1 (ix3 0 r n) = P b (((i 1).val - 1) * 128 + r.val) (4096 + n.val))
    (hx2 : ∀ (r : Fin 128) (n : Fin 256), x2 (ix3 0 r n) = P b ((i 1).val * 128 + r.val) (4096 + n.val))
    (hx3 : (i 1).val < 15 → ∀ (r : Fin 128) (n : Fin 256), x3 (ix3 0 r n) = P b (((i 1).val + 1) * 128 + r.val) (4096 + n.val))
    (hx4 : 0 < (i 1).val → ∀ (r : Fin 128) (n : Fin 256), x4 (ix3 0 r n) = P b (((i 1).val - 1) * 128 + r.val) (4352 + n.val))
    (hx5 : ∀ (r : Fin 128) (n : Fin 256), x5 (ix3 0 r n) = P b ((i 1).val * 128 + r.val) (4352 + n.val))
    (hx6 : (i 1).val < 15 → ∀ (r : Fin 128) (n : Fin 256), x6 (ix3 0 r n) = P b (((i 1).val + 1) * 128 + r.val) (4352 + n.val))
    (hx7 : ∀ (r n : Fin 256), x7 (ix3 0 r n) = PC b r.val (4096 + n.val))
    (hx8 : ∀ (r n : Fin 256), x8 (ix3 0 r n) = PC b r.val (4352 + n.val))
    (hx9 : ∀ (s : Fin 2048) (l : Fin 128), x9 (ix2 s l) = Ideal.cos (angle s.val l.val))
    (hx10 : ∀ (s : Fin 2048) (l : Fin 128), x10 (ix2 s l) = if l.val % 64 < 32 then -Ideal.sin (angle s.val l.val) else Ideal.sin (angle s.val l.val))
    (hx11 : ∀ h : Fin 8, x11 (ix2 h 0) = S h.val)
    (R : Fin 512) (l : Fin 128) :
    k0_pay1 (kernelRun0_A.sl.r_21 c arg6 harg6 arg7 harg7 arg8 harg8 arg10 harg10 x4 x5 x6 x8) (kernelRun0_A.sl.r_27 c i arg2 harg2 arg3 harg3 arg4 harg4 arg5 harg5 arg9 harg9 arg11 harg11 arg12 harg12 arg13 harg13 x0 x1 x2 x3 x7 x9 x10 x11) (kernelRun0_A.sl.r_28 c i arg2 harg2 arg3 harg3 arg4 harg4 arg5 harg5 arg9 harg9 arg11 harg11 arg12 harg12 arg13 harg13 x0 x1 x2 x3 x7 x9 x10 x11) (ix2 R l)
      = attend (S (4 + R.val / 128)) (score P PC b ((i 1).val * 128 + R.val % 128) (4 + R.val / 128))
          (value P PC b ((i 1).val * 128 + R.val % 128) (4 + R.val / 128) l.val) := by
  have hi : (i 1).val < 16 := (i 1).isLt
  rw [group1_eq c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11]
  refine out_apply P PC S b (i 1).val 1 hi _ _ _ _ _ _ _ _ _ _ _ _ _ _ _ _ _ _ _ _ _ _
    ?_ ?_ ?_ ?_ ?_ ?_ ?_ ?_ ?_ ?_ ?_ ?_ ?_ ?_ ?_ ?_ ?_ ?_ ?_ ?_ ?_ ?_ R l
  · intro r l; exact (ld_rows arg2 harg2 x0 512 _ r l (by omega)).trans (hx0 _ _)
  · intro r l; exact (ld_rows arg2 harg2 x0 640 _ r l (by omega)).trans (hx0 _ _)
  · intro r l; exact (ld_rows arg2 harg2 x0 768 _ r l (by omega)).trans (hx0 _ _)
  · intro r l; exact (ld_rows arg2 harg2 x0 896 _ r l (by omega)).trans (hx0 _ _)
  · intro h0 r l; exact (((ld_rows arg3 harg3 x1 128 _ r l (by omega)).trans (hx1 h0 _ _)).trans (congrArg (P b _) (by show 4096 + (128 + l.val) = 4096 + 1 * 128 + l.val; omega)))
  · intro r l; exact (((ld_rows arg4 harg4 x2 128 _ r l (by omega)).trans (hx2 _ _)).trans (congrArg (P b _) (by show 4096 + (128 + l.val) = 4096 + 1 * 128 + l.val; omega)))
  · intro h0 r l; exact (((ld_rows arg5 harg5 x3 128 _ r l (by omega)).trans (hx3 h0 _ _)).trans (congrArg (P b _) (by show 4096 + (128 + l.val) = 4096 + 1 * 128 + l.val; omega)))
  · intro r l; exact (((ld_ctx arg9 harg9 x7 128 _ r l (by omega)).trans (hx7 _ _)).trans (congrArg (PC b _) (by show 4096 + (128 + l.val) = 4096 + 1 * 128 + l.val; omega)))
  · intro h0 r l; exact (((ld_rows arg6 harg6 x4 128 _ r l (by omega)).trans (hx4 h0 _ _)).trans (congrArg (P b _) (by show 4352 + (128 + l.val) = 4352 + 1 * 128 + l.val; omega)))
  · intro r l; exact (((ld_rows arg7 harg7 x5 128 _ r l (by omega)).trans (hx5 _ _)).trans (congrArg (P b _) (by show 4352 + (128 + l.val) = 4352 + 1 * 128 + l.val; omega)))
  · intro h0 r l; exact (((ld_rows arg8 harg8 x6 128 _ r l (by omega)).trans (hx6 h0 _ _)).trans (congrArg (P b _) (by show 4352 + (128 + l.val) = 4352 + 1 * 128 + l.val; omega)))
  · intro r l; exact (((ld_ctx arg10 harg10 x8 128 _ r l (by omega)).trans (hx8 _ _)).trans (congrArg (PC b _) (by show 4352 + (128 + l.val) = 4352 + 1 * 128 + l.val; omega)))
  · intro h0 r l; exact (ld_table arg11 harg11 x9 (k0_off2 i) _ (((i 1).val - 1) * 128) (word2 ⟨(i 1).val, hi⟩ h0) rfl r l (by omega)).trans (hx9 _ _)
  · intro h0 r l; exact (ld_table arg12 harg12 x10 (k0_off2 i) _ (((i 1).val - 1) * 128) (word2 ⟨(i 1).val, hi⟩ h0) rfl r l (by omega)).trans (hx10 _ _)
  · intro r l; exact (ld_table arg11 harg11 x9 (k0_off1 i) _ ((i 1).val * 128) (word1 ⟨(i 1).val, hi⟩) rfl r l (by omega)).trans (hx9 _ _)
  · intro r l; exact (ld_table arg12 harg12 x10 (k0_off1 i) _ ((i 1).val * 128) (word1 ⟨(i 1).val, hi⟩) rfl r l (by omega)).trans (hx10 _ _)
  · intro h0 r l; exact (ld_table arg11 harg11 x9 (k0_off3 i) _ (((i 1).val + 1) * 128) (word3 ⟨(i 1).val, hi⟩ h0) rfl r l (by omega)).trans (hx9 _ _)
  · intro h0 r l; exact (ld_table arg12 harg12 x10 (k0_off3 i) _ (((i 1).val + 1) * 128) (word3 ⟨(i 1).val, hi⟩ h0) rfl r l (by omega)).trans (hx10 _ _)
  · exact (ld_sink arg13 harg13 x11 4 _ (by omega)).trans (hx11 _)
  · exact (ld_sink arg13 harg13 x11 5 _ (by omega)).trans (hx11 _)
  · exact (ld_sink arg13 harg13 x11 6 _ (by omega)).trans (hx11 _)
  · exact (ld_sink arg13 harg13 x11 7 _ (by omega)).trans (hx11 _)

theorem pay25_apply (v57 : FVec Ideal S128x640 .f32) (v95 : FVec Ideal S640x128 .bf16) (v146 : FVec Ideal S512x1 .f32) (v150 : FVec Ideal S4x128x640 .f32) (cst : Ideal .f32) (u : Fin 1) (r l : Fin 128) :
    k0_pay25 v57 v95 v146 v150 cst (ix3 u r l) = k0_pay24 v57 v95 v146 v150 cst (ix2 ⟨0 + r.val, by have := r.isLt; omega⟩ l) := by
  pointwise [k0_pay25]
theorem pay26_apply (v57 : FVec Ideal S128x640 .f32) (v95 : FVec Ideal S640x128 .bf16) (v146 : FVec Ideal S512x1 .f32) (v150 : FVec Ideal S4x128x640 .f32) (cst : Ideal .f32) (u : Fin 1) (r l : Fin 128) :
    k0_pay26 v57 v95 v146 v150 cst (ix3 u r l) = k0_pay24 v57 v95 v146 v150 cst (ix2 ⟨128 + r.val, by have := r.isLt; omega⟩ l) := by
  pointwise [k0_pay26]
theorem pay27_apply (v57 : FVec Ideal S128x640 .f32) (v95 : FVec Ideal S640x128 .bf16) (v146 : FVec Ideal S512x1 .f32) (v150 : FVec Ideal S4x128x640 .f32) (cst : Ideal .f32) (u : Fin 1) (r l : Fin 128) :
    k0_pay27 v57 v95 v146 v150 cst (ix3 u r l) = k0_pay24 v57 v95 v146 v150 cst (ix2 ⟨256 + r.val, by have := r.isLt; omega⟩ l) := by
  pointwise [k0_pay27]
theorem pay29_apply (v57 : FVec Ideal S128x640 .f32) (v95 : FVec Ideal S640x128 .bf16) (v146 : FVec Ideal S512x1 .f32) (v150 : FVec Ideal S4x128x640 .f32) (cst : Ideal .f32) (u : Fin 1) (r l : Fin 128) :
    k0_pay29 (k0_pay28 v57 v95 v146 v150 cst) (ix3 u r l) = k0_pay24 v57 v95 v146 v150 cst (ix2 ⟨384 + r.val, by have := r.isLt; omega⟩ l) := by
  pointwise [k0_pay29, k0_pay28]
theorem pay2_apply (v231 : FVec Ideal S640x128 .bf16) (v305 : FVec Ideal S512x1 .f32) (v306 : FVec Ideal S512x640 .bf16) (u : Fin 1) (r l : Fin 128) :
    k0_pay2 v231 v305 v306 (ix3 u r l) = k0_pay1 v231 v305 v306 (ix2 ⟨0 + r.val, by have := r.isLt; omega⟩ l) := by
  pointwise [k0_pay2]
theorem pay3_apply (v231 : FVec Ideal S640x128 .bf16) (v305 : FVec Ideal S512x1 .f32) (v306 : FVec Ideal S512x640 .bf16) (u : Fin 1) (r l : Fin 128) :
    k0_pay3 v231 v305 v306 (ix3 u r l) = k0_pay1 v231 v305 v306 (ix2 ⟨128 + r.val, by have := r.isLt; omega⟩ l) := by
  pointwise [k0_pay3]
theorem pay4_apply (v231 : FVec Ideal S640x128 .bf16) (v305 : FVec Ideal S512x1 .f32) (v306 : FVec Ideal S512x640 .bf16) (u : Fin 1) (r l : Fin 128) :
    k0_pay4 v231 v305 v306 (ix3 u r l) = k0_pay1 v231 v305 v306 (ix2 ⟨256 + r.val, by have := r.isLt; omega⟩ l) := by
  pointwise [k0_pay4]
theorem pay5_apply (v231 : FVec Ideal S640x128 .bf16) (v305 : FVec Ideal S512x1 .f32) (v306 : FVec Ideal S512x640 .bf16) (u : Fin 1) (r l : Fin 128) :
    k0_pay5 v231 v305 v306 (ix3 u r l) = k0_pay1 v231 v305 v306 (ix2 ⟨384 + r.val, by have := r.isLt; omega⟩ l) := by
  pointwise [k0_pay5]

/-- Where a slab's entries lie in the block. -/
theorem slab (o : ℕ) (inb) (u : Fin 1) (r l : Fin 128) :
    ((Rect.unit (s := S1x128x1024) ![0, 0, o] ![1, 128, 128] inb).emb (ix3 u r l) 1).val = r.val
      ∧ ((Rect.unit (s := S1x128x1024) ![0, 0, o] ![1, 128, 128] inb).emb (ix3 u r l) 2).val = o + l.val :=
  ⟨(Rect.idx_unit_val _ _ inb _ _).trans (Nat.zero_add _), Rect.idx_unit_val _ _ inb _ _⟩

/-- One query head of the specification, by its number and lane. -/
theorem attn_of (P PC : ℕ → ℕ → ℕ → EReal) (S : ℕ → EReal) (b s s' s'' h h' l n : ℕ) (hs : s = s'') (hs' : s' = s'') (hh : h = h') (hn : n = h' * 128 + l) (hl : l < 128) :
    attend (S h) (score P PC b s h) (value P PC b s h l) = attn P PC S b s' n := by
  subst hs hs' hh
  unfold attn
  rw [show n / 128 = h by omega, show n % 128 = l by omega]

/-- The block a grid point writes: the attention of its 128 tokens. -/
theorem out_block (P PC : ℕ → ℕ → ℕ → EReal) (S : ℕ → EReal) (b : ℕ) (c : Dev nD) (i : grid0.Coords) (arg2 : Memref sig .tc .vmem S1x128x1024 .f32) (harg2 : arg2.IsWhole) (arg3 : Memref sig .tc .vmem S1x128x256 .f32) (harg3 : arg3.IsWhole) (arg4 : Memref sig .tc .vmem S1x128x256 .f32) (harg4 : arg4.IsWhole) (arg5 : Memref sig .tc .vmem S1x128x256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x256 .f32) (harg8 : arg8.IsWhole) (arg9 : Memref sig .tc .vmem S1x256x256 .f32) (harg9 : arg9.IsWhole) (arg10 : Memref sig .tc .vmem S1x256x256 .f32) (harg10 : arg10.IsWhole) (arg11 : Memref sig .tc .vmem S2048x128 .f32) (harg11 : arg11.IsWhole) (arg12 : Memref sig .tc .vmem S2048x128 .f32) (harg12 : arg12.IsWhole) (arg13 : Memref sig .tc .vmem S8x128 .f32) (harg13 : arg13.IsWhole) (arg14 : Memref sig .tc .vmem S1x128x1024 .bf16) (harg14 : arg14.IsWhole)
    (x0 : Vec Ideal S1x128x1024 .f32) (x1 : Vec Ideal S1x128x256 .f32) (x2 : Vec Ideal S1x128x256 .f32) (x3 : Vec Ideal S1x128x256 .f32) (x4 : Vec Ideal S1x128x256 .f32) (x5 : Vec Ideal S1x128x256 .f32) (x6 : Vec Ideal S1x128x256 .f32) (x7 : Vec Ideal S1x256x256 .f32) (x8 : Vec Ideal S1x256x256 .f32) (x9 : Vec Ideal S2048x128 .f32) (x10 : Vec Ideal S2048x128 .f32) (x11 : Vec Ideal S8x128 .f32)
    (hx0 : ∀ (r : Fin 128) (n : Fin 1024), x0 (ix3 0 r n) = P b ((i 1).val * 128 + r.val) n.val)
    (hx1 : 0 < (i 1).val → ∀ (r : Fin 128) (n : Fin 256), x1 (ix3 0 r n) = P b (((i 1).val - 1) * 128 + r.val) (4096 + n.val))
    (hx2 : ∀ (r : Fin 128) (n : Fin 256), x2 (ix3 0 r n) = P b ((i 1).val * 128 + r.val) (4096 + n.val))
    (hx3 : (i 1).val < 15 → ∀ (r : Fin 128) (n : Fin 256), x3 (ix3 0 r n) = P b (((i 1).val + 1) * 128 + r.val) (4096 + n.val))
    (hx4 : 0 < (i 1).val → ∀ (r : Fin 128) (n : Fin 256), x4 (ix3 0 r n) = P b (((i 1).val - 1) * 128 + r.val) (4352 + n.val))
    (hx5 : ∀ (r : Fin 128) (n : Fin 256), x5 (ix3 0 r n) = P b ((i 1).val * 128 + r.val) (4352 + n.val))
    (hx6 : (i 1).val < 15 → ∀ (r : Fin 128) (n : Fin 256), x6 (ix3 0 r n) = P b (((i 1).val + 1) * 128 + r.val) (4352 + n.val))
    (hx7 : ∀ (r n : Fin 256), x7 (ix3 0 r n) = PC b r.val (4096 + n.val))
    (hx8 : ∀ (r n : Fin 256), x8 (ix3 0 r n) = PC b r.val (4352 + n.val))
    (hx9 : ∀ (s : Fin 2048) (l : Fin 128), x9 (ix2 s l) = Ideal.cos (angle s.val l.val))
    (hx10 : ∀ (s : Fin 2048) (l : Fin 128), x10 (ix2 s l) = if l.val % 64 < 32 then -Ideal.sin (angle s.val l.val) else Ideal.sin (angle s.val l.val))
    (hx11 : ∀ h : Fin 8, x11 (ix2 h 0) = S h.val)
    (y : S1x128x1024.Idx) :
    out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y = attn P PC S b ((i 1).val * 128 + (y 1).val) (y 2).val := by
  have g0 := group0_apply P PC S b c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 hx0 hx1 hx2 hx3 hx4 hx5 hx6 hx7 hx8 hx9 hx10 hx11
  have g1 := group1_apply P PC S b c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 hx0 hx1 hx2 hx3 hx4 hx5 hx6 hx7 hx8 hx9 hx10 hx11
  unfold out0_A_12
  refine View.read_writes_apply_of_pieces (Val := Elt Ideal) _ _ (fun y : S1x128x1024.Idx => attn P PC S b ((i 1).val * 128 + (y 1).val) (y 2).val) _ ?_ y
    (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  unfold kernelRun0_A
  dsimp only
  intro p hp
  simp only [List.mem_cons, List.not_mem_nil, or_false] at hp
  rcases hp with rfl | rfl | rfl | rfl | rfl | rfl | rfl | rfl
  · intro x
    obtain ⟨u, r, l, rfl⟩ : ∃ (u : Fin 1) (r l : Fin 128), x = ix3 u r l := ⟨_, _, _, eq_ix3 x⟩
    have e := slab 896 inb_S1x128x1024_S1x128x128_0_0_896 u r l
    have hl := l.isLt
    have hr := r.isLt
    refine ((pay5_apply _ _ _ u r l).trans (g1 ⟨384 + r.val, by omega⟩ l)).trans ?_
    refine attn_of P PC S b _ _ ((i 1).val * 128 + r.val) _ 7 _ _ ?_ (congrArg (_ + ·) e.1) ?_ (e.2.trans ?_) hl
    · show (i 1).val * 128 + (384 + r.val) % 128 = _; omega
    · show 4 + (384 + r.val) / 128 = 7; omega
    · show 896 + l.val = 7 * 128 + l.val; omega
  · intro x
    obtain ⟨u, r, l, rfl⟩ : ∃ (u : Fin 1) (r l : Fin 128), x = ix3 u r l := ⟨_, _, _, eq_ix3 x⟩
    have e := slab 768 inb_S1x128x1024_S1x128x128_0_0_768 u r l
    have hl := l.isLt
    have hr := r.isLt
    refine ((pay4_apply _ _ _ u r l).trans (g1 ⟨256 + r.val, by omega⟩ l)).trans ?_
    refine attn_of P PC S b _ _ ((i 1).val * 128 + r.val) _ 6 _ _ ?_ (congrArg (_ + ·) e.1) ?_ (e.2.trans ?_) hl
    · show (i 1).val * 128 + (256 + r.val) % 128 = _; omega
    · show 4 + (256 + r.val) / 128 = 6; omega
    · show 768 + l.val = 6 * 128 + l.val; omega
  · intro x
    obtain ⟨u, r, l, rfl⟩ : ∃ (u : Fin 1) (r l : Fin 128), x = ix3 u r l := ⟨_, _, _, eq_ix3 x⟩
    have e := slab 640 inb_S1x128x1024_S1x128x128_0_0_640 u r l
    have hl := l.isLt
    have hr := r.isLt
    refine ((pay3_apply _ _ _ u r l).trans (g1 ⟨128 + r.val, by omega⟩ l)).trans ?_
    refine attn_of P PC S b _ _ ((i 1).val * 128 + r.val) _ 5 _ _ ?_ (congrArg (_ + ·) e.1) ?_ (e.2.trans ?_) hl
    · show (i 1).val * 128 + (128 + r.val) % 128 = _; omega
    · show 4 + (128 + r.val) / 128 = 5; omega
    · show 640 + l.val = 5 * 128 + l.val; omega
  · intro x
    obtain ⟨u, r, l, rfl⟩ : ∃ (u : Fin 1) (r l : Fin 128), x = ix3 u r l := ⟨_, _, _, eq_ix3 x⟩
    have e := slab 512 inb_S1x128x1024_S1x128x128_0_0_512 u r l
    have hl := l.isLt
    have hr := r.isLt
    refine ((pay2_apply _ _ _ u r l).trans (g1 ⟨0 + r.val, by omega⟩ l)).trans ?_
    refine attn_of P PC S b _ _ ((i 1).val * 128 + r.val) _ 4 _ _ ?_ (congrArg (_ + ·) e.1) ?_ (e.2.trans ?_) hl
    · show (i 1).val * 128 + (0 + r.val) % 128 = _; omega
    · show 4 + (0 + r.val) / 128 = 4; omega
    · show 512 + l.val = 4 * 128 + l.val; omega
  · intro x
    obtain ⟨u, r, l, rfl⟩ : ∃ (u : Fin 1) (r l : Fin 128), x = ix3 u r l := ⟨_, _, _, eq_ix3 x⟩
    have e := slab 384 inb_S1x128x1024_S1x128x128_0_0_384 u r l
    have hl := l.isLt
    have hr := r.isLt
    refine ((pay29_apply _ _ _ _ _ u r l).trans (g0 ⟨384 + r.val, by omega⟩ l)).trans ?_
    refine attn_of P PC S b _ _ ((i 1).val * 128 + r.val) _ 3 _ _ ?_ (congrArg (_ + ·) e.1) ?_ (e.2.trans ?_) hl
    · show (i 1).val * 128 + (384 + r.val) % 128 = _; omega
    · show 0 + (384 + r.val) / 128 = 3; omega
    · show 384 + l.val = 3 * 128 + l.val; omega
  · intro x
    obtain ⟨u, r, l, rfl⟩ : ∃ (u : Fin 1) (r l : Fin 128), x = ix3 u r l := ⟨_, _, _, eq_ix3 x⟩
    have e := slab 256 inb_S1x128x1024_S1x128x128_0_0_256 u r l
    have hl := l.isLt
    have hr := r.isLt
    refine ((pay27_apply _ _ _ _ _ u r l).trans (g0 ⟨256 + r.val, by omega⟩ l)).trans ?_
    refine attn_of P PC S b _ _ ((i 1).val * 128 + r.val) _ 2 _ _ ?_ (congrArg (_ + ·) e.1) ?_ (e.2.trans ?_) hl
    · show (i 1).val * 128 + (256 + r.val) % 128 = _; omega
    · show 0 + (256 + r.val) / 128 = 2; omega
    · show 256 + l.val = 2 * 128 + l.val; omega
  · intro x
    obtain ⟨u, r, l, rfl⟩ : ∃ (u : Fin 1) (r l : Fin 128), x = ix3 u r l := ⟨_, _, _, eq_ix3 x⟩
    have e := slab 128 inb_S1x128x1024_S1x128x128_0_0_128 u r l
    have hl := l.isLt
    have hr := r.isLt
    refine ((pay26_apply _ _ _ _ _ u r l).trans (g0 ⟨128 + r.val, by omega⟩ l)).trans ?_
    refine attn_of P PC S b _ _ ((i 1).val * 128 + r.val) _ 1 _ _ ?_ (congrArg (_ + ·) e.1) ?_ (e.2.trans ?_) hl
    · show (i 1).val * 128 + (128 + r.val) % 128 = _; omega
    · show 0 + (128 + r.val) / 128 = 1; omega
    · show 128 + l.val = 1 * 128 + l.val; omega
  · intro x
    obtain ⟨u, r, l, rfl⟩ : ∃ (u : Fin 1) (r l : Fin 128), x = ix3 u r l := ⟨_, _, _, eq_ix3 x⟩
    have e := slab 0 inb_S1x128x1024_S1x128x128_0_0_0 u r l
    have hl := l.isLt
    have hr := r.isLt
    refine ((pay25_apply _ _ _ _ _ u r l).trans (g0 ⟨0 + r.val, by omega⟩ l)).trans ?_
    refine attn_of P PC S b _ _ ((i 1).val * 128 + r.val) _ 0 _ _ ?_ (congrArg (_ + ·) e.1) ?_ (e.2.trans ?_) hl
    · show (i 1).val * 128 + (0 + r.val) % 128 = _; omega
    · show 0 + (0 + r.val) / 128 = 0; omega
    · show 0 + l.val = 0 * 128 + l.val; omega
end Cert.AttnIdeal.Tile
end
-- ==== Proof.AttnValue.lean ====
/-
  THE ATTENTION'S VALUE (hand-written): the kernel `AttnIdeal` leaves in its result the attention of `AttnMath`: for every
  token and query head the softmax of its scores over 384 neighbouring and 256 context keys and one sink, weighing the
  values.
-/
module
public import proofs.«01_k».proof.Defs
public import proofs.«01_k».proof.Proof.Gen.AttnIdeal.Value
public import proofs.«01_k».proof.Proof.AttnRun
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.AttnIdeal.Val
open Cert.AttnIdeal Cert.AttnIdeal.Gen Cert.AttnMath Cert.AttnIdeal.Tile

/-- The rotation's frequencies as the host computes them. -/
def powers : FVec Ideal S32 .f32 :=
  Host.powf (broadcastInDim S32 ![] bcast_S_S32 (constant (F := Ideal) S_ .f32 0x461C4000#32))
    (Host.divf (Host.negf (sitofp .f32 (iotaInDim S32 32 0))) (broadcastInDim S32 ![] bcast_S_S32 (constant (F := Ideal) S_ .f32 0x42000000#32)))
/-- The angles of the tokens' rows. -/
def rowAngles : FVec Ideal S2048x32 .f32 :=
  mulf (broadcastInDim S2048x32 ![0, 1] bcast_S2048x1_S2048x32_0_1 (broadcastInDim S2048x1 ![0] bcast_S2048_S2048x1_0
      (shapeCast S2048 (broadcastInDim S32x64 ![0] bcast_S32_S32x64_0 (sitofp (F := Ideal) .f32 (iotaInDim S32 32 0))) shapeCasts_S32x64_S2048)))
    (broadcastInDim S2048x32 ![0, 1] bcast_S1x32_S2048x32_0_1 (broadcastInDim S1x32 ![1] bcast_S32_S1x32_1 powers))
/-- The angles of the tokens' columns. -/
def colAngles : FVec Ideal S2048x32 .f32 :=
  mulf (broadcastInDim S2048x32 ![0, 1] bcast_S2048x1_S2048x32_0_1 (broadcastInDim S2048x1 ![0] bcast_S2048_S2048x1_0
      (shapeCast S2048 (broadcastInDim S32x64 ![0, 1] bcast_S1x64_S32x64_0_1 (shapeCast S1x64 (sitofp (F := Ideal) .f32 (iotaInDim S64 32 0)) shapeCasts_S64_S1x64)) shapeCasts_S32x64_S2048)))
    (broadcastInDim S2048x32 ![0, 1] bcast_S1x32_S2048x32_0_1 (broadcastInDim S1x32 ![1] bcast_S32_S1x32_1 powers))

theorem powers_apply (j : Fin 32) : powers (ix1 j) = freq j.val := by
  pointwise [powers]
  rw [ofBits_10000, ofBits_32, sitofp_nat _ (by have := j.isLt; omega)]
  rfl

theorem rowAngles_apply (s : Fin 2048) (j : Fin 32) : rowAngles (ix2 s j) = (((s.val / 64 : ℕ) : ℝ) : EReal) * freq j.val := by
  rw [← powers_apply]
  pointwise [rowAngles]
  rw [sitofp_nat _ (by have := s.isLt; omega)]
theorem colAngles_apply (s : Fin 2048) (j : Fin 32) : colAngles (ix2 s j) = (((s.val % 64 : ℕ) : ℝ) : EReal) * freq j.val := by
  rw [← powers_apply]
  pointwise [colAngles]
  rw [sitofp_nat _ (by have := s.isLt; omega)]

variable (m : (ℓ : Loc nD τ sig) → Buf (Elt Ideal) ℓ) (ρ : Dev nD → PrngReg)

/-- The table of cosines. -/
theorem V_v27 (c : Dev nD) (s : Fin 2048) (l : Fin 128) : V m c main_v27 (ix2 s l) = Ideal.cos (angle s.val l.val) := by
  have h : V m c main_v27 = concatenate S2048x128 1 [⟨S2048x32, Host.cos rowAngles⟩, ⟨S2048x32, Host.cos rowAngles⟩, ⟨S2048x32, Host.cos colAngles⟩, ⟨S2048x32, Host.cos colAngles⟩]
      concatenates_S2048x32_S2048x32_S2048x32_S2048x32_S2048x128_d1 := by
    show StableHlo.after hostOps0 (fun b => m (c, b)) (Proc.devRef .tc main_v27) = _
    after_results
    rfl
  rw [h]
  have hl := l.isLt
  pointwise
  by_cases h0 : l.val < 32
  · rw [dif_pos h0, rowAngles_apply]; unfold angle; rw [if_pos (show l.val < 64 by omega), show l.val % 32 = l.val by omega]
  rw [dif_neg h0]
  by_cases h1 : l.val - 32 < 32
  · rw [dif_pos h1, rowAngles_apply]; unfold angle; rw [if_pos (show l.val < 64 by omega), show l.val % 32 = l.val - 32 by omega]
  rw [dif_neg h1]
  by_cases h2 : l.val - 32 - 32 < 32
  · rw [dif_pos h2, colAngles_apply]; unfold angle; rw [if_neg (show ¬ l.val < 64 by omega), show l.val % 32 = l.val - 32 - 32 by omega]
  rw [dif_neg h2, colAngles_apply]; unfold angle; rw [if_neg (show ¬ l.val < 64 by omega), show l.val % 32 = l.val - 32 - 32 - 32 by omega]
/-- The table of signed sines. -/
theorem V_v34 (c : Dev nD) (s : Fin 2048) (l : Fin 128) :
    V m c main_v34 (ix2 s l) = if l.val % 64 < 32 then -Ideal.sin (angle s.val l.val) else Ideal.sin (angle s.val l.val) := by
  have h : V m c main_v34 = concatenate S2048x128 1 [⟨S2048x32, Host.negf (Host.sin rowAngles)⟩, ⟨S2048x32, Host.sin rowAngles⟩, ⟨S2048x32, Host.negf (Host.sin colAngles)⟩, ⟨S2048x32, Host.sin colAngles⟩]
      concatenates_S2048x32_S2048x32_S2048x32_S2048x32_S2048x128_d1 := by
    show StableHlo.after hostOps0 (fun b => m (c, b)) (Proc.devRef .tc main_v34) = _
    after_results
    rfl
  rw [h]
  have hl := l.isLt
  by_cases hs : l.val % 64 < 32
  · rw [if_pos hs]
    pointwise
    by_cases h0 : l.val < 32
    · rw [dif_pos h0, rowAngles_apply]; unfold angle; rw [if_pos (show l.val < 64 by omega), show l.val % 32 = l.val by omega]
    rw [dif_neg h0]
    by_cases h1 : l.val - 32 < 32
    · exfalso; omega
    rw [dif_neg h1]
    by_cases h2 : l.val - 32 - 32 < 32
    · rw [dif_pos h2, colAngles_apply]; unfold angle; rw [if_neg (show ¬ l.val < 64 by omega), show l.val % 32 = l.val - 32 - 32 by omega]
    · exfalso; omega
  · rw [if_neg hs]
    pointwise
    by_cases h0 : l.val < 32
    · exfalso; omega
    rw [dif_neg h0]
    by_cases h1 : l.val - 32 < 32
    · rw [dif_pos h1, rowAngles_apply]; unfold angle; rw [if_pos (show l.val < 64 by omega), show l.val % 32 = l.val - 32 by omega]
    rw [dif_neg h1]
    by_cases h2 : l.val - 32 - 32 < 32
    · exfalso; omega
    rw [dif_neg h2, colAngles_apply]; unfold angle; rw [if_neg (show ¬ l.val < 64 by omega), show l.val % 32 = l.val - 32 - 32 - 32 by omega]
/-- The table of sinks. -/
theorem V_v36 (c : Dev nD) (h : Fin 8) (l : Fin 128) : V m c main_v36 (ix2 h l) = m ((c : Thread nD τ).loc main_arg2) (ix1 h) := by
  have h : V m c main_v36 = broadcastInDim S8x128 ![0, 1] bcast_S8x1_S8x128_0_1 (broadcastInDim S8x1 ![0] bcast_S8_S8x1_0 (m ((c : Thread nD τ).loc main_arg2))) := by
    show StableHlo.after hostOps0 (fun b => m (c, b)) (Proc.devRef .tc main_v36) = _
    after_results
  rw [h]
  pointwise
theorem index0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem index1 : ∀ t : Fin cfg0.N, win0_1.index t 0 = t.val / 16 ∧ win0_1.index t 1 = t.val % 16 - 1 ∧ win0_1.index t 2 = 16 :=
  (by decide +kernel : ∀ t : Fin grid0.N, win0_1.index t 0 = t.val / 16 ∧ win0_1.index t 1 = t.val % 16 - 1 ∧ win0_1.index t 2 = 16)
theorem index2 : ∀ t : Fin cfg0.N, win0_2.index t 0 = t.val / 16 ∧ win0_2.index t 1 = t.val % 16 ∧ win0_2.index t 2 = 16 :=
  (by decide +kernel : ∀ t : Fin grid0.N, win0_2.index t 0 = t.val / 16 ∧ win0_2.index t 1 = t.val % 16 ∧ win0_2.index t 2 = 16)
theorem index3 : ∀ t : Fin cfg0.N, win0_3.index t 0 = t.val / 16 ∧ win0_3.index t 1 = min (t.val % 16 + 1) 15 ∧ win0_3.index t 2 = 16 :=
  (by decide +kernel : ∀ t : Fin grid0.N, win0_3.index t 0 = t.val / 16 ∧ win0_3.index t 1 = min (t.val % 16 + 1) 15 ∧ win0_3.index t 2 = 16)
theorem index4 : ∀ t : Fin cfg0.N, win0_4.index t 0 = t.val / 16 ∧ win0_4.index t 1 = t.val % 16 - 1 ∧ win0_4.index t 2 = 17 :=
  (by decide +kernel : ∀ t : Fin grid0.N, win0_4.index t 0 = t.val / 16 ∧ win0_4.index t 1 = t.val % 16 - 1 ∧ win0_4.index t 2 = 17)
theorem index5 : ∀ t : Fin cfg0.N, win0_5.index t 0 = t.val / 16 ∧ win0_5.index t 1 = t.val % 16 ∧ win0_5.index t 2 = 17 :=
  (by decide +kernel : ∀ t : Fin grid0.N, win0_5.index t 0 = t.val / 16 ∧ win0_5.index t 1 = t.val % 16 ∧ win0_5.index t 2 = 17)
theorem index6 : ∀ t : Fin cfg0.N, win0_6.index t 0 = t.val / 16 ∧ win0_6.index t 1 = min (t.val % 16 + 1) 15 ∧ win0_6.index t 2 = 17 :=
  (by decide +kernel : ∀ t : Fin grid0.N, win0_6.index t 0 = t.val / 16 ∧ win0_6.index t 1 = min (t.val % 16 + 1) 15 ∧ win0_6.index t 2 = 17)
theorem index7 : ∀ t : Fin cfg0.N, win0_7.index t 0 = t.val / 16 ∧ win0_7.index t 1 = 0 ∧ win0_7.index t 2 = 16 :=
  (by decide +kernel : ∀ t : Fin grid0.N, win0_7.index t 0 = t.val / 16 ∧ win0_7.index t 1 = 0 ∧ win0_7.index t 2 = 16)
theorem index8 : ∀ t : Fin cfg0.N, win0_8.index t 0 = t.val / 16 ∧ win0_8.index t 1 = 0 ∧ win0_8.index t 2 = 17 :=
  (by decide +kernel : ∀ t : Fin grid0.N, win0_8.index t 0 = t.val / 16 ∧ win0_8.index t 1 = 0 ∧ win0_8.index t 2 = 17)
theorem index12 : ∀ t : Fin cfg0.N, win0_12.index t 0 = t.val / 16 ∧ win0_12.index t 1 = t.val % 16 ∧ win0_12.index t 2 = 0 :=
  (by decide +kernel : ∀ t : Fin grid0.N, win0_12.index t 0 = t.val / 16 ∧ win0_12.index t 1 = t.val % 16 ∧ win0_12.index t 2 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)
theorem coord1 : ∀ t : Fin cfg0.N, (grid0.coords t 1).val = t.val % 16 :=
  (by decide +kernel : ∀ t : Fin grid0.N, (grid0.coords t 1).val = t.val % 16)
theorem lt_N (t : Fin cfg0.N) : t.val < 128 := lt_of_lt_of_eq t.isLt N_0

/-- The projections of the tokens, at natural coordinates. -/
def tokens (c : Dev nD) : ℕ → ℕ → ℕ → EReal := at3 (n0 := 8) (n1 := 2048) (n2 := 4608) (m ((c : Thread nD τ).loc main_arg0))
/-- The projections of the context, at natural coordinates. -/
def context (c : Dev nD) : ℕ → ℕ → ℕ → EReal := at3 (n0 := 8) (n1 := 256) (n2 := 4608) (m ((c : Thread nD τ).loc main_arg1))
/-- The sinks, at natural coordinates. -/
def sinks (c : Dev nD) : ℕ → EReal := at1 (n0 := 8) (m ((c : Thread nD τ).loc main_arg2))

/-- Reading the tokens at an index whose coordinates are known. -/
theorem tokens_at (c : Dev nD) (j : S8x2048x4608.Idx) (a b d : ℕ) (h0 : (j 0).val = a) (h1 : (j 1).val = b) (h2 : (j 2).val = d) :
    m ((c : Thread nD τ).loc main_arg0) j = tokens m c a b d := by
  subst h0 h1 h2
  exact (congrArg _ (eq_ix3 j)).trans (at3_ix _ _ _ _)
/-- Reading the context at an index whose coordinates are known. -/
theorem context_at (c : Dev nD) (j : S8x256x4608.Idx) (a b d : ℕ) (h0 : (j 0).val = a) (h1 : (j 1).val = b) (h2 : (j 2).val = d) :
    m ((c : Thread nD τ).loc main_arg1) j = context m c a b d := by
  subst h0 h1 h2
  exact (congrArg _ (eq_ix3 j)).trans (at3_ix _ _ _ _)

/-- The queries' block at point `t`. -/
theorem blk0 (c : Dev nD) (t : Fin cfg0.N) (r : Fin 128) (n : Fin 1024) :
    X0_0 m c t (ix3 0 r n) = tokens m c (t.val / 16) (t.val % 16 * 128 + r.val) n.val := by
  unfold X0_0 Pipeline.Window.fill
  rw [dif_pos (moved0_0 t (ix3 0 r n))]
  show V m c main_arg0 ((win0_0.rect t).emb _) = _
  rw [V_main_arg0 m c]
  obtain ⟨e0, e1, e2⟩ := index0 t
  refine tokens_at m c _ _ _ _ ?_ ?_ ?_
  · refine (Pipeline.Window.rect_emb_val win0_0 t _ 0).trans ?_; rw [e0]; show _ * 1 + 0 = t.val / 16; omega
  · refine (Pipeline.Window.rect_emb_val win0_0 t _ 1).trans ?_; rw [e1]; rfl
  · refine (Pipeline.Window.rect_emb_val win0_0 t _ 2).trans ?_; rw [e2]; show 0 * _ + n.val = n.val; omega
theorem blk1 (c : Dev nD) (t : Fin cfg0.N) (h : 0 < t.val % 16) (r : Fin 128) (n : Fin 256) :
    iblk m c 1 t (ix3 0 r n) = tokens m c (t.val / 16) ((t.val % 16 - 1) * 128 + r.val) (4096 + n.val) := by
  show V m c main_arg0 ((win0_1.rect t).emb _) = _
  rw [V_main_arg0 m c]
  obtain ⟨e0, e1, e2⟩ := index1 t
  refine tokens_at m c _ _ _ _ ?_ ?_ ?_
  · refine (Pipeline.Window.rect_emb_val win0_1 t _ 0).trans ?_; rw [e0]; show _ * 1 + 0 = t.val / 16; omega
  · refine (Pipeline.Window.rect_emb_val win0_1 t _ 1).trans ?_; rw [e1]; rfl
  · refine (Pipeline.Window.rect_emb_val win0_1 t _ 2).trans ?_; rw [e2]; rfl
theorem blk2 (c : Dev nD) (t : Fin cfg0.N) (r : Fin 128) (n : Fin 256) :
    iblk m c 2 t (ix3 0 r n) = tokens m c (t.val / 16) (t.val % 16 * 128 + r.val) (4096 + n.val) := by
  show V m c main_arg0 ((win0_2.rect t).emb _) = _
  rw [V_main_arg0 m c]
  obtain ⟨e0, e1, e2⟩ := index2 t
  refine tokens_at m c _ _ _ _ ?_ ?_ ?_
  · refine (Pipeline.Window.rect_emb_val win0_2 t _ 0).trans ?_; rw [e0]; show _ * 1 + 0 = t.val / 16; omega
  · refine (Pipeline.Window.rect_emb_val win0_2 t _ 1).trans ?_; rw [e1]; rfl
  · refine (Pipeline.Window.rect_emb_val win0_2 t _ 2).trans ?_; rw [e2]; rfl
theorem blk3 (c : Dev nD) (t : Fin cfg0.N) (h : t.val % 16 < 15) (r : Fin 128) (n : Fin 256) :
    iblk m c 3 t (ix3 0 r n) = tokens m c (t.val / 16) ((t.val % 16 + 1) * 128 + r.val) (4096 + n.val) := by
  show V m c main_arg0 ((win0_3.rect t).emb _) = _
  rw [V_main_arg0 m c]
  obtain ⟨e0, e1, e2⟩ := index3 t
  refine tokens_at m c _ _ _ _ ?_ ?_ ?_
  · refine (Pipeline.Window.rect_emb_val win0_3 t _ 0).trans ?_; rw [e0]; show _ * 1 + 0 = t.val / 16; omega
  · refine (Pipeline.Window.rect_emb_val win0_3 t _ 1).trans ?_; rw [e1]; rw [show min (t.val % 16 + 1) 15 = t.val % 16 + 1 by omega]; rfl
  · refine (Pipeline.Window.rect_emb_val win0_3 t _ 2).trans ?_; rw [e2]; rfl
theorem blk4 (c : Dev nD) (t : Fin cfg0.N) (h : 0 < t.val % 16) (r : Fin 128) (n : Fin 256) :
    iblk m c 4 t (ix3 0 r n) = tokens m c (t.val / 16) ((t.val % 16 - 1) * 128 + r.val) (4352 + n.val) := by
  show V m c main_arg0 ((win0_4.rect t).emb _) = _
  rw [V_main_arg0 m c]
  obtain ⟨e0, e1, e2⟩ := index4 t
  refine tokens_at m c _ _ _ _ ?_ ?_ ?_
  · refine (Pipeline.Window.rect_emb_val win0_4 t _ 0).trans ?_; rw [e0]; show _ * 1 + 0 = t.val / 16; omega
  · refine (Pipeline.Window.rect_emb_val win0_4 t _ 1).trans ?_; rw [e1]; rfl
  · refine (Pipeline.Window.rect_emb_val win0_4 t _ 2).trans ?_; rw [e2]; rfl
theorem blk5 (c : Dev nD) (t : Fin cfg0.N) (r : Fin 128) (n : Fin 256) :
    iblk m c 5 t (ix3 0 r n) = tokens m c (t.val / 16) (t.val % 16 * 128 + r.val) (4352 + n.val) := by
  show V m c main_arg0 ((win0_5.rect t).emb _) = _
  rw [V_main_arg0 m c]
  obtain ⟨e0, e1, e2⟩ := index5 t
  refine tokens_at m c _ _ _ _ ?_ ?_ ?_
  · refine (Pipeline.Window.rect_emb_val win0_5 t _ 0).trans ?_; rw [e0]; show _ * 1 + 0 = t.val / 16; omega
  · refine (Pipeline.Window.rect_emb_val win0_5 t _ 1).trans ?_; rw [e1]; rfl
  · refine (Pipeline.Window.rect_emb_val win0_5 t _ 2).trans ?_; rw [e2]; rfl
theorem blk6 (c : Dev nD) (t : Fin cfg0.N) (h : t.val % 16 < 15) (r : Fin 128) (n : Fin 256) :
    iblk m c 6 t (ix3 0 r n) = tokens m c (t.val / 16) ((t.val % 16 + 1) * 128 + r.val) (4352 + n.val) := by
  show V m c main_arg0 ((win0_6.rect t).emb _) = _
  rw [V_main_arg0 m c]
  obtain ⟨e0, e1, e2⟩ := index6 t
  refine tokens_at m c _ _ _ _ ?_ ?_ ?_
  · refine (Pipeline.Window.rect_emb_val win0_6 t _ 0).trans ?_; rw [e0]; show _ * 1 + 0 = t.val / 16; omega
  · refine (Pipeline.Window.rect_emb_val win0_6 t _ 1).trans ?_; rw [e1]; rw [show min (t.val % 16 + 1) 15 = t.val % 16 + 1 by omega]; rfl
  · refine (Pipeline.Window.rect_emb_val win0_6 t _ 2).trans ?_; rw [e2]; rfl
theorem blk7 (c : Dev nD) (t : Fin cfg0.N) (r : Fin 256) (n : Fin 256) :
    iblk m c 7 t (ix3 0 r n) = context m c (t.val / 16) (r.val) (4096 + n.val) := by
  show V m c main_arg1 ((win0_7.rect t).emb _) = _
  rw [V_main_arg1 m c]
  obtain ⟨e0, e1, e2⟩ := index7 t
  refine context_at m c _ _ _ _ ?_ ?_ ?_
  · refine (Pipeline.Window.rect_emb_val win0_7 t _ 0).trans ?_; rw [e0]; show _ * 1 + 0 = t.val / 16; omega
  · refine (Pipeline.Window.rect_emb_val win0_7 t _ 1).trans ?_; rw [e1]; show 0 * _ + r.val = r.val; omega
  · refine (Pipeline.Window.rect_emb_val win0_7 t _ 2).trans ?_; rw [e2]; rfl
theorem blk8 (c : Dev nD) (t : Fin cfg0.N) (r : Fin 256) (n : Fin 256) :
    iblk m c 8 t (ix3 0 r n) = context m c (t.val / 16) (r.val) (4352 + n.val) := by
  show V m c main_arg1 ((win0_8.rect t).emb _) = _
  rw [V_main_arg1 m c]
  obtain ⟨e0, e1, e2⟩ := index8 t
  refine context_at m c _ _ _ _ ?_ ?_ ?_
  · refine (Pipeline.Window.rect_emb_val win0_8 t _ 0).trans ?_; rw [e0]; show _ * 1 + 0 = t.val / 16; omega
  · refine (Pipeline.Window.rect_emb_val win0_8 t _ 1).trans ?_; rw [e1]; show 0 * _ + r.val = r.val; omega
  · refine (Pipeline.Window.rect_emb_val win0_8 t _ 2).trans ?_; rw [e2]; rfl
theorem blk9 (c : Dev nD) (t : Fin cfg0.N) (s : Fin 2048) (l : Fin 128) : iblk m c 9 t (ix2 s l) = V m c main_v27 (ix2 s l) := by
  show V m c main_v27 ((win0_9.rect t).emb (ix2 s l)) = _
  refine congrArg _ (funext fun a => Fin.ext ?_)
  obtain ⟨e0, e1⟩ := index9 t
  match a with
  | ⟨0, _⟩ => refine (Pipeline.Window.rect_emb_val win0_9 t (ix2 s l) 0).trans ?_; rw [e0]; show 0 * _ + s.val = s.val; omega
  | ⟨1, _⟩ => refine (Pipeline.Window.rect_emb_val win0_9 t (ix2 s l) 1).trans ?_; rw [e1]; show 0 * _ + l.val = l.val; omega
theorem blk10 (c : Dev nD) (t : Fin cfg0.N) (s : Fin 2048) (l : Fin 128) : iblk m c 10 t (ix2 s l) = V m c main_v34 (ix2 s l) := by
  show V m c main_v34 ((win0_10.rect t).emb (ix2 s l)) = _
  refine congrArg _ (funext fun a => Fin.ext ?_)
  obtain ⟨e0, e1⟩ := index10 t
  match a with
  | ⟨0, _⟩ => refine (Pipeline.Window.rect_emb_val win0_10 t (ix2 s l) 0).trans ?_; rw [e0]; show 0 * _ + s.val = s.val; omega
  | ⟨1, _⟩ => refine (Pipeline.Window.rect_emb_val win0_10 t (ix2 s l) 1).trans ?_; rw [e1]; show 0 * _ + l.val = l.val; omega
theorem blk11 (c : Dev nD) (t : Fin cfg0.N) (s : Fin 8) (l : Fin 128) : iblk m c 11 t (ix2 s l) = V m c main_v36 (ix2 s l) := by
  show V m c main_v36 ((win0_11.rect t).emb (ix2 s l)) = _
  refine congrArg _ (funext fun a => Fin.ext ?_)
  obtain ⟨e0, e1⟩ := index11 t
  match a with
  | ⟨0, _⟩ => refine (Pipeline.Window.rect_emb_val win0_11 t (ix2 s l) 0).trans ?_; rw [e0]; show 0 * _ + s.val = s.val; omega
  | ⟨1, _⟩ => refine (Pipeline.Window.rect_emb_val win0_11 t (ix2 s l) 1).trans ?_; rw [e1]; show 0 * _ + l.val = l.val; omega

/-- The attention of all tokens, index by index. -/
def attention (p : FVec Ideal S8x2048x4608 .f32) (pc : FVec Ideal S8x256x4608 .f32) (sink : FVec Ideal S8 .f32) : FVec Ideal S8x2048x1024 .bf16 :=
  fun i => attn (at3 p) (at3 pc) (at1 sink) (i 0).val (i 1).val (i 2).val

/-- What point `t` writes back is its block of the attention. -/
theorem flushed_eq (c : Dev nD) (t : Fin cfg0.N) : (dats m 0 c).flushed 12 t = (win0_12.blk t).view.read (Elt Ideal)
    (attention (m ((c : Thread nD τ).loc main_arg0)) (m ((c : Thread nD τ).loc main_arg1)) (m ((c : Thread nD τ).loc main_arg2))) := by
  rw [Value.flushed12_A]
  have hc := coord1 t
  have key := fun y => out_block (tokens m c) (context m c) (sinks m c) (t.val / 16) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t)
    (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (by rw [hc]; exact blk0 m c t) (by rw [hc]; exact blk1 m c t) (by rw [hc]; exact blk2 m c t) (by rw [hc]; exact blk3 m c t)
    (by rw [hc]; exact blk4 m c t) (by rw [hc]; exact blk5 m c t) (by rw [hc]; exact blk6 m c t) (blk7 m c t) (blk8 m c t)
    (fun s l => (blk9 m c t s l).trans (V_v27 m c s l)) (fun s l => (blk10 m c t s l).trans (V_v34 m c s l))
    (fun h => (blk11 m c t h 0).trans ((V_v36 m c h 0).trans (at1_ix _ _))) y
  rw [funext key]
  show (fun j : S1x128x1024.Idx => attn (tokens m c) (context m c) (sinks m c) (t.val / 16) ((grid0.coords t 1).val * 128 + (j 1).val) (j 2).val) = fun j : S1x128x1024.Idx =>
    attention (m ((c : Thread nD τ).loc main_arg0)) (m ((c : Thread nD τ).loc main_arg1)) (m ((c : Thread nD τ).loc main_arg2)) ((win0_12.rect t).emb j)
  funext j
  obtain ⟨u, r, n, rfl⟩ : ∃ u r n, j = ix3 (n0 := 1) (n1 := 128) (n2 := 1024) u r n := ⟨_, _, _, eq_ix3 j⟩
  obtain ⟨e0, e1, e2⟩ := index12 t
  have f0 : ((win0_12.rect t).emb (ix3 u r n) 0).val = t.val / 16 := by
    refine (Pipeline.Window.rect_emb_val win0_12 t (ix3 u r n) 0).trans ?_; rw [e0]; show _ * 1 + u.val = t.val / 16; omega
  have f1 : ((win0_12.rect t).emb (ix3 u r n) 1).val = t.val % 16 * 128 + r.val := by
    refine (Pipeline.Window.rect_emb_val win0_12 t (ix3 u r n) 1).trans ?_; rw [e1]; rfl
  have f2 : ((win0_12.rect t).emb (ix3 u r n) 2).val = n.val := by
    refine (Pipeline.Window.rect_emb_val win0_12 t (ix3 u r n) 2).trans ?_; rw [e2]; show 0 * _ + n.val = n.val; omega
  rw [hc]
  unfold attention
  rw [f0, f1, f2]
  rfl

/-- An index of the result lies in point `t`'s block when its coordinates lie in the ranges. -/
theorem mem_blk (t : Fin cfg0.N) (i : S8x2048x1024.Idx) (h0 : (i 0 : Nat) = t.val / 16)
    (h1 : t.val % 16 * 128 ≤ (i 1 : Nat) ∧ (i 1 : Nat) < t.val % 16 * 128 + 128) :
    i ∈ ((cfg0.win 12).blk t).view.set := by
  show i ∈ ((View.whole main_v37).slice (win0_12.rect t)).set
  rw [View.set_slice_whole, Rect.mem_set_unit]
  have h2 : (i 2 : Nat) < 1024 := (i 2).isLt
  have k0 : ∀ q x y : ℕ, q = y → x = y → q * 1 ≤ x ∧ x < q * 1 + 1 := fun q x y hq hx => by omega
  have k1 : ∀ q x y : ℕ, q = y → y * 128 ≤ x ∧ x < y * 128 + 128 → q * 128 ≤ x ∧ x < q * 128 + 128 := fun q x y hq hx => by omega
  have k2 : ∀ q x : ℕ, q = 0 → x < 1024 → q * 1024 ≤ x ∧ x < q * 1024 + 1024 := fun q x hq hx => by omega
  obtain ⟨e0, e1, e2⟩ := index12 t
  intro a
  match a with
  | ⟨0, _⟩ => exact k0 _ _ _ e0 h0
  | ⟨1, _⟩ => exact k1 _ _ _ e1 h1
  | ⟨2, _⟩ => exact k2 _ _ e2 h2

/-- The blocks tile the result. -/
theorem cover (i : S8x2048x1024.Idx) : ∃ t : Fin cfg0.N, (cfg0.win 12).flush t = true ∧ i ∈ ((cfg0.win 12).blk t).view.set := by
  have h0 : (i 0 : Nat) < 8 := (i 0).isLt
  have h1 : (i 1 : Nat) < 2048 := (i 1).isLt
  have ht : (i 0 : Nat) * 16 + (i 1 : Nat) / 128 < cfg0.N := by have hN : cfg0.N = 128 := N_0; omega
  refine ⟨⟨(i 0 : Nat) * 16 + (i 1 : Nat) / 128, ht⟩, flush0_12 _, mem_blk _ i ?_ ?_⟩ <;> dsimp only <;> omega

/-- THE KERNEL'S RUN: it ends with the attention in its result and its arguments as they were. -/
theorem run : θ_run defs (onTc (τ := τ) (main (F := Ideal))) ⟨m, fun _ => 0, ρ⟩ fun r => ∀ c : Dev nD,
      r.2.mem ((c : Thread nD τ).loc main_v37) = attention (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans ((dats m 0 c).arrAt_eq_of_cover 12 _ (fun t _ => flushed_eq m c t) cover),
    (h c).2⟩) (Value.run_blocks m ρ)

end Cert.AttnIdeal.Val
-- ==== Proof.AttnRefParts.lean ====
module
public import proofs.«01_k».proof.Proof.Gen.AttnRefIdeal.Read
public import proofs.«01_k».proof.Proof.AttnMath
public import Idealize.ShloMosaic.Lib.Pointwise
public import Idealize.ShloMosaic.Lib.WordCmp

/-! # The reference's attention, step by step

Queries and keys rotated to their tokens' places, the neighbours' windows of keys and values, their mask and the scores, each read at
natural coordinates. -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- The projections of the tokens, at natural coordinates. -/
abbrev P : ℕ → ℕ → ℕ → EReal := at3 (n0 := 8) (n1 := 2048) (n2 := 4608) x0
/-- The projections of the context, at natural coordinates. -/
abbrev PC : ℕ → ℕ → ℕ → EReal := at3 (n0 := 8) (n1 := 256) (n2 := 4608) x1
/-- The sinks, at natural coordinates. -/
abbrev S : ℕ → EReal := at1 (n0 := 8) x2

theorem x0_ix (a : Fin 8) (b : Fin 2048) (c : Fin 4608) : x0 (ix3 a b c) = P x0 a.val b.val c.val := at3_ix (n0 := 8) (n1 := 2048) (n2 := 4608) x0 a b c
theorem x1_ix (a : Fin 8) (b : Fin 256) (c : Fin 4608) : x1 (ix3 a b c) = PC x1 a.val b.val c.val := at3_ix (n0 := 8) (n1 := 256) (n2 := 4608) x1 a b c
theorem x2_ix (a : Fin 8) : x2 (ix1 a) = S x2 a.val := at1_ix (n0 := 8) x2 a

/-- The angles of the tokens' rows. -/
theorem v17_apply (s : Fin 2048) (j : Fin 32) : (val_main_v17 (F := Ideal)) (ix2 s j) = (((s.val / 64 : ℕ) : ℝ) : EReal) * freq j.val := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0]
  rw [ofBits_10000, ofBits_32, sitofp_nat _ (by have := s.isLt; omega), sitofp_nat _ (by have := j.isLt; omega)]
  rfl
/-- The angles of the tokens' columns. -/
theorem v22_apply (s : Fin 2048) (j : Fin 32) : (val_main_v22 (F := Ideal)) (ix2 s j) = (((s.val % 64 : ℕ) : ℝ) : EReal) * freq j.val := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_cst, val_main_cst_0]
  rw [ofBits_10000, ofBits_32, sitofp_nat _ (by have := s.isLt; omega), sitofp_nat _ (by have := j.isLt; omega)]
  rfl

/-- The rotation written by quarters of the head: its first half turns by the row's angles, its second by the column's. -/
theorem rope_tree (x : ℕ → EReal) (s l : ℕ) (hl : l < 128) (c d : ℕ → EReal) (hc : ∀ j, c j = (((s / 64 : ℕ) : ℝ) : EReal) * freq j)
    (hd : ∀ j, d j = (((s % 64 : ℕ) : ℝ) : EReal) * freq j) :
    (if l < 64 then
      if l < 32 then x l * Ideal.cos (c l) - x (32 + l) * Ideal.sin (c l)
      else x (l - 32) * Ideal.sin (c (l - 32)) + x (32 + (l - 32)) * Ideal.cos (c (l - 32))
    else
      if l - 64 < 32 then x (64 + (l - 64)) * Ideal.cos (d (l - 64)) - x (64 + (32 + (l - 64))) * Ideal.sin (d (l - 64))
      else x (64 + (l - 64 - 32)) * Ideal.sin (d (l - 64 - 32)) + x (64 + (32 + (l - 64 - 32))) * Ideal.cos (d (l - 64 - 32)))
    = rope x s l := by
  unfold rope angle
  by_cases h1 : l < 64
  · rw [if_pos h1, if_pos h1]
    by_cases h2 : l < 32
    · rw [if_pos h2, if_pos (show l % 64 < 32 by omega), show l % 32 = l by omega, hc, mul_neg, sub_eq_add_neg, Nat.add_comm 32 l]
    · rw [if_neg h2, if_neg (show ¬ l % 64 < 32 by omega), show l % 32 = l - 32 by omega, hc, add_comm, show 32 + (l - 32) = l by omega]
  · rw [if_neg h1, if_neg h1]
    by_cases h2 : l - 64 < 32
    · rw [if_pos h2, if_pos (show l % 64 < 32 by omega), show l % 32 = l - 64 by omega, hd, mul_neg, sub_eq_add_neg,
        show 64 + (l - 64) = l by omega, show 64 + (32 + (l - 64)) = l + 32 by omega]
    · rw [if_neg h2, if_neg (show ¬ l % 64 < 32 by omega), show l % 32 = l - 64 - 32 by omega, hd, add_comm,
        show 64 + (32 + (l - 64 - 32)) = l by omega, show 64 + (l - 64 - 32) = l - 32 by omega]

/-- The rotated queries. -/
theorem v69_apply (b : Fin 8) (s : Fin 2048) (h : Fin 8) (l : Fin 128) :
    (val_main_v69 (F := Ideal)) x0 (ix4 b s h l) = rope (fun l => P x0 b s (h.val * 128 + l)) s l := by
  pointwise [val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69]
  simp only [x0_ix, v17_apply, v22_apply, dite_eq_ite]
  exact rope_tree (fun l => P x0 b s (h.val * 128 + l)) s l l.isLt _ _ (fun _ => rfl) (fun _ => rfl)

/-- Key head `h`'s rotated keys, at natural coordinates. -/
def key (b s h l : ℕ) : EReal := rope (fun l => P x0 b s (4096 + h * 128 + l)) s l
/-- The rotated keys. -/
theorem v116_apply (b : Fin 8) (s : Fin 2048) (h : Fin 2) (l : Fin 128) :
    (val_main_v116 (F := Ideal)) x0 (ix4 b s h l) = key x0 b s h l := by
  pointwise [val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116]
  simp only [x0_ix, v17_apply, v22_apply, dite_eq_ite]
  refine (rope_tree (fun l => P x0 b s (4096 + (h.val * 128 + l))) s l l.isLt _ _ (fun _ => rfl) (fun _ => rfl)).trans ?_
  unfold key
  simp only [Nat.add_assoc]
/-- The values. -/
theorem v118_apply (b : Fin 8) (s : Fin 2048) (h : Fin 2) (l : Fin 128) :
    (val_main_v118 (F := Ideal)) x0 (ix4 b s h l) = P x0 b s (4352 + h.val * 128 + l) := by
  pointwise [val_main_v117, val_main_v118]
  rw [x0_ix x0, Nat.add_assoc]
/-- The context's keys. -/
theorem v120_apply (b : Fin 8) (s : Fin 256) (h : Fin 2) (l : Fin 128) :
    (val_main_v120 (F := Ideal)) x1 (ix4 b s h l) = PC x1 b s (4096 + h.val * 128 + l) := by
  pointwise [val_main_v119, val_main_v120]
  rw [x1_ix x1, Nat.add_assoc]
/-- The context's values. -/
theorem v122_apply (b : Fin 8) (s : Fin 256) (h : Fin 2) (l : Fin 128) :
    (val_main_v122 (F := Ideal)) x1 (ix4 b s h l) = PC x1 b s (4352 + h.val * 128 + l) := by
  pointwise [val_main_v121, val_main_v122]
  rw [x1_ix x1, Nat.add_assoc]
/-- The queries by blocks and key heads. -/
theorem v125_apply (b : Fin 8) (n : Fin 16) (r : Fin 128) (h : Fin 2) (g : Fin 4) (l : Fin 128) :
    (val_main_v125 (F := Ideal)) x0 (ix6 b n r h g l) = rope (fun l => P x0 b (n.val * 128 + r.val) ((h.val * 4 + g.val) * 128 + l)) (n.val * 128 + r.val) l := by
  pointwise [val_main_v125]
  rw [v69_apply]

end Cert.AttnRefIdeal.Val
end
-- ==== Proof.AttnRefKeys.lean ====
module
public import proofs.«01_k».proof.Proof.Gen.AttnRefIdeal.Read
public import proofs.«01_k».proof.Proof.AttnRefParts
public import Idealize.ShloMosaic.Lib.Pointwise
public import Idealize.ShloMosaic.Lib.WordCmp

/-! # The reference's windows of keys -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- The keys between two blocks of zeros, by blocks. -/
theorem v128_apply (b : Fin 8) (n : Fin 18) (r : Fin 128) (h : Fin 2) (l : Fin 128) : (val_main_v128 (F := Ideal)) x0 (ix5 b n r h l)
    = if 128 ≤ n.val * 128 + r.val ∧ n.val * 128 + r.val < 2176 then key x0 b (n.val * 128 + r.val - 128) h l else 0 := by
  pointwise [val_main_v126, val_main_v127, val_main_v128, val_main_cst_3]
  simp only [v116_apply, dite_eq_ite]
  split_ifs <;> first | (exfalso; omega) | rfl
/-- A block's window of keys. -/
theorem v132_apply (b : Fin 8) (n : Fin 16) (k : Fin 384) (h : Fin 2) (l : Fin 128) : (val_main_v132 (F := Ideal)) x0 (ix5 b n k h l)
    = if 128 ≤ n.val * 128 + k.val ∧ n.val * 128 + k.val < 2176 then key x0 b (n.val * 128 + k.val - 128) h l else 0 := by
  pointwise [val_main_v129, val_main_v130, val_main_v131, val_main_v132]
  simp only [v128_apply, dite_eq_ite]
  by_cases h1 : k.val < 128
  · rw [if_pos h1]
  rw [if_neg h1]
  by_cases h2 : k.val - 128 < 128
  · rw [if_pos h2, show (1 + n.val) * 128 + (k.val - 128) = n.val * 128 + k.val by omega]
  · rw [if_neg h2, show (2 + n.val) * 128 + (k.val - 128 - 128) = n.val * 128 + k.val by omega]

end Cert.AttnRefIdeal.Val
end
-- ==== Proof.AttnRefMask.lean ====
module
public import proofs.«01_k».proof.Proof.Gen.AttnRefIdeal.Read
public import proofs.«01_k».proof.Proof.AttnMath
public import Idealize.ShloMosaic.Lib.Pointwise
public import Idealize.ShloMosaic.Lib.WordCmp

/-! # The reference's mask -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- The key is at most 128 tokens from the query. -/
theorem near : ∀ (k : Fin 384) (r : Fin 128),
    IntOp.cmpi .sle (IntOp.absi (IntOp.subi (IntOp.subi (BitVec.ofNat 32 k.val) 128#32) (BitVec.ofNat 32 r.val))) 128#32
      = BitVec.ofBool (decide (r.val ≤ k.val ∧ k.val ≤ r.val + 256)) := by decide +kernel
/-- The key is not before the first token. -/
theorem notBefore : ∀ (n : Fin 16) (k : Fin 384),
    IntOp.cmpi .sge (IntOp.addi (IntOp.subi (IntOp.muli (BitVec.ofNat 32 n.val) 128#32) 128#32) (BitVec.ofNat 32 k.val)) 0#32
      = BitVec.ofBool (decide (128 ≤ n.val * 128 + k.val)) := by decide +kernel
/-- The key is not past the last token. -/
theorem notPast : ∀ (n : Fin 16) (k : Fin 384),
    IntOp.cmpi .slt (IntOp.addi (IntOp.subi (IntOp.muli (BitVec.ofNat 32 n.val) 128#32) 128#32) (BitVec.ofNat 32 k.val)) 2048#32
      = BitVec.ofBool (decide (n.val * 128 + k.val < 2176)) := by decide +kernel
theorem ofBool_and (a b : Bool) : IntOp.andi (BitVec.ofBool a) (BitVec.ofBool b) = BitVec.ofBool (a && b) := by revert a b; decide

/-- The mask: which keys of the window the token attends to. -/
theorem v175_apply (n : Fin 16) (r : Fin 128) (k : Fin 384) :
    (val_main_v175 (F := Ideal)) (ix3 n r k) = BitVec.ofBool (decide (Valid (n.val * 128 + r.val) k.val)) := by
  pointwise [val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_c, val_main_c_5, val_main_c_6, val_main_c_7, val_main_c_8, val_main_c_9]
  rw [near, notBefore, notPast, ofBool_and, ofBool_and]
  refine congrArg _ ?_
  have hr := r.isLt
  rw [Bool.eq_iff_iff]
  simp only [Bool.and_eq_true, decide_eq_true_eq]
  unfold Valid
  omega

end Cert.AttnRefIdeal.Val
end
-- ==== Proof.AttnRefScores.lean ====
module
public import proofs.«01_k».proof.Proof.Gen.AttnRefIdeal.Read
public import proofs.«01_k».proof.Proof.AttnRefParts
public import proofs.«01_k».proof.Proof.AttnRefKeys
public import proofs.«01_k».proof.Proof.AttnRefMask
public import Idealize.ShloMosaic.Lib.Pointwise
public import Idealize.ShloMosaic.Lib.WordCmp

/-! # The reference's scores -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- One over the root of the head's width is the score scale. -/
theorem v124_apply (i : S_.Idx) : (val_main_v124 (F := Ideal)) i = scale := by
  show Ideal.div (Ideal.ofBits .f32 0x3F800000#32) (Ideal.sqrt (Ideal.ofBits .f32 0x43000000#32)) = scale
  have h1 : (Ideal.ofBits .f32 0x3F800000#32 : EReal) = ((1 : ℝ) : EReal) := by
    simp [Ideal.ofBits, Ideal.ieee]
    try (rw [← EReal.coe_mul]; norm_num)
  have h2 : (Ideal.ofBits .f32 0x43000000#32 : EReal) = ((128 : ℝ) : EReal) := by
    simp [Ideal.ofBits, Ideal.ieee]
    rw [← EReal.coe_mul]; norm_num
  rw [h1, h2]
  rw [Ideal.sqrt_coe, if_neg (show ¬ (128 : ℝ) < 0 by norm_num), Ideal.div_coe (show Real.sqrt 128 ≠ 0 from (Real.sqrt_pos.mpr (by norm_num)).ne')]
  unfold scale
  rw [← EReal.coe_mul, one_mul, one_div]
theorem botBits : (Ideal.ofBits .f32 0xFF800000#32 : EReal) = ⊥ := by simp [Ideal.ofBits, Ideal.ieee]

/-- The scores of the neighbours. -/
theorem v179_apply (b : Fin 8) (n : Fin 16) (h : Fin 2) (g : Fin 4) (r : Fin 128) (k : Fin 384) :
    (val_main_v179 (F := Ideal)) x0 (ix6 b n h g r k) = score (P x0) (PC x1) b (n.val * 128 + r.val) (h.val * 4 + g.val) k := by
  have hr := r.isLt
  have hg := g.isLt
  pointwise [val_main_v140, val_main_v141, val_main_v142, val_main_v143, val_main_v176, val_main_v177, val_main_v178, val_main_v179, val_main_cst_10]
  rw [v175_apply, v124_apply]
  simp only [v132_apply, v125_apply]
  rw [WordCmp.select_ofBool, botBits]
  unfold score
  rw [if_pos k.isLt]
  by_cases hv : Valid (n.val * 128 + r.val) k.val
  · have hw := hv
    unfold Valid at hw
    have hx : 128 ≤ n.val * 128 + k.val ∧ n.val * 128 + k.val < 2176 := by omega
    simp only [if_pos hx]
    rw [if_pos (decide_eq_true hv), if_pos hv,
      show (n.val * 128 + r.val) / 128 * 128 = n.val * 128 by omega, show (h.val * 4 + g.val) / 4 = h.val by omega]
    refine congrArg (fun x : EReal => x * scale) (sum_fin 128 _ _ fun l => ?_)
    exact mul_comm _ _
  · rw [if_neg hv, if_neg (by simpa using hv)]

/-- The scores of the context. -/
theorem v183_apply (b : Fin 8) (n : Fin 16) (h : Fin 2) (g : Fin 4) (r : Fin 128) (k : Fin 256) :
    (val_main_v183 (F := Ideal)) x0 x1 (ix6 b n h g r k) = score (P x0) (PC x1) b (n.val * 128 + r.val) (h.val * 4 + g.val) (384 + k) := by
  have hg := g.isLt
  pointwise [val_main_v180, val_main_v181, val_main_v182, val_main_v183]
  rw [v124_apply]
  simp only [v120_apply, v125_apply]
  unfold score
  rw [if_neg (show ¬ 384 + k.val < 384 by omega), show (h.val * 4 + g.val) / 4 = h.val by omega, show 384 + k.val - 384 = k.val by omega]
  refine congrArg (fun x : EReal => x * scale) (sum_fin 128 _ _ fun l => ?_)
  exact mul_comm _ _

/-- The sink's score. -/
theorem v185_apply (b : Fin 8) (n : Fin 16) (h : Fin 2) (g : Fin 4) (r : Fin 128) (k : Fin 1) :
    (val_main_v185 (F := Ideal)) x2 (ix6 b n h g r k) = S x2 (h.val * 4 + g.val) := by
  pointwise [val_main_v184, val_main_v185]
  rw [x2_ix x2]

/-- All 641 scores, at natural coordinates: the neighbours', the context's and the sink's. -/
def logit (b s h j : ℕ) : EReal := if j < 640 then score (P x0) (PC x1) b s h j else S x2 h
/-- The 641 scores. -/
theorem v186_apply (b : Fin 8) (n : Fin 16) (h : Fin 2) (g : Fin 4) (r : Fin 128) (k : Fin 641) :
    (val_main_v186 (F := Ideal)) x0 x1 x2 (ix6 b n h g r k) = logit x0 x1 x2 b (n.val * 128 + r.val) (h.val * 4 + g.val) k := by
  have hk := k.isLt
  pointwise [val_main_v186]
  simp only [v179_apply x0 x1, v183_apply, v185_apply, dite_eq_ite]
  unfold logit
  by_cases h1 : k.val < 384
  · rw [if_pos h1, if_pos (show k.val < 640 by omega)]
  rw [if_neg h1]
  by_cases h2 : k.val - 384 < 256
  · rw [if_pos h2, if_pos (show k.val < 640 by omega), show 384 + (k.val - 384) = k.val by omega]
  · rw [if_neg h2, if_neg (show ¬ k.val < 640 by omega)]

end Cert.AttnRefIdeal.Val
end
-- ==== Proof.AttnRefMax.lean ====
module
public import proofs.«01_k».proof.Proof.Gen.AttnRefIdeal.Read
public import proofs.«01_k».proof.Proof.AttnRefScores
public import Idealize.ShloMosaic.Lib.Pointwise
public import Idealize.ShloMosaic.Lib.WordCmp

/-! # The largest score -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

open Cert.AttnRefIdeal.Gen

theorem zeroBits : (Ideal.ofBits .f32 0x00000000#32 : EReal) = 0 := by simp [Ideal.ofBits, Ideal.ieee]

theorem red : S8x16x2x4x128x641.Reduces [5] S8x16x2x4x128 := by decide
/-- The largest of 641 entries, from −∞. -/
theorem reduce_max (y : S8x16x2x4x128x641.Idx → Ideal .f32) (b : Fin 8) (n : Fin 16) (h : Fin 2) (g : Fin 4) (r : Fin 128) :
    Host.reduce FloatOps.maximumf y (val_main_cst_11 (F := Ideal)) reducesTo_S8x16x2x4x128x641_S8x16x2x4x128_d5 h_S_ (ix5 b n h g r)
      = (Finset.univ.fold max ⊥ fun k : Fin 641 => (y (ix6 b n h g r k) : EReal)) := by
  rw [Host.reduce_eq_fold_single (FloatOps.maximumf (F := Ideal) (φ := .f32)) y _ reducesTo_S8x16x2x4x128x641_S8x16x2x4x128_d5 red h_S_]
  have e : (y ∘ Shape.Reduces.lift red (ix5 b n h g r)) = fun k : Fin 641 => y (ix6 b n h g r k) := by
    funext k
    exact congrArg y (funext fun a => Fin.ext (by match a with | ⟨0, _⟩ => rfl | ⟨1, _⟩ => rfl | ⟨2, _⟩ => rfl | ⟨3, _⟩ => rfl | ⟨4, _⟩ => rfl | ⟨5, _⟩ => rfl))
  rw [e, val_main_cst_11_apply]
  show Finset.univ.fold max (Ideal.ofBits .f32 0xFF800000#32 : EReal) _ = _
  rw [botBits]
  rfl

/-- The largest of a token's scores and its sink. -/
theorem v189_apply (b : Fin 8) (n : Fin 16) (h : Fin 2) (g : Fin 4) (r : Fin 128) : (val_main_v189 (F := Ideal)) x0 x1 x2 (ix5 b n h g r)
    = smax (S x2 (h.val * 4 + g.val)) (score (P x0) (PC x1) b (n.val * 128 + r.val) (h.val * 4 + g.val)) := by
  have e : (val_main_v187 (F := Ideal)) x0 x1 x2 (ix5 b n h g r) = (Finset.range 641).sup (logit x0 x1 x2 b (n.val * 128 + r.val) (h.val * 4 + g.val)) := by
    unfold val_main_v187
    rw [reduce_max]
    exact fold_max 641 _ _ fun k => v186_apply x0 x1 x2 b n h g r k
  rw [val_main_v189_apply, val_main_v188_apply, val_main_cst_12_apply, e]
  show max (Ideal.ofBits .f32 0xFF800000#32 : EReal) _ = _
  rw [botBits]
  refine smax_eq _ _ _ (fun k hk => ?_) ?_
  · unfold logit; rw [if_pos hk]
  · unfold logit; rw [if_neg (by omega)]

end Cert.AttnRefIdeal.Val
end
-- ==== Proof.AttnRefWeights.lean ====
module
public import proofs.«01_k».proof.Proof.Gen.AttnRefIdeal.Read
public import proofs.«01_k».proof.Proof.AttnRefMax
public import Idealize.ShloMosaic.Lib.Pointwise
public import Idealize.ShloMosaic.Lib.WordCmp

/-! # The reference's weights -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

open Cert.AttnRefIdeal.Gen

/-- A weight before its division. -/
theorem v193_apply (b : Fin 8) (n : Fin 16) (h : Fin 2) (g : Fin 4) (r : Fin 128) (k : Fin 641) : (val_main_v193 (F := Ideal)) x0 x1 x2 (ix6 b n h g r k)
    = Ideal.exp (logit x0 x1 x2 b (n.val * 128 + r.val) (h.val * 4 + g.val) k
      - smax (S x2 (h.val * 4 + g.val)) (score (P x0) (PC x1) b (n.val * 128 + r.val) (h.val * 4 + g.val))) := by
  pointwise [val_main_v190, val_main_v191, val_main_v192, val_main_v193]
  rw [v186_apply, v189_apply]

/-- The weights' sum. -/
theorem v194_apply (b : Fin 8) (n : Fin 16) (h : Fin 2) (g : Fin 4) (r : Fin 128) : (val_main_v194 (F := Ideal)) x0 x1 x2 (ix5 b n h g r)
    = den (S x2 (h.val * 4 + g.val)) (score (P x0) (PC x1) b (n.val * 128 + r.val) (h.val * 4 + g.val)) := by
  rw [val_main_v194_apply]
  have e : ∀ k : Fin 641, idx_main_v194 (ix5 b n h g r) k = ix6 b n h g r k := fun k =>
    funext fun a => Fin.ext (by match a with | ⟨0, _⟩ => rfl | ⟨1, _⟩ => rfl | ⟨2, _⟩ => rfl | ⟨3, _⟩ => rfl | ⟨4, _⟩ => rfl | ⟨5, _⟩ => rfl)
  have e0 : (val_main_cst_13 (F := Ideal)) (Shape.Idx.first h_S_) = (0 : EReal) := zeroBits
  rw [e0]
  refine Eq.trans (congrArg (fun x : EReal => 0 + x) (sum_fin 641 _ _ fun k => ?_))
    (den_eq (S x2 (h.val * 4 + g.val)) (score (P x0) (PC x1) b (n.val * 128 + r.val) (h.val * 4 + g.val)) (logit x0 x1 x2 b (n.val * 128 + r.val) (h.val * 4 + g.val)) _ (fun k hk => ?_) ?_ rfl)
  · rw [e]; exact v193_apply x0 x1 x2 b n h g r k
  · unfold logit; rw [if_pos hk]
  · unfold logit; rw [if_neg (by omega)]

/-- A weight. -/
theorem v197_apply (b : Fin 8) (n : Fin 16) (h : Fin 2) (g : Fin 4) (r : Fin 128) (k : Fin 641) : (val_main_v197 (F := Ideal)) x0 x1 x2 (ix6 b n h g r k)
    = Ideal.div (Ideal.exp (logit x0 x1 x2 b (n.val * 128 + r.val) (h.val * 4 + g.val) k
      - smax (S x2 (h.val * 4 + g.val)) (score (P x0) (PC x1) b (n.val * 128 + r.val) (h.val * 4 + g.val))))
      (den (S x2 (h.val * 4 + g.val)) (score (P x0) (PC x1) b (n.val * 128 + r.val) (h.val * 4 + g.val))) := by
  pointwise [val_main_v195, val_main_v196, val_main_v197]
  rw [v193_apply, v194_apply]

end Cert.AttnRefIdeal.Val
end
-- ==== Proof.AttnRefValues.lean ====
module
public import proofs.«01_k».proof.Proof.Gen.AttnRefIdeal.Read
public import proofs.«01_k».proof.Proof.AttnRefParts
public import Idealize.ShloMosaic.Lib.Pointwise
public import Idealize.ShloMosaic.Lib.WordCmp

/-! # The reference's windows of values -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- The values between two blocks of zeros, by blocks. -/
theorem v135_apply (b : Fin 8) (n : Fin 18) (r : Fin 128) (h : Fin 2) (l : Fin 128) : (val_main_v135 (F := Ideal)) x0 (ix5 b n r h l)
    = if 128 ≤ n.val * 128 + r.val ∧ n.val * 128 + r.val < 2176 then P x0 b (n.val * 128 + r.val - 128) (4352 + h.val * 128 + l) else 0 := by
  pointwise [val_main_v133, val_main_v134, val_main_v135, val_main_cst_4]
  simp only [v118_apply, dite_eq_ite]
  split_ifs <;> first | (exfalso; omega) | rfl
/-- A block's window of values. -/
theorem v139_apply (b : Fin 8) (n : Fin 16) (k : Fin 384) (h : Fin 2) (l : Fin 128) : (val_main_v139 (F := Ideal)) x0 (ix5 b n k h l)
    = if 128 ≤ n.val * 128 + k.val ∧ n.val * 128 + k.val < 2176 then P x0 b (n.val * 128 + k.val - 128) (4352 + h.val * 128 + l) else 0 := by
  pointwise [val_main_v136, val_main_v137, val_main_v138, val_main_v139]
  simp only [v135_apply, dite_eq_ite]
  by_cases h1 : k.val < 128
  · rw [if_pos h1]
  rw [if_neg h1]
  by_cases h2 : k.val - 128 < 128
  · rw [if_pos h2, show (1 + n.val) * 128 + (k.val - 128) = n.val * 128 + k.val by omega]
  · rw [if_neg h2, show (2 + n.val) * 128 + (k.val - 128 - 128) = n.val * 128 + k.val by omega]

end Cert.AttnRefIdeal.Val
end
-- ==== Proof.AttnRefOut.lean ====
module
public import proofs.«01_k».proof.Proof.Gen.AttnRefIdeal.Read
public import proofs.«01_k».proof.Proof.AttnRefWeights
public import proofs.«01_k».proof.Proof.AttnRefValues
public import Idealize.ShloMosaic.Lib.Pointwise
public import Idealize.ShloMosaic.Lib.WordCmp

/-! # The reference's result -/

@[expose] public section
set_option maxRecDepth 16384
noncomputable section
open Idealize.ShloMosaic Idealize.ShloMosaic.TcCoe Idealize.SL.Sem
namespace Cert.AttnRefIdeal.Val
open Cert.AttnRefIdeal Cert.AttnRefIdeal.Read Cert.AttnMath
variable (x0 : (⟨S8x2048x4608, .f32⟩ : BufTy).Contents (Elt Ideal)) (x1 : (⟨S8x256x4608, .f32⟩ : BufTy).Contents (Elt Ideal)) (x2 : (⟨S8, .f32⟩ : BufTy).Contents (Elt Ideal))

/-- The values of a block's window and of the context, at natural coordinates. -/
def windowValue (b n h l k : ℕ) : EReal :=
  if k < 384 then if 128 ≤ n * 128 + k ∧ n * 128 + k < 2176 then P x0 b (n * 128 + k - 128) (4352 + h * 128 + l) else 0
  else PC x1 b (k - 384) (4352 + h * 128 + l)

/-- The neighbours' part of the result. -/
theorem v200_apply (b : Fin 8) (n : Fin 16) (r : Fin 128) (h : Fin 2) (g : Fin 4) (l : Fin 128) : (val_main_v200 (F := Ideal)) x0 x1 x2 (ix6 b n r h g l)
    = ∑ k ∈ Finset.range 384, windowValue x0 x1 b n h l k * Ideal.div (Ideal.exp (score (P x0) (PC x1) b (n.val * 128 + r.val) (h.val * 4 + g.val) k
      - smax (S x2 (h.val * 4 + g.val)) (score (P x0) (PC x1) b (n.val * 128 + r.val) (h.val * 4 + g.val))))
      (den (S x2 (h.val * 4 + g.val)) (score (P x0) (PC x1) b (n.val * 128 + r.val) (h.val * 4 + g.val))) := by
  pointwise [val_main_v198, val_main_v199, val_main_v200]
  refine sum_fin 384 _ _ fun k => ?_
  have hk := k.isLt
  rw [v139_apply, v197_apply]
  unfold windowValue logit
  rw [if_pos (show k.val < 384 from hk)]
  dsimp only
  rw [if_pos (show k.val < 640 by omega)]

/-- The context's part of the result. -/
theorem v203_apply (b : Fin 8) (n : Fin 16) (r : Fin 128) (h : Fin 2) (g : Fin 4) (l : Fin 128) : (val_main_v203 (F := Ideal)) x0 x1 x2 (ix6 b n r h g l)
    = ∑ k ∈ Finset.range 256, windowValue x0 x1 b n h l (384 + k) * Ideal.div (Ideal.exp (score (P x0) (PC x1) b (n.val * 128 + r.val) (h.val * 4 + g.val) (384 + k)
      - smax (S x2 (h.val * 4 + g.val)) (score (P x0) (PC x1) b (n.val * 128 + r.val) (h.val * 4 + g.val))))
      (den (S x2 (h.val * 4 + g.val)) (score (P x0) (PC x1) b (n.val * 128 + r.val) (h.val * 4 + g.val))) := by
  pointwise [val_main_v201, val_main_v202, val_main_v203]
  refine sum_fin 256 _ _ fun k => ?_
  have hk := k.isLt
  rw [v122_apply, v197_apply]
  unfold windowValue logit
  rw [if_neg (show ¬ 384 + k.val < 384 by omega), show 384 + k.val - 384 = k.val by omega]
  dsimp only
  rw [if_pos (show 384 + k.val < 640 by omega)]

/-- The attention of one token and head, where the scores are below +∞ and the sink is a real number. -/
theorem v204_apply (hS : ∀ h, h < 8 → IsReal (S x2 h)) (hs : ∀ b s h k, b < 8 → s < 2048 → h < 8 → k < 640 → score (P x0) (PC x1) b s h k ≠ ⊤)
    (b : Fin 8) (n : Fin 16) (r : Fin 128) (h : Fin 2) (g : Fin 4) (l : Fin 128) : (val_main_v204 (F := Ideal)) x0 x1 x2 (ix6 b n r h g l)
    = attend (S x2 (h.val * 4 + g.val)) (score (P x0) (PC x1) b (n.val * 128 + r.val) (h.val * 4 + g.val))
      (value (P x0) (PC x1) b (n.val * 128 + r.val) (h.val * 4 + g.val) l) := by
  have hn := n.isLt
  have hr := r.isLt
  have hh := h.isLt
  have hg := g.isLt
  rw [attend_congr _ _ (score (P x0) (PC x1) b (n.val * 128 + r.val) (h.val * 4 + g.val)) _ (windowValue x0 x1 b n h l) (fun _ _ => rfl) ?_]
  · rw [← attend_eq_sum _ _ _ (hS _ (by omega)) (fun k hk => hs _ _ _ k b.isLt (by omega) (by omega) hk)]
    rw [show (640 : ℕ) = 384 + 256 from rfl, Finset.sum_range_add]
    pointwise [val_main_v204]
    rw [v200_apply, v203_apply]
  · intro k hk hb
    unfold value windowValue
    rw [show (n.val * 128 + r.val) / 128 * 128 = n.val * 128 by omega, show (h.val * 4 + g.val) / 4 = h.val by omega]
    by_cases h1 : k < 384
    · rw [if_pos h1, if_pos h1]
      have hv : Valid (n.val * 128 + r.val) k := by
        by_contra hv
        exact hb (by unfold score; rw [if_pos h1, if_neg hv])
      have hw := hv
      unfold Valid at hw
      rw [if_pos hv, if_pos (show 128 ≤ n.val * 128 + k ∧ n.val * 128 + k < 2176 by omega)]
    · rw [if_neg h1, if_neg h1]

/-- THE REFERENCE'S RESULT is the attention. -/
theorem result_apply (hS : ∀ h, h < 8 → IsReal (S x2 h)) (hs : ∀ b s h k, b < 8 → s < 2048 → h < 8 → k < 640 → score (P x0) (PC x1) b s h k ≠ ⊤)
    (b : Fin 8) (s : Fin 2048) (c : Fin 1024) : (val_main_v206 (F := Ideal)) x0 x1 x2 (ix3 b s c) = attn (P x0) (PC x1) (S x2) b s c := by
  have hc := c.isLt
  pointwise [val_main_v205, val_main_v206]
  rw [v204_apply x0 x1 x2 hS hs]
  unfold attn
  dsimp only
  rw [show c.val / 512 * 4 + c.val / 128 % 4 = c.val / 128 by omega, show s.val / 128 * 128 + s.val % 128 = s.val by omega]

end Cert.AttnRefIdeal.Val
end
-- ==== Proof.AttnClaims.lean ====
/-
  THE ATTENTION'S CLAIMS (hand-written): its frames, what naming its two constants preserves, and that kernel and reference
  agree at the extended reals wherever queries, keys, context keys and sinks are real numbers.
-/
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite
public import proofs.«01_k».proof.Proof.AttnPre
public import proofs.«01_k».proof.Proof.AttnValue
public import proofs.«01_k».proof.Proof.AttnRefOut
public import Idealize.ShloMosaic.Adequacy
public import Idealize.ShloMosaic.Init

@[expose] public section

set_option maxRecDepth 16384

noncomputable section

open Idealize.ShloMosaic Idealize.ShloMosaic.TcCoe Idealize.SL.Sem

namespace Cert.Attn.Claims

/-- The kernel runs and leaves its arguments as launched. -/
theorem kernel : Cert.quiescent_Attn (hAttn := Cert.Attn.Gen.facts) :=
  fun m ρ _ => Cert.Attn.Gen.frame m ρ

/-- So does the kernel at the extended reals. -/
theorem ideal : Cert.quiescent_AttnIdeal (hAttnIdeal := Cert.AttnIdeal.Gen.facts) :=
  fun m ρ _ => Cert.AttnIdeal.Gen.frame m ρ

/-- So it does from arguments that meet the precondition. -/
theorem ideal_pre : Cert.quiescent_AttnIdeal_pre_finite (hAttnIdeal := Cert.AttnIdeal.Gen.facts) (hPre_finite := Cert.Pre_finite.Gen.facts) :=
  fun m ρ _ => Cert.AttnIdeal.Gen.frame m ρ

/-- So does the reference. -/
theorem reference : Cert.quiescent_AttnRefIdeal (hAttnRefIdeal := Cert.AttnRefIdeal.Gen.facts) :=
  fun m ρ _ => (θ_run Cert.AttnRefIdeal.defs _ _).mono (fun r h => ⟨fun c => ⟨(h c).2.1, (h c).2.2.1, (h c).2.2.2⟩,
    Idealize.ShloMosaic.sem_eq_zero_of_no_sems (by decide) r.2⟩) (Cert.AttnRefIdeal.Value.run (F := Ideal) m ρ)

/-- So it does from arguments that meet the precondition. -/
theorem reference_pre : Cert.quiescent_AttnRefIdeal_pre_finite (hAttnRefIdeal := Cert.AttnRefIdeal.Gen.facts) (hPre_finite := Cert.Pre_finite.Gen.facts) :=
  fun m ρ _ => reference m ρ trivial

/-- Naming the masked score and the scale: −∞ stands for one literal, 1/√128 for the other. -/
theorem preserves : Cert.preserves_Attn_AttnIdeal :=
  ⟨IdealRules.named_const.statement Cert.AttnIdeal.κ "mask" .f32 0xF149F2CA#32 ⊥ rfl,
    IdealRules.named_const.statement Cert.AttnIdeal.κ "s" .f32 0x3DB504F3#32 (((Real.sqrt 128)⁻¹ : ℝ) : EReal) rfl⟩

open Cert.AttnMath Cert.Pre_finite.Val in
/-- The reference's result is the attention, where the precondition holds. -/
theorem reference_value (p : FVec Ideal Cert.AttnRefIdeal.S8x2048x4608 .f32) (pc : FVec Ideal Cert.AttnRefIdeal.S8x256x4608 .f32) (sink : FVec Ideal Cert.AttnRefIdeal.S8 .f32)
    (h : @Cert.Pre_finite.fn Cert.Pre_finite.Gen.facts Ideal _ p pc sink = fun _ => 1#1) :
    Cert.AttnRefIdeal.Read.val_main_v206 (F := Ideal) p pc sink = Cert.AttnIdeal.Val.attention p pc sink := by
  funext i
  obtain ⟨b, s, c, rfl⟩ : ∃ b s c, i = ix3 (n0 := 8) (n1 := 2048) (n2 := 1024) b s c := ⟨_, _, _, eq_ix3 i⟩
  letI := Cert.Pre_finite.Gen.facts
  exact Cert.AttnRefIdeal.Val.result_apply p pc sink (sinks p pc sink h) (fun b s a k hb hs ha hk => score_ne_top _ _ b s a k hb hs ha hk
    (queries p pc sink h) (keys p pc sink h) (contextKeys p pc sink h)) b s c

/-- An array that is the reference's result from memory `m` is the attention, where `m` meets the precondition. -/
theorem result_attention (m : (ℓ : Loc Cert.AttnRefIdeal.nD Cert.AttnRefIdeal.τ Cert.AttnRefIdeal.sig) → Buf (Elt Ideal) ℓ)
    (c : Dev Cert.AttnRefIdeal.nD)
    (x : Buf (Elt Ideal) ((c.tc : Thread Cert.AttnRefIdeal.nD Cert.AttnRefIdeal.τ).loc Cert.AttnRefIdeal.main_v206))
    (hx : x = Cert.AttnRefIdeal.Read.val_main_v206 (F := Ideal) (StableHlo.launchContents m c (Proc.devRef .tc Cert.AttnRefIdeal.main_arg0))
      (StableHlo.launchContents m c (Proc.devRef .tc Cert.AttnRefIdeal.main_arg1)) (StableHlo.launchContents m c (Proc.devRef .tc Cert.AttnRefIdeal.main_arg2)))
    (h : Cert.Pre_AttnRefIdeal_finite (hPre_finite := Cert.Pre_finite.Gen.facts) m) :
    x = Cert.AttnIdeal.Val.attention (m ((c.tc : Thread Cert.AttnRefIdeal.nD Cert.AttnRefIdeal.τ).loc Cert.AttnRefIdeal.main_arg0))
      (m ((c.tc : Thread Cert.AttnRefIdeal.nD Cert.AttnRefIdeal.τ).loc Cert.AttnRefIdeal.main_arg1))
      (m ((c.tc : Thread Cert.AttnRefIdeal.nD Cert.AttnRefIdeal.τ).loc Cert.AttnRefIdeal.main_arg2)) :=
  hx.trans (reference_value _ _ _ (h c))

/-- From the same arguments that meet the precondition the kernel and its reference leave the same result. -/
theorem value : Cert.algebraic_AttnIdeal_AttnRefIdeal_pre_finite (hAttnIdeal := Cert.AttnIdeal.Gen.facts) (hAttnRefIdeal := Cert.AttnRefIdeal.Gen.facts)
    (hPre_finite := Cert.Pre_finite.Gen.facts) := by
  intro m ρ m' ρ' hpre hag
  refine ⟨fun c => Cert.AttnIdeal.Val.attention (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)),
    Cert.AttnIdeal.Val.run m ρ, ?_⟩
  refine (θ_run Cert.AttnRefIdeal.defs _ _).mono (fun r h c => ?_) (Cert.AttnRefIdeal.Value.run (F := Ideal) m' ρ')
  have hpre' : Cert.Pre_AttnRefIdeal_finite (hPre_finite := Cert.Pre_finite.Gen.facts) m' := fun d => by
    obtain ⟨a0, a1, a2⟩ := hag d
    rw [a0, a1, a2]
    exact hpre d
  obtain ⟨a0, a1, a2⟩ := hag c
  have e := result_attention m' c _ ((h c).1.trans (Cert.AttnRefIdeal.Read.val_main_v206_eq (StableHlo.launchContents m' c))) hpre'
  rw [a0, a1, a2] at e
  exact ⟨e, (h c).2⟩

end Cert.Attn.Claims

end
-- ==== Proof.InProjValue.lean ====
/-
  THE PROJECTION'S VALUE (hand-written): the kernel `InProjIdeal` leaves in its result, at every sequence, position and
  column, the sum over the 2048 features of the hidden value times the weight of layer 0 in the column the packed layout
  names (`inproj`), and its reference `InProjRefIdeal` the same.

  The kernel is one product per grid point (b, i, j) of the grid (8, 2, 9): rows 1024 i … of sequence b times columns
  512 j … of the weights, written to the column tile `otile j` of the result. The reference multiplies once and joins
  five column ranges. Both are read at an index; no algebra is needed.
-/
module

public import proofs.«01_k».proof.Defs
public import proofs.«01_k».proof.Proof.Gen.InProjIdeal.Value
public import proofs.«01_k».proof.Proof.Gen.InProjRefIdeal.Run
public import proofs.«01_k».proof.Proof.Gen.InProjRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen

/-- The column of the weights that the packed layout's column `n` holds: queries, then the three state groups, then the
    keys and values, which stand second in the weights. -/
def wcol (n : Fin 4608) : Fin 10752 :=
  ⟨if n.val < 1024 then n.val else if n.val < 4096 then n.val + 512 else n.val - 3072, by split <;> (try split) <;> omega⟩

/-- The projection, index by index. -/
def inproj (h : FVec Ideal S8x2048x2048 .bf16) (w : FVec Ideal S2x2048x10752 .f32) : FVec Ideal S8x2048x4608 .f32 :=
  fun i => ∑ k : Fin 2048, (h (ix3 (i 0) (i 1) k) : EReal) * w (ix3 (0 : Fin 2) k (wcol (i 2)))

/-- The projection at an index whose coordinates are known. -/
theorem inproj_at (h : FVec Ideal S8x2048x2048 .bf16) (w : FVec Ideal S2x2048x10752 .f32) (i : S8x2048x4608.Idx)
    (b : Fin 8) (s : Fin 2048) (q : Fin 10752) (h0 : (i 0).val = b.val) (h1 : (i 1).val = s.val) (h2 : (wcol (i 2)).val = q.val) :
    inproj h w i = ∑ k : Fin 2048, (h (ix3 b s k) : EReal) * w (ix3 (0 : Fin 2) k q) := by
  obtain rfl : i 0 = b := Fin.ext h0
  obtain rfl : i 1 = s := Fin.ext h1
  obtain rfl : wcol (i 2) = q := Fin.ext h2
  rfl

variable (m : (ℓ : Loc nD τ sig) → Buf (Elt Ideal) ℓ) (ρ : Dev nD → PrngReg)

/-- The weights' window is staged from the first 4608 columns of the weight argument (a change of format is the identity). -/
theorem V_v1 (c : Dev nD) (l : Fin 2) (k : Fin 2048) (n : Fin 4608) :
    V m c main_v1 (ix3 l k n) = m ((c : Thread nD τ).loc main_arg1) (ix3 l k (⟨n.val, by omega⟩ : Fin 10752)) := by
  have h : V m c main_v1 = truncf (F := Ideal) .bf16 (extractStridedSlice S2x2048x4608 ![0, 0, 0]
      (m ((c : Thread nD τ).loc main_arg1)) slices_S2x2048x10752_S2x2048x4608_0_0_0) bitsLt_bf16_f32 := by
    show StableHlo.after hostOps0 (fun b => m (c, b)) (Proc.devRef .tc main_v1) = _
    after_results
  rw [h]
  pointwise

/-- The column tile of the result that column tile `j` of the weights is written to. -/
def otile (j : Nat) : Nat := if j < 2 then j else if j = 2 then 8 else j - 1

theorem index0 : ∀ t : Fin cfg0.N, win0_0.index t 0 = t.val / 18 ∧ win0_0.index t 1 = t.val / 9 % 2 ∧ win0_0.index t 2 = 0 :=
  (by decide +kernel : ∀ t : Fin grid0.N, win0_0.index t 0 = t.val / 18 ∧ win0_0.index t 1 = t.val / 9 % 2 ∧ win0_0.index t 2 = 0)
theorem index1 : ∀ t : Fin cfg0.N, win0_1.index t 0 = 0 ∧ win0_1.index t 1 = 0 ∧ win0_1.index t 2 = t.val % 9 :=
  (by decide +kernel : ∀ t : Fin grid0.N, win0_1.index t 0 = 0 ∧ win0_1.index t 1 = 0 ∧ win0_1.index t 2 = t.val % 9)
theorem index2 : ∀ t : Fin cfg0.N, win0_2.index t 0 = t.val / 18 ∧ win0_2.index t 1 = t.val / 9 % 2 ∧ win0_2.index t 2 = otile (t.val % 9) :=
  (by decide +kernel : ∀ t : Fin grid0.N, win0_2.index t 0 = t.val / 18 ∧ win0_2.index t 1 = t.val / 9 % 2 ∧ win0_2.index t 2 = otile (t.val % 9))

theorem lt_N (t : Fin cfg0.N) : t.val < 144 := lt_of_lt_of_eq t.isLt N_0

/-- The hidden values' block at point `t`: sequence `t / 18`, rows from `1024 (t / 9 % 2)`. -/
theorem blk0 (c : Dev nD) (t : Fin cfg0.N) (u : Fin 1) (r : Fin 1024) (k : Fin 2048) :
    iblk m c 0 t (ix3 u r k) = m ((c : Thread nD τ).loc main_arg0)
      (ix3 (⟨t.val / 18, by have := lt_N t; omega⟩ : Fin 8) (⟨t.val / 9 % 2 * 1024 + r.val, by omega⟩ : Fin 2048) k) := by
  rw [← V_main_arg0 m c]
  show V m c main_arg0 ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show _ * 1 + u.val = t.val / 18; omega
  | ⟨1, _⟩ => refine (Pipeline.Window.rect_emb_val win0_0 t (ix3 u r k) 1).trans ?_; rw [e1]; rfl
  | ⟨2, _⟩ => refine (Pipeline.Window.rect_emb_val win0_0 t (ix3 u r k) 2).trans ?_; rw [e2]; show 0 * _ + k.val = k.val; omega

/-- The weights' block at point `t`: layer 0, columns from `512 (t % 9)`. -/
theorem blk1 (c : Dev nD) (t : Fin cfg0.N) (u : Fin 1) (k : Fin 2048) (n : Fin 512) :
    iblk m c 1 t (ix3 u k n) = m ((c : Thread nD τ).loc main_arg1)
      (ix3 (0 : Fin 2) k (⟨t.val % 9 * 512 + n.val, by omega⟩ : Fin 10752)) := by
  refine Eq.trans ?_ (V_v1 m c 0 k (⟨t.val % 9 * 512 + n.val, by omega⟩ : Fin 4608))
  show V m c main_v1 ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 0 * _ + u.val = 0; omega
  | ⟨1, _⟩ => refine (Pipeline.Window.rect_emb_val win0_1 t (ix3 u k n) 1).trans ?_; rw [e1]; show 0 * _ + k.val = k.val; omega
  | ⟨2, _⟩ => refine (Pipeline.Window.rect_emb_val win0_1 t (ix3 u k n) 2).trans ?_; rw [e2]; rfl

theorem hz : (![0, 0, 0] : Fin 3 → Nat) = fun _ => 0 := funext fun a => by fin_cases a <;> rfl

/-- The body's product of two blocks, index by index. -/
theorem pay_apply (x : FVec Ideal S1x1024x2048 .bf16) (y : FVec Ideal S1x2048x512 .bf16) (u : Fin 1) (r : Fin 1024) (n : Fin 512) :
    k0_pay1 (F := Ideal) x y (ix3 u r n) = ∑ k : Fin 2048, (x (ix3 0 r k) : EReal) * y (ix3 0 k n) := by
  pointwise [k0_pay1]

/-- The packed column tile `otile j` holds the weights' columns of tile `j`. -/
theorem wcol_tile (t : Nat) (n : Fin 512) (h : otile (t % 9) * 512 + n.val < 4608) :
    (wcol ⟨otile (t % 9) * 512 + n.val, h⟩).val = t % 9 * 512 + n.val := by
  have h9 : t % 9 < 9 := Nat.mod_lt _ (by decide)
  have hn := n.isLt
  revert h
  generalize t % 9 = j at h9
  intro h
  unfold wcol otile at *
  dsimp only
  split_ifs at * <;> omega

/-- What point `t` writes back is its block of the projection. -/
theorem flushed_eq (c : Dev nD) (t : Fin cfg0.N) : (dats m 0 c).flushed 2 t = (win0_2.blk t).view.read (Elt Ideal)
    (inproj (m ((c : Thread nD τ).loc main_arg0)) (m ((c : Thread nD τ).loc main_arg1))) := by
  rw [Value.flushed2]
  unfold out0_2
  rw [View.canon_unit_zero hz, View.ld_unit_zero hz, View.ld_unit_zero hz]
  show (fun j : S1x1024x512.Idx => k0_pay1 (F := Ideal) (iblk m c 0 t) (iblk m c 1 t) j) = fun j : S1x1024x512.Idx =>
    inproj (m ((c : Thread nD τ).loc main_arg0)) (m ((c : Thread nD τ).loc main_arg1)) ((win0_2.rect t).emb j)
  funext j
  obtain ⟨u, r, n, rfl⟩ : ∃ u r n, j = ix3 (n0 := 1) (n1 := 1024) (n2 := 512) u r n := ⟨_, _, _, eq_ix3 j⟩
  rw [pay_apply]
  obtain ⟨e0, e1, e2⟩ := index2 t
  have f0 : ((win0_2.rect t).emb (ix3 u r n) 0).val = t.val / 18 := by
    refine (Pipeline.Window.rect_emb_val win0_2 t (ix3 u r n) 0).trans ?_; rw [e0]; show _ * 1 + u.val = t.val / 18; omega
  have f1 : ((win0_2.rect t).emb (ix3 u r n) 1).val = t.val / 9 % 2 * 1024 + r.val := by
    refine (Pipeline.Window.rect_emb_val win0_2 t (ix3 u r n) 1).trans ?_; rw [e1]; rfl
  have f2 : ((win0_2.rect t).emb (ix3 u r n) 2).val = otile (t.val % 9) * 512 + n.val := by
    refine (Pipeline.Window.rect_emb_val win0_2 t (ix3 u r n) 2).trans ?_; rw [e2]; rfl
  have g2 : (wcol ((win0_2.rect t).emb (ix3 u r n) 2)).val = t.val % 9 * 512 + n.val := by
    have := wcol_tile t.val n (by rw [← f2]; exact ((win0_2.rect t).emb (ix3 u r n) 2).isLt)
    rw [← this]; exact congrArg (fun a => (wcol a).val) (Fin.ext f2)
  rw [inproj_at _ _ _ (⟨t.val / 18, by have := lt_N t; omega⟩ : Fin 8) (⟨t.val / 9 % 2 * 1024 + r.val, by omega⟩ : Fin 2048)
    (⟨t.val % 9 * 512 + n.val, by omega⟩ : Fin 10752) f0 f1 g2]
  exact Finset.sum_congr rfl fun k _ => congrArg₂ (fun a b : EReal => a * b) (blk0 m c t 0 r k) (blk1 m c t 0 k n)

/-- An index of the result lies in point `t`'s block when its coordinates lie in the three ranges. -/
theorem mem_blk (t : Fin cfg0.N) (i : S8x2048x4608.Idx) (h0 : (i 0 : Nat) = t.val / 18)
    (h1 : t.val / 9 % 2 * 1024 ≤ (i 1 : Nat) ∧ (i 1 : Nat) < t.val / 9 % 2 * 1024 + 1024)
    (h2 : otile (t.val % 9) * 512 ≤ (i 2 : Nat) ∧ (i 2 : Nat) < otile (t.val % 9) * 512 + 512) :
    i ∈ ((cfg0.win 2).blk t).view.set := by
  show i ∈ ((View.whole main_v2).slice (win0_2.rect t)).set
  rw [View.set_slice_whole, Rect.mem_set_unit]
  obtain ⟨e0, e1, e2⟩ := index2 t
  intro a
  match a with
  | ⟨0, _⟩ => show win0_2.index t 0 * 1 ≤ (i 0 : Nat) ∧ (i 0 : Nat) < win0_2.index t 0 * 1 + 1; rw [e0]; omega
  | ⟨1, _⟩ => show win0_2.index t 1 * 1024 ≤ (i 1 : Nat) ∧ (i 1 : Nat) < win0_2.index t 1 * 1024 + 1024; rw [e1]; omega
  | ⟨2, _⟩ => show win0_2.index t 2 * 512 ≤ (i 2 : Nat) ∧ (i 2 : Nat) < win0_2.index t 2 * 512 + 512; rw [e2]; omega

/-- The blocks tile the result: the column tile `o` is written from column tile 2 when `o = 8`, from `o` when below 2 and
    from `o + 1` otherwise. -/
theorem cover (i : S8x2048x4608.Idx) : ∃ t : Fin cfg0.N, (cfg0.win 2).flush t = true ∧ i ∈ ((cfg0.win 2).blk t).view.set := by
  have h0 : (i 0 : Nat) < 8 := (i 0).isLt
  have h1 : (i 1 : Nat) < 2048 := (i 1).isLt
  have h2 : (i 2 : Nat) < 4608 := (i 2).isLt
  obtain ⟨j, hj, hj'⟩ : ∃ j < 9, otile j = (i 2 : Nat) / 512 := by
    have h : (i 2 : Nat) / 512 < 9 := by omega
    revert h
    generalize (i 2 : Nat) / 512 = o
    intro h
    interval_cases o <;> decide
  have ht : (i 0 : Nat) * 18 + (i 1 : Nat) / 1024 * 9 + j < cfg0.N := by have hN : cfg0.N = 144 := N_0; omega
  refine ⟨⟨(i 0 : Nat) * 18 + (i 1 : Nat) / 1024 * 9 + j, ht⟩, flush0_2 _, mem_blk _ i ?_ ?_ ?_⟩ <;> dsimp only
  · omega
  · omega
  · have : ((i 0 : Nat) * 18 + (i 1 : Nat) / 1024 * 9 + j) % 9 = j := by omega
    rw [this, hj']; omega

/-- THE KERNEL'S RUN: it ends with the projection in its result and its arguments as they were. -/
theorem run : θ_run defs (onTc (τ := τ) (main (F := Ideal))) ⟨m, fun _ => 0, ρ⟩ fun r => ∀ c : Dev nD,
      r.2.mem ((c : Thread nD τ).loc main_v2) = inproj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.InProjIdeal.Val

namespace Cert.InProjRefIdeal.Val

open Cert.InProjRefIdeal Cert.InProjRefIdeal.Read

/-- The reference's product, index by index. -/
theorem prod_apply (h : FVec Ideal S8x2048x2048 .bf16) (w : FVec Ideal S2x2048x10752 .f32) (b : Fin 8) (s : Fin 2048) (n : Fin 10752) :
    val_main_v3 (F := Ideal) h w (ix3 b s n) = ∑ k : Fin 2048, (h (ix3 b s k) : EReal) * w (ix3 (0 : Fin 2) k n) := by
  pointwise [val_main_v3, val_main_v2, val_main_v1, val_main_v0]

/-- THE REFERENCE'S RESULT is the projection in the packed layout. -/
theorem result (h : FVec Ideal S8x2048x2048 .bf16) (w : FVec Ideal S2x2048x10752 .f32) :
    val_main_v9 (F := Ideal) h w = Cert.InProjIdeal.Val.inproj h w := by
  funext j
  obtain ⟨b, s, n, rfl⟩ : ∃ b s n, j = ix3 (n0 := 8) (n1 := 2048) (n2 := 4608) b s n := ⟨_, _, _, eq_ix3 j⟩
  have hn := n.isLt
  have key : ∀ q : Fin 10752, q = Cert.InProjIdeal.Val.wcol n →
      val_main_v3 (F := Ideal) h w (ix3 b s q) = Cert.InProjIdeal.Val.inproj h w (ix3 b s n) := by
    rintro q rfl; exact prod_apply h w b s _
  unfold val_main_v9 val_main_v4 val_main_v5 val_main_v6 val_main_v7 val_main_v8
  pointwise
  split_ifs <;> refine key _ (Fin.ext ?_) <;> simp only [Cert.InProjIdeal.Val.wcol] <;> split_ifs <;> omega

end Cert.InProjRefIdeal.Val

end
-- ==== Proof.InProjClaims.lean ====
/-
  THE PROJECTION'S CLAIMS (hand-written): its frames, and that kernel and reference agree at the extended reals.
-/
module

public import proofs.«01_k».proof.Defs
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.InProjRefIdeal.Read
public import proofs.«01_k».proof.Proof.InProjValue
public import Idealize.ShloMosaic.Adequacy
public import Idealize.ShloMosaic.Init

@[expose] public section

set_option maxRecDepth 16384

noncomputable section

open Idealize.ShloMosaic Idealize.ShloMosaic.TcCoe Idealize.SL.Sem

namespace Cert.InProj.Claims

/-- The kernel runs and leaves its arguments as launched. -/
theorem kernel : Cert.quiescent_InProj (hInProj := Cert.InProj.Gen.facts) :=
  fun m ρ _ => Cert.InProj.Gen.frame m ρ

/-- So does the kernel at the extended reals. -/
theorem ideal : Cert.quiescent_InProjIdeal (hInProjIdeal := Cert.InProjIdeal.Gen.facts) :=
  fun m ρ _ => Cert.InProjIdeal.Gen.frame m ρ

/-- So does the reference. -/
theorem reference : Cert.quiescent_InProjRefIdeal (hInProjRefIdeal := Cert.InProjRefIdeal.Gen.facts) :=
  fun m ρ _ => (θ_run Cert.InProjRefIdeal.defs _ _).mono (fun r h => ⟨fun c => ⟨(h c).2.1, (h c).2.2⟩,
    Idealize.ShloMosaic.sem_eq_zero_of_no_sems (by decide) r.2⟩) (Cert.InProjRefIdeal.Value.run (F := Ideal) m ρ)

/-- Idealizing the kernel replaced nothing. -/
theorem preserves : Cert.preserves_InProj_InProjIdeal := trivial

/-- From the same arguments the kernel and its reference leave the same result. -/
theorem value : Cert.algebraic_InProjIdeal_InProjRefIdeal (hInProjIdeal := Cert.InProjIdeal.Gen.facts) (hInProjRefIdeal := Cert.InProjRefIdeal.Gen.facts) := by
  intro m ρ m' ρ' _ hag
  refine ⟨fun c => Cert.InProjIdeal.Val.inproj (m ((c.tc : Thread Cert.InProjIdeal.nD Cert.InProjIdeal.τ).loc Cert.InProjIdeal.main_arg0)) (m ((c.tc : Thread Cert.InProjIdeal.nD Cert.InProjIdeal.τ).loc Cert.InProjIdeal.main_arg1)),
    ?_, ?_⟩
  · exact Cert.InProjIdeal.Val.run m ρ
  · refine (θ_run Cert.InProjRefIdeal.defs _ _).mono (fun r h c => ?_) (Cert.InProjRefIdeal.Value.run (F := Ideal) m' ρ')
    obtain ⟨a0, a1⟩ := hag c
    refine ⟨(h c).1.trans ((Cert.InProjRefIdeal.Read.val_main_v9_eq _ _).trans ((Cert.InProjRefIdeal.Val.result _ _).trans ?_)), (h c).2⟩
    · rw [a0, a1]

end Cert.InProj.Claims

end
-- ==== Proof.MergeValue.lean ====
/-
  THE GATED MERGE'S VALUE (hand-written): the kernel `MergeIdeal` leaves in its four results the merged branches (`merged`:
  at every sequence, position and column the sum over the three branches of a sigmoid gate times the branch's product with
  its weights) and the three expert weights of layer 0 in the order the next kernel reads them (`rows`), and its reference
  `MergeRefIdeal` the same.

  The kernel works at one (1024, 256) tile of the result per point of the grid (8, 2, 8), with the gates' and the branches'
  products for that tile; beside it, it casts one slab of each of the expert weights. At the extended reals a change of
  format is the identity and the sums are in the same order, so no algebra is needed.
-/
module

public import proofs.«01_k».proof.Defs
public import proofs.«01_k».proof.Proof.Gen.MergeIdeal.Value
public import proofs.«01_k».proof.Proof.Gen.MergeRefIdeal.Run
public import proofs.«01_k».proof.Proof.Gen.MergeRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MergeIdeal.Val

open Cert.MergeIdeal Cert.MergeIdeal.Gen

/-- Branch `k`'s gate before the sigmoid: the hidden values times column `4608 + 2048 k + n` of layer 0's weights. -/
def gate (h : FVec Ideal S8x2048x2048 .bf16) (w : FVec Ideal S2x2048x10752 .f32) (k : Fin 3) (b : Fin 8) (s n : Fin 2048) : EReal :=
  ∑ d : Fin 2048, (h (ix3 b s d) : EReal) * w (ix3 (0 : Fin 2) d (⟨4608 + 2048 * k.val + n.val, by omega⟩ : Fin 10752))

/-- Branch `k`'s product with its weights. -/
def branch (x : FVec Ideal S8x2048x1024 .bf16) (w : FVec Ideal S2x3x1024x2048 .f32) (k : Fin 3) (b : Fin 8) (s n : Fin 2048) : EReal :=
  ∑ d : Fin 1024, (x (ix3 b s d) : EReal) * w (ix4 (0 : Fin 2) k d n)

/-- The gated merge at one sequence, position and column. -/
def mergedAt (h : FVec Ideal S8x2048x2048 .bf16) (x y z : FVec Ideal S8x2048x1024 .bf16) (w : FVec Ideal S2x2048x10752 .f32)
    (wb : FVec Ideal S2x3x1024x2048 .f32) (b : Fin 8) (s n : Fin 2048) : EReal :=
  Ideal.logistic (gate h w 0 b s n) * branch x wb 0 b s n + Ideal.logistic (gate h w 1 b s n) * branch y wb 1 b s n
    + Ideal.logistic (gate h w 2 b s n) * branch z wb 2 b s n

/-- The gated merge, index by index. -/
def merged (h : FVec Ideal S8x2048x2048 .bf16) (x y z : FVec Ideal S8x2048x1024 .bf16) (w : FVec Ideal S2x2048x10752 .f32)
    (wb : FVec Ideal S2x3x1024x2048 .f32) : FVec Ideal S8x2048x2048 .bf16 :=
  fun i => mergedAt h x y z w wb (i 0) (i 1) (i 2)

/-- Layer 0's gate or up weights, their 16 · 2048 rows in slabs of 256. -/
def rows (w : FVec Ideal S2x16x2048x1024 .f32) : FVec Ideal S128x256x1024 .bf16 :=
  fun i => w (ix4 (0 : Fin 2) (⟨(i 0).val / 8, by have h : (i 0).val < 128 := (i 0).isLt; omega⟩ : Fin 16)
    (⟨(i 0).val % 8 * 256 + (i 1).val, by have h : (i 1).val < 256 := (i 1).isLt; omega⟩ : Fin 2048) (i 2))

/-- Layer 0's down weights, their 16 · 1024 rows in slabs of 128. -/
def rowsDown (w : FVec Ideal S2x16x1024x2048 .f32) : FVec Ideal S128x128x2048 .bf16 :=
  fun i => w (ix4 (0 : Fin 2) (⟨(i 0).val / 8, by have h : (i 0).val < 128 := (i 0).isLt; omega⟩ : Fin 16)
    (⟨(i 0).val % 8 * 128 + (i 1).val, by have h : (i 1).val < 128 := (i 1).isLt; omega⟩ : Fin 1024) (i 2))

variable (m : (ℓ : Loc nD τ sig) → Buf (Elt Ideal) ℓ) (ρ : Dev nD → PrngReg)

theorem lt_N (t : Fin cfg0.N) : t.val < 128 := lt_of_lt_of_eq t.isLt N_0

/-- The branch weights as the kernel stages them: the argument (a change of format is the identity). -/
theorem V_v0 (c : Dev nD) (i : S2x3x1024x2048.Idx) : V m c main_v0 i = m ((c : Thread nD τ).loc main_arg5) i := by
  have h : V m c main_v0 = truncf (F := Ideal) .bf16 (m ((c : Thread nD τ).loc main_arg5) : FVec Ideal S2x3x1024x2048 .f32) bitsLt_bf16_f32 := by
    show StableHlo.after hostOps0 (fun b => m (c, b)) (Proc.devRef .tc main_v0) = _
    after_results
  rw [h]; rfl

/-- The three expert weights as the kernel stages them: the arguments reshaped. -/
theorem V_v1 (c : Dev nD) : V m c main_v1 = shapeCast S2x128x256x1024 (m ((c : Thread nD τ).loc main_arg6)) shapeCasts_S2x16x2048x1024_S2x128x256x1024 := by
  show StableHlo.after hostOps0 (fun b => m (c, b)) (Proc.devRef .tc main_v1) = _
  after_results
  rfl
theorem V_v2 (c : Dev nD) : V m c main_v2 = shapeCast S2x128x256x1024 (m ((c : Thread nD τ).loc main_arg7)) shapeCasts_S2x16x2048x1024_S2x128x256x1024 := by
  show StableHlo.after hostOps0 (fun b => m (c, b)) (Proc.devRef .tc main_v2) = _
  after_results
  rfl
theorem V_v3 (c : Dev nD) : V m c main_v3 = shapeCast S2x128x128x2048 (m ((c : Thread nD τ).loc main_arg8)) shapeCasts_S2x16x1024x2048_S2x128x128x2048 := by
  show StableHlo.after hostOps0 (fun b => m (c, b)) (Proc.devRef .tc main_v3) = _
  after_results
  rfl

/-! ## The windows' index maps and blocks -/

theorem index0 : ∀ t : Fin cfg0.N, win0_0.index t 0 = t.val / 16 ∧ win0_0.index t 1 = t.val / 8 % 2 ∧ win0_0.index t 2 = 0 :=
  (by decide +kernel : ∀ t : Fin grid0.N, win0_0.index t 0 = t.val / 16 ∧ win0_0.index t 1 = t.val / 8 % 2 ∧ win0_0.index t 2 = 0)
theorem index1 : ∀ t : Fin cfg0.N, win0_1.index t 0 = t.val / 16 ∧ win0_1.index t 1 = t.val / 8 % 2 ∧ win0_1.index t 2 = 0 :=
  (by decide +kernel : ∀ t : Fin grid0.N, win0_1.index t 0 = t.val / 16 ∧ win0_1.index t 1 = t.val / 8 % 2 ∧ win0_1.index t 2 = 0)
theorem index2 : ∀ t : Fin cfg0.N, win0_2.index t 0 = t.val / 16 ∧ win0_2.index t 1 = t.val / 8 % 2 ∧ win0_2.index t 2 = 0 :=
  (by decide +kernel : ∀ t : Fin grid0.N, win0_2.index t 0 = t.val / 16 ∧ win0_2.index t 1 = t.val / 8 % 2 ∧ win0_2.index t 2 = 0)
theorem index3 : ∀ t : Fin cfg0.N, win0_3.index t 0 = t.val / 16 ∧ win0_3.index t 1 = t.val / 8 % 2 ∧ win0_3.index t 2 = 0 :=
  (by decide +kernel : ∀ t : Fin grid0.N, win0_3.index t 0 = t.val / 16 ∧ win0_3.index t 1 = t.val / 8 % 2 ∧ win0_3.index t 2 = 0)
theorem index4 : ∀ t : Fin cfg0.N, win0_4.index t 0 = 0 ∧ win0_4.index t 1 = 0 ∧ win0_4.index t 2 = 18 + t.val % 8 :=
  (by decide +kernel : ∀ t : Fin grid0.N, win0_4.index t 0 = 0 ∧ win0_4.index t 1 = 0 ∧ win0_4.index t 2 = 18 + t.val % 8)
theorem index5 : ∀ t : Fin cfg0.N, win0_5.index t 0 = 0 ∧ win0_5.index t 1 = 0 ∧ win0_5.index t 2 = 26 + t.val % 8 :=
  (by decide +kernel : ∀ t : Fin grid0.N, win0_5.index t 0 = 0 ∧ win0_5.index t 1 = 0 ∧ win0_5.index t 2 = 26 + t.val % 8)
theorem index6 : ∀ t : Fin cfg0.N, win0_6.index t 0 = 0 ∧ win0_6.index t 1 = 0 ∧ win0_6.index t 2 = 34 + t.val % 8 :=
  (by decide +kernel : ∀ t : Fin grid0.N, win0_6.index t 0 = 0 ∧ win0_6.index t 1 = 0 ∧ win0_6.index t 2 = 34 + t.val % 8)
theorem index7 : ∀ t : Fin cfg0.N, win0_7.index t 0 = 0 ∧ win0_7.index t 1 = 0 ∧ win0_7.index t 2 = 0 ∧ win0_7.index t 3 = t.val % 8 :=
  (by decide +kernel : ∀ t : Fin grid0.N, win0_7.index t 0 = 0 ∧ win0_7.index t 1 = 0 ∧ win0_7.index t 2 = 0 ∧ win0_7.index t 3 = t.val % 8)
theorem index8 : ∀ t : Fin cfg0.N, win0_8.index t 0 = 0 ∧ win0_8.index t 1 = 1 ∧ win0_8.index t 2 = 0 ∧ win0_8.index t 3 = t.val % 8 :=
  (by decide +kernel : ∀ t : Fin grid0.N, win0_8.index t 0 = 0 ∧ win0_8.index t 1 = 1 ∧ win0_8.index t 2 = 0 ∧ win0_8.index t 3 = t.val % 8)
theorem index9 : ∀ t : Fin cfg0.N, win0_9.index t 0 = 0 ∧ win0_9.index t 1 = 2 ∧ win0_9.index t 2 = 0 ∧ win0_9.index t 3 = t.val % 8 :=
  (by decide +kernel : ∀ t : Fin grid0.N, win0_9.index t 0 = 0 ∧ win0_9.index t 1 = 2 ∧ win0_9.index t 2 = 0 ∧ win0_9.index t 3 = t.val % 8)
theorem index10 : ∀ t : Fin cfg0.N, win0_10.index t 0 = 0 ∧ win0_10.index t 1 = t.val ∧ win0_10.index t 2 = 0 ∧ win0_10.index t 3 = 0 :=
  (by decide +kernel : ∀ t : Fin grid0.N, win0_10.index t 0 = 0 ∧ win0_10.index t 1 = t.val ∧ win0_10.index t 2 = 0 ∧ win0_10.index t 3 = 0)
theorem index11 : ∀ t : Fin cfg0.N, win0_11.index t 0 = 0 ∧ win0_11.index t 1 = t.val ∧ win0_11.index t 2 = 0 ∧ win0_11.index t 3 = 0 :=
  (by decide +kernel : ∀ t : Fin grid0.N, win0_11.index t 0 = 0 ∧ win0_11.index t 1 = t.val ∧ win0_11.index t 2 = 0 ∧ win0_11.index t 3 = 0)
theorem index12 : ∀ t : Fin cfg0.N, win0_12.index t 0 = 0 ∧ win0_12.index t 1 = t.val ∧ win0_12.index t 2 = 0 ∧ win0_12.index t 3 = 0 :=
  (by decide +kernel : ∀ t : Fin grid0.N, win0_12.index t 0 = 0 ∧ win0_12.index t 1 = t.val ∧ win0_12.index t 2 = 0 ∧ win0_12.index t 3 = 0)
theorem index13 : ∀ t : Fin cfg0.N, win0_13.index t 0 = t.val / 16 ∧ win0_13.index t 1 = t.val / 8 % 2 ∧ win0_13.index t 2 = t.val % 8 :=
  (by decide +kernel : ∀ t : Fin grid0.N, win0_13.index t 0 = t.val / 16 ∧ win0_13.index t 1 = t.val / 8 % 2 ∧ win0_13.index t 2 = t.val % 8)
theorem index14 : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)
theorem index15 : ∀ t : Fin cfg0.N, win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0)
theorem index16 : ∀ t : Fin cfg0.N, win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0)

/-- The hidden values' block: sequence `t / 16`, rows from `1024 (t / 8 % 2)`. -/
theorem blk0 (c : Dev nD) (t : Fin cfg0.N) (u : Fin 1) (r : Fin 1024) (k : Fin 2048) : iblk m c 0 t (ix3 u r k) = m ((c : Thread nD τ).loc main_arg0)
      (ix3 (⟨t.val / 16, by have := lt_N t; omega⟩ : Fin 8) (⟨t.val / 8 % 2 * 1024 + r.val, by omega⟩ : Fin 2048) k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val / 16 * 1 + u.val = t.val / 16; omega
  | ⟨1, _⟩ => refine (Pipeline.Window.rect_emb_val win0_0 t (ix3 u r k) 1).trans ?_; rw [e1]; show t.val / 8 % 2 * 1024 + r.val = t.val / 8 % 2 * 1024 + r.val; omega
  | ⟨2, _⟩ => refine (Pipeline.Window.rect_emb_val win0_0 t (ix3 u r k) 2).trans ?_; rw [e2]; show 0 * 2048 + k.val = k.val; omega

/-- Branch 0's block: the same rows. -/
theorem blk1 (c : Dev nD) (t : Fin cfg0.N) (u : Fin 1) (r : Fin 1024) (k : Fin 1024) : iblk m c 1 t (ix3 u r k) = m ((c : Thread nD τ).loc main_arg1)
      (ix3 (⟨t.val / 16, by have := lt_N t; omega⟩ : Fin 8) (⟨t.val / 8 % 2 * 1024 + r.val, by omega⟩ : Fin 2048) k) := by
  refine Eq.trans ?_ (congrFun (V_main_arg1 m c) _)
  show V m c (Pipeline.arrRef spec0 1) ((win0_1.rect t).emb (ix3 u r k)) = _
  refine congrArg _ (funext fun a => Fin.ext ?_)
  obtain ⟨e0, e1, e2⟩ := index1 t
  match a with
  | ⟨0, _⟩ => refine (Pipeline.Window.rect_emb_val win0_1 t (ix3 u r k) 0).trans ?_; rw [e0]; show t.val / 16 * 1 + u.val = t.val / 16; omega
  | ⟨1, _⟩ => refine (Pipeline.Window.rect_emb_val win0_1 t (ix3 u r k) 1).trans ?_; rw [e1]; show t.val / 8 % 2 * 1024 + r.val = t.val / 8 % 2 * 1024 + r.val; omega
  | ⟨2, _⟩ => refine (Pipeline.Window.rect_emb_val win0_1 t (ix3 u r k) 2).trans ?_; rw [e2]; show 0 * 1024 + k.val = k.val; omega

/-- Branch 1's block: the same rows. -/
theorem blk2 (c : Dev nD) (t : Fin cfg0.N) (u : Fin 1) (r : Fin 1024) (k : Fin 1024) : iblk m c 2 t (ix3 u r k) = m ((c : Thread nD τ).loc main_arg2)
      (ix3 (⟨t.val / 16, by have := lt_N t; omega⟩ : Fin 8) (⟨t.val / 8 % 2 * 1024 + r.val, by omega⟩ : Fin 2048) k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val / 16 * 1 + u.val = t.val / 16; omega
  | ⟨1, _⟩ => refine (Pipeline.Window.rect_emb_val win0_2 t (ix3 u r k) 1).trans ?_; rw [e1]; show t.val / 8 % 2 * 1024 + r.val = t.val / 8 % 2 * 1024 + r.val; omega
  | ⟨2, _⟩ => refine (Pipeline.Window.rect_emb_val win0_2 t (ix3 u r k) 2).trans ?_; rw [e2]; show 0 * 1024 + k.val = k.val; omega

/-- Branch 2's block: the same rows. -/
theorem blk3 (c : Dev nD) (t : Fin cfg0.N) (u : Fin 1) (r : Fin 1024) (k : Fin 1024) : iblk m c 3 t (ix3 u r k) = m ((c : Thread nD τ).loc main_arg3)
      (ix3 (⟨t.val / 16, by have := lt_N t; omega⟩ : Fin 8) (⟨t.val / 8 % 2 * 1024 + r.val, by omega⟩ : Fin 2048) k) := by
  refine Eq.trans ?_ (congrFun (V_main_arg3 m c) _)
  show V m c (Pipeline.arrRef spec0 3) ((win0_3.rect t).emb (ix3 u r k)) = _
  refine congrArg _ (funext fun a => Fin.ext ?_)
  obtain ⟨e0, e1, e2⟩ := index3 t
  match a with
  | ⟨0, _⟩ => refine (Pipeline.Window.rect_emb_val win0_3 t (ix3 u r k) 0).trans ?_; rw [e0]; show t.val / 16 * 1 + u.val = t.val / 16; omega
  | ⟨1, _⟩ => refine (Pipeline.Window.rect_emb_val win0_3 t (ix3 u r k) 1).trans ?_; rw [e1]; show t.val / 8 % 2 * 1024 + r.val = t.val / 8 % 2 * 1024 + r.val; omega
  | ⟨2, _⟩ => refine (Pipeline.Window.rect_emb_val win0_3 t (ix3 u r k) 2).trans ?_; rw [e2]; show 0 * 1024 + k.val = k.val; omega

/-- Gate 0's weights: columns from `256 (18 + t % 8)` of layer 0's weights. -/
theorem blk4 (c : Dev nD) (t : Fin cfg0.N) (u : Fin 1) (k : Fin 2048) (n : Fin 256) : iblk m c 4 t (ix3 u k n) = m ((c : Thread nD τ).loc main_arg4)
      (ix3 (0 : Fin 2) k (⟨(18 + t.val % 8) * 256 + n.val, by omega⟩ : Fin 10752)) := by
  refine Eq.trans ?_ (congrFun (V_main_arg4 m c) _)
  show V m c (Pipeline.arrRef spec0 4) ((win0_4.rect t).emb (ix3 u k n)) = _
  refine congrArg _ (funext fun a => Fin.ext ?_)
  obtain ⟨e0, e1, e2⟩ := index4 t
  match a with
  | ⟨0, _⟩ => refine (Pipeline.Window.rect_emb_val win0_4 t (ix3 u k n) 0).trans ?_; rw [e0]; show 0 * 1 + u.val = 0; omega
  | ⟨1, _⟩ => refine (Pipeline.Window.rect_emb_val win0_4 t (ix3 u k n) 1).trans ?_; rw [e1]; show 0 * 2048 + k.val = k.val; omega
  | ⟨2, _⟩ => refine (Pipeline.Window.rect_emb_val win0_4 t (ix3 u k n) 2).trans ?_; rw [e2]; show (18 + t.val % 8) * 256 + n.val = (18 + t.val % 8) * 256 + n.val; omega

/-- Gate 1's weights: columns from `256 (26 + t % 8)` of layer 0's weights. -/
theorem blk5 (c : Dev nD) (t : Fin cfg0.N) (u : Fin 1) (k : Fin 2048) (n : Fin 256) : iblk m c 5 t (ix3 u k n) = m ((c : Thread nD τ).loc main_arg4)
      (ix3 (0 : Fin 2) k (⟨(26 + t.val % 8) * 256 + n.val, by omega⟩ : Fin 10752)) := by
  refine Eq.trans ?_ (congrFun (V_main_arg4 m c) _)
  show V m c (Pipeline.arrRef spec0 5) ((win0_5.rect t).emb (ix3 u k n)) = _
  refine congrArg _ (funext fun a => Fin.ext ?_)
  obtain ⟨e0, e1, e2⟩ := index5 t
  match a with
  | ⟨0, _⟩ => refine (Pipeline.Window.rect_emb_val win0_5 t (ix3 u k n) 0).trans ?_; rw [e0]; show 0 * 1 + u.val = 0; omega
  | ⟨1, _⟩ => refine (Pipeline.Window.rect_emb_val win0_5 t (ix3 u k n) 1).trans ?_; rw [e1]; show 0 * 2048 + k.val = k.val; omega
  | ⟨2, _⟩ => refine (Pipeline.Window.rect_emb_val win0_5 t (ix3 u k n) 2).trans ?_; rw [e2]; show (26 + t.val % 8) * 256 + n.val = (26 + t.val % 8) * 256 + n.val; omega

/-- Gate 2's weights: columns from `256 (34 + t % 8)` of layer 0's weights. -/
theorem blk6 (c : Dev nD) (t : Fin cfg0.N) (u : Fin 1) (k : Fin 2048) (n : Fin 256) : iblk m c 6 t (ix3 u k n) = m ((c : Thread nD τ).loc main_arg4)
      (ix3 (0 : Fin 2) k (⟨(34 + t.val % 8) * 256 + n.val, by omega⟩ : Fin 10752)) := by
  refine Eq.trans ?_ (congrFun (V_main_arg4 m c) _)
  show V m c (Pipeline.arrRef spec0 6) ((win0_6.rect t).emb (ix3 u k n)) = _
  refine congrArg _ (funext fun a => Fin.ext ?_)
  obtain ⟨e0, e1, e2⟩ := index6 t
  match a with
  | ⟨0, _⟩ => refine (Pipeline.Window.rect_emb_val win0_6 t (ix3 u k n) 0).trans ?_; rw [e0]; show 0 * 1 + u.val = 0; omega
  | ⟨1, _⟩ => refine (Pipeline.Window.rect_emb_val win0_6 t (ix3 u k n) 1).trans ?_; rw [e1]; show 0 * 2048 + k.val = k.val; omega
  | ⟨2, _⟩ => refine (Pipeline.Window.rect_emb_val win0_6 t (ix3 u k n) 2).trans ?_; rw [e2]; show (34 + t.val % 8) * 256 + n.val = (34 + t.val % 8) * 256 + n.val; omega

/-- Branch 0's weights: columns from `256 (t % 8)`. -/
theorem blk7 (c : Dev nD) (t : Fin cfg0.N) (u : Fin 1) (v : Fin 1) (k : Fin 1024) (n : Fin 256) : iblk m c 7 t (ix4 u v k n) = m ((c : Thread nD τ).loc main_arg5)
      (ix4 (0 : Fin 2) (0 : Fin 3) k (⟨t.val % 8 * 256 + n.val, by omega⟩ : Fin 2048)) := by
  refine Eq.trans ?_ (V_v0 m c _)
  show V m c (Pipeline.arrRef spec0 7) ((win0_7.rect t).emb (ix4 u v k n)) = _
  refine congrArg _ (funext fun a => Fin.ext ?_)
  obtain ⟨e0, e1, e2, e3⟩ := index7 t
  match a with
  | ⟨0, _⟩ => refine (Pipeline.Window.rect_emb_val win0_7 t (ix4 u v k n) 0).trans ?_; rw [e0]; show 0 * 1 + u.val = 0; omega
  | ⟨1, _⟩ => refine (Pipeline.Window.rect_emb_val win0_7 t (ix4 u v k n) 1).trans ?_; rw [e1]; show 0 * 1 + v.val = 0; omega
  | ⟨2, _⟩ => refine (Pipeline.Window.rect_emb_val win0_7 t (ix4 u v k n) 2).trans ?_; rw [e2]; show 0 * 1024 + k.val = k.val; omega
  | ⟨3, _⟩ => refine (Pipeline.Window.rect_emb_val win0_7 t (ix4 u v k n) 3).trans ?_; rw [e3]; show t.val % 8 * 256 + n.val = t.val % 8 * 256 + n.val; omega

/-- Branch 1's weights: columns from `256 (t % 8)`. -/
theorem blk8 (c : Dev nD) (t : Fin cfg0.N) (u : Fin 1) (v : Fin 1) (k : Fin 1024) (n : Fin 256) : iblk m c 8 t (ix4 u v k n) = m ((c : Thread nD τ).loc main_arg5)
      (ix4 (0 : Fin 2) (1 : Fin 3) k (⟨t.val % 8 * 256 + n.val, by omega⟩ : Fin 2048)) := by
  refine Eq.trans ?_ (V_v0 m c _)
  show V m c (Pipeline.arrRef spec0 8) ((win0_8.rect t).emb (ix4 u v k n)) = _
  refine congrArg _ (funext fun a => Fin.ext ?_)
  obtain ⟨e0, e1, e2, e3⟩ := index8 t
  match a with
  | ⟨0, _⟩ => refine (Pipeline.Window.rect_emb_val win0_8 t (ix4 u v k n) 0).trans ?_; rw [e0]; show 0 * 1 + u.val = 0; omega
  | ⟨1, _⟩ => refine (Pipeline.Window.rect_emb_val win0_8 t (ix4 u v k n) 1).trans ?_; rw [e1]; show 1 * 1 + v.val = 1; omega
  | ⟨2, _⟩ => refine (Pipeline.Window.rect_emb_val win0_8 t (ix4 u v k n) 2).trans ?_; rw [e2]; show 0 * 1024 + k.val = k.val; omega
  | ⟨3, _⟩ => refine (Pipeline.Window.rect_emb_val win0_8 t (ix4 u v k n) 3).trans ?_; rw [e3]; show t.val % 8 * 256 + n.val = t.val % 8 * 256 + n.val; omega

/-- Branch 2's weights: columns from `256 (t % 8)`. -/
theorem blk9 (c : Dev nD) (t : Fin cfg0.N) (u : Fin 1) (v : Fin 1) (k : Fin 1024) (n : Fin 256) : iblk m c 9 t (ix4 u v k n) = m ((c : Thread nD τ).loc main_arg5)
      (ix4 (0 : Fin 2) (2 : Fin 3) k (⟨t.val % 8 * 256 + n.val, by omega⟩ : Fin 2048)) := by
  refine Eq.trans ?_ (V_v0 m c _)
  show V m c (Pipeline.arrRef spec0 9) ((win0_9.rect t).emb (ix4 u v k n)) = _
  refine congrArg _ (funext fun a => Fin.ext ?_)
  obtain ⟨e0, e1, e2, e3⟩ := index9 t
  match a with
  | ⟨0, _⟩ => refine (Pipeline.Window.rect_emb_val win0_9 t (ix4 u v k n) 0).trans ?_; rw [e0]; show 0 * 1 + u.val = 0; omega
  | ⟨1, _⟩ => refine (Pipeline.Window.rect_emb_val win0_9 t (ix4 u v k n) 1).trans ?_; rw [e1]; show 2 * 1 + v.val = 2; omega
  | ⟨2, _⟩ => refine (Pipeline.Window.rect_emb_val win0_9 t (ix4 u v k n) 2).trans ?_; rw [e2]; show 0 * 1024 + k.val = k.val; omega
  | ⟨3, _⟩ => refine (Pipeline.Window.rect_emb_val win0_9 t (ix4 u v k n) 3).trans ?_; rw [e3]; show t.val % 8 * 256 + n.val = t.val % 8 * 256 + n.val; omega

/-- The expert weights' block, of the reshaped argument 6. -/
theorem blk10 (c : Dev nD) (t : Fin cfg0.N) (u : Fin 1) (v : Fin 1) (k : Fin 256) (n : Fin 1024) : iblk m c 10 t (ix4 u v k n) = shapeCast S2x128x256x1024 (m ((c : Thread nD τ).loc main_arg6)) shapeCasts_S2x16x2048x1024_S2x128x256x1024
      (ix4 (0 : Fin 2) (⟨t.val, lt_N t⟩ : Fin 128) k n) := by
  refine Eq.trans ?_ (congrFun (V_v1 m c) _)
  show V m c (Pipeline.arrRef spec0 10) ((win0_10.rect t).emb (ix4 u v k n)) = _
  refine congrArg _ (funext fun a => Fin.ext ?_)
  obtain ⟨e0, e1, e2, e3⟩ := index10 t
  match a with
  | ⟨0, _⟩ => refine (Pipeline.Window.rect_emb_val win0_10 t (ix4 u v k n) 0).trans ?_; rw [e0]; show 0 * 1 + u.val = 0; omega
  | ⟨1, _⟩ => refine (Pipeline.Window.rect_emb_val win0_10 t (ix4 u v k n) 1).trans ?_; rw [e1]; show t.val * 1 + v.val = t.val; omega
  | ⟨2, _⟩ => refine (Pipeline.Window.rect_emb_val win0_10 t (ix4 u v k n) 2).trans ?_; rw [e2]; show 0 * 256 + k.val = k.val; omega
  | ⟨3, _⟩ => refine (Pipeline.Window.rect_emb_val win0_10 t (ix4 u v k n) 3).trans ?_; rw [e3]; show 0 * 1024 + n.val = n.val; omega

/-- The expert weights' block, of the reshaped argument 7. -/
theorem blk11 (c : Dev nD) (t : Fin cfg0.N) (u : Fin 1) (v : Fin 1) (k : Fin 256) (n : Fin 1024) : iblk m c 11 t (ix4 u v k n) = shapeCast S2x128x256x1024 (m ((c : Thread nD τ).loc main_arg7)) shapeCasts_S2x16x2048x1024_S2x128x256x1024
      (ix4 (0 : Fin 2) (⟨t.val, lt_N t⟩ : Fin 128) k n) := by
  refine Eq.trans ?_ (congrFun (V_v2 m c) _)
  show V m c (Pipeline.arrRef spec0 11) ((win0_11.rect t).emb (ix4 u v k n)) = _
  refine congrArg _ (funext fun a => Fin.ext ?_)
  obtain ⟨e0, e1, e2, e3⟩ := index11 t
  match a with
  | ⟨0, _⟩ => refine (Pipeline.Window.rect_emb_val win0_11 t (ix4 u v k n) 0).trans ?_; rw [e0]; show 0 * 1 + u.val = 0; omega
  | ⟨1, _⟩ => refine (Pipeline.Window.rect_emb_val win0_11 t (ix4 u v k n) 1).trans ?_; rw [e1]; show t.val * 1 + v.val = t.val; omega
  | ⟨2, _⟩ => refine (Pipeline.Window.rect_emb_val win0_11 t (ix4 u v k n) 2).trans ?_; rw [e2]; show 0 * 256 + k.val = k.val; omega
  | ⟨3, _⟩ => refine (Pipeline.Window.rect_emb_val win0_11 t (ix4 u v k n) 3).trans ?_; rw [e3]; show 0 * 1024 + n.val = n.val; omega

/-- The expert weights' block, of the reshaped argument 8. -/
theorem blk12 (c : Dev nD) (t : Fin cfg0.N) (u : Fin 1) (v : Fin 1) (k : Fin 128) (n : Fin 2048) : iblk m c 12 t (ix4 u v k n) = shapeCast S2x128x128x2048 (m ((c : Thread nD τ).loc main_arg8)) shapeCasts_S2x16x1024x2048_S2x128x128x2048
      (ix4 (0 : Fin 2) (⟨t.val, lt_N t⟩ : Fin 128) k n) := by
  refine Eq.trans ?_ (congrFun (V_v3 m c) _)
  show V m c (Pipeline.arrRef spec0 12) ((win0_12.rect t).emb (ix4 u v k n)) = _
  refine congrArg _ (funext fun a => Fin.ext ?_)
  obtain ⟨e0, e1, e2, e3⟩ := index12 t
  match a with
  | ⟨0, _⟩ => refine (Pipeline.Window.rect_emb_val win0_12 t (ix4 u v k n) 0).trans ?_; rw [e0]; show 0 * 1 + u.val = 0; omega
  | ⟨1, _⟩ => refine (Pipeline.Window.rect_emb_val win0_12 t (ix4 u v k n) 1).trans ?_; rw [e1]; show t.val * 1 + v.val = t.val; omega
  | ⟨2, _⟩ => refine (Pipeline.Window.rect_emb_val win0_12 t (ix4 u v k n) 2).trans ?_; rw [e2]; show 0 * 128 + k.val = k.val; omega
  | ⟨3, _⟩ => refine (Pipeline.Window.rect_emb_val win0_12 t (ix4 u v k n) 3).trans ?_; rw [e3]; show 0 * 2048 + n.val = n.val; omega

/-! ## What the body computes, index by index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's tile of the merge. -/
theorem pay_apply (x0 : FVec Ideal S1x1024x2048 .bf16) (x1 x2 x3 : FVec Ideal S1x1024x1024 .bf16) (x4 x5 x6 : FVec Ideal S1x2048x256 .f32)
    (x7 x8 x9 : FVec Ideal S1x1x1024x256 .bf16) (u : Fin 1) (r : Fin 1024) (n : Fin 256) :
    k0_pay5 (F := Ideal) (k0_pay2 x0) (k0_pay3 x0 x4 x1 x7 x5 x2 x8) (k0_pay4 x6) x3 x9 (ix3 u r n)
      = Ideal.logistic (∑ d : Fin 2048, (x0 (ix3 0 r d) : EReal) * x4 (ix3 0 d n)) * (∑ d : Fin 1024, (x1 (ix3 0 r d) : EReal) * x7 (ix4 0 0 d n))
        + Ideal.logistic (∑ d : Fin 2048, (x0 (ix3 0 r d) : EReal) * x5 (ix3 0 d n)) * (∑ d : Fin 1024, (x2 (ix3 0 r d) : EReal) * x8 (ix4 0 0 d n))
        + Ideal.logistic (∑ d : Fin 2048, (x0 (ix3 0 r d) : EReal) * x6 (ix3 0 d n)) * (∑ d : Fin 1024, (x3 (ix3 0 r d) : EReal) * x9 (ix4 0 0 d n)) := by
  pointwise [k0_pay2, k0_pay3, k0_pay4, k0_pay5]

/-- The body's casts of the three slabs. -/
theorem pay6_apply (x : FVec Ideal S1x1x256x1024 .f32) (u : Fin 1) (r : Fin 256) (n : Fin 1024) :
    k0_pay6 (F := Ideal) x (ix3 u r n) = x (ix4 0 0 r n) := by
  pointwise [k0_pay6]
theorem pay7_apply (x : FVec Ideal S1x1x256x1024 .f32) (u : Fin 1) (r : Fin 256) (n : Fin 1024) :
    k0_pay7 (F := Ideal) x (ix3 u r n) = x (ix4 0 0 r n) := by
  pointwise [k0_pay7]
theorem pay1_apply (x : FVec Ideal S1x1x128x2048 .f32) (u : Fin 1) (r : Fin 128) (n : Fin 2048) :
    k0_pay1 (F := Ideal) x (ix3 u r n) = x (ix4 0 0 r n) := by
  pointwise [k0_pay1]

/-! ## What a point writes back -/

/-- The launch contents that the merge reads. -/
abbrev mergedOf (c : Dev nD) : FVec Ideal S8x2048x2048 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The merge at an index whose coordinates are known. -/
theorem merged_at (h : FVec Ideal S8x2048x2048 .bf16) (x y z : FVec Ideal S8x2048x1024 .bf16) (w : FVec Ideal S2x2048x10752 .f32)
    (wb : FVec Ideal S2x3x1024x2048 .f32) (i : S8x2048x2048.Idx) (b : Fin 8) (s n : Fin 2048)
    (h0 : (i 0).val = b.val) (h1 : (i 1).val = s.val) (h2 : (i 2).val = n.val) :
    merged h x y z w wb i = mergedAt h x y z w wb b s n := by
  obtain rfl : i 0 = b := Fin.ext h0
  obtain rfl : i 1 = s := Fin.ext h1
  obtain rfl : i 2 = n := Fin.ext h2
  rfl

/-- What point `t` writes back to the first result is its block of the merge. -/
theorem flushed13_eq (c : Dev nD) (t : Fin cfg0.N) :
    (dats m 0 c).flushed 13 t = (win0_13.blk t).view.read (Elt Ideal) (mergedOf m c) := by
  rw [Value.flushed13]
  unfold out0_13
  rw [View.canon_unit_zero hz3]
  rw [View.ld_unit_zero hz3, View.ld_unit_zero hz3, View.ld_unit_zero hz3, View.ld_unit_zero hz4, View.ld_unit_zero hz3, View.ld_unit_zero hz3,
    View.ld_unit_zero hz4, View.ld_unit_zero hz3, View.ld_unit_zero hz3, View.ld_unit_zero hz4]
  show (fun j : S1x1024x256.Idx => k0_pay5 (F := Ideal) (k0_pay2 (iblk m c 0 t)) (k0_pay3 (iblk m c 0 t) (iblk m c 4 t) (iblk m c 1 t)
      (iblk m c 7 t) (iblk m c 5 t) (iblk m c 2 t) (iblk m c 8 t)) (k0_pay4 (iblk m c 6 t)) (iblk m c 3 t) (iblk m c 9 t) j)
    = fun j : S1x1024x256.Idx => mergedOf m c ((win0_13.rect t).emb j)
  funext j
  obtain ⟨u, r, n, rfl⟩ : ∃ u r n, j = ix3 (n0 := 1) (n1 := 1024) (n2 := 256) u r n := ⟨_, _, _, eq_ix3 j⟩
  rw [pay_apply]
  obtain ⟨e0, e1, e2⟩ := index13 t
  have f0 : ((win0_13.rect t).emb (ix3 u r n) 0).val = t.val / 16 := by
    refine (Pipeline.Window.rect_emb_val win0_13 t (ix3 u r n) 0).trans ?_; rw [e0]; show _ * 1 + u.val = t.val / 16; omega
  have f1 : ((win0_13.rect t).emb (ix3 u r n) 1).val = t.val / 8 % 2 * 1024 + r.val := by
    refine (Pipeline.Window.rect_emb_val win0_13 t (ix3 u r n) 1).trans ?_; rw [e1]; rfl
  have f2 : ((win0_13.rect t).emb (ix3 u r n) 2).val = t.val % 8 * 256 + n.val := by
    refine (Pipeline.Window.rect_emb_val win0_13 t (ix3 u r n) 2).trans ?_; rw [e2]; rfl
  unfold mergedOf
  rw [merged_at _ _ _ _ _ _ _ (⟨t.val / 16, by have := lt_N t; omega⟩ : Fin 8) (⟨t.val / 8 % 2 * 1024 + r.val, by omega⟩ : Fin 2048)
    (⟨t.val % 8 * 256 + n.val, by omega⟩ : Fin 2048) f0 f1 f2]
  have col (k : Nat) (x : Nat) (h : x = (18 + 8 * k + t.val % 8) * 256 + n.val) (h' : x < 10752) (g : 4608 + 2048 * k + (t.val % 8 * 256 + n.val) < 10752) :
      (⟨x, h'⟩ : Fin 10752) = ⟨4608 + 2048 * k + (t.val % 8 * 256 + n.val), g⟩ := Fin.ext (show x = 4608 + 2048 * k + (t.val % 8 * 256 + n.val) by omega)
  unfold mergedAt gate
  refine congrArg₂ (fun a b : EReal => a + b) (congrArg₂ (fun a b : EReal => a + b)
    (congrArg₂ (fun a b : EReal => a * b) (congrArg Ideal.logistic ?_) ?_) (congrArg₂ (fun a b : EReal => a * b) (congrArg Ideal.logistic ?_) ?_))
    (congrArg₂ (fun a b : EReal => a * b) (congrArg Ideal.logistic ?_) ?_)
  · exact Finset.sum_congr rfl fun d _ => congrArg₂ (fun a b : EReal => a * b) (blk0 m c t 0 r d)
      ((blk4 m c t 0 d n).trans (congrArg (fun q => m ((c : Thread nD τ).loc main_arg4) (ix3 (0 : Fin 2) d q)) (col 0 _ (by omega) _ _)))
  · exact Finset.sum_congr rfl fun d _ => congrArg₂ (fun a b : EReal => a * b) (blk1 m c t 0 r d) (blk7 m c t 0 0 d n)
  · exact Finset.sum_congr rfl fun d _ => congrArg₂ (fun a b : EReal => a * b) (blk0 m c t 0 r d)
      ((blk5 m c t 0 d n).trans (congrArg (fun q => m ((c : Thread nD τ).loc main_arg4) (ix3 (0 : Fin 2) d q)) (col 1 _ (by omega) _ _)))
  · exact Finset.sum_congr rfl fun d _ => congrArg₂ (fun a b : EReal => a * b) (blk2 m c t 0 r d) (blk8 m c t 0 0 d n)
  · exact Finset.sum_congr rfl fun d _ => congrArg₂ (fun a b : EReal => a * b) (blk0 m c t 0 r d)
      ((blk6 m c t 0 d n).trans (congrArg (fun q => m ((c : Thread nD τ).loc main_arg4) (ix3 (0 : Fin 2) d q)) (col 2 _ (by omega) _ _)))
  · exact Finset.sum_congr rfl fun d _ => congrArg₂ (fun a b : EReal => a * b) (blk3 m c t 0 r d) (blk9 m c t 0 0 d n)

/-- Slab `s`, row `r` of the reshaped gate or up weights is row `s % 8 * 256 + r` of expert `s / 8`. -/
theorem slab (w : FVec Ideal S2x16x2048x1024 .f32) (i : S128x256x1024.Idx) (s : Fin 128) (r : Fin 256) (n : Fin 1024)
    (h0 : (i 0).val = s.val) (h1 : (i 1).val = r.val) (h2 : (i 2).val = n.val) :
    shapeCast S2x128x256x1024 w shapeCasts_S2x16x2048x1024_S2x128x256x1024 (ix4 0 s r n) = rows w i := by
  obtain rfl : i 0 = s := Fin.ext h0
  obtain rfl : i 1 = r := Fin.ext h1
  obtain rfl : i 2 = n := Fin.ext h2
  refine shapeCast_apply _ _ _ _ ?_
  rw [Shape.rowMajor_val_four, Shape.rowMajor_val_four]
  have h0 : (i 0).val < 128 := (i 0).isLt
  have h1 : (i 1).val < 256 := (i 1).isLt
  show (((0 * 16 + (i 0).val / 8) * 2048 + ((i 0).val % 8 * 256 + (i 1).val)) * 1024 + (i 2).val) = ((0 * 128 + (i 0).val) * 256 + (i 1).val) * 1024 + (i 2).val
  omega

/-- Slab `s`, row `r` of the reshaped down weights is row `s % 8 * 128 + r` of expert `s / 8`. -/
theorem slabDown (w : FVec Ideal S2x16x1024x2048 .f32) (i : S128x128x2048.Idx) (s : Fin 128) (r : Fin 128) (n : Fin 2048)
    (h0 : (i 0).val = s.val) (h1 : (i 1).val = r.val) (h2 : (i 2).val = n.val) :
    shapeCast S2x128x128x2048 w shapeCasts_S2x16x1024x2048_S2x128x128x2048 (ix4 0 s r n) = rowsDown w i := by
  obtain rfl : i 0 = s := Fin.ext h0
  obtain rfl : i 1 = r := Fin.ext h1
  obtain rfl : i 2 = n := Fin.ext h2
  refine shapeCast_apply _ _ _ _ ?_
  rw [Shape.rowMajor_val_four, Shape.rowMajor_val_four]
  have h0 : (i 0).val < 128 := (i 0).isLt
  have h1 : (i 1).val < 128 := (i 1).isLt
  show (((0 * 16 + (i 0).val / 8) * 1024 + ((i 0).val % 8 * 128 + (i 1).val)) * 2048 + (i 2).val) = ((0 * 128 + (i 0).val) * 128 + (i 1).val) * 2048 + (i 2).val
  omega

/-- What point `t` writes back to the second result is slab `t` of the gate weights; -/
theorem flushed14_eq (c : Dev nD) (t : Fin cfg0.N) :
    (dats m 0 c).flushed 14 t = (win0_14.blk t).view.read (Elt Ideal) (rows (m ((c : Thread nD τ).loc main_arg6))) := by
  rw [Value.flushed14]
  unfold out0_14
  rw [View.canon_unit_zero hz3, View.ld_unit_zero hz4]
  show (fun j : S1x256x1024.Idx => k0_pay6 (F := Ideal) (iblk m c 10 t) j)
    = fun j : S1x256x1024.Idx => rows (m ((c : Thread nD τ).loc main_arg6)) ((win0_14.rect t).emb j)
  funext j
  obtain ⟨u, r, n, rfl⟩ : ∃ u r n, j = ix3 (n0 := 1) (n1 := 256) (n2 := 1024) u r n := ⟨_, _, _, eq_ix3 j⟩
  rw [pay6_apply]
  obtain ⟨e0, e1, e2⟩ := index14 t
  refine (blk10 m c t 0 0 r n).trans (slab _ _ _ _ _ ?_ ?_ ?_)
  · refine (Pipeline.Window.rect_emb_val win0_14 t (ix3 u r n) 0).trans ?_; rw [e0]; show t.val * 1 + u.val = t.val; omega
  · refine (Pipeline.Window.rect_emb_val win0_14 t (ix3 u r n) 1).trans ?_; rw [e1]; show 0 * 256 + r.val = r.val; omega
  · refine (Pipeline.Window.rect_emb_val win0_14 t (ix3 u r n) 2).trans ?_; rw [e2]; show 0 * 1024 + n.val = n.val; omega

/-- to the third, slab `t` of the up weights; -/
theorem flushed15_eq (c : Dev nD) (t : Fin cfg0.N) :
    (dats m 0 c).flushed 15 t = (win0_15.blk t).view.read (Elt Ideal) (rows (m ((c : Thread nD τ).loc main_arg7))) := by
  rw [Value.flushed15]
  unfold out0_15
  rw [View.canon_unit_zero hz3, View.ld_unit_zero hz4]
  show (fun j : S1x256x1024.Idx => k0_pay7 (F := Ideal) (iblk m c 11 t) j)
    = fun j : S1x256x1024.Idx => rows (m ((c : Thread nD τ).loc main_arg7)) ((win0_15.rect t).emb j)
  funext j
  obtain ⟨u, r, n, rfl⟩ : ∃ u r n, j = ix3 (n0 := 1) (n1 := 256) (n2 := 1024) u r n := ⟨_, _, _, eq_ix3 j⟩
  rw [pay7_apply]
  obtain ⟨e0, e1, e2⟩ := index15 t
  refine (blk11 m c t 0 0 r n).trans (slab _ _ _ _ _ ?_ ?_ ?_)
  · refine (Pipeline.Window.rect_emb_val win0_15 t (ix3 u r n) 0).trans ?_; rw [e0]; show t.val * 1 + u.val = t.val; omega
  · refine (Pipeline.Window.rect_emb_val win0_15 t (ix3 u r n) 1).trans ?_; rw [e1]; show 0 * 256 + r.val = r.val; omega
  · refine (Pipeline.Window.rect_emb_val win0_15 t (ix3 u r n) 2).trans ?_; rw [e2]; show 0 * 1024 + n.val = n.val; omega

/-- to the fourth, slab `t` of the down weights. -/
theorem flushed16_eq (c : Dev nD) (t : Fin cfg0.N) :
    (dats m 0 c).flushed 16 t = (win0_16.blk t).view.read (Elt Ideal) (rowsDown (m ((c : Thread nD τ).loc main_arg8))) := by
  rw [Value.flushed16]
  unfold out0_16
  rw [View.canon_unit_zero hz3, View.ld_unit_zero hz4]
  show (fun j : S1x128x2048.Idx => k0_pay1 (F := Ideal) (iblk m c 12 t) j)
    = fun j : S1x128x2048.Idx => rowsDown (m ((c : Thread nD τ).loc main_arg8)) ((win0_16.rect t).emb j)
  funext j
  obtain ⟨u, r, n, rfl⟩ : ∃ u r n, j = ix3 (n0 := 1) (n1 := 128) (n2 := 2048) u r n := ⟨_, _, _, eq_ix3 j⟩
  rw [pay1_apply]
  obtain ⟨e0, e1, e2⟩ := index16 t
  refine (blk12 m c t 0 0 r n).trans (slabDown _ _ _ _ _ ?_ ?_ ?_)
  · refine (Pipeline.Window.rect_emb_val win0_16 t (ix3 u r n) 0).trans ?_; rw [e0]; show t.val * 1 + u.val = t.val; omega
  · refine (Pipeline.Window.rect_emb_val win0_16 t (ix3 u r n) 1).trans ?_; rw [e1]; show 0 * 128 + r.val = r.val; omega
  · refine (Pipeline.Window.rect_emb_val win0_16 t (ix3 u r n) 2).trans ?_; rw [e2]; show 0 * 2048 + n.val = n.val; omega

/-! ## The blocks tile the results -/

theorem cover13 (i : S8x2048x2048.Idx) : ∃ t : Fin cfg0.N, (cfg0.win 13).flush t = true ∧ i ∈ ((cfg0.win 13).blk t).view.set := by
  have h0 : (i 0 : Nat) < 8 := (i 0).isLt
  have h1 : (i 1 : Nat) < 2048 := (i 1).isLt
  have h2 : (i 2 : Nat) < 2048 := (i 2).isLt
  have ht : (i 0 : Nat) * 16 + (i 1 : Nat) / 1024 * 8 + (i 2 : Nat) / 256 < cfg0.N := by have hN : cfg0.N = 128 := N_0; omega
  refine ⟨⟨_, ht⟩, flush0_13 _, ?_⟩
  show i ∈ ((View.whole main_v4_0).slice (win0_13.rect ⟨_, ht⟩)).set
  rw [View.set_slice_whole, Rect.mem_set_unit]
  obtain ⟨e0, e1, e2⟩ := index13 ⟨_, ht⟩
  intro a
  match a with
  | ⟨0, _⟩ => show win0_13.index ⟨_, ht⟩ 0 * 1 ≤ (i 0 : Nat) ∧ (i 0 : Nat) < win0_13.index ⟨_, ht⟩ 0 * 1 + 1; rw [e0]; dsimp only; omega
  | ⟨1, _⟩ => show win0_13.index ⟨_, ht⟩ 1 * 1024 ≤ (i 1 : Nat) ∧ (i 1 : Nat) < win0_13.index ⟨_, ht⟩ 1 * 1024 + 1024; rw [e1]; dsimp only; omega
  | ⟨2, _⟩ => show win0_13.index ⟨_, ht⟩ 2 * 256 ≤ (i 2 : Nat) ∧ (i 2 : Nat) < win0_13.index ⟨_, ht⟩ 2 * 256 + 256; rw [e2]; dsimp only; omega

theorem cover14 (i : S128x256x1024.Idx) : ∃ t : Fin cfg0.N, (cfg0.win 14).flush t = true ∧ i ∈ ((cfg0.win 14).blk t).view.set := by
  have h1 : (i 1 : Nat) < 256 := (i 1).isLt
  have h2 : (i 2 : Nat) < 1024 := (i 2).isLt
  have ht : (i 0 : Nat) < cfg0.N := lt_of_lt_of_eq (i 0).isLt (Eq.symm N_0)
  refine ⟨⟨_, ht⟩, flush0_14 _, ?_⟩
  show i ∈ ((View.whole main_v4_1).slice (win0_14.rect ⟨_, ht⟩)).set
  rw [View.set_slice_whole, Rect.mem_set_unit]
  obtain ⟨e0, e1, e2⟩ := index14 ⟨_, ht⟩
  intro a
  match a with
  | ⟨0, _⟩ => show win0_14.index ⟨_, ht⟩ 0 * 1 ≤ (i 0 : Nat) ∧ (i 0 : Nat) < win0_14.index ⟨_, ht⟩ 0 * 1 + 1; rw [e0]; dsimp only; omega
  | ⟨1, _⟩ => show win0_14.index ⟨_, ht⟩ 1 * 256 ≤ (i 1 : Nat) ∧ (i 1 : Nat) < win0_14.index ⟨_, ht⟩ 1 * 256 + 256; rw [e1]; omega
  | ⟨2, _⟩ => show win0_14.index ⟨_, ht⟩ 2 * 1024 ≤ (i 2 : Nat) ∧ (i 2 : Nat) < win0_14.index ⟨_, ht⟩ 2 * 1024 + 1024; rw [e2]; omega

theorem cover15 (i : S128x256x1024.Idx) : ∃ t : Fin cfg0.N, (cfg0.win 15).flush t = true ∧ i ∈ ((cfg0.win 15).blk t).view.set := by
  have h1 : (i 1 : Nat) < 256 := (i 1).isLt
  have h2 : (i 2 : Nat) < 1024 := (i 2).isLt
  have ht : (i 0 : Nat) < cfg0.N := lt_of_lt_of_eq (i 0).isLt (Eq.symm N_0)
  refine ⟨⟨_, ht⟩, flush0_15 _, ?_⟩
  show i ∈ ((View.whole main_v4_2).slice (win0_15.rect ⟨_, ht⟩)).set
  rw [View.set_slice_whole, Rect.mem_set_unit]
  obtain ⟨e0, e1, e2⟩ := index15 ⟨_, ht⟩
  intro a
  match a with
  | ⟨0, _⟩ => show win0_15.index ⟨_, ht⟩ 0 * 1 ≤ (i 0 : Nat) ∧ (i 0 : Nat) < win0_15.index ⟨_, ht⟩ 0 * 1 + 1; rw [e0]; dsimp only; omega
  | ⟨1, _⟩ => show win0_15.index ⟨_, ht⟩ 1 * 256 ≤ (i 1 : Nat) ∧ (i 1 : Nat) < win0_15.index ⟨_, ht⟩ 1 * 256 + 256; rw [e1]; omega
  | ⟨2, _⟩ => show win0_15.index ⟨_, ht⟩ 2 * 1024 ≤ (i 2 : Nat) ∧ (i 2 : Nat) < win0_15.index ⟨_, ht⟩ 2 * 1024 + 1024; rw [e2]; omega

theorem cover16 (i : S128x128x2048.Idx) : ∃ t : Fin cfg0.N, (cfg0.win 16).flush t = true ∧ i ∈ ((cfg0.win 16).blk t).view.set := by
  have h1 : (i 1 : Nat) < 128 := (i 1).isLt
  have h2 : (i 2 : Nat) < 2048 := (i 2).isLt
  have ht : (i 0 : Nat) < cfg0.N := lt_of_lt_of_eq (i 0).isLt (Eq.symm N_0)
  refine ⟨⟨_, ht⟩, flush0_16 _, ?_⟩
  show i ∈ ((View.whole main_v4_3).slice (win0_16.rect ⟨_, ht⟩)).set
  rw [View.set_slice_whole, Rect.mem_set_unit]
  obtain ⟨e0, e1, e2⟩ := index16 ⟨_, ht⟩
  intro a
  match a with
  | ⟨0, _⟩ => show win0_16.index ⟨_, ht⟩ 0 * 1 ≤ (i 0 : Nat) ∧ (i 0 : Nat) < win0_16.index ⟨_, ht⟩ 0 * 1 + 1; rw [e0]; dsimp only; omega
  | ⟨1, _⟩ => show win0_16.index ⟨_, ht⟩ 1 * 128 ≤ (i 1 : Nat) ∧ (i 1 : Nat) < win0_16.index ⟨_, ht⟩ 1 * 128 + 128; rw [e1]; omega
  | ⟨2, _⟩ => show win0_16.index ⟨_, ht⟩ 2 * 2048 ≤ (i 2 : Nat) ∧ (i 2 : Nat) < win0_16.index ⟨_, ht⟩ 2 * 2048 + 2048; rw [e2]; omega

/-! ## The kernel's run -/

theorem final13 (c : Dev nD) : (dats m 0 c).arrAt 13 cfg0.N = mergedOf m c :=
  (dats m 0 c).arrAt_eq_of_cover 13 _ (fun t _ => flushed13_eq m c t) cover13
theorem final14 (c : Dev nD) : (dats m 0 c).arrAt 14 cfg0.N = rows (m ((c : Thread nD τ).loc main_arg6)) :=
  (dats m 0 c).arrAt_eq_of_cover 14 _ (fun t _ => flushed14_eq m c t) cover14
theorem final15 (c : Dev nD) : (dats m 0 c).arrAt 15 cfg0.N = rows (m ((c : Thread nD τ).loc main_arg7)) :=
  (dats m 0 c).arrAt_eq_of_cover 15 _ (fun t _ => flushed15_eq m c t) cover15
theorem final16 (c : Dev nD) : (dats m 0 c).arrAt 16 cfg0.N = rowsDown (m ((c : Thread nD τ).loc main_arg8)) :=
  (dats m 0 c).arrAt_eq_of_cover 16 _ (fun t _ => flushed16_eq m c t) cover16

/-- THE KERNEL'S RUN: its four results hold the merge and the slabs, and its arguments are as launched. -/
theorem run : θ_run defs (onTc (τ := τ) (main (F := Ideal))) ⟨m, fun _ => 0, ρ⟩ fun r => ∀ c : Dev nD,
      (r.2.mem ((c : Thread nD τ).loc main_v4_0) = mergedOf m c
      ∧ r.2.mem ((c : Thread nD τ).loc main_v4_1) = rows (m ((c : Thread nD τ).loc main_arg6))
      ∧ r.2.mem ((c : Thread nD τ).loc main_v4_2) = rows (m ((c : Thread nD τ).loc main_arg7))
      ∧ r.2.mem ((c : Thread nD τ).loc main_v4_3) = rowsDown (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨⟨(h c).1.trans (final13 m c), (h c).2.1.trans (final14 m c), (h c).2.2.1.trans (final15 m c),
    (h c).2.2.2.1.trans (final16 m c)⟩, (h c).2.2.2.2⟩) (Value.run_blocks m ρ)

end Cert.MergeIdeal.Val

namespace Cert.MergeRefIdeal.Val

open Cert.MergeRefIdeal Cert.MergeRefIdeal.Read Cert.MergeIdeal.Val

theorem gates_apply (h : FVec Ideal S8x2048x2048 .bf16) (w : FVec Ideal S2x2048x10752 .f32) (b : Fin 8) (s : Fin 2048) (k : Fin 3) (n : Fin 2048) :
    val_main_v14 (F := Ideal) h w (ix4 b s k n) = Ideal.logistic (gate h w k b s n) := by
  pointwise [val_main_v14, val_main_v13, val_main_v12, val_main_v11, val_main_v10, val_main_v9, val_main_v8, val_main_v7, val_main_v6, val_main_v5,
    val_main_v4, val_main_v3, val_main_cst, val_main_cst_0]
  refine congrArg Ideal.logistic (Finset.sum_congr rfl fun d _ => congrArg (fun q : Fin 10752 => (h (ix3 b s d) : EReal) * w (ix3 (0 : Fin 2) d q)) ?_)
  refine Fin.ext ?_
  show 4608 + (k.val * 2048 + n.val) = 4608 + 2048 * k.val + n.val
  omega

/-- THE REFERENCE'S FIRST RESULT is the gated merge. -/
theorem result (h : FVec Ideal S8x2048x2048 .bf16) (x y z : FVec Ideal S8x2048x1024 .bf16) (w : FVec Ideal S2x2048x10752 .f32)
    (wb : FVec Ideal S2x3x1024x2048 .f32) : val_main_v35 (F := Ideal) h x y z w wb = merged h x y z w wb := by
  funext j
  obtain ⟨b, s, n, rfl⟩ : ∃ b s n, j = ix3 (n0 := 8) (n1 := 2048) (n2 := 2048) b s n := ⟨_, _, _, eq_ix3 j⟩
  pointwise [val_main_v35, val_main_v34, val_main_v33, val_main_v27, val_main_v26, val_main_v20, val_main_v16, val_main_v15, val_main_v22, val_main_v21,
    val_main_v29, val_main_v28, val_main_v19, val_main_v18, val_main_v17, val_main_v25, val_main_v24, val_main_v23, val_main_v32, val_main_v31, val_main_v30,
    val_main_v0, val_main_v1, val_main_v2]
  rw [gates_apply, gates_apply, gates_apply]
  rfl

/-- Its other three are the expert weights in slabs. -/
theorem result_gate (w : FVec Ideal S2x16x2048x1024 .f32) : val_main_v39 (F := Ideal) w = rows w := by
  funext j
  obtain ⟨b, s, n, rfl⟩ : ∃ b s n, j = ix3 (n0 := 128) (n1 := 256) (n2 := 1024) b s n := ⟨_, _, _, eq_ix3 j⟩
  pointwise [val_main_v39, val_main_v38, val_main_v37, val_main_v36]
  rfl
theorem result_up (w : FVec Ideal S2x16x2048x1024 .f32) : val_main_v43 (F := Ideal) w = rows w := by
  funext j
  obtain ⟨b, s, n, rfl⟩ : ∃ b s n, j = ix3 (n0 := 128) (n1 := 256) (n2 := 1024) b s n := ⟨_, _, _, eq_ix3 j⟩
  pointwise [val_main_v43, val_main_v42, val_main_v41, val_main_v40]
  rfl
theorem result_down (w : FVec Ideal S2x16x1024x2048 .f32) : val_main_v47 (F := Ideal) w = rowsDown w := by
  funext j
  obtain ⟨b, s, n, rfl⟩ : ∃ b s n, j = ix3 (n0 := 128) (n1 := 128) (n2 := 2048) b s n := ⟨_, _, _, eq_ix3 j⟩
  pointwise [val_main_v47, val_main_v46, val_main_v45, val_main_v44]
  rfl

end Cert.MergeRefIdeal.Val

end
-- ==== Proof.MergeClaims.lean ====
/-
  THE GATED MERGE'S CLAIMS (hand-written): its frames, and that kernel and reference agree at the extended reals.
-/
module

public import proofs.«01_k».proof.Defs
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.MergeValue
public import Idealize.ShloMosaic.Adequacy
public import Idealize.ShloMosaic.Init

@[expose] public section

set_option maxRecDepth 16384

noncomputable section

open Idealize.ShloMosaic Idealize.ShloMosaic.TcCoe Idealize.SL.Sem

namespace Cert.Merge.Claims

/-- The kernel runs and leaves its arguments as launched. -/
theorem kernel : Cert.quiescent_Merge (hMerge := Cert.Merge.Gen.facts) :=
  fun m ρ _ => Cert.Merge.Gen.frame m ρ

/-- So does the kernel at the extended reals. -/
theorem ideal : Cert.quiescent_MergeIdeal (hMergeIdeal := Cert.MergeIdeal.Gen.facts) :=
  fun m ρ _ => Cert.MergeIdeal.Gen.frame m ρ

/-- So does the reference. -/
theorem reference : Cert.quiescent_MergeRefIdeal (hMergeRefIdeal := Cert.MergeRefIdeal.Gen.facts) :=
  fun m ρ _ => (θ_run Cert.MergeRefIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
    Idealize.ShloMosaic.sem_eq_zero_of_no_sems (by decide) r.2⟩) (Cert.MergeRefIdeal.Value.run (F := Ideal) m ρ)

/-- Idealizing the kernel replaced nothing. -/
theorem preserves : Cert.preserves_Merge_MergeIdeal := trivial

/-- From the same arguments the kernel and its reference leave the same results. -/
theorem value : Cert.algebraic_MergeIdeal_MergeRefIdeal (hMergeIdeal := Cert.MergeIdeal.Gen.facts) (hMergeRefIdeal := Cert.MergeRefIdeal.Gen.facts) := by
  intro m ρ m' ρ' _ hag
  refine ⟨fun c => Cert.MergeIdeal.Val.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)),
    fun c => Cert.MergeIdeal.Val.rows (m ((c.tc : Thread Cert.MergeIdeal.nD Cert.MergeIdeal.τ).loc Cert.MergeIdeal.main_arg6)),
    fun c => Cert.MergeIdeal.Val.rows (m ((c.tc : Thread Cert.MergeIdeal.nD Cert.MergeIdeal.τ).loc Cert.MergeIdeal.main_arg7)),
    fun c => Cert.MergeIdeal.Val.rowsDown (m ((c.tc : Thread Cert.MergeIdeal.nD Cert.MergeIdeal.τ).loc Cert.MergeIdeal.main_arg8)),
    ?_, ?_⟩
  · exact (θ_run Cert.MergeIdeal.defs _ _).mono (fun r h c => ⟨(h c).1.1, (h c).1.2.1, (h c).1.2.2.1, (h c).1.2.2.2, (h c).2⟩) (Cert.MergeIdeal.Val.run m ρ)
  · refine (θ_run Cert.MergeRefIdeal.defs _ _).mono (fun r h c => ?_) (Cert.MergeRefIdeal.Value.run (F := Ideal) m' ρ')
    obtain ⟨a0, a1, a2, a3, a4, a5, a6, a7, a8⟩ := hag c
    refine ⟨(h c).1.trans ((Cert.MergeRefIdeal.Read.val_main_v35_eq _ _ _ _ _ _).trans ((Cert.MergeRefIdeal.Val.result _ _ _ _ _ _).trans ?_)), (h c).2.1.trans ((Cert.MergeRefIdeal.Read.val_main_v39_eq _).trans ((Cert.MergeRefIdeal.Val.result_gate _).trans ?_)), (h c).2.2.1.trans ((Cert.MergeRefIdeal.Read.val_main_v43_eq _).trans ((Cert.MergeRefIdeal.Val.result_up _).trans ?_)), (h c).2.2.2.1.trans ((Cert.MergeRefIdeal.Read.val_main_v47_eq _).trans ((Cert.MergeRefIdeal.Val.result_down _).trans ?_)), (h c).2.2.2.2⟩
    · rw [a0, a1, a2, a3, a4, a5]
    · rw [a6]
    · rw [a7]
    · rw [a8]

end Cert.Merge.Claims

end
-- ==== Proof.InProjBValue.lean ====
/-
  THE PROJECTION'S VALUE (hand-written): the kernel `InProjBIdeal` leaves in its result, at every sequence, position and
  column, the sum over the 2048 features of the hidden value times the weight of layer 1 in the column the packed layout
  names (`inproj`), and its reference `InProjBRefIdeal` the same.

  The kernel is one product per grid point (b, i, j) of the grid (8, 2, 9): rows 1024 i … of sequence b times columns
  512 j … of the weights, written to the column tile `otile j` of the result. The reference multiplies once and joins
  five column ranges. Both are read at an index; no algebra is needed.
-/
module

public import proofs.«01_k».proof.Defs
public import proofs.«01_k».proof.Proof.Gen.InProjBIdeal.Value
public import proofs.«01_k».proof.Proof.Gen.InProjBRefIdeal.Run
public import proofs.«01_k».proof.Proof.Gen.InProjBRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InProjBIdeal.Val

open Cert.InProjBIdeal Cert.InProjBIdeal.Gen

/-- The column of the weights that the packed layout's column `n` holds: queries, then the three state groups, then the
    keys and values, which stand second in the weights. -/
def wcol (n : Fin 4608) : Fin 10752 :=
  ⟨if n.val < 1024 then n.val else if n.val < 4096 then n.val + 512 else n.val - 3072, by split <;> (try split) <;> omega⟩

/-- The projection, index by index. -/
def inproj (h : FVec Ideal S8x2048x2048 .bf16) (w : FVec Ideal S2x2048x10752 .f32) : FVec Ideal S8x2048x4608 .f32 :=
  fun i => ∑ k : Fin 2048, (h (ix3 (i 0) (i 1) k) : EReal) * w (ix3 (1 : Fin 2) k (wcol (i 2)))

/-- The projection at an index whose coordinates are known. -/
theorem inproj_at (h : FVec Ideal S8x2048x2048 .bf16) (w : FVec Ideal S2x2048x10752 .f32) (i : S8x2048x4608.Idx)
    (b : Fin 8) (s : Fin 2048) (q : Fin 10752) (h0 : (i 0).val = b.val) (h1 : (i 1).val = s.val) (h2 : (wcol (i 2)).val = q.val) :
    inproj h w i = ∑ k : Fin 2048, (h (ix3 b s k) : EReal) * w (ix3 (1 : Fin 2) k q) := by
  obtain rfl : i 0 = b := Fin.ext h0
  obtain rfl : i 1 = s := Fin.ext h1
  obtain rfl : wcol (i 2) = q := Fin.ext h2
  rfl

variable (m : (ℓ : Loc nD τ sig) → Buf (Elt Ideal) ℓ) (ρ : Dev nD → PrngReg)

/-- The weights' window is staged from the first 4608 columns of the weight argument (a change of format is the identity). -/
theorem V_v1 (c : Dev nD) (l : Fin 2) (k : Fin 2048) (n : Fin 4608) :
    V m c main_v1 (ix3 l k n) = m ((c : Thread nD τ).loc main_arg1) (ix3 l k (⟨n.val, by omega⟩ : Fin 10752)) := by
  have h : V m c main_v1 = truncf (F := Ideal) .bf16 (extractStridedSlice S2x2048x4608 ![0, 0, 0]
      (m ((c : Thread nD τ).loc main_arg1)) slices_S2x2048x10752_S2x2048x4608_0_0_0) bitsLt_bf16_f32 := by
    show StableHlo.after hostOps0 (fun b => m (c, b)) (Proc.devRef .tc main_v1) = _
    after_results
  rw [h]
  pointwise

/-- The column tile of the result that column tile `j` of the weights is written to. -/
def otile (j : Nat) : Nat := if j < 2 then j else if j = 2 then 8 else j - 1

theorem index0 : ∀ t : Fin cfg0.N, win0_0.index t 0 = t.val / 18 ∧ win0_0.index t 1 = t.val / 9 % 2 ∧ win0_0.index t 2 = 0 :=
  (by decide +kernel : ∀ t : Fin grid0.N, win0_0.index t 0 = t.val / 18 ∧ win0_0.index t 1 = t.val / 9 % 2 ∧ win0_0.index t 2 = 0)
theorem index1 : ∀ t : Fin cfg0.N, win0_1.index t 0 = 1 ∧ win0_1.index t 1 = 0 ∧ win0_1.index t 2 = t.val % 9 :=
  (by decide +kernel : ∀ t : Fin grid0.N, win0_1.index t 0 = 1 ∧ win0_1.index t 1 = 0 ∧ win0_1.index t 2 = t.val % 9)
theorem index2 : ∀ t : Fin cfg0.N, win0_2.index t 0 = t.val / 18 ∧ win0_2.index t 1 = t.val / 9 % 2 ∧ win0_2.index t 2 = otile (t.val % 9) :=
  (by decide +kernel : ∀ t : Fin grid0.N, win0_2.index t 0 = t.val / 18 ∧ win0_2.index t 1 = t.val / 9 % 2 ∧ win0_2.index t 2 = otile (t.val % 9))

theorem lt_N (t : Fin cfg0.N) : t.val < 144 := lt_of_lt_of_eq t.isLt N_0

/-- The hidden values' block at point `t`: sequence `t / 18`, rows from `1024 (t / 9 % 2)`. -/
theorem blk0 (c : Dev nD) (t : Fin cfg0.N) (u : Fin 1) (r : Fin 1024) (k : Fin 2048) :
    iblk m c 0 t (ix3 u r k) = m ((c : Thread nD τ).loc main_arg0)
      (ix3 (⟨t.val / 18, by have := lt_N t; omega⟩ : Fin 8) (⟨t.val / 9 % 2 * 1024 + r.val, by omega⟩ : Fin 2048) k) := by
  rw [← V_main_arg0 m c]
  show V m c main_arg0 ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show _ * 1 + u.val = t.val / 18; omega
  | ⟨1, _⟩ => refine (Pipeline.Window.rect_emb_val win0_0 t (ix3 u r k) 1).trans ?_; rw [e1]; rfl
  | ⟨2, _⟩ => refine (Pipeline.Window.rect_emb_val win0_0 t (ix3 u r k) 2).trans ?_; rw [e2]; show 0 * _ + k.val = k.val; omega

/-- The weights' block at point `t`: layer 1, columns from `512 (t % 9)`. -/
theorem blk1 (c : Dev nD) (t : Fin cfg0.N) (u : Fin 1) (k : Fin 2048) (n : Fin 512) :
    iblk m c 1 t (ix3 u k n) = m ((c : Thread nD τ).loc main_arg1)
      (ix3 (1 : Fin 2) k (⟨t.val % 9 * 512 + n.val, by omega⟩ : Fin 10752)) := by
  refine Eq.trans ?_ (V_v1 m c 1 k (⟨t.val % 9 * 512 + n.val, by omega⟩ : Fin 4608))
  show V m c main_v1 ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 1 * 1 + u.val = 1; omega
  | ⟨1, _⟩ => refine (Pipeline.Window.rect_emb_val win0_1 t (ix3 u k n) 1).trans ?_; rw [e1]; show 0 * _ + k.val = k.val; omega
  | ⟨2, _⟩ => refine (Pipeline.Window.rect_emb_val win0_1 t (ix3 u k n) 2).trans ?_; rw [e2]; rfl

theorem hz : (![0, 0, 0] : Fin 3 → Nat) = fun _ => 0 := funext fun a => by fin_cases a <;> rfl

/-- The body's product of two blocks, index by index. -/
theorem pay_apply (x : FVec Ideal S1x1024x2048 .bf16) (y : FVec Ideal S1x2048x512 .bf16) (u : Fin 1) (r : Fin 1024) (n : Fin 512) :
    k0_pay1 (F := Ideal) x y (ix3 u r n) = ∑ k : Fin 2048, (x (ix3 0 r k) : EReal) * y (ix3 0 k n) := by
  pointwise [k0_pay1]

/-- The packed column tile `otile j` holds the weights' columns of tile `j`. -/
theorem wcol_tile (t : Nat) (n : Fin 512) (h : otile (t % 9) * 512 + n.val < 4608) :
    (wcol ⟨otile (t % 9) * 512 + n.val, h⟩).val = t % 9 * 512 + n.val := by
  have h9 : t % 9 < 9 := Nat.mod_lt _ (by decide)
  have hn := n.isLt
  revert h
  generalize t % 9 = j at h9
  intro h
  unfold wcol otile at *
  dsimp only
  split_ifs at * <;> omega

/-- What point `t` writes back is its block of the projection. -/
theorem flushed_eq (c : Dev nD) (t : Fin cfg0.N) : (dats m 0 c).flushed 2 t = (win0_2.blk t).view.read (Elt Ideal)
    (inproj (m ((c : Thread nD τ).loc main_arg0)) (m ((c : Thread nD τ).loc main_arg1))) := by
  rw [Value.flushed2]
  unfold out0_2
  rw [View.canon_unit_zero hz, View.ld_unit_zero hz, View.ld_unit_zero hz]
  show (fun j : S1x1024x512.Idx => k0_pay1 (F := Ideal) (iblk m c 0 t) (iblk m c 1 t) j) = fun j : S1x1024x512.Idx =>
    inproj (m ((c : Thread nD τ).loc main_arg0)) (m ((c : Thread nD τ).loc main_arg1)) ((win0_2.rect t).emb j)
  funext j
  obtain ⟨u, r, n, rfl⟩ : ∃ u r n, j = ix3 (n0 := 1) (n1 := 1024) (n2 := 512) u r n := ⟨_, _, _, eq_ix3 j⟩
  rw [pay_apply]
  obtain ⟨e0, e1, e2⟩ := index2 t
  have f0 : ((win0_2.rect t).emb (ix3 u r n) 0).val = t.val / 18 := by
    refine (Pipeline.Window.rect_emb_val win0_2 t (ix3 u r n) 0).trans ?_; rw [e0]; show _ * 1 + u.val = t.val / 18; omega
  have f1 : ((win0_2.rect t).emb (ix3 u r n) 1).val = t.val / 9 % 2 * 1024 + r.val := by
    refine (Pipeline.Window.rect_emb_val win0_2 t (ix3 u r n) 1).trans ?_; rw [e1]; rfl
  have f2 : ((win0_2.rect t).emb (ix3 u r n) 2).val = otile (t.val % 9) * 512 + n.val := by
    refine (Pipeline.Window.rect_emb_val win0_2 t (ix3 u r n) 2).trans ?_; rw [e2]; rfl
  have g2 : (wcol ((win0_2.rect t).emb (ix3 u r n) 2)).val = t.val % 9 * 512 + n.val := by
    have := wcol_tile t.val n (by rw [← f2]; exact ((win0_2.rect t).emb (ix3 u r n) 2).isLt)
    rw [← this]; exact congrArg (fun a => (wcol a).val) (Fin.ext f2)
  rw [inproj_at _ _ _ (⟨t.val / 18, by have := lt_N t; omega⟩ : Fin 8) (⟨t.val / 9 % 2 * 1024 + r.val, by omega⟩ : Fin 2048)
    (⟨t.val % 9 * 512 + n.val, by omega⟩ : Fin 10752) f0 f1 g2]
  exact Finset.sum_congr rfl fun k _ => congrArg₂ (fun a b : EReal => a * b) (blk0 m c t 0 r k) (blk1 m c t 0 k n)

/-- An index of the result lies in point `t`'s block when its coordinates lie in the three ranges. -/
theorem mem_blk (t : Fin cfg0.N) (i : S8x2048x4608.Idx) (h0 : (i 0 : Nat) = t.val / 18)
    (h1 : t.val / 9 % 2 * 1024 ≤ (i 1 : Nat) ∧ (i 1 : Nat) < t.val / 9 % 2 * 1024 + 1024)
    (h2 : otile (t.val % 9) * 512 ≤ (i 2 : Nat) ∧ (i 2 : Nat) < otile (t.val % 9) * 512 + 512) :
    i ∈ ((cfg0.win 2).blk t).view.set := by
  show i ∈ ((View.whole main_v2).slice (win0_2.rect t)).set
  rw [View.set_slice_whole, Rect.mem_set_unit]
  obtain ⟨e0, e1, e2⟩ := index2 t
  intro a
  match a with
  | ⟨0, _⟩ => show win0_2.index t 0 * 1 ≤ (i 0 : Nat) ∧ (i 0 : Nat) < win0_2.index t 0 * 1 + 1; rw [e0]; omega
  | ⟨1, _⟩ => show win0_2.index t 1 * 1024 ≤ (i 1 : Nat) ∧ (i 1 : Nat) < win0_2.index t 1 * 1024 + 1024; rw [e1]; omega
  | ⟨2, _⟩ => show win0_2.index t 2 * 512 ≤ (i 2 : Nat) ∧ (i 2 : Nat) < win0_2.index t 2 * 512 + 512; rw [e2]; omega

/-- The blocks tile the result: the column tile `o` is written from column tile 2 when `o = 8`, from `o` when below 2 and
    from `o + 1` otherwise. -/
theorem cover (i : S8x2048x4608.Idx) : ∃ t : Fin cfg0.N, (cfg0.win 2).flush t = true ∧ i ∈ ((cfg0.win 2).blk t).view.set := by
  have h0 : (i 0 : Nat) < 8 := (i 0).isLt
  have h1 : (i 1 : Nat) < 2048 := (i 1).isLt
  have h2 : (i 2 : Nat) < 4608 := (i 2).isLt
  obtain ⟨j, hj, hj'⟩ : ∃ j < 9, otile j = (i 2 : Nat) / 512 := by
    have h : (i 2 : Nat) / 512 < 9 := by omega
    revert h
    generalize (i 2 : Nat) / 512 = o
    intro h
    interval_cases o <;> decide
  have ht : (i 0 : Nat) * 18 + (i 1 : Nat) / 1024 * 9 + j < cfg0.N := by have hN : cfg0.N = 144 := N_0; omega
  refine ⟨⟨(i 0 : Nat) * 18 + (i 1 : Nat) / 1024 * 9 + j, ht⟩, flush0_2 _, mem_blk _ i ?_ ?_ ?_⟩ <;> dsimp only
  · omega
  · omega
  · have : ((i 0 : Nat) * 18 + (i 1 : Nat) / 1024 * 9 + j) % 9 = j := by omega
    rw [this, hj']; omega

/-- THE KERNEL'S RUN: it ends with the projection in its result and its arguments as they were. -/
theorem run : θ_run defs (onTc (τ := τ) (main (F := Ideal))) ⟨m, fun _ => 0, ρ⟩ fun r => ∀ c : Dev nD,
      r.2.mem ((c : Thread nD τ).loc main_v2) = inproj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.InProjBIdeal.Val

namespace Cert.InProjBRefIdeal.Val

open Cert.InProjBRefIdeal Cert.InProjBRefIdeal.Read

/-- The reference's product, index by index. -/
theorem prod_apply (h : FVec Ideal S8x2048x2048 .bf16) (w : FVec Ideal S2x2048x10752 .f32) (b : Fin 8) (s : Fin 2048) (n : Fin 10752) :
    val_main_v3 (F := Ideal) h w (ix3 b s n) = ∑ k : Fin 2048, (h (ix3 b s k) : EReal) * w (ix3 (1 : Fin 2) k n) := by
  pointwise [val_main_v3, val_main_v2, val_main_v1, val_main_v0]

/-- THE REFERENCE'S RESULT is the projection in the packed layout. -/
theorem result (h : FVec Ideal S8x2048x2048 .bf16) (w : FVec Ideal S2x2048x10752 .f32) :
    val_main_v9 (F := Ideal) h w = Cert.InProjBIdeal.Val.inproj h w := by
  funext j
  obtain ⟨b, s, n, rfl⟩ : ∃ b s n, j = ix3 (n0 := 8) (n1 := 2048) (n2 := 4608) b s n := ⟨_, _, _, eq_ix3 j⟩
  have hn := n.isLt
  have key : ∀ q : Fin 10752, q = Cert.InProjBIdeal.Val.wcol n →
      val_main_v3 (F := Ideal) h w (ix3 b s q) = Cert.InProjBIdeal.Val.inproj h w (ix3 b s n) := by
    rintro q rfl; exact prod_apply h w b s _
  unfold val_main_v9 val_main_v4 val_main_v5 val_main_v6 val_main_v7 val_main_v8
  pointwise
  split_ifs <;> refine key _ (Fin.ext ?_) <;> simp only [Cert.InProjBIdeal.Val.wcol] <;> split_ifs <;> omega

end Cert.InProjBRefIdeal.Val

end
-- ==== Proof.InProjBClaims.lean ====
/-
  THE PROJECTION'S CLAIMS (hand-written): its frames, and that kernel and reference agree at the extended reals.
-/
module

public import proofs.«01_k».proof.Defs
public import proofs.«01_k».proof.Proof.Gen.InProjB
public import proofs.«01_k».proof.Proof.Gen.InProjB.Frame
public import proofs.«01_k».proof.Proof.Gen.InProjBIdeal
public import proofs.«01_k».proof.Proof.Gen.InProjBIdeal.Frame
public import proofs.«01_k».proof.Proof.Gen.InProjBRefIdeal
public import proofs.«01_k».proof.Proof.Gen.InProjBRefIdeal.Run
public import proofs.«01_k».proof.Proof.Gen.InProjBRefIdeal.Read
public import proofs.«01_k».proof.Proof.InProjBValue
public import Idealize.ShloMosaic.Adequacy
public import Idealize.ShloMosaic.Init

@[expose] public section

set_option maxRecDepth 16384

noncomputable section

open Idealize.ShloMosaic Idealize.ShloMosaic.TcCoe Idealize.SL.Sem

namespace Cert.InProjB.Claims

/-- The kernel runs and leaves its arguments as launched. -/
theorem kernel : Cert.quiescent_InProjB (hInProjB := Cert.InProjB.Gen.facts) :=
  fun m ρ _ => Cert.InProjB.Gen.frame m ρ

/-- So does the kernel at the extended reals. -/
theorem ideal : Cert.quiescent_InProjBIdeal (hInProjBIdeal := Cert.InProjBIdeal.Gen.facts) :=
  fun m ρ _ => Cert.InProjBIdeal.Gen.frame m ρ

/-- So does the reference. -/
theorem reference : Cert.quiescent_InProjBRefIdeal (hInProjBRefIdeal := Cert.InProjBRefIdeal.Gen.facts) :=
  fun m ρ _ => (θ_run Cert.InProjBRefIdeal.defs _ _).mono (fun r h => ⟨fun c => ⟨(h c).2.1, (h c).2.2⟩,
    Idealize.ShloMosaic.sem_eq_zero_of_no_sems (by decide) r.2⟩) (Cert.InProjBRefIdeal.Value.run (F := Ideal) m ρ)

/-- Idealizing the kernel replaced nothing. -/
theorem preserves : Cert.preserves_InProjB_InProjBIdeal := trivial

/-- From the same arguments the kernel and its reference leave the same result. -/
theorem value : Cert.algebraic_InProjBIdeal_InProjBRefIdeal (hInProjBIdeal := Cert.InProjBIdeal.Gen.facts) (hInProjBRefIdeal := Cert.InProjBRefIdeal.Gen.facts) := by
  intro m ρ m' ρ' _ hag
  refine ⟨fun c => Cert.InProjBIdeal.Val.inproj (m ((c.tc : Thread Cert.InProjBIdeal.nD Cert.InProjBIdeal.τ).loc Cert.InProjBIdeal.main_arg0)) (m ((c.tc : Thread Cert.InProjBIdeal.nD Cert.InProjBIdeal.τ).loc Cert.InProjBIdeal.main_arg1)),
    ?_, ?_⟩
  · exact Cert.InProjBIdeal.Val.run m ρ
  · refine (θ_run Cert.InProjBRefIdeal.defs _ _).mono (fun r h c => ?_) (Cert.InProjBRefIdeal.Value.run (F := Ideal) m' ρ')
    obtain ⟨a0, a1⟩ := hag c
    refine ⟨(h c).1.trans ((Cert.InProjBRefIdeal.Read.val_main_v9_eq _ _).trans ((Cert.InProjBRefIdeal.Val.result _ _).trans ?_)), (h c).2⟩
    · rw [a0, a1]

end Cert.InProjB.Claims

end
-- ==== Proof.MergeBValue.lean ====
/-
  THE GATED MERGE'S VALUE (hand-written): the kernel `MergeBIdeal` leaves in its four results the merged branches (`merged`:
  at every sequence, position and column the sum over the three branches of a sigmoid gate times the branch's product with
  its weights) and the three expert weights of layer 1 in the order the next kernel reads them (`rows`), and its reference
  `MergeBRefIdeal` the same.

  The kernel works at one (1024, 256) tile of the result per point of the grid (8, 2, 8), with the gates' and the branches'
  products for that tile; beside it, it casts one slab of each of the expert weights. At the extended reals a change of
  format is the identity and the sums are in the same order, so no algebra is needed.
-/
module

public import proofs.«01_k».proof.Defs
public import proofs.«01_k».proof.Proof.Gen.MergeBIdeal.Value
public import proofs.«01_k».proof.Proof.Gen.MergeBRefIdeal.Run
public import proofs.«01_k».proof.Proof.Gen.MergeBRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MergeBIdeal.Val

open Cert.MergeBIdeal Cert.MergeBIdeal.Gen

/-- Branch `k`'s gate before the sigmoid: the hidden values times column `4608 + 2048 k + n` of layer 1's weights. -/
def gate (h : FVec Ideal S8x2048x2048 .bf16) (w : FVec Ideal S2x2048x10752 .f32) (k : Fin 3) (b : Fin 8) (s n : Fin 2048) : EReal :=
  ∑ d : Fin 2048, (h (ix3 b s d) : EReal) * w (ix3 (1 : Fin 2) d (⟨4608 + 2048 * k.val + n.val, by omega⟩ : Fin 10752))

/-- Branch `k`'s product with its weights. -/
def branch (x : FVec Ideal S8x2048x1024 .bf16) (w : FVec Ideal S2x3x1024x2048 .f32) (k : Fin 3) (b : Fin 8) (s n : Fin 2048) : EReal :=
  ∑ d : Fin 1024, (x (ix3 b s d) : EReal) * w (ix4 (1 : Fin 2) k d n)

/-- The gated merge at one sequence, position and column. -/
def mergedAt (h : FVec Ideal S8x2048x2048 .bf16) (x y z : FVec Ideal S8x2048x1024 .bf16) (w : FVec Ideal S2x2048x10752 .f32)
    (wb : FVec Ideal S2x3x1024x2048 .f32) (b : Fin 8) (s n : Fin 2048) : EReal :=
  Ideal.logistic (gate h w 0 b s n) * branch x wb 0 b s n + Ideal.logistic (gate h w 1 b s n) * branch y wb 1 b s n
    + Ideal.logistic (gate h w 2 b s n) * branch z wb 2 b s n

/-- The gated merge, index by index. -/
def merged (h : FVec Ideal S8x2048x2048 .bf16) (x y z : FVec Ideal S8x2048x1024 .bf16) (w : FVec Ideal S2x2048x10752 .f32)
    (wb : FVec Ideal S2x3x1024x2048 .f32) : FVec Ideal S8x2048x2048 .bf16 :=
  fun i => mergedAt h x y z w wb (i 0) (i 1) (i 2)

/-- Layer 0's gate or up weights, their 16 · 2048 rows in slabs of 256. -/
def rows (w : FVec Ideal S2x16x2048x1024 .f32) : FVec Ideal S128x256x1024 .bf16 :=
  fun i => w (ix4 (1 : Fin 2) (⟨(i 0).val / 8, by have h : (i 0).val < 128 := (i 0).isLt; omega⟩ : Fin 16)
    (⟨(i 0).val % 8 * 256 + (i 1).val, by have h : (i 1).val < 256 := (i 1).isLt; omega⟩ : Fin 2048) (i 2))

/-- Layer 0's down weights, their 16 · 1024 rows in slabs of 128. -/
def rowsDown (w : FVec Ideal S2x16x1024x2048 .f32) : FVec Ideal S128x128x2048 .bf16 :=
  fun i => w (ix4 (1 : Fin 2) (⟨(i 0).val / 8, by have h : (i 0).val < 128 := (i 0).isLt; omega⟩ : Fin 16)
    (⟨(i 0).val % 8 * 128 + (i 1).val, by have h : (i 1).val < 128 := (i 1).isLt; omega⟩ : Fin 1024) (i 2))

variable (m : (ℓ : Loc nD τ sig) → Buf (Elt Ideal) ℓ) (ρ : Dev nD → PrngReg)

theorem lt_N (t : Fin cfg0.N) : t.val < 128 := lt_of_lt_of_eq t.isLt N_0

/-- The branch weights as the kernel stages them: the argument (a change of format is the identity). -/
theorem V_v0 (c : Dev nD) (i : S2x3x1024x2048.Idx) : V m c main_v0 i = m ((c : Thread nD τ).loc main_arg5) i := by
  have h : V m c main_v0 = truncf (F := Ideal) .bf16 (m ((c : Thread nD τ).loc main_arg5) : FVec Ideal S2x3x1024x2048 .f32) bitsLt_bf16_f32 := by
    show StableHlo.after hostOps0 (fun b => m (c, b)) (Proc.devRef .tc main_v0) = _
    after_results
  rw [h]; rfl

/-- The three expert weights as the kernel stages them: the arguments reshaped. -/
theorem V_v1 (c : Dev nD) : V m c main_v1 = shapeCast S2x128x256x1024 (m ((c : Thread nD τ).loc main_arg6)) shapeCasts_S2x16x2048x1024_S2x128x256x1024 := by
  show StableHlo.after hostOps0 (fun b => m (c, b)) (Proc.devRef .tc main_v1) = _
  after_results
  rfl
theorem V_v2 (c : Dev nD) : V m c main_v2 = shapeCast S2x128x256x1024 (m ((c : Thread nD τ).loc main_arg7)) shapeCasts_S2x16x2048x1024_S2x128x256x1024 := by
  show StableHlo.after hostOps0 (fun b => m (c, b)) (Proc.devRef .tc main_v2) = _
  after_results
  rfl
theorem V_v3 (c : Dev nD) : V m c main_v3 = shapeCast S2x128x128x2048 (m ((c : Thread nD τ).loc main_arg8)) shapeCasts_S2x16x1024x2048_S2x128x128x2048 := by
  show StableHlo.after hostOps0 (fun b => m (c, b)) (Proc.devRef .tc main_v3) = _
  after_results
  rfl

/-! ## The windows' index maps and blocks -/

theorem index0 : ∀ t : Fin cfg0.N, win0_0.index t 0 = t.val / 16 ∧ win0_0.index t 1 = t.val / 8 % 2 ∧ win0_0.index t 2 = 0 :=
  (by decide +kernel : ∀ t : Fin grid0.N, win0_0.index t 0 = t.val / 16 ∧ win0_0.index t 1 = t.val / 8 % 2 ∧ win0_0.index t 2 = 0)
theorem index1 : ∀ t : Fin cfg0.N, win0_1.index t 0 = t.val / 16 ∧ win0_1.index t 1 = t.val / 8 % 2 ∧ win0_1.index t 2 = 0 :=
  (by decide +kernel : ∀ t : Fin grid0.N, win0_1.index t 0 = t.val / 16 ∧ win0_1.index t 1 = t.val / 8 % 2 ∧ win0_1.index t 2 = 0)
theorem index2 : ∀ t : Fin cfg0.N, win0_2.index t 0 = t.val / 16 ∧ win0_2.index t 1 = t.val / 8 % 2 ∧ win0_2.index t 2 = 0 :=
  (by decide +kernel : ∀ t : Fin grid0.N, win0_2.index t 0 = t.val / 16 ∧ win0_2.index t 1 = t.val / 8 % 2 ∧ win0_2.index t 2 = 0)
theorem index3 : ∀ t : Fin cfg0.N, win0_3.index t 0 = t.val / 16 ∧ win0_3.index t 1 = t.val / 8 % 2 ∧ win0_3.index t 2 = 0 :=
  (by decide +kernel : ∀ t : Fin grid0.N, win0_3.index t 0 = t.val / 16 ∧ win0_3.index t 1 = t.val / 8 % 2 ∧ win0_3.index t 2 = 0)
theorem index4 : ∀ t : Fin cfg0.N, win0_4.index t 0 = 1 ∧ win0_4.index t 1 = 0 ∧ win0_4.index t 2 = 18 + t.val % 8 :=
  (by decide +kernel : ∀ t : Fin grid0.N, win0_4.index t 0 = 1 ∧ win0_4.index t 1 = 0 ∧ win0_4.index t 2 = 18 + t.val % 8)
theorem index5 : ∀ t : Fin cfg0.N, win0_5.index t 0 = 1 ∧ win0_5.index t 1 = 0 ∧ win0_5.index t 2 = 26 + t.val % 8 :=
  (by decide +kernel : ∀ t : Fin grid0.N, win0_5.index t 0 = 1 ∧ win0_5.index t 1 = 0 ∧ win0_5.index t 2 = 26 + t.val % 8)
theorem index6 : ∀ t : Fin cfg0.N, win0_6.index t 0 = 1 ∧ win0_6.index t 1 = 0 ∧ win0_6.index t 2 = 34 + t.val % 8 :=
  (by decide +kernel : ∀ t : Fin grid0.N, win0_6.index t 0 = 1 ∧ win0_6.index t 1 = 0 ∧ win0_6.index t 2 = 34 + t.val % 8)
theorem index7 : ∀ t : Fin cfg0.N, win0_7.index t 0 = 1 ∧ win0_7.index t 1 = 0 ∧ win0_7.index t 2 = 0 ∧ win0_7.index t 3 = t.val % 8 :=
  (by decide +kernel : ∀ t : Fin grid0.N, win0_7.index t 0 = 1 ∧ win0_7.index t 1 = 0 ∧ win0_7.index t 2 = 0 ∧ win0_7.index t 3 = t.val % 8)
theorem index8 : ∀ t : Fin cfg0.N, win0_8.index t 0 = 1 ∧ win0_8.index t 1 = 1 ∧ win0_8.index t 2 = 0 ∧ win0_8.index t 3 = t.val % 8 :=
  (by decide +kernel : ∀ t : Fin grid0.N, win0_8.index t 0 = 1 ∧ win0_8.index t 1 = 1 ∧ win0_8.index t 2 = 0 ∧ win0_8.index t 3 = t.val % 8)
theorem index9 : ∀ t : Fin cfg0.N, win0_9.index t 0 = 1 ∧ win0_9.index t 1 = 2 ∧ win0_9.index t 2 = 0 ∧ win0_9.index t 3 = t.val % 8 :=
  (by decide +kernel : ∀ t : Fin grid0.N, win0_9.index t 0 = 1 ∧ win0_9.index t 1 = 2 ∧ win0_9.index t 2 = 0 ∧ win0_9.index t 3 = t.val % 8)
theorem index10 : ∀ t : Fin cfg0.N, win0_10.index t 0 = 1 ∧ win0_10.index t 1 = t.val ∧ win0_10.index t 2 = 0 ∧ win0_10.index t 3 = 0 :=
  (by decide +kernel : ∀ t : Fin grid0.N, win0_10.index t 0 = 1 ∧ win0_10.index t 1 = t.val ∧ win0_10.index t 2 = 0 ∧ win0_10.index t 3 = 0)
theorem index11 : ∀ t : Fin cfg0.N, win0_11.index t 0 = 1 ∧ win0_11.index t 1 = t.val ∧ win0_11.index t 2 = 0 ∧ win0_11.index t 3 = 0 :=
  (by decide +kernel : ∀ t : Fin grid0.N, win0_11.index t 0 = 1 ∧ win0_11.index t 1 = t.val ∧ win0_11.index t 2 = 0 ∧ win0_11.index t 3 = 0)
theorem index12 : ∀ t : Fin cfg0.N, win0_12.index t 0 = 1 ∧ win0_12.index t 1 = t.val ∧ win0_12.index t 2 = 0 ∧ win0_12.index t 3 = 0 :=
  (by decide +kernel : ∀ t : Fin grid0.N, win0_12.index t 0 = 1 ∧ win0_12.index t 1 = t.val ∧ win0_12.index t 2 = 0 ∧ win0_12.index t 3 = 0)
theorem index13 : ∀ t : Fin cfg0.N, win0_13.index t 0 = t.val / 16 ∧ win0_13.index t 1 = t.val / 8 % 2 ∧ win0_13.index t 2 = t.val % 8 :=
  (by decide +kernel : ∀ t : Fin grid0.N, win0_13.index t 0 = t.val / 16 ∧ win0_13.index t 1 = t.val / 8 % 2 ∧ win0_13.index t 2 = t.val % 8)
theorem index14 : ∀ t : Fin cfg0.N, win0_14.index t 0 = t.val ∧ win0_14.index t 1 = 0 ∧ win0_14.index t 2 = 0 :=
  (by decide +kernel : ∀ t : Fin grid0.N, win0_14.index t 0 = t.val ∧ win0_14.index t 1 = 0 ∧ win0_14.index t 2 = 0)
theorem index15 : ∀ t : Fin cfg0.N, win0_15.index t 0 = t.val ∧ win0_15.index t 1 = 0 ∧ win0_15.index t 2 = 0 :=
  (by decide +kernel : ∀ t : Fin grid0.N, win0_15.index t 0 = t.val ∧ win0_15.index t 1 = 0 ∧ win0_15.index t 2 = 0)
theorem index16 : ∀ t : Fin cfg0.N, win0_16.index t 0 = t.val ∧ win0_16.index t 1 = 0 ∧ win0_16.index t 2 = 0 :=
  (by decide +kernel : ∀ t : Fin grid0.N, win0_16.index t 0 = t.val ∧ win0_16.index t 1 = 0 ∧ win0_16.index t 2 = 0)

/-- The hidden values' block: sequence `t / 16`, rows from `1024 (t / 8 % 2)`. -/
theorem blk0 (c : Dev nD) (t : Fin cfg0.N) (u : Fin 1) (r : Fin 1024) (k : Fin 2048) : iblk m c 0 t (ix3 u r k) = m ((c : Thread nD τ).loc main_arg0)
      (ix3 (⟨t.val / 16, by have := lt_N t; omega⟩ : Fin 8) (⟨t.val / 8 % 2 * 1024 + r.val, by omega⟩ : Fin 2048) k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val / 16 * 1 + u.val = t.val / 16; omega
  | ⟨1, _⟩ => refine (Pipeline.Window.rect_emb_val win0_0 t (ix3 u r k) 1).trans ?_; rw [e1]; show t.val / 8 % 2 * 1024 + r.val = t.val / 8 % 2 * 1024 + r.val; omega
  | ⟨2, _⟩ => refine (Pipeline.Window.rect_emb_val win0_0 t (ix3 u r k) 2).trans ?_; rw [e2]; show 0 * 2048 + k.val = k.val; omega

/-- Branch 0's block: the same rows. -/
theorem blk1 (c : Dev nD) (t : Fin cfg0.N) (u : Fin 1) (r : Fin 1024) (k : Fin 1024) : iblk m c 1 t (ix3 u r k) = m ((c : Thread nD τ).loc main_arg1)
      (ix3 (⟨t.val / 16, by have := lt_N t; omega⟩ : Fin 8) (⟨t.val / 8 % 2 * 1024 + r.val, by omega⟩ : Fin 2048) k) := by
  refine Eq.trans ?_ (congrFun (V_main_arg1 m c) _)
  show V m c (Pipeline.arrRef spec0 1) ((win0_1.rect t).emb (ix3 u r k)) = _
  refine congrArg _ (funext fun a => Fin.ext ?_)
  obtain ⟨e0, e1, e2⟩ := index1 t
  match a with
  | ⟨0, _⟩ => refine (Pipeline.Window.rect_emb_val win0_1 t (ix3 u r k) 0).trans ?_; rw [e0]; show t.val / 16 * 1 + u.val = t.val / 16; omega
  | ⟨1, _⟩ => refine (Pipeline.Window.rect_emb_val win0_1 t (ix3 u r k) 1).trans ?_; rw [e1]; show t.val / 8 % 2 * 1024 + r.val = t.val / 8 % 2 * 1024 + r.val; omega
  | ⟨2, _⟩ => refine (Pipeline.Window.rect_emb_val win0_1 t (ix3 u r k) 2).trans ?_; rw [e2]; show 0 * 1024 + k.val = k.val; omega

/-- Branch 1's block: the same rows. -/
theorem blk2 (c : Dev nD) (t : Fin cfg0.N) (u : Fin 1) (r : Fin 1024) (k : Fin 1024) : iblk m c 2 t (ix3 u r k) = m ((c : Thread nD τ).loc main_arg2)
      (ix3 (⟨t.val / 16, by have := lt_N t; omega⟩ : Fin 8) (⟨t.val / 8 % 2 * 1024 + r.val, by omega⟩ : Fin 2048) k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val / 16 * 1 + u.val = t.val / 16; omega
  | ⟨1, _⟩ => refine (Pipeline.Window.rect_emb_val win0_2 t (ix3 u r k) 1).trans ?_; rw [e1]; show t.val / 8 % 2 * 1024 + r.val = t.val / 8 % 2 * 1024 + r.val; omega
  | ⟨2, _⟩ => refine (Pipeline.Window.rect_emb_val win0_2 t (ix3 u r k) 2).trans ?_; rw [e2]; show 0 * 1024 + k.val = k.val; omega

/-- Branch 2's block: the same rows. -/
theorem blk3 (c : Dev nD) (t : Fin cfg0.N) (u : Fin 1) (r : Fin 1024) (k : Fin 1024) : iblk m c 3 t (ix3 u r k) = m ((c : Thread nD τ).loc main_arg3)
      (ix3 (⟨t.val / 16, by have := lt_N t; omega⟩ : Fin 8) (⟨t.val / 8 % 2 * 1024 + r.val, by omega⟩ : Fin 2048) k) := by
  refine Eq.trans ?_ (congrFun (V_main_arg3 m c) _)
  show V m c (Pipeline.arrRef spec0 3) ((win0_3.rect t).emb (ix3 u r k)) = _
  refine congrArg _ (funext fun a => Fin.ext ?_)
  obtain ⟨e0, e1, e2⟩ := index3 t
  match a with
  | ⟨0, _⟩ => refine (Pipeline.Window.rect_emb_val win0_3 t (ix3 u r k) 0).trans ?_; rw [e0]; show t.val / 16 * 1 + u.val = t.val / 16; omega
  | ⟨1, _⟩ => refine (Pipeline.Window.rect_emb_val win0_3 t (ix3 u r k) 1).trans ?_; rw [e1]; show t.val / 8 % 2 * 1024 + r.val = t.val / 8 % 2 * 1024 + r.val; omega
  | ⟨2, _⟩ => refine (Pipeline.Window.rect_emb_val win0_3 t (ix3 u r k) 2).trans ?_; rw [e2]; show 0 * 1024 + k.val = k.val; omega

/-- Gate 0's weights: columns from `256 (18 + t % 8)` of layer 1's weights. -/
theorem blk4 (c : Dev nD) (t : Fin cfg0.N) (u : Fin 1) (k : Fin 2048) (n : Fin 256) : iblk m c 4 t (ix3 u k n) = m ((c : Thread nD τ).loc main_arg4)
      (ix3 (1 : Fin 2) k (⟨(18 + t.val % 8) * 256 + n.val, by omega⟩ : Fin 10752)) := by
  refine Eq.trans ?_ (congrFun (V_main_arg4 m c) _)
  show V m c (Pipeline.arrRef spec0 4) ((win0_4.rect t).emb (ix3 u k n)) = _
  refine congrArg _ (funext fun a => Fin.ext ?_)
  obtain ⟨e0, e1, e2⟩ := index4 t
  match a with
  | ⟨0, _⟩ => refine (Pipeline.Window.rect_emb_val win0_4 t (ix3 u k n) 0).trans ?_; rw [e0]; show 1 * 1 + u.val = 1; omega
  | ⟨1, _⟩ => refine (Pipeline.Window.rect_emb_val win0_4 t (ix3 u k n) 1).trans ?_; rw [e1]; show 0 * 2048 + k.val = k.val; omega
  | ⟨2, _⟩ => refine (Pipeline.Window.rect_emb_val win0_4 t (ix3 u k n) 2).trans ?_; rw [e2]; show (18 + t.val % 8) * 256 + n.val = (18 + t.val % 8) * 256 + n.val; omega

/-- Gate 1's weights: columns from `256 (26 + t % 8)` of layer 1's weights. -/
theorem blk5 (c : Dev nD) (t : Fin cfg0.N) (u : Fin 1) (k : Fin 2048) (n : Fin 256) : iblk m c 5 t (ix3 u k n) = m ((c : Thread nD τ).loc main_arg4)
      (ix3 (1 : Fin 2) k (⟨(26 + t.val % 8) * 256 + n.val, by omega⟩ : Fin 10752)) := by
  refine Eq.trans ?_ (congrFun (V_main_arg4 m c) _)
  show V m c (Pipeline.arrRef spec0 5) ((win0_5.rect t).emb (ix3 u k n)) = _
  refine congrArg _ (funext fun a => Fin.ext ?_)
  obtain ⟨e0, e1, e2⟩ := index5 t
  match a with
  | ⟨0, _⟩ => refine (Pipeline.Window.rect_emb_val win0_5 t (ix3 u k n) 0).trans ?_; rw [e0]; show 1 * 1 + u.val = 1; omega
  | ⟨1, _⟩ => refine (Pipeline.Window.rect_emb_val win0_5 t (ix3 u k n) 1).trans ?_; rw [e1]; show 0 * 2048 + k.val = k.val; omega
  | ⟨2, _⟩ => refine (Pipeline.Window.rect_emb_val win0_5 t (ix3 u k n) 2).trans ?_; rw [e2]; show (26 + t.val % 8) * 256 + n.val = (26 + t.val % 8) * 256 + n.val; omega

/-- Gate 2's weights: columns from `256 (34 + t % 8)` of layer 1's weights. -/
theorem blk6 (c : Dev nD) (t : Fin cfg0.N) (u : Fin 1) (k : Fin 2048) (n : Fin 256) : iblk m c 6 t (ix3 u k n) = m ((c : Thread nD τ).loc main_arg4)
      (ix3 (1 : Fin 2) k (⟨(34 + t.val % 8) * 256 + n.val, by omega⟩ : Fin 10752)) := by
  refine Eq.trans ?_ (congrFun (V_main_arg4 m c) _)
  show V m c (Pipeline.arrRef spec0 6) ((win0_6.rect t).emb (ix3 u k n)) = _
  refine congrArg _ (funext fun a => Fin.ext ?_)
  obtain ⟨e0, e1, e2⟩ := index6 t
  match a with
  | ⟨0, _⟩ => refine (Pipeline.Window.rect_emb_val win0_6 t (ix3 u k n) 0).trans ?_; rw [e0]; show 1 * 1 + u.val = 1; omega
  | ⟨1, _⟩ => refine (Pipeline.Window.rect_emb_val win0_6 t (ix3 u k n) 1).trans ?_; rw [e1]; show 0 * 2048 + k.val = k.val; omega
  | ⟨2, _⟩ => refine (Pipeline.Window.rect_emb_val win0_6 t (ix3 u k n) 2).trans ?_; rw [e2]; show (34 + t.val % 8) * 256 + n.val = (34 + t.val % 8) * 256 + n.val; omega

/-- Branch 0's weights: columns from `256 (t % 8)`. -/
theorem blk7 (c : Dev nD) (t : Fin cfg0.N) (u : Fin 1) (v : Fin 1) (k : Fin 1024) (n : Fin 256) : iblk m c 7 t (ix4 u v k n) = m ((c : Thread nD τ).loc main_arg5)
      (ix4 (1 : Fin 2) (0 : Fin 3) k (⟨t.val % 8 * 256 + n.val, by omega⟩ : Fin 2048)) := by
  refine Eq.trans ?_ (V_v0 m c _)
  show V m c (Pipeline.arrRef spec0 7) ((win0_7.rect t).emb (ix4 u v k n)) = _
  refine congrArg _ (funext fun a => Fin.ext ?_)
  obtain ⟨e0, e1, e2, e3⟩ := index7 t
  match a with
  | ⟨0, _⟩ => refine (Pipeline.Window.rect_emb_val win0_7 t (ix4 u v k n) 0).trans ?_; rw [e0]; show 1 * 1 + u.val = 1; omega
  | ⟨1, _⟩ => refine (Pipeline.Window.rect_emb_val win0_7 t (ix4 u v k n) 1).trans ?_; rw [e1]; show 0 * 1 + v.val = 0; omega
  | ⟨2, _⟩ => refine (Pipeline.Window.rect_emb_val win0_7 t (ix4 u v k n) 2).trans ?_; rw [e2]; show 0 * 1024 + k.val = k.val; omega
  | ⟨3, _⟩ => refine (Pipeline.Window.rect_emb_val win0_7 t (ix4 u v k n) 3).trans ?_; rw [e3]; show t.val % 8 * 256 + n.val = t.val % 8 * 256 + n.val; omega

/-- Branch 1's weights: columns from `256 (t % 8)`. -/
theorem blk8 (c : Dev nD) (t : Fin cfg0.N) (u : Fin 1) (v : Fin 1) (k : Fin 1024) (n : Fin 256) : iblk m c 8 t (ix4 u v k n) = m ((c : Thread nD τ).loc main_arg5)
      (ix4 (1 : Fin 2) (1 : Fin 3) k (⟨t.val % 8 * 256 + n.val, by omega⟩ : Fin 2048)) := by
  refine Eq.trans ?_ (V_v0 m c _)
  show V m c (Pipeline.arrRef spec0 8) ((win0_8.rect t).emb (ix4 u v k n)) = _
  refine congrArg _ (funext fun a => Fin.ext ?_)
  obtain ⟨e0, e1, e2, e3⟩ := index8 t
  match a with
  | ⟨0, _⟩ => refine (Pipeline.Window.rect_emb_val win0_8 t (ix4 u v k n) 0).trans ?_; rw [e0]; show 1 * 1 + u.val = 1; omega
  | ⟨1, _⟩ => refine (Pipeline.Window.rect_emb_val win0_8 t (ix4 u v k n) 1).trans ?_; rw [e1]; show 1 * 1 + v.val = 1; omega
  | ⟨2, _⟩ => refine (Pipeline.Window.rect_emb_val win0_8 t (ix4 u v k n) 2).trans ?_; rw [e2]; show 0 * 1024 + k.val = k.val; omega
  | ⟨3, _⟩ => refine (Pipeline.Window.rect_emb_val win0_8 t (ix4 u v k n) 3).trans ?_; rw [e3]; show t.val % 8 * 256 + n.val = t.val % 8 * 256 + n.val; omega

/-- Branch 2's weights: columns from `256 (t % 8)`. -/
theorem blk9 (c : Dev nD) (t : Fin cfg0.N) (u : Fin 1) (v : Fin 1) (k : Fin 1024) (n : Fin 256) : iblk m c 9 t (ix4 u v k n) = m ((c : Thread nD τ).loc main_arg5)
      (ix4 (1 : Fin 2) (2 : Fin 3) k (⟨t.val % 8 * 256 + n.val, by omega⟩ : Fin 2048)) := by
  refine Eq.trans ?_ (V_v0 m c _)
  show V m c (Pipeline.arrRef spec0 9) ((win0_9.rect t).emb (ix4 u v k n)) = _
  refine congrArg _ (funext fun a => Fin.ext ?_)
  obtain ⟨e0, e1, e2, e3⟩ := index9 t
  match a with
  | ⟨0, _⟩ => refine (Pipeline.Window.rect_emb_val win0_9 t (ix4 u v k n) 0).trans ?_; rw [e0]; show 1 * 1 + u.val = 1; omega
  | ⟨1, _⟩ => refine (Pipeline.Window.rect_emb_val win0_9 t (ix4 u v k n) 1).trans ?_; rw [e1]; show 2 * 1 + v.val = 2; omega
  | ⟨2, _⟩ => refine (Pipeline.Window.rect_emb_val win0_9 t (ix4 u v k n) 2).trans ?_; rw [e2]; show 0 * 1024 + k.val = k.val; omega
  | ⟨3, _⟩ => refine (Pipeline.Window.rect_emb_val win0_9 t (ix4 u v k n) 3).trans ?_; rw [e3]; show t.val % 8 * 256 + n.val = t.val % 8 * 256 + n.val; omega

/-- The expert weights' block, of the reshaped argument 6. -/
theorem blk10 (c : Dev nD) (t : Fin cfg0.N) (u : Fin 1) (v : Fin 1) (k : Fin 256) (n : Fin 1024) : iblk m c 10 t (ix4 u v k n) = shapeCast S2x128x256x1024 (m ((c : Thread nD τ).loc main_arg6)) shapeCasts_S2x16x2048x1024_S2x128x256x1024
      (ix4 (1 : Fin 2) (⟨t.val, lt_N t⟩ : Fin 128) k n) := by
  refine Eq.trans ?_ (congrFun (V_v1 m c) _)
  show V m c (Pipeline.arrRef spec0 10) ((win0_10.rect t).emb (ix4 u v k n)) = _
  refine congrArg _ (funext fun a => Fin.ext ?_)
  obtain ⟨e0, e1, e2, e3⟩ := index10 t
  match a with
  | ⟨0, _⟩ => refine (Pipeline.Window.rect_emb_val win0_10 t (ix4 u v k n) 0).trans ?_; rw [e0]; show 1 * 1 + u.val = 1; omega
  | ⟨1, _⟩ => refine (Pipeline.Window.rect_emb_val win0_10 t (ix4 u v k n) 1).trans ?_; rw [e1]; show t.val * 1 + v.val = t.val; omega
  | ⟨2, _⟩ => refine (Pipeline.Window.rect_emb_val win0_10 t (ix4 u v k n) 2).trans ?_; rw [e2]; show 0 * 256 + k.val = k.val; omega
  | ⟨3, _⟩ => refine (Pipeline.Window.rect_emb_val win0_10 t (ix4 u v k n) 3).trans ?_; rw [e3]; show 0 * 1024 + n.val = n.val; omega

/-- The expert weights' block, of the reshaped argument 7. -/
theorem blk11 (c : Dev nD) (t : Fin cfg0.N) (u : Fin 1) (v : Fin 1) (k : Fin 256) (n : Fin 1024) : iblk m c 11 t (ix4 u v k n) = shapeCast S2x128x256x1024 (m ((c : Thread nD τ).loc main_arg7)) shapeCasts_S2x16x2048x1024_S2x128x256x1024
      (ix4 (1 : Fin 2) (⟨t.val, lt_N t⟩ : Fin 128) k n) := by
  refine Eq.trans ?_ (congrFun (V_v2 m c) _)
  show V m c (Pipeline.arrRef spec0 11) ((win0_11.rect t).emb (ix4 u v k n)) = _
  refine congrArg _ (funext fun a => Fin.ext ?_)
  obtain ⟨e0, e1, e2, e3⟩ := index11 t
  match a with
  | ⟨0, _⟩ => refine (Pipeline.Window.rect_emb_val win0_11 t (ix4 u v k n) 0).trans ?_; rw [e0]; show 1 * 1 + u.val = 1; omega
  | ⟨1, _⟩ => refine (Pipeline.Window.rect_emb_val win0_11 t (ix4 u v k n) 1).trans ?_; rw [e1]; show t.val * 1 + v.val = t.val; omega
  | ⟨2, _⟩ => refine (Pipeline.Window.rect_emb_val win0_11 t (ix4 u v k n) 2).trans ?_; rw [e2]; show 0 * 256 + k.val = k.val; omega
  | ⟨3, _⟩ => refine (Pipeline.Window.rect_emb_val win0_11 t (ix4 u v k n) 3).trans ?_; rw [e3]; show 0 * 1024 + n.val = n.val; omega

/-- The expert weights' block, of the reshaped argument 8. -/
theorem blk12 (c : Dev nD) (t : Fin cfg0.N) (u : Fin 1) (v : Fin 1) (k : Fin 128) (n : Fin 2048) : iblk m c 12 t (ix4 u v k n) = shapeCast S2x128x128x2048 (m ((c : Thread nD τ).loc main_arg8)) shapeCasts_S2x16x1024x2048_S2x128x128x2048
      (ix4 (1 : Fin 2) (⟨t.val, lt_N t⟩ : Fin 128) k n) := by
  refine Eq.trans ?_ (congrFun (V_v3 m c) _)
  show V m c (Pipeline.arrRef spec0 12) ((win0_12.rect t).emb (ix4 u v k n)) = _
  refine congrArg _ (funext fun a => Fin.ext ?_)
  obtain ⟨e0, e1, e2, e3⟩ := index12 t
  match a with
  | ⟨0, _⟩ => refine (Pipeline.Window.rect_emb_val win0_12 t (ix4 u v k n) 0).trans ?_; rw [e0]; show 1 * 1 + u.val = 1; omega
  | ⟨1, _⟩ => refine (Pipeline.Window.rect_emb_val win0_12 t (ix4 u v k n) 1).trans ?_; rw [e1]; show t.val * 1 + v.val = t.val; omega
  | ⟨2, _⟩ => refine (Pipeline.Window.rect_emb_val win0_12 t (ix4 u v k n) 2).trans ?_; rw [e2]; show 0 * 128 + k.val = k.val; omega
  | ⟨3, _⟩ => refine (Pipeline.Window.rect_emb_val win0_12 t (ix4 u v k n) 3).trans ?_; rw [e3]; show 0 * 2048 + n.val = n.val; omega

/-! ## What the body computes, index by index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's tile of the merge. -/
theorem pay_apply (x0 : FVec Ideal S1x1024x2048 .bf16) (x1 x2 x3 : FVec Ideal S1x1024x1024 .bf16) (x4 x5 x6 : FVec Ideal S1x2048x256 .f32)
    (x7 x8 x9 : FVec Ideal S1x1x1024x256 .bf16) (u : Fin 1) (r : Fin 1024) (n : Fin 256) :
    k0_pay5 (F := Ideal) (k0_pay2 x0) (k0_pay3 x0 x4 x1 x7 x5 x2 x8) (k0_pay4 x6) x3 x9 (ix3 u r n)
      = Ideal.logistic (∑ d : Fin 2048, (x0 (ix3 0 r d) : EReal) * x4 (ix3 0 d n)) * (∑ d : Fin 1024, (x1 (ix3 0 r d) : EReal) * x7 (ix4 0 0 d n))
        + Ideal.logistic (∑ d : Fin 2048, (x0 (ix3 0 r d) : EReal) * x5 (ix3 0 d n)) * (∑ d : Fin 1024, (x2 (ix3 0 r d) : EReal) * x8 (ix4 0 0 d n))
        + Ideal.logistic (∑ d : Fin 2048, (x0 (ix3 0 r d) : EReal) * x6 (ix3 0 d n)) * (∑ d : Fin 1024, (x3 (ix3 0 r d) : EReal) * x9 (ix4 0 0 d n)) := by
  pointwise [k0_pay2, k0_pay3, k0_pay4, k0_pay5]

/-- The body's casts of the three slabs. -/
theorem pay6_apply (x : FVec Ideal S1x1x256x1024 .f32) (u : Fin 1) (r : Fin 256) (n : Fin 1024) :
    k0_pay6 (F := Ideal) x (ix3 u r n) = x (ix4 0 0 r n) := by
  pointwise [k0_pay6]
theorem pay7_apply (x : FVec Ideal S1x1x256x1024 .f32) (u : Fin 1) (r : Fin 256) (n : Fin 1024) :
    k0_pay7 (F := Ideal) x (ix3 u r n) = x (ix4 0 0 r n) := by
  pointwise [k0_pay7]
theorem pay1_apply (x : FVec Ideal S1x1x128x2048 .f32) (u : Fin 1) (r : Fin 128) (n : Fin 2048) :
    k0_pay1 (F := Ideal) x (ix3 u r n) = x (ix4 0 0 r n) := by
  pointwise [k0_pay1]

/-! ## What a point writes back -/

/-- The launch contents that the merge reads. -/
abbrev mergedOf (c : Dev nD) : FVec Ideal S8x2048x2048 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The merge at an index whose coordinates are known. -/
theorem merged_at (h : FVec Ideal S8x2048x2048 .bf16) (x y z : FVec Ideal S8x2048x1024 .bf16) (w : FVec Ideal S2x2048x10752 .f32)
    (wb : FVec Ideal S2x3x1024x2048 .f32) (i : S8x2048x2048.Idx) (b : Fin 8) (s n : Fin 2048)
    (h0 : (i 0).val = b.val) (h1 : (i 1).val = s.val) (h2 : (i 2).val = n.val) :
    merged h x y z w wb i = mergedAt h x y z w wb b s n := by
  obtain rfl : i 0 = b := Fin.ext h0
  obtain rfl : i 1 = s := Fin.ext h1
  obtain rfl : i 2 = n := Fin.ext h2
  rfl

/-- What point `t` writes back to the first result is its block of the merge. -/
theorem flushed13_eq (c : Dev nD) (t : Fin cfg0.N) :
    (dats m 0 c).flushed 13 t = (win0_13.blk t).view.read (Elt Ideal) (mergedOf m c) := by
  rw [Value.flushed13]
  unfold out0_13
  rw [View.canon_unit_zero hz3]
  rw [View.ld_unit_zero hz3, View.ld_unit_zero hz3, View.ld_unit_zero hz3, View.ld_unit_zero hz4, View.ld_unit_zero hz3, View.ld_unit_zero hz3,
    View.ld_unit_zero hz4, View.ld_unit_zero hz3, View.ld_unit_zero hz3, View.ld_unit_zero hz4]
  show (fun j : S1x1024x256.Idx => k0_pay5 (F := Ideal) (k0_pay2 (iblk m c 0 t)) (k0_pay3 (iblk m c 0 t) (iblk m c 4 t) (iblk m c 1 t)
      (iblk m c 7 t) (iblk m c 5 t) (iblk m c 2 t) (iblk m c 8 t)) (k0_pay4 (iblk m c 6 t)) (iblk m c 3 t) (iblk m c 9 t) j)
    = fun j : S1x1024x256.Idx => mergedOf m c ((win0_13.rect t).emb j)
  funext j
  obtain ⟨u, r, n, rfl⟩ : ∃ u r n, j = ix3 (n0 := 1) (n1 := 1024) (n2 := 256) u r n := ⟨_, _, _, eq_ix3 j⟩
  rw [pay_apply]
  obtain ⟨e0, e1, e2⟩ := index13 t
  have f0 : ((win0_13.rect t).emb (ix3 u r n) 0).val = t.val / 16 := by
    refine (Pipeline.Window.rect_emb_val win0_13 t (ix3 u r n) 0).trans ?_; rw [e0]; show _ * 1 + u.val = t.val / 16; omega
  have f1 : ((win0_13.rect t).emb (ix3 u r n) 1).val = t.val / 8 % 2 * 1024 + r.val := by
    refine (Pipeline.Window.rect_emb_val win0_13 t (ix3 u r n) 1).trans ?_; rw [e1]; rfl
  have f2 : ((win0_13.rect t).emb (ix3 u r n) 2).val = t.val % 8 * 256 + n.val := by
    refine (Pipeline.Window.rect_emb_val win0_13 t (ix3 u r n) 2).trans ?_; rw [e2]; rfl
  unfold mergedOf
  rw [merged_at _ _ _ _ _ _ _ (⟨t.val / 16, by have := lt_N t; omega⟩ : Fin 8) (⟨t.val / 8 % 2 * 1024 + r.val, by omega⟩ : Fin 2048)
    (⟨t.val % 8 * 256 + n.val, by omega⟩ : Fin 2048) f0 f1 f2]
  have col (k : Nat) (x : Nat) (h : x = (18 + 8 * k + t.val % 8) * 256 + n.val) (h' : x < 10752) (g : 4608 + 2048 * k + (t.val % 8 * 256 + n.val) < 10752) :
      (⟨x, h'⟩ : Fin 10752) = ⟨4608 + 2048 * k + (t.val % 8 * 256 + n.val), g⟩ := Fin.ext (show x = 4608 + 2048 * k + (t.val % 8 * 256 + n.val) by omega)
  unfold mergedAt gate
  refine congrArg₂ (fun a b : EReal => a + b) (congrArg₂ (fun a b : EReal => a + b)
    (congrArg₂ (fun a b : EReal => a * b) (congrArg Ideal.logistic ?_) ?_) (congrArg₂ (fun a b : EReal => a * b) (congrArg Ideal.logistic ?_) ?_))
    (congrArg₂ (fun a b : EReal => a * b) (congrArg Ideal.logistic ?_) ?_)
  · exact Finset.sum_congr rfl fun d _ => congrArg₂ (fun a b : EReal => a * b) (blk0 m c t 0 r d)
      ((blk4 m c t 0 d n).trans (congrArg (fun q => m ((c : Thread nD τ).loc main_arg4) (ix3 (1 : Fin 2) d q)) (col 0 _ (by omega) _ _)))
  · exact Finset.sum_congr rfl fun d _ => congrArg₂ (fun a b : EReal => a * b) (blk1 m c t 0 r d) (blk7 m c t 0 0 d n)
  · exact Finset.sum_congr rfl fun d _ => congrArg₂ (fun a b : EReal => a * b) (blk0 m c t 0 r d)
      ((blk5 m c t 0 d n).trans (congrArg (fun q => m ((c : Thread nD τ).loc main_arg4) (ix3 (1 : Fin 2) d q)) (col 1 _ (by omega) _ _)))
  · exact Finset.sum_congr rfl fun d _ => congrArg₂ (fun a b : EReal => a * b) (blk2 m c t 0 r d) (blk8 m c t 0 0 d n)
  · exact Finset.sum_congr rfl fun d _ => congrArg₂ (fun a b : EReal => a * b) (blk0 m c t 0 r d)
      ((blk6 m c t 0 d n).trans (congrArg (fun q => m ((c : Thread nD τ).loc main_arg4) (ix3 (1 : Fin 2) d q)) (col 2 _ (by omega) _ _)))
  · exact Finset.sum_congr rfl fun d _ => congrArg₂ (fun a b : EReal => a * b) (blk3 m c t 0 r d) (blk9 m c t 0 0 d n)

/-- Slab `s`, row `r` of the reshaped gate or up weights is row `s % 8 * 256 + r` of expert `s / 8`. -/
theorem slab (w : FVec Ideal S2x16x2048x1024 .f32) (i : S128x256x1024.Idx) (s : Fin 128) (r : Fin 256) (n : Fin 1024)
    (h0 : (i 0).val = s.val) (h1 : (i 1).val = r.val) (h2 : (i 2).val = n.val) :
    shapeCast S2x128x256x1024 w shapeCasts_S2x16x2048x1024_S2x128x256x1024 (ix4 1 s r n) = rows w i := by
  obtain rfl : i 0 = s := Fin.ext h0
  obtain rfl : i 1 = r := Fin.ext h1
  obtain rfl : i 2 = n := Fin.ext h2
  refine shapeCast_apply _ _ _ _ ?_
  rw [Shape.rowMajor_val_four, Shape.rowMajor_val_four]
  have h0 : (i 0).val < 128 := (i 0).isLt
  have h1 : (i 1).val < 256 := (i 1).isLt
  show (((1 * 16 + (i 0).val / 8) * 2048 + ((i 0).val % 8 * 256 + (i 1).val)) * 1024 + (i 2).val) = ((1 * 128 + (i 0).val) * 256 + (i 1).val) * 1024 + (i 2).val
  omega

/-- Slab `s`, row `r` of the reshaped down weights is row `s % 8 * 128 + r` of expert `s / 8`. -/
theorem slabDown (w : FVec Ideal S2x16x1024x2048 .f32) (i : S128x128x2048.Idx) (s : Fin 128) (r : Fin 128) (n : Fin 2048)
    (h0 : (i 0).val = s.val) (h1 : (i 1).val = r.val) (h2 : (i 2).val = n.val) :
    shapeCast S2x128x128x2048 w shapeCasts_S2x16x1024x2048_S2x128x128x2048 (ix4 1 s r n) = rowsDown w i := by
  obtain rfl : i 0 = s := Fin.ext h0
  obtain rfl : i 1 = r := Fin.ext h1
  obtain rfl : i 2 = n := Fin.ext h2
  refine shapeCast_apply _ _ _ _ ?_
  rw [Shape.rowMajor_val_four, Shape.rowMajor_val_four]
  have h0 : (i 0).val < 128 := (i 0).isLt
  have h1 : (i 1).val < 128 := (i 1).isLt
  show (((1 * 16 + (i 0).val / 8) * 1024 + ((i 0).val % 8 * 128 + (i 1).val)) * 2048 + (i 2).val) = ((1 * 128 + (i 0).val) * 128 + (i 1).val) * 2048 + (i 2).val
  omega

/-- What point `t` writes back to the second result is slab `t` of the gate weights; -/
theorem flushed14_eq (c : Dev nD) (t : Fin cfg0.N) :
    (dats m 0 c).flushed 14 t = (win0_14.blk t).view.read (Elt Ideal) (rows (m ((c : Thread nD τ).loc main_arg6))) := by
  rw [Value.flushed14]
  unfold out0_14
  rw [View.canon_unit_zero hz3, View.ld_unit_zero hz4]
  show (fun j : S1x256x1024.Idx => k0_pay6 (F := Ideal) (iblk m c 10 t) j)
    = fun j : S1x256x1024.Idx => rows (m ((c : Thread nD τ).loc main_arg6)) ((win0_14.rect t).emb j)
  funext j
  obtain ⟨u, r, n, rfl⟩ : ∃ u r n, j = ix3 (n0 := 1) (n1 := 256) (n2 := 1024) u r n := ⟨_, _, _, eq_ix3 j⟩
  rw [pay6_apply]
  obtain ⟨e0, e1, e2⟩ := index14 t
  refine (blk10 m c t 0 0 r n).trans (slab _ _ _ _ _ ?_ ?_ ?_)
  · refine (Pipeline.Window.rect_emb_val win0_14 t (ix3 u r n) 0).trans ?_; rw [e0]; show t.val * 1 + u.val = t.val; omega
  · refine (Pipeline.Window.rect_emb_val win0_14 t (ix3 u r n) 1).trans ?_; rw [e1]; show 0 * 256 + r.val = r.val; omega
  · refine (Pipeline.Window.rect_emb_val win0_14 t (ix3 u r n) 2).trans ?_; rw [e2]; show 0 * 1024 + n.val = n.val; omega

/-- to the third, slab `t` of the up weights; -/
theorem flushed15_eq (c : Dev nD) (t : Fin cfg0.N) :
    (dats m 0 c).flushed 15 t = (win0_15.blk t).view.read (Elt Ideal) (rows (m ((c : Thread nD τ).loc main_arg7))) := by
  rw [Value.flushed15]
  unfold out0_15
  rw [View.canon_unit_zero hz3, View.ld_unit_zero hz4]
  show (fun j : S1x256x1024.Idx => k0_pay7 (F := Ideal) (iblk m c 11 t) j)
    = fun j : S1x256x1024.Idx => rows (m ((c : Thread nD τ).loc main_arg7)) ((win0_15.rect t).emb j)
  funext j
  obtain ⟨u, r, n, rfl⟩ : ∃ u r n, j = ix3 (n0 := 1) (n1 := 256) (n2 := 1024) u r n := ⟨_, _, _, eq_ix3 j⟩
  rw [pay7_apply]
  obtain ⟨e0, e1, e2⟩ := index15 t
  refine (blk11 m c t 0 0 r n).trans (slab _ _ _ _ _ ?_ ?_ ?_)
  · refine (Pipeline.Window.rect_emb_val win0_15 t (ix3 u r n) 0).trans ?_; rw [e0]; show t.val * 1 + u.val = t.val; omega
  · refine (Pipeline.Window.rect_emb_val win0_15 t (ix3 u r n) 1).trans ?_; rw [e1]; show 0 * 256 + r.val = r.val; omega
  · refine (Pipeline.Window.rect_emb_val win0_15 t (ix3 u r n) 2).trans ?_; rw [e2]; show 0 * 1024 + n.val = n.val; omega

/-- to the fourth, slab `t` of the down weights. -/
theorem flushed16_eq (c : Dev nD) (t : Fin cfg0.N) :
    (dats m 0 c).flushed 16 t = (win0_16.blk t).view.read (Elt Ideal) (rowsDown (m ((c : Thread nD τ).loc main_arg8))) := by
  rw [Value.flushed16]
  unfold out0_16
  rw [View.canon_unit_zero hz3, View.ld_unit_zero hz4]
  show (fun j : S1x128x2048.Idx => k0_pay1 (F := Ideal) (iblk m c 12 t) j)
    = fun j : S1x128x2048.Idx => rowsDown (m ((c : Thread nD τ).loc main_arg8)) ((win0_16.rect t).emb j)
  funext j
  obtain ⟨u, r, n, rfl⟩ : ∃ u r n, j = ix3 (n0 := 1) (n1 := 128) (n2 := 2048) u r n := ⟨_, _, _, eq_ix3 j⟩
  rw [pay1_apply]
  obtain ⟨e0, e1, e2⟩ := index16 t
  refine (blk12 m c t 0 0 r n).trans (slabDown _ _ _ _ _ ?_ ?_ ?_)
  · refine (Pipeline.Window.rect_emb_val win0_16 t (ix3 u r n) 0).trans ?_; rw [e0]; show t.val * 1 + u.val = t.val; omega
  · refine (Pipeline.Window.rect_emb_val win0_16 t (ix3 u r n) 1).trans ?_; rw [e1]; show 0 * 128 + r.val = r.val; omega
  · refine (Pipeline.Window.rect_emb_val win0_16 t (ix3 u r n) 2).trans ?_; rw [e2]; show 0 * 2048 + n.val = n.val; omega

/-! ## The blocks tile the results -/

theorem cover13 (i : S8x2048x2048.Idx) : ∃ t : Fin cfg0.N, (cfg0.win 13).flush t = true ∧ i ∈ ((cfg0.win 13).blk t).view.set := by
  have h0 : (i 0 : Nat) < 8 := (i 0).isLt
  have h1 : (i 1 : Nat) < 2048 := (i 1).isLt
  have h2 : (i 2 : Nat) < 2048 := (i 2).isLt
  have ht : (i 0 : Nat) * 16 + (i 1 : Nat) / 1024 * 8 + (i 2 : Nat) / 256 < cfg0.N := by have hN : cfg0.N = 128 := N_0; omega
  refine ⟨⟨_, ht⟩, flush0_13 _, ?_⟩
  show i ∈ ((View.whole main_v4_0).slice (win0_13.rect ⟨_, ht⟩)).set
  rw [View.set_slice_whole, Rect.mem_set_unit]
  obtain ⟨e0, e1, e2⟩ := index13 ⟨_, ht⟩
  intro a
  match a with
  | ⟨0, _⟩ => show win0_13.index ⟨_, ht⟩ 0 * 1 ≤ (i 0 : Nat) ∧ (i 0 : Nat) < win0_13.index ⟨_, ht⟩ 0 * 1 + 1; rw [e0]; dsimp only; omega
  | ⟨1, _⟩ => show win0_13.index ⟨_, ht⟩ 1 * 1024 ≤ (i 1 : Nat) ∧ (i 1 : Nat) < win0_13.index ⟨_, ht⟩ 1 * 1024 + 1024; rw [e1]; dsimp only; omega
  | ⟨2, _⟩ => show win0_13.index ⟨_, ht⟩ 2 * 256 ≤ (i 2 : Nat) ∧ (i 2 : Nat) < win0_13.index ⟨_, ht⟩ 2 * 256 + 256; rw [e2]; dsimp only; omega

theorem cover14 (i : S128x256x1024.Idx) : ∃ t : Fin cfg0.N, (cfg0.win 14).flush t = true ∧ i ∈ ((cfg0.win 14).blk t).view.set := by
  have h1 : (i 1 : Nat) < 256 := (i 1).isLt
  have h2 : (i 2 : Nat) < 1024 := (i 2).isLt
  have ht : (i 0 : Nat) < cfg0.N := lt_of_lt_of_eq (i 0).isLt (Eq.symm N_0)
  refine ⟨⟨_, ht⟩, flush0_14 _, ?_⟩
  show i ∈ ((View.whole main_v4_1).slice (win0_14.rect ⟨_, ht⟩)).set
  rw [View.set_slice_whole, Rect.mem_set_unit]
  obtain ⟨e0, e1, e2⟩ := index14 ⟨_, ht⟩
  intro a
  match a with
  | ⟨0, _⟩ => show win0_14.index ⟨_, ht⟩ 0 * 1 ≤ (i 0 : Nat) ∧ (i 0 : Nat) < win0_14.index ⟨_, ht⟩ 0 * 1 + 1; rw [e0]; dsimp only; omega
  | ⟨1, _⟩ => show win0_14.index ⟨_, ht⟩ 1 * 256 ≤ (i 1 : Nat) ∧ (i 1 : Nat) < win0_14.index ⟨_, ht⟩ 1 * 256 + 256; rw [e1]; omega
  | ⟨2, _⟩ => show win0_14.index ⟨_, ht⟩ 2 * 1024 ≤ (i 2 : Nat) ∧ (i 2 : Nat) < win0_14.index ⟨_, ht⟩ 2 * 1024 + 1024; rw [e2]; omega

theorem cover15 (i : S128x256x1024.Idx) : ∃ t : Fin cfg0.N, (cfg0.win 15).flush t = true ∧ i ∈ ((cfg0.win 15).blk t).view.set := by
  have h1 : (i 1 : Nat) < 256 := (i 1).isLt
  have h2 : (i 2 : Nat) < 1024 := (i 2).isLt
  have ht : (i 0 : Nat) < cfg0.N := lt_of_lt_of_eq (i 0).isLt (Eq.symm N_0)
  refine ⟨⟨_, ht⟩, flush0_15 _, ?_⟩
  show i ∈ ((View.whole main_v4_2).slice (win0_15.rect ⟨_, ht⟩)).set
  rw [View.set_slice_whole, Rect.mem_set_unit]
  obtain ⟨e0, e1, e2⟩ := index15 ⟨_, ht⟩
  intro a
  match a with
  | ⟨0, _⟩ => show win0_15.index ⟨_, ht⟩ 0 * 1 ≤ (i 0 : Nat) ∧ (i 0 : Nat) < win0_15.index ⟨_, ht⟩ 0 * 1 + 1; rw [e0]; dsimp only; omega
  | ⟨1, _⟩ => show win0_15.index ⟨_, ht⟩ 1 * 256 ≤ (i 1 : Nat) ∧ (i 1 : Nat) < win0_15.index ⟨_, ht⟩ 1 * 256 + 256; rw [e1]; omega
  | ⟨2, _⟩ => show win0_15.index ⟨_, ht⟩ 2 * 1024 ≤ (i 2 : Nat) ∧ (i 2 : Nat) < win0_15.index ⟨_, ht⟩ 2 * 1024 + 1024; rw [e2]; omega

theorem cover16 (i : S128x128x2048.Idx) : ∃ t : Fin cfg0.N, (cfg0.win 16).flush t = true ∧ i ∈ ((cfg0.win 16).blk t).view.set := by
  have h1 : (i 1 : Nat) < 128 := (i 1).isLt
  have h2 : (i 2 : Nat) < 2048 := (i 2).isLt
  have ht : (i 0 : Nat) < cfg0.N := lt_of_lt_of_eq (i 0).isLt (Eq.symm N_0)
  refine ⟨⟨_, ht⟩, flush0_16 _, ?_⟩
  show i ∈ ((View.whole main_v4_3).slice (win0_16.rect ⟨_, ht⟩)).set
  rw [View.set_slice_whole, Rect.mem_set_unit]
  obtain ⟨e0, e1, e2⟩ := index16 ⟨_, ht⟩
  intro a
  match a with
  | ⟨0, _⟩ => show win0_16.index ⟨_, ht⟩ 0 * 1 ≤ (i 0 : Nat) ∧ (i 0 : Nat) < win0_16.index ⟨_, ht⟩ 0 * 1 + 1; rw [e0]; dsimp only; omega
  | ⟨1, _⟩ => show win0_16.index ⟨_, ht⟩ 1 * 128 ≤ (i 1 : Nat) ∧ (i 1 : Nat) < win0_16.index ⟨_, ht⟩ 1 * 128 + 128; rw [e1]; omega
  | ⟨2, _⟩ => show win0_16.index ⟨_, ht⟩ 2 * 2048 ≤ (i 2 : Nat) ∧ (i 2 : Nat) < win0_16.index ⟨_, ht⟩ 2 * 2048 + 2048; rw [e2]; omega

/-! ## The kernel's run -/

theorem final13 (c : Dev nD) : (dats m 0 c).arrAt 13 cfg0.N = mergedOf m c :=
  (dats m 0 c).arrAt_eq_of_cover 13 _ (fun t _ => flushed13_eq m c t) cover13
theorem final14 (c : Dev nD) : (dats m 0 c).arrAt 14 cfg0.N = rows (m ((c : Thread nD τ).loc main_arg6)) :=
  (dats m 0 c).arrAt_eq_of_cover 14 _ (fun t _ => flushed14_eq m c t) cover14
theorem final15 (c : Dev nD) : (dats m 0 c).arrAt 15 cfg0.N = rows (m ((c : Thread nD τ).loc main_arg7)) :=
  (dats m 0 c).arrAt_eq_of_cover 15 _ (fun t _ => flushed15_eq m c t) cover15
theorem final16 (c : Dev nD) : (dats m 0 c).arrAt 16 cfg0.N = rowsDown (m ((c : Thread nD τ).loc main_arg8)) :=
  (dats m 0 c).arrAt_eq_of_cover 16 _ (fun t _ => flushed16_eq m c t) cover16

/-- THE KERNEL'S RUN: its four results hold the merge and the slabs, and its arguments are as launched. -/
theorem run : θ_run defs (onTc (τ := τ) (main (F := Ideal))) ⟨m, fun _ => 0, ρ⟩ fun r => ∀ c : Dev nD,
      (r.2.mem ((c : Thread nD τ).loc main_v4_0) = mergedOf m c
      ∧ r.2.mem ((c : Thread nD τ).loc main_v4_1) = rows (m ((c : Thread nD τ).loc main_arg6))
      ∧ r.2.mem ((c : Thread nD τ).loc main_v4_2) = rows (m ((c : Thread nD τ).loc main_arg7))
      ∧ r.2.mem ((c : Thread nD τ).loc main_v4_3) = rowsDown (m ((c : Thread nD τ).loc main_arg8)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨⟨(h c).1.trans (final13 m c), (h c).2.1.trans (final14 m c), (h c).2.2.1.trans (final15 m c),
    (h c).2.2.2.1.trans (final16 m c)⟩, (h c).2.2.2.2⟩) (Value.run_blocks m ρ)

end Cert.MergeBIdeal.Val

namespace Cert.MergeBRefIdeal.Val

open Cert.MergeBRefIdeal Cert.MergeBRefIdeal.Read Cert.MergeBIdeal.Val

theorem gates_apply (h : FVec Ideal S8x2048x2048 .bf16) (w : FVec Ideal S2x2048x10752 .f32) (b : Fin 8) (s : Fin 2048) (k : Fin 3) (n : Fin 2048) :
    val_main_v14 (F := Ideal) h w (ix4 b s k n) = Ideal.logistic (gate h w k b s n) := by
  pointwise [val_main_v14, val_main_v13, val_main_v12, val_main_v11, val_main_v10, val_main_v9, val_main_v8, val_main_v7, val_main_v6, val_main_v5,
    val_main_v4, val_main_v3, val_main_cst, val_main_cst_0]
  refine congrArg Ideal.logistic (Finset.sum_congr rfl fun d _ => congrArg (fun q : Fin 10752 => (h (ix3 b s d) : EReal) * w (ix3 (1 : Fin 2) d q)) ?_)
  refine Fin.ext ?_
  show 4608 + (k.val * 2048 + n.val) = 4608 + 2048 * k.val + n.val
  omega

/-- THE REFERENCE'S FIRST RESULT is the gated merge. -/
theorem result (h : FVec Ideal S8x2048x2048 .bf16) (x y z : FVec Ideal S8x2048x1024 .bf16) (w : FVec Ideal S2x2048x10752 .f32)
    (wb : FVec Ideal S2x3x1024x2048 .f32) : val_main_v35 (F := Ideal) h x y z w wb = merged h x y z w wb := by
  funext j
  obtain ⟨b, s, n, rfl⟩ : ∃ b s n, j = ix3 (n0 := 8) (n1 := 2048) (n2 := 2048) b s n := ⟨_, _, _, eq_ix3 j⟩
  pointwise [val_main_v35, val_main_v34, val_main_v33, val_main_v27, val_main_v26, val_main_v20, val_main_v16, val_main_v15, val_main_v22, val_main_v21,
    val_main_v29, val_main_v28, val_main_v19, val_main_v18, val_main_v17, val_main_v25, val_main_v24, val_main_v23, val_main_v32, val_main_v31, val_main_v30,
    val_main_v0, val_main_v1, val_main_v2]
  rw [gates_apply, gates_apply, gates_apply]
  rfl

/-- Its other three are the expert weights in slabs. -/
theorem result_gate (w : FVec Ideal S2x16x2048x1024 .f32) : val_main_v39 (F := Ideal) w = rows w := by
  funext j
  obtain ⟨b, s, n, rfl⟩ : ∃ b s n, j = ix3 (n0 := 128) (n1 := 256) (n2 := 1024) b s n := ⟨_, _, _, eq_ix3 j⟩
  pointwise [val_main_v39, val_main_v38, val_main_v37, val_main_v36]
  rfl
theorem result_up (w : FVec Ideal S2x16x2048x1024 .f32) : val_main_v43 (F := Ideal) w = rows w := by
  funext j
  obtain ⟨b, s, n, rfl⟩ : ∃ b s n, j = ix3 (n0 := 128) (n1 := 256) (n2 := 1024) b s n := ⟨_, _, _, eq_ix3 j⟩
  pointwise [val_main_v43, val_main_v42, val_main_v41, val_main_v40]
  rfl
theorem result_down (w : FVec Ideal S2x16x1024x2048 .f32) : val_main_v47 (F := Ideal) w = rowsDown w := by
  funext j
  obtain ⟨b, s, n, rfl⟩ : ∃ b s n, j = ix3 (n0 := 128) (n1 := 128) (n2 := 2048) b s n := ⟨_, _, _, eq_ix3 j⟩
  pointwise [val_main_v47, val_main_v46, val_main_v45, val_main_v44]
  rfl

end Cert.MergeBRefIdeal.Val

end
-- ==== Proof.MergeBClaims.lean ====
/-
  THE GATED MERGE'S CLAIMS (hand-written): its frames, and that kernel and reference agree at the extended reals.
-/
module

public import proofs.«01_k».proof.Defs
public import proofs.«01_k».proof.Proof.Gen.MergeB
public import proofs.«01_k».proof.Proof.Gen.MergeB.Frame
public import proofs.«01_k».proof.Proof.Gen.MergeBIdeal
public import proofs.«01_k».proof.Proof.Gen.MergeBIdeal.Frame
public import proofs.«01_k».proof.Proof.Gen.MergeBRefIdeal
public import proofs.«01_k».proof.Proof.Gen.MergeBRefIdeal.Run
public import proofs.«01_k».proof.Proof.Gen.MergeBRefIdeal.Read
public import proofs.«01_k».proof.Proof.MergeBValue
public import Idealize.ShloMosaic.Adequacy
public import Idealize.ShloMosaic.Init

@[expose] public section

set_option maxRecDepth 16384

noncomputable section

open Idealize.ShloMosaic Idealize.ShloMosaic.TcCoe Idealize.SL.Sem

namespace Cert.MergeB.Claims

/-- The kernel runs and leaves its arguments as launched. -/
theorem kernel : Cert.quiescent_MergeB (hMergeB := Cert.MergeB.Gen.facts) :=
  fun m ρ _ => Cert.MergeB.Gen.frame m ρ

/-- So does the kernel at the extended reals. -/
theorem ideal : Cert.quiescent_MergeBIdeal (hMergeBIdeal := Cert.MergeBIdeal.Gen.facts) :=
  fun m ρ _ => Cert.MergeBIdeal.Gen.frame m ρ

/-- So does the reference. -/
theorem reference : Cert.quiescent_MergeBRefIdeal (hMergeBRefIdeal := Cert.MergeBRefIdeal.Gen.facts) :=
  fun m ρ _ => (θ_run Cert.MergeBRefIdeal.defs _ _).mono (fun r h => ⟨fun c => ⟨(h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩,
    Idealize.ShloMosaic.sem_eq_zero_of_no_sems (by decide) r.2⟩) (Cert.MergeBRefIdeal.Value.run (F := Ideal) m ρ)

/-- Idealizing the kernel replaced nothing. -/
theorem preserves : Cert.preserves_MergeB_MergeBIdeal := trivial

/-- From the same arguments the kernel and its reference leave the same results. -/
theorem value : Cert.algebraic_MergeBIdeal_MergeBRefIdeal (hMergeBIdeal := Cert.MergeBIdeal.Gen.facts) (hMergeBRefIdeal := Cert.MergeBRefIdeal.Gen.facts) := by
  intro m ρ m' ρ' _ hag
  refine ⟨fun c => Cert.MergeBIdeal.Val.merged (m ((c.tc : Thread Cert.MergeBIdeal.nD Cert.MergeBIdeal.τ).loc Cert.MergeBIdeal.main_arg0)) (m ((c.tc : Thread Cert.MergeBIdeal.nD Cert.MergeBIdeal.τ).loc Cert.MergeBIdeal.main_arg1)) (m ((c.tc : Thread Cert.MergeBIdeal.nD Cert.MergeBIdeal.τ).loc Cert.MergeBIdeal.main_arg2)) (m ((c.tc : Thread Cert.MergeBIdeal.nD Cert.MergeBIdeal.τ).loc Cert.MergeBIdeal.main_arg3)) (m ((c.tc : Thread Cert.MergeBIdeal.nD Cert.MergeBIdeal.τ).loc Cert.MergeBIdeal.main_arg4)) (m ((c.tc : Thread Cert.MergeBIdeal.nD Cert.MergeBIdeal.τ).loc Cert.MergeBIdeal.main_arg5)),
    fun c => Cert.MergeBIdeal.Val.rows (m ((c.tc : Thread Cert.MergeBIdeal.nD Cert.MergeBIdeal.τ).loc Cert.MergeBIdeal.main_arg6)),
    fun c => Cert.MergeBIdeal.Val.rows (m ((c.tc : Thread Cert.MergeBIdeal.nD Cert.MergeBIdeal.τ).loc Cert.MergeBIdeal.main_arg7)),
    fun c => Cert.MergeBIdeal.Val.rowsDown (m ((c.tc : Thread Cert.MergeBIdeal.nD Cert.MergeBIdeal.τ).loc Cert.MergeBIdeal.main_arg8)),
    ?_, ?_⟩
  · exact (θ_run Cert.MergeBIdeal.defs _ _).mono (fun r h c => ⟨(h c).1.1, (h c).1.2.1, (h c).1.2.2.1, (h c).1.2.2.2, (h c).2⟩) (Cert.MergeBIdeal.Val.run m ρ)
  · refine (θ_run Cert.MergeBRefIdeal.defs _ _).mono (fun r h c => ?_) (Cert.MergeBRefIdeal.Value.run (F := Ideal) m' ρ')
    obtain ⟨a0, a1, a2, a3, a4, a5, a6, a7, a8⟩ := hag c
    refine ⟨(h c).1.trans ((Cert.MergeBRefIdeal.Read.val_main_v35_eq _ _ _ _ _ _).trans ((Cert.MergeBRefIdeal.Val.result _ _ _ _ _ _).trans ?_)), (h c).2.1.trans ((Cert.MergeBRefIdeal.Read.val_main_v39_eq _).trans ((Cert.MergeBRefIdeal.Val.result_gate _).trans ?_)), (h c).2.2.1.trans ((Cert.MergeBRefIdeal.Read.val_main_v43_eq _).trans ((Cert.MergeBRefIdeal.Val.result_up _).trans ?_)), (h c).2.2.2.1.trans ((Cert.MergeBRefIdeal.Read.val_main_v47_eq _).trans ((Cert.MergeBRefIdeal.Val.result_down _).trans ?_)), (h c).2.2.2.2⟩
    · rw [a0, a1, a2, a3, a4, a5]
    · rw [a6]
    · rw [a7]
    · rw [a8]

end Cert.MergeB.Claims

end
-- ==== Proof.OutProjMath.lean ====
/-
  THE MATHEMATICS OF THE OUTPUT PROJECTION (hand-written), row by row at the extended reals: the scaled residual plus the
  gated product, the layer norm, the modulation, and the router's softmax over 16 experts; and that a softmax over 128
  lanes of which those from the 16th on are masked to −∞ is the softmax over 16.
-/
module

public import proofs.«01_k».proof.Proof.AttnMath

@[expose] public section

set_option maxRecDepth 16384

noncomputable section

open Idealize.ShloMosaic

namespace Cert.OutProjMath

open Cert.AttnMath

/-- √2, the residual's scale. -/
def root2 : EReal := ((Real.sqrt 2 : ℝ) : EReal)

/-- The scaled residual plus the gated product of a row with the weights. -/
def zed (a : Fin 2048 → EReal) (w : Fin 2048 → Fin 2048 → EReal) (x g : Fin 2048 → EReal) (n : Fin 2048) : EReal :=
  root2 * x n + g n * ∑ d : Fin 2048, a d * w d n

/-- The mean of a row. -/
def mean (v : Fin 2048 → EReal) : EReal := Ideal.div (∑ k : Fin 2048, v k) (Ideal.ofBits .f32 0x45000000#32)

/-- The layer norm of a row. -/
def normed (v lg lb : Fin 2048 → EReal) (n : Fin 2048) : EReal :=
  (v n - mean v) * Ideal.rsqrt (mean (fun k => (v k - mean v) * (v k - mean v)) + Ideal.ofBits .f32 0x3727C5AC#32) * lg n + lb n

/-- The modulation of a row. -/
def modul (y sc sh : Fin 2048 → EReal) (n : Fin 2048) : EReal := y n * (Ideal.ofBits .f32 0x3F800000#32 + sc n) + sh n

/-- The softmax of 16 logits. -/
def soft16 (l : Fin 16 → EReal) (e : Fin 16) : EReal :=
  Ideal.div (Ideal.exp (l e - Finset.univ.fold max ⊥ l)) (∑ k : Fin 16, Ideal.exp (l k - Finset.univ.fold max ⊥ l))

/-- The largest of 128 lanes masked from the 16th on is the largest of the 16. -/
theorem fold_masked (v : Fin 128 → EReal) (l : Fin 16 → EReal) (h : ∀ k : Fin 128, v k = if hk : k.val < 16 then l ⟨k.val, hk⟩ else ⊥) :
    Finset.univ.fold max ⊥ v = Finset.univ.fold max ⊥ l := by
  show Finset.univ.sup v = Finset.univ.sup l
  refine le_antisymm (Finset.sup_le fun k _ => ?_) (Finset.sup_le fun k _ => ?_)
  · rw [h k]
    split_ifs with hk
    · exact Finset.le_sup (f := l) (Finset.mem_univ _)
    · exact bot_le
  · have e := h ⟨k.val, by omega⟩
    rw [dif_pos k.isLt] at e
    exact le_of_eq_of_le e.symm (Finset.le_sup (f := v) (Finset.mem_univ _))

/-- A sum over 128 lanes that vanish from the 16th on is the sum over 16. -/
theorem sum_masked (v : Fin 128 → EReal) (l : Fin 16 → EReal) (h : ∀ k : Fin 128, v k = if hk : k.val < 16 then l ⟨k.val, hk⟩ else 0) :
    ∑ k, v k = ∑ k, l k := by
  rw [show (∑ k, v k) = ∑ k : Fin (16 + 112), v k from rfl, Fin.sum_univ_add]
  have e1 : ∀ k : Fin 16, v (Fin.castAdd 112 k) = l k := fun k => (h _).trans (dif_pos k.isLt)
  have e2 : ∀ k : Fin 112, v (Fin.natAdd 16 k) = 0 := fun k => (h _).trans (dif_neg (by show ¬ (16 + k.val < 16); omega))
  rw [Finset.sum_congr rfl (fun k _ => e1 k), Finset.sum_congr rfl (fun k _ => e2 k), Finset.sum_const_zero, add_zero]

/-- The softmax over 128 lanes of which those from the 16th on are masked is the softmax over 16. -/
theorem soft_masked (v : Fin 128 → EReal) (l : Fin 16 → EReal) (h : ∀ k : Fin 128, v k = if hk : k.val < 16 then l ⟨k.val, hk⟩ else ⊥)
    (k : Fin 128) (e : Fin 16) (hk : k.val = e.val) :
    Ideal.div (Ideal.exp (v k - Finset.univ.fold max ⊥ v)) (∑ k, Ideal.exp (v k - Finset.univ.fold max ⊥ v)) = soft16 l e := by
  unfold soft16
  rw [fold_masked v l h]
  refine congrArg₂ Ideal.div ?_ (sum_masked _ _ fun j => ?_)
  · rw [h k, dif_pos (by omega)]
    exact congrArg (fun q => Ideal.exp (l q - _)) (Fin.ext hk)
  · rw [h j]
    split_ifs with hj
    · rfl
    · exact exp_bot_sub _

end Cert.OutProjMath

end
-- ==== Proof.OutProjBand.lean ====
/-
  ONE BLOCK OF THE OUTPUT PROJECTION (hand-written): what the kernel `OutProjIdeal`'s body leaves in its three blocks, row by
  row. The body works in four bands of 128 rows, which differ only in how the program's text is divided; each is the same
  function of its band's loads.
-/
module

public import proofs.«01_k».proof.Defs
public import proofs.«01_k».proof.Proof.OutProjMath
public import proofs.«01_k».proof.Proof.Gen.OutProjIdeal.Value
public import Idealize.ShloMosaic.Lib.Pointwise
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.OutProjIdeal.Val

open Cert.OutProjIdeal Cert.OutProjIdeal.Gen Cert.OutProjMath

/-- The mask is −∞. -/
theorem mask_val : (Named.named κ "mask" 0xF149F2CA#32 : Ideal .f32) = (⊥ : EReal) :=
  IdealRules.named_const.ideal_named_scalar _ _ _ _ rfl
/-- The residual's scale is √2. -/
theorem alpha_val : (Named.named κ "alpha" 0x3FB504F3#32 : Ideal .f32) = root2 :=
  IdealRules.named_const.ideal_named_scalar _ _ _ _ rfl
/-- −∞ as the kernel writes it. -/
theorem inf_val : (Ideal.ofBits .f32 4286578688#32 : EReal) = ⊥ := by
  simp [Ideal.ofBits, Ideal.ieee]

/-! ## One band -/

/-- The layer norm of a band. -/
abbrev bandX (a : FVec Ideal S1x128x2048 .bf16) (w : FVec Ideal S1x2048x2048 .bf16) (x : FVec Ideal S1x128x2048 .f32) (g : FVec Ideal S1x1x2048 .f32)
    (lg lb : FVec Ideal S1x2048 .f32) : FVec Ideal S1x128x2048 .f32 :=
  k0_pay8 (F := Ideal) (k0_pay3 lg) (k0_pay4 lb) (k0_pay5 a w x g) (k0_pay6 a w x g)

/-- The modulated layer norm of a band. -/
abbrev bandH (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) : FVec Ideal S1x128x2048 .bf16 :=
  k0_pay10 (F := Ideal) (k0_pay3 lg) (k0_pay4 lb) (k0_pay5 a w x g) (k0_pay6 a w x g) sc sh

/-- The router's logits of a band, masked. -/
abbrev bandL (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S128x128 .f32 :=
  k0_pay11 (F := Ideal) (k0_pay3 lg) (k0_pay4 lb) (k0_pay5 a w x g) (k0_pay6 a w x g) sc sh rw

/-- The router's softmax of a band. -/
abbrev bandA (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S1x16x128 .f32 :=
  k0_pay12 (F := Ideal) (bandL a w x g lg lb sc sh rw)

section
variable (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw' : FVec Ideal S2048x128 .bf16)

/-- A row of a band before the layer norm. -/
abbrev zrow (r : Fin 128) : Fin 2048 → EReal :=
  zed (fun d => a (ix3 0 r d)) (fun d n => w (ix3 0 d n)) (fun n => x (ix3 0 r n)) (fun n => g (ix3 0 0 n))

theorem pay5_apply (r : Fin 128) (n : Fin 2048) : k0_pay5 (F := Ideal) a w x g (ix2 r n) = zrow a w x g r n - mean (zrow a w x g r) := by
  unfold zrow mean zed
  rw [← alpha_val]
  pointwise [k0_pay5]

theorem pay7_apply (y z : FVec Ideal S128x2048 .f32) (r : Fin 128) (n : Fin 2048) :
    k0_pay7 (F := Ideal) (k0_pay3 lg) (k0_pay4 lb) y z (ix2 r n)
      = y (ix2 r n) * Ideal.rsqrt (mean (fun k => z (ix2 r k)) + Ideal.ofBits .f32 0x3727C5AC#32) * lg (ix2 0 n) + lb (ix2 0 n) := by
  unfold mean
  pointwise [k0_pay7, k0_pay3, k0_pay4]

/-- A row of a band after the layer norm. -/
abbrev xrow (r : Fin 128) : Fin 2048 → EReal := normed (zrow a w x g r) (fun n => lg (ix2 0 n)) (fun n => lb (ix2 0 n))

theorem norm_apply (r : Fin 128) (n : Fin 2048) :
    k0_pay7 (F := Ideal) (k0_pay3 lg) (k0_pay4 lb) (k0_pay5 a w x g) (k0_pay6 a w x g) (ix2 r n) = xrow a w x g lg lb r n := by
  rw [pay7_apply, pay5_apply]
  have e : (fun k => k0_pay6 (F := Ideal) a w x g (ix2 r k))
      = fun k => (zrow a w x g r k - mean (zrow a w x g r)) * (zrow a w x g r k - mean (zrow a w x g r)) :=
    funext fun k => congrArg₂ (fun p q : EReal => p * q) (pay5_apply a w x g r k) (pay5_apply a w x g r k)
  rw [e]; rfl

theorem bandX_apply (u : Fin 1) (r : Fin 128) (n : Fin 2048) : bandX a w x g lg lb (ix3 u r n) = xrow a w x g lg lb r n := by
  refine Eq.trans ?_ (norm_apply a w x g lg lb r n)
  generalize e : k0_pay7 (F := Ideal) (k0_pay3 lg) (k0_pay4 lb) (k0_pay5 a w x g) (k0_pay6 a w x g) = y
  unfold bandX k0_pay8
  rw [e]
  pointwise []

/-- A row of a band after the modulation. -/
abbrev hrow (r : Fin 128) : Fin 2048 → EReal := modul (xrow a w x g lg lb r) (fun n => sc (ix3 0 0 n)) (fun n => sh (ix3 0 0 n))

theorem pay9_apply (r : Fin 128) (n : Fin 2048) :
    k0_pay9 (F := Ideal) (k0_pay3 lg) (k0_pay4 lb) (k0_pay5 a w x g) (k0_pay6 a w x g) sc sh (ix2 r n) = hrow a w x g lg lb sc sh r n := by
  unfold hrow modul
  rw [← norm_apply]
  unfold k0_pay9
  generalize k0_pay7 (F := Ideal) (k0_pay3 lg) (k0_pay4 lb) (k0_pay5 a w x g) (k0_pay6 a w x g) = y
  pointwise []

theorem bandH_apply (u : Fin 1) (r : Fin 128) (n : Fin 2048) : bandH a w x g lg lb sc sh (ix3 u r n) = hrow a w x g lg lb sc sh r n := by
  refine Eq.trans ?_ (pay9_apply a w x g lg lb sc sh r n)
  unfold bandH k0_pay10
  generalize k0_pay9 (F := Ideal) (k0_pay3 lg) (k0_pay4 lb) (k0_pay5 a w x g) (k0_pay6 a w x g) sc sh = y
  pointwise []

/-- The lanes below 16. -/
theorem lane (l : Fin 128) : IntOp.cmpi .slt (BitVec.ofNat 32 l.val) 16#32 = if l.val < 16 then 1#1 else 0#1 := by
  revert l; decide +kernel

theorem bandL_apply (r l : Fin 128) : bandL a w x g lg lb sc sh rw' (ix2 r l)
    = if hl : l.val < 16 then ∑ d : Fin 2048, hrow a w x g lg lb sc sh r d * rw' (ix2 d l) else ⊥ := by
  have e : (∑ d : Fin 2048, hrow a w x g lg lb sc sh r d * rw' (ix2 d l) : EReal)
      = ∑ d : Fin 2048, k0_pay9 (F := Ideal) (k0_pay3 lg) (k0_pay4 lb) (k0_pay5 a w x g) (k0_pay6 a w x g) sc sh (ix2 r d) * rw' (ix2 d l) :=
    Finset.sum_congr rfl fun d _ => by rw [pay9_apply]
  rw [e]
  unfold bandL k0_pay11
  generalize k0_pay9 (F := Ideal) (k0_pay3 lg) (k0_pay4 lb) (k0_pay5 a w x g) (k0_pay6 a w x g) sc sh = y
  refine Eq.trans (b := Scalar.select (IntOp.cmpi .slt (BitVec.ofNat 32 l.val) 16#32) (∑ d : Fin 2048, (y (ix2 r d) : EReal) * rw' (ix2 d l))
    (Named.named κ "mask" 0xF149F2CA#32 : Ideal .f32)) ?_ ?_
  · pointwise []
  · rw [mask_val, lane]
    by_cases hl : l.val < 16
    · rw [if_pos hl, dif_pos hl]; rfl
    · rw [if_neg hl, dif_neg hl]; rfl

theorem pay12_apply (v : FVec Ideal S128x128 .f32) (u : Fin 1) (e : Fin 16) (r : Fin 128) : k0_pay12 (F := Ideal) v (ix3 u e r)
    = Ideal.div (Ideal.exp (v (ix2 r ⟨e.val, by omega⟩) - Finset.univ.fold max ⊥ fun k : Fin 128 => v (ix2 r k)))
      (∑ k : Fin 128, Ideal.exp (v (ix2 r k) - Finset.univ.fold max ⊥ fun k : Fin 128 => v (ix2 r k))) := by
  rw [← inf_val]
  pointwise [k0_pay12]

theorem bandA_apply (u : Fin 1) (e : Fin 16) (r : Fin 128) : bandA a w x g lg lb sc sh rw' (ix3 u e r)
    = soft16 (fun k => ∑ d : Fin 2048, hrow a w x g lg lb sc sh r d * rw' (ix2 d ⟨k.val, by omega⟩)) e := by
  refine (pay12_apply _ u e r).trans ?_
  exact soft_masked (fun k => bandL a w x g lg lb sc sh rw' (ix2 r k)) _ (fun k => bandL_apply a w x g lg lb sc sh rw' r k) _ e rfl
end

/-! ## The four bands of a block -/

/-- A band's load of a block's rows. -/
theorem ld_band {α : EltTy → Type} {e : EltTy} (o : ℕ) (inb) (x : S1x512x2048.Idx → α e) (r : Fin 128) (n : Fin 2048) (h : o + r.val < 512) :
    View.ld (Val := α) x (Rect.unit (s := S1x512x2048) ![0, o, 0] S1x128x2048.size inb) (ix3 0 r n) = x (ix3 0 ⟨o + r.val, h⟩ n) := by
  show x ((Rect.unit (s := S1x512x2048) ![0, o, 0] S1x128x2048.size inb).idx (ix3 0 r n)) = _
  refine congrArg x (funext fun a => Fin.ext ?_)
  refine (Rect.idx_unit_val _ _ inb _ a).trans ?_
  match a with
  | ⟨0, _⟩ => rfl
  | ⟨1, _⟩ => rfl
  | ⟨2, _⟩ => exact Nat.zero_add _

/-- Where a band's entries lie in its block. -/
theorem slab (o : ℕ) (inb) (u : Fin 1) (r : Fin 128) (n : Fin 2048) :
    o + r.val = ((Rect.unit (s := S1x512x2048) ![0, o, 0] S1x128x2048.size inb).emb (ix3 u r n) 1).val
      ∧ n.val = ((Rect.unit (s := S1x512x2048) ![0, o, 0] S1x128x2048.size inb).emb (ix3 u r n) 2).val :=
  ⟨(Rect.idx_unit_val _ _ inb (ix3 u r n) (1 : Fin 3)).symm, ((Rect.idx_unit_val _ _ inb (ix3 u r n) (2 : Fin 3)).trans (Nat.zero_add _)).symm⟩
theorem slabA (o : ℕ) (inb) (u : Fin 1) (e : Fin 16) (r : Fin 128) :
    o + r.val = ((Rect.unit (s := S1x16x512) ![0, 0, o] S1x16x128.size inb).emb (ix3 u e r) 2).val
      ∧ e.val = ((Rect.unit (s := S1x16x512) ![0, 0, o] S1x16x128.size inb).emb (ix3 u e r) 1).val :=
  ⟨(Rect.idx_unit_val _ _ inb (ix3 u e r) (2 : Fin 3)).symm, ((Rect.idx_unit_val _ _ inb (ix3 u e r) (1 : Fin 3)).trans (Nat.zero_add _)).symm⟩

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : FVec Ideal S1x512x2048 .bf16) (x1 : FVec Ideal S1x2048x2048 .bf16) (x2 : FVec Ideal S1x512x2048 .f32) (x3 x4 x5 : FVec Ideal S1x1x2048 .f32)
    (x6 x7 : FVec Ideal S1x2048 .f32) (x8 : FVec Ideal S2048x128 .bf16)

/-- A row of a block after the layer norm. -/
abbrev xblk (r : Fin 512) : Fin 2048 → EReal :=
  normed (zed (fun d => x0 (ix3 0 r d)) (fun d n => x1 (ix3 0 d n)) (fun n => x2 (ix3 0 r n)) (fun n => x3 (ix3 0 0 n)))
    (fun n => x6 (ix2 0 n)) (fun n => x7 (ix2 0 n))

/-- A row of a block after the modulation. -/
abbrev hblk (r : Fin 512) : Fin 2048 → EReal :=
  modul (xblk x0 x1 x2 x3 x6 x7 r) (fun n => x5 (ix3 0 0 n)) (fun n => x4 (ix3 0 0 n))

/-- A row's router softmax. -/
abbrev ablk (r : Fin 512) : Fin 16 → EReal :=
  soft16 fun k => ∑ d : Fin 2048, hblk x0 x1 x2 x3 x4 x5 x6 x7 r d * x8 (ix2 d ⟨k.val, by omega⟩)

theorem xrow_eq (o : ℕ) (inb) (r : Fin 128) (h : o + r.val < 512) :
    xrow (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) r = xblk x0 x1 x2 x3 x6 x7 ⟨o + r.val, h⟩ := by
  rw [View.ld_unit_zero hz3, View.ld_unit_zero hz3, View.ld_unit_zero hz2, View.ld_unit_zero hz2]
  unfold xrow zrow xblk
  have e0 : (fun d : Fin 2048 => View.ld (Val := Elt Ideal) (e' := .bf16) x0 (Rect.unit (s := S1x512x2048) ![0, o, 0] S1x128x2048.size inb) (ix3 0 r d))
      = fun d => x0 (ix3 0 ⟨o + r.val, h⟩ d) := funext fun d => ld_band (α := Elt Ideal) (e := .bf16) o inb x0 r d h
  have e2 : (fun d : Fin 2048 => View.ld (Val := Elt Ideal) (e' := .f32) x2 (Rect.unit (s := S1x512x2048) ![0, o, 0] S1x128x2048.size inb) (ix3 0 r d))
      = fun d => x2 (ix3 0 ⟨o + r.val, h⟩ d) := funext fun d => ld_band (α := Elt Ideal) (e := .f32) o inb x2 r d h
  exact congrArg₂ (fun p q : Fin 2048 → EReal => normed (zed p (fun d n => x1 (ix3 0 d n)) q (fun n => x3 (ix3 0 0 n)))
    (fun n => x6 (ix2 0 n)) (fun n => x7 (ix2 0 n))) e0 e2

theorem pieceX (o : ℕ) (inb) (ho : o + 128 ≤ 512) (y : S1x128x2048.Idx) :
    bandX (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) y
      = (fun i : S1x512x2048.Idx => xblk x0 x1 x2 x3 x6 x7 (i 1) (i 2)) ((Rect.unit (s := S1x512x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandX_apply _ _ _ _ _ _ u r n).trans ?_
  rw [xrow_eq x0 x1 x2 x3 x6 x7 o inb r (by omega)]
  exact congrArg₂ (fun p q => xblk x0 x1 x2 x3 x6 x7 p q) (Fin.ext (slab o inb u r n).1) (Fin.ext (slab o inb u r n).2)

theorem pieceH (o : ℕ) (inb) (ho : o + 128 ≤ 512) (y : S1x128x2048.Idx) :
    bandH (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3) y
      = (fun i : S1x512x2048.Idx => hblk x0 x1 x2 x3 x4 x5 x6 x7 (i 1) (i 2)) ((Rect.unit (s := S1x512x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandH_apply _ _ _ _ _ _ _ _ u r n).trans ?_
  unfold hrow
  rw [xrow_eq x0 x1 x2 x3 x6 x7 o inb r (by omega), View.ld_unit_zero hz3, View.ld_unit_zero hz3]
  exact congrArg₂ (fun p q => hblk x0 x1 x2 x3 x4 x5 x6 x7 p q) (Fin.ext (slab o inb u r n).1) (Fin.ext (slab o inb u r n).2)

theorem pieceA (o : ℕ) (inb) (inb') (ho : o + 128 ≤ 512) (y : S1x16x128.Idx) :
    bandA (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3)
      (View.ld (Val := Elt Ideal) (e' := .bf16) x8 r0_5) y
      = (fun i : S1x16x512.Idx => ablk x0 x1 x2 x3 x4 x5 x6 x7 x8 (i 2) (i 1)) ((Rect.unit (s := S1x16x512) ![0, 0, o] S1x16x128.size inb').emb y) := by
  obtain ⟨u, e, r, rfl⟩ : ∃ u e r, y = ix3 (n0 := 1) (n1 := 16) (n2 := 128) u e r := ⟨_, _, _, eq_ix3 y⟩
  refine (bandA_apply _ _ _ _ _ _ _ _ _ u e r).trans ?_
  unfold hrow
  rw [xrow_eq x0 x1 x2 x3 x6 x7 o inb r (by omega), View.ld_unit_zero hz3, View.ld_unit_zero hz3, View.ld_unit_zero hz2]
  exact congrArg₂ (fun p q => ablk x0 x1 x2 x3 x4 x5 x6 x7 x8 p q) (Fin.ext (slabA o inb' u e r).1) (Fin.ext (slabA o inb' u e r).2)

/-- The first block of a grid point. -/
theorem out9 (y : S1x512x2048.Idx) : out0_9 (F := Ideal) x0 x1 x2 x3 x4 x5 x6 x7 x8 y = xblk x0 x1 x2 x3 x6 x7 (y 1) (y 2) := by
  unfold out0_9
  refine View.canon_apply_of_pieces (Val := Elt Ideal) (fun i : S1x512x2048.Idx => xblk x0 x1 x2 x3 x6 x7 (i 1) (i 2)) _ ?_ y (cover0_9 _ _ _ _ y)
  intro p hp
  simp only [List.mem_cons, List.not_mem_nil, or_false] at hp
  rcases hp with rfl | rfl | rfl | rfl
  · exact fun i => pieceX x0 x1 x2 x3 x6 x7 384 _ (by omega) i
  · exact fun i => pieceX x0 x1 x2 x3 x6 x7 256 _ (by omega) i
  · exact fun i => pieceX x0 x1 x2 x3 x6 x7 128 _ (by omega) i
  · exact fun i => pieceX x0 x1 x2 x3 x6 x7 0 _ (by omega) i

/-- The second block of a grid point. -/
theorem out10 (y : S1x512x2048.Idx) : out0_10 (F := Ideal) x0 x1 x2 x3 x4 x5 x6 x7 x8 y = hblk x0 x1 x2 x3 x4 x5 x6 x7 (y 1) (y 2) := by
  unfold out0_10
  refine View.canon_apply_of_pieces (Val := Elt Ideal) (fun i : S1x512x2048.Idx => hblk x0 x1 x2 x3 x4 x5 x6 x7 (i 1) (i 2)) _ ?_ y (cover0_10 _ _ _ _ y)
  intro p hp
  simp only [List.mem_cons, List.not_mem_nil, or_false] at hp
  rcases hp with rfl | rfl | rfl | rfl
  · exact fun i => pieceH x0 x1 x2 x3 x4 x5 x6 x7 384 _ (by omega) i
  · exact fun i => pieceH x0 x1 x2 x3 x4 x5 x6 x7 256 _ (by omega) i
  · exact fun i => pieceH x0 x1 x2 x3 x4 x5 x6 x7 128 _ (by omega) i
  · exact fun i => pieceH x0 x1 x2 x3 x4 x5 x6 x7 0 _ (by omega) i

/-- The third block of a grid point. -/
theorem out11 (y : S1x16x512.Idx) : out0_11 (F := Ideal) x0 x1 x2 x3 x4 x5 x6 x7 x8 y = ablk x0 x1 x2 x3 x4 x5 x6 x7 x8 (y 2) (y 1) := by
  unfold out0_11
  refine View.canon_apply_of_pieces (Val := Elt Ideal) (fun i : S1x16x512.Idx => ablk x0 x1 x2 x3 x4 x5 x6 x7 x8 (i 2) (i 1)) _ ?_ y (cover0_11 _ _ _ _ y)
  intro p hp
  simp only [List.mem_cons, List.not_mem_nil, or_false] at hp
  rcases hp with rfl | rfl | rfl | rfl
  · exact fun i => pieceA x0 x1 x2 x3 x4 x5 x6 x7 x8 384 inb_S1x512x2048_S1x128x2048_0_384_0 inb_S1x16x512_S1x16x128_0_0_384 (by omega) i
  · exact fun i => pieceA x0 x1 x2 x3 x4 x5 x6 x7 x8 256 inb_S1x512x2048_S1x128x2048_0_256_0 inb_S1x16x512_S1x16x128_0_0_256 (by omega) i
  · exact fun i => pieceA x0 x1 x2 x3 x4 x5 x6 x7 x8 128 inb_S1x512x2048_S1x128x2048_0_128_0 inb_S1x16x512_S1x16x128_0_0_128 (by omega) i
  · exact fun i => pieceA x0 x1 x2 x3 x4 x5 x6 x7 x8 0 inb_S1x512x2048_S1x128x2048_0_0_0 inb_S1x16x512_S1x16x128_0_0_0 (by omega) i
end

end Cert.OutProjIdeal.Val

end
-- ==== Proof.OutProjValue.lean ====
/-
  THE OUTPUT PROJECTION'S VALUE (hand-written): the kernel `OutProjIdeal` leaves in its three results, row by row, the layer
  norm of the scaled residual plus the gated product of the merged branches with layer 0's weights (`x1`), its modulation
  (`h2`) and the router's softmax over the 16 experts (`aff`).

  The kernel works at 512 rows of one sequence per point of the grid (8, 4); the router's weights reach it padded to 128
  columns, and the padding's logits are masked to −∞.
-/
module

public import proofs.«01_k».proof.Proof.OutProjBand
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutProjIdeal.Val

open Cert.OutProjIdeal Cert.OutProjIdeal.Gen Cert.OutProjMath

/-! ## The results, index by index -/

section
variable (a : FVec Ideal S8x2048x2048 .bf16) (w : FVec Ideal S2x2048x2048 .f32) (x : FVec Ideal S8x2048x2048 .f32) (g sh sc : FVec Ideal S16x1x2048 .f32)
    (lg lb : FVec Ideal S2048 .f32) (rw' : FVec Ideal S2048x16 .f32)

/-- A row after the layer norm. -/
def x1At (b : Fin 8) (s : Fin 2048) : Fin 2048 → EReal :=
  normed (zed (fun d => a (ix3 b s d)) (fun d n => w (ix3 (0 : Fin 2) d n)) (fun n => x (ix3 b s n))
    (fun n => g (ix3 (⟨b.val, by omega⟩ : Fin 16) 0 n))) (fun n => lg (ix1 n)) (fun n => lb (ix1 n))

/-- A row after the modulation. -/
def h2At (b : Fin 8) (s : Fin 2048) : Fin 2048 → EReal :=
  modul (x1At a w x g lg lb b s) (fun n => sc (ix3 (⟨b.val, by omega⟩ : Fin 16) 0 n)) (fun n => sh (ix3 (⟨b.val, by omega⟩ : Fin 16) 0 n))

/-- A row's router softmax. -/
def affAt (b : Fin 8) (s : Fin 2048) : Fin 16 → EReal :=
  soft16 fun k => ∑ d : Fin 2048, h2At a w x g sh sc lg lb b s d * rw' (ix2 d k)

/-- The residual's new value. -/
def x1 : FVec Ideal S8x2048x2048 .f32 := fun i => x1At a w x g lg lb (i 0) (i 1) (i 2)
/-- The experts' input. -/
def h2 : FVec Ideal S8x2048x2048 .bf16 := fun i => h2At a w x g sh sc lg lb (i 0) (i 1) (i 2)
/-- The router's affinities, expert by expert. -/
def aff : FVec Ideal S8x16x2048 .f32 := fun i => affAt a w x g sh sc lg lb rw' (i 0) (i 2) (i 1)
end

variable (m : (ℓ : Loc nD τ sig) → Buf (Elt Ideal) ℓ) (ρ : Dev nD → PrngReg)

theorem lt_N (t : Fin cfg0.N) : t.val < 32 := lt_of_lt_of_eq t.isLt N_0

/-! ## What the host operations stage -/

/-- The weights (a change of format is the identity). -/
theorem V_v2 (c : Dev nD) (i : S2x2048x2048.Idx) : V m c main_v2 i = m ((c : Thread nD τ).loc main_arg1) i := by
  have h : V m c main_v2 = truncf (F := Ideal) .bf16 (m ((c : Thread nD τ).loc main_arg1) : FVec Ideal S2x2048x2048 .f32) bitsLt_bf16_f32 := by
    show StableHlo.after (List.flatten [hostOps0, hostOps0_1, hostOps0_2]) (fun b => m (c, b)) (Proc.devRef .tc main_v2) = _
    simp only [hostOps0, hostOps0_1, hostOps0_2, List.flatten_cons, List.flatten_nil, List.append_nil, List.cons_append, List.nil_append]
    after_results
  rw [h]; rfl

/-- The layer norm's scale, as a row. -/
theorem V_v3 (c : Dev nD) (i : S1x2048.Idx) : V m c main_v3 i = m ((c : Thread nD τ).loc main_arg6) (ix1 (i 1)) := by
  have h : V m c main_v3 = broadcastInDim S1x2048 ![1] bcast_S2048_S1x2048_1 (m ((c : Thread nD τ).loc main_arg6) : FVec Ideal S2048 .f32) := by
    show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg6) = y
  pointwise []

/-- The layer norm's shift, as a row. -/
theorem V_v4 (c : Dev nD) (i : S1x2048.Idx) : V m c main_v4 i = m ((c : Thread nD τ).loc main_arg7) (ix1 (i 1)) := by
  have h : V m c main_v4 = broadcastInDim S1x2048 ![1] bcast_S2048_S1x2048_1 (m ((c : Thread nD τ).loc main_arg7) : FVec Ideal S2048 .f32) := by
    show StableHlo.after (List.flatten [hostOps0, hostOps0_1, hostOps0_2]) (fun b => m (c, b)) (Proc.devRef .tc main_v4) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg7) = y
  pointwise []

/-- A padded array below column 16. -/
theorem padded (y : FVec Ideal S2048x16 .f32) (v : FVec Ideal S_ .f32) (d : Fin 2048) (k : Fin 16) :
    pad S2048x128 ![0, 0] ![0, 112] ![0, 0] y v pads_S2048x16_S2048x128_000_01120 h_S_ (ix2 d (⟨k.val, by omega⟩ : Fin 128)) = y (ix2 d k) := by
  refine pad_apply_of_inside _ _ _ _ _ _ _ _ (ix2 d k) fun a => ?_
  match a with
  | ⟨0, _⟩ => show d.val = 0 + d.val * (0 + 1); omega
  | ⟨1, _⟩ => show k.val = 0 + k.val * (0 + 1); omega

/-- The router's weights below column 16. -/
theorem V_v1 (c : Dev nD) (d : Fin 2048) (k : Fin 16) :
    V m c main_v1 (ix2 d (⟨k.val, by omega⟩ : Fin 128)) = m ((c : Thread nD τ).loc main_arg8) (ix2 d k) := by
  have h : V m c main_v1 = truncf (F := Ideal) .bf16 (pad S2048x128 ![0, 0] ![0, 112] ![0, 0]
      (m ((c : Thread nD τ).loc main_arg8) : FVec Ideal S2048x16 .f32) (sitofp (F := Ideal) .f32 (constantI S_ 32 0#32))
      pads_S2048x16_S2048x128_000_01120 h_S_) bitsLt_bf16_f32 := by
    show StableHlo.after (List.flatten [hostOps0, hostOps0_1, hostOps0_2]) (fun b => m (c, b)) (Proc.devRef .tc main_v1) = _
    simp only [hostOps0, hostOps0_1, hostOps0_2, List.flatten_cons, List.flatten_nil, List.append_nil, List.cons_append, List.nil_append]
    after_results
    try rfl
  rw [h]
  exact padded _ _ d k

/-! ## The windows' index maps and blocks -/

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem index3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)
theorem index4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem index5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)
theorem index10 : ∀ t : Fin cfg0.N, win0_10.index t 0 = t.val / 4 ∧ win0_10.index t 1 = t.val % 4 ∧ win0_10.index t 2 = 0 :=
  (by decide +kernel : ∀ t : Fin grid0.N, win0_10.index t 0 = t.val / 4 ∧ win0_10.index t 1 = t.val % 4 ∧ win0_10.index t 2 = 0)
theorem index11 : ∀ t : Fin cfg0.N, win0_11.index t 0 = t.val / 4 ∧ win0_11.index t 1 = 0 ∧ win0_11.index t 2 = t.val % 4 :=
  (by decide +kernel : ∀ t : Fin grid0.N, win0_11.index t 0 = t.val / 4 ∧ win0_11.index t 1 = 0 ∧ win0_11.index t 2 = t.val % 4)

/-- The merged branches' block: sequence `t / 4`, rows from `512 (t % 4)`. -/
theorem blk0 (c : Dev nD) (t : Fin cfg0.N) (u : Fin 1) (r : Fin 512) (k : Fin 2048) : iblk m c 0 t (ix3 u r k) = m ((c : Thread nD τ).loc main_arg0)
      (ix3 (⟨t.val / 4, by have := lt_N t; omega⟩ : Fin 8) (⟨t.val % 4 * 512 + r.val, by omega⟩ : Fin 2048) k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val / 4 * 1 + u.val = t.val / 4; omega
  | ⟨1, _⟩ => refine (Pipeline.Window.rect_emb_val win0_0 t (ix3 u r k) 1).trans ?_; rw [e1]; show t.val % 4 * 512 + r.val = t.val % 4 * 512 + r.val; omega
  | ⟨2, _⟩ => refine (Pipeline.Window.rect_emb_val win0_0 t (ix3 u r k) 2).trans ?_; rw [e2]; show 0 * 2048 + k.val = k.val; omega

/-- The weights' block: layer 0. -/
theorem blk1 (c : Dev nD) (t : Fin cfg0.N) (u : Fin 1) (k : Fin 2048) (n : Fin 2048) : iblk m c 1 t (ix3 u k n) = m ((c : Thread nD τ).loc main_arg1)
      (ix3 (0 : Fin 2) k n) := by
  refine Eq.trans ?_ (V_v2 m c _)
  show V m c (Pipeline.arrRef spec0 1) ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 0 * 1 + u.val = 0; omega
  | ⟨1, _⟩ => refine (Pipeline.Window.rect_emb_val win0_1 t (ix3 u k n) 1).trans ?_; rw [e1]; show 0 * 2048 + k.val = k.val; omega
  | ⟨2, _⟩ => refine (Pipeline.Window.rect_emb_val win0_1 t (ix3 u k n) 2).trans ?_; rw [e2]; show 0 * 2048 + n.val = n.val; omega

/-- The residual's block: the same rows. -/
theorem blk2 (c : Dev nD) (t : Fin cfg0.N) (u : Fin 1) (r : Fin 512) (k : Fin 2048) : iblk m c 2 t (ix3 u r k) = m ((c : Thread nD τ).loc main_arg2)
      (ix3 (⟨t.val / 4, by have := lt_N t; omega⟩ : Fin 8) (⟨t.val % 4 * 512 + r.val, by omega⟩ : Fin 2048) k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val / 4 * 1 + u.val = t.val / 4; omega
  | ⟨1, _⟩ => refine (Pipeline.Window.rect_emb_val win0_2 t (ix3 u r k) 1).trans ?_; rw [e1]; show t.val % 4 * 512 + r.val = t.val % 4 * 512 + r.val; omega
  | ⟨2, _⟩ => refine (Pipeline.Window.rect_emb_val win0_2 t (ix3 u r k) 2).trans ?_; rw [e2]; show 0 * 2048 + k.val = k.val; omega

/-- The sequence's gate. -/
theorem blk3 (c : Dev nD) (t : Fin cfg0.N) (u : Fin 1) (v : Fin 1) (n : Fin 2048) : iblk m c 3 t (ix3 u v n) = m ((c : Thread nD τ).loc main_arg3)
      (ix3 (⟨t.val / 4, by have := lt_N t; omega⟩ : Fin 16) 0 n) := by
  refine Eq.trans ?_ (congrFun (V_main_arg3 m c) _)
  show V m c (Pipeline.arrRef spec0 3) ((win0_3.rect t).emb (ix3 u v n)) = _
  refine congrArg _ (funext fun a => Fin.ext ?_)
  obtain ⟨e0, e1, e2⟩ := index3 t
  match a with
  | ⟨0, _⟩ => refine (Pipeline.Window.rect_emb_val win0_3 t (ix3 u v n) 0).trans ?_; rw [e0]; show t.val / 4 * 1 + u.val = t.val / 4; omega
  | ⟨1, _⟩ => refine (Pipeline.Window.rect_emb_val win0_3 t (ix3 u v n) 1).trans ?_; rw [e1]; show 0 * 1 + v.val = 0; omega
  | ⟨2, _⟩ => refine (Pipeline.Window.rect_emb_val win0_3 t (ix3 u v n) 2).trans ?_; rw [e2]; show 0 * 2048 + n.val = n.val; omega

/-- The sequence's shift. -/
theorem blk4 (c : Dev nD) (t : Fin cfg0.N) (u : Fin 1) (v : Fin 1) (n : Fin 2048) : iblk m c 4 t (ix3 u v n) = m ((c : Thread nD τ).loc main_arg4)
      (ix3 (⟨t.val / 4, by have := lt_N t; omega⟩ : Fin 16) 0 n) := by
  refine Eq.trans ?_ (congrFun (V_main_arg4 m c) _)
  show V m c (Pipeline.arrRef spec0 4) ((win0_4.rect t).emb (ix3 u v n)) = _
  refine congrArg _ (funext fun a => Fin.ext ?_)
  obtain ⟨e0, e1, e2⟩ := index4 t
  match a with
  | ⟨0, _⟩ => refine (Pipeline.Window.rect_emb_val win0_4 t (ix3 u v n) 0).trans ?_; rw [e0]; show t.val / 4 * 1 + u.val = t.val / 4; omega
  | ⟨1, _⟩ => refine (Pipeline.Window.rect_emb_val win0_4 t (ix3 u v n) 1).trans ?_; rw [e1]; show 0 * 1 + v.val = 0; omega
  | ⟨2, _⟩ => refine (Pipeline.Window.rect_emb_val win0_4 t (ix3 u v n) 2).trans ?_; rw [e2]; show 0 * 2048 + n.val = n.val; omega

/-- The sequence's scale. -/
theorem blk5 (c : Dev nD) (t : Fin cfg0.N) (u : Fin 1) (v : Fin 1) (n : Fin 2048) : iblk m c 5 t (ix3 u v n) = m ((c : Thread nD τ).loc main_arg5)
      (ix3 (⟨t.val / 4, by have := lt_N t; omega⟩ : Fin 16) 0 n) := by
  refine Eq.trans ?_ (congrFun (V_main_arg5 m c) _)
  show V m c (Pipeline.arrRef spec0 5) ((win0_5.rect t).emb (ix3 u v n)) = _
  refine congrArg _ (funext fun a => Fin.ext ?_)
  obtain ⟨e0, e1, e2⟩ := index5 t
  match a with
  | ⟨0, _⟩ => refine (Pipeline.Window.rect_emb_val win0_5 t (ix3 u v n) 0).trans ?_; rw [e0]; show t.val / 4 * 1 + u.val = t.val / 4; omega
  | ⟨1, _⟩ => refine (Pipeline.Window.rect_emb_val win0_5 t (ix3 u v n) 1).trans ?_; rw [e1]; show 0 * 1 + v.val = 0; omega
  | ⟨2, _⟩ => refine (Pipeline.Window.rect_emb_val win0_5 t (ix3 u v n) 2).trans ?_; rw [e2]; show 0 * 2048 + n.val = n.val; omega

/-- The layer norm's scale. -/
theorem blk6 (c : Dev nD) (t : Fin cfg0.N) (n : Fin 2048) : iblk m c 6 t (ix2 0 n) = m ((c : Thread nD τ).loc main_arg6) (ix1 n) := by
  refine Eq.trans ?_ (V_v3 m c (ix2 0 n))
  show V m c (Pipeline.arrRef spec0 6) ((win0_6.rect t).emb (ix2 0 n)) = _
  refine congrArg _ (funext fun a => Fin.ext ?_)
  obtain ⟨e0, e1⟩ := index6 t
  match a with
  | ⟨0, _⟩ => refine (Pipeline.Window.rect_emb_val win0_6 t (ix2 0 n) 0).trans ?_; rw [e0]; rfl
  | ⟨1, _⟩ => refine (Pipeline.Window.rect_emb_val win0_6 t (ix2 0 n) 1).trans ?_; rw [e1]; show 0 * 2048 + n.val = n.val; omega

/-- The layer norm's shift. -/
theorem blk7 (c : Dev nD) (t : Fin cfg0.N) (n : Fin 2048) : iblk m c 7 t (ix2 0 n) = m ((c : Thread nD τ).loc main_arg7) (ix1 n) := by
  refine Eq.trans ?_ (V_v4 m c (ix2 0 n))
  show V m c (Pipeline.arrRef spec0 7) ((win0_7.rect t).emb (ix2 0 n)) = _
  refine congrArg _ (funext fun a => Fin.ext ?_)
  obtain ⟨e0, e1⟩ := index7 t
  match a with
  | ⟨0, _⟩ => refine (Pipeline.Window.rect_emb_val win0_7 t (ix2 0 n) 0).trans ?_; rw [e0]; rfl
  | ⟨1, _⟩ => refine (Pipeline.Window.rect_emb_val win0_7 t (ix2 0 n) 1).trans ?_; rw [e1]; show 0 * 2048 + n.val = n.val; omega

/-- The router's weights. -/
theorem blk8 (c : Dev nD) (t : Fin cfg0.N) (d : Fin 2048) (k : Fin 16) :
    iblk m c 8 t (ix2 d (⟨k.val, by omega⟩ : Fin 128)) = m ((c : Thread nD τ).loc main_arg8) (ix2 d k) := by
  refine Eq.trans ?_ (V_v1 m c d k)
  show V m c (Pipeline.arrRef spec0 8) ((win0_8.rect t).emb (ix2 d (⟨k.val, by omega⟩ : Fin 128))) = _
  refine congrArg _ (funext fun a => Fin.ext ?_)
  obtain ⟨e0, e1⟩ := index8 t
  match a with
  | ⟨0, _⟩ => refine (Pipeline.Window.rect_emb_val win0_8 t (ix2 d (⟨k.val, by omega⟩ : Fin 128)) 0).trans ?_; rw [e0]; show 0 * 2048 + d.val = d.val; omega
  | ⟨1, _⟩ => refine (Pipeline.Window.rect_emb_val win0_8 t (ix2 d (⟨k.val, by omega⟩ : Fin 128)) 1).trans ?_; rw [e1]; show 0 * 128 + k.val = k.val; omega

/-! ## What a point writes back -/

/-- The launch contents' new residual; -/
abbrev x1Of (c : Dev nD) : FVec Ideal S8x2048x2048 .f32 := x1 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
/-- the experts' input; -/
abbrev h2Of (c : Dev nD) : FVec Ideal S8x2048x2048 .bf16 := h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- the affinities. -/
abbrev affOf (c : Dev nD) : FVec Ideal S8x16x2048 .f32 := aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A row of a block is a row of the result. -/
theorem xblk_eq (c : Dev nD) (t : Fin cfg0.N) (r : Fin 512) :
    xblk (iblk m c 0 t) (iblk m c 1 t) (iblk m c 2 t) (iblk m c 3 t) (iblk m c 6 t) (iblk m c 7 t) r
      = x1At (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (⟨t.val / 4, by have := lt_N t; omega⟩ : Fin 8) (⟨t.val % 4 * 512 + r.val, by omega⟩ : Fin 2048) := by
  unfold xblk x1At
  refine congr (congr (congrArg normed (congr (congr (congr (congrArg zed ?_) ?_) ?_) ?_)) ?_) ?_
  · exact funext fun d => blk0 m c t 0 r d
  · exact funext fun d => funext fun n => blk1 m c t 0 d n
  · exact funext fun d => blk2 m c t 0 r d
  · exact funext fun d => blk3 m c t 0 0 d
  · exact funext fun n => blk6 m c t n
  · exact funext fun n => blk7 m c t n

theorem hblk_eq (c : Dev nD) (t : Fin cfg0.N) (r : Fin 512) :
    hblk (iblk m c 0 t) (iblk m c 1 t) (iblk m c 2 t) (iblk m c 3 t) (iblk m c 4 t) (iblk m c 5 t) (iblk m c 6 t) (iblk m c 7 t) r
      = h2At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨t.val / 4, by have := lt_N t; omega⟩ : Fin 8) (⟨t.val % 4 * 512 + r.val, by omega⟩ : Fin 2048) := by
  unfold hblk h2At
  refine congr (congr (congrArg modul (xblk_eq m c t r)) ?_) ?_
  · exact funext fun n => blk5 m c t 0 0 n
  · exact funext fun n => blk4 m c t 0 0 n

theorem ablk_eq (c : Dev nD) (t : Fin cfg0.N) (r : Fin 512) :
    ablk (iblk m c 0 t) (iblk m c 1 t) (iblk m c 2 t) (iblk m c 3 t) (iblk m c 4 t) (iblk m c 5 t) (iblk m c 6 t) (iblk m c 7 t) (iblk m c 8 t) r
      = affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val / 4, by have := lt_N t; omega⟩ : Fin 8) (⟨t.val % 4 * 512 + r.val, by omega⟩ : Fin 2048) := by
  unfold ablk affAt
  refine congrArg soft16 (funext fun k => Finset.sum_congr rfl fun d _ => ?_)
  exact congrArg₂ (fun p q : EReal => p * q) (congrFun (hblk_eq m c t r) d) (blk8 m c t d k)

theorem x1_at (a w x g lg lb) (i : S8x2048x2048.Idx) (b : Fin 8) (s n : Fin 2048)
    (q0 : (i 0).val = b.val) (q1 : (i 1).val = s.val) (q2 : (i 2).val = n.val) : x1 a w x g lg lb i = x1At a w x g lg lb b s n := by
  obtain rfl : i 0 = b := Fin.ext q0
  obtain rfl : i 1 = s := Fin.ext q1
  obtain rfl : i 2 = n := Fin.ext q2
  rfl

theorem h2_at (a w x g sh sc lg lb) (i : S8x2048x2048.Idx) (b : Fin 8) (s n : Fin 2048)
    (q0 : (i 0).val = b.val) (q1 : (i 1).val = s.val) (q2 : (i 2).val = n.val) : h2 a w x g sh sc lg lb i = h2At a w x g sh sc lg lb b s n := by
  obtain rfl : i 0 = b := Fin.ext q0
  obtain rfl : i 1 = s := Fin.ext q1
  obtain rfl : i 2 = n := Fin.ext q2
  rfl

theorem aff_at (a w x g sh sc lg lb rw') (i : S8x16x2048.Idx) (b : Fin 8) (s : Fin 2048) (e : Fin 16)
    (q0 : (i 0).val = b.val) (q1 : (i 1).val = e.val) (q2 : (i 2).val = s.val) : aff a w x g sh sc lg lb rw' i = affAt a w x g sh sc lg lb rw' b s e := by
  obtain rfl : i 0 = b := Fin.ext q0
  obtain rfl : i 1 = e := Fin.ext q1
  obtain rfl : i 2 = s := Fin.ext q2
  rfl

/-- What point `t` writes back of the new residual is its block. -/
theorem flushed9_eq (c : Dev nD) (t : Fin cfg0.N) :
    (dats m 0 c).flushed 9 t = (win0_9.blk t).view.read (Elt Ideal) (x1Of m c) := by
  rw [Value.flushed9]
  show (fun j : S1x512x2048.Idx => out0_9 (F := Ideal) (iblk m c 0 t) (iblk m c 1 t) (iblk m c 2 t) (iblk m c 3 t) (iblk m c 4 t) (iblk m c 5 t) (iblk m c 6 t) (iblk m c 7 t) (iblk m c 8 t) j) = fun j : S1x512x2048.Idx => x1Of m c ((win0_9.rect t).emb j)
  funext j
  obtain ⟨u, r, n, rfl⟩ : ∃ u r n, j = ix3 (n0 := 1) (n1 := 512) (n2 := 2048) u r n := ⟨_, _, _, eq_ix3 j⟩
  refine (out9 _ _ _ _ _ _ _ _ _ _).trans ?_
  obtain ⟨e0, e1, e2⟩ := index9 t
  refine (congrFun (xblk_eq m c t r) n).trans (x1_at _ _ _ _ _ _ _ _ _ _ ?_ ?_ ?_).symm
  · refine (Pipeline.Window.rect_emb_val win0_9 t (ix3 u r n) 0).trans ?_; rw [e0]; show _ * 1 + u.val = t.val / 4; omega
  · refine (Pipeline.Window.rect_emb_val win0_9 t (ix3 u r n) 1).trans ?_; rw [e1]; rfl
  · refine (Pipeline.Window.rect_emb_val win0_9 t (ix3 u r n) 2).trans ?_; rw [e2]; show 0 * 2048 + n.val = n.val; omega

/-- What point `t` writes back of the experts' input is its block. -/
theorem flushed10_eq (c : Dev nD) (t : Fin cfg0.N) :
    (dats m 0 c).flushed 10 t = (win0_10.blk t).view.read (Elt Ideal) (h2Of m c) := by
  rw [Value.flushed10]
  show (fun j : S1x512x2048.Idx => out0_10 (F := Ideal) (iblk m c 0 t) (iblk m c 1 t) (iblk m c 2 t) (iblk m c 3 t) (iblk m c 4 t) (iblk m c 5 t) (iblk m c 6 t) (iblk m c 7 t) (iblk m c 8 t) j) = fun j : S1x512x2048.Idx => h2Of m c ((win0_10.rect t).emb j)
  funext j
  obtain ⟨u, r, n, rfl⟩ : ∃ u r n, j = ix3 (n0 := 1) (n1 := 512) (n2 := 2048) u r n := ⟨_, _, _, eq_ix3 j⟩
  refine (out10 _ _ _ _ _ _ _ _ _ _).trans ?_
  obtain ⟨e0, e1, e2⟩ := index10 t
  refine (congrFun (hblk_eq m c t r) n).trans (h2_at _ _ _ _ _ _ _ _ _ _ _ _ ?_ ?_ ?_).symm
  · refine (Pipeline.Window.rect_emb_val win0_10 t (ix3 u r n) 0).trans ?_; rw [e0]; show _ * 1 + u.val = t.val / 4; omega
  · refine (Pipeline.Window.rect_emb_val win0_10 t (ix3 u r n) 1).trans ?_; rw [e1]; rfl
  · refine (Pipeline.Window.rect_emb_val win0_10 t (ix3 u r n) 2).trans ?_; rw [e2]; show 0 * 2048 + n.val = n.val; omega

/-- What point `t` writes back of the affinities is its block. -/
theorem flushed11_eq (c : Dev nD) (t : Fin cfg0.N) :
    (dats m 0 c).flushed 11 t = (win0_11.blk t).view.read (Elt Ideal) (affOf m c) := by
  rw [Value.flushed11]
  show (fun j : S1x16x512.Idx => out0_11 (F := Ideal) (iblk m c 0 t) (iblk m c 1 t) (iblk m c 2 t) (iblk m c 3 t) (iblk m c 4 t) (iblk m c 5 t) (iblk m c 6 t) (iblk m c 7 t) (iblk m c 8 t) j) = fun j : S1x16x512.Idx => affOf m c ((win0_11.rect t).emb j)
  funext j
  obtain ⟨u, r, n, rfl⟩ : ∃ u r n, j = ix3 (n0 := 1) (n1 := 16) (n2 := 512) u r n := ⟨_, _, _, eq_ix3 j⟩
  refine (out11 _ _ _ _ _ _ _ _ _ _).trans ?_
  obtain ⟨e0, e1, e2⟩ := index11 t
  refine (congrFun (ablk_eq m c t n) r).trans (aff_at _ _ _ _ _ _ _ _ _ _ _ _ _ ?_ ?_ ?_).symm
  · refine (Pipeline.Window.rect_emb_val win0_11 t (ix3 u r n) 0).trans ?_; rw [e0]; show _ * 1 + u.val = t.val / 4; omega
  · refine (Pipeline.Window.rect_emb_val win0_11 t (ix3 u r n) 1).trans ?_; rw [e1]; show 0 * 16 + r.val = r.val; omega
  · refine (Pipeline.Window.rect_emb_val win0_11 t (ix3 u r n) 2).trans ?_; rw [e2]; rfl

/-! ## The blocks tile the results -/

theorem cover9 (i : S8x2048x2048.Idx) : ∃ t : Fin cfg0.N, (cfg0.win 9).flush t = true ∧ i ∈ ((cfg0.win 9).blk t).view.set := by
  have h0 : (i 0 : Nat) < 8 := (i 0).isLt
  have h1 : (i 1 : Nat) < 2048 := (i 1).isLt
  have h2 : (i 2 : Nat) < 2048 := (i 2).isLt
  have ht : (i 0 : Nat) * 4 + (i 1 : Nat) / 512 < cfg0.N := by have hN : cfg0.N = 32 := N_0; omega
  refine ⟨⟨_, ht⟩, flush0_9 _, ?_⟩
  show i ∈ ((View.whole main_v5_0).slice (win0_9.rect ⟨_, ht⟩)).set
  rw [View.set_slice_whole, Rect.mem_set_unit]
  obtain ⟨e0, e1, e2⟩ := index9 ⟨_, ht⟩
  intro a
  match a with
  | ⟨0, _⟩ => show win0_9.index ⟨_, ht⟩ 0 * 1 ≤ (i 0 : Nat) ∧ (i 0 : Nat) < win0_9.index ⟨_, ht⟩ 0 * 1 + 1; rw [e0]; dsimp only; omega
  | ⟨1, _⟩ => show win0_9.index ⟨_, ht⟩ 1 * 512 ≤ (i 1 : Nat) ∧ (i 1 : Nat) < win0_9.index ⟨_, ht⟩ 1 * 512 + 512; rw [e1]; dsimp only; omega
  | ⟨2, _⟩ => show win0_9.index ⟨_, ht⟩ 2 * 2048 ≤ (i 2 : Nat) ∧ (i 2 : Nat) < win0_9.index ⟨_, ht⟩ 2 * 2048 + 2048; rw [e2]; omega

theorem cover10 (i : S8x2048x2048.Idx) : ∃ t : Fin cfg0.N, (cfg0.win 10).flush t = true ∧ i ∈ ((cfg0.win 10).blk t).view.set := by
  have h0 : (i 0 : Nat) < 8 := (i 0).isLt
  have h1 : (i 1 : Nat) < 2048 := (i 1).isLt
  have h2 : (i 2 : Nat) < 2048 := (i 2).isLt
  have ht : (i 0 : Nat) * 4 + (i 1 : Nat) / 512 < cfg0.N := by have hN : cfg0.N = 32 := N_0; omega
  refine ⟨⟨_, ht⟩, flush0_10 _, ?_⟩
  show i ∈ ((View.whole main_v5_1).slice (win0_10.rect ⟨_, ht⟩)).set
  rw [View.set_slice_whole, Rect.mem_set_unit]
  obtain ⟨e0, e1, e2⟩ := index10 ⟨_, ht⟩
  intro a
  match a with
  | ⟨0, _⟩ => show win0_10.index ⟨_, ht⟩ 0 * 1 ≤ (i 0 : Nat) ∧ (i 0 : Nat) < win0_10.index ⟨_, ht⟩ 0 * 1 + 1; rw [e0]; dsimp only; omega
  | ⟨1, _⟩ => show win0_10.index ⟨_, ht⟩ 1 * 512 ≤ (i 1 : Nat) ∧ (i 1 : Nat) < win0_10.index ⟨_, ht⟩ 1 * 512 + 512; rw [e1]; dsimp only; omega
  | ⟨2, _⟩ => show win0_10.index ⟨_, ht⟩ 2 * 2048 ≤ (i 2 : Nat) ∧ (i 2 : Nat) < win0_10.index ⟨_, ht⟩ 2 * 2048 + 2048; rw [e2]; omega

theorem cover11 (i : S8x16x2048.Idx) : ∃ t : Fin cfg0.N, (cfg0.win 11).flush t = true ∧ i ∈ ((cfg0.win 11).blk t).view.set := by
  have h0 : (i 0 : Nat) < 8 := (i 0).isLt
  have h1 : (i 1 : Nat) < 16 := (i 1).isLt
  have h2 : (i 2 : Nat) < 2048 := (i 2).isLt
  have ht : (i 0 : Nat) * 4 + (i 2 : Nat) / 512 < cfg0.N := by have hN : cfg0.N = 32 := N_0; omega
  refine ⟨⟨_, ht⟩, flush0_11 _, ?_⟩
  show i ∈ ((View.whole main_v5_2).slice (win0_11.rect ⟨_, ht⟩)).set
  rw [View.set_slice_whole, Rect.mem_set_unit]
  obtain ⟨e0, e1, e2⟩ := index11 ⟨_, ht⟩
  intro a
  match a with
  | ⟨0, _⟩ => show win0_11.index ⟨_, ht⟩ 0 * 1 ≤ (i 0 : Nat) ∧ (i 0 : Nat) < win0_11.index ⟨_, ht⟩ 0 * 1 + 1; rw [e0]; dsimp only; omega
  | ⟨1, _⟩ => show win0_11.index ⟨_, ht⟩ 1 * 16 ≤ (i 1 : Nat) ∧ (i 1 : Nat) < win0_11.index ⟨_, ht⟩ 1 * 16 + 16; rw [e1]; omega
  | ⟨2, _⟩ => show win0_11.index ⟨_, ht⟩ 2 * 512 ≤ (i 2 : Nat) ∧ (i 2 : Nat) < win0_11.index ⟨_, ht⟩ 2 * 512 + 512; rw [e2]; dsimp only; omega

/-! ## The kernel's run -/

theorem final9 (c : Dev nD) : (dats m 0 c).arrAt 9 cfg0.N = x1Of m c :=
  (dats m 0 c).arrAt_eq_of_cover 9 _ (fun t _ => flushed9_eq m c t) cover9
theorem final10 (c : Dev nD) : (dats m 0 c).arrAt 10 cfg0.N = h2Of m c :=
  (dats m 0 c).arrAt_eq_of_cover 10 _ (fun t _ => flushed10_eq m c t) cover10
theorem final11 (c : Dev nD) : (dats m 0 c).arrAt 11 cfg0.N = affOf m c :=
  (dats m 0 c).arrAt_eq_of_cover 11 _ (fun t _ => flushed11_eq m c t) cover11

/-- THE KERNEL'S RUN: its three results, and its arguments as launched. -/
theorem run : θ_run defs (onTc (τ := τ) (main (F := Ideal))) ⟨m, fun _ => 0, ρ⟩ fun r => ∀ c : Dev nD,
      (r.2.mem ((c : Thread nD τ).loc main_v5_0) = x1Of m c
      ∧ r.2.mem ((c : Thread nD τ).loc main_v5_1) = h2Of m c
      ∧ r.2.mem ((c : Thread nD τ).loc main_v5_2) = affOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨⟨(h c).1.trans (final9 m c), (h c).2.1.trans (final10 m c), (h c).2.2.1.trans (final11 m c)⟩,
    (h c).2.2.2⟩) (Value.run_blocks m ρ)

end Cert.OutProjIdeal.Val

end
-- ==== Proof.OutProjRef.lean ====
/-
  THE OUTPUT PROJECTION'S REFERENCE (hand-written): `OutProjRefIdeal` leaves in its three results the same functions of the
  arguments as the kernel. Its √2 is the square root of 2, taken at the extended reals.
-/
module

public import proofs.«01_k».proof.Proof.OutProjValue
public import proofs.«01_k».proof.Proof.Gen.OutProjRefIdeal.Read
public import Idealize.ShloMosaic.Lib.Pointwise

@[expose] public section

set_option maxRecDepth 16384

noncomputable section

open Idealize.ShloMosaic Idealize.ShloMosaic.TcCoe Idealize.SL.Sem

namespace Cert.OutProjRefIdeal.Val

open Cert.OutProjRefIdeal Cert.OutProjRefIdeal.Read Cert.OutProjIdeal.Val Cert.OutProjMath

/-- The square root of 2, as the reference takes it. -/
theorem sqrt2 : Ideal.sqrt (Ideal.ofBits .f32 0x40000000#32) = root2 := by
  have e : (Ideal.ofBits .f32 0x40000000#32 : EReal) = ((2 : ℝ) : EReal) := by
    simp [Ideal.ofBits, Ideal.ieee]
    rw [← EReal.coe_mul]; norm_num
  rw [e, Ideal.sqrt_coe, if_neg (show ¬ (2 : ℝ) < 0 by norm_num)]
  rfl

section
variable (a : FVec Ideal S8x2048x2048 .bf16) (w : FVec Ideal S2x2048x2048 .f32) (x : FVec Ideal S8x2048x2048 .f32) (g sh sc : FVec Ideal S16x1x2048 .f32)
    (lg lb : FVec Ideal S2048 .f32) (rw' : FVec Ideal S2048x16 .f32)

theorem z_apply (b : Fin 8) (s n : Fin 2048) : val_main_v10 (F := Ideal) a w x g (ix3 b s n)
    = zed (fun d => a (ix3 b s d)) (fun d n => w (ix3 (0 : Fin 2) d n)) (fun n => x (ix3 b s n)) (fun n => g (ix3 (⟨b.val, by omega⟩ : Fin 16) 0 n)) n := by
  unfold zed
  rw [← sqrt2]
  pointwise [val_main_v10, val_main_v9, val_main_v8, val_main_v7, val_main_v6, val_main_v5, val_main_v4, val_main_v3, val_main_v2, val_main_v1,
    val_main_v0, val_main_cst]

theorem norm_apply (b : Fin 8) (s n : Fin 2048) : val_main_v34 (F := Ideal) a w x g lg lb (ix3 b s n)
    = normed (fun k => val_main_v10 (F := Ideal) a w x g (ix3 b s k)) (fun n => lg (ix1 n)) (fun n => lb (ix1 n)) n := by
  unfold normed mean
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_cst_0, val_main_cst_1, val_main_cst_2, val_main_cst_3, val_main_cst_4]

theorem x1_apply (b : Fin 8) (s n : Fin 2048) : val_main_v34 (F := Ideal) a w x g lg lb (ix3 b s n) = x1At a w x g lg lb b s n := by
  rw [norm_apply]
  unfold x1At
  exact congrArg (fun q => normed q (fun n => lg (ix1 n)) (fun n => lb (ix1 n)) n) (funext fun k => z_apply a w x g b s k)

theorem modul_apply (b : Fin 8) (s n : Fin 2048) : val_main_v42 (F := Ideal) a w x g sh sc lg lb (ix3 b s n)
    = modul (fun k => val_main_v34 (F := Ideal) a w x g lg lb (ix3 b s k)) (fun n => sc (ix3 (⟨b.val, by omega⟩ : Fin 16) 0 n))
      (fun n => sh (ix3 (⟨b.val, by omega⟩ : Fin 16) 0 n)) n := by
  unfold modul
  pointwise [val_main_v42, val_main_v41, val_main_v40, val_main_v39, val_main_v38, val_main_v37, val_main_v36, val_main_v35, val_main_cst_5]

theorem h2_apply (b : Fin 8) (s n : Fin 2048) : val_main_v42 (F := Ideal) a w x g sh sc lg lb (ix3 b s n) = h2At a w x g sh sc lg lb b s n := by
  rw [modul_apply]
  unfold h2At
  exact congrArg (fun q => modul q _ _ n) (funext fun k => x1_apply a w x g lg lb b s k)

theorem logit_apply (b : Fin 8) (s : Fin 2048) (k : Fin 16) : val_main_v43 (F := Ideal) a w x g sh sc lg lb rw' (ix3 b s k)
    = ∑ d : Fin 2048, h2At a w x g sh sc lg lb b s d * rw' (ix2 d k) := by
  refine Eq.trans (b := ∑ d : Fin 2048, (val_main_v42 (F := Ideal) a w x g sh sc lg lb (ix3 b s d) : EReal) * rw' (ix2 d k)) ?_
    (Finset.sum_congr rfl fun d _ => congrArg (fun q : EReal => q * rw' (ix2 d k)) (h2_apply a w x g sh sc lg lb b s d))
  pointwise [val_main_v43]

theorem soft_apply (b : Fin 8) (s : Fin 2048) (e : Fin 16) : val_main_v54 (F := Ideal) a w x g sh sc lg lb rw' (ix3 b s e)
    = soft16 (fun k => val_main_v43 (F := Ideal) a w x g sh sc lg lb rw' (ix3 b s k)) e := by
  unfold soft16
  pointwise [val_main_v54, val_main_v53, val_main_v52, val_main_v51, val_main_v50, val_main_v49, val_main_v48, val_main_v47, val_main_v46, val_main_v45,
    val_main_v44, val_main_cst_6, val_main_cst_7, val_main_cst_8]
  simp only [inf_val, bot_le, max_eq_right]

/-- The first result, -/
theorem result_x1 : val_main_v34 (F := Ideal) a w x g lg lb = x1 a w x g lg lb := by
  funext j
  obtain ⟨b, s, n, rfl⟩ : ∃ b s n, j = ix3 (n0 := 8) (n1 := 2048) (n2 := 2048) b s n := ⟨_, _, _, eq_ix3 j⟩
  exact x1_apply a w x g lg lb b s n

/-- the second, -/
theorem result_h2 : val_main_v55 (F := Ideal) a w x g sh sc lg lb = h2 a w x g sh sc lg lb := by
  funext j
  obtain ⟨b, s, n, rfl⟩ : ∃ b s n, j = ix3 (n0 := 8) (n1 := 2048) (n2 := 2048) b s n := ⟨_, _, _, eq_ix3 j⟩
  exact h2_apply a w x g sh sc lg lb b s n

/-- and the third. -/
theorem result_aff : val_main_v56 (F := Ideal) a w x g sh sc lg lb rw' = aff a w x g sh sc lg lb rw' := by
  funext j
  obtain ⟨b, e, s, rfl⟩ : ∃ b e s, j = ix3 (n0 := 8) (n1 := 16) (n2 := 2048) b e s := ⟨_, _, _, eq_ix3 j⟩
  refine Eq.trans (b := val_main_v54 (F := Ideal) a w x g sh sc lg lb rw' (ix3 b s e)) ?_ ?_
  · pointwise [val_main_v56]
  · rw [soft_apply]
    exact congrArg (fun q => soft16 q e) (funext fun k => logit_apply a w x g sh sc lg lb rw' b s k)
end

end Cert.OutProjRefIdeal.Val

end
-- ==== Proof.OutProjClaims.lean ====
/-
  THE CONTEXT'S OUTPUT PROJECTION'S CLAIMS (hand-written): its frames, and that kernel and reference agree at the extended reals.
-/
module

public import proofs.«01_k».proof.Defs
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjRefIdeal
public import proofs.«01_k».proof.Proof.Gen.OutProjRefIdeal.Run
public import proofs.«01_k».proof.Proof.Gen.OutProjRefIdeal.Read
public import proofs.«01_k».proof.Proof.OutProjValue
public import proofs.«01_k».proof.Proof.OutProjRef
public import Idealize.ShloMosaic.Adequacy
public import Idealize.ShloMosaic.Init

@[expose] public section

set_option maxRecDepth 16384

noncomputable section

open Idealize.ShloMosaic Idealize.ShloMosaic.TcCoe Idealize.SL.Sem

namespace Cert.OutProj.Claims

/-- The kernel runs and leaves its arguments as launched. -/
theorem kernel : Cert.quiescent_OutProj (hOutProj := Cert.OutProj.Gen.facts) :=
  fun m ρ _ => Cert.OutProj.Gen.frame m ρ

/-- So does the kernel at the extended reals. -/
theorem ideal : Cert.quiescent_OutProjIdeal (hOutProjIdeal := Cert.OutProjIdeal.Gen.facts) :=
  fun m ρ _ => Cert.OutProjIdeal.Gen.frame m ρ

/-- So does the reference. -/
theorem reference : Cert.quiescent_OutProjRefIdeal (hOutProjRefIdeal := Cert.OutProjRefIdeal.Gen.facts) :=
  fun m ρ _ => (θ_run Cert.OutProjRefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.OutProjRefIdeal.Value.run (F := Ideal) m ρ)

/-- Naming the residual's scale and the masked logit: √2 stands for one literal, −∞ for the other. -/
theorem preserves : Cert.preserves_OutProj_OutProjIdeal :=
  ⟨IdealRules.named_const.statement Cert.OutProjIdeal.κ "alpha" .f32 0x3FB504F3#32 ((Real.sqrt 2 : ℝ) : EReal) rfl,
    IdealRules.named_const.statement Cert.OutProjIdeal.κ "mask" .f32 0xF149F2CA#32 ⊥ rfl⟩

/-- From the same arguments the kernel and its reference leave the same results. -/
theorem value : Cert.algebraic_OutProjIdeal_OutProjRefIdeal (hOutProjIdeal := Cert.OutProjIdeal.Gen.facts) (hOutProjRefIdeal := Cert.OutProjRefIdeal.Gen.facts) := by
  intro m ρ m' ρ' _ hag
  refine ⟨fun c => Cert.OutProjIdeal.Val.x1Of m c, fun c => Cert.OutProjIdeal.Val.h2Of m c, fun c => Cert.OutProjIdeal.Val.affOf m c, ?_, ?_⟩
  · exact (θ_run Cert.OutProjIdeal.defs _ _).mono (fun r h c => ⟨(h c).1.1, (h c).1.2.1, (h c).1.2.2, (h c).2⟩) (Cert.OutProjIdeal.Val.run m ρ)
  · refine (θ_run Cert.OutProjRefIdeal.defs _ _).mono (fun r h c => ?_) (Cert.OutProjRefIdeal.Value.run (F := Ideal) m' ρ')
    obtain ⟨a0, a1, a2, a3, a4, a5, a6, a7, a8⟩ := hag c
    refine ⟨(h c).1.trans ((Cert.OutProjRefIdeal.Read.val_main_v34_eq m' c).trans ((Cert.OutProjRefIdeal.Val.result_x1 _ _ _ _ _ _).trans ?_)),
      (h c).2.1.trans ((Cert.OutProjRefIdeal.Read.val_main_v55_eq m' c).trans ((Cert.OutProjRefIdeal.Val.result_h2 _ _ _ _ _ _ _ _).trans ?_)),
      (h c).2.2.1.trans ((Cert.OutProjRefIdeal.Read.val_main_v56_eq m' c).trans ((Cert.OutProjRefIdeal.Val.result_aff _ _ _ _ _ _ _ _ _).trans ?_)), (h c).2.2.2⟩
    · rw [a0, a1, a2, a3, a6, a7]
    · rw [a0, a1, a2, a3, a4, a5, a6, a7]
    · rw [a0, a1, a2, a3, a4, a5, a6, a7, a8]

end Cert.OutProj.Claims

end
-- ==== Proof.OutProjBBand.lean ====
/-
  ONE BLOCK OF THE OUTPUT PROJECTION (hand-written): what the kernel `OutProjBIdeal`'s body leaves in its three blocks, row by
  row. The body works in four bands of 128 rows, which differ only in how the program's text is divided; each is the same
  function of its band's loads.
-/
module

public import proofs.«01_k».proof.Defs
public import proofs.«01_k».proof.Proof.OutProjMath
public import proofs.«01_k».proof.Proof.Gen.OutProjBIdeal.Value
public import Idealize.ShloMosaic.Lib.Pointwise
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.OutProjBIdeal.Val

open Cert.OutProjBIdeal Cert.OutProjBIdeal.Gen Cert.OutProjMath

/-- The mask is −∞. -/
theorem mask_val : (Named.named κ "mask" 0xF149F2CA#32 : Ideal .f32) = (⊥ : EReal) :=
  IdealRules.named_const.ideal_named_scalar _ _ _ _ rfl
/-- The residual's scale is √2. -/
theorem alpha_val : (Named.named κ "alpha" 0x3FB504F3#32 : Ideal .f32) = root2 :=
  IdealRules.named_const.ideal_named_scalar _ _ _ _ rfl
/-- −∞ as the kernel writes it. -/
theorem inf_val : (Ideal.ofBits .f32 4286578688#32 : EReal) = ⊥ := by
  simp [Ideal.ofBits, Ideal.ieee]

/-! ## One band -/

/-- The layer norm of a band. -/
abbrev bandX (a : FVec Ideal S1x128x2048 .bf16) (w : FVec Ideal S1x2048x2048 .bf16) (x : FVec Ideal S1x128x2048 .f32) (g : FVec Ideal S1x1x2048 .f32)
    (lg lb : FVec Ideal S1x2048 .f32) : FVec Ideal S1x128x2048 .f32 :=
  k0_pay8 (F := Ideal) (k0_pay3 lg) (k0_pay4 lb) (k0_pay5 a w x g) (k0_pay6 a w x g)

/-- The modulated layer norm of a band. -/
abbrev bandH (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) : FVec Ideal S1x128x2048 .bf16 :=
  k0_pay10 (F := Ideal) (k0_pay3 lg) (k0_pay4 lb) (k0_pay5 a w x g) (k0_pay6 a w x g) sc sh

/-- The router's logits of a band, masked. -/
abbrev bandL (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S128x128 .f32 :=
  k0_pay11 (F := Ideal) (k0_pay3 lg) (k0_pay4 lb) (k0_pay5 a w x g) (k0_pay6 a w x g) sc sh rw

/-- The router's softmax of a band. -/
abbrev bandA (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S1x16x128 .f32 :=
  k0_pay12 (F := Ideal) (bandL a w x g lg lb sc sh rw)

section
variable (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw' : FVec Ideal S2048x128 .bf16)

/-- A row of a band before the layer norm. -/
abbrev zrow (r : Fin 128) : Fin 2048 → EReal :=
  zed (fun d => a (ix3 0 r d)) (fun d n => w (ix3 0 d n)) (fun n => x (ix3 0 r n)) (fun n => g (ix3 0 0 n))

theorem pay5_apply (r : Fin 128) (n : Fin 2048) : k0_pay5 (F := Ideal) a w x g (ix2 r n) = zrow a w x g r n - mean (zrow a w x g r) := by
  unfold zrow mean zed
  rw [← alpha_val]
  pointwise [k0_pay5]

theorem pay7_apply (y z : FVec Ideal S128x2048 .f32) (r : Fin 128) (n : Fin 2048) :
    k0_pay7 (F := Ideal) (k0_pay3 lg) (k0_pay4 lb) y z (ix2 r n)
      = y (ix2 r n) * Ideal.rsqrt (mean (fun k => z (ix2 r k)) + Ideal.ofBits .f32 0x3727C5AC#32) * lg (ix2 0 n) + lb (ix2 0 n) := by
  unfold mean
  pointwise [k0_pay7, k0_pay3, k0_pay4]

/-- A row of a band after the layer norm. -/
abbrev xrow (r : Fin 128) : Fin 2048 → EReal := normed (zrow a w x g r) (fun n => lg (ix2 0 n)) (fun n => lb (ix2 0 n))

theorem norm_apply (r : Fin 128) (n : Fin 2048) :
    k0_pay7 (F := Ideal) (k0_pay3 lg) (k0_pay4 lb) (k0_pay5 a w x g) (k0_pay6 a w x g) (ix2 r n) = xrow a w x g lg lb r n := by
  rw [pay7_apply, pay5_apply]
  have e : (fun k => k0_pay6 (F := Ideal) a w x g (ix2 r k))
      = fun k => (zrow a w x g r k - mean (zrow a w x g r)) * (zrow a w x g r k - mean (zrow a w x g r)) :=
    funext fun k => congrArg₂ (fun p q : EReal => p * q) (pay5_apply a w x g r k) (pay5_apply a w x g r k)
  rw [e]; rfl

theorem bandX_apply (u : Fin 1) (r : Fin 128) (n : Fin 2048) : bandX a w x g lg lb (ix3 u r n) = xrow a w x g lg lb r n := by
  refine Eq.trans ?_ (norm_apply a w x g lg lb r n)
  generalize e : k0_pay7 (F := Ideal) (k0_pay3 lg) (k0_pay4 lb) (k0_pay5 a w x g) (k0_pay6 a w x g) = y
  unfold bandX k0_pay8
  rw [e]
  pointwise []

/-- A row of a band after the modulation. -/
abbrev hrow (r : Fin 128) : Fin 2048 → EReal := modul (xrow a w x g lg lb r) (fun n => sc (ix3 0 0 n)) (fun n => sh (ix3 0 0 n))

theorem pay9_apply (r : Fin 128) (n : Fin 2048) :
    k0_pay9 (F := Ideal) (k0_pay3 lg) (k0_pay4 lb) (k0_pay5 a w x g) (k0_pay6 a w x g) sc sh (ix2 r n) = hrow a w x g lg lb sc sh r n := by
  unfold hrow modul
  rw [← norm_apply]
  unfold k0_pay9
  generalize k0_pay7 (F := Ideal) (k0_pay3 lg) (k0_pay4 lb) (k0_pay5 a w x g) (k0_pay6 a w x g) = y
  pointwise []

theorem bandH_apply (u : Fin 1) (r : Fin 128) (n : Fin 2048) : bandH a w x g lg lb sc sh (ix3 u r n) = hrow a w x g lg lb sc sh r n := by
  refine Eq.trans ?_ (pay9_apply a w x g lg lb sc sh r n)
  unfold bandH k0_pay10
  generalize k0_pay9 (F := Ideal) (k0_pay3 lg) (k0_pay4 lb) (k0_pay5 a w x g) (k0_pay6 a w x g) sc sh = y
  pointwise []

/-- The lanes below 16. -/
theorem lane (l : Fin 128) : IntOp.cmpi .slt (BitVec.ofNat 32 l.val) 16#32 = if l.val < 16 then 1#1 else 0#1 := by
  revert l; decide +kernel

theorem bandL_apply (r l : Fin 128) : bandL a w x g lg lb sc sh rw' (ix2 r l)
    = if hl : l.val < 16 then ∑ d : Fin 2048, hrow a w x g lg lb sc sh r d * rw' (ix2 d l) else ⊥ := by
  have e : (∑ d : Fin 2048, hrow a w x g lg lb sc sh r d * rw' (ix2 d l) : EReal)
      = ∑ d : Fin 2048, k0_pay9 (F := Ideal) (k0_pay3 lg) (k0_pay4 lb) (k0_pay5 a w x g) (k0_pay6 a w x g) sc sh (ix2 r d) * rw' (ix2 d l) :=
    Finset.sum_congr rfl fun d _ => by rw [pay9_apply]
  rw [e]
  unfold bandL k0_pay11
  generalize k0_pay9 (F := Ideal) (k0_pay3 lg) (k0_pay4 lb) (k0_pay5 a w x g) (k0_pay6 a w x g) sc sh = y
  refine Eq.trans (b := Scalar.select (IntOp.cmpi .slt (BitVec.ofNat 32 l.val) 16#32) (∑ d : Fin 2048, (y (ix2 r d) : EReal) * rw' (ix2 d l))
    (Named.named κ "mask" 0xF149F2CA#32 : Ideal .f32)) ?_ ?_
  · pointwise []
  · rw [mask_val, lane]
    by_cases hl : l.val < 16
    · rw [if_pos hl, dif_pos hl]; rfl
    · rw [if_neg hl, dif_neg hl]; rfl

theorem pay12_apply (v : FVec Ideal S128x128 .f32) (u : Fin 1) (e : Fin 16) (r : Fin 128) : k0_pay12 (F := Ideal) v (ix3 u e r)
    = Ideal.div (Ideal.exp (v (ix2 r ⟨e.val, by omega⟩) - Finset.univ.fold max ⊥ fun k : Fin 128 => v (ix2 r k)))
      (∑ k : Fin 128, Ideal.exp (v (ix2 r k) - Finset.univ.fold max ⊥ fun k : Fin 128 => v (ix2 r k))) := by
  rw [← inf_val]
  pointwise [k0_pay12]

theorem bandA_apply (u : Fin 1) (e : Fin 16) (r : Fin 128) : bandA a w x g lg lb sc sh rw' (ix3 u e r)
    = soft16 (fun k => ∑ d : Fin 2048, hrow a w x g lg lb sc sh r d * rw' (ix2 d ⟨k.val, by omega⟩)) e := by
  refine (pay12_apply _ u e r).trans ?_
  exact soft_masked (fun k => bandL a w x g lg lb sc sh rw' (ix2 r k)) _ (fun k => bandL_apply a w x g lg lb sc sh rw' r k) _ e rfl
end

/-! ## The four bands of a block -/

/-- A band's load of a block's rows. -/
theorem ld_band {α : EltTy → Type} {e : EltTy} (o : ℕ) (inb) (x : S1x512x2048.Idx → α e) (r : Fin 128) (n : Fin 2048) (h : o + r.val < 512) :
    View.ld (Val := α) x (Rect.unit (s := S1x512x2048) ![0, o, 0] S1x128x2048.size inb) (ix3 0 r n) = x (ix3 0 ⟨o + r.val, h⟩ n) := by
  show x ((Rect.unit (s := S1x512x2048) ![0, o, 0] S1x128x2048.size inb).idx (ix3 0 r n)) = _
  refine congrArg x (funext fun a => Fin.ext ?_)
  refine (Rect.idx_unit_val _ _ inb _ a).trans ?_
  match a with
  | ⟨0, _⟩ => rfl
  | ⟨1, _⟩ => rfl
  | ⟨2, _⟩ => exact Nat.zero_add _

/-- Where a band's entries lie in its block. -/
theorem slab (o : ℕ) (inb) (u : Fin 1) (r : Fin 128) (n : Fin 2048) :
    o + r.val = ((Rect.unit (s := S1x512x2048) ![0, o, 0] S1x128x2048.size inb).emb (ix3 u r n) 1).val
      ∧ n.val = ((Rect.unit (s := S1x512x2048) ![0, o, 0] S1x128x2048.size inb).emb (ix3 u r n) 2).val :=
  ⟨(Rect.idx_unit_val _ _ inb (ix3 u r n) (1 : Fin 3)).symm, ((Rect.idx_unit_val _ _ inb (ix3 u r n) (2 : Fin 3)).trans (Nat.zero_add _)).symm⟩
theorem slabA (o : ℕ) (inb) (u : Fin 1) (e : Fin 16) (r : Fin 128) :
    o + r.val = ((Rect.unit (s := S1x16x512) ![0, 0, o] S1x16x128.size inb).emb (ix3 u e r) 2).val
      ∧ e.val = ((Rect.unit (s := S1x16x512) ![0, 0, o] S1x16x128.size inb).emb (ix3 u e r) 1).val :=
  ⟨(Rect.idx_unit_val _ _ inb (ix3 u e r) (2 : Fin 3)).symm, ((Rect.idx_unit_val _ _ inb (ix3 u e r) (1 : Fin 3)).trans (Nat.zero_add _)).symm⟩

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : FVec Ideal S1x512x2048 .bf16) (x1 : FVec Ideal S1x2048x2048 .bf16) (x2 : FVec Ideal S1x512x2048 .f32) (x3 x4 x5 : FVec Ideal S1x1x2048 .f32)
    (x6 x7 : FVec Ideal S1x2048 .f32) (x8 : FVec Ideal S2048x128 .bf16)

/-- A row of a block after the layer norm. -/
abbrev xblk (r : Fin 512) : Fin 2048 → EReal :=
  normed (zed (fun d => x0 (ix3 0 r d)) (fun d n => x1 (ix3 0 d n)) (fun n => x2 (ix3 0 r n)) (fun n => x3 (ix3 0 0 n)))
    (fun n => x6 (ix2 0 n)) (fun n => x7 (ix2 0 n))

/-- A row of a block after the modulation. -/
abbrev hblk (r : Fin 512) : Fin 2048 → EReal :=
  modul (xblk x0 x1 x2 x3 x6 x7 r) (fun n => x5 (ix3 0 0 n)) (fun n => x4 (ix3 0 0 n))

/-- A row's router softmax. -/
abbrev ablk (r : Fin 512) : Fin 16 → EReal :=
  soft16 fun k => ∑ d : Fin 2048, hblk x0 x1 x2 x3 x4 x5 x6 x7 r d * x8 (ix2 d ⟨k.val, by omega⟩)

theorem xrow_eq (o : ℕ) (inb) (r : Fin 128) (h : o + r.val < 512) :
    xrow (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) r = xblk x0 x1 x2 x3 x6 x7 ⟨o + r.val, h⟩ := by
  rw [View.ld_unit_zero hz3, View.ld_unit_zero hz3, View.ld_unit_zero hz2, View.ld_unit_zero hz2]
  unfold xrow zrow xblk
  have e0 : (fun d : Fin 2048 => View.ld (Val := Elt Ideal) (e' := .bf16) x0 (Rect.unit (s := S1x512x2048) ![0, o, 0] S1x128x2048.size inb) (ix3 0 r d))
      = fun d => x0 (ix3 0 ⟨o + r.val, h⟩ d) := funext fun d => ld_band (α := Elt Ideal) (e := .bf16) o inb x0 r d h
  have e2 : (fun d : Fin 2048 => View.ld (Val := Elt Ideal) (e' := .f32) x2 (Rect.unit (s := S1x512x2048) ![0, o, 0] S1x128x2048.size inb) (ix3 0 r d))
      = fun d => x2 (ix3 0 ⟨o + r.val, h⟩ d) := funext fun d => ld_band (α := Elt Ideal) (e := .f32) o inb x2 r d h
  exact congrArg₂ (fun p q : Fin 2048 → EReal => normed (zed p (fun d n => x1 (ix3 0 d n)) q (fun n => x3 (ix3 0 0 n)))
    (fun n => x6 (ix2 0 n)) (fun n => x7 (ix2 0 n))) e0 e2

theorem pieceX (o : ℕ) (inb) (ho : o + 128 ≤ 512) (y : S1x128x2048.Idx) :
    bandX (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) y
      = (fun i : S1x512x2048.Idx => xblk x0 x1 x2 x3 x6 x7 (i 1) (i 2)) ((Rect.unit (s := S1x512x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandX_apply _ _ _ _ _ _ u r n).trans ?_
  rw [xrow_eq x0 x1 x2 x3 x6 x7 o inb r (by omega)]
  exact congrArg₂ (fun p q => xblk x0 x1 x2 x3 x6 x7 p q) (Fin.ext (slab o inb u r n).1) (Fin.ext (slab o inb u r n).2)

theorem pieceH (o : ℕ) (inb) (ho : o + 128 ≤ 512) (y : S1x128x2048.Idx) :
    bandH (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3) y
      = (fun i : S1x512x2048.Idx => hblk x0 x1 x2 x3 x4 x5 x6 x7 (i 1) (i 2)) ((Rect.unit (s := S1x512x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandH_apply _ _ _ _ _ _ _ _ u r n).trans ?_
  unfold hrow
  rw [xrow_eq x0 x1 x2 x3 x6 x7 o inb r (by omega), View.ld_unit_zero hz3, View.ld_unit_zero hz3]
  exact congrArg₂ (fun p q => hblk x0 x1 x2 x3 x4 x5 x6 x7 p q) (Fin.ext (slab o inb u r n).1) (Fin.ext (slab o inb u r n).2)

theorem pieceA (o : ℕ) (inb) (inb') (ho : o + 128 ≤ 512) (y : S1x16x128.Idx) :
    bandA (View.ld (Val := Elt Ideal) (e' := .bf16) x0 (Rect.unit (s := S1x512x2048) ![0, o, 0] S1x128x2048.size inb)) (View.ld (Val := Elt Ideal) (e' := .bf16) x1 r0_1)
      (View.ld (Val := Elt Ideal) (e' := .f32) x2 (Rect.unit (s := S1x512x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3)
      (View.ld (Val := Elt Ideal) (e' := .bf16) x8 r0_5) y
      = (fun i : S1x16x512.Idx => ablk x0 x1 x2 x3 x4 x5 x6 x7 x8 (i 2) (i 1)) ((Rect.unit (s := S1x16x512) ![0, 0, o] S1x16x128.size inb').emb y) := by
  obtain ⟨u, e, r, rfl⟩ : ∃ u e r, y = ix3 (n0 := 1) (n1 := 16) (n2 := 128) u e r := ⟨_, _, _, eq_ix3 y⟩
  refine (bandA_apply _ _ _ _ _ _ _ _ _ u e r).trans ?_
  unfold hrow
  rw [xrow_eq x0 x1 x2 x3 x6 x7 o inb r (by omega), View.ld_unit_zero hz3, View.ld_unit_zero hz3, View.ld_unit_zero hz2]
  exact congrArg₂ (fun p q => ablk x0 x1 x2 x3 x4 x5 x6 x7 x8 p q) (Fin.ext (slabA o inb' u e r).1) (Fin.ext (slabA o inb' u e r).2)

/-- The first block of a grid point. -/
theorem out9 (y : S1x512x2048.Idx) : out0_9 (F := Ideal) x0 x1 x2 x3 x4 x5 x6 x7 x8 y = xblk x0 x1 x2 x3 x6 x7 (y 1) (y 2) := by
  unfold out0_9
  refine View.canon_apply_of_pieces (Val := Elt Ideal) (fun i : S1x512x2048.Idx => xblk x0 x1 x2 x3 x6 x7 (i 1) (i 2)) _ ?_ y (cover0_9 _ _ _ _ y)
  intro p hp
  simp only [List.mem_cons, List.not_mem_nil, or_false] at hp
  rcases hp with rfl | rfl | rfl | rfl
  · exact fun i => pieceX x0 x1 x2 x3 x6 x7 384 _ (by omega) i
  · exact fun i => pieceX x0 x1 x2 x3 x6 x7 256 _ (by omega) i
  · exact fun i => pieceX x0 x1 x2 x3 x6 x7 128 _ (by omega) i
  · exact fun i => pieceX x0 x1 x2 x3 x6 x7 0 _ (by omega) i

/-- The second block of a grid point. -/
theorem out10 (y : S1x512x2048.Idx) : out0_10 (F := Ideal) x0 x1 x2 x3 x4 x5 x6 x7 x8 y = hblk x0 x1 x2 x3 x4 x5 x6 x7 (y 1) (y 2) := by
  unfold out0_10
  refine View.canon_apply_of_pieces (Val := Elt Ideal) (fun i : S1x512x2048.Idx => hblk x0 x1 x2 x3 x4 x5 x6 x7 (i 1) (i 2)) _ ?_ y (cover0_10 _ _ _ _ y)
  intro p hp
  simp only [List.mem_cons, List.not_mem_nil, or_false] at hp
  rcases hp with rfl | rfl | rfl | rfl
  · exact fun i => pieceH x0 x1 x2 x3 x4 x5 x6 x7 384 _ (by omega) i
  · exact fun i => pieceH x0 x1 x2 x3 x4 x5 x6 x7 256 _ (by omega) i
  · exact fun i => pieceH x0 x1 x2 x3 x4 x5 x6 x7 128 _ (by omega) i
  · exact fun i => pieceH x0 x1 x2 x3 x4 x5 x6 x7 0 _ (by omega) i

/-- The third block of a grid point. -/
theorem out11 (y : S1x16x512.Idx) : out0_11 (F := Ideal) x0 x1 x2 x3 x4 x5 x6 x7 x8 y = ablk x0 x1 x2 x3 x4 x5 x6 x7 x8 (y 2) (y 1) := by
  unfold out0_11
  refine View.canon_apply_of_pieces (Val := Elt Ideal) (fun i : S1x16x512.Idx => ablk x0 x1 x2 x3 x4 x5 x6 x7 x8 (i 2) (i 1)) _ ?_ y (cover0_11 _ _ _ _ y)
  intro p hp
  simp only [List.mem_cons, List.not_mem_nil, or_false] at hp
  rcases hp with rfl | rfl | rfl | rfl
  · exact fun i => pieceA x0 x1 x2 x3 x4 x5 x6 x7 x8 384 inb_S1x512x2048_S1x128x2048_0_384_0 inb_S1x16x512_S1x16x128_0_0_384 (by omega) i
  · exact fun i => pieceA x0 x1 x2 x3 x4 x5 x6 x7 x8 256 inb_S1x512x2048_S1x128x2048_0_256_0 inb_S1x16x512_S1x16x128_0_0_256 (by omega) i
  · exact fun i => pieceA x0 x1 x2 x3 x4 x5 x6 x7 x8 128 inb_S1x512x2048_S1x128x2048_0_128_0 inb_S1x16x512_S1x16x128_0_0_128 (by omega) i
  · exact fun i => pieceA x0 x1 x2 x3 x4 x5 x6 x7 x8 0 inb_S1x512x2048_S1x128x2048_0_0_0 inb_S1x16x512_S1x16x128_0_0_0 (by omega) i
end

end Cert.OutProjBIdeal.Val

end
-- ==== Proof.OutProjBValue.lean ====
/-
  THE OUTPUT PROJECTION'S VALUE (hand-written): the kernel `OutProjBIdeal` leaves in its three results, row by row, the layer
  norm of the scaled residual plus the gated product of the merged branches with layer 1's weights (`x1`), its modulation
  (`h2`) and the router's softmax over the 16 experts (`aff`).

  The kernel works at 512 rows of one sequence per point of the grid (8, 4); the router's weights reach it padded to 128
  columns, and the padding's logits are masked to −∞.
-/
module

public import proofs.«01_k».proof.Proof.OutProjBBand
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutProjBIdeal.Val

open Cert.OutProjBIdeal Cert.OutProjBIdeal.Gen Cert.OutProjMath

/-! ## The results, index by index -/

section
variable (a : FVec Ideal S8x2048x2048 .bf16) (w : FVec Ideal S2x2048x2048 .f32) (x : FVec Ideal S8x2048x2048 .f32) (g sh sc : FVec Ideal S16x1x2048 .f32)
    (lg lb : FVec Ideal S2048 .f32) (rw' : FVec Ideal S2048x16 .f32)

/-- A row after the layer norm. -/
def x1At (b : Fin 8) (s : Fin 2048) : Fin 2048 → EReal :=
  normed (zed (fun d => a (ix3 b s d)) (fun d n => w (ix3 (1 : Fin 2) d n)) (fun n => x (ix3 b s n))
    (fun n => g (ix3 (⟨b.val, by omega⟩ : Fin 16) 0 n))) (fun n => lg (ix1 n)) (fun n => lb (ix1 n))

/-- A row after the modulation. -/
def h2At (b : Fin 8) (s : Fin 2048) : Fin 2048 → EReal :=
  modul (x1At a w x g lg lb b s) (fun n => sc (ix3 (⟨b.val, by omega⟩ : Fin 16) 0 n)) (fun n => sh (ix3 (⟨b.val, by omega⟩ : Fin 16) 0 n))

/-- A row's router softmax. -/
def affAt (b : Fin 8) (s : Fin 2048) : Fin 16 → EReal :=
  soft16 fun k => ∑ d : Fin 2048, h2At a w x g sh sc lg lb b s d * rw' (ix2 d k)

/-- The residual's new value. -/
def x1 : FVec Ideal S8x2048x2048 .f32 := fun i => x1At a w x g lg lb (i 0) (i 1) (i 2)
/-- The experts' input. -/
def h2 : FVec Ideal S8x2048x2048 .bf16 := fun i => h2At a w x g sh sc lg lb (i 0) (i 1) (i 2)
/-- The router's affinities, expert by expert. -/
def aff : FVec Ideal S8x16x2048 .f32 := fun i => affAt a w x g sh sc lg lb rw' (i 0) (i 2) (i 1)
end

variable (m : (ℓ : Loc nD τ sig) → Buf (Elt Ideal) ℓ) (ρ : Dev nD → PrngReg)

theorem lt_N (t : Fin cfg0.N) : t.val < 32 := lt_of_lt_of_eq t.isLt N_0

/-! ## What the host operations stage -/

/-- The weights (a change of format is the identity). -/
theorem V_v2 (c : Dev nD) (i : S2x2048x2048.Idx) : V m c main_v2 i = m ((c : Thread nD τ).loc main_arg1) i := by
  have h : V m c main_v2 = truncf (F := Ideal) .bf16 (m ((c : Thread nD τ).loc main_arg1) : FVec Ideal S2x2048x2048 .f32) bitsLt_bf16_f32 := by
    show StableHlo.after (List.flatten [hostOps0, hostOps0_1, hostOps0_2]) (fun b => m (c, b)) (Proc.devRef .tc main_v2) = _
    simp only [hostOps0, hostOps0_1, hostOps0_2, List.flatten_cons, List.flatten_nil, List.append_nil, List.cons_append, List.nil_append]
    after_results
  rw [h]; rfl

/-- The layer norm's scale, as a row. -/
theorem V_v3 (c : Dev nD) (i : S1x2048.Idx) : V m c main_v3 i = m ((c : Thread nD τ).loc main_arg6) (ix1 (i 1)) := by
  have h : V m c main_v3 = broadcastInDim S1x2048 ![1] bcast_S2048_S1x2048_1 (m ((c : Thread nD τ).loc main_arg6) : FVec Ideal S2048 .f32) := by
    show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg6) = y
  pointwise []

/-- The layer norm's shift, as a row. -/
theorem V_v4 (c : Dev nD) (i : S1x2048.Idx) : V m c main_v4 i = m ((c : Thread nD τ).loc main_arg7) (ix1 (i 1)) := by
  have h : V m c main_v4 = broadcastInDim S1x2048 ![1] bcast_S2048_S1x2048_1 (m ((c : Thread nD τ).loc main_arg7) : FVec Ideal S2048 .f32) := by
    show StableHlo.after (List.flatten [hostOps0, hostOps0_1, hostOps0_2]) (fun b => m (c, b)) (Proc.devRef .tc main_v4) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg7) = y
  pointwise []

/-- A padded array below column 16. -/
theorem padded (y : FVec Ideal S2048x16 .f32) (v : FVec Ideal S_ .f32) (d : Fin 2048) (k : Fin 16) :
    pad S2048x128 ![0, 0] ![0, 112] ![0, 0] y v pads_S2048x16_S2048x128_000_01120 h_S_ (ix2 d (⟨k.val, by omega⟩ : Fin 128)) = y (ix2 d k) := by
  refine pad_apply_of_inside _ _ _ _ _ _ _ _ (ix2 d k) fun a => ?_
  match a with
  | ⟨0, _⟩ => show d.val = 0 + d.val * (0 + 1); omega
  | ⟨1, _⟩ => show k.val = 0 + k.val * (0 + 1); omega

/-- The router's weights below column 16. -/
theorem V_v1 (c : Dev nD) (d : Fin 2048) (k : Fin 16) :
    V m c main_v1 (ix2 d (⟨k.val, by omega⟩ : Fin 128)) = m ((c : Thread nD τ).loc main_arg8) (ix2 d k) := by
  have h : V m c main_v1 = truncf (F := Ideal) .bf16 (pad S2048x128 ![0, 0] ![0, 112] ![0, 0]
      (m ((c : Thread nD τ).loc main_arg8) : FVec Ideal S2048x16 .f32) (sitofp (F := Ideal) .f32 (constantI S_ 32 0#32))
      pads_S2048x16_S2048x128_000_01120 h_S_) bitsLt_bf16_f32 := by
    show StableHlo.after (List.flatten [hostOps0, hostOps0_1, hostOps0_2]) (fun b => m (c, b)) (Proc.devRef .tc main_v1) = _
    simp only [hostOps0, hostOps0_1, hostOps0_2, List.flatten_cons, List.flatten_nil, List.append_nil, List.cons_append, List.nil_append]
    after_results
    try rfl
  rw [h]
  exact padded _ _ d k

/-! ## The windows' index maps and blocks -/

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index1 : ∀ t : Fin cfg0.N, win0_1.index t 0 = 1 ∧ win0_1.index t 1 = 0 ∧ win0_1.index t 2 = 0 :=
  (by decide +kernel : ∀ t : Fin grid0.N, win0_1.index t 0 = 1 ∧ win0_1.index t 1 = 0 ∧ win0_1.index t 2 = 0)
theorem index2 : ∀ t : Fin cfg0.N, win0_2.index t 0 = t.val / 4 ∧ win0_2.index t 1 = t.val % 4 ∧ win0_2.index t 2 = 0 :=
  (by decide +kernel : ∀ t : Fin grid0.N, win0_2.index t 0 = t.val / 4 ∧ win0_2.index t 1 = t.val % 4 ∧ win0_2.index t 2 = 0)
theorem index3 : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)
theorem index4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)
theorem index5 : ∀ t : Fin cfg0.N, win0_5.index t 0 = t.val / 4 ∧ win0_5.index t 1 = 0 ∧ win0_5.index t 2 = 0 :=
  (by decide +kernel : ∀ t : Fin grid0.N, win0_5.index t 0 = t.val / 4 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val / 4 ∧ win0_9.index t 1 = t.val % 4 ∧ win0_9.index t 2 = 0 :=
  (by decide +kernel : ∀ t : Fin grid0.N, win0_9.index t 0 = t.val / 4 ∧ win0_9.index t 1 = t.val % 4 ∧ win0_9.index t 2 = 0)
theorem index10 : ∀ t : Fin cfg0.N, win0_10.index t 0 = t.val / 4 ∧ win0_10.index t 1 = t.val % 4 ∧ win0_10.index t 2 = 0 :=
  (by decide +kernel : ∀ t : Fin grid0.N, win0_10.index t 0 = t.val / 4 ∧ win0_10.index t 1 = t.val % 4 ∧ win0_10.index t 2 = 0)
theorem index11 : ∀ t : Fin cfg0.N, win0_11.index t 0 = t.val / 4 ∧ win0_11.index t 1 = 0 ∧ win0_11.index t 2 = t.val % 4 :=
  (by decide +kernel : ∀ t : Fin grid0.N, win0_11.index t 0 = t.val / 4 ∧ win0_11.index t 1 = 0 ∧ win0_11.index t 2 = t.val % 4)

/-- The merged branches' block: sequence `t / 4`, rows from `512 (t % 4)`. -/
theorem blk0 (c : Dev nD) (t : Fin cfg0.N) (u : Fin 1) (r : Fin 512) (k : Fin 2048) : iblk m c 0 t (ix3 u r k) = m ((c : Thread nD τ).loc main_arg0)
      (ix3 (⟨t.val / 4, by have := lt_N t; omega⟩ : Fin 8) (⟨t.val % 4 * 512 + r.val, by omega⟩ : Fin 2048) k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val / 4 * 1 + u.val = t.val / 4; omega
  | ⟨1, _⟩ => refine (Pipeline.Window.rect_emb_val win0_0 t (ix3 u r k) 1).trans ?_; rw [e1]; show t.val % 4 * 512 + r.val = t.val % 4 * 512 + r.val; omega
  | ⟨2, _⟩ => refine (Pipeline.Window.rect_emb_val win0_0 t (ix3 u r k) 2).trans ?_; rw [e2]; show 0 * 2048 + k.val = k.val; omega

/-- The weights' block: layer 1. -/
theorem blk1 (c : Dev nD) (t : Fin cfg0.N) (u : Fin 1) (k : Fin 2048) (n : Fin 2048) : iblk m c 1 t (ix3 u k n) = m ((c : Thread nD τ).loc main_arg1)
      (ix3 (1 : Fin 2) k n) := by
  refine Eq.trans ?_ (V_v2 m c _)
  show V m c (Pipeline.arrRef spec0 1) ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 1 * 1 + u.val = 1; omega
  | ⟨1, _⟩ => refine (Pipeline.Window.rect_emb_val win0_1 t (ix3 u k n) 1).trans ?_; rw [e1]; show 0 * 2048 + k.val = k.val; omega
  | ⟨2, _⟩ => refine (Pipeline.Window.rect_emb_val win0_1 t (ix3 u k n) 2).trans ?_; rw [e2]; show 0 * 2048 + n.val = n.val; omega

/-- The residual's block: the same rows. -/
theorem blk2 (c : Dev nD) (t : Fin cfg0.N) (u : Fin 1) (r : Fin 512) (k : Fin 2048) : iblk m c 2 t (ix3 u r k) = m ((c : Thread nD τ).loc main_arg2)
      (ix3 (⟨t.val / 4, by have := lt_N t; omega⟩ : Fin 8) (⟨t.val % 4 * 512 + r.val, by omega⟩ : Fin 2048) k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val / 4 * 1 + u.val = t.val / 4; omega
  | ⟨1, _⟩ => refine (Pipeline.Window.rect_emb_val win0_2 t (ix3 u r k) 1).trans ?_; rw [e1]; show t.val % 4 * 512 + r.val = t.val % 4 * 512 + r.val; omega
  | ⟨2, _⟩ => refine (Pipeline.Window.rect_emb_val win0_2 t (ix3 u r k) 2).trans ?_; rw [e2]; show 0 * 2048 + k.val = k.val; omega

/-- The sequence's gate. -/
theorem blk3 (c : Dev nD) (t : Fin cfg0.N) (u : Fin 1) (v : Fin 1) (n : Fin 2048) : iblk m c 3 t (ix3 u v n) = m ((c : Thread nD τ).loc main_arg3)
      (ix3 (⟨t.val / 4, by have := lt_N t; omega⟩ : Fin 16) 0 n) := by
  refine Eq.trans ?_ (congrFun (V_main_arg3 m c) _)
  show V m c (Pipeline.arrRef spec0 3) ((win0_3.rect t).emb (ix3 u v n)) = _
  refine congrArg _ (funext fun a => Fin.ext ?_)
  obtain ⟨e0, e1, e2⟩ := index3 t
  match a with
  | ⟨0, _⟩ => refine (Pipeline.Window.rect_emb_val win0_3 t (ix3 u v n) 0).trans ?_; rw [e0]; show t.val / 4 * 1 + u.val = t.val / 4; omega
  | ⟨1, _⟩ => refine (Pipeline.Window.rect_emb_val win0_3 t (ix3 u v n) 1).trans ?_; rw [e1]; show 0 * 1 + v.val = 0; omega
  | ⟨2, _⟩ => refine (Pipeline.Window.rect_emb_val win0_3 t (ix3 u v n) 2).trans ?_; rw [e2]; show 0 * 2048 + n.val = n.val; omega

/-- The sequence's shift. -/
theorem blk4 (c : Dev nD) (t : Fin cfg0.N) (u : Fin 1) (v : Fin 1) (n : Fin 2048) : iblk m c 4 t (ix3 u v n) = m ((c : Thread nD τ).loc main_arg4)
      (ix3 (⟨t.val / 4, by have := lt_N t; omega⟩ : Fin 16) 0 n) := by
  refine Eq.trans ?_ (congrFun (V_main_arg4 m c) _)
  show V m c (Pipeline.arrRef spec0 4) ((win0_4.rect t).emb (ix3 u v n)) = _
  refine congrArg _ (funext fun a => Fin.ext ?_)
  obtain ⟨e0, e1, e2⟩ := index4 t
  match a with
  | ⟨0, _⟩ => refine (Pipeline.Window.rect_emb_val win0_4 t (ix3 u v n) 0).trans ?_; rw [e0]; show t.val / 4 * 1 + u.val = t.val / 4; omega
  | ⟨1, _⟩ => refine (Pipeline.Window.rect_emb_val win0_4 t (ix3 u v n) 1).trans ?_; rw [e1]; show 0 * 1 + v.val = 0; omega
  | ⟨2, _⟩ => refine (Pipeline.Window.rect_emb_val win0_4 t (ix3 u v n) 2).trans ?_; rw [e2]; show 0 * 2048 + n.val = n.val; omega

/-- The sequence's scale. -/
theorem blk5 (c : Dev nD) (t : Fin cfg0.N) (u : Fin 1) (v : Fin 1) (n : Fin 2048) : iblk m c 5 t (ix3 u v n) = m ((c : Thread nD τ).loc main_arg5)
      (ix3 (⟨t.val / 4, by have := lt_N t; omega⟩ : Fin 16) 0 n) := by
  refine Eq.trans ?_ (congrFun (V_main_arg5 m c) _)
  show V m c (Pipeline.arrRef spec0 5) ((win0_5.rect t).emb (ix3 u v n)) = _
  refine congrArg _ (funext fun a => Fin.ext ?_)
  obtain ⟨e0, e1, e2⟩ := index5 t
  match a with
  | ⟨0, _⟩ => refine (Pipeline.Window.rect_emb_val win0_5 t (ix3 u v n) 0).trans ?_; rw [e0]; show t.val / 4 * 1 + u.val = t.val / 4; omega
  | ⟨1, _⟩ => refine (Pipeline.Window.rect_emb_val win0_5 t (ix3 u v n) 1).trans ?_; rw [e1]; show 0 * 1 + v.val = 0; omega
  | ⟨2, _⟩ => refine (Pipeline.Window.rect_emb_val win0_5 t (ix3 u v n) 2).trans ?_; rw [e2]; show 0 * 2048 + n.val = n.val; omega

/-- The layer norm's scale. -/
theorem blk6 (c : Dev nD) (t : Fin cfg0.N) (n : Fin 2048) : iblk m c 6 t (ix2 0 n) = m ((c : Thread nD τ).loc main_arg6) (ix1 n) := by
  refine Eq.trans ?_ (V_v3 m c (ix2 0 n))
  show V m c (Pipeline.arrRef spec0 6) ((win0_6.rect t).emb (ix2 0 n)) = _
  refine congrArg _ (funext fun a => Fin.ext ?_)
  obtain ⟨e0, e1⟩ := index6 t
  match a with
  | ⟨0, _⟩ => refine (Pipeline.Window.rect_emb_val win0_6 t (ix2 0 n) 0).trans ?_; rw [e0]; rfl
  | ⟨1, _⟩ => refine (Pipeline.Window.rect_emb_val win0_6 t (ix2 0 n) 1).trans ?_; rw [e1]; show 0 * 2048 + n.val = n.val; omega

/-- The layer norm's shift. -/
theorem blk7 (c : Dev nD) (t : Fin cfg0.N) (n : Fin 2048) : iblk m c 7 t (ix2 0 n) = m ((c : Thread nD τ).loc main_arg7) (ix1 n) := by
  refine Eq.trans ?_ (V_v4 m c (ix2 0 n))
  show V m c (Pipeline.arrRef spec0 7) ((win0_7.rect t).emb (ix2 0 n)) = _
  refine congrArg _ (funext fun a => Fin.ext ?_)
  obtain ⟨e0, e1⟩ := index7 t
  match a with
  | ⟨0, _⟩ => refine (Pipeline.Window.rect_emb_val win0_7 t (ix2 0 n) 0).trans ?_; rw [e0]; rfl
  | ⟨1, _⟩ => refine (Pipeline.Window.rect_emb_val win0_7 t (ix2 0 n) 1).trans ?_; rw [e1]; show 0 * 2048 + n.val = n.val; omega

/-- The router's weights. -/
theorem blk8 (c : Dev nD) (t : Fin cfg0.N) (d : Fin 2048) (k : Fin 16) :
    iblk m c 8 t (ix2 d (⟨k.val, by omega⟩ : Fin 128)) = m ((c : Thread nD τ).loc main_arg8) (ix2 d k) := by
  refine Eq.trans ?_ (V_v1 m c d k)
  show V m c (Pipeline.arrRef spec0 8) ((win0_8.rect t).emb (ix2 d (⟨k.val, by omega⟩ : Fin 128))) = _
  refine congrArg _ (funext fun a => Fin.ext ?_)
  obtain ⟨e0, e1⟩ := index8 t
  match a with
  | ⟨0, _⟩ => refine (Pipeline.Window.rect_emb_val win0_8 t (ix2 d (⟨k.val, by omega⟩ : Fin 128)) 0).trans ?_; rw [e0]; show 0 * 2048 + d.val = d.val; omega
  | ⟨1, _⟩ => refine (Pipeline.Window.rect_emb_val win0_8 t (ix2 d (⟨k.val, by omega⟩ : Fin 128)) 1).trans ?_; rw [e1]; show 0 * 128 + k.val = k.val; omega

/-! ## What a point writes back -/

/-- The launch contents' new residual; -/
abbrev x1Of (c : Dev nD) : FVec Ideal S8x2048x2048 .f32 := x1 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
/-- the experts' input; -/
abbrev h2Of (c : Dev nD) : FVec Ideal S8x2048x2048 .bf16 := h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- the affinities. -/
abbrev affOf (c : Dev nD) : FVec Ideal S8x16x2048 .f32 := aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A row of a block is a row of the result. -/
theorem xblk_eq (c : Dev nD) (t : Fin cfg0.N) (r : Fin 512) :
    xblk (iblk m c 0 t) (iblk m c 1 t) (iblk m c 2 t) (iblk m c 3 t) (iblk m c 6 t) (iblk m c 7 t) r
      = x1At (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (⟨t.val / 4, by have := lt_N t; omega⟩ : Fin 8) (⟨t.val % 4 * 512 + r.val, by omega⟩ : Fin 2048) := by
  unfold xblk x1At
  refine congr (congr (congrArg normed (congr (congr (congr (congrArg zed ?_) ?_) ?_) ?_)) ?_) ?_
  · exact funext fun d => blk0 m c t 0 r d
  · exact funext fun d => funext fun n => blk1 m c t 0 d n
  · exact funext fun d => blk2 m c t 0 r d
  · exact funext fun d => blk3 m c t 0 0 d
  · exact funext fun n => blk6 m c t n
  · exact funext fun n => blk7 m c t n

theorem hblk_eq (c : Dev nD) (t : Fin cfg0.N) (r : Fin 512) :
    hblk (iblk m c 0 t) (iblk m c 1 t) (iblk m c 2 t) (iblk m c 3 t) (iblk m c 4 t) (iblk m c 5 t) (iblk m c 6 t) (iblk m c 7 t) r
      = h2At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨t.val / 4, by have := lt_N t; omega⟩ : Fin 8) (⟨t.val % 4 * 512 + r.val, by omega⟩ : Fin 2048) := by
  unfold hblk h2At
  refine congr (congr (congrArg modul (xblk_eq m c t r)) ?_) ?_
  · exact funext fun n => blk5 m c t 0 0 n
  · exact funext fun n => blk4 m c t 0 0 n

theorem ablk_eq (c : Dev nD) (t : Fin cfg0.N) (r : Fin 512) :
    ablk (iblk m c 0 t) (iblk m c 1 t) (iblk m c 2 t) (iblk m c 3 t) (iblk m c 4 t) (iblk m c 5 t) (iblk m c 6 t) (iblk m c 7 t) (iblk m c 8 t) r
      = affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val / 4, by have := lt_N t; omega⟩ : Fin 8) (⟨t.val % 4 * 512 + r.val, by omega⟩ : Fin 2048) := by
  unfold ablk affAt
  refine congrArg soft16 (funext fun k => Finset.sum_congr rfl fun d _ => ?_)
  exact congrArg₂ (fun p q : EReal => p * q) (congrFun (hblk_eq m c t r) d) (blk8 m c t d k)

theorem x1_at (a w x g lg lb) (i : S8x2048x2048.Idx) (b : Fin 8) (s n : Fin 2048)
    (q0 : (i 0).val = b.val) (q1 : (i 1).val = s.val) (q2 : (i 2).val = n.val) : x1 a w x g lg lb i = x1At a w x g lg lb b s n := by
  obtain rfl : i 0 = b := Fin.ext q0
  obtain rfl : i 1 = s := Fin.ext q1
  obtain rfl : i 2 = n := Fin.ext q2
  rfl

theorem h2_at (a w x g sh sc lg lb) (i : S8x2048x2048.Idx) (b : Fin 8) (s n : Fin 2048)
    (q0 : (i 0).val = b.val) (q1 : (i 1).val = s.val) (q2 : (i 2).val = n.val) : h2 a w x g sh sc lg lb i = h2At a w x g sh sc lg lb b s n := by
  obtain rfl : i 0 = b := Fin.ext q0
  obtain rfl : i 1 = s := Fin.ext q1
  obtain rfl : i 2 = n := Fin.ext q2
  rfl

theorem aff_at (a w x g sh sc lg lb rw') (i : S8x16x2048.Idx) (b : Fin 8) (s : Fin 2048) (e : Fin 16)
    (q0 : (i 0).val = b.val) (q1 : (i 1).val = e.val) (q2 : (i 2).val = s.val) : aff a w x g sh sc lg lb rw' i = affAt a w x g sh sc lg lb rw' b s e := by
  obtain rfl : i 0 = b := Fin.ext q0
  obtain rfl : i 1 = e := Fin.ext q1
  obtain rfl : i 2 = s := Fin.ext q2
  rfl

/-- What point `t` writes back of the new residual is its block. -/
theorem flushed9_eq (c : Dev nD) (t : Fin cfg0.N) :
    (dats m 0 c).flushed 9 t = (win0_9.blk t).view.read (Elt Ideal) (x1Of m c) := by
  rw [Value.flushed9]
  show (fun j : S1x512x2048.Idx => out0_9 (F := Ideal) (iblk m c 0 t) (iblk m c 1 t) (iblk m c 2 t) (iblk m c 3 t) (iblk m c 4 t) (iblk m c 5 t) (iblk m c 6 t) (iblk m c 7 t) (iblk m c 8 t) j) = fun j : S1x512x2048.Idx => x1Of m c ((win0_9.rect t).emb j)
  funext j
  obtain ⟨u, r, n, rfl⟩ : ∃ u r n, j = ix3 (n0 := 1) (n1 := 512) (n2 := 2048) u r n := ⟨_, _, _, eq_ix3 j⟩
  refine (out9 _ _ _ _ _ _ _ _ _ _).trans ?_
  obtain ⟨e0, e1, e2⟩ := index9 t
  refine (congrFun (xblk_eq m c t r) n).trans (x1_at _ _ _ _ _ _ _ _ _ _ ?_ ?_ ?_).symm
  · refine (Pipeline.Window.rect_emb_val win0_9 t (ix3 u r n) 0).trans ?_; rw [e0]; show _ * 1 + u.val = t.val / 4; omega
  · refine (Pipeline.Window.rect_emb_val win0_9 t (ix3 u r n) 1).trans ?_; rw [e1]; rfl
  · refine (Pipeline.Window.rect_emb_val win0_9 t (ix3 u r n) 2).trans ?_; rw [e2]; show 0 * 2048 + n.val = n.val; omega

/-- What point `t` writes back of the experts' input is its block. -/
theorem flushed10_eq (c : Dev nD) (t : Fin cfg0.N) :
    (dats m 0 c).flushed 10 t = (win0_10.blk t).view.read (Elt Ideal) (h2Of m c) := by
  rw [Value.flushed10]
  show (fun j : S1x512x2048.Idx => out0_10 (F := Ideal) (iblk m c 0 t) (iblk m c 1 t) (iblk m c 2 t) (iblk m c 3 t) (iblk m c 4 t) (iblk m c 5 t) (iblk m c 6 t) (iblk m c 7 t) (iblk m c 8 t) j) = fun j : S1x512x2048.Idx => h2Of m c ((win0_10.rect t).emb j)
  funext j
  obtain ⟨u, r, n, rfl⟩ : ∃ u r n, j = ix3 (n0 := 1) (n1 := 512) (n2 := 2048) u r n := ⟨_, _, _, eq_ix3 j⟩
  refine (out10 _ _ _ _ _ _ _ _ _ _).trans ?_
  obtain ⟨e0, e1, e2⟩ := index10 t
  refine (congrFun (hblk_eq m c t r) n).trans (h2_at _ _ _ _ _ _ _ _ _ _ _ _ ?_ ?_ ?_).symm
  · refine (Pipeline.Window.rect_emb_val win0_10 t (ix3 u r n) 0).trans ?_; rw [e0]; show _ * 1 + u.val = t.val / 4; omega
  · refine (Pipeline.Window.rect_emb_val win0_10 t (ix3 u r n) 1).trans ?_; rw [e1]; rfl
  · refine (Pipeline.Window.rect_emb_val win0_10 t (ix3 u r n) 2).trans ?_; rw [e2]; show 0 * 2048 + n.val = n.val; omega

/-- What point `t` writes back of the affinities is its block. -/
theorem flushed11_eq (c : Dev nD) (t : Fin cfg0.N) :
    (dats m 0 c).flushed 11 t = (win0_11.blk t).view.read (Elt Ideal) (affOf m c) := by
  rw [Value.flushed11]
  show (fun j : S1x16x512.Idx => out0_11 (F := Ideal) (iblk m c 0 t) (iblk m c 1 t) (iblk m c 2 t) (iblk m c 3 t) (iblk m c 4 t) (iblk m c 5 t) (iblk m c 6 t) (iblk m c 7 t) (iblk m c 8 t) j) = fun j : S1x16x512.Idx => affOf m c ((win0_11.rect t).emb j)
  funext j
  obtain ⟨u, r, n, rfl⟩ : ∃ u r n, j = ix3 (n0 := 1) (n1 := 16) (n2 := 512) u r n := ⟨_, _, _, eq_ix3 j⟩
  refine (out11 _ _ _ _ _ _ _ _ _ _).trans ?_
  obtain ⟨e0, e1, e2⟩ := index11 t
  refine (congrFun (ablk_eq m c t n) r).trans (aff_at _ _ _ _ _ _ _ _ _ _ _ _ _ ?_ ?_ ?_).symm
  · refine (Pipeline.Window.rect_emb_val win0_11 t (ix3 u r n) 0).trans ?_; rw [e0]; show _ * 1 + u.val = t.val / 4; omega
  · refine (Pipeline.Window.rect_emb_val win0_11 t (ix3 u r n) 1).trans ?_; rw [e1]; show 0 * 16 + r.val = r.val; omega
  · refine (Pipeline.Window.rect_emb_val win0_11 t (ix3 u r n) 2).trans ?_; rw [e2]; rfl

/-! ## The blocks tile the results -/

theorem cover9 (i : S8x2048x2048.Idx) : ∃ t : Fin cfg0.N, (cfg0.win 9).flush t = true ∧ i ∈ ((cfg0.win 9).blk t).view.set := by
  have h0 : (i 0 : Nat) < 8 := (i 0).isLt
  have h1 : (i 1 : Nat) < 2048 := (i 1).isLt
  have h2 : (i 2 : Nat) < 2048 := (i 2).isLt
  have ht : (i 0 : Nat) * 4 + (i 1 : Nat) / 512 < cfg0.N := by have hN : cfg0.N = 32 := N_0; omega
  refine ⟨⟨_, ht⟩, flush0_9 _, ?_⟩
  show i ∈ ((View.whole main_v5_0).slice (win0_9.rect ⟨_, ht⟩)).set
  rw [View.set_slice_whole, Rect.mem_set_unit]
  obtain ⟨e0, e1, e2⟩ := index9 ⟨_, ht⟩
  intro a
  match a with
  | ⟨0, _⟩ => show win0_9.index ⟨_, ht⟩ 0 * 1 ≤ (i 0 : Nat) ∧ (i 0 : Nat) < win0_9.index ⟨_, ht⟩ 0 * 1 + 1; rw [e0]; dsimp only; omega
  | ⟨1, _⟩ => show win0_9.index ⟨_, ht⟩ 1 * 512 ≤ (i 1 : Nat) ∧ (i 1 : Nat) < win0_9.index ⟨_, ht⟩ 1 * 512 + 512; rw [e1]; dsimp only; omega
  | ⟨2, _⟩ => show win0_9.index ⟨_, ht⟩ 2 * 2048 ≤ (i 2 : Nat) ∧ (i 2 : Nat) < win0_9.index ⟨_, ht⟩ 2 * 2048 + 2048; rw [e2]; omega

theorem cover10 (i : S8x2048x2048.Idx) : ∃ t : Fin cfg0.N, (cfg0.win 10).flush t = true ∧ i ∈ ((cfg0.win 10).blk t).view.set := by
  have h0 : (i 0 : Nat) < 8 := (i 0).isLt
  have h1 : (i 1 : Nat) < 2048 := (i 1).isLt
  have h2 : (i 2 : Nat) < 2048 := (i 2).isLt
  have ht : (i 0 : Nat) * 4 + (i 1 : Nat) / 512 < cfg0.N := by have hN : cfg0.N = 32 := N_0; omega
  refine ⟨⟨_, ht⟩, flush0_10 _, ?_⟩
  show i ∈ ((View.whole main_v5_1).slice (win0_10.rect ⟨_, ht⟩)).set
  rw [View.set_slice_whole, Rect.mem_set_unit]
  obtain ⟨e0, e1, e2⟩ := index10 ⟨_, ht⟩
  intro a
  match a with
  | ⟨0, _⟩ => show win0_10.index ⟨_, ht⟩ 0 * 1 ≤ (i 0 : Nat) ∧ (i 0 : Nat) < win0_10.index ⟨_, ht⟩ 0 * 1 + 1; rw [e0]; dsimp only; omega
  | ⟨1, _⟩ => show win0_10.index ⟨_, ht⟩ 1 * 512 ≤ (i 1 : Nat) ∧ (i 1 : Nat) < win0_10.index ⟨_, ht⟩ 1 * 512 + 512; rw [e1]; dsimp only; omega
  | ⟨2, _⟩ => show win0_10.index ⟨_, ht⟩ 2 * 2048 ≤ (i 2 : Nat) ∧ (i 2 : Nat) < win0_10.index ⟨_, ht⟩ 2 * 2048 + 2048; rw [e2]; omega

theorem cover11 (i : S8x16x2048.Idx) : ∃ t : Fin cfg0.N, (cfg0.win 11).flush t = true ∧ i ∈ ((cfg0.win 11).blk t).view.set := by
  have h0 : (i 0 : Nat) < 8 := (i 0).isLt
  have h1 : (i 1 : Nat) < 16 := (i 1).isLt
  have h2 : (i 2 : Nat) < 2048 := (i 2).isLt
  have ht : (i 0 : Nat) * 4 + (i 2 : Nat) / 512 < cfg0.N := by have hN : cfg0.N = 32 := N_0; omega
  refine ⟨⟨_, ht⟩, flush0_11 _, ?_⟩
  show i ∈ ((View.whole main_v5_2).slice (win0_11.rect ⟨_, ht⟩)).set
  rw [View.set_slice_whole, Rect.mem_set_unit]
  obtain ⟨e0, e1, e2⟩ := index11 ⟨_, ht⟩
  intro a
  match a with
  | ⟨0, _⟩ => show win0_11.index ⟨_, ht⟩ 0 * 1 ≤ (i 0 : Nat) ∧ (i 0 : Nat) < win0_11.index ⟨_, ht⟩ 0 * 1 + 1; rw [e0]; dsimp only; omega
  | ⟨1, _⟩ => show win0_11.index ⟨_, ht⟩ 1 * 16 ≤ (i 1 : Nat) ∧ (i 1 : Nat) < win0_11.index ⟨_, ht⟩ 1 * 16 + 16; rw [e1]; omega
  | ⟨2, _⟩ => show win0_11.index ⟨_, ht⟩ 2 * 512 ≤ (i 2 : Nat) ∧ (i 2 : Nat) < win0_11.index ⟨_, ht⟩ 2 * 512 + 512; rw [e2]; dsimp only; omega

/-! ## The kernel's run -/

theorem final9 (c : Dev nD) : (dats m 0 c).arrAt 9 cfg0.N = x1Of m c :=
  (dats m 0 c).arrAt_eq_of_cover 9 _ (fun t _ => flushed9_eq m c t) cover9
theorem final10 (c : Dev nD) : (dats m 0 c).arrAt 10 cfg0.N = h2Of m c :=
  (dats m 0 c).arrAt_eq_of_cover 10 _ (fun t _ => flushed10_eq m c t) cover10
theorem final11 (c : Dev nD) : (dats m 0 c).arrAt 11 cfg0.N = affOf m c :=
  (dats m 0 c).arrAt_eq_of_cover 11 _ (fun t _ => flushed11_eq m c t) cover11

/-- THE KERNEL'S RUN: its three results, and its arguments as launched. -/
theorem run : θ_run defs (onTc (τ := τ) (main (F := Ideal))) ⟨m, fun _ => 0, ρ⟩ fun r => ∀ c : Dev nD,
      (r.2.mem ((c : Thread nD τ).loc main_v5_0) = x1Of m c
      ∧ r.2.mem ((c : Thread nD τ).loc main_v5_1) = h2Of m c
      ∧ r.2.mem ((c : Thread nD τ).loc main_v5_2) = affOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨⟨(h c).1.trans (final9 m c), (h c).2.1.trans (final10 m c), (h c).2.2.1.trans (final11 m c)⟩,
    (h c).2.2.2⟩) (Value.run_blocks m ρ)

end Cert.OutProjBIdeal.Val

end
-- ==== Proof.OutProjBRef.lean ====
/-
  THE OUTPUT PROJECTION'S REFERENCE (hand-written): `OutProjBRefIdeal` leaves in its three results the same functions of the
  arguments as the kernel. Its √2 is the square root of 2, taken at the extended reals.
-/
module

public import proofs.«01_k».proof.Proof.OutProjBValue
public import proofs.«01_k».proof.Proof.Gen.OutProjBRefIdeal.Read
public import Idealize.ShloMosaic.Lib.Pointwise

@[expose] public section

set_option maxRecDepth 16384

noncomputable section

open Idealize.ShloMosaic Idealize.ShloMosaic.TcCoe Idealize.SL.Sem

namespace Cert.OutProjBRefIdeal.Val

open Cert.OutProjBRefIdeal Cert.OutProjBRefIdeal.Read Cert.OutProjBIdeal.Val Cert.OutProjMath

/-- The square root of 2, as the reference takes it. -/
theorem sqrt2 : Ideal.sqrt (Ideal.ofBits .f32 0x40000000#32) = root2 := by
  have e : (Ideal.ofBits .f32 0x40000000#32 : EReal) = ((2 : ℝ) : EReal) := by
    simp [Ideal.ofBits, Ideal.ieee]
    rw [← EReal.coe_mul]; norm_num
  rw [e, Ideal.sqrt_coe, if_neg (show ¬ (2 : ℝ) < 0 by norm_num)]
  rfl

section
variable (a : FVec Ideal S8x2048x2048 .bf16) (w : FVec Ideal S2x2048x2048 .f32) (x : FVec Ideal S8x2048x2048 .f32) (g sh sc : FVec Ideal S16x1x2048 .f32)
    (lg lb : FVec Ideal S2048 .f32) (rw' : FVec Ideal S2048x16 .f32)

theorem z_apply (b : Fin 8) (s n : Fin 2048) : val_main_v10 (F := Ideal) a w x g (ix3 b s n)
    = zed (fun d => a (ix3 b s d)) (fun d n => w (ix3 (1 : Fin 2) d n)) (fun n => x (ix3 b s n)) (fun n => g (ix3 (⟨b.val, by omega⟩ : Fin 16) 0 n)) n := by
  unfold zed
  rw [← sqrt2]
  pointwise [val_main_v10, val_main_v9, val_main_v8, val_main_v7, val_main_v6, val_main_v5, val_main_v4, val_main_v3, val_main_v2, val_main_v1,
    val_main_v0, val_main_cst]

theorem norm_apply (b : Fin 8) (s n : Fin 2048) : val_main_v34 (F := Ideal) a w x g lg lb (ix3 b s n)
    = normed (fun k => val_main_v10 (F := Ideal) a w x g (ix3 b s k)) (fun n => lg (ix1 n)) (fun n => lb (ix1 n)) n := by
  unfold normed mean
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_cst_0, val_main_cst_1, val_main_cst_2, val_main_cst_3, val_main_cst_4]

theorem x1_apply (b : Fin 8) (s n : Fin 2048) : val_main_v34 (F := Ideal) a w x g lg lb (ix3 b s n) = x1At a w x g lg lb b s n := by
  rw [norm_apply]
  unfold x1At
  exact congrArg (fun q => normed q (fun n => lg (ix1 n)) (fun n => lb (ix1 n)) n) (funext fun k => z_apply a w x g b s k)

theorem modul_apply (b : Fin 8) (s n : Fin 2048) : val_main_v42 (F := Ideal) a w x g sh sc lg lb (ix3 b s n)
    = modul (fun k => val_main_v34 (F := Ideal) a w x g lg lb (ix3 b s k)) (fun n => sc (ix3 (⟨b.val, by omega⟩ : Fin 16) 0 n))
      (fun n => sh (ix3 (⟨b.val, by omega⟩ : Fin 16) 0 n)) n := by
  unfold modul
  pointwise [val_main_v42, val_main_v41, val_main_v40, val_main_v39, val_main_v38, val_main_v37, val_main_v36, val_main_v35, val_main_cst_5]

theorem h2_apply (b : Fin 8) (s n : Fin 2048) : val_main_v42 (F := Ideal) a w x g sh sc lg lb (ix3 b s n) = h2At a w x g sh sc lg lb b s n := by
  rw [modul_apply]
  unfold h2At
  exact congrArg (fun q => modul q _ _ n) (funext fun k => x1_apply a w x g lg lb b s k)

theorem logit_apply (b : Fin 8) (s : Fin 2048) (k : Fin 16) : val_main_v43 (F := Ideal) a w x g sh sc lg lb rw' (ix3 b s k)
    = ∑ d : Fin 2048, h2At a w x g sh sc lg lb b s d * rw' (ix2 d k) := by
  refine Eq.trans (b := ∑ d : Fin 2048, (val_main_v42 (F := Ideal) a w x g sh sc lg lb (ix3 b s d) : EReal) * rw' (ix2 d k)) ?_
    (Finset.sum_congr rfl fun d _ => congrArg (fun q : EReal => q * rw' (ix2 d k)) (h2_apply a w x g sh sc lg lb b s d))
  pointwise [val_main_v43]

theorem soft_apply (b : Fin 8) (s : Fin 2048) (e : Fin 16) : val_main_v54 (F := Ideal) a w x g sh sc lg lb rw' (ix3 b s e)
    = soft16 (fun k => val_main_v43 (F := Ideal) a w x g sh sc lg lb rw' (ix3 b s k)) e := by
  unfold soft16
  pointwise [val_main_v54, val_main_v53, val_main_v52, val_main_v51, val_main_v50, val_main_v49, val_main_v48, val_main_v47, val_main_v46, val_main_v45,
    val_main_v44, val_main_cst_6, val_main_cst_7, val_main_cst_8]
  simp only [inf_val, bot_le, max_eq_right]

/-- The first result, -/
theorem result_x1 : val_main_v34 (F := Ideal) a w x g lg lb = x1 a w x g lg lb := by
  funext j
  obtain ⟨b, s, n, rfl⟩ : ∃ b s n, j = ix3 (n0 := 8) (n1 := 2048) (n2 := 2048) b s n := ⟨_, _, _, eq_ix3 j⟩
  exact x1_apply a w x g lg lb b s n

/-- the second, -/
theorem result_h2 : val_main_v55 (F := Ideal) a w x g sh sc lg lb = h2 a w x g sh sc lg lb := by
  funext j
  obtain ⟨b, s, n, rfl⟩ : ∃ b s n, j = ix3 (n0 := 8) (n1 := 2048) (n2 := 2048) b s n := ⟨_, _, _, eq_ix3 j⟩
  exact h2_apply a w x g sh sc lg lb b s n

/-- and the third. -/
theorem result_aff : val_main_v56 (F := Ideal) a w x g sh sc lg lb rw' = aff a w x g sh sc lg lb rw' := by
  funext j
  obtain ⟨b, e, s, rfl⟩ : ∃ b e s, j = ix3 (n0 := 8) (n1 := 16) (n2 := 2048) b e s := ⟨_, _, _, eq_ix3 j⟩
  refine Eq.trans (b := val_main_v54 (F := Ideal) a w x g sh sc lg lb rw' (ix3 b s e)) ?_ ?_
  · pointwise [val_main_v56]
  · rw [soft_apply]
    exact congrArg (fun q => soft16 q e) (funext fun k => logit_apply a w x g sh sc lg lb rw' b s k)
end

end Cert.OutProjBRefIdeal.Val

end
-- ==== Proof.OutProjBClaims.lean ====
/-
  THE OUTPUT PROJECTION'S CLAIMS (hand-written): its frames, and that kernel and reference agree at the extended reals.
-/
module

public import proofs.«01_k».proof.Defs
public import proofs.«01_k».proof.Proof.Gen.OutProjB
public import proofs.«01_k».proof.Proof.Gen.OutProjB.Frame
public import proofs.«01_k».proof.Proof.Gen.OutProjBIdeal
public import proofs.«01_k».proof.Proof.Gen.OutProjBIdeal.Frame
public import proofs.«01_k».proof.Proof.Gen.OutProjBRefIdeal
public import proofs.«01_k».proof.Proof.Gen.OutProjBRefIdeal.Run
public import proofs.«01_k».proof.Proof.Gen.OutProjBRefIdeal.Read
public import proofs.«01_k».proof.Proof.OutProjBValue
public import proofs.«01_k».proof.Proof.OutProjBRef
public import Idealize.ShloMosaic.Adequacy
public import Idealize.ShloMosaic.Init

@[expose] public section

set_option maxRecDepth 16384

noncomputable section

open Idealize.ShloMosaic Idealize.ShloMosaic.TcCoe Idealize.SL.Sem

namespace Cert.OutProjB.Claims

/-- The kernel runs and leaves its arguments as launched. -/
theorem kernel : Cert.quiescent_OutProjB (hOutProjB := Cert.OutProjB.Gen.facts) :=
  fun m ρ _ => Cert.OutProjB.Gen.frame m ρ

/-- So does the kernel at the extended reals. -/
theorem ideal : Cert.quiescent_OutProjBIdeal (hOutProjBIdeal := Cert.OutProjBIdeal.Gen.facts) :=
  fun m ρ _ => Cert.OutProjBIdeal.Gen.frame m ρ

/-- So does the reference. -/
theorem reference : Cert.quiescent_OutProjBRefIdeal (hOutProjBRefIdeal := Cert.OutProjBRefIdeal.Gen.facts) :=
  fun m ρ _ => (θ_run Cert.OutProjBRefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.OutProjBRefIdeal.Value.run (F := Ideal) m ρ)

/-- Naming the residual's scale and the masked logit: √2 stands for one literal, −∞ for the other. -/
theorem preserves : Cert.preserves_OutProjB_OutProjBIdeal :=
  ⟨IdealRules.named_const.statement Cert.OutProjBIdeal.κ "alpha" .f32 0x3FB504F3#32 ((Real.sqrt 2 : ℝ) : EReal) rfl,
    IdealRules.named_const.statement Cert.OutProjBIdeal.κ "mask" .f32 0xF149F2CA#32 ⊥ rfl⟩

/-- From the same arguments the kernel and its reference leave the same results. -/
theorem value : Cert.algebraic_OutProjBIdeal_OutProjBRefIdeal (hOutProjBIdeal := Cert.OutProjBIdeal.Gen.facts) (hOutProjBRefIdeal := Cert.OutProjBRefIdeal.Gen.facts) := by
  intro m ρ m' ρ' _ hag
  refine ⟨fun c => Cert.OutProjBIdeal.Val.x1Of m c, fun c => Cert.OutProjBIdeal.Val.h2Of m c, fun c => Cert.OutProjBIdeal.Val.affOf m c, ?_, ?_⟩
  · exact (θ_run Cert.OutProjBIdeal.defs _ _).mono (fun r h c => ⟨(h c).1.1, (h c).1.2.1, (h c).1.2.2, (h c).2⟩) (Cert.OutProjBIdeal.Val.run m ρ)
  · refine (θ_run Cert.OutProjBRefIdeal.defs _ _).mono (fun r h c => ?_) (Cert.OutProjBRefIdeal.Value.run (F := Ideal) m' ρ')
    obtain ⟨a0, a1, a2, a3, a4, a5, a6, a7, a8⟩ := hag c
    refine ⟨(h c).1.trans ((Cert.OutProjBRefIdeal.Read.val_main_v34_eq m' c).trans ((Cert.OutProjBRefIdeal.Val.result_x1 _ _ _ _ _ _).trans ?_)),
      (h c).2.1.trans ((Cert.OutProjBRefIdeal.Read.val_main_v55_eq m' c).trans ((Cert.OutProjBRefIdeal.Val.result_h2 _ _ _ _ _ _ _ _).trans ?_)),
      (h c).2.2.1.trans ((Cert.OutProjBRefIdeal.Read.val_main_v56_eq m' c).trans ((Cert.OutProjBRefIdeal.Val.result_aff _ _ _ _ _ _ _ _ _).trans ?_)), (h c).2.2.2⟩
    · rw [a0, a1, a2, a3, a6, a7]
    · rw [a0, a1, a2, a3, a4, a5, a6, a7]
    · rw [a0, a1, a2, a3, a4, a5, a6, a7, a8]

end Cert.OutProjB.Claims

end
-- ==== Proof.InProjCValue.lean ====
/-
  THE CONTEXT'S PROJECTION'S VALUE (hand-written): the kernel `InProjCIdeal` leaves in its result, at every sequence, position and
  column, the sum over the 2048 features of the hidden value times the weight of layer 0 in the column the packed layout
  names (`inproj`), and its reference `InProjCRefIdeal` the same.

  The kernel is one product per grid point (j, b) of the grid (9, 8): the 256 rows of sequence b times columns
  512 j … of the weights, written to the column tile `otile j` of the result. The reference multiplies once and joins
  five column ranges. Both are read at an index; no algebra is needed.
-/
module

public import proofs.«01_k».proof.Defs
public import proofs.«01_k».proof.Proof.Gen.InProjCIdeal.Value
public import proofs.«01_k».proof.Proof.Gen.InProjCRefIdeal.Run
public import proofs.«01_k».proof.Proof.Gen.InProjCRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InProjCIdeal.Val

open Cert.InProjCIdeal Cert.InProjCIdeal.Gen

/-- The column of the weights that the packed layout's column `n` holds: queries, then the three state groups, then the
    keys and values, which stand second in the weights. -/
def wcol (n : Fin 4608) : Fin 10752 :=
  ⟨if n.val < 1024 then n.val else if n.val < 4096 then n.val + 512 else n.val - 3072, by split <;> (try split) <;> omega⟩

/-- The projection, index by index. -/
def inproj (h : FVec Ideal S8x256x2048 .bf16) (w : FVec Ideal S2x2048x10752 .f32) : FVec Ideal S8x256x4608 .f32 :=
  fun i => ∑ k : Fin 2048, (h (ix3 (i 0) (i 1) k) : EReal) * w (ix3 (0 : Fin 2) k (wcol (i 2)))

/-- The projection at an index whose coordinates are known. -/
theorem inproj_at (h : FVec Ideal S8x256x2048 .bf16) (w : FVec Ideal S2x2048x10752 .f32) (i : S8x256x4608.Idx)
    (b : Fin 8) (s : Fin 256) (q : Fin 10752) (h0 : (i 0).val = b.val) (h1 : (i 1).val = s.val) (h2 : (wcol (i 2)).val = q.val) :
    inproj h w i = ∑ k : Fin 2048, (h (ix3 b s k) : EReal) * w (ix3 (0 : Fin 2) k q) := by
  obtain rfl : i 0 = b := Fin.ext h0
  obtain rfl : i 1 = s := Fin.ext h1
  obtain rfl : wcol (i 2) = q := Fin.ext h2
  rfl

variable (m : (ℓ : Loc nD τ sig) → Buf (Elt Ideal) ℓ) (ρ : Dev nD → PrngReg)

/-- The weights' window is staged from the first 4608 columns of the weight argument (a change of format is the identity). -/
theorem V_v1 (c : Dev nD) (l : Fin 2) (k : Fin 2048) (n : Fin 4608) :
    V m c main_v1 (ix3 l k n) = m ((c : Thread nD τ).loc main_arg1) (ix3 l k (⟨n.val, by omega⟩ : Fin 10752)) := by
  have h : V m c main_v1 = truncf (F := Ideal) .bf16 (extractStridedSlice S2x2048x4608 ![0, 0, 0]
      (m ((c : Thread nD τ).loc main_arg1)) slices_S2x2048x10752_S2x2048x4608_0_0_0) bitsLt_bf16_f32 := by
    show StableHlo.after hostOps0 (fun b => m (c, b)) (Proc.devRef .tc main_v1) = _
    after_results
  rw [h]
  pointwise

/-- The column tile of the result that column tile `j` of the weights is written to. -/
def otile (j : Nat) : Nat := if j < 2 then j else if j = 2 then 8 else j - 1

theorem index0 : ∀ t : Fin cfg0.N, win0_0.index t 0 = t.val % 8 ∧ win0_0.index t 1 = 0 ∧ win0_0.index t 2 = 0 :=
  (by decide +kernel : ∀ t : Fin grid0.N, win0_0.index t 0 = t.val % 8 ∧ win0_0.index t 1 = 0 ∧ win0_0.index t 2 = 0)
theorem index1 : ∀ t : Fin cfg0.N, win0_1.index t 0 = 0 ∧ win0_1.index t 1 = 0 ∧ win0_1.index t 2 = t.val / 8 :=
  (by decide +kernel : ∀ t : Fin grid0.N, win0_1.index t 0 = 0 ∧ win0_1.index t 1 = 0 ∧ win0_1.index t 2 = t.val / 8)
theorem index2 : ∀ t : Fin cfg0.N, win0_2.index t 0 = t.val % 8 ∧ win0_2.index t 1 = 0 ∧ win0_2.index t 2 = otile (t.val / 8) :=
  (by decide +kernel : ∀ t : Fin grid0.N, win0_2.index t 0 = t.val % 8 ∧ win0_2.index t 1 = 0 ∧ win0_2.index t 2 = otile (t.val / 8))

theorem lt_N (t : Fin cfg0.N) : t.val < 72 := lt_of_lt_of_eq t.isLt N_0

/-- The hidden values' block at point `t`: sequence `t % 8`. -/
theorem blk0 (c : Dev nD) (t : Fin cfg0.N) (u : Fin 1) (r : Fin 256) (k : Fin 2048) :
    iblk m c 0 t (ix3 u r k) = m ((c : Thread nD τ).loc main_arg0)
      (ix3 (⟨t.val % 8, by omega⟩ : Fin 8) r k) := by
  rw [← V_main_arg0 m c]
  show V m c main_arg0 ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show _ * 1 + u.val = t.val % 8; omega
  | ⟨1, _⟩ => refine (Pipeline.Window.rect_emb_val win0_0 t (ix3 u r k) 1).trans ?_; rw [e1]; show 0 * 256 + r.val = r.val; omega
  | ⟨2, _⟩ => refine (Pipeline.Window.rect_emb_val win0_0 t (ix3 u r k) 2).trans ?_; rw [e2]; show 0 * _ + k.val = k.val; omega

/-- The weights' block at point `t`: layer 0, columns from `512 (t / 8)`. -/
theorem blk1 (c : Dev nD) (t : Fin cfg0.N) (u : Fin 1) (k : Fin 2048) (n : Fin 512) :
    iblk m c 1 t (ix3 u k n) = m ((c : Thread nD τ).loc main_arg1)
      (ix3 (0 : Fin 2) k (⟨t.val / 8 * 512 + n.val, by have := lt_N t; omega⟩ : Fin 10752)) := by
  refine Eq.trans ?_ (V_v1 m c 0 k (⟨t.val / 8 * 512 + n.val, by have := lt_N t; omega⟩ : Fin 4608))
  show V m c main_v1 ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 0 * _ + u.val = 0; omega
  | ⟨1, _⟩ => refine (Pipeline.Window.rect_emb_val win0_1 t (ix3 u k n) 1).trans ?_; rw [e1]; show 0 * _ + k.val = k.val; omega
  | ⟨2, _⟩ => refine (Pipeline.Window.rect_emb_val win0_1 t (ix3 u k n) 2).trans ?_; rw [e2]; rfl

theorem hz : (![0, 0, 0] : Fin 3 → Nat) = fun _ => 0 := funext fun a => by fin_cases a <;> rfl

/-- The body's product of two blocks, index by index. -/
theorem pay_apply (x : FVec Ideal S1x256x2048 .bf16) (y : FVec Ideal S1x2048x512 .bf16) (u : Fin 1) (r : Fin 256) (n : Fin 512) :
    k0_pay1 (F := Ideal) x y (ix3 u r n) = ∑ k : Fin 2048, (x (ix3 0 r k) : EReal) * y (ix3 0 k n) := by
  pointwise [k0_pay1]

/-- The packed column tile `otile j` holds the weights' columns of tile `j`. -/
theorem wcol_tile (j : Nat) (h9 : j < 9) (n : Fin 512) (h : otile j * 512 + n.val < 4608) :
    (wcol ⟨otile j * 512 + n.val, h⟩).val = j * 512 + n.val := by
  have hn := n.isLt
  unfold wcol otile at *
  dsimp only
  split_ifs at * <;> omega

/-- What point `t` writes back is its block of the projection. -/
theorem flushed_eq (c : Dev nD) (t : Fin cfg0.N) : (dats m 0 c).flushed 2 t = (win0_2.blk t).view.read (Elt Ideal)
    (inproj (m ((c : Thread nD τ).loc main_arg0)) (m ((c : Thread nD τ).loc main_arg1))) := by
  rw [Value.flushed2]
  unfold out0_2
  rw [View.canon_unit_zero hz, View.ld_unit_zero hz, View.ld_unit_zero hz]
  show (fun j : S1x256x512.Idx => k0_pay1 (F := Ideal) (iblk m c 0 t) (iblk m c 1 t) j) = fun j : S1x256x512.Idx =>
    inproj (m ((c : Thread nD τ).loc main_arg0)) (m ((c : Thread nD τ).loc main_arg1)) ((win0_2.rect t).emb j)
  funext j
  obtain ⟨u, r, n, rfl⟩ : ∃ u r n, j = ix3 (n0 := 1) (n1 := 256) (n2 := 512) u r n := ⟨_, _, _, eq_ix3 j⟩
  rw [pay_apply]
  obtain ⟨e0, e1, e2⟩ := index2 t
  have f0 : ((win0_2.rect t).emb (ix3 u r n) 0).val = t.val % 8 := by
    refine (Pipeline.Window.rect_emb_val win0_2 t (ix3 u r n) 0).trans ?_; rw [e0]; show _ * 1 + u.val = t.val % 8; omega
  have f1 : ((win0_2.rect t).emb (ix3 u r n) 1).val = r.val := by
    refine (Pipeline.Window.rect_emb_val win0_2 t (ix3 u r n) 1).trans ?_; rw [e1]; show 0 * 256 + r.val = r.val; omega
  have f2 : ((win0_2.rect t).emb (ix3 u r n) 2).val = otile (t.val / 8) * 512 + n.val := by
    refine (Pipeline.Window.rect_emb_val win0_2 t (ix3 u r n) 2).trans ?_; rw [e2]; rfl
  have g2 : (wcol ((win0_2.rect t).emb (ix3 u r n) 2)).val = t.val / 8 * 512 + n.val := by
    have := wcol_tile (t.val / 8) (by have := lt_N t; omega) n (by rw [← f2]; exact ((win0_2.rect t).emb (ix3 u r n) 2).isLt)
    rw [← this]; exact congrArg (fun a => (wcol a).val) (Fin.ext f2)
  rw [inproj_at _ _ _ (⟨t.val % 8, by omega⟩ : Fin 8) r
    (⟨t.val / 8 * 512 + n.val, by have := lt_N t; omega⟩ : Fin 10752) f0 f1 g2]
  exact Finset.sum_congr rfl fun k _ => congrArg₂ (fun a b : EReal => a * b) (blk0 m c t 0 r k) (blk1 m c t 0 k n)

/-- An index of the result lies in point `t`'s block when its coordinates lie in the three ranges. -/
theorem mem_blk (t : Fin cfg0.N) (i : S8x256x4608.Idx) (h0 : (i 0 : Nat) = t.val % 8)
    (h1 : 0 ≤ (i 1 : Nat) ∧ (i 1 : Nat) < 256)
    (h2 : otile (t.val / 8) * 512 ≤ (i 2 : Nat) ∧ (i 2 : Nat) < otile (t.val / 8) * 512 + 512) :
    i ∈ ((cfg0.win 2).blk t).view.set := by
  show i ∈ ((View.whole main_v2).slice (win0_2.rect t)).set
  rw [View.set_slice_whole, Rect.mem_set_unit]
  obtain ⟨e0, e1, e2⟩ := index2 t
  intro a
  match a with
  | ⟨0, _⟩ => show win0_2.index t 0 * 1 ≤ (i 0 : Nat) ∧ (i 0 : Nat) < win0_2.index t 0 * 1 + 1; rw [e0]; omega
  | ⟨1, _⟩ => show win0_2.index t 1 * 256 ≤ (i 1 : Nat) ∧ (i 1 : Nat) < win0_2.index t 1 * 256 + 256; rw [e1]; omega
  | ⟨2, _⟩ => show win0_2.index t 2 * 512 ≤ (i 2 : Nat) ∧ (i 2 : Nat) < win0_2.index t 2 * 512 + 512; rw [e2]; omega

/-- The blocks tile the result: the column tile `o` is written from column tile 2 when `o = 8`, from `o` when below 2 and
    from `o + 1` otherwise. -/
theorem cover (i : S8x256x4608.Idx) : ∃ t : Fin cfg0.N, (cfg0.win 2).flush t = true ∧ i ∈ ((cfg0.win 2).blk t).view.set := by
  have h0 : (i 0 : Nat) < 8 := (i 0).isLt
  have h1 : (i 1 : Nat) < 256 := (i 1).isLt
  have h2 : (i 2 : Nat) < 4608 := (i 2).isLt
  obtain ⟨j, hj, hj'⟩ : ∃ j < 9, otile j = (i 2 : Nat) / 512 := by
    have h : (i 2 : Nat) / 512 < 9 := by omega
    revert h
    generalize (i 2 : Nat) / 512 = o
    intro h
    interval_cases o <;> decide
  have ht : j * 8 + (i 0 : Nat) < cfg0.N := by have hN : cfg0.N = 72 := N_0; omega
  refine ⟨⟨j * 8 + (i 0 : Nat), ht⟩, flush0_2 _, mem_blk _ i ?_ ?_ ?_⟩ <;> dsimp only
  · omega
  · omega
  · have : (j * 8 + (i 0 : Nat)) / 8 = j := by omega
    rw [this, hj']; omega

/-- THE KERNEL'S RUN: it ends with the projection in its result and its arguments as they were. -/
theorem run : θ_run defs (onTc (τ := τ) (main (F := Ideal))) ⟨m, fun _ => 0, ρ⟩ fun r => ∀ c : Dev nD,
      r.2.mem ((c : Thread nD τ).loc main_v2) = inproj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.InProjCIdeal.Val

namespace Cert.InProjCRefIdeal.Val

open Cert.InProjCRefIdeal Cert.InProjCRefIdeal.Read

/-- The reference's product, index by index. -/
theorem prod_apply (h : FVec Ideal S8x256x2048 .bf16) (w : FVec Ideal S2x2048x10752 .f32) (b : Fin 8) (s : Fin 256) (n : Fin 10752) :
    val_main_v3 (F := Ideal) h w (ix3 b s n) = ∑ k : Fin 2048, (h (ix3 b s k) : EReal) * w (ix3 (0 : Fin 2) k n) := by
  pointwise [val_main_v3, val_main_v2, val_main_v1, val_main_v0]

/-- THE REFERENCE'S RESULT is the projection in the packed layout. -/
theorem result (h : FVec Ideal S8x256x2048 .bf16) (w : FVec Ideal S2x2048x10752 .f32) :
    val_main_v9 (F := Ideal) h w = Cert.InProjCIdeal.Val.inproj h w := by
  funext j
  obtain ⟨b, s, n, rfl⟩ : ∃ b s n, j = ix3 (n0 := 8) (n1 := 256) (n2 := 4608) b s n := ⟨_, _, _, eq_ix3 j⟩
  have hn := n.isLt
  have key : ∀ q : Fin 10752, q = Cert.InProjCIdeal.Val.wcol n →
      val_main_v3 (F := Ideal) h w (ix3 b s q) = Cert.InProjCIdeal.Val.inproj h w (ix3 b s n) := by
    rintro q rfl; exact prod_apply h w b s _
  unfold val_main_v9 val_main_v4 val_main_v5 val_main_v6 val_main_v7 val_main_v8
  pointwise
  split_ifs <;> refine key _ (Fin.ext ?_) <;> simp only [Cert.InProjCIdeal.Val.wcol] <;> split_ifs <;> omega

end Cert.InProjCRefIdeal.Val

end
-- ==== Proof.InProjCClaims.lean ====
/-
  THE CONTEXT'S PROJECTION'S CLAIMS (hand-written): its frames, and that kernel and reference agree at the extended reals.
-/
module

public import proofs.«01_k».proof.Defs
public import proofs.«01_k».proof.Proof.Gen.InProjC
public import proofs.«01_k».proof.Proof.Gen.InProjC.Frame
public import proofs.«01_k».proof.Proof.Gen.InProjCIdeal
public import proofs.«01_k».proof.Proof.Gen.InProjCIdeal.Frame
public import proofs.«01_k».proof.Proof.Gen.InProjCRefIdeal
public import proofs.«01_k».proof.Proof.Gen.InProjCRefIdeal.Run
public import proofs.«01_k».proof.Proof.Gen.InProjCRefIdeal.Read
public import proofs.«01_k».proof.Proof.InProjCValue
public import Idealize.ShloMosaic.Adequacy
public import Idealize.ShloMosaic.Init

@[expose] public section

set_option maxRecDepth 16384

noncomputable section

open Idealize.ShloMosaic Idealize.ShloMosaic.TcCoe Idealize.SL.Sem

namespace Cert.InProjC.Claims

/-- The kernel runs and leaves its arguments as launched. -/
theorem kernel : Cert.quiescent_InProjC (hInProjC := Cert.InProjC.Gen.facts) :=
  fun m ρ _ => Cert.InProjC.Gen.frame m ρ

/-- So does the kernel at the extended reals. -/
theorem ideal : Cert.quiescent_InProjCIdeal (hInProjCIdeal := Cert.InProjCIdeal.Gen.facts) :=
  fun m ρ _ => Cert.InProjCIdeal.Gen.frame m ρ

/-- So does the reference. -/
theorem reference : Cert.quiescent_InProjCRefIdeal (hInProjCRefIdeal := Cert.InProjCRefIdeal.Gen.facts) :=
  fun m ρ _ => (θ_run Cert.InProjCRefIdeal.defs _ _).mono (fun r h => ⟨fun c => ⟨(h c).2.1, (h c).2.2⟩,
    Idealize.ShloMosaic.sem_eq_zero_of_no_sems (by decide) r.2⟩) (Cert.InProjCRefIdeal.Value.run (F := Ideal) m ρ)

/-- Idealizing the kernel replaced nothing. -/
theorem preserves : Cert.preserves_InProjC_InProjCIdeal := trivial

/-- From the same arguments the kernel and its reference leave the same result. -/
theorem value : Cert.algebraic_InProjCIdeal_InProjCRefIdeal (hInProjCIdeal := Cert.InProjCIdeal.Gen.facts) (hInProjCRefIdeal := Cert.InProjCRefIdeal.Gen.facts) := by
  intro m ρ m' ρ' _ hag
  refine ⟨fun c => Cert.InProjCIdeal.Val.inproj (m ((c.tc : Thread Cert.InProjCIdeal.nD Cert.InProjCIdeal.τ).loc Cert.InProjCIdeal.main_arg0)) (m ((c.tc : Thread Cert.InProjCIdeal.nD Cert.InProjCIdeal.τ).loc Cert.InProjCIdeal.main_arg1)),
    ?_, ?_⟩
  · exact Cert.InProjCIdeal.Val.run m ρ
  · refine (θ_run Cert.InProjCRefIdeal.defs _ _).mono (fun r h c => ?_) (Cert.InProjCRefIdeal.Value.run (F := Ideal) m' ρ')
    obtain ⟨a0, a1⟩ := hag c
    refine ⟨(h c).1.trans ((Cert.InProjCRefIdeal.Read.val_main_v9_eq _ _).trans ((Cert.InProjCRefIdeal.Val.result _ _).trans ?_)), (h c).2⟩
    · rw [a0, a1]

end Cert.InProjC.Claims

end
-- ==== Proof.MergeCValue.lean ====
/-
  THE CONTEXT'S GATED MERGE'S VALUE (hand-written): the kernel `MergeCIdeal` leaves in its result the merged branches
  (`merged`: at every sequence, position and column the sum over the three branches of a sigmoid gate times the branch's
  product with its weights of layer 0), and its reference `MergeCRefIdeal` the same.

  The kernel works at one (256, 256) tile of the result per point of the grid (8, 8), columns outermost, with the gates' and
  the branches' products for that tile. At the extended reals a change of format is the identity and the sums are in the
  same order, so no algebra is needed.
-/
module

public import proofs.«01_k».proof.Defs
public import proofs.«01_k».proof.Proof.Gen.MergeCIdeal.Value
public import proofs.«01_k».proof.Proof.Gen.MergeCRefIdeal.Run
public import proofs.«01_k».proof.Proof.Gen.MergeCRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.MergeCIdeal.Val

open Cert.MergeCIdeal Cert.MergeCIdeal.Gen

/-- Branch `k`'s gate before the sigmoid: the hidden values times column `4608 + 2048 k + n` of layer 0's weights. -/
def gate (h : FVec Ideal S8x256x2048 .bf16) (w : FVec Ideal S2x2048x10752 .f32) (k : Fin 3) (b : Fin 8) (s : Fin 256) (n : Fin 2048) : EReal :=
  ∑ d : Fin 2048, (h (ix3 b s d) : EReal) * w (ix3 (0 : Fin 2) d (⟨4608 + 2048 * k.val + n.val, by omega⟩ : Fin 10752))

/-- Branch `k`'s product with its weights. -/
def branch (x : FVec Ideal S8x256x1024 .bf16) (w : FVec Ideal S2x3x1024x2048 .f32) (k : Fin 3) (b : Fin 8) (s : Fin 256) (n : Fin 2048) : EReal :=
  ∑ d : Fin 1024, (x (ix3 b s d) : EReal) * w (ix4 (0 : Fin 2) k d n)

/-- The gated merge at one sequence, position and column. -/
def mergedAt (h : FVec Ideal S8x256x2048 .bf16) (x y z : FVec Ideal S8x256x1024 .bf16) (w : FVec Ideal S2x2048x10752 .f32)
    (wb : FVec Ideal S2x3x1024x2048 .f32) (b : Fin 8) (s : Fin 256) (n : Fin 2048) : EReal :=
  Ideal.logistic (gate h w 0 b s n) * branch x wb 0 b s n + Ideal.logistic (gate h w 1 b s n) * branch y wb 1 b s n
    + Ideal.logistic (gate h w 2 b s n) * branch z wb 2 b s n

/-- The gated merge, index by index. -/
def merged (h : FVec Ideal S8x256x2048 .bf16) (x y z : FVec Ideal S8x256x1024 .bf16) (w : FVec Ideal S2x2048x10752 .f32)
    (wb : FVec Ideal S2x3x1024x2048 .f32) : FVec Ideal S8x256x2048 .bf16 :=
  fun i => mergedAt h x y z w wb (i 0) (i 1) (i 2)

variable (m : (ℓ : Loc nD τ sig) → Buf (Elt Ideal) ℓ) (ρ : Dev nD → PrngReg)

theorem lt_N (t : Fin cfg0.N) : t.val < 64 := lt_of_lt_of_eq t.isLt N_0

/-- The branch weights as the kernel stages them: the argument (a change of format is the identity). -/
theorem V_v0 (c : Dev nD) (i : S2x3x1024x2048.Idx) : V m c main_v0 i = m ((c : Thread nD τ).loc main_arg5) i := by
  have h : V m c main_v0 = truncf (F := Ideal) .bf16 (m ((c : Thread nD τ).loc main_arg5) : FVec Ideal S2x3x1024x2048 .f32) bitsLt_bf16_f32 := by
    show StableHlo.after hostOps0 (fun b => m (c, b)) (Proc.devRef .tc main_v0) = _
    after_results
  rw [h]; rfl

/-! ## The windows' index maps and blocks -/

theorem index0 : ∀ t : Fin cfg0.N, win0_0.index t 0 = t.val % 8 ∧ win0_0.index t 1 = 0 ∧ win0_0.index t 2 = 0 :=
  (by decide +kernel : ∀ t : Fin grid0.N, win0_0.index t 0 = t.val % 8 ∧ win0_0.index t 1 = 0 ∧ win0_0.index t 2 = 0)
theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
theorem index2 : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)
theorem index3 : ∀ t : Fin cfg0.N, win0_3.index t 0 = t.val % 8 ∧ win0_3.index t 1 = 0 ∧ win0_3.index t 2 = 0 :=
  (by decide +kernel : ∀ t : Fin grid0.N, win0_3.index t 0 = t.val % 8 ∧ win0_3.index t 1 = 0 ∧ win0_3.index t 2 = 0)
theorem index4 : ∀ t : Fin cfg0.N, win0_4.index t 0 = 0 ∧ win0_4.index t 1 = 0 ∧ win0_4.index t 2 = 18 + t.val / 8 :=
  (by decide +kernel : ∀ t : Fin grid0.N, win0_4.index t 0 = 0 ∧ win0_4.index t 1 = 0 ∧ win0_4.index t 2 = 18 + t.val / 8)
theorem index5 : ∀ t : Fin cfg0.N, win0_5.index t 0 = 0 ∧ win0_5.index t 1 = 0 ∧ win0_5.index t 2 = 26 + t.val / 8 :=
  (by decide +kernel : ∀ t : Fin grid0.N, win0_5.index t 0 = 0 ∧ win0_5.index t 1 = 0 ∧ win0_5.index t 2 = 26 + t.val / 8)
theorem index6 : ∀ t : Fin cfg0.N, win0_6.index t 0 = 0 ∧ win0_6.index t 1 = 0 ∧ win0_6.index t 2 = 34 + t.val / 8 :=
  (by decide +kernel : ∀ t : Fin grid0.N, win0_6.index t 0 = 0 ∧ win0_6.index t 1 = 0 ∧ win0_6.index t 2 = 34 + t.val / 8)
theorem index7 : ∀ t : Fin cfg0.N, win0_7.index t 0 = 0 ∧ win0_7.index t 1 = 0 ∧ win0_7.index t 2 = 0 ∧ win0_7.index t 3 = t.val / 8 :=
  (by decide +kernel : ∀ t : Fin grid0.N, win0_7.index t 0 = 0 ∧ win0_7.index t 1 = 0 ∧ win0_7.index t 2 = 0 ∧ win0_7.index t 3 = t.val / 8)
theorem index8 : ∀ t : Fin cfg0.N, win0_8.index t 0 = 0 ∧ win0_8.index t 1 = 1 ∧ win0_8.index t 2 = 0 ∧ win0_8.index t 3 = t.val / 8 :=
  (by decide +kernel : ∀ t : Fin grid0.N, win0_8.index t 0 = 0 ∧ win0_8.index t 1 = 1 ∧ win0_8.index t 2 = 0 ∧ win0_8.index t 3 = t.val / 8)
theorem index9 : ∀ t : Fin cfg0.N, win0_9.index t 0 = 0 ∧ win0_9.index t 1 = 2 ∧ win0_9.index t 2 = 0 ∧ win0_9.index t 3 = t.val / 8 :=
  (by decide +kernel : ∀ t : Fin grid0.N, win0_9.index t 0 = 0 ∧ win0_9.index t 1 = 2 ∧ win0_9.index t 2 = 0 ∧ win0_9.index t 3 = t.val / 8)
theorem index10 : ∀ t : Fin cfg0.N, win0_10.index t 0 = t.val % 8 ∧ win0_10.index t 1 = 0 ∧ win0_10.index t 2 = t.val / 8 :=
  (by decide +kernel : ∀ t : Fin grid0.N, win0_10.index t 0 = t.val % 8 ∧ win0_10.index t 1 = 0 ∧ win0_10.index t 2 = t.val / 8)
/-- The hidden values' block: sequence `t % 8`. -/
theorem blk0 (c : Dev nD) (t : Fin cfg0.N) (u : Fin 1) (r : Fin 256) (k : Fin 2048) : iblk m c 0 t (ix3 u r k) = m ((c : Thread nD τ).loc main_arg0)
      (ix3 (⟨t.val % 8, by omega⟩ : Fin 8) r k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val % 8 * 1 + u.val = t.val % 8; omega
  | ⟨1, _⟩ => refine (Pipeline.Window.rect_emb_val win0_0 t (ix3 u r k) 1).trans ?_; rw [e1]; show 0 * 256 + r.val = r.val; omega
  | ⟨2, _⟩ => refine (Pipeline.Window.rect_emb_val win0_0 t (ix3 u r k) 2).trans ?_; rw [e2]; show 0 * 2048 + k.val = k.val; omega

/-- Branch 0's block: the same rows. -/
theorem blk1 (c : Dev nD) (t : Fin cfg0.N) (u : Fin 1) (r : Fin 256) (k : Fin 1024) : iblk m c 1 t (ix3 u r k) = m ((c : Thread nD τ).loc main_arg1)
      (ix3 (⟨t.val % 8, by omega⟩ : Fin 8) r k) := by
  refine Eq.trans ?_ (congrFun (V_main_arg1 m c) _)
  show V m c (Pipeline.arrRef spec0 1) ((win0_1.rect t).emb (ix3 u r k)) = _
  refine congrArg _ (funext fun a => Fin.ext ?_)
  obtain ⟨e0, e1, e2⟩ := index1 t
  match a with
  | ⟨0, _⟩ => refine (Pipeline.Window.rect_emb_val win0_1 t (ix3 u r k) 0).trans ?_; rw [e0]; show t.val % 8 * 1 + u.val = t.val % 8; omega
  | ⟨1, _⟩ => refine (Pipeline.Window.rect_emb_val win0_1 t (ix3 u r k) 1).trans ?_; rw [e1]; show 0 * 256 + r.val = r.val; omega
  | ⟨2, _⟩ => refine (Pipeline.Window.rect_emb_val win0_1 t (ix3 u r k) 2).trans ?_; rw [e2]; show 0 * 1024 + k.val = k.val; omega

/-- Branch 1's block: the same rows. -/
theorem blk2 (c : Dev nD) (t : Fin cfg0.N) (u : Fin 1) (r : Fin 256) (k : Fin 1024) : iblk m c 2 t (ix3 u r k) = m ((c : Thread nD τ).loc main_arg2)
      (ix3 (⟨t.val % 8, by omega⟩ : Fin 8) r k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val % 8 * 1 + u.val = t.val % 8; omega
  | ⟨1, _⟩ => refine (Pipeline.Window.rect_emb_val win0_2 t (ix3 u r k) 1).trans ?_; rw [e1]; show 0 * 256 + r.val = r.val; omega
  | ⟨2, _⟩ => refine (Pipeline.Window.rect_emb_val win0_2 t (ix3 u r k) 2).trans ?_; rw [e2]; show 0 * 1024 + k.val = k.val; omega

/-- Branch 2's block: the same rows. -/
theorem blk3 (c : Dev nD) (t : Fin cfg0.N) (u : Fin 1) (r : Fin 256) (k : Fin 1024) : iblk m c 3 t (ix3 u r k) = m ((c : Thread nD τ).loc main_arg3)
      (ix3 (⟨t.val % 8, by omega⟩ : Fin 8) r k) := by
  refine Eq.trans ?_ (congrFun (V_main_arg3 m c) _)
  show V m c (Pipeline.arrRef spec0 3) ((win0_3.rect t).emb (ix3 u r k)) = _
  refine congrArg _ (funext fun a => Fin.ext ?_)
  obtain ⟨e0, e1, e2⟩ := index3 t
  match a with
  | ⟨0, _⟩ => refine (Pipeline.Window.rect_emb_val win0_3 t (ix3 u r k) 0).trans ?_; rw [e0]; show t.val % 8 * 1 + u.val = t.val % 8; omega
  | ⟨1, _⟩ => refine (Pipeline.Window.rect_emb_val win0_3 t (ix3 u r k) 1).trans ?_; rw [e1]; show 0 * 256 + r.val = r.val; omega
  | ⟨2, _⟩ => refine (Pipeline.Window.rect_emb_val win0_3 t (ix3 u r k) 2).trans ?_; rw [e2]; show 0 * 1024 + k.val = k.val; omega

/-- Gate 0's weights: columns from `256 (18 + t / 8)` of layer 0's weights. -/
theorem blk4 (c : Dev nD) (t : Fin cfg0.N) (u : Fin 1) (k : Fin 2048) (n : Fin 256) : iblk m c 4 t (ix3 u k n) = m ((c : Thread nD τ).loc main_arg4)
      (ix3 (0 : Fin 2) k (⟨(18 + t.val / 8) * 256 + n.val, by have := lt_N t; omega⟩ : Fin 10752)) := by
  refine Eq.trans ?_ (congrFun (V_main_arg4 m c) _)
  show V m c (Pipeline.arrRef spec0 4) ((win0_4.rect t).emb (ix3 u k n)) = _
  refine congrArg _ (funext fun a => Fin.ext ?_)
  obtain ⟨e0, e1, e2⟩ := index4 t
  match a with
  | ⟨0, _⟩ => refine (Pipeline.Window.rect_emb_val win0_4 t (ix3 u k n) 0).trans ?_; rw [e0]; show 0 * 1 + u.val = 0; omega
  | ⟨1, _⟩ => refine (Pipeline.Window.rect_emb_val win0_4 t (ix3 u k n) 1).trans ?_; rw [e1]; show 0 * 2048 + k.val = k.val; omega
  | ⟨2, _⟩ => refine (Pipeline.Window.rect_emb_val win0_4 t (ix3 u k n) 2).trans ?_; rw [e2]; show (18 + t.val / 8) * 256 + n.val = (18 + t.val / 8) * 256 + n.val; omega

/-- Gate 1's weights: columns from `256 (26 + t / 8)` of layer 0's weights. -/
theorem blk5 (c : Dev nD) (t : Fin cfg0.N) (u : Fin 1) (k : Fin 2048) (n : Fin 256) : iblk m c 5 t (ix3 u k n) = m ((c : Thread nD τ).loc main_arg4)
      (ix3 (0 : Fin 2) k (⟨(26 + t.val / 8) * 256 + n.val, by have := lt_N t; omega⟩ : Fin 10752)) := by
  refine Eq.trans ?_ (congrFun (V_main_arg4 m c) _)
  show V m c (Pipeline.arrRef spec0 5) ((win0_5.rect t).emb (ix3 u k n)) = _
  refine congrArg _ (funext fun a => Fin.ext ?_)
  obtain ⟨e0, e1, e2⟩ := index5 t
  match a with
  | ⟨0, _⟩ => refine (Pipeline.Window.rect_emb_val win0_5 t (ix3 u k n) 0).trans ?_; rw [e0]; show 0 * 1 + u.val = 0; omega
  | ⟨1, _⟩ => refine (Pipeline.Window.rect_emb_val win0_5 t (ix3 u k n) 1).trans ?_; rw [e1]; show 0 * 2048 + k.val = k.val; omega
  | ⟨2, _⟩ => refine (Pipeline.Window.rect_emb_val win0_5 t (ix3 u k n) 2).trans ?_; rw [e2]; show (26 + t.val / 8) * 256 + n.val = (26 + t.val / 8) * 256 + n.val; omega

/-- Gate 2's weights: columns from `256 (34 + t / 8)` of layer 0's weights. -/
theorem blk6 (c : Dev nD) (t : Fin cfg0.N) (u : Fin 1) (k : Fin 2048) (n : Fin 256) : iblk m c 6 t (ix3 u k n) = m ((c : Thread nD τ).loc main_arg4)
      (ix3 (0 : Fin 2) k (⟨(34 + t.val / 8) * 256 + n.val, by have := lt_N t; omega⟩ : Fin 10752)) := by
  refine Eq.trans ?_ (congrFun (V_main_arg4 m c) _)
  show V m c (Pipeline.arrRef spec0 6) ((win0_6.rect t).emb (ix3 u k n)) = _
  refine congrArg _ (funext fun a => Fin.ext ?_)
  obtain ⟨e0, e1, e2⟩ := index6 t
  match a with
  | ⟨0, _⟩ => refine (Pipeline.Window.rect_emb_val win0_6 t (ix3 u k n) 0).trans ?_; rw [e0]; show 0 * 1 + u.val = 0; omega
  | ⟨1, _⟩ => refine (Pipeline.Window.rect_emb_val win0_6 t (ix3 u k n) 1).trans ?_; rw [e1]; show 0 * 2048 + k.val = k.val; omega
  | ⟨2, _⟩ => refine (Pipeline.Window.rect_emb_val win0_6 t (ix3 u k n) 2).trans ?_; rw [e2]; show (34 + t.val / 8) * 256 + n.val = (34 + t.val / 8) * 256 + n.val; omega

/-- Branch 0's weights: columns from `256 (t / 8)`. -/
theorem blk7 (c : Dev nD) (t : Fin cfg0.N) (u : Fin 1) (v : Fin 1) (k : Fin 1024) (n : Fin 256) : iblk m c 7 t (ix4 u v k n) = m ((c : Thread nD τ).loc main_arg5)
      (ix4 (0 : Fin 2) (0 : Fin 3) k (⟨t.val / 8 * 256 + n.val, by have := lt_N t; omega⟩ : Fin 2048)) := by
  refine Eq.trans ?_ (V_v0 m c _)
  show V m c (Pipeline.arrRef spec0 7) ((win0_7.rect t).emb (ix4 u v k n)) = _
  refine congrArg _ (funext fun a => Fin.ext ?_)
  obtain ⟨e0, e1, e2, e3⟩ := index7 t
  match a with
  | ⟨0, _⟩ => refine (Pipeline.Window.rect_emb_val win0_7 t (ix4 u v k n) 0).trans ?_; rw [e0]; show 0 * 1 + u.val = 0; omega
  | ⟨1, _⟩ => refine (Pipeline.Window.rect_emb_val win0_7 t (ix4 u v k n) 1).trans ?_; rw [e1]; show 0 * 1 + v.val = 0; omega
  | ⟨2, _⟩ => refine (Pipeline.Window.rect_emb_val win0_7 t (ix4 u v k n) 2).trans ?_; rw [e2]; show 0 * 1024 + k.val = k.val; omega
  | ⟨3, _⟩ => refine (Pipeline.Window.rect_emb_val win0_7 t (ix4 u v k n) 3).trans ?_; rw [e3]; show t.val / 8 * 256 + n.val = t.val / 8 * 256 + n.val; omega

/-- Branch 1's weights: columns from `256 (t / 8)`. -/
theorem blk8 (c : Dev nD) (t : Fin cfg0.N) (u : Fin 1) (v : Fin 1) (k : Fin 1024) (n : Fin 256) : iblk m c 8 t (ix4 u v k n) = m ((c : Thread nD τ).loc main_arg5)
      (ix4 (0 : Fin 2) (1 : Fin 3) k (⟨t.val / 8 * 256 + n.val, by have := lt_N t; omega⟩ : Fin 2048)) := by
  refine Eq.trans ?_ (V_v0 m c _)
  show V m c (Pipeline.arrRef spec0 8) ((win0_8.rect t).emb (ix4 u v k n)) = _
  refine congrArg _ (funext fun a => Fin.ext ?_)
  obtain ⟨e0, e1, e2, e3⟩ := index8 t
  match a with
  | ⟨0, _⟩ => refine (Pipeline.Window.rect_emb_val win0_8 t (ix4 u v k n) 0).trans ?_; rw [e0]; show 0 * 1 + u.val = 0; omega
  | ⟨1, _⟩ => refine (Pipeline.Window.rect_emb_val win0_8 t (ix4 u v k n) 1).trans ?_; rw [e1]; show 1 * 1 + v.val = 1; omega
  | ⟨2, _⟩ => refine (Pipeline.Window.rect_emb_val win0_8 t (ix4 u v k n) 2).trans ?_; rw [e2]; show 0 * 1024 + k.val = k.val; omega
  | ⟨3, _⟩ => refine (Pipeline.Window.rect_emb_val win0_8 t (ix4 u v k n) 3).trans ?_; rw [e3]; show t.val / 8 * 256 + n.val = t.val / 8 * 256 + n.val; omega

/-- Branch 2's weights: columns from `256 (t / 8)`. -/
theorem blk9 (c : Dev nD) (t : Fin cfg0.N) (u : Fin 1) (v : Fin 1) (k : Fin 1024) (n : Fin 256) : iblk m c 9 t (ix4 u v k n) = m ((c : Thread nD τ).loc main_arg5)
      (ix4 (0 : Fin 2) (2 : Fin 3) k (⟨t.val / 8 * 256 + n.val, by have := lt_N t; omega⟩ : Fin 2048)) := by
  refine Eq.trans ?_ (V_v0 m c _)
  show V m c (Pipeline.arrRef spec0 9) ((win0_9.rect t).emb (ix4 u v k n)) = _
  refine congrArg _ (funext fun a => Fin.ext ?_)
  obtain ⟨e0, e1, e2, e3⟩ := index9 t
  match a with
  | ⟨0, _⟩ => refine (Pipeline.Window.rect_emb_val win0_9 t (ix4 u v k n) 0).trans ?_; rw [e0]; show 0 * 1 + u.val = 0; omega
  | ⟨1, _⟩ => refine (Pipeline.Window.rect_emb_val win0_9 t (ix4 u v k n) 1).trans ?_; rw [e1]; show 2 * 1 + v.val = 2; omega
  | ⟨2, _⟩ => refine (Pipeline.Window.rect_emb_val win0_9 t (ix4 u v k n) 2).trans ?_; rw [e2]; show 0 * 1024 + k.val = k.val; omega
  | ⟨3, _⟩ => refine (Pipeline.Window.rect_emb_val win0_9 t (ix4 u v k n) 3).trans ?_; rw [e3]; show t.val / 8 * 256 + n.val = t.val / 8 * 256 + n.val; omega

/-! ## What the body computes, index by index -/

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's tile of the merge. -/
theorem pay_apply (x0 : FVec Ideal S1x256x2048 .bf16) (x1 x2 x3 : FVec Ideal S1x256x1024 .bf16) (x4 x5 x6 : FVec Ideal S1x2048x256 .f32)
    (x7 x8 x9 : FVec Ideal S1x1x1024x256 .bf16) (u : Fin 1) (r : Fin 256) (n : Fin 256) :
    k0_pay1 (F := Ideal) (k0_pay2 x0) (k0_pay3 x0 x4 x1 x7 x5 x2 x8) (k0_pay4 x6) x3 x9 (ix3 u r n)
      = Ideal.logistic (∑ d : Fin 2048, (x0 (ix3 0 r d) : EReal) * x4 (ix3 0 d n)) * (∑ d : Fin 1024, (x1 (ix3 0 r d) : EReal) * x7 (ix4 0 0 d n))
        + Ideal.logistic (∑ d : Fin 2048, (x0 (ix3 0 r d) : EReal) * x5 (ix3 0 d n)) * (∑ d : Fin 1024, (x2 (ix3 0 r d) : EReal) * x8 (ix4 0 0 d n))
        + Ideal.logistic (∑ d : Fin 2048, (x0 (ix3 0 r d) : EReal) * x6 (ix3 0 d n)) * (∑ d : Fin 1024, (x3 (ix3 0 r d) : EReal) * x9 (ix4 0 0 d n)) := by
  pointwise [k0_pay2, k0_pay3, k0_pay4, k0_pay1]

/-! ## What a point writes back -/

/-- The launch contents that the merge reads. -/
abbrev mergedOf (c : Dev nD) : FVec Ideal S8x256x2048 .bf16 :=
  merged (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The merge at an index whose coordinates are known. -/
theorem merged_at (h : FVec Ideal S8x256x2048 .bf16) (x y z : FVec Ideal S8x256x1024 .bf16) (w : FVec Ideal S2x2048x10752 .f32)
    (wb : FVec Ideal S2x3x1024x2048 .f32) (i : S8x256x2048.Idx) (b : Fin 8) (s : Fin 256) (n : Fin 2048)
    (h0 : (i 0).val = b.val) (h1 : (i 1).val = s.val) (h2 : (i 2).val = n.val) :
    merged h x y z w wb i = mergedAt h x y z w wb b s n := by
  obtain rfl : i 0 = b := Fin.ext h0
  obtain rfl : i 1 = s := Fin.ext h1
  obtain rfl : i 2 = n := Fin.ext h2
  rfl

/-- What point `t` writes back to the result is its block of the merge. -/
theorem flushed10_eq (c : Dev nD) (t : Fin cfg0.N) :
    (dats m 0 c).flushed 10 t = (win0_10.blk t).view.read (Elt Ideal) (mergedOf m c) := by
  rw [Value.flushed10]
  unfold out0_10
  rw [View.canon_unit_zero hz3]
  rw [View.ld_unit_zero hz3, View.ld_unit_zero hz3, View.ld_unit_zero hz3, View.ld_unit_zero hz4, View.ld_unit_zero hz3, View.ld_unit_zero hz3,
    View.ld_unit_zero hz4, View.ld_unit_zero hz3, View.ld_unit_zero hz3, View.ld_unit_zero hz4]
  show (fun j : S1x256x256.Idx => k0_pay1 (F := Ideal) (k0_pay2 (iblk m c 0 t)) (k0_pay3 (iblk m c 0 t) (iblk m c 4 t) (iblk m c 1 t)
      (iblk m c 7 t) (iblk m c 5 t) (iblk m c 2 t) (iblk m c 8 t)) (k0_pay4 (iblk m c 6 t)) (iblk m c 3 t) (iblk m c 9 t) j)
    = fun j : S1x256x256.Idx => mergedOf m c ((win0_10.rect t).emb j)
  funext j
  obtain ⟨u, r, n, rfl⟩ : ∃ u r n, j = ix3 (n0 := 1) (n1 := 256) (n2 := 256) u r n := ⟨_, _, _, eq_ix3 j⟩
  rw [pay_apply]
  obtain ⟨e0, e1, e2⟩ := index10 t
  have f0 : ((win0_10.rect t).emb (ix3 u r n) 0).val = t.val % 8 := by
    refine (Pipeline.Window.rect_emb_val win0_10 t (ix3 u r n) 0).trans ?_; rw [e0]; show _ * 1 + u.val = t.val % 8; omega
  have f1 : ((win0_10.rect t).emb (ix3 u r n) 1).val = r.val := by
    refine (Pipeline.Window.rect_emb_val win0_10 t (ix3 u r n) 1).trans ?_; rw [e1]; show 0 * 256 + r.val = r.val; omega
  have f2 : ((win0_10.rect t).emb (ix3 u r n) 2).val = t.val / 8 * 256 + n.val := by
    refine (Pipeline.Window.rect_emb_val win0_10 t (ix3 u r n) 2).trans ?_; rw [e2]; rfl
  unfold mergedOf
  rw [merged_at _ _ _ _ _ _ _ (⟨t.val % 8, by omega⟩ : Fin 8) r
    (⟨t.val / 8 * 256 + n.val, by have := lt_N t; omega⟩ : Fin 2048) f0 f1 f2]
  have col (k : Nat) (x : Nat) (h : x = (18 + 8 * k + t.val / 8) * 256 + n.val) (h' : x < 10752) (g : 4608 + 2048 * k + (t.val / 8 * 256 + n.val) < 10752) :
      (⟨x, h'⟩ : Fin 10752) = ⟨4608 + 2048 * k + (t.val / 8 * 256 + n.val), g⟩ := Fin.ext (show x = 4608 + 2048 * k + (t.val / 8 * 256 + n.val) by omega)
  unfold mergedAt gate
  refine congrArg₂ (fun a b : EReal => a + b) (congrArg₂ (fun a b : EReal => a + b)
    (congrArg₂ (fun a b : EReal => a * b) (congrArg Ideal.logistic ?_) ?_) (congrArg₂ (fun a b : EReal => a * b) (congrArg Ideal.logistic ?_) ?_))
    (congrArg₂ (fun a b : EReal => a * b) (congrArg Ideal.logistic ?_) ?_)
  · exact Finset.sum_congr rfl fun d _ => congrArg₂ (fun a b : EReal => a * b) (blk0 m c t 0 r d)
      ((blk4 m c t 0 d n).trans (congrArg (fun q => m ((c : Thread nD τ).loc main_arg4) (ix3 (0 : Fin 2) d q)) (col 0 _ (by omega) _ _)))
  · exact Finset.sum_congr rfl fun d _ => congrArg₂ (fun a b : EReal => a * b) (blk1 m c t 0 r d) (blk7 m c t 0 0 d n)
  · exact Finset.sum_congr rfl fun d _ => congrArg₂ (fun a b : EReal => a * b) (blk0 m c t 0 r d)
      ((blk5 m c t 0 d n).trans (congrArg (fun q => m ((c : Thread nD τ).loc main_arg4) (ix3 (0 : Fin 2) d q)) (col 1 _ (by omega) _ _)))
  · exact Finset.sum_congr rfl fun d _ => congrArg₂ (fun a b : EReal => a * b) (blk2 m c t 0 r d) (blk8 m c t 0 0 d n)
  · exact Finset.sum_congr rfl fun d _ => congrArg₂ (fun a b : EReal => a * b) (blk0 m c t 0 r d)
      ((blk6 m c t 0 d n).trans (congrArg (fun q => m ((c : Thread nD τ).loc main_arg4) (ix3 (0 : Fin 2) d q)) (col 2 _ (by omega) _ _)))
  · exact Finset.sum_congr rfl fun d _ => congrArg₂ (fun a b : EReal => a * b) (blk3 m c t 0 r d) (blk9 m c t 0 0 d n)

/-! ## The blocks tile the results -/

theorem cover10 (i : S8x256x2048.Idx) : ∃ t : Fin cfg0.N, (cfg0.win 10).flush t = true ∧ i ∈ ((cfg0.win 10).blk t).view.set := by
  have h0 : (i 0 : Nat) < 8 := (i 0).isLt
  have h1 : (i 1 : Nat) < 256 := (i 1).isLt
  have h2 : (i 2 : Nat) < 2048 := (i 2).isLt
  have ht : (i 2 : Nat) / 256 * 8 + (i 0 : Nat) < cfg0.N := by have hN : cfg0.N = 64 := N_0; omega
  refine ⟨⟨_, ht⟩, flush0_10 _, ?_⟩
  show i ∈ ((View.whole main_v1).slice (win0_10.rect ⟨_, ht⟩)).set
  rw [View.set_slice_whole, Rect.mem_set_unit]
  obtain ⟨e0, e1, e2⟩ := index10 ⟨_, ht⟩
  intro a
  match a with
  | ⟨0, _⟩ => show win0_10.index ⟨_, ht⟩ 0 * 1 ≤ (i 0 : Nat) ∧ (i 0 : Nat) < win0_10.index ⟨_, ht⟩ 0 * 1 + 1; rw [e0]; dsimp only; omega
  | ⟨1, _⟩ => show win0_10.index ⟨_, ht⟩ 1 * 256 ≤ (i 1 : Nat) ∧ (i 1 : Nat) < win0_10.index ⟨_, ht⟩ 1 * 256 + 256; rw [e1]; dsimp only; omega
  | ⟨2, _⟩ => show win0_10.index ⟨_, ht⟩ 2 * 256 ≤ (i 2 : Nat) ∧ (i 2 : Nat) < win0_10.index ⟨_, ht⟩ 2 * 256 + 256; rw [e2]; dsimp only; omega

/-! ## The kernel's run -/

theorem final10 (c : Dev nD) : (dats m 0 c).arrAt 10 cfg0.N = mergedOf m c :=
  (dats m 0 c).arrAt_eq_of_cover 10 _ (fun t _ => flushed10_eq m c t) cover10
/-- THE KERNEL'S RUN: its result holds the merge, and its arguments are as launched. -/
theorem run : θ_run defs (onTc (τ := τ) (main (F := Ideal))) ⟨m, fun _ => 0, ρ⟩ fun r => ∀ c : Dev nD,
      r.2.mem ((c : Thread nD τ).loc main_v1) = mergedOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final10 m c), (h c).2⟩) (Value.run_blocks m ρ)

end Cert.MergeCIdeal.Val

namespace Cert.MergeCRefIdeal.Val

open Cert.MergeCRefIdeal Cert.MergeCRefIdeal.Read Cert.MergeCIdeal.Val

theorem gates_apply (h : FVec Ideal S8x256x2048 .bf16) (w : FVec Ideal S2x2048x10752 .f32) (b : Fin 8) (s : Fin 256) (k : Fin 3) (n : Fin 2048) :
    val_main_v14 (F := Ideal) h w (ix4 b s k n) = Ideal.logistic (gate h w k b s n) := by
  pointwise [val_main_v14, val_main_v13, val_main_v12, val_main_v11, val_main_v10, val_main_v9, val_main_v8, val_main_v7, val_main_v6, val_main_v5,
    val_main_v4, val_main_v3, val_main_cst, val_main_cst_0]
  refine congrArg Ideal.logistic (Finset.sum_congr rfl fun d _ => congrArg (fun q : Fin 10752 => (h (ix3 b s d) : EReal) * w (ix3 (0 : Fin 2) d q)) ?_)
  refine Fin.ext ?_
  show 4608 + (k.val * 2048 + n.val) = 4608 + 2048 * k.val + n.val
  omega

/-- THE REFERENCE'S RESULT is the gated merge. -/
theorem result (h : FVec Ideal S8x256x2048 .bf16) (x y z : FVec Ideal S8x256x1024 .bf16) (w : FVec Ideal S2x2048x10752 .f32)
    (wb : FVec Ideal S2x3x1024x2048 .f32) : val_main_v35 (F := Ideal) h x y z w wb = merged h x y z w wb := by
  funext j
  obtain ⟨b, s, n, rfl⟩ : ∃ b s n, j = ix3 (n0 := 8) (n1 := 256) (n2 := 2048) b s n := ⟨_, _, _, eq_ix3 j⟩
  pointwise [val_main_v35, val_main_v34, val_main_v33, val_main_v27, val_main_v26, val_main_v20, val_main_v16, val_main_v15, val_main_v22, val_main_v21,
    val_main_v29, val_main_v28, val_main_v19, val_main_v18, val_main_v17, val_main_v25, val_main_v24, val_main_v23, val_main_v32, val_main_v31, val_main_v30,
    val_main_v0, val_main_v1, val_main_v2]
  rw [gates_apply, gates_apply, gates_apply]
  rfl

end Cert.MergeCRefIdeal.Val

end
-- ==== Proof.MergeCClaims.lean ====
/-
  THE CONTEXT'S GATED MERGE'S CLAIMS (hand-written): its frames, and that kernel and reference agree at the extended reals.
-/
module

public import proofs.«01_k».proof.Defs
public import proofs.«01_k».proof.Proof.Gen.MergeC
public import proofs.«01_k».proof.Proof.Gen.MergeC.Frame
public import proofs.«01_k».proof.Proof.Gen.MergeCIdeal
public import proofs.«01_k».proof.Proof.Gen.MergeCIdeal.Frame
public import proofs.«01_k».proof.Proof.Gen.MergeCRefIdeal
public import proofs.«01_k».proof.Proof.Gen.MergeCRefIdeal.Run
public import proofs.«01_k».proof.Proof.Gen.MergeCRefIdeal.Read
public import proofs.«01_k».proof.Proof.MergeCValue
public import Idealize.ShloMosaic.Adequacy
public import Idealize.ShloMosaic.Init

@[expose] public section

set_option maxRecDepth 16384

noncomputable section

open Idealize.ShloMosaic Idealize.ShloMosaic.TcCoe Idealize.SL.Sem

namespace Cert.MergeC.Claims

/-- The kernel runs and leaves its arguments as launched. -/
theorem kernel : Cert.quiescent_MergeC (hMergeC := Cert.MergeC.Gen.facts) :=
  fun m ρ _ => Cert.MergeC.Gen.frame m ρ

/-- So does the kernel at the extended reals. -/
theorem ideal : Cert.quiescent_MergeCIdeal (hMergeCIdeal := Cert.MergeCIdeal.Gen.facts) :=
  fun m ρ _ => Cert.MergeCIdeal.Gen.frame m ρ

/-- So does the reference. -/
theorem reference : Cert.quiescent_MergeCRefIdeal (hMergeCRefIdeal := Cert.MergeCRefIdeal.Gen.facts) :=
  fun m ρ _ => (θ_run Cert.MergeCRefIdeal.defs _ _).mono (fun r h => ⟨fun c => (h c).2,
    Idealize.ShloMosaic.sem_eq_zero_of_no_sems (by decide) r.2⟩) (Cert.MergeCRefIdeal.Value.run (F := Ideal) m ρ)

/-- Idealizing the kernel replaced nothing. -/
theorem preserves : Cert.preserves_MergeC_MergeCIdeal := trivial

/-- From the same arguments the kernel and its reference leave the same results. -/
theorem value : Cert.algebraic_MergeCIdeal_MergeCRefIdeal (hMergeCIdeal := Cert.MergeCIdeal.Gen.facts) (hMergeCRefIdeal := Cert.MergeCRefIdeal.Gen.facts) := by
  intro m ρ m' ρ' _ hag
  refine ⟨fun c => Cert.MergeCIdeal.Val.mergedOf m c, ?_, ?_⟩
  · exact (θ_run Cert.MergeCIdeal.defs _ _).mono (fun r h c => h c) (Cert.MergeCIdeal.Val.run m ρ)
  · refine (θ_run Cert.MergeCRefIdeal.defs _ _).mono (fun r h c => ?_) (Cert.MergeCRefIdeal.Value.run (F := Ideal) m' ρ')
    obtain ⟨a0, a1, a2, a3, a4, a5⟩ := hag c
    refine ⟨(h c).1.trans ((Cert.MergeCRefIdeal.Read.val_main_v35_eq _ _ _ _ _ _).trans ((Cert.MergeCRefIdeal.Val.result _ _ _ _ _ _).trans ?_)), (h c).2⟩
    rw [a0, a1, a2, a3, a4, a5]

end Cert.MergeC.Claims

end
-- ==== Proof.OutProjCBand.lean ====
/-
  ONE BLOCK OF THE OUTPUT PROJECTION (hand-written): what the kernel `OutProjCIdeal`'s body leaves in its three blocks, row by
  row. The body works in four bands of 128 rows, which differ only in how the program's text is divided; each is the same
  function of its band's loads.
-/
module

public import proofs.«01_k».proof.Defs
public import proofs.«01_k».proof.Proof.OutProjMath
public import proofs.«01_k».proof.Proof.Gen.OutProjCIdeal.Value
public import Idealize.ShloMosaic.Lib.Pointwise
public import Idealize.ShloMosaic.Lib.Pipeline.Value
public import Idealize.ShloMosaic.Lib.Pipeline.ValueKit.Tiles

@[expose] public section

set_option maxRecDepth 16384

noncomputable section

open Idealize.ShloMosaic Idealize.ShloMosaic.TcCoe Idealize.SL.Sem

namespace Cert.OutProjCIdeal.Val

open Cert.OutProjCIdeal Cert.OutProjCIdeal.Gen Cert.OutProjMath

/-- The mask is −∞. -/
theorem mask_val : (Named.named κ "mask" 0xF149F2CA#32 : Ideal .f32) = (⊥ : EReal) :=
  IdealRules.named_const.ideal_named_scalar _ _ _ _ rfl
/-- The residual's scale is √2. -/
theorem alpha_val : (Named.named κ "alpha" 0x3FB504F3#32 : Ideal .f32) = root2 :=
  IdealRules.named_const.ideal_named_scalar _ _ _ _ rfl
/-- −∞ as the kernel writes it. -/
theorem inf_val : (Ideal.ofBits .f32 4286578688#32 : EReal) = ⊥ := by
  simp [Ideal.ofBits, Ideal.ieee]

/-! ## One band -/

/-- The layer norm of a band. -/
abbrev bandX (a : FVec Ideal S1x128x2048 .bf16) (w : FVec Ideal S1x2048x2048 .bf16) (x : FVec Ideal S1x128x2048 .f32) (g : FVec Ideal S1x1x2048 .f32)
    (lg lb : FVec Ideal S1x2048 .f32) : FVec Ideal S1x128x2048 .f32 :=
  k0_pay8 (F := Ideal) (k0_pay3 lg) (k0_pay4 lb) (k0_pay5 a w x g) (k0_pay6 a w x g)

/-- The modulated layer norm of a band. -/
abbrev bandH (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) : FVec Ideal S1x128x2048 .bf16 :=
  k0_pay10 (F := Ideal) (k0_pay3 lg) (k0_pay4 lb) (k0_pay5 a w x g) (k0_pay6 a w x g) sc sh

/-- The router's logits of a band, masked. -/
abbrev bandL (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S128x128 .f32 :=
  k0_pay11 (F := Ideal) (k0_pay3 lg) (k0_pay4 lb) (k0_pay5 a w x g) (k0_pay6 a w x g) sc sh rw

/-- The router's softmax of a band. -/
abbrev bandA (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw : FVec Ideal S2048x128 .bf16) : FVec Ideal S1x16x128 .f32 :=
  k0_pay12 (F := Ideal) (bandL a w x g lg lb sc sh rw)

section
variable (a : FVec Ideal S1x128x2048 .bf16) (w : FVec Ideal S1x2048x2048 .bf16) (x : FVec Ideal S1x128x2048 .f32) (g : FVec Ideal S1x1x2048 .f32)
    (lg lb : FVec Ideal S1x2048 .f32) (sc sh : FVec Ideal S1x1x2048 .f32) (rw' : FVec Ideal S2048x128 .bf16)

/-- A row of a band before the layer norm. -/
abbrev zrow (r : Fin 128) : Fin 2048 → EReal :=
  zed (fun d => a (ix3 0 r d)) (fun d n => w (ix3 0 d n)) (fun n => x (ix3 0 r n)) (fun n => g (ix3 0 0 n))

theorem pay5_apply (r : Fin 128) (n : Fin 2048) : k0_pay5 (F := Ideal) a w x g (ix2 r n) = zrow a w x g r n - mean (zrow a w x g r) := by
  unfold zrow mean zed
  rw [← alpha_val]
  pointwise [k0_pay5]

theorem pay7_apply (y z : FVec Ideal S128x2048 .f32) (r : Fin 128) (n : Fin 2048) :
    k0_pay7 (F := Ideal) (k0_pay3 lg) (k0_pay4 lb) y z (ix2 r n)
      = y (ix2 r n) * Ideal.rsqrt (mean (fun k => z (ix2 r k)) + Ideal.ofBits .f32 0x3727C5AC#32) * lg (ix2 0 n) + lb (ix2 0 n) := by
  unfold mean
  pointwise [k0_pay7, k0_pay3, k0_pay4]

/-- A row of a band after the layer norm. -/
abbrev xrow (r : Fin 128) : Fin 2048 → EReal := normed (zrow a w x g r) (fun n => lg (ix2 0 n)) (fun n => lb (ix2 0 n))

theorem norm_apply (r : Fin 128) (n : Fin 2048) :
    k0_pay7 (F := Ideal) (k0_pay3 lg) (k0_pay4 lb) (k0_pay5 a w x g) (k0_pay6 a w x g) (ix2 r n) = xrow a w x g lg lb r n := by
  rw [pay7_apply, pay5_apply]
  have e : (fun k => k0_pay6 (F := Ideal) a w x g (ix2 r k))
      = fun k => (zrow a w x g r k - mean (zrow a w x g r)) * (zrow a w x g r k - mean (zrow a w x g r)) :=
    funext fun k => congrArg₂ (fun p q : EReal => p * q) (pay5_apply a w x g r k) (pay5_apply a w x g r k)
  rw [e]; rfl

theorem bandX_apply (u : Fin 1) (r : Fin 128) (n : Fin 2048) : bandX a w x g lg lb (ix3 u r n) = xrow a w x g lg lb r n := by
  refine Eq.trans ?_ (norm_apply a w x g lg lb r n)
  generalize e : k0_pay7 (F := Ideal) (k0_pay3 lg) (k0_pay4 lb) (k0_pay5 a w x g) (k0_pay6 a w x g) = y
  unfold bandX k0_pay8
  rw [e]
  pointwise []

/-- A row of a band after the modulation. -/
abbrev hrow (r : Fin 128) : Fin 2048 → EReal := modul (xrow a w x g lg lb r) (fun n => sc (ix3 0 0 n)) (fun n => sh (ix3 0 0 n))

theorem pay9_apply (r : Fin 128) (n : Fin 2048) :
    k0_pay9 (F := Ideal) (k0_pay3 lg) (k0_pay4 lb) (k0_pay5 a w x g) (k0_pay6 a w x g) sc sh (ix2 r n) = hrow a w x g lg lb sc sh r n := by
  unfold hrow modul
  rw [← norm_apply]
  unfold k0_pay9
  generalize k0_pay7 (F := Ideal) (k0_pay3 lg) (k0_pay4 lb) (k0_pay5 a w x g) (k0_pay6 a w x g) = y
  pointwise []

theorem bandH_apply (u : Fin 1) (r : Fin 128) (n : Fin 2048) : bandH a w x g lg lb sc sh (ix3 u r n) = hrow a w x g lg lb sc sh r n := by
  refine Eq.trans ?_ (pay9_apply a w x g lg lb sc sh r n)
  unfold bandH k0_pay10
  generalize k0_pay9 (F := Ideal) (k0_pay3 lg) (k0_pay4 lb) (k0_pay5 a w x g) (k0_pay6 a w x g) sc sh = y
  pointwise []

/-- The lanes below 16. -/
theorem lane (l : Fin 128) : IntOp.cmpi .slt (BitVec.ofNat 32 l.val) 16#32 = if l.val < 16 then 1#1 else 0#1 := by
  revert l; decide +kernel

theorem bandL_apply (r l : Fin 128) : bandL a w x g lg lb sc sh rw' (ix2 r l)
    = if hl : l.val < 16 then ∑ d : Fin 2048, hrow a w x g lg lb sc sh r d * rw' (ix2 d l) else ⊥ := by
  have e : (∑ d : Fin 2048, hrow a w x g lg lb sc sh r d * rw' (ix2 d l) : EReal)
      = ∑ d : Fin 2048, k0_pay9 (F := Ideal) (k0_pay3 lg) (k0_pay4 lb) (k0_pay5 a w x g) (k0_pay6 a w x g) sc sh (ix2 r d) * rw' (ix2 d l) :=
    Finset.sum_congr rfl fun d _ => by rw [pay9_apply]
  rw [e]
  unfold bandL k0_pay11
  generalize k0_pay9 (F := Ideal) (k0_pay3 lg) (k0_pay4 lb) (k0_pay5 a w x g) (k0_pay6 a w x g) sc sh = y
  refine Eq.trans (b := Scalar.select (IntOp.cmpi .slt (BitVec.ofNat 32 l.val) 16#32) (∑ d : Fin 2048, (y (ix2 r d) : EReal) * rw' (ix2 d l))
    (Named.named κ "mask" 0xF149F2CA#32 : Ideal .f32)) ?_ ?_
  · pointwise []
  · rw [mask_val, lane]
    by_cases hl : l.val < 16
    · rw [if_pos hl, dif_pos hl]; rfl
    · rw [if_neg hl, dif_neg hl]; rfl

theorem pay12_apply (v : FVec Ideal S128x128 .f32) (u : Fin 1) (e : Fin 16) (r : Fin 128) : k0_pay12 (F := Ideal) v (ix3 u e r)
    = Ideal.div (Ideal.exp (v (ix2 r ⟨e.val, by omega⟩) - Finset.univ.fold max ⊥ fun k : Fin 128 => v (ix2 r k)))
      (∑ k : Fin 128, Ideal.exp (v (ix2 r k) - Finset.univ.fold max ⊥ fun k : Fin 128 => v (ix2 r k))) := by
  rw [← inf_val]
  pointwise [k0_pay12]

theorem bandA_apply (u : Fin 1) (e : Fin 16) (r : Fin 128) : bandA a w x g lg lb sc sh rw' (ix3 u e r)
    = soft16 (fun k => ∑ d : Fin 2048, hrow a w x g lg lb sc sh r d * rw' (ix2 d ⟨k.val, by omega⟩)) e := by
  refine (pay12_apply _ u e r).trans ?_
  exact soft_masked (fun k => bandL a w x g lg lb sc sh rw' (ix2 r k)) _ (fun k => bandL_apply a w x g lg lb sc sh rw' r k) _ e rfl
end

/-! ## The two bands of a block -/

/-- A band's load of a block's rows. -/
theorem ld_band {α : EltTy → Type} {e : EltTy} (o : ℕ) (inb) (x : S1x256x2048.Idx → α e) (r : Fin 128) (n : Fin 2048) (h : o + r.val < 256) :
    View.ld (Val := α) x (Rect.unit (s := S1x256x2048) ![0, o, 0] S1x128x2048.size inb) (ix3 0 r n) = x (ix3 0 ⟨o + r.val, h⟩ n) := by
  show x ((Rect.unit (s := S1x256x2048) ![0, o, 0] S1x128x2048.size inb).idx (ix3 0 r n)) = _
  refine congrArg x (funext fun a => Fin.ext ?_)
  refine (Rect.idx_unit_val _ _ inb _ a).trans ?_
  match a with
  | ⟨0, _⟩ => rfl
  | ⟨1, _⟩ => rfl
  | ⟨2, _⟩ => exact Nat.zero_add _

/-- Where a band's entries lie in its block. -/
theorem slab (o : ℕ) (inb) (u : Fin 1) (r : Fin 128) (n : Fin 2048) :
    o + r.val = ((Rect.unit (s := S1x256x2048) ![0, o, 0] S1x128x2048.size inb).emb (ix3 u r n) 1).val
      ∧ n.val = ((Rect.unit (s := S1x256x2048) ![0, o, 0] S1x128x2048.size inb).emb (ix3 u r n) 2).val :=
  ⟨(Rect.idx_unit_val _ _ inb (ix3 u r n) (1 : Fin 3)).symm, ((Rect.idx_unit_val _ _ inb (ix3 u r n) (2 : Fin 3)).trans (Nat.zero_add _)).symm⟩
theorem slabA (o : ℕ) (inb) (u : Fin 1) (e : Fin 16) (r : Fin 128) :
    o + r.val = ((Rect.unit (s := S1x16x256) ![0, 0, o] S1x16x128.size inb).emb (ix3 u e r) 2).val
      ∧ e.val = ((Rect.unit (s := S1x16x256) ![0, 0, o] S1x16x128.size inb).emb (ix3 u e r) 1).val :=
  ⟨(Rect.idx_unit_val _ _ inb (ix3 u e r) (2 : Fin 3)).symm, ((Rect.idx_unit_val _ _ inb (ix3 u e r) (1 : Fin 3)).trans (Nat.zero_add _)).symm⟩

theorem hz3 : (![0, 0, 0] : Fin 3 → Nat) = fun _ => 0 := funext fun a => by fin_cases a <;> rfl
theorem hz2 : (![0, 0] : Fin 2 → Nat) = fun _ => 0 := funext fun a => by fin_cases a <;> rfl

section
variable (x0 : FVec Ideal S1x256x2048 .bf16) (x1 : FVec Ideal S1x2048x2048 .bf16) (x2 : FVec Ideal S1x256x2048 .f32) (x3 x4 x5 : FVec Ideal S1x1x2048 .f32)
    (x6 x7 : FVec Ideal S1x2048 .f32) (x8 : FVec Ideal S2048x128 .bf16)

/-- A row of a block after the layer norm. -/
abbrev xblk (r : Fin 256) : Fin 2048 → EReal :=
  normed (zed (fun d => x0 (ix3 0 r d)) (fun d n => x1 (ix3 0 d n)) (fun n => x2 (ix3 0 r n)) (fun n => x3 (ix3 0 0 n)))
    (fun n => x6 (ix2 0 n)) (fun n => x7 (ix2 0 n))

/-- A row of a block after the modulation. -/
abbrev hblk (r : Fin 256) : Fin 2048 → EReal :=
  modul (xblk x0 x1 x2 x3 x6 x7 r) (fun n => x5 (ix3 0 0 n)) (fun n => x4 (ix3 0 0 n))

/-- A row's router softmax. -/
abbrev ablk (r : Fin 256) : Fin 16 → EReal :=
  soft16 fun k => ∑ d : Fin 2048, hblk x0 x1 x2 x3 x4 x5 x6 x7 r d * x8 (ix2 d ⟨k.val, by omega⟩)

theorem xrow_eq (o : ℕ) (inb) (r : Fin 128) (h : o + r.val < 256) :
    xrow (View.ld (Val := Elt Ideal) (e' := .bf16) x0 (Rect.unit (s := S1x256x2048) ![0, o, 0] S1x128x2048.size inb)) (View.ld (Val := Elt Ideal) (e' := .bf16) x1 r0_1)
      (View.ld (Val := Elt Ideal) (e' := .f32) x2 (Rect.unit (s := S1x256x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) r = xblk x0 x1 x2 x3 x6 x7 ⟨o + r.val, h⟩ := by
  rw [View.ld_unit_zero hz3, View.ld_unit_zero hz3, View.ld_unit_zero hz2, View.ld_unit_zero hz2]
  unfold xrow zrow xblk
  have e0 : (fun d : Fin 2048 => View.ld (Val := Elt Ideal) (e' := .bf16) x0 (Rect.unit (s := S1x256x2048) ![0, o, 0] S1x128x2048.size inb) (ix3 0 r d))
      = fun d => x0 (ix3 0 ⟨o + r.val, h⟩ d) := funext fun d => ld_band (α := Elt Ideal) (e := .bf16) o inb x0 r d h
  have e2 : (fun d : Fin 2048 => View.ld (Val := Elt Ideal) (e' := .f32) x2 (Rect.unit (s := S1x256x2048) ![0, o, 0] S1x128x2048.size inb) (ix3 0 r d))
      = fun d => x2 (ix3 0 ⟨o + r.val, h⟩ d) := funext fun d => ld_band (α := Elt Ideal) (e := .f32) o inb x2 r d h
  exact congrArg₂ (fun p q : Fin 2048 → EReal => normed (zed p (fun d n => x1 (ix3 0 d n)) q (fun n => x3 (ix3 0 0 n)))
    (fun n => x6 (ix2 0 n)) (fun n => x7 (ix2 0 n))) e0 e2

theorem pieceX (o : ℕ) (inb) (ho : o + 128 ≤ 256) (y : S1x128x2048.Idx) :
    bandX (View.ld (Val := Elt Ideal) (e' := .bf16) x0 (Rect.unit (s := S1x256x2048) ![0, o, 0] S1x128x2048.size inb)) (View.ld (Val := Elt Ideal) (e' := .bf16) x1 r0_1)
      (View.ld (Val := Elt Ideal) (e' := .f32) x2 (Rect.unit (s := S1x256x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) y
      = (fun i : S1x256x2048.Idx => xblk x0 x1 x2 x3 x6 x7 (i 1) (i 2)) ((Rect.unit (s := S1x256x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandX_apply _ _ _ _ _ _ u r n).trans ?_
  rw [xrow_eq x0 x1 x2 x3 x6 x7 o inb r (by omega)]
  exact congrArg₂ (fun p q => xblk x0 x1 x2 x3 x6 x7 p q) (Fin.ext (slab o inb u r n).1) (Fin.ext (slab o inb u r n).2)

theorem pieceH (o : ℕ) (inb) (ho : o + 128 ≤ 256) (y : S1x128x2048.Idx) :
    bandH (View.ld (Val := Elt Ideal) (e' := .bf16) x0 (Rect.unit (s := S1x256x2048) ![0, o, 0] S1x128x2048.size inb)) (View.ld (Val := Elt Ideal) (e' := .bf16) x1 r0_1)
      (View.ld (Val := Elt Ideal) (e' := .f32) x2 (Rect.unit (s := S1x256x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3) y
      = (fun i : S1x256x2048.Idx => hblk x0 x1 x2 x3 x4 x5 x6 x7 (i 1) (i 2)) ((Rect.unit (s := S1x256x2048) ![0, o, 0] S1x128x2048.size inb).emb y) := by
  obtain ⟨u, r, n, rfl⟩ : ∃ u r n, y = ix3 (n0 := 1) (n1 := 128) (n2 := 2048) u r n := ⟨_, _, _, eq_ix3 y⟩
  refine (bandH_apply _ _ _ _ _ _ _ _ u r n).trans ?_
  unfold hrow
  rw [xrow_eq x0 x1 x2 x3 x6 x7 o inb r (by omega), View.ld_unit_zero hz3, View.ld_unit_zero hz3]
  exact congrArg₂ (fun p q => hblk x0 x1 x2 x3 x4 x5 x6 x7 p q) (Fin.ext (slab o inb u r n).1) (Fin.ext (slab o inb u r n).2)

theorem pieceA (o : ℕ) (inb) (inb') (ho : o + 128 ≤ 256) (y : S1x16x128.Idx) :
    bandA (View.ld (Val := Elt Ideal) (e' := .bf16) x0 (Rect.unit (s := S1x256x2048) ![0, o, 0] S1x128x2048.size inb)) (View.ld (Val := Elt Ideal) (e' := .bf16) x1 r0_1)
      (View.ld (Val := Elt Ideal) (e' := .f32) x2 (Rect.unit (s := S1x256x2048) ![0, o, 0] S1x128x2048.size inb)) (View.ld (Val := Elt Ideal) (e' := .f32) x3 r0_3)
      (View.ld (Val := Elt Ideal) (e' := .f32) x6 r0_4) (View.ld (Val := Elt Ideal) (e' := .f32) x7 r0_4) (View.ld (Val := Elt Ideal) (e' := .f32) x5 r0_3) (View.ld (Val := Elt Ideal) (e' := .f32) x4 r0_3)
      (View.ld (Val := Elt Ideal) (e' := .bf16) x8 r0_5) y
      = (fun i : S1x16x256.Idx => ablk x0 x1 x2 x3 x4 x5 x6 x7 x8 (i 2) (i 1)) ((Rect.unit (s := S1x16x256) ![0, 0, o] S1x16x128.size inb').emb y) := by
  obtain ⟨u, e, r, rfl⟩ : ∃ u e r, y = ix3 (n0 := 1) (n1 := 16) (n2 := 128) u e r := ⟨_, _, _, eq_ix3 y⟩
  refine (bandA_apply _ _ _ _ _ _ _ _ _ u e r).trans ?_
  unfold hrow
  rw [xrow_eq x0 x1 x2 x3 x6 x7 o inb r (by omega), View.ld_unit_zero hz3, View.ld_unit_zero hz3, View.ld_unit_zero hz2]
  exact congrArg₂ (fun p q => ablk x0 x1 x2 x3 x4 x5 x6 x7 x8 p q) (Fin.ext (slabA o inb' u e r).1) (Fin.ext (slabA o inb' u e r).2)

/-- The first block of a grid point. -/
theorem out9 (y : S1x256x2048.Idx) : out0_9 (F := Ideal) x0 x1 x2 x3 x4 x5 x6 x7 x8 y = xblk x0 x1 x2 x3 x6 x7 (y 1) (y 2) := by
  unfold out0_9
  refine View.canon_apply_of_pieces (Val := Elt Ideal) (fun i : S1x256x2048.Idx => xblk x0 x1 x2 x3 x6 x7 (i 1) (i 2)) _ ?_ y (cover0_9 _ _ y)
  intro p hp
  simp only [List.mem_cons, List.not_mem_nil, or_false] at hp
  rcases hp with rfl | rfl
  · exact fun i => pieceX x0 x1 x2 x3 x6 x7 128 _ (by omega) i
  · exact fun i => pieceX x0 x1 x2 x3 x6 x7 0 _ (by omega) i

/-- The second block of a grid point. -/
theorem out10 (y : S1x256x2048.Idx) : out0_10 (F := Ideal) x0 x1 x2 x3 x4 x5 x6 x7 x8 y = hblk x0 x1 x2 x3 x4 x5 x6 x7 (y 1) (y 2) := by
  unfold out0_10
  refine View.canon_apply_of_pieces (Val := Elt Ideal) (fun i : S1x256x2048.Idx => hblk x0 x1 x2 x3 x4 x5 x6 x7 (i 1) (i 2)) _ ?_ y (cover0_10 _ _ y)
  intro p hp
  simp only [List.mem_cons, List.not_mem_nil, or_false] at hp
  rcases hp with rfl | rfl
  · exact fun i => pieceH x0 x1 x2 x3 x4 x5 x6 x7 128 _ (by omega) i
  · exact fun i => pieceH x0 x1 x2 x3 x4 x5 x6 x7 0 _ (by omega) i

/-- The third block of a grid point. -/
theorem out11 (y : S1x16x256.Idx) : out0_11 (F := Ideal) x0 x1 x2 x3 x4 x5 x6 x7 x8 y = ablk x0 x1 x2 x3 x4 x5 x6 x7 x8 (y 2) (y 1) := by
  unfold out0_11
  refine View.canon_apply_of_pieces (Val := Elt Ideal) (fun i : S1x16x256.Idx => ablk x0 x1 x2 x3 x4 x5 x6 x7 x8 (i 2) (i 1)) _ ?_ y (cover0_11 _ _ y)
  intro p hp
  simp only [List.mem_cons, List.not_mem_nil, or_false] at hp
  rcases hp with rfl | rfl
  · exact fun i => pieceA x0 x1 x2 x3 x4 x5 x6 x7 x8 128 inb_S1x256x2048_S1x128x2048_0_128_0 inb_S1x16x256_S1x16x128_0_0_128 (by omega) i
  · exact fun i => pieceA x0 x1 x2 x3 x4 x5 x6 x7 x8 0 inb_S1x256x2048_S1x128x2048_0_0_0 inb_S1x16x256_S1x16x128_0_0_0 (by omega) i
end

end Cert.OutProjCIdeal.Val

end
-- ==== Proof.OutProjCValue.lean ====
/-
  THE CONTEXT'S OUTPUT PROJECTION'S VALUE (hand-written): the kernel `OutProjCIdeal` leaves in its three results, row by row, the layer
  norm of the scaled residual plus the gated product of the merged branches with layer 0's weights (`x1`), its modulation
  (`h2`) and the router's softmax over the 16 experts (`aff`).

  The kernel works at the 256 rows of one sequence per point of the grid (8, 1); the router's weights reach it padded to 128
  columns, and the padding's logits are masked to −∞.
-/
module

public import proofs.«01_k».proof.Proof.OutProjCBand
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.OutProjCIdeal.Val

open Cert.OutProjCIdeal Cert.OutProjCIdeal.Gen Cert.OutProjMath

/-! ## The results, index by index -/

section
variable (a : FVec Ideal S8x256x2048 .bf16) (w : FVec Ideal S2x2048x2048 .f32) (x : FVec Ideal S8x256x2048 .f32) (g sh sc : FVec Ideal S16x1x2048 .f32)
    (lg lb : FVec Ideal S2048 .f32) (rw' : FVec Ideal S2048x16 .f32)

/-- A row after the layer norm. -/
def x1At (b : Fin 8) (s : Fin 256) : Fin 2048 → EReal :=
  normed (zed (fun d => a (ix3 b s d)) (fun d n => w (ix3 (0 : Fin 2) d n)) (fun n => x (ix3 b s n))
    (fun n => g (ix3 (8 : Fin 16) 0 n))) (fun n => lg (ix1 n)) (fun n => lb (ix1 n))

/-- A row after the modulation. -/
def h2At (b : Fin 8) (s : Fin 256) : Fin 2048 → EReal :=
  modul (x1At a w x g lg lb b s) (fun n => sc (ix3 (8 : Fin 16) 0 n)) (fun n => sh (ix3 (8 : Fin 16) 0 n))

/-- A row's router softmax. -/
def affAt (b : Fin 8) (s : Fin 256) : Fin 16 → EReal :=
  soft16 fun k => ∑ d : Fin 2048, h2At a w x g sh sc lg lb b s d * rw' (ix2 d k)

/-- The residual's new value. -/
def x1 : FVec Ideal S8x256x2048 .f32 := fun i => x1At a w x g lg lb (i 0) (i 1) (i 2)
/-- The experts' input. -/
def h2 : FVec Ideal S8x256x2048 .bf16 := fun i => h2At a w x g sh sc lg lb (i 0) (i 1) (i 2)
/-- The router's affinities, expert by expert. -/
def aff : FVec Ideal S8x16x256 .f32 := fun i => affAt a w x g sh sc lg lb rw' (i 0) (i 2) (i 1)
end

variable (m : (ℓ : Loc nD τ sig) → Buf (Elt Ideal) ℓ) (ρ : Dev nD → PrngReg)

theorem lt_N (t : Fin cfg0.N) : t.val < 8 := lt_of_lt_of_eq t.isLt N_0

/-! ## What the host operations stage -/

/-- The weights (a change of format is the identity). -/
theorem V_v2 (c : Dev nD) (i : S2x2048x2048.Idx) : V m c main_v2 i = m ((c : Thread nD τ).loc main_arg1) i := by
  have h : V m c main_v2 = truncf (F := Ideal) .bf16 (m ((c : Thread nD τ).loc main_arg1) : FVec Ideal S2x2048x2048 .f32) bitsLt_bf16_f32 := by
    show StableHlo.after (List.flatten [hostOps0, hostOps0_1, hostOps0_2]) (fun b => m (c, b)) (Proc.devRef .tc main_v2) = _
    simp only [hostOps0, hostOps0_1, hostOps0_2, List.flatten_cons, List.flatten_nil, List.append_nil, List.cons_append, List.nil_append]
    after_results
  rw [h]; rfl

/-- The layer norm's scale, as a row. -/
theorem V_v3 (c : Dev nD) (i : S1x2048.Idx) : V m c main_v3 i = m ((c : Thread nD τ).loc main_arg6) (ix1 (i 1)) := by
  have h : V m c main_v3 = broadcastInDim S1x2048 ![1] bcast_S2048_S1x2048_1 (m ((c : Thread nD τ).loc main_arg6) : FVec Ideal S2048 .f32) := by
    show StableHlo.after (List.flatten [hostOps0, hostOps0_1, hostOps0_2]) (fun b => m (c, b)) (Proc.devRef .tc main_v3) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg6) = y
  pointwise []

/-- The layer norm's shift, as a row. -/
theorem V_v4 (c : Dev nD) (i : S1x2048.Idx) : V m c main_v4 i = m ((c : Thread nD τ).loc main_arg7) (ix1 (i 1)) := by
  have h : V m c main_v4 = broadcastInDim S1x2048 ![1] bcast_S2048_S1x2048_1 (m ((c : Thread nD τ).loc main_arg7) : FVec Ideal S2048 .f32) := by
    show StableHlo.after (List.flatten [hostOps0, hostOps0_1, hostOps0_2]) (fun b => m (c, b)) (Proc.devRef .tc main_v4) = _
    simp only [hostOps0, hostOps0_1, hostOps0_2, List.flatten_cons, List.flatten_nil, List.append_nil, List.cons_append, List.nil_append]
    after_results
  rw [h]
  obtain ⟨u, n, rfl⟩ : ∃ u n, i = ix2 (n0 := 1) (n1 := 2048) u n := ⟨_, _, eq_ix2 i⟩
  generalize m ((c : Thread nD τ).loc main_arg7) = y
  pointwise []

/-- A padded array below column 16. -/
theorem padded (y : FVec Ideal S2048x16 .f32) (v : FVec Ideal S_ .f32) (d : Fin 2048) (k : Fin 16) :
    pad S2048x128 ![0, 0] ![0, 112] ![0, 0] y v pads_S2048x16_S2048x128_000_01120 h_S_ (ix2 d (⟨k.val, by omega⟩ : Fin 128)) = y (ix2 d k) := by
  refine pad_apply_of_inside _ _ _ _ _ _ _ _ (ix2 d k) fun a => ?_
  match a with
  | ⟨0, _⟩ => show d.val = 0 + d.val * (0 + 1); omega
  | ⟨1, _⟩ => show k.val = 0 + k.val * (0 + 1); omega

/-- The router's weights below column 16. -/
theorem V_v1 (c : Dev nD) (d : Fin 2048) (k : Fin 16) :
    V m c main_v1 (ix2 d (⟨k.val, by omega⟩ : Fin 128)) = m ((c : Thread nD τ).loc main_arg8) (ix2 d k) := by
  have h : V m c main_v1 = truncf (F := Ideal) .bf16 (pad S2048x128 ![0, 0] ![0, 112] ![0, 0]
      (m ((c : Thread nD τ).loc main_arg8) : FVec Ideal S2048x16 .f32) (sitofp (F := Ideal) .f32 (constantI S_ 32 0#32))
      pads_S2048x16_S2048x128_000_01120 h_S_) bitsLt_bf16_f32 := by
    show StableHlo.after (List.flatten [hostOps0, hostOps0_1, hostOps0_2]) (fun b => m (c, b)) (Proc.devRef .tc main_v1) = _
    simp only [hostOps0, hostOps0_1, hostOps0_2, List.flatten_cons, List.flatten_nil, List.append_nil, List.cons_append, List.nil_append]
    after_results
    try rfl
  rw [h]
  exact padded _ _ d k

/-! ## The windows' index maps and blocks -/

theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index3 : ∀ t : Fin cfg0.N, win0_3.index t 0 = 8 ∧ win0_3.index t 1 = 0 ∧ win0_3.index t 2 = 0 :=
  (by decide +kernel : ∀ t : Fin grid0.N, win0_3.index t 0 = 8 ∧ win0_3.index t 1 = 0 ∧ win0_3.index t 2 = 0)
theorem index4 : ∀ t : Fin cfg0.N, win0_4.index t 0 = 8 ∧ win0_4.index t 1 = 0 ∧ win0_4.index t 2 = 0 :=
  (by decide +kernel : ∀ t : Fin grid0.N, win0_4.index t 0 = 8 ∧ win0_4.index t 1 = 0 ∧ win0_4.index t 2 = 0)
theorem index5 : ∀ t : Fin cfg0.N, win0_5.index t 0 = 8 ∧ win0_5.index t 1 = 0 ∧ win0_5.index t 2 = 0 :=
  (by decide +kernel : ∀ t : Fin grid0.N, win0_5.index t 0 = 8 ∧ win0_5.index t 1 = 0 ∧ win0_5.index t 2 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = t.val ∧ win0_9.index t 1 = 0 ∧ win0_9.index t 2 = 0 :=
  (by decide +kernel : ∀ t : Fin grid0.N, win0_9.index t 0 = t.val ∧ win0_9.index t 1 = 0 ∧ win0_9.index t 2 = 0)
theorem index10 : ∀ t : Fin cfg0.N, win0_10.index t 0 = t.val ∧ win0_10.index t 1 = 0 ∧ win0_10.index t 2 = 0 :=
  (by decide +kernel : ∀ t : Fin grid0.N, win0_10.index t 0 = t.val ∧ win0_10.index t 1 = 0 ∧ win0_10.index t 2 = 0)
theorem index11 : ∀ t : Fin cfg0.N, win0_11.index t 0 = t.val ∧ win0_11.index t 1 = 0 ∧ win0_11.index t 2 = 0 :=
  (by decide +kernel : ∀ t : Fin grid0.N, win0_11.index t 0 = t.val ∧ win0_11.index t 1 = 0 ∧ win0_11.index t 2 = 0)

/-- The merged branches' block: sequence `t`. -/
theorem blk0 (c : Dev nD) (t : Fin cfg0.N) (u : Fin 1) (r : Fin 256) (k : Fin 2048) : iblk m c 0 t (ix3 u r k) = m ((c : Thread nD τ).loc main_arg0)
      (ix3 (⟨t.val, lt_N t⟩ : Fin 8) r k) := by
  refine Eq.trans ?_ (congrFun (V_main_arg0 m c) _)
  show V m c (Pipeline.arrRef spec0 0) ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show t.val * 1 + u.val = t.val; omega
  | ⟨1, _⟩ => refine (Pipeline.Window.rect_emb_val win0_0 t (ix3 u r k) 1).trans ?_; rw [e1]; show 0 * 256 + r.val = r.val; omega
  | ⟨2, _⟩ => refine (Pipeline.Window.rect_emb_val win0_0 t (ix3 u r k) 2).trans ?_; rw [e2]; show 0 * 2048 + k.val = k.val; omega

/-- The weights' block: layer 0. -/
theorem blk1 (c : Dev nD) (t : Fin cfg0.N) (u : Fin 1) (k : Fin 2048) (n : Fin 2048) : iblk m c 1 t (ix3 u k n) = m ((c : Thread nD τ).loc main_arg1)
      (ix3 (0 : Fin 2) k n) := by
  refine Eq.trans ?_ (V_v2 m c _)
  show V m c (Pipeline.arrRef spec0 1) ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 0 * 1 + u.val = 0; omega
  | ⟨1, _⟩ => refine (Pipeline.Window.rect_emb_val win0_1 t (ix3 u k n) 1).trans ?_; rw [e1]; show 0 * 2048 + k.val = k.val; omega
  | ⟨2, _⟩ => refine (Pipeline.Window.rect_emb_val win0_1 t (ix3 u k n) 2).trans ?_; rw [e2]; show 0 * 2048 + n.val = n.val; omega

/-- The residual's block: the same rows. -/
theorem blk2 (c : Dev nD) (t : Fin cfg0.N) (u : Fin 1) (r : Fin 256) (k : Fin 2048) : iblk m c 2 t (ix3 u r k) = m ((c : Thread nD τ).loc main_arg2)
      (ix3 (⟨t.val, lt_N t⟩ : Fin 8) r k) := by
  refine Eq.trans ?_ (congrFun (V_main_arg2 m c) _)
  show V m c (Pipeline.arrRef spec0 2) ((win0_2.rect t).emb (ix3 u r k)) = _
  refine congrArg _ (funext fun a => Fin.ext ?_)
  obtain ⟨e0, e1, e2⟩ := index2 t
  match a with
  | ⟨0, _⟩ => refine (Pipeline.Window.rect_emb_val win0_2 t (ix3 u r k) 0).trans ?_; rw [e0]; show t.val * 1 + u.val = t.val; omega
  | ⟨1, _⟩ => refine (Pipeline.Window.rect_emb_val win0_2 t (ix3 u r k) 1).trans ?_; rw [e1]; show 0 * 256 + r.val = r.val; omega
  | ⟨2, _⟩ => refine (Pipeline.Window.rect_emb_val win0_2 t (ix3 u r k) 2).trans ?_; rw [e2]; show 0 * 2048 + k.val = k.val; omega

/-- The context's gate. -/
theorem blk3 (c : Dev nD) (t : Fin cfg0.N) (u : Fin 1) (v : Fin 1) (n : Fin 2048) : iblk m c 3 t (ix3 u v n) = m ((c : Thread nD τ).loc main_arg3)
      (ix3 (8 : Fin 16) 0 n) := by
  refine Eq.trans ?_ (congrFun (V_main_arg3 m c) _)
  show V m c (Pipeline.arrRef spec0 3) ((win0_3.rect t).emb (ix3 u v n)) = _
  refine congrArg _ (funext fun a => Fin.ext ?_)
  obtain ⟨e0, e1, e2⟩ := index3 t
  match a with
  | ⟨0, _⟩ => refine (Pipeline.Window.rect_emb_val win0_3 t (ix3 u v n) 0).trans ?_; rw [e0]; show 8 * 1 + u.val = 8; omega
  | ⟨1, _⟩ => refine (Pipeline.Window.rect_emb_val win0_3 t (ix3 u v n) 1).trans ?_; rw [e1]; show 0 * 1 + v.val = 0; omega
  | ⟨2, _⟩ => refine (Pipeline.Window.rect_emb_val win0_3 t (ix3 u v n) 2).trans ?_; rw [e2]; show 0 * 2048 + n.val = n.val; omega

/-- The context's shift. -/
theorem blk4 (c : Dev nD) (t : Fin cfg0.N) (u : Fin 1) (v : Fin 1) (n : Fin 2048) : iblk m c 4 t (ix3 u v n) = m ((c : Thread nD τ).loc main_arg4)
      (ix3 (8 : Fin 16) 0 n) := by
  refine Eq.trans ?_ (congrFun (V_main_arg4 m c) _)
  show V m c (Pipeline.arrRef spec0 4) ((win0_4.rect t).emb (ix3 u v n)) = _
  refine congrArg _ (funext fun a => Fin.ext ?_)
  obtain ⟨e0, e1, e2⟩ := index4 t
  match a with
  | ⟨0, _⟩ => refine (Pipeline.Window.rect_emb_val win0_4 t (ix3 u v n) 0).trans ?_; rw [e0]; show 8 * 1 + u.val = 8; omega
  | ⟨1, _⟩ => refine (Pipeline.Window.rect_emb_val win0_4 t (ix3 u v n) 1).trans ?_; rw [e1]; show 0 * 1 + v.val = 0; omega
  | ⟨2, _⟩ => refine (Pipeline.Window.rect_emb_val win0_4 t (ix3 u v n) 2).trans ?_; rw [e2]; show 0 * 2048 + n.val = n.val; omega

/-- The context's scale. -/
theorem blk5 (c : Dev nD) (t : Fin cfg0.N) (u : Fin 1) (v : Fin 1) (n : Fin 2048) : iblk m c 5 t (ix3 u v n) = m ((c : Thread nD τ).loc main_arg5)
      (ix3 (8 : Fin 16) 0 n) := by
  refine Eq.trans ?_ (congrFun (V_main_arg5 m c) _)
  show V m c (Pipeline.arrRef spec0 5) ((win0_5.rect t).emb (ix3 u v n)) = _
  refine congrArg _ (funext fun a => Fin.ext ?_)
  obtain ⟨e0, e1, e2⟩ := index5 t
  match a with
  | ⟨0, _⟩ => refine (Pipeline.Window.rect_emb_val win0_5 t (ix3 u v n) 0).trans ?_; rw [e0]; show 8 * 1 + u.val = 8; omega
  | ⟨1, _⟩ => refine (Pipeline.Window.rect_emb_val win0_5 t (ix3 u v n) 1).trans ?_; rw [e1]; show 0 * 1 + v.val = 0; omega
  | ⟨2, _⟩ => refine (Pipeline.Window.rect_emb_val win0_5 t (ix3 u v n) 2).trans ?_; rw [e2]; show 0 * 2048 + n.val = n.val; omega

/-- The layer norm's scale. -/
theorem blk6 (c : Dev nD) (t : Fin cfg0.N) (n : Fin 2048) : iblk m c 6 t (ix2 0 n) = m ((c : Thread nD τ).loc main_arg6) (ix1 n) := by
  refine Eq.trans ?_ (V_v3 m c (ix2 0 n))
  show V m c (Pipeline.arrRef spec0 6) ((win0_6.rect t).emb (ix2 0 n)) = _
  refine congrArg _ (funext fun a => Fin.ext ?_)
  obtain ⟨e0, e1⟩ := index6 t
  match a with
  | ⟨0, _⟩ => refine (Pipeline.Window.rect_emb_val win0_6 t (ix2 0 n) 0).trans ?_; rw [e0]; rfl
  | ⟨1, _⟩ => refine (Pipeline.Window.rect_emb_val win0_6 t (ix2 0 n) 1).trans ?_; rw [e1]; show 0 * 2048 + n.val = n.val; omega

/-- The layer norm's shift. -/
theorem blk7 (c : Dev nD) (t : Fin cfg0.N) (n : Fin 2048) : iblk m c 7 t (ix2 0 n) = m ((c : Thread nD τ).loc main_arg7) (ix1 n) := by
  refine Eq.trans ?_ (V_v4 m c (ix2 0 n))
  show V m c (Pipeline.arrRef spec0 7) ((win0_7.rect t).emb (ix2 0 n)) = _
  refine congrArg _ (funext fun a => Fin.ext ?_)
  obtain ⟨e0, e1⟩ := index7 t
  match a with
  | ⟨0, _⟩ => refine (Pipeline.Window.rect_emb_val win0_7 t (ix2 0 n) 0).trans ?_; rw [e0]; rfl
  | ⟨1, _⟩ => refine (Pipeline.Window.rect_emb_val win0_7 t (ix2 0 n) 1).trans ?_; rw [e1]; show 0 * 2048 + n.val = n.val; omega

/-- The router's weights. -/
theorem blk8 (c : Dev nD) (t : Fin cfg0.N) (d : Fin 2048) (k : Fin 16) :
    iblk m c 8 t (ix2 d (⟨k.val, by omega⟩ : Fin 128)) = m ((c : Thread nD τ).loc main_arg8) (ix2 d k) := by
  refine Eq.trans ?_ (V_v1 m c d k)
  show V m c (Pipeline.arrRef spec0 8) ((win0_8.rect t).emb (ix2 d (⟨k.val, by omega⟩ : Fin 128))) = _
  refine congrArg _ (funext fun a => Fin.ext ?_)
  obtain ⟨e0, e1⟩ := index8 t
  match a with
  | ⟨0, _⟩ => refine (Pipeline.Window.rect_emb_val win0_8 t (ix2 d (⟨k.val, by omega⟩ : Fin 128)) 0).trans ?_; rw [e0]; show 0 * 2048 + d.val = d.val; omega
  | ⟨1, _⟩ => refine (Pipeline.Window.rect_emb_val win0_8 t (ix2 d (⟨k.val, by omega⟩ : Fin 128)) 1).trans ?_; rw [e1]; show 0 * 128 + k.val = k.val; omega

/-! ## What a point writes back -/

/-- The launch contents' new residual; -/
abbrev x1Of (c : Dev nD) : FVec Ideal S8x256x2048 .f32 := x1 (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))
/-- the experts' input; -/
abbrev h2Of (c : Dev nD) : FVec Ideal S8x256x2048 .bf16 := h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
/-- the affinities. -/
abbrev affOf (c : Dev nD) : FVec Ideal S8x16x256 .f32 := aff (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- A row of a block is a row of the result. -/
theorem xblk_eq (c : Dev nD) (t : Fin cfg0.N) (r : Fin 256) :
    xblk (iblk m c 0 t) (iblk m c 1 t) (iblk m c 2 t) (iblk m c 3 t) (iblk m c 6 t) (iblk m c 7 t) r
      = x1At (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (⟨t.val, lt_N t⟩ : Fin 8) r := by
  unfold xblk x1At
  refine congr (congr (congrArg normed (congr (congr (congr (congrArg zed ?_) ?_) ?_) ?_)) ?_) ?_
  · exact funext fun d => blk0 m c t 0 r d
  · exact funext fun d => funext fun n => blk1 m c t 0 d n
  · exact funext fun d => blk2 m c t 0 r d
  · exact funext fun d => blk3 m c t 0 0 d
  · exact funext fun n => blk6 m c t n
  · exact funext fun n => blk7 m c t n

theorem hblk_eq (c : Dev nD) (t : Fin cfg0.N) (r : Fin 256) :
    hblk (iblk m c 0 t) (iblk m c 1 t) (iblk m c 2 t) (iblk m c 3 t) (iblk m c 4 t) (iblk m c 5 t) (iblk m c 6 t) (iblk m c 7 t) r
      = h2At (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (⟨t.val, lt_N t⟩ : Fin 8) r := by
  unfold hblk h2At
  refine congr (congr (congrArg modul (xblk_eq m c t r)) ?_) ?_
  · exact funext fun n => blk5 m c t 0 0 n
  · exact funext fun n => blk4 m c t 0 0 n

theorem ablk_eq (c : Dev nD) (t : Fin cfg0.N) (r : Fin 256) :
    ablk (iblk m c 0 t) (iblk m c 1 t) (iblk m c 2 t) (iblk m c 3 t) (iblk m c 4 t) (iblk m c 5 t) (iblk m c 6 t) (iblk m c 7 t) (iblk m c 8 t) r
      = affAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (⟨t.val, lt_N t⟩ : Fin 8) r := by
  unfold ablk affAt
  refine congrArg soft16 (funext fun k => Finset.sum_congr rfl fun d _ => ?_)
  exact congrArg₂ (fun p q : EReal => p * q) (congrFun (hblk_eq m c t r) d) (blk8 m c t d k)

theorem x1_at (a w x g lg lb) (i : S8x256x2048.Idx) (b : Fin 8) (s : Fin 256) (n : Fin 2048)
    (q0 : (i 0).val = b.val) (q1 : (i 1).val = s.val) (q2 : (i 2).val = n.val) : x1 a w x g lg lb i = x1At a w x g lg lb b s n := by
  obtain rfl : i 0 = b := Fin.ext q0
  obtain rfl : i 1 = s := Fin.ext q1
  obtain rfl : i 2 = n := Fin.ext q2
  rfl

theorem h2_at (a w x g sh sc lg lb) (i : S8x256x2048.Idx) (b : Fin 8) (s : Fin 256) (n : Fin 2048)
    (q0 : (i 0).val = b.val) (q1 : (i 1).val = s.val) (q2 : (i 2).val = n.val) : h2 a w x g sh sc lg lb i = h2At a w x g sh sc lg lb b s n := by
  obtain rfl : i 0 = b := Fin.ext q0
  obtain rfl : i 1 = s := Fin.ext q1
  obtain rfl : i 2 = n := Fin.ext q2
  rfl

theorem aff_at (a w x g sh sc lg lb rw') (i : S8x16x256.Idx) (b : Fin 8) (s : Fin 256) (e : Fin 16)
    (q0 : (i 0).val = b.val) (q1 : (i 1).val = e.val) (q2 : (i 2).val = s.val) : aff a w x g sh sc lg lb rw' i = affAt a w x g sh sc lg lb rw' b s e := by
  obtain rfl : i 0 = b := Fin.ext q0
  obtain rfl : i 1 = e := Fin.ext q1
  obtain rfl : i 2 = s := Fin.ext q2
  rfl

/-- What point `t` writes back of the new residual is its block. -/
theorem flushed9_eq (c : Dev nD) (t : Fin cfg0.N) :
    (dats m 0 c).flushed 9 t = (win0_9.blk t).view.read (Elt Ideal) (x1Of m c) := by
  rw [Value.flushed9]
  show (fun j : S1x256x2048.Idx => out0_9 (F := Ideal) (iblk m c 0 t) (iblk m c 1 t) (iblk m c 2 t) (iblk m c 3 t) (iblk m c 4 t) (iblk m c 5 t) (iblk m c 6 t) (iblk m c 7 t) (iblk m c 8 t) j) = fun j : S1x256x2048.Idx => x1Of m c ((win0_9.rect t).emb j)
  funext j
  obtain ⟨u, r, n, rfl⟩ : ∃ u r n, j = ix3 (n0 := 1) (n1 := 256) (n2 := 2048) u r n := ⟨_, _, _, eq_ix3 j⟩
  refine (out9 _ _ _ _ _ _ _ _ _ _).trans ?_
  obtain ⟨e0, e1, e2⟩ := index9 t
  refine (congrFun (xblk_eq m c t r) n).trans (x1_at _ _ _ _ _ _ _ _ _ _ ?_ ?_ ?_).symm
  · refine (Pipeline.Window.rect_emb_val win0_9 t (ix3 u r n) 0).trans ?_; rw [e0]; show _ * 1 + u.val = t.val; omega
  · refine (Pipeline.Window.rect_emb_val win0_9 t (ix3 u r n) 1).trans ?_; rw [e1]; show 0 * 256 + r.val = r.val; omega
  · refine (Pipeline.Window.rect_emb_val win0_9 t (ix3 u r n) 2).trans ?_; rw [e2]; show 0 * 2048 + n.val = n.val; omega

/-- What point `t` writes back of the experts' input is its block. -/
theorem flushed10_eq (c : Dev nD) (t : Fin cfg0.N) :
    (dats m 0 c).flushed 10 t = (win0_10.blk t).view.read (Elt Ideal) (h2Of m c) := by
  rw [Value.flushed10]
  show (fun j : S1x256x2048.Idx => out0_10 (F := Ideal) (iblk m c 0 t) (iblk m c 1 t) (iblk m c 2 t) (iblk m c 3 t) (iblk m c 4 t) (iblk m c 5 t) (iblk m c 6 t) (iblk m c 7 t) (iblk m c 8 t) j) = fun j : S1x256x2048.Idx => h2Of m c ((win0_10.rect t).emb j)
  funext j
  obtain ⟨u, r, n, rfl⟩ : ∃ u r n, j = ix3 (n0 := 1) (n1 := 256) (n2 := 2048) u r n := ⟨_, _, _, eq_ix3 j⟩
  refine (out10 _ _ _ _ _ _ _ _ _ _).trans ?_
  obtain ⟨e0, e1, e2⟩ := index10 t
  refine (congrFun (hblk_eq m c t r) n).trans (h2_at _ _ _ _ _ _ _ _ _ _ _ _ ?_ ?_ ?_).symm
  · refine (Pipeline.Window.rect_emb_val win0_10 t (ix3 u r n) 0).trans ?_; rw [e0]; show _ * 1 + u.val = t.val; omega
  · refine (Pipeline.Window.rect_emb_val win0_10 t (ix3 u r n) 1).trans ?_; rw [e1]; show 0 * 256 + r.val = r.val; omega
  · refine (Pipeline.Window.rect_emb_val win0_10 t (ix3 u r n) 2).trans ?_; rw [e2]; show 0 * 2048 + n.val = n.val; omega

/-- What point `t` writes back of the affinities is its block. -/
theorem flushed11_eq (c : Dev nD) (t : Fin cfg0.N) :
    (dats m 0 c).flushed 11 t = (win0_11.blk t).view.read (Elt Ideal) (affOf m c) := by
  rw [Value.flushed11]
  show (fun j : S1x16x256.Idx => out0_11 (F := Ideal) (iblk m c 0 t) (iblk m c 1 t) (iblk m c 2 t) (iblk m c 3 t) (iblk m c 4 t) (iblk m c 5 t) (iblk m c 6 t) (iblk m c 7 t) (iblk m c 8 t) j) = fun j : S1x16x256.Idx => affOf m c ((win0_11.rect t).emb j)
  funext j
  obtain ⟨u, r, n, rfl⟩ : ∃ u r n, j = ix3 (n0 := 1) (n1 := 16) (n2 := 256) u r n := ⟨_, _, _, eq_ix3 j⟩
  refine (out11 _ _ _ _ _ _ _ _ _ _).trans ?_
  obtain ⟨e0, e1, e2⟩ := index11 t
  refine (congrFun (ablk_eq m c t n) r).trans (aff_at _ _ _ _ _ _ _ _ _ _ _ _ _ ?_ ?_ ?_).symm
  · refine (Pipeline.Window.rect_emb_val win0_11 t (ix3 u r n) 0).trans ?_; rw [e0]; show _ * 1 + u.val = t.val; omega
  · refine (Pipeline.Window.rect_emb_val win0_11 t (ix3 u r n) 1).trans ?_; rw [e1]; show 0 * 16 + r.val = r.val; omega
  · refine (Pipeline.Window.rect_emb_val win0_11 t (ix3 u r n) 2).trans ?_; rw [e2]; show 0 * 256 + n.val = n.val; omega

/-! ## The blocks tile the results -/

theorem cover9 (i : S8x256x2048.Idx) : ∃ t : Fin cfg0.N, (cfg0.win 9).flush t = true ∧ i ∈ ((cfg0.win 9).blk t).view.set := by
  have h0 : (i 0 : Nat) < 8 := (i 0).isLt
  have h1 : (i 1 : Nat) < 256 := (i 1).isLt
  have h2 : (i 2 : Nat) < 2048 := (i 2).isLt
  have ht : (i 0 : Nat) < cfg0.N := by have hN : cfg0.N = 8 := N_0; omega
  refine ⟨⟨_, ht⟩, flush0_9 _, ?_⟩
  show i ∈ ((View.whole main_v5_0).slice (win0_9.rect ⟨_, ht⟩)).set
  rw [View.set_slice_whole, Rect.mem_set_unit]
  obtain ⟨e0, e1, e2⟩ := index9 ⟨_, ht⟩
  intro a
  match a with
  | ⟨0, _⟩ => show win0_9.index ⟨_, ht⟩ 0 * 1 ≤ (i 0 : Nat) ∧ (i 0 : Nat) < win0_9.index ⟨_, ht⟩ 0 * 1 + 1; rw [e0]; dsimp only; omega
  | ⟨1, _⟩ => show win0_9.index ⟨_, ht⟩ 1 * 256 ≤ (i 1 : Nat) ∧ (i 1 : Nat) < win0_9.index ⟨_, ht⟩ 1 * 256 + 256; rw [e1]; dsimp only; omega
  | ⟨2, _⟩ => show win0_9.index ⟨_, ht⟩ 2 * 2048 ≤ (i 2 : Nat) ∧ (i 2 : Nat) < win0_9.index ⟨_, ht⟩ 2 * 2048 + 2048; rw [e2]; omega

theorem cover10 (i : S8x256x2048.Idx) : ∃ t : Fin cfg0.N, (cfg0.win 10).flush t = true ∧ i ∈ ((cfg0.win 10).blk t).view.set := by
  have h0 : (i 0 : Nat) < 8 := (i 0).isLt
  have h1 : (i 1 : Nat) < 256 := (i 1).isLt
  have h2 : (i 2 : Nat) < 2048 := (i 2).isLt
  have ht : (i 0 : Nat) < cfg0.N := by have hN : cfg0.N = 8 := N_0; omega
  refine ⟨⟨_, ht⟩, flush0_10 _, ?_⟩
  show i ∈ ((View.whole main_v5_1).slice (win0_10.rect ⟨_, ht⟩)).set
  rw [View.set_slice_whole, Rect.mem_set_unit]
  obtain ⟨e0, e1, e2⟩ := index10 ⟨_, ht⟩
  intro a
  match a with
  | ⟨0, _⟩ => show win0_10.index ⟨_, ht⟩ 0 * 1 ≤ (i 0 : Nat) ∧ (i 0 : Nat) < win0_10.index ⟨_, ht⟩ 0 * 1 + 1; rw [e0]; dsimp only; omega
  | ⟨1, _⟩ => show win0_10.index ⟨_, ht⟩ 1 * 256 ≤ (i 1 : Nat) ∧ (i 1 : Nat) < win0_10.index ⟨_, ht⟩ 1 * 256 + 256; rw [e1]; dsimp only; omega
  | ⟨2, _⟩ => show win0_10.index ⟨_, ht⟩ 2 * 2048 ≤ (i 2 : Nat) ∧ (i 2 : Nat) < win0_10.index ⟨_, ht⟩ 2 * 2048 + 2048; rw [e2]; omega

theorem cover11 (i : S8x16x256.Idx) : ∃ t : Fin cfg0.N, (cfg0.win 11).flush t = true ∧ i ∈ ((cfg0.win 11).blk t).view.set := by
  have h0 : (i 0 : Nat) < 8 := (i 0).isLt
  have h1 : (i 1 : Nat) < 16 := (i 1).isLt
  have h2 : (i 2 : Nat) < 256 := (i 2).isLt
  have ht : (i 0 : Nat) < cfg0.N := by have hN : cfg0.N = 8 := N_0; omega
  refine ⟨⟨_, ht⟩, flush0_11 _, ?_⟩
  show i ∈ ((View.whole main_v5_2).slice (win0_11.rect ⟨_, ht⟩)).set
  rw [View.set_slice_whole, Rect.mem_set_unit]
  obtain ⟨e0, e1, e2⟩ := index11 ⟨_, ht⟩
  intro a
  match a with
  | ⟨0, _⟩ => show win0_11.index ⟨_, ht⟩ 0 * 1 ≤ (i 0 : Nat) ∧ (i 0 : Nat) < win0_11.index ⟨_, ht⟩ 0 * 1 + 1; rw [e0]; dsimp only; omega
  | ⟨1, _⟩ => show win0_11.index ⟨_, ht⟩ 1 * 16 ≤ (i 1 : Nat) ∧ (i 1 : Nat) < win0_11.index ⟨_, ht⟩ 1 * 16 + 16; rw [e1]; omega
  | ⟨2, _⟩ => show win0_11.index ⟨_, ht⟩ 2 * 256 ≤ (i 2 : Nat) ∧ (i 2 : Nat) < win0_11.index ⟨_, ht⟩ 2 * 256 + 256; rw [e2]; dsimp only; omega

/-! ## The kernel's run -/

theorem final9 (c : Dev nD) : (dats m 0 c).arrAt 9 cfg0.N = x1Of m c :=
  (dats m 0 c).arrAt_eq_of_cover 9 _ (fun t _ => flushed9_eq m c t) cover9
theorem final10 (c : Dev nD) : (dats m 0 c).arrAt 10 cfg0.N = h2Of m c :=
  (dats m 0 c).arrAt_eq_of_cover 10 _ (fun t _ => flushed10_eq m c t) cover10
theorem final11 (c : Dev nD) : (dats m 0 c).arrAt 11 cfg0.N = affOf m c :=
  (dats m 0 c).arrAt_eq_of_cover 11 _ (fun t _ => flushed11_eq m c t) cover11

/-- THE KERNEL'S RUN: its three results, and its arguments as launched. -/
theorem run : θ_run defs (onTc (τ := τ) (main (F := Ideal))) ⟨m, fun _ => 0, ρ⟩ fun r => ∀ c : Dev nD,
      (r.2.mem ((c : Thread nD τ).loc main_v5_0) = x1Of m c
      ∧ r.2.mem ((c : Thread nD τ).loc main_v5_1) = h2Of m c
      ∧ r.2.mem ((c : Thread nD τ).loc main_v5_2) = affOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨⟨(h c).1.trans (final9 m c), (h c).2.1.trans (final10 m c), (h c).2.2.1.trans (final11 m c)⟩,
    (h c).2.2.2⟩) (Value.run_blocks m ρ)

end Cert.OutProjCIdeal.Val

end
-- ==== Proof.OutProjCRef.lean ====
/-
  THE CONTEXT'S OUTPUT PROJECTION'S REFERENCE (hand-written): `OutProjCRefIdeal` leaves in its three results the same functions of the
  arguments as the kernel. Its √2 is the square root of 2, taken at the extended reals.
-/
module

public import proofs.«01_k».proof.Proof.OutProjCValue
public import proofs.«01_k».proof.Proof.Gen.OutProjCRefIdeal.Read
public import Idealize.ShloMosaic.Lib.Pointwise

@[expose] public section

set_option maxRecDepth 16384

noncomputable section

open Idealize.ShloMosaic Idealize.ShloMosaic.TcCoe Idealize.SL.Sem

namespace Cert.OutProjCRefIdeal.Val

open Cert.OutProjCRefIdeal Cert.OutProjCRefIdeal.Read Cert.OutProjCIdeal.Val Cert.OutProjMath

/-- The square root of 2, as the reference takes it. -/
theorem sqrt2 : Ideal.sqrt (Ideal.ofBits .f32 0x40000000#32) = root2 := by
  have e : (Ideal.ofBits .f32 0x40000000#32 : EReal) = ((2 : ℝ) : EReal) := by
    simp [Ideal.ofBits, Ideal.ieee]
    rw [← EReal.coe_mul]; norm_num
  rw [e, Ideal.sqrt_coe, if_neg (show ¬ (2 : ℝ) < 0 by norm_num)]
  rfl

section
variable (a : FVec Ideal S8x256x2048 .bf16) (w : FVec Ideal S2x2048x2048 .f32) (x : FVec Ideal S8x256x2048 .f32) (g sh sc : FVec Ideal S16x1x2048 .f32)
    (lg lb : FVec Ideal S2048 .f32) (rw' : FVec Ideal S2048x16 .f32)

theorem z_apply (b : Fin 8) (s : Fin 256) (n : Fin 2048) : val_main_v10 (F := Ideal) a w x g (ix3 b s n)
    = zed (fun d => a (ix3 b s d)) (fun d n => w (ix3 (0 : Fin 2) d n)) (fun n => x (ix3 b s n)) (fun n => g (ix3 (8 : Fin 16) 0 n)) n := by
  unfold zed
  rw [← sqrt2]
  pointwise [val_main_v10, val_main_v9, val_main_v8, val_main_v7, val_main_v6, val_main_v5, val_main_v4, val_main_v3, val_main_v2, val_main_v1,
    val_main_v0, val_main_cst]

theorem norm_apply (b : Fin 8) (s : Fin 256) (n : Fin 2048) : val_main_v34 (F := Ideal) a w x g lg lb (ix3 b s n)
    = normed (fun k => val_main_v10 (F := Ideal) a w x g (ix3 b s k)) (fun n => lg (ix1 n)) (fun n => lb (ix1 n)) n := by
  unfold normed mean
  pointwise [val_main_v34, val_main_v33, val_main_v32, val_main_v31, val_main_v30, val_main_v29, val_main_v28, val_main_v27, val_main_v26, val_main_v25,
    val_main_v24, val_main_v23, val_main_v22, val_main_v21, val_main_v20, val_main_v19, val_main_v18, val_main_v17, val_main_v16, val_main_v15,
    val_main_v14, val_main_v13, val_main_v12, val_main_v11, val_main_cst_0, val_main_cst_1, val_main_cst_2, val_main_cst_3, val_main_cst_4]

theorem x1_apply (b : Fin 8) (s : Fin 256) (n : Fin 2048) : val_main_v34 (F := Ideal) a w x g lg lb (ix3 b s n) = x1At a w x g lg lb b s n := by
  rw [norm_apply]
  unfold x1At
  exact congrArg (fun q => normed q (fun n => lg (ix1 n)) (fun n => lb (ix1 n)) n) (funext fun k => z_apply a w x g b s k)

theorem modul_apply (b : Fin 8) (s : Fin 256) (n : Fin 2048) : val_main_v42 (F := Ideal) a w x g sh sc lg lb (ix3 b s n)
    = modul (fun k => val_main_v34 (F := Ideal) a w x g lg lb (ix3 b s k)) (fun n => sc (ix3 (8 : Fin 16) 0 n))
      (fun n => sh (ix3 (8 : Fin 16) 0 n)) n := by
  unfold modul
  pointwise [val_main_v42, val_main_v41, val_main_v40, val_main_v39, val_main_v38, val_main_v37, val_main_v36, val_main_v35, val_main_cst_5]

theorem h2_apply (b : Fin 8) (s : Fin 256) (n : Fin 2048) : val_main_v42 (F := Ideal) a w x g sh sc lg lb (ix3 b s n) = h2At a w x g sh sc lg lb b s n := by
  rw [modul_apply]
  unfold h2At
  exact congrArg (fun q => modul q _ _ n) (funext fun k => x1_apply a w x g lg lb b s k)

theorem logit_apply (b : Fin 8) (s : Fin 256) (k : Fin 16) : val_main_v43 (F := Ideal) a w x g sh sc lg lb rw' (ix3 b s k)
    = ∑ d : Fin 2048, h2At a w x g sh sc lg lb b s d * rw' (ix2 d k) := by
  refine Eq.trans (b := ∑ d : Fin 2048, (val_main_v42 (F := Ideal) a w x g sh sc lg lb (ix3 b s d) : EReal) * rw' (ix2 d k)) ?_
    (Finset.sum_congr rfl fun d _ => congrArg (fun q : EReal => q * rw' (ix2 d k)) (h2_apply a w x g sh sc lg lb b s d))
  pointwise [val_main_v43]

theorem soft_apply (b : Fin 8) (s : Fin 256) (e : Fin 16) : val_main_v54 (F := Ideal) a w x g sh sc lg lb rw' (ix3 b s e)
    = soft16 (fun k => val_main_v43 (F := Ideal) a w x g sh sc lg lb rw' (ix3 b s k)) e := by
  unfold soft16
  pointwise [val_main_v54, val_main_v53, val_main_v52, val_main_v51, val_main_v50, val_main_v49, val_main_v48, val_main_v47, val_main_v46, val_main_v45,
    val_main_v44, val_main_cst_6, val_main_cst_7, val_main_cst_8]
  simp only [inf_val, bot_le, max_eq_right]

/-- The first result, -/
theorem result_x1 : val_main_v34 (F := Ideal) a w x g lg lb = x1 a w x g lg lb := by
  funext j
  obtain ⟨b, s, n, rfl⟩ : ∃ b s n, j = ix3 (n0 := 8) (n1 := 256) (n2 := 2048) b s n := ⟨_, _, _, eq_ix3 j⟩
  exact x1_apply a w x g lg lb b s n

/-- the second, -/
theorem result_h2 : val_main_v55 (F := Ideal) a w x g sh sc lg lb = h2 a w x g sh sc lg lb := by
  funext j
  obtain ⟨b, s, n, rfl⟩ : ∃ b s n, j = ix3 (n0 := 8) (n1 := 256) (n2 := 2048) b s n := ⟨_, _, _, eq_ix3 j⟩
  exact h2_apply a w x g sh sc lg lb b s n

/-- and the third. -/
theorem result_aff : val_main_v56 (F := Ideal) a w x g sh sc lg lb rw' = aff a w x g sh sc lg lb rw' := by
  funext j
  obtain ⟨b, e, s, rfl⟩ : ∃ b e s, j = ix3 (n0 := 8) (n1 := 16) (n2 := 256) b e s := ⟨_, _, _, eq_ix3 j⟩
  refine Eq.trans (b := val_main_v54 (F := Ideal) a w x g sh sc lg lb rw' (ix3 b s e)) ?_ ?_
  · pointwise [val_main_v56]
  · rw [soft_apply]
    exact congrArg (fun q => soft16 q e) (funext fun k => logit_apply a w x g sh sc lg lb rw' b s k)
end

end Cert.OutProjCRefIdeal.Val

end
-- ==== Proof.OutProjCClaims.lean ====
/-
  THE CONTEXT'S OUTPUT PROJECTION'S CLAIMS (hand-written): its frames, and that kernel and reference agree at the extended reals.
-/
module

public import proofs.«01_k».proof.Defs
public import proofs.«01_k».proof.Proof.Gen.OutProjC
public import proofs.«01_k».proof.Proof.Gen.OutProjC.Frame
public import proofs.«01_k».proof.Proof.Gen.OutProjCIdeal
public import proofs.«01_k».proof.Proof.Gen.OutProjCIdeal.Frame
public import proofs.«01_k».proof.Proof.Gen.OutProjCRefIdeal
public import proofs.«01_k».proof.Proof.Gen.OutProjCRefIdeal.Run
public import proofs.«01_k».proof.Proof.Gen.OutProjCRefIdeal.Read
public import proofs.«01_k».proof.Proof.OutProjCValue
public import proofs.«01_k».proof.Proof.OutProjCRef
public import Idealize.ShloMosaic.Adequacy
public import Idealize.ShloMosaic.Init

@[expose] public section

set_option maxRecDepth 16384

noncomputable section

open Idealize.ShloMosaic Idealize.ShloMosaic.TcCoe Idealize.SL.Sem

namespace Cert.OutProjC.Claims

/-- The kernel runs and leaves its arguments as launched. -/
theorem kernel : Cert.quiescent_OutProjC (hOutProjC := Cert.OutProjC.Gen.facts) :=
  fun m ρ _ => Cert.OutProjC.Gen.frame m ρ

/-- So does the kernel at the extended reals. -/
theorem ideal : Cert.quiescent_OutProjCIdeal (hOutProjCIdeal := Cert.OutProjCIdeal.Gen.facts) :=
  fun m ρ _ => Cert.OutProjCIdeal.Gen.frame m ρ

/-- So does the reference. -/
theorem reference : Cert.quiescent_OutProjCRefIdeal (hOutProjCRefIdeal := Cert.OutProjCRefIdeal.Gen.facts) :=
  fun m ρ _ => (θ_run Cert.OutProjCRefIdeal.defs _ _).mono (fun r h => ⟨fun c => ⟨(h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩,
    Idealize.ShloMosaic.sem_eq_zero_of_no_sems (by decide) r.2⟩) (Cert.OutProjCRefIdeal.Value.run (F := Ideal) m ρ)

/-- Naming the residual's scale and the masked logit: √2 stands for one literal, −∞ for the other. -/
theorem preserves : Cert.preserves_OutProjC_OutProjCIdeal :=
  ⟨IdealRules.named_const.statement Cert.OutProjCIdeal.κ "alpha" .f32 0x3FB504F3#32 ((Real.sqrt 2 : ℝ) : EReal) rfl,
    IdealRules.named_const.statement Cert.OutProjCIdeal.κ "mask" .f32 0xF149F2CA#32 ⊥ rfl⟩

/-- From the same arguments the kernel and its reference leave the same results. -/
theorem value : Cert.algebraic_OutProjCIdeal_OutProjCRefIdeal (hOutProjCIdeal := Cert.OutProjCIdeal.Gen.facts) (hOutProjCRefIdeal := Cert.OutProjCRefIdeal.Gen.facts) := by
  intro m ρ m' ρ' _ hag
  refine ⟨fun c => Cert.OutProjCIdeal.Val.x1Of m c, fun c => Cert.OutProjCIdeal.Val.h2Of m c, fun c => Cert.OutProjCIdeal.Val.affOf m c, ?_, ?_⟩
  · exact (θ_run Cert.OutProjCIdeal.defs _ _).mono (fun r h c => ⟨(h c).1.1, (h c).1.2.1, (h c).1.2.2, (h c).2⟩) (Cert.OutProjCIdeal.Val.run m ρ)
  · refine (θ_run Cert.OutProjCRefIdeal.defs _ _).mono (fun r h c => ?_) (Cert.OutProjCRefIdeal.Value.run (F := Ideal) m' ρ')
    obtain ⟨a0, a1, a2, a3, a4, a5, a6, a7, a8⟩ := hag c
    refine ⟨(h c).1.trans ((Cert.OutProjCRefIdeal.Read.val_main_v34_eq m' c).trans ((Cert.OutProjCRefIdeal.Val.result_x1 _ _ _ _ _ _).trans ?_)),
      (h c).2.1.trans ((Cert.OutProjCRefIdeal.Read.val_main_v55_eq m' c).trans ((Cert.OutProjCRefIdeal.Val.result_h2 _ _ _ _ _ _ _ _).trans ?_)),
      (h c).2.2.1.trans ((Cert.OutProjCRefIdeal.Read.val_main_v56_eq m' c).trans ((Cert.OutProjCRefIdeal.Val.result_aff _ _ _ _ _ _ _ _ _).trans ?_)), (h c).2.2.2⟩
    · rw [a0, a1, a2, a3, a6, a7]
    · rw [a0, a1, a2, a3, a4, a5, a6, a7]
    · rw [a0, a1, a2, a3, a4, a5, a6, a7, a8]

end Cert.OutProjC.Claims

end
-- ==== Proof.InProjDValue.lean ====
/-
  THE CONTEXT'S PROJECTION'S VALUE (hand-written): the kernel `InProjDIdeal` leaves in its result, at every sequence, position and
  column, the sum over the 2048 features of the hidden value times the weight of layer 1 in the column the last layer
  keeps (`inproj`), and its reference `InProjDRefIdeal` the same.

  The kernel is one product per grid point (j, b) of the grid (3, 8): the 256 rows of sequence b times columns
  1024 + 512 j … of the weights, written to the column tile j of the result. The reference multiplies once and keeps
  these columns. Both are read at an index; no algebra is needed.
-/
module

public import proofs.«01_k».proof.Defs
public import proofs.«01_k».proof.Proof.Gen.InProjDIdeal.Value
public import proofs.«01_k».proof.Proof.Gen.InProjDRefIdeal.Run
public import proofs.«01_k».proof.Proof.Gen.InProjDRefIdeal.Read
public import Idealize.ShloMosaic.Lib.Pointwise
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)

namespace Cert.InProjDIdeal.Val

open Cert.InProjDIdeal Cert.InProjDIdeal.Gen

/-- The column of the weights that column `n` of the result holds: keys, values and the state's input. -/
def wcol (n : Fin 1536) : Fin 10752 := ⟨n.val + 1024, by omega⟩

/-- The projection, index by index. -/
def inproj (h : FVec Ideal S8x256x2048 .bf16) (w : FVec Ideal S2x2048x10752 .f32) : FVec Ideal S8x256x1536 .f32 :=
  fun i => ∑ k : Fin 2048, (h (ix3 (i 0) (i 1) k) : EReal) * w (ix3 (1 : Fin 2) k (wcol (i 2)))

/-- The projection at an index whose coordinates are known. -/
theorem inproj_at (h : FVec Ideal S8x256x2048 .bf16) (w : FVec Ideal S2x2048x10752 .f32) (i : S8x256x1536.Idx)
    (b : Fin 8) (s : Fin 256) (q : Fin 10752) (h0 : (i 0).val = b.val) (h1 : (i 1).val = s.val) (h2 : (wcol (i 2)).val = q.val) :
    inproj h w i = ∑ k : Fin 2048, (h (ix3 b s k) : EReal) * w (ix3 (1 : Fin 2) k q) := by
  obtain rfl : i 0 = b := Fin.ext h0
  obtain rfl : i 1 = s := Fin.ext h1
  obtain rfl : wcol (i 2) = q := Fin.ext h2
  rfl

variable (m : (ℓ : Loc nD τ sig) → Buf (Elt Ideal) ℓ) (ρ : Dev nD → PrngReg)

/-- The weights' window is staged from the first 4608 columns of the weight argument (a change of format is the identity). -/
theorem V_v1 (c : Dev nD) (l : Fin 2) (k : Fin 2048) (n : Fin 4608) :
    V m c main_v1 (ix3 l k n) = m ((c : Thread nD τ).loc main_arg1) (ix3 l k (⟨n.val, by omega⟩ : Fin 10752)) := by
  have h : V m c main_v1 = truncf (F := Ideal) .bf16 (extractStridedSlice S2x2048x4608 ![0, 0, 0]
      (m ((c : Thread nD τ).loc main_arg1)) slices_S2x2048x10752_S2x2048x4608_0_0_0) bitsLt_bf16_f32 := by
    show StableHlo.after hostOps0 (fun b => m (c, b)) (Proc.devRef .tc main_v1) = _
    after_results
  rw [h]
  pointwise

theorem index0 : ∀ t : Fin cfg0.N, win0_0.index t 0 = t.val % 8 ∧ win0_0.index t 1 = 0 ∧ win0_0.index t 2 = 0 :=
  (by decide +kernel : ∀ t : Fin grid0.N, win0_0.index t 0 = t.val % 8 ∧ win0_0.index t 1 = 0 ∧ win0_0.index t 2 = 0)
theorem index1 : ∀ t : Fin cfg0.N, win0_1.index t 0 = 1 ∧ win0_1.index t 1 = 0 ∧ win0_1.index t 2 = 2 + t.val / 8 :=
  (by decide +kernel : ∀ t : Fin grid0.N, win0_1.index t 0 = 1 ∧ win0_1.index t 1 = 0 ∧ win0_1.index t 2 = 2 + t.val / 8)
theorem index2 : ∀ t : Fin cfg0.N, win0_2.index t 0 = t.val % 8 ∧ win0_2.index t 1 = 0 ∧ win0_2.index t 2 = t.val / 8 :=
  (by decide +kernel : ∀ t : Fin grid0.N, win0_2.index t 0 = t.val % 8 ∧ win0_2.index t 1 = 0 ∧ win0_2.index t 2 = t.val / 8)

theorem lt_N (t : Fin cfg0.N) : t.val < 24 := lt_of_lt_of_eq t.isLt N_0

/-- The hidden values' block at point `t`: sequence `t % 8`. -/
theorem blk0 (c : Dev nD) (t : Fin cfg0.N) (u : Fin 1) (r : Fin 256) (k : Fin 2048) :
    iblk m c 0 t (ix3 u r k) = m ((c : Thread nD τ).loc main_arg0)
      (ix3 (⟨t.val % 8, by omega⟩ : Fin 8) r k) := by
  rw [← V_main_arg0 m c]
  show V m c main_arg0 ((win0_0.rect t).emb (ix3 u r k)) = _
  refine congrArg _ (funext fun a => Fin.ext ?_)
  obtain ⟨e0, e1, e2⟩ := index0 t
  match a with
  | ⟨0, _⟩ => refine (Pipeline.Window.rect_emb_val win0_0 t (ix3 u r k) 0).trans ?_; rw [e0]; show _ * 1 + u.val = t.val % 8; omega
  | ⟨1, _⟩ => refine (Pipeline.Window.rect_emb_val win0_0 t (ix3 u r k) 1).trans ?_; rw [e1]; show 0 * 256 + r.val = r.val; omega
  | ⟨2, _⟩ => refine (Pipeline.Window.rect_emb_val win0_0 t (ix3 u r k) 2).trans ?_; rw [e2]; show 0 * _ + k.val = k.val; omega

/-- The weights' block at point `t`: layer 1, columns from `512 (t / 8)`. -/
theorem blk1 (c : Dev nD) (t : Fin cfg0.N) (u : Fin 1) (k : Fin 2048) (n : Fin 512) :
    iblk m c 1 t (ix3 u k n) = m ((c : Thread nD τ).loc main_arg1)
      (ix3 (1 : Fin 2) k (⟨(2 + t.val / 8) * 512 + n.val, by have := lt_N t; omega⟩ : Fin 10752)) := by
  refine Eq.trans ?_ (V_v1 m c 1 k (⟨(2 + t.val / 8) * 512 + n.val, by have := lt_N t; omega⟩ : Fin 4608))
  show V m c main_v1 ((win0_1.rect t).emb (ix3 u k n)) = _
  refine congrArg _ (funext fun a => Fin.ext ?_)
  obtain ⟨e0, e1, e2⟩ := index1 t
  match a with
  | ⟨0, _⟩ => refine (Pipeline.Window.rect_emb_val win0_1 t (ix3 u k n) 0).trans ?_; rw [e0]; show 1 * 1 + u.val = 1; omega
  | ⟨1, _⟩ => refine (Pipeline.Window.rect_emb_val win0_1 t (ix3 u k n) 1).trans ?_; rw [e1]; show 0 * _ + k.val = k.val; omega
  | ⟨2, _⟩ => refine (Pipeline.Window.rect_emb_val win0_1 t (ix3 u k n) 2).trans ?_; rw [e2]; rfl

theorem hz : (![0, 0, 0] : Fin 3 → Nat) = fun _ => 0 := funext fun a => by fin_cases a <;> rfl

/-- The body's product of two blocks, index by index. -/
theorem pay_apply (x : FVec Ideal S1x256x2048 .bf16) (y : FVec Ideal S1x2048x512 .bf16) (u : Fin 1) (r : Fin 256) (n : Fin 512) :
    k0_pay1 (F := Ideal) x y (ix3 u r n) = ∑ k : Fin 2048, (x (ix3 0 r k) : EReal) * y (ix3 0 k n) := by
  pointwise [k0_pay1]

/-- What point `t` writes back is its block of the projection. -/
theorem flushed_eq (c : Dev nD) (t : Fin cfg0.N) : (dats m 0 c).flushed 2 t = (win0_2.blk t).view.read (Elt Ideal)
    (inproj (m ((c : Thread nD τ).loc main_arg0)) (m ((c : Thread nD τ).loc main_arg1))) := by
  rw [Value.flushed2]
  unfold out0_2
  rw [View.canon_unit_zero hz, View.ld_unit_zero hz, View.ld_unit_zero hz]
  show (fun j : S1x256x512.Idx => k0_pay1 (F := Ideal) (iblk m c 0 t) (iblk m c 1 t) j) = fun j : S1x256x512.Idx =>
    inproj (m ((c : Thread nD τ).loc main_arg0)) (m ((c : Thread nD τ).loc main_arg1)) ((win0_2.rect t).emb j)
  funext j
  obtain ⟨u, r, n, rfl⟩ : ∃ u r n, j = ix3 (n0 := 1) (n1 := 256) (n2 := 512) u r n := ⟨_, _, _, eq_ix3 j⟩
  rw [pay_apply]
  obtain ⟨e0, e1, e2⟩ := index2 t
  have f0 : ((win0_2.rect t).emb (ix3 u r n) 0).val = t.val % 8 := by
    refine (Pipeline.Window.rect_emb_val win0_2 t (ix3 u r n) 0).trans ?_; rw [e0]; show _ * 1 + u.val = t.val % 8; omega
  have f1 : ((win0_2.rect t).emb (ix3 u r n) 1).val = r.val := by
    refine (Pipeline.Window.rect_emb_val win0_2 t (ix3 u r n) 1).trans ?_; rw [e1]; show 0 * 256 + r.val = r.val; omega
  have f2 : ((win0_2.rect t).emb (ix3 u r n) 2).val = t.val / 8 * 512 + n.val := by
    refine (Pipeline.Window.rect_emb_val win0_2 t (ix3 u r n) 2).trans ?_; rw [e2]; rfl
  have g2 : (wcol ((win0_2.rect t).emb (ix3 u r n) 2)).val = (2 + t.val / 8) * 512 + n.val := by
    show ((win0_2.rect t).emb (ix3 u r n) 2).val + 1024 = _
    rw [f2]; omega
  rw [inproj_at _ _ _ (⟨t.val % 8, by omega⟩ : Fin 8) r
    (⟨(2 + t.val / 8) * 512 + n.val, by have := lt_N t; omega⟩ : Fin 10752) f0 f1 g2]
  exact Finset.sum_congr rfl fun k _ => congrArg₂ (fun a b : EReal => a * b) (blk0 m c t 0 r k) (blk1 m c t 0 k n)

/-- An index of the result lies in point `t`'s block when its coordinates lie in the three ranges. -/
theorem mem_blk (t : Fin cfg0.N) (i : S8x256x1536.Idx) (h0 : (i 0 : Nat) = t.val % 8)
    (h1 : 0 ≤ (i 1 : Nat) ∧ (i 1 : Nat) < 256)
    (h2 : t.val / 8 * 512 ≤ (i 2 : Nat) ∧ (i 2 : Nat) < t.val / 8 * 512 + 512) :
    i ∈ ((cfg0.win 2).blk t).view.set := by
  show i ∈ ((View.whole main_v2).slice (win0_2.rect t)).set
  rw [View.set_slice_whole, Rect.mem_set_unit]
  obtain ⟨e0, e1, e2⟩ := index2 t
  intro a
  match a with
  | ⟨0, _⟩ => show win0_2.index t 0 * 1 ≤ (i 0 : Nat) ∧ (i 0 : Nat) < win0_2.index t 0 * 1 + 1; rw [e0]; omega
  | ⟨1, _⟩ => show win0_2.index t 1 * 256 ≤ (i 1 : Nat) ∧ (i 1 : Nat) < win0_2.index t 1 * 256 + 256; rw [e1]; omega
  | ⟨2, _⟩ => show win0_2.index t 2 * 512 ≤ (i 2 : Nat) ∧ (i 2 : Nat) < win0_2.index t 2 * 512 + 512; rw [e2]; omega

/-- The blocks tile the result. -/
theorem cover (i : S8x256x1536.Idx) : ∃ t : Fin cfg0.N, (cfg0.win 2).flush t = true ∧ i ∈ ((cfg0.win 2).blk t).view.set := by
  have h0 : (i 0 : Nat) < 8 := (i 0).isLt
  have h1 : (i 1 : Nat) < 256 := (i 1).isLt
  have h2 : (i 2 : Nat) < 1536 := (i 2).isLt
  have ht : (i 2 : Nat) / 512 * 8 + (i 0 : Nat) < cfg0.N := by have hN : cfg0.N = 24 := N_0; omega
  refine ⟨⟨(i 2 : Nat) / 512 * 8 + (i 0 : Nat), ht⟩, flush0_2 _, mem_blk _ i ?_ ?_ ?_⟩ <;> dsimp only
  · omega
  · omega
  · omega

/-- THE KERNEL'S RUN: it ends with the projection in its result and its arguments as they were. -/
theorem run : θ_run defs (onTc (τ := τ) (main (F := Ideal))) ⟨m, fun _ => 0, ρ⟩ fun r => ∀ c : Dev nD,
      r.2.mem ((c : Thread nD τ).loc main_v2) = inproj (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans ((dats m 0 c).arrAt_eq_of_cover 2 _ (fun t _ => flushed_eq m c t) cover),
    (h c).2⟩) (Value.run_blocks m ρ)

end Cert.InProjDIdeal.Val

namespace Cert.InProjDRefIdeal.Val

open Cert.InProjDRefIdeal Cert.InProjDRefIdeal.Read

/-- The reference's product, index by index. -/
theorem prod_apply (h : FVec Ideal S8x256x2048 .bf16) (w : FVec Ideal S2x2048x10752 .f32) (b : Fin 8) (s : Fin 256) (n : Fin 10752) :
    val_main_v3 (F := Ideal) h w (ix3 b s n) = ∑ k : Fin 2048, (h (ix3 b s k) : EReal) * w (ix3 (1 : Fin 2) k n) := by
  pointwise [val_main_v3, val_main_v2, val_main_v1, val_main_v0]

/-- THE REFERENCE'S RESULT is the projection of the columns the last layer keeps. -/
theorem result (h : FVec Ideal S8x256x2048 .bf16) (w : FVec Ideal S2x2048x10752 .f32) :
    val_main_v4 (F := Ideal) h w = Cert.InProjDIdeal.Val.inproj h w := by
  funext j
  obtain ⟨b, s, n, rfl⟩ : ∃ b s n, j = ix3 (n0 := 8) (n1 := 256) (n2 := 1536) b s n := ⟨_, _, _, eq_ix3 j⟩
  have hn := n.isLt
  have key : ∀ q : Fin 10752, q = Cert.InProjDIdeal.Val.wcol n →
      val_main_v3 (F := Ideal) h w (ix3 b s q) = Cert.InProjDIdeal.Val.inproj h w (ix3 b s n) := by
    rintro q rfl; exact prod_apply h w b s _
  unfold val_main_v4
  pointwise
  refine key _ (Fin.ext ?_)
  simp only [Cert.InProjDIdeal.Val.wcol]
  omega

end Cert.InProjDRefIdeal.Val

end
-- ==== Proof.InProjDClaims.lean ====
/-
  THE CONTEXT'S PROJECTION'S CLAIMS (hand-written): its frames, and that kernel and reference agree at the extended reals.
-/
module

public import proofs.«01_k».proof.Defs
public import proofs.«01_k».proof.Proof.Gen.InProjD
public import proofs.«01_k».proof.Proof.Gen.InProjD.Frame
public import proofs.«01_k».proof.Proof.Gen.InProjDIdeal
public import proofs.«01_k».proof.Proof.Gen.InProjDIdeal.Frame
public import proofs.«01_k».proof.Proof.Gen.InProjDRefIdeal
public import proofs.«01_k».proof.Proof.Gen.InProjDRefIdeal.Run
public import proofs.«01_k».proof.Proof.Gen.InProjDRefIdeal.Read
public import proofs.«01_k».proof.Proof.InProjDValue
public import Idealize.ShloMosaic.Adequacy
public import Idealize.ShloMosaic.Init

@[expose] public section

set_option maxRecDepth 16384

noncomputable section

open Idealize.ShloMosaic Idealize.ShloMosaic.TcCoe Idealize.SL.Sem

namespace Cert.InProjD.Claims

/-- The kernel runs and leaves its arguments as launched. -/
theorem kernel : Cert.quiescent_InProjD (hInProjD := Cert.InProjD.Gen.facts) :=
  fun m ρ _ => Cert.InProjD.Gen.frame m ρ

/-- So does the kernel at the extended reals. -/
theorem ideal : Cert.quiescent_InProjDIdeal (hInProjDIdeal := Cert.InProjDIdeal.Gen.facts) :=
  fun m ρ _ => Cert.InProjDIdeal.Gen.frame m ρ

/-- So does the reference. -/
theorem reference : Cert.quiescent_InProjDRefIdeal (hInProjDRefIdeal := Cert.InProjDRefIdeal.Gen.facts) :=
  fun m ρ _ => (θ_run Cert.InProjDRefIdeal.defs _ _).mono (fun r h => ⟨fun c => ⟨(h c).2.1, (h c).2.2⟩,
    Idealize.ShloMosaic.sem_eq_zero_of_no_sems (by decide) r.2⟩) (Cert.InProjDRefIdeal.Value.run (F := Ideal) m ρ)

/-- Idealizing the kernel replaced nothing. -/
theorem preserves : Cert.preserves_InProjD_InProjDIdeal := trivial

/-- From the same arguments the kernel and its reference leave the same result. -/
theorem value : Cert.algebraic_InProjDIdeal_InProjDRefIdeal (hInProjDIdeal := Cert.InProjDIdeal.Gen.facts) (hInProjDRefIdeal := Cert.InProjDRefIdeal.Gen.facts) := by
  intro m ρ m' ρ' _ hag
  refine ⟨fun c => Cert.InProjDIdeal.Val.inproj (m ((c.tc : Thread Cert.InProjDIdeal.nD Cert.InProjDIdeal.τ).loc Cert.InProjDIdeal.main_arg0)) (m ((c.tc : Thread Cert.InProjDIdeal.nD Cert.InProjDIdeal.τ).loc Cert.InProjDIdeal.main_arg1)),
    ?_, ?_⟩
  · exact Cert.InProjDIdeal.Val.run m ρ
  · refine (θ_run Cert.InProjDRefIdeal.defs _ _).mono (fun r h c => ?_) (Cert.InProjDRefIdeal.Value.run (F := Ideal) m' ρ')
    obtain ⟨a0, a1⟩ := hag c
    refine ⟨(h c).1.trans ((Cert.InProjDRefIdeal.Read.val_main_v4_eq _ _).trans ((Cert.InProjDRefIdeal.Val.result _ _).trans ?_)), (h c).2⟩
    · rw [a0, a1]

end Cert.InProjD.Claims

end
-- ==== Proof.GluValue.lean ====
/-
  LAYER 0'S GATED LINEAR UNIT'S VALUE (hand-written): the kernel `GluIdeal` leaves in its result the gated linear
  unit (`glu`: at every sequence, position and column the gelu of the branch plus its skip, times the sigmoid of that row's
  gelu times layer 0's weights plus their bias), and its reference `GluRefIdeal` the same.

  The kernel works at 512 rows of one sequence per point of its grid (8, 4). At the extended reals a change of format is the
  identity and the sums are in the same order; the cube of the gelu is the only place where the two differ, by the order of
  a product.
-/
module

public import proofs.«01_k».proof.Defs
public import proofs.«01_k».proof.Proof.Gen.GluIdeal.Value
public import proofs.«01_k».proof.Proof.Gen.GluRefIdeal.Run
public import proofs.«01_k».proof.Proof.Gen.GluRefIdeal.Read
public import Idealize.ShloMosaic.Lib.Pointwise
public import Idealize.ShloMosaic.Lib.Pipeline.Value
public import Idealize.ShloMosaic.Lib.WholeRead
public import Idealize.ShloMosaic.Lib.Writes
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.GluIdeal.Val

open Cert.GluIdeal Cert.GluIdeal.Gen

/-! ## The result, index by index -/

/-- The gelu, in the tanh form, with the two rounded constants of the source. -/
def gelu (e : EReal) : EReal :=
  e * (Ideal.ofBits .f32 0x3F000000#32 * (Ideal.ofBits .f32 0x3F800000#32 + Ideal.tanh (Ideal.ofBits .f32 0x3F4C422A#32 * (e + Ideal.ofBits .f32 0x3D372713#32 * (e * (e * e))))))

section
variable (y : FVec Ideal S8x2048x1024 .f32) (p : FVec Ideal S8x2048x4608 .f32) (dk : FVec Ideal S1024 .f32) (w : FVec Ideal S2x1024x1024 .f32)
    (gb : FVec Ideal S1024 .f32)

/-- The gelu of the branch plus the skip. -/
def act (b : Fin 8) (s : Fin 2048) (k : Fin 1024) : EReal :=
  gelu (y (ix3 b s k) + dk (ix1 k) * p (ix3 b s (⟨1024 + k.val, by omega⟩ : Fin 4608)))

/-- One entry of the gated linear unit. -/
def gluAt (b : Fin 8) (s : Fin 2048) (n : Fin 1024) : EReal :=
  act y p dk b s n * Ideal.logistic ((∑ k : Fin 1024, act y p dk b s k * w (ix3 (0 : Fin 2) k n)) + gb (ix1 n))

/-- The gated linear unit. -/
def glu : FVec Ideal S8x2048x1024 .bf16 := fun i => gluAt y p dk w gb (i 0) (i 1) (i 2)

/-- It at an index whose coordinates are known. -/
theorem glu_at (i : S8x2048x1024.Idx) (b : Fin 8) (s : Fin 2048) (n : Fin 1024)
    (q0 : (i 0).val = b.val) (q1 : (i 1).val = s.val) (q2 : (i 2).val = n.val) : glu y p dk w gb i = gluAt y p dk w gb b s n := by
  obtain rfl : i 0 = b := Fin.ext q0
  obtain rfl : i 1 = s := Fin.ext q1
  obtain rfl : i 2 = n := Fin.ext q2
  rfl
end

/-! ## The body's block -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer. -/
theorem ld_whole {S : Shape} {e : EltTy} (a : Memref sig .tc .vmem S e) (ha : a.IsWhole) (X : S.Idx → Elt Ideal e) (off : Fin S.rank → Nat)
    (h : off = fun _ => 0) (inb : ∀ q, off q + S.size q ≤ S.size q) :
    View.readAt (Elt Ideal) a.view (Rect.unit (s := S) off S.size inb).toLoadRect (ha.unread X) = X := by
  funext x
  refine (Memref.IsWhole.readAt_unread ha X _ x).trans (congrArg X (funext fun q => Fin.ext ?_))
  refine (Rect.idx_unit_val _ _ inb x q).trans ?_
  subst h
  exact Nat.zero_add _

/-- The block's activation. -/
def actB (x0 x1 : FVec Ideal S1x512x1024 .f32) (x2 : FVec Ideal S1x1024 .f32) (r : Fin 512) (k : Fin 1024) : EReal :=
  gelu (x0 (ix3 0 r k) + x2 (ix2 0 k) * x1 (ix3 0 r k))

theorem pay_apply (x0 x1 : FVec Ideal S1x512x1024 .f32) (x2 : FVec Ideal S1x1024 .f32) (x3 : FVec Ideal S1x1024x1024 .bf16) (x4 : FVec Ideal S1x1024 .f32)
    (u : Fin 1) (r : Fin 512) (n : Fin 1024) :
    k0_pay1 (F := Ideal) x0 x2 x1 x3 x4 (ix3 u r n)
      = actB x0 x1 x2 r n * Ideal.logistic ((∑ k : Fin 1024, actB x0 x1 x2 r k * x3 (ix3 0 k n)) + x4 (ix2 0 n)) := by
  unfold actB gelu
  pointwise [k0_pay1]

theorem out_block (c : Dev nD) (i : grid0.Coords) (arg2 : Memref sig .tc .vmem S1x512x1024 .f32) (harg2 : arg2.IsWhole) (arg3 : Memref sig .tc .vmem S1x512x1024 .f32) (harg3 : arg3.IsWhole)
    (arg4 : Memref sig .tc .vmem S1x1024 .f32) (harg4 : arg4.IsWhole) (arg5 : Memref sig .tc .vmem S1x1024x1024 .bf16) (harg5 : arg5.IsWhole)
    (arg6 : Memref sig .tc .vmem S1x1024 .f32) (harg6 : arg6.IsWhole) (arg7 : Memref sig .tc .vmem S1x512x1024 .bf16) (harg7 : arg7.IsWhole)
    (x0 x1 : Vec Ideal S1x512x1024 .f32) (x2 : Vec Ideal S1x1024 .f32) (x3 : Vec Ideal S1x1024x1024 .bf16) (x4 : Vec Ideal S1x1024 .f32) :
    out0_A_5 (F := Ideal) c i arg2 harg2 arg3 harg3 arg4 harg4 arg5 harg5 arg6 harg6 arg7 harg7 x0 x1 x2 x3 x4 = k0_pay1 (F := Ideal) x0 x2 x1 x3 x4 := by
  funext z
  unfold out0_A_5
  refine View.read_writes_apply_of_pieces (Val := Elt Ideal) _ _ (fun z : S1x512x1024.Idx => k0_pay1 (F := Ideal) x0 x2 x1 x3 x4 z) _ ?_ z
    (cover0_A_5 c i arg2 harg2 arg3 harg3 arg4 harg4 arg5 harg5 arg6 harg6 arg7 harg7 x0 x1 x2 x3 x4 z)
  unfold kernelRun0_A
  dsimp only
  intro q hq
  simp only [List.mem_cons, List.not_mem_nil, or_false] at hq
  subst hq
  intro x
  dsimp only
  have l0 := ld_whole arg2 harg2 x0 _ hz3 inb_S1x512x1024_S1x512x1024_0_0_0
  have l1 := ld_whole arg3 harg3 x1 _ hz3 inb_S1x512x1024_S1x512x1024_0_0_0
  have l2 := ld_whole arg4 harg4 x2 _ hz2 inb_S1x1024_S1x1024_0_0
  have l3 := ld_whole arg5 harg5 x3 _ hz3 inb_S1x1024x1024_S1x1024x1024_0_0_0
  have l4 := ld_whole arg6 harg6 x4 _ hz2 inb_S1x1024_S1x1024_0_0
  refine Eq.trans (b := k0_pay1 (F := Ideal) x0 x2 x1 x3 x4 x) ?_ ?_
  · refine congrFun ?_ x
    refine congr (congr (congr (congr (congrArg (k0_pay1 (F := Ideal)) l0) l2) l1) l3) l4
  · refine congrArg _ (funext fun a => Fin.ext ?_)
    refine Eq.symm ((Rect.idx_unit_val _ _ inb_S1x512x1024_S1x512x1024_0_0_0 x a).trans ?_)
    exact (congrArg (· + (x a).val) (congrFun hz3 a)).trans (Nat.zero_add _)

/-! ## What the windows hold -/

variable (m : (ℓ : Loc nD τ sig) → Buf (Elt Ideal) ℓ) (ρ : Dev nD → PrngReg)

theorem lt_N (t : Fin cfg0.N) : t.val < 8 * 4 := by have hN : cfg0.N = 8 * 4 := N_0; have := t.isLt; omega

/-- The skip's weights, as a row. -/
theorem V_v0 (c : Dev nD) (i : S1x1024.Idx) : V m c main_v0 i = m ((c : Thread nD τ).loc main_arg2) (ix1 (i 1)) := by
  have h : V m c main_v0 = broadcastInDim S1x1024 ![1] bcast_S1024_S1x1024_1 (m ((c : Thread nD τ).loc main_arg2) : FVec Ideal S1024 .f32) := by
    show StableHlo.after hostOps0 (fun b => m (c, b)) (Proc.devRef .tc main_v0) = _
    simp only [hostOps0]
    after_results
  rw [h]
  obtain ⟨u, n, rfl⟩ : ∃ u n, i = ix2 (n0 := 1) (n1 := 1024) u n := ⟨_, _, eq_ix2 i⟩
  generalize m ((c : Thread nD τ).loc main_arg2) = y
  pointwise []

/-- The weights (a change of format is the identity). -/
theorem V_v1 (c : Dev nD) (i : S2x1024x1024.Idx) : V m c main_v1 i = m ((c : Thread nD τ).loc main_arg3) i := by
  have h : V m c main_v1 = truncf (F := Ideal) .bf16 (m ((c : Thread nD τ).loc main_arg3) : FVec Ideal S2x1024x1024 .f32) bitsLt_bf16_f32 := by
    show StableHlo.after hostOps0 (fun b => m (c, b)) (Proc.devRef .tc main_v1) = _
    simp only [hostOps0]
    after_results
  rw [h]; rfl

/-- The bias, as a row. -/
theorem V_v2 (c : Dev nD) (i : S1x1024.Idx) : V m c main_v2 i = m ((c : Thread nD τ).loc main_arg4) (ix1 (i 1)) := by
  have h : V m c main_v2 = broadcastInDim S1x1024 ![1] bcast_S1024_S1x1024_1 (m ((c : Thread nD τ).loc main_arg4) : FVec Ideal S1024 .f32) := by
    show StableHlo.after hostOps0 (fun b => m (c, b)) (Proc.devRef .tc main_v2) = _
    simp only [hostOps0]
    after_results
  rw [h]
  obtain ⟨u, n, rfl⟩ : ∃ u n, i = ix2 (n0 := 1) (n1 := 1024) u n := ⟨_, _, eq_ix2 i⟩
  generalize m ((c : Thread nD τ).loc main_arg4) = y
  pointwise []

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index1 : ∀ t : Fin cfg0.N, win0_1.index t 0 = t.val / 4 ∧ win0_1.index t 1 = t.val % 4 ∧ win0_1.index t 2 = 1 :=
  (by decide +kernel : ∀ t : Fin grid0.N, win0_1.index t 0 = t.val / 4 ∧ win0_1.index t 1 = t.val % 4 ∧ win0_1.index t 2 = 1)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

/-- The branch's block: 512 rows of one sequence. -/
theorem blk0 (c : Dev nD) (t : Fin cfg0.N) (r : Fin 512) (k : Fin 1024) : iblk m c 0 t (ix3 0 r k) = m ((c : Thread nD τ).loc main_arg0)
      (ix3 (⟨t.val / 4, by have := lt_N t; omega⟩ : Fin 8) (⟨t.val % 4 * 512 + r.val, by omega⟩ : Fin 2048) k) := by
  refine Eq.trans ?_ (congrFun (V_main_arg0 m c) _)
  show V m c (Pipeline.arrRef spec0 0) ((win0_0.rect t).emb (ix3 0 r k)) = _
  refine congrArg _ (funext fun a => Fin.ext ?_)
  obtain ⟨e0, e1, e2⟩ := index0 t
  match a with
  | ⟨0, _⟩ => refine (Pipeline.Window.rect_emb_val win0_0 t (ix3 0 r k) 0).trans ?_; rw [e0]; show t.val / 4 * 1 + 0 = t.val / 4; omega
  | ⟨1, _⟩ => refine (Pipeline.Window.rect_emb_val win0_0 t (ix3 0 r k) 1).trans ?_; rw [e1]; rfl
  | ⟨2, _⟩ => refine (Pipeline.Window.rect_emb_val win0_0 t (ix3 0 r k) 2).trans ?_; rw [e2]; show 0 * 1024 + k.val = k.val; omega

/-- The skip's block: the same rows of columns 1024 to 2047 of the projection. -/
theorem blk1 (c : Dev nD) (t : Fin cfg0.N) (r : Fin 512) (k : Fin 1024) : X0_1 m c t (ix3 0 r k) = m ((c : Thread nD τ).loc main_arg1)
      (ix3 (⟨t.val / 4, by have := lt_N t; omega⟩ : Fin 8) (⟨t.val % 4 * 512 + r.val, by omega⟩ : Fin 2048) (⟨1024 + k.val, by omega⟩ : Fin 4608)) := by
  unfold X0_1 Pipeline.Window.fill
  rw [dif_pos (moved0_1 t (ix3 0 r k))]
  show V m c main_arg1 ((win0_1.rect t).emb _) = _
  rw [V_main_arg1 m c]
  refine congrArg _ (funext fun a => Fin.ext ?_)
  obtain ⟨e0, e1, e2⟩ := index1 t
  match a with
  | ⟨0, _⟩ => refine (Pipeline.Window.rect_emb_val win0_1 t _ 0).trans ?_; rw [e0]; show t.val / 4 * 1 + 0 = t.val / 4; omega
  | ⟨1, _⟩ => refine (Pipeline.Window.rect_emb_val win0_1 t _ 1).trans ?_; rw [e1]; rfl
  | ⟨2, _⟩ => refine (Pipeline.Window.rect_emb_val win0_1 t _ 2).trans ?_; rw [e2]; show 1 * 1024 + k.val = 1024 + k.val; omega

/-- The skip's weights. -/
theorem blk2 (c : Dev nD) (t : Fin cfg0.N) (n : Fin 1024) : iblk m c 2 t (ix2 0 n) = m ((c : Thread nD τ).loc main_arg2) (ix1 n) := by
  refine Eq.trans ?_ (V_v0 m c (ix2 0 n))
  show V m c (Pipeline.arrRef spec0 2) ((win0_2.rect t).emb (ix2 0 n)) = _
  refine congrArg _ (funext fun a => Fin.ext ?_)
  obtain ⟨e0, e1⟩ := index2 t
  match a with
  | ⟨0, _⟩ => refine (Pipeline.Window.rect_emb_val win0_2 t (ix2 0 n) 0).trans ?_; rw [e0]; rfl
  | ⟨1, _⟩ => refine (Pipeline.Window.rect_emb_val win0_2 t (ix2 0 n) 1).trans ?_; rw [e1]; show 0 * 1024 + n.val = n.val; omega

/-- The gate's weights: layer 0. -/
theorem blk3 (c : Dev nD) (t : Fin cfg0.N) (k n : Fin 1024) : iblk m c 3 t (ix3 0 k n) = m ((c : Thread nD τ).loc main_arg3) (ix3 (0 : Fin 2) k n) := by
  refine Eq.trans ?_ (V_v1 m c _)
  show V m c (Pipeline.arrRef spec0 3) ((win0_3.rect t).emb (ix3 0 k n)) = _
  refine congrArg _ (funext fun a => Fin.ext ?_)
  obtain ⟨e0, e1, e2⟩ := index3 t
  match a with
  | ⟨0, _⟩ => refine (Pipeline.Window.rect_emb_val win0_3 t (ix3 0 k n) 0).trans ?_; rw [e0]; rfl
  | ⟨1, _⟩ => refine (Pipeline.Window.rect_emb_val win0_3 t (ix3 0 k n) 1).trans ?_; rw [e1]; show 0 * 1024 + k.val = k.val; omega
  | ⟨2, _⟩ => refine (Pipeline.Window.rect_emb_val win0_3 t (ix3 0 k n) 2).trans ?_; rw [e2]; show 0 * 1024 + n.val = n.val; omega

/-- The gate's bias. -/
theorem blk4 (c : Dev nD) (t : Fin cfg0.N) (n : Fin 1024) : iblk m c 4 t (ix2 0 n) = m ((c : Thread nD τ).loc main_arg4) (ix1 n) := by
  refine Eq.trans ?_ (V_v2 m c (ix2 0 n))
  show V m c (Pipeline.arrRef spec0 4) ((win0_4.rect t).emb (ix2 0 n)) = _
  refine congrArg _ (funext fun a => Fin.ext ?_)
  obtain ⟨e0, e1⟩ := index4 t
  match a with
  | ⟨0, _⟩ => refine (Pipeline.Window.rect_emb_val win0_4 t (ix2 0 n) 0).trans ?_; rw [e0]; rfl
  | ⟨1, _⟩ => refine (Pipeline.Window.rect_emb_val win0_4 t (ix2 0 n) 1).trans ?_; rw [e1]; show 0 * 1024 + n.val = n.val; omega

/-! ## What a point writes back -/

/-- The launch contents' gated linear unit. -/
abbrev gluOf (c : Dev nD) : FVec Ideal S8x2048x1024 .bf16 :=
  glu (m ((c : Thread nD τ).loc main_arg0)) (m ((c : Thread nD τ).loc main_arg1)) (m ((c : Thread nD τ).loc main_arg2))
    (m ((c : Thread nD τ).loc main_arg3)) (m ((c : Thread nD τ).loc main_arg4))

/-- A block's activation is the whole arrays' at its rows. -/
theorem act_eq (c : Dev nD) (t : Fin cfg0.N) (r : Fin 512) (k : Fin 1024) : actB (iblk m c 0 t) (X0_1 m c t) (iblk m c 2 t) r k
    = act (m ((c : Thread nD τ).loc main_arg0)) (m ((c : Thread nD τ).loc main_arg1)) (m ((c : Thread nD τ).loc main_arg2))
      (⟨t.val / 4, by have := lt_N t; omega⟩ : Fin 8) (⟨t.val % 4 * 512 + r.val, by omega⟩ : Fin 2048) k := by
  unfold actB act
  exact congrArg gelu (congrArg₂ (fun a b : EReal => a + b) (blk0 m c t r k) (congrArg₂ (fun a b : EReal => a * b) (blk2 m c t k) (blk1 m c t r k)))

/-- What point `t` writes back is its block of the gated linear unit. -/
theorem flushed5_eq (c : Dev nD) (t : Fin cfg0.N) :
    (dats m 0 c).flushed 5 t = (win0_5.blk t).view.read (Elt Ideal) (gluOf m c) := by
  rw [Value.flushed5_A, out_block]
  show (fun j : S1x512x1024.Idx => k0_pay1 (F := Ideal) (iblk m c 0 t) (iblk m c 2 t) (X0_1 m c t) (iblk m c 3 t) (iblk m c 4 t) j)
    = fun j : S1x512x1024.Idx => gluOf m c ((win0_5.rect t).emb j)
  funext j
  obtain ⟨u, r, n, rfl⟩ : ∃ u r n, j = ix3 (n0 := 1) (n1 := 512) (n2 := 1024) u r n := ⟨_, _, _, eq_ix3 j⟩
  refine (pay_apply _ _ _ _ _ u r n).trans ?_
  obtain ⟨e0, e1, e2⟩ := index5 t
  refine Eq.trans ?_ (glu_at _ _ _ _ _ _ (⟨t.val / 4, by have := lt_N t; omega⟩ : Fin 8) (⟨t.val % 4 * 512 + r.val, by omega⟩ : Fin 2048) n ?_ ?_ ?_).symm
  · unfold gluAt
    exact congrArg₂ (fun a b : EReal => a * b) (act_eq m c t r n) (congrArg Ideal.logistic (congrArg₂ (fun a b : EReal => a + b)
      (Finset.sum_congr rfl fun k _ => congrArg₂ (fun a b : EReal => a * b) (act_eq m c t r k) (blk3 m c t k n)) (blk4 m c t n)))
  · refine (Pipeline.Window.rect_emb_val win0_5 t (ix3 u r n) 0).trans ?_; rw [e0]; show _ * 1 + u.val = t.val / 4; omega
  · refine (Pipeline.Window.rect_emb_val win0_5 t (ix3 u r n) 1).trans ?_; rw [e1]; rfl
  · refine (Pipeline.Window.rect_emb_val win0_5 t (ix3 u r n) 2).trans ?_; rw [e2]; show 0 * 1024 + n.val = n.val; omega

/-- The blocks tile the result. -/
theorem cover5 (i : S8x2048x1024.Idx) : ∃ t : Fin cfg0.N, (cfg0.win 5).flush t = true ∧ i ∈ ((cfg0.win 5).blk t).view.set := by
  have h0 : (i 0 : Nat) < 8 := (i 0).isLt
  have h1 : (i 1 : Nat) < 2048 := (i 1).isLt
  have h2 : (i 2 : Nat) < 1024 := (i 2).isLt
  have ht : (i 0 : Nat) * 4 + (i 1 : Nat) / 512 < cfg0.N := by have hN : cfg0.N = 8 * 4 := N_0; omega
  refine ⟨⟨_, ht⟩, flush0_5 _, ?_⟩
  show i ∈ ((View.whole main_v3).slice (win0_5.rect ⟨_, ht⟩)).set
  rw [View.set_slice_whole, Rect.mem_set_unit]
  obtain ⟨e0, e1, e2⟩ := index5 ⟨_, ht⟩
  intro a
  match a with
  | ⟨0, _⟩ => show win0_5.index ⟨_, ht⟩ 0 * 1 ≤ (i 0 : Nat) ∧ (i 0 : Nat) < win0_5.index ⟨_, ht⟩ 0 * 1 + 1; rw [e0]; dsimp only; omega
  | ⟨1, _⟩ => show win0_5.index ⟨_, ht⟩ 1 * 512 ≤ (i 1 : Nat) ∧ (i 1 : Nat) < win0_5.index ⟨_, ht⟩ 1 * 512 + 512; rw [e1]; dsimp only; omega
  | ⟨2, _⟩ => show win0_5.index ⟨_, ht⟩ 2 * 1024 ≤ (i 2 : Nat) ∧ (i 2 : Nat) < win0_5.index ⟨_, ht⟩ 2 * 1024 + 1024; rw [e2]; omega

theorem final5 (c : Dev nD) : (dats m 0 c).arrAt 5 cfg0.N = gluOf m c :=
  (dats m 0 c).arrAt_eq_of_cover 5 _ (fun t _ => flushed5_eq m c t) cover5

/-- THE KERNEL'S RUN: its result holds the gated linear unit, and its arguments are as launched. -/
theorem run : θ_run defs (onTc (τ := τ) (main (F := Ideal))) ⟨m, fun _ => 0, ρ⟩ fun r => ∀ c : Dev nD,
      r.2.mem ((c : Thread nD τ).loc main_v3) = gluOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (Value.run_blocks m ρ)

end Cert.GluIdeal.Val

/-! ## The reference -/

namespace Cert.GluRefIdeal.Val

open Cert.GluRefIdeal Cert.GluRefIdeal.Read Cert.GluIdeal.Val

variable (y : FVec Ideal S8x2048x1024 .f32) (p : FVec Ideal S8x2048x4608 .f32) (dk : FVec Ideal S1024 .f32) (w : FVec Ideal S2x1024x1024 .f32)
    (gb : FVec Ideal S1024 .f32)

theorem skip_apply (b : Fin 8) (s : Fin 2048) (k : Fin 1024) : val_main_v4 (F := Ideal) y p dk (ix3 b s k)
    = y (ix3 b s k) + dk (ix1 k) * p (ix3 b s (⟨1024 + k.val, by omega⟩ : Fin 4608)) := by
  pointwise [val_main_v4, val_main_v3, val_main_v2, val_main_v1, val_main_v0]

theorem act_apply (b : Fin 8) (s : Fin 2048) (k : Fin 1024) : val_main_v17 (F := Ideal) y p dk (ix3 b s k) = act y p dk b s k := by
  unfold act gelu
  rw [← skip_apply, mul_comm (val_main_v4 (F := Ideal) y p dk (ix3 b s k) : EReal) (val_main_v4 (F := Ideal) y p dk (ix3 b s k) * val_main_v4 (F := Ideal) y p dk (ix3 b s k) : EReal)]
  pointwise [val_main_v17, val_main_v16, val_main_v15, val_main_v14, val_main_v13, val_main_v12, val_main_v11, val_main_v10, val_main_v9, val_main_v8,
    val_main_v7, val_main_v6, val_main_v5, val_main_cst, val_main_cst_0, val_main_cst_1, val_main_cst_2]

theorem gate_apply (b : Fin 8) (s : Fin 2048) (n : Fin 1024) : val_main_v29 (F := Ideal) y p dk w gb (ix3 b s n)
    = Ideal.logistic ((∑ k : Fin 1024, (val_main_v17 (F := Ideal) y p dk (ix3 b s k) : EReal) * w (ix3 (0 : Fin 2) k n)) + gb (ix1 n)) := by
  pointwise [val_main_v29, val_main_v28, val_main_v27, val_main_v26, val_main_v25, val_main_v24, val_main_v23, val_main_v22, val_main_v21, val_main_v20,
    val_main_v19, val_main_v18, val_main_cst_3, val_main_cst_4]
  rfl

/-- THE REFERENCE'S RESULT is the gated linear unit. -/
theorem result : val_main_v31 (F := Ideal) y p dk w gb = glu y p dk w gb := by
  funext j
  obtain ⟨b, s, n, rfl⟩ : ∃ b s n, j = ix3 (n0 := 8) (n1 := 2048) (n2 := 1024) b s n := ⟨_, _, _, eq_ix3 j⟩
  refine Eq.trans (b := (val_main_v17 (F := Ideal) y p dk (ix3 b s n) : EReal) * val_main_v29 (F := Ideal) y p dk w gb (ix3 b s n)) rfl ?_
  rw [gate_apply, act_apply]
  show _ = gluAt y p dk w gb b s n
  unfold gluAt
  refine congrArg (fun q : EReal => act y p dk b s n * Ideal.logistic (q + gb (ix1 n))) (Finset.sum_congr rfl fun k _ => ?_)
  rw [act_apply]

end Cert.GluRefIdeal.Val

end
-- ==== Proof.GluClaims.lean ====
/-
  LAYER 0'S GATED LINEAR UNIT'S CLAIMS (hand-written): its frames, and that kernel and reference agree at the extended reals.
-/
module

public import proofs.«01_k».proof.Defs
public import proofs.«01_k».proof.Proof.Gen.Glu
public import proofs.«01_k».proof.Proof.Gen.Glu.Frame
public import proofs.«01_k».proof.Proof.Gen.GluIdeal
public import proofs.«01_k».proof.Proof.Gen.GluIdeal.Frame
public import proofs.«01_k».proof.Proof.Gen.GluRefIdeal
public import proofs.«01_k».proof.Proof.Gen.GluRefIdeal.Run
public import proofs.«01_k».proof.Proof.Gen.GluRefIdeal.Read
public import proofs.«01_k».proof.Proof.GluValue
public import Idealize.ShloMosaic.Adequacy
public import Idealize.ShloMosaic.Init

@[expose] public section

set_option maxRecDepth 16384

noncomputable section

open Idealize.ShloMosaic Idealize.ShloMosaic.TcCoe Idealize.SL.Sem

namespace Cert.Glu.Claims

/-- The kernel runs and leaves its arguments as launched. -/
theorem kernel : Cert.quiescent_Glu (hGlu := Cert.Glu.Gen.facts) :=
  fun m ρ _ => Cert.Glu.Gen.frame m ρ

/-- So does the kernel at the extended reals. -/
theorem ideal : Cert.quiescent_GluIdeal (hGluIdeal := Cert.GluIdeal.Gen.facts) :=
  fun m ρ _ => Cert.GluIdeal.Gen.frame m ρ

/-- So does the reference. -/
theorem reference : Cert.quiescent_GluRefIdeal (hGluRefIdeal := Cert.GluRefIdeal.Gen.facts) :=
  fun m ρ _ => (θ_run Cert.GluRefIdeal.defs _ _).mono (fun r h => ⟨fun c => (h c).2,
    Idealize.ShloMosaic.sem_eq_zero_of_no_sems (by decide) r.2⟩) (Cert.GluRefIdeal.Value.run (F := Ideal) m ρ)

/-- Idealizing the kernel replaced nothing. -/
theorem preserves : Cert.preserves_Glu_GluIdeal := trivial

/-- From the same arguments the kernel and its reference leave the same result. -/
theorem value : Cert.algebraic_GluIdeal_GluRefIdeal (hGluIdeal := Cert.GluIdeal.Gen.facts) (hGluRefIdeal := Cert.GluRefIdeal.Gen.facts) := by
  intro m ρ m' ρ' _ hag
  refine ⟨fun c => Cert.GluIdeal.Val.gluOf m c, ?_, ?_⟩
  · exact Cert.GluIdeal.Val.run m ρ
  · refine (θ_run Cert.GluRefIdeal.defs _ _).mono (fun r h c => ?_) (Cert.GluRefIdeal.Value.run (F := Ideal) m' ρ')
    obtain ⟨a0, a1, a2, a3, a4⟩ := hag c
    refine ⟨(h c).1.trans ((Cert.GluRefIdeal.Read.val_main_v31_eq m' c).trans ((Cert.GluRefIdeal.Val.result _ _ _ _ _).trans ?_)), (h c).2⟩
    rw [a0, a1, a2, a3, a4]

end Cert.Glu.Claims

end
-- ==== Proof.GluBValue.lean ====
/-
  LAYER 1'S GATED LINEAR UNIT'S VALUE (hand-written): the kernel `GluBIdeal` leaves in its result the gated linear
  unit (`glu`: at every sequence, position and column the gelu of the branch plus its skip, times the sigmoid of that row's
  gelu times layer 1's weights plus their bias), and its reference `GluBRefIdeal` the same.

  The kernel works at 512 rows of one sequence per point of its grid (8, 4). At the extended reals a change of format is the
  identity and the sums are in the same order; the cube of the gelu is the only place where the two differ, by the order of
  a product.
-/
module

public import proofs.«01_k».proof.Defs
public import proofs.«01_k».proof.Proof.Gen.GluBIdeal.Value
public import proofs.«01_k».proof.Proof.Gen.GluBRefIdeal.Run
public import proofs.«01_k».proof.Proof.Gen.GluBRefIdeal.Read
public import Idealize.ShloMosaic.Lib.Pointwise
public import Idealize.ShloMosaic.Lib.Pipeline.Value
public import Idealize.ShloMosaic.Lib.WholeRead
public import Idealize.ShloMosaic.Lib.Writes
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.GluBIdeal.Val

open Cert.GluBIdeal Cert.GluBIdeal.Gen

/-! ## The result, index by index -/

/-- The gelu, in the tanh form, with the two rounded constants of the source. -/
def gelu (e : EReal) : EReal :=
  e * (Ideal.ofBits .f32 0x3F000000#32 * (Ideal.ofBits .f32 0x3F800000#32 + Ideal.tanh (Ideal.ofBits .f32 0x3F4C422A#32 * (e + Ideal.ofBits .f32 0x3D372713#32 * (e * (e * e))))))

section
variable (y : FVec Ideal S8x2048x1024 .f32) (p : FVec Ideal S8x2048x4608 .f32) (dk : FVec Ideal S1024 .f32) (w : FVec Ideal S2x1024x1024 .f32)
    (gb : FVec Ideal S1024 .f32)

/-- The gelu of the branch plus the skip. -/
def act (b : Fin 8) (s : Fin 2048) (k : Fin 1024) : EReal :=
  gelu (y (ix3 b s k) + dk (ix1 k) * p (ix3 b s (⟨1024 + k.val, by omega⟩ : Fin 4608)))

/-- One entry of the gated linear unit. -/
def gluAt (b : Fin 8) (s : Fin 2048) (n : Fin 1024) : EReal :=
  act y p dk b s n * Ideal.logistic ((∑ k : Fin 1024, act y p dk b s k * w (ix3 (1 : Fin 2) k n)) + gb (ix1 n))

/-- The gated linear unit. -/
def glu : FVec Ideal S8x2048x1024 .bf16 := fun i => gluAt y p dk w gb (i 0) (i 1) (i 2)

/-- It at an index whose coordinates are known. -/
theorem glu_at (i : S8x2048x1024.Idx) (b : Fin 8) (s : Fin 2048) (n : Fin 1024)
    (q0 : (i 0).val = b.val) (q1 : (i 1).val = s.val) (q2 : (i 2).val = n.val) : glu y p dk w gb i = gluAt y p dk w gb b s n := by
  obtain rfl : i 0 = b := Fin.ext q0
  obtain rfl : i 1 = s := Fin.ext q1
  obtain rfl : i 2 = n := Fin.ext q2
  rfl
end

/-! ## The body's block -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer. -/
theorem ld_whole {S : Shape} {e : EltTy} (a : Memref sig .tc .vmem S e) (ha : a.IsWhole) (X : S.Idx → Elt Ideal e) (off : Fin S.rank → Nat)
    (h : off = fun _ => 0) (inb : ∀ q, off q + S.size q ≤ S.size q) :
    View.readAt (Elt Ideal) a.view (Rect.unit (s := S) off S.size inb).toLoadRect (ha.unread X) = X := by
  funext x
  refine (Memref.IsWhole.readAt_unread ha X _ x).trans (congrArg X (funext fun q => Fin.ext ?_))
  refine (Rect.idx_unit_val _ _ inb x q).trans ?_
  subst h
  exact Nat.zero_add _

/-- The block's activation. -/
def actB (x0 x1 : FVec Ideal S1x512x1024 .f32) (x2 : FVec Ideal S1x1024 .f32) (r : Fin 512) (k : Fin 1024) : EReal :=
  gelu (x0 (ix3 0 r k) + x2 (ix2 0 k) * x1 (ix3 0 r k))

theorem pay_apply (x0 x1 : FVec Ideal S1x512x1024 .f32) (x2 : FVec Ideal S1x1024 .f32) (x3 : FVec Ideal S1x1024x1024 .bf16) (x4 : FVec Ideal S1x1024 .f32)
    (u : Fin 1) (r : Fin 512) (n : Fin 1024) :
    k0_pay1 (F := Ideal) x0 x2 x1 x3 x4 (ix3 u r n)
      = actB x0 x1 x2 r n * Ideal.logistic ((∑ k : Fin 1024, actB x0 x1 x2 r k * x3 (ix3 0 k n)) + x4 (ix2 0 n)) := by
  unfold actB gelu
  pointwise [k0_pay1]

theorem out_block (c : Dev nD) (i : grid0.Coords) (arg2 : Memref sig .tc .vmem S1x512x1024 .f32) (harg2 : arg2.IsWhole) (arg3 : Memref sig .tc .vmem S1x512x1024 .f32) (harg3 : arg3.IsWhole)
    (arg4 : Memref sig .tc .vmem S1x1024 .f32) (harg4 : arg4.IsWhole) (arg5 : Memref sig .tc .vmem S1x1024x1024 .bf16) (harg5 : arg5.IsWhole)
    (arg6 : Memref sig .tc .vmem S1x1024 .f32) (harg6 : arg6.IsWhole) (arg7 : Memref sig .tc .vmem S1x512x1024 .bf16) (harg7 : arg7.IsWhole)
    (x0 x1 : Vec Ideal S1x512x1024 .f32) (x2 : Vec Ideal S1x1024 .f32) (x3 : Vec Ideal S1x1024x1024 .bf16) (x4 : Vec Ideal S1x1024 .f32) :
    out0_A_5 (F := Ideal) c i arg2 harg2 arg3 harg3 arg4 harg4 arg5 harg5 arg6 harg6 arg7 harg7 x0 x1 x2 x3 x4 = k0_pay1 (F := Ideal) x0 x2 x1 x3 x4 := by
  funext z
  unfold out0_A_5
  refine View.read_writes_apply_of_pieces (Val := Elt Ideal) _ _ (fun z : S1x512x1024.Idx => k0_pay1 (F := Ideal) x0 x2 x1 x3 x4 z) _ ?_ z
    (cover0_A_5 c i arg2 harg2 arg3 harg3 arg4 harg4 arg5 harg5 arg6 harg6 arg7 harg7 x0 x1 x2 x3 x4 z)
  unfold kernelRun0_A
  dsimp only
  intro q hq
  simp only [List.mem_cons, List.not_mem_nil, or_false] at hq
  subst hq
  intro x
  dsimp only
  have l0 := ld_whole arg2 harg2 x0 _ hz3 inb_S1x512x1024_S1x512x1024_0_0_0
  have l1 := ld_whole arg3 harg3 x1 _ hz3 inb_S1x512x1024_S1x512x1024_0_0_0
  have l2 := ld_whole arg4 harg4 x2 _ hz2 inb_S1x1024_S1x1024_0_0
  have l3 := ld_whole arg5 harg5 x3 _ hz3 inb_S1x1024x1024_S1x1024x1024_0_0_0
  have l4 := ld_whole arg6 harg6 x4 _ hz2 inb_S1x1024_S1x1024_0_0
  refine Eq.trans (b := k0_pay1 (F := Ideal) x0 x2 x1 x3 x4 x) ?_ ?_
  · refine congrFun ?_ x
    refine congr (congr (congr (congr (congrArg (k0_pay1 (F := Ideal)) l0) l2) l1) l3) l4
  · refine congrArg _ (funext fun a => Fin.ext ?_)
    refine Eq.symm ((Rect.idx_unit_val _ _ inb_S1x512x1024_S1x512x1024_0_0_0 x a).trans ?_)
    exact (congrArg (· + (x a).val) (congrFun hz3 a)).trans (Nat.zero_add _)

/-! ## What the windows hold -/

variable (m : (ℓ : Loc nD τ sig) → Buf (Elt Ideal) ℓ) (ρ : Dev nD → PrngReg)

theorem lt_N (t : Fin cfg0.N) : t.val < 8 * 4 := by have hN : cfg0.N = 8 * 4 := N_0; have := t.isLt; omega

/-- The skip's weights, as a row. -/
theorem V_v0 (c : Dev nD) (i : S1x1024.Idx) : V m c main_v0 i = m ((c : Thread nD τ).loc main_arg2) (ix1 (i 1)) := by
  have h : V m c main_v0 = broadcastInDim S1x1024 ![1] bcast_S1024_S1x1024_1 (m ((c : Thread nD τ).loc main_arg2) : FVec Ideal S1024 .f32) := by
    show StableHlo.after hostOps0 (fun b => m (c, b)) (Proc.devRef .tc main_v0) = _
    simp only [hostOps0]
    after_results
  rw [h]
  obtain ⟨u, n, rfl⟩ : ∃ u n, i = ix2 (n0 := 1) (n1 := 1024) u n := ⟨_, _, eq_ix2 i⟩
  generalize m ((c : Thread nD τ).loc main_arg2) = y
  pointwise []

/-- The weights (a change of format is the identity). -/
theorem V_v1 (c : Dev nD) (i : S2x1024x1024.Idx) : V m c main_v1 i = m ((c : Thread nD τ).loc main_arg3) i := by
  have h : V m c main_v1 = truncf (F := Ideal) .bf16 (m ((c : Thread nD τ).loc main_arg3) : FVec Ideal S2x1024x1024 .f32) bitsLt_bf16_f32 := by
    show StableHlo.after hostOps0 (fun b => m (c, b)) (Proc.devRef .tc main_v1) = _
    simp only [hostOps0]
    after_results
  rw [h]; rfl

/-- The bias, as a row. -/
theorem V_v2 (c : Dev nD) (i : S1x1024.Idx) : V m c main_v2 i = m ((c : Thread nD τ).loc main_arg4) (ix1 (i 1)) := by
  have h : V m c main_v2 = broadcastInDim S1x1024 ![1] bcast_S1024_S1x1024_1 (m ((c : Thread nD τ).loc main_arg4) : FVec Ideal S1024 .f32) := by
    show StableHlo.after hostOps0 (fun b => m (c, b)) (Proc.devRef .tc main_v2) = _
    simp only [hostOps0]
    after_results
  rw [h]
  obtain ⟨u, n, rfl⟩ : ∃ u n, i = ix2 (n0 := 1) (n1 := 1024) u n := ⟨_, _, eq_ix2 i⟩
  generalize m ((c : Thread nD τ).loc main_arg4) = y
  pointwise []

theorem index0 : ∀ t : Fin cfg0.N, win0_0.index t 0 = t.val / 4 ∧ win0_0.index t 1 = t.val % 4 ∧ win0_0.index t 2 = 0 :=
  (by decide +kernel : ∀ t : Fin grid0.N, win0_0.index t 0 = t.val / 4 ∧ win0_0.index t 1 = t.val % 4 ∧ win0_0.index t 2 = 0)
theorem index1 : ∀ t : Fin cfg0.N, win0_1.index t 0 = t.val / 4 ∧ win0_1.index t 1 = t.val % 4 ∧ win0_1.index t 2 = 1 :=
  (by decide +kernel : ∀ t : Fin grid0.N, win0_1.index t 0 = t.val / 4 ∧ win0_1.index t 1 = t.val % 4 ∧ win0_1.index t 2 = 1)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 1 ∧ win0_3.index t 1 = 0 ∧ win0_3.index t 2 = 0 :=
  (by decide +kernel : ∀ t : Fin grid0.N, win0_3.index t 0 = 1 ∧ win0_3.index t 1 = 0 ∧ win0_3.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 4 ∧ win0_5.index t 1 = t.val % 4 ∧ win0_5.index t 2 = 0 :=
  (by decide +kernel : ∀ t : Fin grid0.N, win0_5.index t 0 = t.val / 4 ∧ win0_5.index t 1 = t.val % 4 ∧ win0_5.index t 2 = 0)

/-- The branch's block: 512 rows of one sequence. -/
theorem blk0 (c : Dev nD) (t : Fin cfg0.N) (r : Fin 512) (k : Fin 1024) : iblk m c 0 t (ix3 0 r k) = m ((c : Thread nD τ).loc main_arg0)
      (ix3 (⟨t.val / 4, by have := lt_N t; omega⟩ : Fin 8) (⟨t.val % 4 * 512 + r.val, by omega⟩ : Fin 2048) k) := by
  refine Eq.trans ?_ (congrFun (V_main_arg0 m c) _)
  show V m c (Pipeline.arrRef spec0 0) ((win0_0.rect t).emb (ix3 0 r k)) = _
  refine congrArg _ (funext fun a => Fin.ext ?_)
  obtain ⟨e0, e1, e2⟩ := index0 t
  match a with
  | ⟨0, _⟩ => refine (Pipeline.Window.rect_emb_val win0_0 t (ix3 0 r k) 0).trans ?_; rw [e0]; show t.val / 4 * 1 + 0 = t.val / 4; omega
  | ⟨1, _⟩ => refine (Pipeline.Window.rect_emb_val win0_0 t (ix3 0 r k) 1).trans ?_; rw [e1]; rfl
  | ⟨2, _⟩ => refine (Pipeline.Window.rect_emb_val win0_0 t (ix3 0 r k) 2).trans ?_; rw [e2]; show 0 * 1024 + k.val = k.val; omega

/-- The skip's block: the same rows of columns 1024 to 2047 of the projection. -/
theorem blk1 (c : Dev nD) (t : Fin cfg0.N) (r : Fin 512) (k : Fin 1024) : X0_1 m c t (ix3 0 r k) = m ((c : Thread nD τ).loc main_arg1)
      (ix3 (⟨t.val / 4, by have := lt_N t; omega⟩ : Fin 8) (⟨t.val % 4 * 512 + r.val, by omega⟩ : Fin 2048) (⟨1024 + k.val, by omega⟩ : Fin 4608)) := by
  unfold X0_1 Pipeline.Window.fill
  rw [dif_pos (moved0_1 t (ix3 0 r k))]
  show V m c main_arg1 ((win0_1.rect t).emb _) = _
  rw [V_main_arg1 m c]
  refine congrArg _ (funext fun a => Fin.ext ?_)
  obtain ⟨e0, e1, e2⟩ := index1 t
  match a with
  | ⟨0, _⟩ => refine (Pipeline.Window.rect_emb_val win0_1 t _ 0).trans ?_; rw [e0]; show t.val / 4 * 1 + 0 = t.val / 4; omega
  | ⟨1, _⟩ => refine (Pipeline.Window.rect_emb_val win0_1 t _ 1).trans ?_; rw [e1]; rfl
  | ⟨2, _⟩ => refine (Pipeline.Window.rect_emb_val win0_1 t _ 2).trans ?_; rw [e2]; show 1 * 1024 + k.val = 1024 + k.val; omega

/-- The skip's weights. -/
theorem blk2 (c : Dev nD) (t : Fin cfg0.N) (n : Fin 1024) : iblk m c 2 t (ix2 0 n) = m ((c : Thread nD τ).loc main_arg2) (ix1 n) := by
  refine Eq.trans ?_ (V_v0 m c (ix2 0 n))
  show V m c (Pipeline.arrRef spec0 2) ((win0_2.rect t).emb (ix2 0 n)) = _
  refine congrArg _ (funext fun a => Fin.ext ?_)
  obtain ⟨e0, e1⟩ := index2 t
  match a with
  | ⟨0, _⟩ => refine (Pipeline.Window.rect_emb_val win0_2 t (ix2 0 n) 0).trans ?_; rw [e0]; rfl
  | ⟨1, _⟩ => refine (Pipeline.Window.rect_emb_val win0_2 t (ix2 0 n) 1).trans ?_; rw [e1]; show 0 * 1024 + n.val = n.val; omega

/-- The gate's weights: layer 1. -/
theorem blk3 (c : Dev nD) (t : Fin cfg0.N) (k n : Fin 1024) : iblk m c 3 t (ix3 0 k n) = m ((c : Thread nD τ).loc main_arg3) (ix3 (1 : Fin 2) k n) := by
  refine Eq.trans ?_ (V_v1 m c _)
  show V m c (Pipeline.arrRef spec0 3) ((win0_3.rect t).emb (ix3 0 k n)) = _
  refine congrArg _ (funext fun a => Fin.ext ?_)
  obtain ⟨e0, e1, e2⟩ := index3 t
  match a with
  | ⟨0, _⟩ => refine (Pipeline.Window.rect_emb_val win0_3 t (ix3 0 k n) 0).trans ?_; rw [e0]; rfl
  | ⟨1, _⟩ => refine (Pipeline.Window.rect_emb_val win0_3 t (ix3 0 k n) 1).trans ?_; rw [e1]; show 0 * 1024 + k.val = k.val; omega
  | ⟨2, _⟩ => refine (Pipeline.Window.rect_emb_val win0_3 t (ix3 0 k n) 2).trans ?_; rw [e2]; show 0 * 1024 + n.val = n.val; omega

/-- The gate's bias. -/
theorem blk4 (c : Dev nD) (t : Fin cfg0.N) (n : Fin 1024) : iblk m c 4 t (ix2 0 n) = m ((c : Thread nD τ).loc main_arg4) (ix1 n) := by
  refine Eq.trans ?_ (V_v2 m c (ix2 0 n))
  show V m c (Pipeline.arrRef spec0 4) ((win0_4.rect t).emb (ix2 0 n)) = _
  refine congrArg _ (funext fun a => Fin.ext ?_)
  obtain ⟨e0, e1⟩ := index4 t
  match a with
  | ⟨0, _⟩ => refine (Pipeline.Window.rect_emb_val win0_4 t (ix2 0 n) 0).trans ?_; rw [e0]; rfl
  | ⟨1, _⟩ => refine (Pipeline.Window.rect_emb_val win0_4 t (ix2 0 n) 1).trans ?_; rw [e1]; show 0 * 1024 + n.val = n.val; omega

/-! ## What a point writes back -/

/-- The launch contents' gated linear unit. -/
abbrev gluOf (c : Dev nD) : FVec Ideal S8x2048x1024 .bf16 :=
  glu (m ((c : Thread nD τ).loc main_arg0)) (m ((c : Thread nD τ).loc main_arg1)) (m ((c : Thread nD τ).loc main_arg2))
    (m ((c : Thread nD τ).loc main_arg3)) (m ((c : Thread nD τ).loc main_arg4))

/-- A block's activation is the whole arrays' at its rows. -/
theorem act_eq (c : Dev nD) (t : Fin cfg0.N) (r : Fin 512) (k : Fin 1024) : actB (iblk m c 0 t) (X0_1 m c t) (iblk m c 2 t) r k
    = act (m ((c : Thread nD τ).loc main_arg0)) (m ((c : Thread nD τ).loc main_arg1)) (m ((c : Thread nD τ).loc main_arg2))
      (⟨t.val / 4, by have := lt_N t; omega⟩ : Fin 8) (⟨t.val % 4 * 512 + r.val, by omega⟩ : Fin 2048) k := by
  unfold actB act
  exact congrArg gelu (congrArg₂ (fun a b : EReal => a + b) (blk0 m c t r k) (congrArg₂ (fun a b : EReal => a * b) (blk2 m c t k) (blk1 m c t r k)))

/-- What point `t` writes back is its block of the gated linear unit. -/
theorem flushed5_eq (c : Dev nD) (t : Fin cfg0.N) :
    (dats m 0 c).flushed 5 t = (win0_5.blk t).view.read (Elt Ideal) (gluOf m c) := by
  rw [Value.flushed5_A, out_block]
  show (fun j : S1x512x1024.Idx => k0_pay1 (F := Ideal) (iblk m c 0 t) (iblk m c 2 t) (X0_1 m c t) (iblk m c 3 t) (iblk m c 4 t) j)
    = fun j : S1x512x1024.Idx => gluOf m c ((win0_5.rect t).emb j)
  funext j
  obtain ⟨u, r, n, rfl⟩ : ∃ u r n, j = ix3 (n0 := 1) (n1 := 512) (n2 := 1024) u r n := ⟨_, _, _, eq_ix3 j⟩
  refine (pay_apply _ _ _ _ _ u r n).trans ?_
  obtain ⟨e0, e1, e2⟩ := index5 t
  refine Eq.trans ?_ (glu_at _ _ _ _ _ _ (⟨t.val / 4, by have := lt_N t; omega⟩ : Fin 8) (⟨t.val % 4 * 512 + r.val, by omega⟩ : Fin 2048) n ?_ ?_ ?_).symm
  · unfold gluAt
    exact congrArg₂ (fun a b : EReal => a * b) (act_eq m c t r n) (congrArg Ideal.logistic (congrArg₂ (fun a b : EReal => a + b)
      (Finset.sum_congr rfl fun k _ => congrArg₂ (fun a b : EReal => a * b) (act_eq m c t r k) (blk3 m c t k n)) (blk4 m c t n)))
  · refine (Pipeline.Window.rect_emb_val win0_5 t (ix3 u r n) 0).trans ?_; rw [e0]; show _ * 1 + u.val = t.val / 4; omega
  · refine (Pipeline.Window.rect_emb_val win0_5 t (ix3 u r n) 1).trans ?_; rw [e1]; rfl
  · refine (Pipeline.Window.rect_emb_val win0_5 t (ix3 u r n) 2).trans ?_; rw [e2]; show 0 * 1024 + n.val = n.val; omega

/-- The blocks tile the result. -/
theorem cover5 (i : S8x2048x1024.Idx) : ∃ t : Fin cfg0.N, (cfg0.win 5).flush t = true ∧ i ∈ ((cfg0.win 5).blk t).view.set := by
  have h0 : (i 0 : Nat) < 8 := (i 0).isLt
  have h1 : (i 1 : Nat) < 2048 := (i 1).isLt
  have h2 : (i 2 : Nat) < 1024 := (i 2).isLt
  have ht : (i 0 : Nat) * 4 + (i 1 : Nat) / 512 < cfg0.N := by have hN : cfg0.N = 8 * 4 := N_0; omega
  refine ⟨⟨_, ht⟩, flush0_5 _, ?_⟩
  show i ∈ ((View.whole main_v3).slice (win0_5.rect ⟨_, ht⟩)).set
  rw [View.set_slice_whole, Rect.mem_set_unit]
  obtain ⟨e0, e1, e2⟩ := index5 ⟨_, ht⟩
  intro a
  match a with
  | ⟨0, _⟩ => show win0_5.index ⟨_, ht⟩ 0 * 1 ≤ (i 0 : Nat) ∧ (i 0 : Nat) < win0_5.index ⟨_, ht⟩ 0 * 1 + 1; rw [e0]; dsimp only; omega
  | ⟨1, _⟩ => show win0_5.index ⟨_, ht⟩ 1 * 512 ≤ (i 1 : Nat) ∧ (i 1 : Nat) < win0_5.index ⟨_, ht⟩ 1 * 512 + 512; rw [e1]; dsimp only; omega
  | ⟨2, _⟩ => show win0_5.index ⟨_, ht⟩ 2 * 1024 ≤ (i 2 : Nat) ∧ (i 2 : Nat) < win0_5.index ⟨_, ht⟩ 2 * 1024 + 1024; rw [e2]; omega

theorem final5 (c : Dev nD) : (dats m 0 c).arrAt 5 cfg0.N = gluOf m c :=
  (dats m 0 c).arrAt_eq_of_cover 5 _ (fun t _ => flushed5_eq m c t) cover5

/-- THE KERNEL'S RUN: its result holds the gated linear unit, and its arguments are as launched. -/
theorem run : θ_run defs (onTc (τ := τ) (main (F := Ideal))) ⟨m, fun _ => 0, ρ⟩ fun r => ∀ c : Dev nD,
      r.2.mem ((c : Thread nD τ).loc main_v3) = gluOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (Value.run_blocks m ρ)

end Cert.GluBIdeal.Val

/-! ## The reference -/

namespace Cert.GluBRefIdeal.Val

open Cert.GluBRefIdeal Cert.GluBRefIdeal.Read Cert.GluBIdeal.Val

variable (y : FVec Ideal S8x2048x1024 .f32) (p : FVec Ideal S8x2048x4608 .f32) (dk : FVec Ideal S1024 .f32) (w : FVec Ideal S2x1024x1024 .f32)
    (gb : FVec Ideal S1024 .f32)

theorem skip_apply (b : Fin 8) (s : Fin 2048) (k : Fin 1024) : val_main_v4 (F := Ideal) y p dk (ix3 b s k)
    = y (ix3 b s k) + dk (ix1 k) * p (ix3 b s (⟨1024 + k.val, by omega⟩ : Fin 4608)) := by
  pointwise [val_main_v4, val_main_v3, val_main_v2, val_main_v1, val_main_v0]

theorem act_apply (b : Fin 8) (s : Fin 2048) (k : Fin 1024) : val_main_v17 (F := Ideal) y p dk (ix3 b s k) = act y p dk b s k := by
  unfold act gelu
  rw [← skip_apply, mul_comm (val_main_v4 (F := Ideal) y p dk (ix3 b s k) : EReal) (val_main_v4 (F := Ideal) y p dk (ix3 b s k) * val_main_v4 (F := Ideal) y p dk (ix3 b s k) : EReal)]
  pointwise [val_main_v17, val_main_v16, val_main_v15, val_main_v14, val_main_v13, val_main_v12, val_main_v11, val_main_v10, val_main_v9, val_main_v8,
    val_main_v7, val_main_v6, val_main_v5, val_main_cst, val_main_cst_0, val_main_cst_1, val_main_cst_2]

theorem gate_apply (b : Fin 8) (s : Fin 2048) (n : Fin 1024) : val_main_v29 (F := Ideal) y p dk w gb (ix3 b s n)
    = Ideal.logistic ((∑ k : Fin 1024, (val_main_v17 (F := Ideal) y p dk (ix3 b s k) : EReal) * w (ix3 (1 : Fin 2) k n)) + gb (ix1 n)) := by
  pointwise [val_main_v29, val_main_v28, val_main_v27, val_main_v26, val_main_v25, val_main_v24, val_main_v23, val_main_v22, val_main_v21, val_main_v20,
    val_main_v19, val_main_v18, val_main_cst_3, val_main_cst_4]
  rfl

/-- THE REFERENCE'S RESULT is the gated linear unit. -/
theorem result : val_main_v31 (F := Ideal) y p dk w gb = glu y p dk w gb := by
  funext j
  obtain ⟨b, s, n, rfl⟩ : ∃ b s n, j = ix3 (n0 := 8) (n1 := 2048) (n2 := 1024) b s n := ⟨_, _, _, eq_ix3 j⟩
  refine Eq.trans (b := (val_main_v17 (F := Ideal) y p dk (ix3 b s n) : EReal) * val_main_v29 (F := Ideal) y p dk w gb (ix3 b s n)) rfl ?_
  rw [gate_apply, act_apply]
  show _ = gluAt y p dk w gb b s n
  unfold gluAt
  refine congrArg (fun q : EReal => act y p dk b s n * Ideal.logistic (q + gb (ix1 n))) (Finset.sum_congr rfl fun k _ => ?_)
  rw [act_apply]

end Cert.GluBRefIdeal.Val

end
-- ==== Proof.GluBClaims.lean ====
/-
  LAYER 1'S GATED LINEAR UNIT'S CLAIMS (hand-written): its frames, and that kernel and reference agree at the extended reals.
-/
module

public import proofs.«01_k».proof.Defs
public import proofs.«01_k».proof.Proof.Gen.GluB
public import proofs.«01_k».proof.Proof.Gen.GluB.Frame
public import proofs.«01_k».proof.Proof.Gen.GluBIdeal
public import proofs.«01_k».proof.Proof.Gen.GluBIdeal.Frame
public import proofs.«01_k».proof.Proof.Gen.GluBRefIdeal
public import proofs.«01_k».proof.Proof.Gen.GluBRefIdeal.Run
public import proofs.«01_k».proof.Proof.Gen.GluBRefIdeal.Read
public import proofs.«01_k».proof.Proof.GluBValue
public import Idealize.ShloMosaic.Adequacy
public import Idealize.ShloMosaic.Init

@[expose] public section

set_option maxRecDepth 16384

noncomputable section

open Idealize.ShloMosaic Idealize.ShloMosaic.TcCoe Idealize.SL.Sem

namespace Cert.GluB.Claims

/-- The kernel runs and leaves its arguments as launched. -/
theorem kernel : Cert.quiescent_GluB (hGluB := Cert.GluB.Gen.facts) :=
  fun m ρ _ => Cert.GluB.Gen.frame m ρ

/-- So does the kernel at the extended reals. -/
theorem ideal : Cert.quiescent_GluBIdeal (hGluBIdeal := Cert.GluBIdeal.Gen.facts) :=
  fun m ρ _ => Cert.GluBIdeal.Gen.frame m ρ

/-- So does the reference. -/
theorem reference : Cert.quiescent_GluBRefIdeal (hGluBRefIdeal := Cert.GluBRefIdeal.Gen.facts) :=
  fun m ρ _ => (θ_run Cert.GluBRefIdeal.defs _ _).mono (fun r h => ⟨fun c => (h c).2,
    Idealize.ShloMosaic.sem_eq_zero_of_no_sems (by decide) r.2⟩) (Cert.GluBRefIdeal.Value.run (F := Ideal) m ρ)

/-- Idealizing the kernel replaced nothing. -/
theorem preserves : Cert.preserves_GluB_GluBIdeal := trivial

/-- From the same arguments the kernel and its reference leave the same result. -/
theorem value : Cert.algebraic_GluBIdeal_GluBRefIdeal (hGluBIdeal := Cert.GluBIdeal.Gen.facts) (hGluBRefIdeal := Cert.GluBRefIdeal.Gen.facts) := by
  intro m ρ m' ρ' _ hag
  refine ⟨fun c => Cert.GluBIdeal.Val.gluOf m c, ?_, ?_⟩
  · exact Cert.GluBIdeal.Val.run m ρ
  · refine (θ_run Cert.GluBRefIdeal.defs _ _).mono (fun r h c => ?_) (Cert.GluBRefIdeal.Value.run (F := Ideal) m' ρ')
    obtain ⟨a0, a1, a2, a3, a4⟩ := hag c
    refine ⟨(h c).1.trans ((Cert.GluBRefIdeal.Read.val_main_v31_eq m' c).trans ((Cert.GluBRefIdeal.Val.result _ _ _ _ _).trans ?_)), (h c).2⟩
    rw [a0, a1, a2, a3, a4]

end Cert.GluB.Claims

end
-- ==== Proof.GluCValue.lean ====
/-
  THE CONTEXT'S GATED LINEAR UNIT'S VALUE (hand-written): the kernel `GluCIdeal` leaves in its result the gated linear
  unit (`glu`: at every sequence, position and column the gelu of the branch plus its skip, times the sigmoid of that row's
  gelu times layer 0's weights plus their bias), and its reference `GluCRefIdeal` the same.

  The kernel works at 256 rows of one sequence per point of its grid (8, 1). At the extended reals a change of format is the
  identity and the sums are in the same order; the cube of the gelu is the only place where the two differ, by the order of
  a product.
-/
module

public import proofs.«01_k».proof.Defs
public import proofs.«01_k».proof.Proof.Gen.GluCIdeal.Value
public import proofs.«01_k».proof.Proof.Gen.GluCRefIdeal.Run
public import proofs.«01_k».proof.Proof.Gen.GluCRefIdeal.Read
public import Idealize.ShloMosaic.Lib.Pointwise
public import Idealize.ShloMosaic.Lib.Pipeline.Value
public import Idealize.ShloMosaic.Lib.WholeRead
public import Idealize.ShloMosaic.Lib.Writes
public import Idealize.ShloMosaic.Lib.Pipeline.ValueKit.Tiles

@[expose] public section

set_option maxRecDepth 16384

noncomputable section

open Idealize.ShloMosaic Idealize.ShloMosaic.TcCoe Idealize.SL.Sem
open Idealize.ShloMosaic.Pipeline (Dat)

namespace Cert.GluCIdeal.Val

open Cert.GluCIdeal Cert.GluCIdeal.Gen

/-! ## The result, index by index -/

/-- The gelu, in the tanh form, with the two rounded constants of the source. -/
def gelu (e : EReal) : EReal :=
  e * (Ideal.ofBits .f32 0x3F000000#32 * (Ideal.ofBits .f32 0x3F800000#32 + Ideal.tanh (Ideal.ofBits .f32 0x3F4C422A#32 * (e + Ideal.ofBits .f32 0x3D372713#32 * (e * (e * e))))))

section
variable (y : FVec Ideal S8x256x1024 .f32) (p : FVec Ideal S8x256x4608 .f32) (dk : FVec Ideal S1024 .f32) (w : FVec Ideal S2x1024x1024 .f32)
    (gb : FVec Ideal S1024 .f32)

/-- The gelu of the branch plus the skip. -/
def act (b : Fin 8) (s : Fin 256) (k : Fin 1024) : EReal :=
  gelu (y (ix3 b s k) + dk (ix1 k) * p (ix3 b s (⟨1024 + k.val, by omega⟩ : Fin 4608)))

/-- One entry of the gated linear unit. -/
def gluAt (b : Fin 8) (s : Fin 256) (n : Fin 1024) : EReal :=
  act y p dk b s n * Ideal.logistic ((∑ k : Fin 1024, act y p dk b s k * w (ix3 (0 : Fin 2) k n)) + gb (ix1 n))

/-- The gated linear unit. -/
def glu : FVec Ideal S8x256x1024 .bf16 := fun i => gluAt y p dk w gb (i 0) (i 1) (i 2)

/-- It at an index whose coordinates are known. -/
theorem glu_at (i : S8x256x1024.Idx) (b : Fin 8) (s : Fin 256) (n : Fin 1024)
    (q0 : (i 0).val = b.val) (q1 : (i 1).val = s.val) (q2 : (i 2).val = n.val) : glu y p dk w gb i = gluAt y p dk w gb b s n := by
  obtain rfl : i 0 = b := Fin.ext q0
  obtain rfl : i 1 = s := Fin.ext q1
  obtain rfl : i 2 = n := Fin.ext q2
  rfl
end

/-! ## The body's block -/

theorem hz3 : (![0, 0, 0] : Fin 3 → Nat) = fun _ => 0 := funext fun a => by fin_cases a <;> rfl
theorem hz2 : (![0, 0] : Fin 2 → Nat) = fun _ => 0 := funext fun a => by fin_cases a <;> rfl

/-- A load of a whole buffer. -/
theorem ld_whole {S : Shape} {e : EltTy} (a : Memref sig .tc .vmem S e) (ha : a.IsWhole) (X : S.Idx → Elt Ideal e) (off : Fin S.rank → Nat)
    (h : off = fun _ => 0) (inb : ∀ q, off q + S.size q ≤ S.size q) :
    View.readAt (Elt Ideal) a.view (Rect.unit (s := S) off S.size inb).toLoadRect (ha.unread X) = X := by
  funext x
  refine (Memref.IsWhole.readAt_unread ha X _ x).trans (congrArg X (funext fun q => Fin.ext ?_))
  refine (Rect.idx_unit_val _ _ inb x q).trans ?_
  subst h
  exact Nat.zero_add _

/-- The block's activation. -/
def actB (x0 x1 : FVec Ideal S1x256x1024 .f32) (x2 : FVec Ideal S1x1024 .f32) (r : Fin 256) (k : Fin 1024) : EReal :=
  gelu (x0 (ix3 0 r k) + x2 (ix2 0 k) * x1 (ix3 0 r k))

theorem pay_apply (x0 x1 : FVec Ideal S1x256x1024 .f32) (x2 : FVec Ideal S1x1024 .f32) (x3 : FVec Ideal S1x1024x1024 .bf16) (x4 : FVec Ideal S1x1024 .f32)
    (u : Fin 1) (r : Fin 256) (n : Fin 1024) :
    k0_pay1 (F := Ideal) x0 x2 x1 x3 x4 (ix3 u r n)
      = actB x0 x1 x2 r n * Ideal.logistic ((∑ k : Fin 1024, actB x0 x1 x2 r k * x3 (ix3 0 k n)) + x4 (ix2 0 n)) := by
  unfold actB gelu
  pointwise [k0_pay1]

theorem out_block (c : Dev nD) (i : grid0.Coords) (arg2 : Memref sig .tc .vmem S1x256x1024 .f32) (harg2 : arg2.IsWhole) (arg3 : Memref sig .tc .vmem S1x256x1024 .f32) (harg3 : arg3.IsWhole)
    (arg4 : Memref sig .tc .vmem S1x1024 .f32) (harg4 : arg4.IsWhole) (arg5 : Memref sig .tc .vmem S1x1024x1024 .bf16) (harg5 : arg5.IsWhole)
    (arg6 : Memref sig .tc .vmem S1x1024 .f32) (harg6 : arg6.IsWhole) (arg7 : Memref sig .tc .vmem S1x256x1024 .bf16) (harg7 : arg7.IsWhole)
    (x0 x1 : Vec Ideal S1x256x1024 .f32) (x2 : Vec Ideal S1x1024 .f32) (x3 : Vec Ideal S1x1024x1024 .bf16) (x4 : Vec Ideal S1x1024 .f32) :
    out0_A_5 (F := Ideal) c i arg2 harg2 arg3 harg3 arg4 harg4 arg5 harg5 arg6 harg6 arg7 harg7 x0 x1 x2 x3 x4 = k0_pay1 (F := Ideal) x0 x2 x1 x3 x4 := by
  funext z
  unfold out0_A_5
  refine View.read_writes_apply_of_pieces (Val := Elt Ideal) _ _ (fun z : S1x256x1024.Idx => k0_pay1 (F := Ideal) x0 x2 x1 x3 x4 z) _ ?_ z
    (cover0_A_5 c i arg2 harg2 arg3 harg3 arg4 harg4 arg5 harg5 arg6 harg6 arg7 harg7 x0 x1 x2 x3 x4 z)
  unfold kernelRun0_A
  dsimp only
  intro q hq
  simp only [List.mem_cons, List.not_mem_nil, or_false] at hq
  subst hq
  intro x
  dsimp only
  have l0 := ld_whole arg2 harg2 x0 _ hz3 inb_S1x256x1024_S1x256x1024_0_0_0
  have l1 := ld_whole arg3 harg3 x1 _ hz3 inb_S1x256x1024_S1x256x1024_0_0_0
  have l2 := ld_whole arg4 harg4 x2 _ hz2 inb_S1x1024_S1x1024_0_0
  have l3 := ld_whole arg5 harg5 x3 _ hz3 inb_S1x1024x1024_S1x1024x1024_0_0_0
  have l4 := ld_whole arg6 harg6 x4 _ hz2 inb_S1x1024_S1x1024_0_0
  refine Eq.trans (b := k0_pay1 (F := Ideal) x0 x2 x1 x3 x4 x) ?_ ?_
  · refine congrFun ?_ x
    refine congr (congr (congr (congr (congrArg (k0_pay1 (F := Ideal)) l0) l2) l1) l3) l4
  · refine congrArg _ (funext fun a => Fin.ext ?_)
    refine Eq.symm ((Rect.idx_unit_val _ _ inb_S1x256x1024_S1x256x1024_0_0_0 x a).trans ?_)
    exact (congrArg (· + (x a).val) (congrFun hz3 a)).trans (Nat.zero_add _)

/-! ## What the windows hold -/

variable (m : (ℓ : Loc nD τ sig) → Buf (Elt Ideal) ℓ) (ρ : Dev nD → PrngReg)

theorem lt_N (t : Fin cfg0.N) : t.val < 8 * 1 := by have hN : cfg0.N = 8 * 1 := N_0; have := t.isLt; omega

/-- The skip's weights, as a row. -/
theorem V_v0 (c : Dev nD) (i : S1x1024.Idx) : V m c main_v0 i = m ((c : Thread nD τ).loc main_arg2) (ix1 (i 1)) := by
  have h : V m c main_v0 = broadcastInDim S1x1024 ![1] bcast_S1024_S1x1024_1 (m ((c : Thread nD τ).loc main_arg2) : FVec Ideal S1024 .f32) := by
    show StableHlo.after hostOps0 (fun b => m (c, b)) (Proc.devRef .tc main_v0) = _
    simp only [hostOps0]
    after_results
  rw [h]
  obtain ⟨u, n, rfl⟩ : ∃ u n, i = ix2 (n0 := 1) (n1 := 1024) u n := ⟨_, _, eq_ix2 i⟩
  generalize m ((c : Thread nD τ).loc main_arg2) = y
  pointwise []

/-- The weights (a change of format is the identity). -/
theorem V_v1 (c : Dev nD) (i : S2x1024x1024.Idx) : V m c main_v1 i = m ((c : Thread nD τ).loc main_arg3) i := by
  have h : V m c main_v1 = truncf (F := Ideal) .bf16 (m ((c : Thread nD τ).loc main_arg3) : FVec Ideal S2x1024x1024 .f32) bitsLt_bf16_f32 := by
    show StableHlo.after hostOps0 (fun b => m (c, b)) (Proc.devRef .tc main_v1) = _
    simp only [hostOps0]
    after_results
  rw [h]; rfl

/-- The bias, as a row. -/
theorem V_v2 (c : Dev nD) (i : S1x1024.Idx) : V m c main_v2 i = m ((c : Thread nD τ).loc main_arg4) (ix1 (i 1)) := by
  have h : V m c main_v2 = broadcastInDim S1x1024 ![1] bcast_S1024_S1x1024_1 (m ((c : Thread nD τ).loc main_arg4) : FVec Ideal S1024 .f32) := by
    show StableHlo.after hostOps0 (fun b => m (c, b)) (Proc.devRef .tc main_v2) = _
    simp only [hostOps0]
    after_results
  rw [h]
  obtain ⟨u, n, rfl⟩ : ∃ u n, i = ix2 (n0 := 1) (n1 := 1024) u n := ⟨_, _, eq_ix2 i⟩
  generalize m ((c : Thread nD τ).loc main_arg4) = y
  pointwise []

theorem index0 : ∀ t : Fin cfg0.N, win0_0.index t 0 = t.val / 1 ∧ win0_0.index t 1 = t.val % 1 ∧ win0_0.index t 2 = 0 :=
  (by decide +kernel : ∀ t : Fin grid0.N, win0_0.index t 0 = t.val / 1 ∧ win0_0.index t 1 = t.val % 1 ∧ win0_0.index t 2 = 0)
theorem index1 : ∀ t : Fin cfg0.N, win0_1.index t 0 = t.val / 1 ∧ win0_1.index t 1 = t.val % 1 ∧ win0_1.index t 2 = 1 :=
  (by decide +kernel : ∀ t : Fin grid0.N, win0_1.index t 0 = t.val / 1 ∧ win0_1.index t 1 = t.val % 1 ∧ win0_1.index t 2 = 1)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = t.val / 1 ∧ win0_5.index t 1 = t.val % 1 ∧ win0_5.index t 2 = 0 :=
  (by decide +kernel : ∀ t : Fin grid0.N, win0_5.index t 0 = t.val / 1 ∧ win0_5.index t 1 = t.val % 1 ∧ win0_5.index t 2 = 0)

/-- The branch's block: 256 rows of one sequence. -/
theorem blk0 (c : Dev nD) (t : Fin cfg0.N) (r : Fin 256) (k : Fin 1024) : iblk m c 0 t (ix3 0 r k) = m ((c : Thread nD τ).loc main_arg0)
      (ix3 (⟨t.val / 1, by have := lt_N t; omega⟩ : Fin 8) (⟨t.val % 1 * 256 + r.val, by omega⟩ : Fin 256) k) := by
  refine Eq.trans ?_ (congrFun (V_main_arg0 m c) _)
  show V m c (Pipeline.arrRef spec0 0) ((win0_0.rect t).emb (ix3 0 r k)) = _
  refine congrArg _ (funext fun a => Fin.ext ?_)
  obtain ⟨e0, e1, e2⟩ := index0 t
  match a with
  | ⟨0, _⟩ => refine (Pipeline.Window.rect_emb_val win0_0 t (ix3 0 r k) 0).trans ?_; rw [e0]; show t.val / 1 * 1 + 0 = t.val / 1; omega
  | ⟨1, _⟩ => refine (Pipeline.Window.rect_emb_val win0_0 t (ix3 0 r k) 1).trans ?_; rw [e1]; rfl
  | ⟨2, _⟩ => refine (Pipeline.Window.rect_emb_val win0_0 t (ix3 0 r k) 2).trans ?_; rw [e2]; show 0 * 1024 + k.val = k.val; omega

/-- The skip's block: the same rows of columns 1024 to 2047 of the projection. -/
theorem blk1 (c : Dev nD) (t : Fin cfg0.N) (r : Fin 256) (k : Fin 1024) : X0_1 m c t (ix3 0 r k) = m ((c : Thread nD τ).loc main_arg1)
      (ix3 (⟨t.val / 1, by have := lt_N t; omega⟩ : Fin 8) (⟨t.val % 1 * 256 + r.val, by omega⟩ : Fin 256) (⟨1024 + k.val, by omega⟩ : Fin 4608)) := by
  unfold X0_1 Pipeline.Window.fill
  rw [dif_pos (moved0_1 t (ix3 0 r k))]
  show V m c main_arg1 ((win0_1.rect t).emb _) = _
  rw [V_main_arg1 m c]
  refine congrArg _ (funext fun a => Fin.ext ?_)
  obtain ⟨e0, e1, e2⟩ := index1 t
  match a with
  | ⟨0, _⟩ => refine (Pipeline.Window.rect_emb_val win0_1 t _ 0).trans ?_; rw [e0]; show t.val / 1 * 1 + 0 = t.val / 1; omega
  | ⟨1, _⟩ => refine (Pipeline.Window.rect_emb_val win0_1 t _ 1).trans ?_; rw [e1]; rfl
  | ⟨2, _⟩ => refine (Pipeline.Window.rect_emb_val win0_1 t _ 2).trans ?_; rw [e2]; show 1 * 1024 + k.val = 1024 + k.val; omega

/-- The skip's weights. -/
theorem blk2 (c : Dev nD) (t : Fin cfg0.N) (n : Fin 1024) : iblk m c 2 t (ix2 0 n) = m ((c : Thread nD τ).loc main_arg2) (ix1 n) := by
  refine Eq.trans ?_ (V_v0 m c (ix2 0 n))
  show V m c (Pipeline.arrRef spec0 2) ((win0_2.rect t).emb (ix2 0 n)) = _
  refine congrArg _ (funext fun a => Fin.ext ?_)
  obtain ⟨e0, e1⟩ := index2 t
  match a with
  | ⟨0, _⟩ => refine (Pipeline.Window.rect_emb_val win0_2 t (ix2 0 n) 0).trans ?_; rw [e0]; rfl
  | ⟨1, _⟩ => refine (Pipeline.Window.rect_emb_val win0_2 t (ix2 0 n) 1).trans ?_; rw [e1]; show 0 * 1024 + n.val = n.val; omega

/-- The gate's weights: layer 0. -/
theorem blk3 (c : Dev nD) (t : Fin cfg0.N) (k n : Fin 1024) : iblk m c 3 t (ix3 0 k n) = m ((c : Thread nD τ).loc main_arg3) (ix3 (0 : Fin 2) k n) := by
  refine Eq.trans ?_ (V_v1 m c _)
  show V m c (Pipeline.arrRef spec0 3) ((win0_3.rect t).emb (ix3 0 k n)) = _
  refine congrArg _ (funext fun a => Fin.ext ?_)
  obtain ⟨e0, e1, e2⟩ := index3 t
  match a with
  | ⟨0, _⟩ => refine (Pipeline.Window.rect_emb_val win0_3 t (ix3 0 k n) 0).trans ?_; rw [e0]; rfl
  | ⟨1, _⟩ => refine (Pipeline.Window.rect_emb_val win0_3 t (ix3 0 k n) 1).trans ?_; rw [e1]; show 0 * 1024 + k.val = k.val; omega
  | ⟨2, _⟩ => refine (Pipeline.Window.rect_emb_val win0_3 t (ix3 0 k n) 2).trans ?_; rw [e2]; show 0 * 1024 + n.val = n.val; omega

/-- The gate's bias. -/
theorem blk4 (c : Dev nD) (t : Fin cfg0.N) (n : Fin 1024) : iblk m c 4 t (ix2 0 n) = m ((c : Thread nD τ).loc main_arg4) (ix1 n) := by
  refine Eq.trans ?_ (V_v2 m c (ix2 0 n))
  show V m c (Pipeline.arrRef spec0 4) ((win0_4.rect t).emb (ix2 0 n)) = _
  refine congrArg _ (funext fun a => Fin.ext ?_)
  obtain ⟨e0, e1⟩ := index4 t
  match a with
  | ⟨0, _⟩ => refine (Pipeline.Window.rect_emb_val win0_4 t (ix2 0 n) 0).trans ?_; rw [e0]; rfl
  | ⟨1, _⟩ => refine (Pipeline.Window.rect_emb_val win0_4 t (ix2 0 n) 1).trans ?_; rw [e1]; show 0 * 1024 + n.val = n.val; omega

/-! ## What a point writes back -/

/-- The launch contents' gated linear unit. -/
abbrev gluOf (c : Dev nD) : FVec Ideal S8x256x1024 .bf16 :=
  glu (m ((c : Thread nD τ).loc main_arg0)) (m ((c : Thread nD τ).loc main_arg1)) (m ((c : Thread nD τ).loc main_arg2))
    (m ((c : Thread nD τ).loc main_arg3)) (m ((c : Thread nD τ).loc main_arg4))

/-- A block's activation is the whole arrays' at its rows. -/
theorem act_eq (c : Dev nD) (t : Fin cfg0.N) (r : Fin 256) (k : Fin 1024) : actB (iblk m c 0 t) (X0_1 m c t) (iblk m c 2 t) r k
    = act (m ((c : Thread nD τ).loc main_arg0)) (m ((c : Thread nD τ).loc main_arg1)) (m ((c : Thread nD τ).loc main_arg2))
      (⟨t.val / 1, by have := lt_N t; omega⟩ : Fin 8) (⟨t.val % 1 * 256 + r.val, by omega⟩ : Fin 256) k := by
  unfold actB act
  exact congrArg gelu (congrArg₂ (fun a b : EReal => a + b) (blk0 m c t r k) (congrArg₂ (fun a b : EReal => a * b) (blk2 m c t k) (blk1 m c t r k)))

/-- What point `t` writes back is its block of the gated linear unit. -/
theorem flushed5_eq (c : Dev nD) (t : Fin cfg0.N) :
    (dats m 0 c).flushed 5 t = (win0_5.blk t).view.read (Elt Ideal) (gluOf m c) := by
  rw [Value.flushed5_A, out_block]
  show (fun j : S1x256x1024.Idx => k0_pay1 (F := Ideal) (iblk m c 0 t) (iblk m c 2 t) (X0_1 m c t) (iblk m c 3 t) (iblk m c 4 t) j)
    = fun j : S1x256x1024.Idx => gluOf m c ((win0_5.rect t).emb j)
  funext j
  obtain ⟨u, r, n, rfl⟩ : ∃ u r n, j = ix3 (n0 := 1) (n1 := 256) (n2 := 1024) u r n := ⟨_, _, _, eq_ix3 j⟩
  refine (pay_apply _ _ _ _ _ u r n).trans ?_
  obtain ⟨e0, e1, e2⟩ := index5 t
  refine Eq.trans ?_ (glu_at _ _ _ _ _ _ (⟨t.val / 1, by have := lt_N t; omega⟩ : Fin 8) (⟨t.val % 1 * 256 + r.val, by omega⟩ : Fin 256) n ?_ ?_ ?_).symm
  · unfold gluAt
    exact congrArg₂ (fun a b : EReal => a * b) (act_eq m c t r n) (congrArg Ideal.logistic (congrArg₂ (fun a b : EReal => a + b)
      (Finset.sum_congr rfl fun k _ => congrArg₂ (fun a b : EReal => a * b) (act_eq m c t r k) (blk3 m c t k n)) (blk4 m c t n)))
  · refine (Pipeline.Window.rect_emb_val win0_5 t (ix3 u r n) 0).trans ?_; rw [e0]; show _ * 1 + u.val = t.val / 1; omega
  · refine (Pipeline.Window.rect_emb_val win0_5 t (ix3 u r n) 1).trans ?_; rw [e1]; rfl
  · refine (Pipeline.Window.rect_emb_val win0_5 t (ix3 u r n) 2).trans ?_; rw [e2]; show 0 * 1024 + n.val = n.val; omega

/-- The blocks tile the result. -/
theorem cover5 (i : S8x256x1024.Idx) : ∃ t : Fin cfg0.N, (cfg0.win 5).flush t = true ∧ i ∈ ((cfg0.win 5).blk t).view.set := by
  have h0 : (i 0 : Nat) < 8 := (i 0).isLt
  have h1 : (i 1 : Nat) < 256 := (i 1).isLt
  have h2 : (i 2 : Nat) < 1024 := (i 2).isLt
  have ht : (i 0 : Nat) * 1 + (i 1 : Nat) / 256 < cfg0.N := by have hN : cfg0.N = 8 * 1 := N_0; omega
  refine ⟨⟨_, ht⟩, flush0_5 _, ?_⟩
  show i ∈ ((View.whole main_v3).slice (win0_5.rect ⟨_, ht⟩)).set
  rw [View.set_slice_whole, Rect.mem_set_unit]
  obtain ⟨e0, e1, e2⟩ := index5 ⟨_, ht⟩
  intro a
  match a with
  | ⟨0, _⟩ => show win0_5.index ⟨_, ht⟩ 0 * 1 ≤ (i 0 : Nat) ∧ (i 0 : Nat) < win0_5.index ⟨_, ht⟩ 0 * 1 + 1; rw [e0]; dsimp only; omega
  | ⟨1, _⟩ => show win0_5.index ⟨_, ht⟩ 1 * 256 ≤ (i 1 : Nat) ∧ (i 1 : Nat) < win0_5.index ⟨_, ht⟩ 1 * 256 + 256; rw [e1]; dsimp only; omega
  | ⟨2, _⟩ => show win0_5.index ⟨_, ht⟩ 2 * 1024 ≤ (i 2 : Nat) ∧ (i 2 : Nat) < win0_5.index ⟨_, ht⟩ 2 * 1024 + 1024; rw [e2]; omega

theorem final5 (c : Dev nD) : (dats m 0 c).arrAt 5 cfg0.N = gluOf m c :=
  (dats m 0 c).arrAt_eq_of_cover 5 _ (fun t _ => flushed5_eq m c t) cover5

/-- THE KERNEL'S RUN: its result holds the gated linear unit, and its arguments are as launched. -/
theorem run : θ_run defs (onTc (τ := τ) (main (F := Ideal))) ⟨m, fun _ => 0, ρ⟩ fun r => ∀ c : Dev nD,
      r.2.mem ((c : Thread nD τ).loc main_v3) = gluOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final5 m c), (h c).2⟩) (Value.run_blocks m ρ)

end Cert.GluCIdeal.Val

/-! ## The reference -/

namespace Cert.GluCRefIdeal.Val

open Cert.GluCRefIdeal Cert.GluCRefIdeal.Read Cert.GluCIdeal.Val

variable (y : FVec Ideal S8x256x1024 .f32) (p : FVec Ideal S8x256x4608 .f32) (dk : FVec Ideal S1024 .f32) (w : FVec Ideal S2x1024x1024 .f32)
    (gb : FVec Ideal S1024 .f32)

theorem skip_apply (b : Fin 8) (s : Fin 256) (k : Fin 1024) : val_main_v4 (F := Ideal) y p dk (ix3 b s k)
    = y (ix3 b s k) + dk (ix1 k) * p (ix3 b s (⟨1024 + k.val, by omega⟩ : Fin 4608)) := by
  pointwise [val_main_v4, val_main_v3, val_main_v2, val_main_v1, val_main_v0]

theorem act_apply (b : Fin 8) (s : Fin 256) (k : Fin 1024) : val_main_v17 (F := Ideal) y p dk (ix3 b s k) = act y p dk b s k := by
  unfold act gelu
  rw [← skip_apply, mul_comm (val_main_v4 (F := Ideal) y p dk (ix3 b s k) : EReal) (val_main_v4 (F := Ideal) y p dk (ix3 b s k) * val_main_v4 (F := Ideal) y p dk (ix3 b s k) : EReal)]
  pointwise [val_main_v17, val_main_v16, val_main_v15, val_main_v14, val_main_v13, val_main_v12, val_main_v11, val_main_v10, val_main_v9, val_main_v8,
    val_main_v7, val_main_v6, val_main_v5, val_main_cst, val_main_cst_0, val_main_cst_1, val_main_cst_2]

theorem gate_apply (b : Fin 8) (s : Fin 256) (n : Fin 1024) : val_main_v29 (F := Ideal) y p dk w gb (ix3 b s n)
    = Ideal.logistic ((∑ k : Fin 1024, (val_main_v17 (F := Ideal) y p dk (ix3 b s k) : EReal) * w (ix3 (0 : Fin 2) k n)) + gb (ix1 n)) := by
  pointwise [val_main_v29, val_main_v28, val_main_v27, val_main_v26, val_main_v25, val_main_v24, val_main_v23, val_main_v22, val_main_v21, val_main_v20,
    val_main_v19, val_main_v18, val_main_cst_3, val_main_cst_4]
  rfl

/-- THE REFERENCE'S RESULT is the gated linear unit. -/
theorem result : val_main_v31 (F := Ideal) y p dk w gb = glu y p dk w gb := by
  funext j
  obtain ⟨b, s, n, rfl⟩ : ∃ b s n, j = ix3 (n0 := 8) (n1 := 256) (n2 := 1024) b s n := ⟨_, _, _, eq_ix3 j⟩
  refine Eq.trans (b := (val_main_v17 (F := Ideal) y p dk (ix3 b s n) : EReal) * val_main_v29 (F := Ideal) y p dk w gb (ix3 b s n)) rfl ?_
  rw [gate_apply, act_apply]
  show _ = gluAt y p dk w gb b s n
  unfold gluAt
  refine congrArg (fun q : EReal => act y p dk b s n * Ideal.logistic (q + gb (ix1 n))) (Finset.sum_congr rfl fun k _ => ?_)
  rw [act_apply]

end Cert.GluCRefIdeal.Val

end
-- ==== Proof.GluCClaims.lean ====
/-
  THE CONTEXT'S GATED LINEAR UNIT'S CLAIMS (hand-written): its frames, and that kernel and reference agree at the extended reals.
-/
module

public import proofs.«01_k».proof.Defs
public import proofs.«01_k».proof.Proof.Gen.GluC
public import proofs.«01_k».proof.Proof.Gen.GluC.Frame
public import proofs.«01_k».proof.Proof.Gen.GluCIdeal
public import proofs.«01_k».proof.Proof.Gen.GluCIdeal.Frame
public import proofs.«01_k».proof.Proof.Gen.GluCRefIdeal
public import proofs.«01_k».proof.Proof.Gen.GluCRefIdeal.Run
public import proofs.«01_k».proof.Proof.Gen.GluCRefIdeal.Read
public import proofs.«01_k».proof.Proof.GluCValue
public import Idealize.ShloMosaic.Adequacy
public import Idealize.ShloMosaic.Init

@[expose] public section

set_option maxRecDepth 16384

noncomputable section

open Idealize.ShloMosaic Idealize.ShloMosaic.TcCoe Idealize.SL.Sem

namespace Cert.GluC.Claims

/-- The kernel runs and leaves its arguments as launched. -/
theorem kernel : Cert.quiescent_GluC (hGluC := Cert.GluC.Gen.facts) :=
  fun m ρ _ => Cert.GluC.Gen.frame m ρ

/-- So does the kernel at the extended reals. -/
theorem ideal : Cert.quiescent_GluCIdeal (hGluCIdeal := Cert.GluCIdeal.Gen.facts) :=
  fun m ρ _ => Cert.GluCIdeal.Gen.frame m ρ

/-- So does the reference. -/
theorem reference : Cert.quiescent_GluCRefIdeal (hGluCRefIdeal := Cert.GluCRefIdeal.Gen.facts) :=
  fun m ρ _ => (θ_run Cert.GluCRefIdeal.defs _ _).mono (fun r h => ⟨fun c => (h c).2,
    Idealize.ShloMosaic.sem_eq_zero_of_no_sems (by decide) r.2⟩) (Cert.GluCRefIdeal.Value.run (F := Ideal) m ρ)

/-- Idealizing the kernel replaced nothing. -/
theorem preserves : Cert.preserves_GluC_GluCIdeal := trivial

/-- From the same arguments the kernel and its reference leave the same result. -/
theorem value : Cert.algebraic_GluCIdeal_GluCRefIdeal (hGluCIdeal := Cert.GluCIdeal.Gen.facts) (hGluCRefIdeal := Cert.GluCRefIdeal.Gen.facts) := by
  intro m ρ m' ρ' _ hag
  refine ⟨fun c => Cert.GluCIdeal.Val.gluOf m c, ?_, ?_⟩
  · exact Cert.GluCIdeal.Val.run m ρ
  · refine (θ_run Cert.GluCRefIdeal.defs _ _).mono (fun r h c => ?_) (Cert.GluCRefIdeal.Value.run (F := Ideal) m' ρ')
    obtain ⟨a0, a1, a2, a3, a4⟩ := hag c
    refine ⟨(h c).1.trans ((Cert.GluCRefIdeal.Read.val_main_v31_eq m' c).trans ((Cert.GluCRefIdeal.Val.result _ _ _ _ _).trans ?_)), (h c).2⟩
    rw [a0, a1, a2, a3, a4]

end Cert.GluC.Claims

end
-- ==== Proof.lean ====
/-
  THE CERTIFICATE (hand-written): every claim about the printed kernels, put together. Each kernel's claims are proved in its
  own `…Claims` module; this one only pairs them.
-/
module

public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Gen.InProj
public import proofs.«01_k».proof.Proof.Gen.InProjIdeal
public import proofs.«01_k».proof.Proof.Gen.InProjRefIdeal
public import proofs.«01_k».proof.Proof.Gen.Merge
public import proofs.«01_k».proof.Proof.Gen.MergeIdeal
public import proofs.«01_k».proof.Proof.Gen.MergeRefIdeal
public import proofs.«01_k».proof.Proof.Gen.InProjB
public import proofs.«01_k».proof.Proof.Gen.InProjBIdeal
public import proofs.«01_k».proof.Proof.Gen.InProjBRefIdeal
public import proofs.«01_k».proof.Proof.Gen.MergeB
public import proofs.«01_k».proof.Proof.Gen.MergeBIdeal
public import proofs.«01_k».proof.Proof.Gen.MergeBRefIdeal
public import proofs.«01_k».proof.Proof.Gen.OutProj
public import proofs.«01_k».proof.Proof.Gen.OutProjIdeal
public import proofs.«01_k».proof.Proof.Gen.OutProjRefIdeal
public import proofs.«01_k».proof.Proof.Gen.OutProjB
public import proofs.«01_k».proof.Proof.Gen.OutProjBIdeal
public import proofs.«01_k».proof.Proof.Gen.OutProjBRefIdeal
public import proofs.«01_k».proof.Proof.Gen.InProjC
public import proofs.«01_k».proof.Proof.Gen.InProjCIdeal
public import proofs.«01_k».proof.Proof.Gen.InProjCRefIdeal
public import proofs.«01_k».proof.Proof.Gen.MergeC
public import proofs.«01_k».proof.Proof.Gen.MergeCIdeal
public import proofs.«01_k».proof.Proof.Gen.MergeCRefIdeal
public import proofs.«01_k».proof.Proof.Gen.OutProjC
public import proofs.«01_k».proof.Proof.Gen.OutProjCIdeal
public import proofs.«01_k».proof.Proof.Gen.OutProjCRefIdeal
public import proofs.«01_k».proof.Proof.Gen.InProjD
public import proofs.«01_k».proof.Proof.Gen.InProjDIdeal
public import proofs.«01_k».proof.Proof.Gen.InProjDRefIdeal
public import proofs.«01_k».proof.Proof.Gen.Glu
public import proofs.«01_k».proof.Proof.Gen.GluIdeal
public import proofs.«01_k».proof.Proof.Gen.GluRefIdeal
public import proofs.«01_k».proof.Proof.Gen.GluB
public import proofs.«01_k».proof.Proof.Gen.GluBIdeal
public import proofs.«01_k».proof.Proof.Gen.GluBRefIdeal
public import proofs.«01_k».proof.Proof.Gen.GluC
public import proofs.«01_k».proof.Proof.Gen.GluCIdeal
public import proofs.«01_k».proof.Proof.Gen.GluCRefIdeal
public import proofs.«01_k».proof.Proof.Gen.Pre_finite
public import proofs.«01_k».proof.Proof.AttnClaims
public import proofs.«01_k».proof.Proof.InProjClaims
public import proofs.«01_k».proof.Proof.MergeClaims
public import proofs.«01_k».proof.Proof.InProjBClaims
public import proofs.«01_k».proof.Proof.MergeBClaims
public import proofs.«01_k».proof.Proof.OutProjClaims
public import proofs.«01_k».proof.Proof.OutProjBClaims
public import proofs.«01_k».proof.Proof.InProjCClaims
public import proofs.«01_k».proof.Proof.MergeCClaims
public import proofs.«01_k».proof.Proof.OutProjCClaims
public import proofs.«01_k».proof.Proof.InProjDClaims
public import proofs.«01_k».proof.Proof.GluClaims
public import proofs.«01_k».proof.Proof.GluBClaims
public import proofs.«01_k».proof.Proof.GluCClaims

@[expose] public section

noncomputable section

namespace Cert.Proof

/-- Everything `Cert.Claim` lists. -/
theorem claim : Cert.Claim :=
  ⟨Cert.Attn.Gen.facts, Cert.AttnIdeal.Gen.facts, Cert.AttnRefIdeal.Gen.facts, Cert.InProj.Gen.facts, Cert.InProjIdeal.Gen.facts, Cert.InProjRefIdeal.Gen.facts, Cert.Merge.Gen.facts, Cert.MergeIdeal.Gen.facts, Cert.MergeRefIdeal.Gen.facts, Cert.InProjB.Gen.facts, Cert.InProjBIdeal.Gen.facts, Cert.InProjBRefIdeal.Gen.facts, Cert.MergeB.Gen.facts, Cert.MergeBIdeal.Gen.facts, Cert.MergeBRefIdeal.Gen.facts, Cert.OutProj.Gen.facts, Cert.OutProjIdeal.Gen.facts, Cert.OutProjRefIdeal.Gen.facts, Cert.OutProjB.Gen.facts, Cert.OutProjBIdeal.Gen.facts, Cert.OutProjBRefIdeal.Gen.facts, Cert.InProjC.Gen.facts, Cert.InProjCIdeal.Gen.facts, Cert.InProjCRefIdeal.Gen.facts, Cert.MergeC.Gen.facts, Cert.MergeCIdeal.Gen.facts, Cert.MergeCRefIdeal.Gen.facts, Cert.OutProjC.Gen.facts, Cert.OutProjCIdeal.Gen.facts, Cert.OutProjCRefIdeal.Gen.facts, Cert.InProjD.Gen.facts, Cert.InProjDIdeal.Gen.facts, Cert.InProjDRefIdeal.Gen.facts, Cert.Glu.Gen.facts, Cert.GluIdeal.Gen.facts, Cert.GluRefIdeal.Gen.facts, Cert.GluB.Gen.facts, Cert.GluBIdeal.Gen.facts, Cert.GluBRefIdeal.Gen.facts, Cert.GluC.Gen.facts, Cert.GluCIdeal.Gen.facts, Cert.GluCRefIdeal.Gen.facts, Cert.Pre_finite.Gen.facts,
    Cert.Attn.Claims.kernel,
    Cert.Attn.Claims.ideal,
    Cert.Attn.Claims.ideal_pre,
    Cert.Attn.Claims.reference,
    Cert.Attn.Claims.reference_pre,
    Cert.InProj.Claims.kernel,
    Cert.InProj.Claims.ideal,
    Cert.InProj.Claims.reference,
    Cert.Merge.Claims.kernel,
    Cert.Merge.Claims.ideal,
    Cert.Merge.Claims.reference,
    Cert.InProjB.Claims.kernel,
    Cert.InProjB.Claims.ideal,
    Cert.InProjB.Claims.reference,
    Cert.MergeB.Claims.kernel,
    Cert.MergeB.Claims.ideal,
    Cert.MergeB.Claims.reference,
    Cert.OutProj.Claims.kernel,
    Cert.OutProj.Claims.ideal,
    Cert.OutProj.Claims.reference,
    Cert.OutProjB.Claims.kernel,
    Cert.OutProjB.Claims.ideal,
    Cert.OutProjB.Claims.reference,
    Cert.InProjC.Claims.kernel,
    Cert.InProjC.Claims.ideal,
    Cert.InProjC.Claims.reference,
    Cert.MergeC.Claims.kernel,
    Cert.MergeC.Claims.ideal,
    Cert.MergeC.Claims.reference,
    Cert.OutProjC.Claims.kernel,
    Cert.OutProjC.Claims.ideal,
    Cert.OutProjC.Claims.reference,
    Cert.InProjD.Claims.kernel,
    Cert.InProjD.Claims.ideal,
    Cert.InProjD.Claims.reference,
    Cert.Glu.Claims.kernel,
    Cert.Glu.Claims.ideal,
    Cert.Glu.Claims.reference,
    Cert.GluB.Claims.kernel,
    Cert.GluB.Claims.ideal,
    Cert.GluB.Claims.reference,
    Cert.GluC.Claims.kernel,
    Cert.GluC.Claims.ideal,
    Cert.GluC.Claims.reference,
    Cert.Attn.Claims.preserves,
    Cert.Attn.Claims.value,
    Cert.InProj.Claims.preserves,
    Cert.InProj.Claims.value,
    Cert.Merge.Claims.preserves,
    Cert.Merge.Claims.value,
    Cert.InProjB.Claims.preserves,
    Cert.InProjB.Claims.value,
    Cert.MergeB.Claims.preserves,
    Cert.MergeB.Claims.value,
    Cert.OutProj.Claims.preserves,
    Cert.OutProj.Claims.value,
    Cert.OutProjB.Claims.preserves,
    Cert.OutProjB.Claims.value,
    Cert.InProjC.Claims.preserves,
    Cert.InProjC.Claims.value,
    Cert.MergeC.Claims.preserves,
    Cert.MergeC.Claims.value,
    Cert.OutProjC.Claims.preserves,
    Cert.OutProjC.Claims.value,
    Cert.InProjD.Claims.preserves,
    Cert.InProjD.Claims.value,
    Cert.Glu.Claims.preserves,
    Cert.Glu.Claims.value,
    Cert.GluB.Claims.preserves,
    Cert.GluB.Claims.value,
    Cert.GluC.Claims.preserves,
    Cert.GluC.Claims.value⟩

end Cert.Proof

end
